-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerARefIdeal (m : (ℓ : Loc Cert.MixerARefIdeal.nD Cert.MixerARefIdeal.τ Cert.MixerARefIdeal.sig) → Buf (Elt Ideal) ℓ) : Prop :=
  True

def Pre_MixerB (m : (ℓ : Loc Cert.MixerB.nD Cert.MixerB.τ Cert.MixerB.sig) → Buf (Elt Bits) ℓ) : Prop :=
  True

def Pre_MixerBIdeal (m : (ℓ : Loc Cert.MixerBIdeal.nD Cert.MixerBIdeal.τ Cert.MixerBIdeal.sig) → Buf (Elt Ideal) ℓ) : Prop :=
  True

def Pre_MixerBRefIdeal (m : (ℓ : Loc Cert.MixerBRefIdeal.nD Cert.MixerBRefIdeal.τ Cert.MixerBRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamSg (m : (ℓ : Loc Cert.AdamSg.nD Cert.AdamSg.τ Cert.AdamSg.sig) → Buf (Elt Bits) ℓ) : Prop :=
  True

def Pre_AdamSgIdeal (m : (ℓ : Loc Cert.AdamSgIdeal.nD Cert.AdamSgIdeal.τ Cert.AdamSgIdeal.sig) → Buf (Elt Ideal) ℓ) : Prop :=
  True

def Pre_AdamSgRefIdeal (m : (ℓ : Loc Cert.AdamSgRefIdeal.nD Cert.AdamSgRefIdeal.τ Cert.AdamSgRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruRefIdeal (m : (ℓ : Loc Cert.AdamLruRefIdeal.nD Cert.AdamLruRefIdeal.τ Cert.AdamLruRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_SmallModel (m : (ℓ : Loc Cert.SmallModel.nD Cert.SmallModel.τ Cert.SmallModel.sig) → Buf (Elt Bits) ℓ) : Prop :=
  True

def Pre_SmallModelIdeal (m : (ℓ : Loc Cert.SmallModelIdeal.nD Cert.SmallModelIdeal.τ Cert.SmallModelIdeal.sig) → Buf (Elt Ideal) ℓ) : Prop :=
  True

def Pre_SmallModelRefIdeal (m : (ℓ : Loc Cert.SmallModelRefIdeal.nD Cert.SmallModelRefIdeal.τ Cert.SmallModelRefIdeal.sig) → Buf (Elt Ideal) ℓ) : Prop :=
  True

def Pre_SmallHalf (m : (ℓ : Loc Cert.SmallHalf.nD Cert.SmallHalf.τ Cert.SmallHalf.sig) → Buf (Elt Bits) ℓ) : Prop :=
  True

def Pre_SmallHalfIdeal (m : (ℓ : Loc Cert.SmallHalfIdeal.nD Cert.SmallHalfIdeal.τ Cert.SmallHalfIdeal.sig) → Buf (Elt Ideal) ℓ) : Prop :=
  True

def Pre_SmallHalfRefIdeal (m : (ℓ : Loc Cert.SmallHalfRefIdeal.nD Cert.SmallHalfRefIdeal.τ Cert.SmallHalfRefIdeal.sig) → Buf (Elt Ideal) ℓ) : Prop :=
  True

def Pre_SmallFfn (m : (ℓ : Loc Cert.SmallFfn.nD Cert.SmallFfn.τ Cert.SmallFfn.sig) → Buf (Elt Bits) ℓ) : Prop :=
  True

def Pre_SmallFfnIdeal (m : (ℓ : Loc Cert.SmallFfnIdeal.nD Cert.SmallFfnIdeal.τ Cert.SmallFfnIdeal.sig) → Buf (Elt Ideal) ℓ) : Prop :=
  True

def Pre_SmallFfnRefIdeal (m : (ℓ : Loc Cert.SmallFfnRefIdeal.nD Cert.SmallFfnRefIdeal.τ Cert.SmallFfnRefIdeal.sig) → Buf (Elt Ideal) ℓ) : Prop :=
  True

def Pre_SmallMix (m : (ℓ : Loc Cert.SmallMix.nD Cert.SmallMix.τ Cert.SmallMix.sig) → Buf (Elt Bits) ℓ) : Prop :=
  True

def Pre_SmallMixIdeal (m : (ℓ : Loc Cert.SmallMixIdeal.nD Cert.SmallMixIdeal.τ Cert.SmallMixIdeal.sig) → Buf (Elt Ideal) ℓ) : Prop :=
  True

def Pre_SmallMixRefIdeal (m : (ℓ : Loc Cert.SmallMixRefIdeal.nD Cert.SmallMixRefIdeal.τ Cert.SmallMixRefIdeal.sig) → Buf (Elt Ideal) ℓ) : Prop :=
  True

def Pre_SmallBias (m : (ℓ : Loc Cert.SmallBias.nD Cert.SmallBias.τ Cert.SmallBias.sig) → Buf (Elt Bits) ℓ) : Prop :=
  True

def Pre_SmallBiasIdeal (m : (ℓ : Loc Cert.SmallBiasIdeal.nD Cert.SmallBiasIdeal.τ Cert.SmallBiasIdeal.sig) → Buf (Elt Ideal) ℓ) : Prop :=
  True

def Pre_SmallBiasRefIdeal (m : (ℓ : Loc Cert.SmallBiasRefIdeal.nD Cert.SmallBiasRefIdeal.τ Cert.SmallBiasRefIdeal.sig) → Buf (Elt Ideal) ℓ) : Prop :=
  True

def Pre_SmallTaps (m : (ℓ : Loc Cert.SmallTaps.nD Cert.SmallTaps.τ Cert.SmallTaps.sig) → Buf (Elt Bits) ℓ) : Prop :=
  True

def Pre_SmallTapsIdeal (m : (ℓ : Loc Cert.SmallTapsIdeal.nD Cert.SmallTapsIdeal.τ Cert.SmallTapsIdeal.sig) → Buf (Elt Ideal) ℓ) : Prop :=
  True

def Pre_SmallTapsRefIdeal (m : (ℓ : Loc Cert.SmallTapsRefIdeal.nD Cert.SmallTapsRefIdeal.τ Cert.SmallTapsRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1)
      ∧ r.2.mem ((c.tc : Thread Cert.SwapRef.nD Cert.SwapRef.τ).loc Cert.SwapRef.main_arg2) = m ((c.tc : Thread Cert.SwapRef.nD Cert.SwapRef.τ).loc Cert.SwapRef.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1)
      ∧ r.2.mem ((c.tc : Thread Cert.GradUp.nD Cert.GradUp.τ).loc Cert.GradUp.main_arg2) = m ((c.tc : Thread Cert.GradUp.nD Cert.GradUp.τ).loc Cert.GradUp.main_arg2))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
      ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1)
      ∧ r.2.mem ((c.tc : Thread Cert.GradUpRefIdeal.nD Cert.GradUpRefIdeal.τ).loc Cert.GradUpRefIdeal.main_arg2) = m ((c.tc : Thread Cert.GradUpRefIdeal.nD Cert.GradUpRefIdeal.τ).loc Cert.GradUpRefIdeal.main_arg2))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1)
      ∧ r.2.mem ((c.tc : Thread Cert.GradIn.nD Cert.GradIn.τ).loc Cert.GradIn.main_arg2) = m ((c.tc : Thread Cert.GradIn.nD Cert.GradIn.τ).loc Cert.GradIn.main_arg2)
      ∧ r.2.mem ((c.tc : Thread Cert.GradIn.nD Cert.GradIn.τ).loc Cert.GradIn.main_arg3) = m ((c.tc : Thread Cert.GradIn.nD Cert.GradIn.τ).loc Cert.GradIn.main_arg3)
      ∧ r.2.mem ((c.tc : Thread Cert.GradIn.nD Cert.GradIn.τ).loc Cert.GradIn.main_arg4) = m ((c.tc : Thread Cert.GradIn.nD Cert.GradIn.τ).loc Cert.GradIn.main_arg4))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
      ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
      ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
      ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1)
      ∧ r.2.mem ((c.tc : Thread Cert.GradInRefIdeal.nD Cert.GradInRefIdeal.τ).loc Cert.GradInRefIdeal.main_arg2) = m ((c.tc : Thread Cert.GradInRefIdeal.nD Cert.GradInRefIdeal.τ).loc Cert.GradInRefIdeal.main_arg2)
      ∧ r.2.mem ((c.tc : Thread Cert.GradInRefIdeal.nD Cert.GradInRefIdeal.τ).loc Cert.GradInRefIdeal.main_arg3) = m ((c.tc : Thread Cert.GradInRefIdeal.nD Cert.GradInRefIdeal.τ).loc Cert.GradInRefIdeal.main_arg3)
      ∧ r.2.mem ((c.tc : Thread Cert.GradInRefIdeal.nD Cert.GradInRefIdeal.τ).loc Cert.GradInRefIdeal.main_arg4) = m ((c.tc : Thread Cert.GradInRefIdeal.nD Cert.GradInRefIdeal.τ).loc Cert.GradInRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1)
      ∧ r.2.mem ((c.tc : Thread Cert.MergedRefIdeal.nD Cert.MergedRefIdeal.τ).loc Cert.MergedRefIdeal.main_arg2) = m ((c.tc : Thread Cert.MergedRefIdeal.nD Cert.MergedRefIdeal.τ).loc Cert.MergedRefIdeal.main_arg2))
      ∧ r.2.sem = fun _ => 0)

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1)
      ∧ r.2.mem ((c.tc : Thread Cert.MixerA.nD Cert.MixerA.τ).loc Cert.MixerA.main_arg2) = m ((c.tc : Thread Cert.MixerA.nD Cert.MixerA.τ).loc Cert.MixerA.main_arg2)
      ∧ r.2.mem ((c.tc : Thread Cert.MixerA.nD Cert.MixerA.τ).loc Cert.MixerA.main_arg3) = m ((c.tc : Thread Cert.MixerA.nD Cert.MixerA.τ).loc Cert.MixerA.main_arg3))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
      ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3))
      ∧ r.2.sem = fun _ => 0)

def quiescent_MixerARefIdeal [hMixerARefIdeal : Cert.MixerARefIdeal.Facts] : Prop :=
  ∀ (m : (ℓ : Loc Cert.MixerARefIdeal.nD Cert.MixerARefIdeal.τ Cert.MixerARefIdeal.sig) → Buf (Elt Ideal) ℓ) (g : Dev Cert.MixerARefIdeal.nD → PrngReg), Pre_MixerARefIdeal m →
    θ_run (Cert.MixerARefIdeal.defs (F := Ideal)) (onTc (τ := Cert.MixerARefIdeal.τ) (Cert.MixerARefIdeal.main (F := Ideal))) ⟨m, fun _ => 0, g⟩ (fun r => (∀ c : Dev Cert.MixerARefIdeal.nD,
      r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
      ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
      ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
      ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3))
      ∧ r.2.sem = fun _ => 0)

def quiescent_MixerB [hMixerB : Cert.MixerB.Facts] : Prop :=
  ∀ (m : (ℓ : Loc Cert.MixerB.nD Cert.MixerB.τ Cert.MixerB.sig) → Buf (Elt Bits) ℓ) (g : Dev Cert.MixerB.nD → PrngReg), Pre_MixerB m →
    θ_run (Cert.MixerB.defs (F := Bits)) (onTc (τ := Cert.MixerB.τ) (Cert.MixerB.main (F := Bits))) ⟨m, fun _ => 0, g⟩ (fun r => (∀ c : Dev Cert.MixerB.nD,
      r.2.mem ((c.tc : Thread Cert.MixerB.nD Cert.MixerB.τ).loc Cert.MixerB.main_arg0) = m ((c.tc : Thread Cert.MixerB.nD Cert.MixerB.τ).loc Cert.MixerB.main_arg0)
      ∧ r.2.mem ((c.tc : Thread Cert.MixerB.nD Cert.MixerB.τ).loc Cert.MixerB.main_arg1) = m ((c.tc : Thread Cert.MixerB.nD Cert.MixerB.τ).loc Cert.MixerB.main_arg1)
      ∧ r.2.mem ((c.tc : Thread Cert.MixerB.nD Cert.MixerB.τ).loc Cert.MixerB.main_arg2) = m ((c.tc : Thread Cert.MixerB.nD Cert.MixerB.τ).loc Cert.MixerB.main_arg2))
      ∧ r.2.sem = fun _ => 0)

def quiescent_MixerBIdeal [hMixerBIdeal : Cert.MixerBIdeal.Facts] : Prop :=
  ∀ (m : (ℓ : Loc Cert.MixerBIdeal.nD Cert.MixerBIdeal.τ Cert.MixerBIdeal.sig) → Buf (Elt Ideal) ℓ) (g : Dev Cert.MixerBIdeal.nD → PrngReg), Pre_MixerBIdeal m →
    θ_run (Cert.MixerBIdeal.defs (F := Ideal)) (onTc (τ := Cert.MixerBIdeal.τ) (Cert.MixerBIdeal.main (F := Ideal))) ⟨m, fun _ => 0, g⟩ (fun r => (∀ c : Dev Cert.MixerBIdeal.nD,
      r.2.mem ((c.tc : Thread Cert.MixerBIdeal.nD Cert.MixerBIdeal.τ).loc Cert.MixerBIdeal.main_arg0) = m ((c.tc : Thread Cert.MixerBIdeal.nD Cert.MixerBIdeal.τ).loc Cert.MixerBIdeal.main_arg0)
      ∧ r.2.mem ((c.tc : Thread Cert.MixerBIdeal.nD Cert.MixerBIdeal.τ).loc Cert.MixerBIdeal.main_arg1) = m ((c.tc : Thread Cert.MixerBIdeal.nD Cert.MixerBIdeal.τ).loc Cert.MixerBIdeal.main_arg1)
      ∧ r.2.mem ((c.tc : Thread Cert.MixerBIdeal.nD Cert.MixerBIdeal.τ).loc Cert.MixerBIdeal.main_arg2) = m ((c.tc : Thread Cert.MixerBIdeal.nD Cert.MixerBIdeal.τ).loc Cert.MixerBIdeal.main_arg2))
      ∧ r.2.sem = fun _ => 0)

def quiescent_MixerBRefIdeal [hMixerBRefIdeal : Cert.MixerBRefIdeal.Facts] : Prop :=
  ∀ (m : (ℓ : Loc Cert.MixerBRefIdeal.nD Cert.MixerBRefIdeal.τ Cert.MixerBRefIdeal.sig) → Buf (Elt Ideal) ℓ) (g : Dev Cert.MixerBRefIdeal.nD → PrngReg), Pre_MixerBRefIdeal m →
    θ_run (Cert.MixerBRefIdeal.defs (F := Ideal)) (onTc (τ := Cert.MixerBRefIdeal.τ) (Cert.MixerBRefIdeal.main (F := Ideal))) ⟨m, fun _ => 0, g⟩ (fun r => (∀ c : Dev Cert.MixerBRefIdeal.nD,
      r.2.mem ((c.tc : Thread Cert.MixerBRefIdeal.nD Cert.MixerBRefIdeal.τ).loc Cert.MixerBRefIdeal.main_arg0) = m ((c.tc : Thread Cert.MixerBRefIdeal.nD Cert.MixerBRefIdeal.τ).loc Cert.MixerBRefIdeal.main_arg0)
      ∧ r.2.mem ((c.tc : Thread Cert.MixerBRefIdeal.nD Cert.MixerBRefIdeal.τ).loc Cert.MixerBRefIdeal.main_arg1) = m ((c.tc : Thread Cert.MixerBRefIdeal.nD Cert.MixerBRefIdeal.τ).loc Cert.MixerBRefIdeal.main_arg1)
      ∧ r.2.mem ((c.tc : Thread Cert.MixerBRefIdeal.nD Cert.MixerBRefIdeal.τ).loc Cert.MixerBRefIdeal.main_arg2) = m ((c.tc : Thread Cert.MixerBRefIdeal.nD Cert.MixerBRefIdeal.τ).loc Cert.MixerBRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamSg [hAdamSg : Cert.AdamSg.Facts] : Prop :=
  ∀ (m : (ℓ : Loc Cert.AdamSg.nD Cert.AdamSg.τ Cert.AdamSg.sig) → Buf (Elt Bits) ℓ) (g : Dev Cert.AdamSg.nD → PrngReg), Pre_AdamSg m →
    θ_run (Cert.AdamSg.defs (F := Bits)) (onTc (τ := Cert.AdamSg.τ) (Cert.AdamSg.main (F := Bits))) ⟨m, fun _ => 0, g⟩ (fun r => (∀ c : Dev Cert.AdamSg.nD,
      r.2.mem ((c.tc : Thread Cert.AdamSg.nD Cert.AdamSg.τ).loc Cert.AdamSg.main_arg0) = m ((c.tc : Thread Cert.AdamSg.nD Cert.AdamSg.τ).loc Cert.AdamSg.main_arg0)
      ∧ r.2.mem ((c.tc : Thread Cert.AdamSg.nD Cert.AdamSg.τ).loc Cert.AdamSg.main_arg1) = m ((c.tc : Thread Cert.AdamSg.nD Cert.AdamSg.τ).loc Cert.AdamSg.main_arg1)
      ∧ r.2.mem ((c.tc : Thread Cert.AdamSg.nD Cert.AdamSg.τ).loc Cert.AdamSg.main_arg2) = m ((c.tc : Thread Cert.AdamSg.nD Cert.AdamSg.τ).loc Cert.AdamSg.main_arg2)
      ∧ r.2.mem ((c.tc : Thread Cert.AdamSg.nD Cert.AdamSg.τ).loc Cert.AdamSg.main_arg3) = m ((c.tc : Thread Cert.AdamSg.nD Cert.AdamSg.τ).loc Cert.AdamSg.main_arg3))
      ∧ r.2.sem = fun _ => 0)

def quiescent_AdamSgIdeal [hAdamSgIdeal : Cert.AdamSgIdeal.Facts] : Prop :=
  ∀ (m : (ℓ : Loc Cert.AdamSgIdeal.nD Cert.AdamSgIdeal.τ Cert.AdamSgIdeal.sig) → Buf (Elt Ideal) ℓ) (g : Dev Cert.AdamSgIdeal.nD → PrngReg), Pre_AdamSgIdeal m →
    θ_run (Cert.AdamSgIdeal.defs (F := Ideal)) (onTc (τ := Cert.AdamSgIdeal.τ) (Cert.AdamSgIdeal.main (F := Ideal))) ⟨m, fun _ => 0, g⟩ (fun r => (∀ c : Dev Cert.AdamSgIdeal.nD,
      r.2.mem ((c.tc : Thread Cert.AdamSgIdeal.nD Cert.AdamSgIdeal.τ).loc Cert.AdamSgIdeal.main_arg0) = m ((c.tc : Thread Cert.AdamSgIdeal.nD Cert.AdamSgIdeal.τ).loc Cert.AdamSgIdeal.main_arg0)
      ∧ r.2.mem ((c.tc : Thread Cert.AdamSgIdeal.nD Cert.AdamSgIdeal.τ).loc Cert.AdamSgIdeal.main_arg1) = m ((c.tc : Thread Cert.AdamSgIdeal.nD Cert.AdamSgIdeal.τ).loc Cert.AdamSgIdeal.main_arg1)
      ∧ r.2.mem ((c.tc : Thread Cert.AdamSgIdeal.nD Cert.AdamSgIdeal.τ).loc Cert.AdamSgIdeal.main_arg2) = m ((c.tc : Thread Cert.AdamSgIdeal.nD Cert.AdamSgIdeal.τ).loc Cert.AdamSgIdeal.main_arg2)
      ∧ r.2.mem ((c.tc : Thread Cert.AdamSgIdeal.nD Cert.AdamSgIdeal.τ).loc Cert.AdamSgIdeal.main_arg3) = m ((c.tc : Thread Cert.AdamSgIdeal.nD Cert.AdamSgIdeal.τ).loc Cert.AdamSgIdeal.main_arg3))
      ∧ r.2.sem = fun _ => 0)

def quiescent_AdamSgRefIdeal [hAdamSgRefIdeal : Cert.AdamSgRefIdeal.Facts] : Prop :=
  ∀ (m : (ℓ : Loc Cert.AdamSgRefIdeal.nD Cert.AdamSgRefIdeal.τ Cert.AdamSgRefIdeal.sig) → Buf (Elt Ideal) ℓ) (g : Dev Cert.AdamSgRefIdeal.nD → PrngReg), Pre_AdamSgRefIdeal m →
    θ_run (Cert.AdamSgRefIdeal.defs (F := Ideal)) (onTc (τ := Cert.AdamSgRefIdeal.τ) (Cert.AdamSgRefIdeal.main (F := Ideal))) ⟨m, fun _ => 0, g⟩ (fun r => (∀ c : Dev Cert.AdamSgRefIdeal.nD,
      r.2.mem ((c.tc : Thread Cert.AdamSgRefIdeal.nD Cert.AdamSgRefIdeal.τ).loc Cert.AdamSgRefIdeal.main_arg0) = m ((c.tc : Thread Cert.AdamSgRefIdeal.nD Cert.AdamSgRefIdeal.τ).loc Cert.AdamSgRefIdeal.main_arg0)
      ∧ r.2.mem ((c.tc : Thread Cert.AdamSgRefIdeal.nD Cert.AdamSgRefIdeal.τ).loc Cert.AdamSgRefIdeal.main_arg1) = m ((c.tc : Thread Cert.AdamSgRefIdeal.nD Cert.AdamSgRefIdeal.τ).loc Cert.AdamSgRefIdeal.main_arg1)
      ∧ r.2.mem ((c.tc : Thread Cert.AdamSgRefIdeal.nD Cert.AdamSgRefIdeal.τ).loc Cert.AdamSgRefIdeal.main_arg2) = m ((c.tc : Thread Cert.AdamSgRefIdeal.nD Cert.AdamSgRefIdeal.τ).loc Cert.AdamSgRefIdeal.main_arg2)
      ∧ r.2.mem ((c.tc : Thread Cert.AdamSgRefIdeal.nD Cert.AdamSgRefIdeal.τ).loc Cert.AdamSgRefIdeal.main_arg3) = m ((c.tc : Thread Cert.AdamSgRefIdeal.nD Cert.AdamSgRefIdeal.τ).loc Cert.AdamSgRefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruRefIdeal [hAdamLruRefIdeal : Cert.AdamLruRefIdeal.Facts] : Prop :=
  ∀ (m : (ℓ : Loc Cert.AdamLruRefIdeal.nD Cert.AdamLruRefIdeal.τ Cert.AdamLruRefIdeal.sig) → Buf (Elt Ideal) ℓ) (g : Dev Cert.AdamLruRefIdeal.nD → PrngReg), Pre_AdamLruRefIdeal m →
    θ_run (Cert.AdamLruRefIdeal.defs (F := Ideal)) (onTc (τ := Cert.AdamLruRefIdeal.τ) (Cert.AdamLruRefIdeal.main (F := Ideal))) ⟨m, fun _ => 0, g⟩ (fun r => (∀ c : Dev Cert.AdamLruRefIdeal.nD,
      r.2.mem ((c.tc : Thread Cert.AdamLruRefIdeal.nD Cert.AdamLruRefIdeal.τ).loc Cert.AdamLruRefIdeal.main_arg0) = m ((c.tc : Thread Cert.AdamLruRefIdeal.nD Cert.AdamLruRefIdeal.τ).loc Cert.AdamLruRefIdeal.main_arg0)
      ∧ r.2.mem ((c.tc : Thread Cert.AdamLruRefIdeal.nD Cert.AdamLruRefIdeal.τ).loc Cert.AdamLruRefIdeal.main_arg1) = m ((c.tc : Thread Cert.AdamLruRefIdeal.nD Cert.AdamLruRefIdeal.τ).loc Cert.AdamLruRefIdeal.main_arg1)
      ∧ r.2.mem ((c.tc : Thread Cert.AdamLruRefIdeal.nD Cert.AdamLruRefIdeal.τ).loc Cert.AdamLruRefIdeal.main_arg2) = m ((c.tc : Thread Cert.AdamLruRefIdeal.nD Cert.AdamLruRefIdeal.τ).loc Cert.AdamLruRefIdeal.main_arg2)
      ∧ r.2.mem ((c.tc : Thread Cert.AdamLruRefIdeal.nD Cert.AdamLruRefIdeal.τ).loc Cert.AdamLruRefIdeal.main_arg3) = m ((c.tc : Thread Cert.AdamLruRefIdeal.nD Cert.AdamLruRefIdeal.τ).loc Cert.AdamLruRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_SmallModel [hSmallModel : Cert.SmallModel.Facts] : Prop :=
  ∀ (m : (ℓ : Loc Cert.SmallModel.nD Cert.SmallModel.τ Cert.SmallModel.sig) → Buf (Elt Bits) ℓ) (g : Dev Cert.SmallModel.nD → PrngReg), Pre_SmallModel m →
    θ_run (Cert.SmallModel.defs (F := Bits)) (onTc (τ := Cert.SmallModel.τ) (Cert.SmallModel.main (F := Bits))) ⟨m, fun _ => 0, g⟩ (fun r => (∀ c : Dev Cert.SmallModel.nD,
      r.2.mem ((c.tc : Thread Cert.SmallModel.nD Cert.SmallModel.τ).loc Cert.SmallModel.main_arg0) = m ((c.tc : Thread Cert.SmallModel.nD Cert.SmallModel.τ).loc Cert.SmallModel.main_arg0)
      ∧ r.2.mem ((c.tc : Thread Cert.SmallModel.nD Cert.SmallModel.τ).loc Cert.SmallModel.main_arg1) = m ((c.tc : Thread Cert.SmallModel.nD Cert.SmallModel.τ).loc Cert.SmallModel.main_arg1)
      ∧ r.2.mem ((c.tc : Thread Cert.SmallModel.nD Cert.SmallModel.τ).loc Cert.SmallModel.main_arg2) = m ((c.tc : Thread Cert.SmallModel.nD Cert.SmallModel.τ).loc Cert.SmallModel.main_arg2)
      ∧ r.2.mem ((c.tc : Thread Cert.SmallModel.nD Cert.SmallModel.τ).loc Cert.SmallModel.main_arg3) = m ((c.tc : Thread Cert.SmallModel.nD Cert.SmallModel.τ).loc Cert.SmallModel.main_arg3))
      ∧ r.2.sem = fun _ => 0)

def quiescent_SmallModelIdeal [hSmallModelIdeal : Cert.SmallModelIdeal.Facts] : Prop :=
  ∀ (m : (ℓ : Loc Cert.SmallModelIdeal.nD Cert.SmallModelIdeal.τ Cert.SmallModelIdeal.sig) → Buf (Elt Ideal) ℓ) (g : Dev Cert.SmallModelIdeal.nD → PrngReg), Pre_SmallModelIdeal m →
    θ_run (Cert.SmallModelIdeal.defs (F := Ideal)) (onTc (τ := Cert.SmallModelIdeal.τ) (Cert.SmallModelIdeal.main (F := Ideal))) ⟨m, fun _ => 0, g⟩ (fun r => (∀ c : Dev Cert.SmallModelIdeal.nD,
      r.2.mem ((c.tc : Thread Cert.SmallModelIdeal.nD Cert.SmallModelIdeal.τ).loc Cert.SmallModelIdeal.main_arg0) = m ((c.tc : Thread Cert.SmallModelIdeal.nD Cert.SmallModelIdeal.τ).loc Cert.SmallModelIdeal.main_arg0)
      ∧ r.2.mem ((c.tc : Thread Cert.SmallModelIdeal.nD Cert.SmallModelIdeal.τ).loc Cert.SmallModelIdeal.main_arg1) = m ((c.tc : Thread Cert.SmallModelIdeal.nD Cert.SmallModelIdeal.τ).loc Cert.SmallModelIdeal.main_arg1)
      ∧ r.2.mem ((c.tc : Thread Cert.SmallModelIdeal.nD Cert.SmallModelIdeal.τ).loc Cert.SmallModelIdeal.main_arg2) = m ((c.tc : Thread Cert.SmallModelIdeal.nD Cert.SmallModelIdeal.τ).loc Cert.SmallModelIdeal.main_arg2)
      ∧ r.2.mem ((c.tc : Thread Cert.SmallModelIdeal.nD Cert.SmallModelIdeal.τ).loc Cert.SmallModelIdeal.main_arg3) = m ((c.tc : Thread Cert.SmallModelIdeal.nD Cert.SmallModelIdeal.τ).loc Cert.SmallModelIdeal.main_arg3))
      ∧ r.2.sem = fun _ => 0)

def quiescent_SmallModelRefIdeal [hSmallModelRefIdeal : Cert.SmallModelRefIdeal.Facts] : Prop :=
  ∀ (m : (ℓ : Loc Cert.SmallModelRefIdeal.nD Cert.SmallModelRefIdeal.τ Cert.SmallModelRefIdeal.sig) → Buf (Elt Ideal) ℓ) (g : Dev Cert.SmallModelRefIdeal.nD → PrngReg), Pre_SmallModelRefIdeal m →
    θ_run (Cert.SmallModelRefIdeal.defs (F := Ideal)) (onTc (τ := Cert.SmallModelRefIdeal.τ) (Cert.SmallModelRefIdeal.main (F := Ideal))) ⟨m, fun _ => 0, g⟩ (fun r => (∀ c : Dev Cert.SmallModelRefIdeal.nD,
      r.2.mem ((c.tc : Thread Cert.SmallModelRefIdeal.nD Cert.SmallModelRefIdeal.τ).loc Cert.SmallModelRefIdeal.main_arg0) = m ((c.tc : Thread Cert.SmallModelRefIdeal.nD Cert.SmallModelRefIdeal.τ).loc Cert.SmallModelRefIdeal.main_arg0)
      ∧ r.2.mem ((c.tc : Thread Cert.SmallModelRefIdeal.nD Cert.SmallModelRefIdeal.τ).loc Cert.SmallModelRefIdeal.main_arg1) = m ((c.tc : Thread Cert.SmallModelRefIdeal.nD Cert.SmallModelRefIdeal.τ).loc Cert.SmallModelRefIdeal.main_arg1)
      ∧ r.2.mem ((c.tc : Thread Cert.SmallModelRefIdeal.nD Cert.SmallModelRefIdeal.τ).loc Cert.SmallModelRefIdeal.main_arg2) = m ((c.tc : Thread Cert.SmallModelRefIdeal.nD Cert.SmallModelRefIdeal.τ).loc Cert.SmallModelRefIdeal.main_arg2)
      ∧ r.2.mem ((c.tc : Thread Cert.SmallModelRefIdeal.nD Cert.SmallModelRefIdeal.τ).loc Cert.SmallModelRefIdeal.main_arg3) = m ((c.tc : Thread Cert.SmallModelRefIdeal.nD Cert.SmallModelRefIdeal.τ).loc Cert.SmallModelRefIdeal.main_arg3))
      ∧ r.2.sem = fun _ => 0)

def quiescent_SmallHalf [hSmallHalf : Cert.SmallHalf.Facts] : Prop :=
  ∀ (m : (ℓ : Loc Cert.SmallHalf.nD Cert.SmallHalf.τ Cert.SmallHalf.sig) → Buf (Elt Bits) ℓ) (g : Dev Cert.SmallHalf.nD → PrngReg), Pre_SmallHalf m →
    θ_run (Cert.SmallHalf.defs (F := Bits)) (onTc (τ := Cert.SmallHalf.τ) (Cert.SmallHalf.main (F := Bits))) ⟨m, fun _ => 0, g⟩ (fun r => (∀ c : Dev Cert.SmallHalf.nD,
      r.2.mem ((c.tc : Thread Cert.SmallHalf.nD Cert.SmallHalf.τ).loc Cert.SmallHalf.main_arg0) = m ((c.tc : Thread Cert.SmallHalf.nD Cert.SmallHalf.τ).loc Cert.SmallHalf.main_arg0)
      ∧ r.2.mem ((c.tc : Thread Cert.SmallHalf.nD Cert.SmallHalf.τ).loc Cert.SmallHalf.main_arg1) = m ((c.tc : Thread Cert.SmallHalf.nD Cert.SmallHalf.τ).loc Cert.SmallHalf.main_arg1)
      ∧ r.2.mem ((c.tc : Thread Cert.SmallHalf.nD Cert.SmallHalf.τ).loc Cert.SmallHalf.main_arg2) = m ((c.tc : Thread Cert.SmallHalf.nD Cert.SmallHalf.τ).loc Cert.SmallHalf.main_arg2)
      ∧ r.2.mem ((c.tc : Thread Cert.SmallHalf.nD Cert.SmallHalf.τ).loc Cert.SmallHalf.main_arg3) = m ((c.tc : Thread Cert.SmallHalf.nD Cert.SmallHalf.τ).loc Cert.SmallHalf.main_arg3))
      ∧ r.2.sem = fun _ => 0)

def quiescent_SmallHalfIdeal [hSmallHalfIdeal : Cert.SmallHalfIdeal.Facts] : Prop :=
  ∀ (m : (ℓ : Loc Cert.SmallHalfIdeal.nD Cert.SmallHalfIdeal.τ Cert.SmallHalfIdeal.sig) → Buf (Elt Ideal) ℓ) (g : Dev Cert.SmallHalfIdeal.nD → PrngReg), Pre_SmallHalfIdeal m →
    θ_run (Cert.SmallHalfIdeal.defs (F := Ideal)) (onTc (τ := Cert.SmallHalfIdeal.τ) (Cert.SmallHalfIdeal.main (F := Ideal))) ⟨m, fun _ => 0, g⟩ (fun r => (∀ c : Dev Cert.SmallHalfIdeal.nD,
      r.2.mem ((c.tc : Thread Cert.SmallHalfIdeal.nD Cert.SmallHalfIdeal.τ).loc Cert.SmallHalfIdeal.main_arg0) = m ((c.tc : Thread Cert.SmallHalfIdeal.nD Cert.SmallHalfIdeal.τ).loc Cert.SmallHalfIdeal.main_arg0)
      ∧ r.2.mem ((c.tc : Thread Cert.SmallHalfIdeal.nD Cert.SmallHalfIdeal.τ).loc Cert.SmallHalfIdeal.main_arg1) = m ((c.tc : Thread Cert.SmallHalfIdeal.nD Cert.SmallHalfIdeal.τ).loc Cert.SmallHalfIdeal.main_arg1)
      ∧ r.2.mem ((c.tc : Thread Cert.SmallHalfIdeal.nD Cert.SmallHalfIdeal.τ).loc Cert.SmallHalfIdeal.main_arg2) = m ((c.tc : Thread Cert.SmallHalfIdeal.nD Cert.SmallHalfIdeal.τ).loc Cert.SmallHalfIdeal.main_arg2)
      ∧ r.2.mem ((c.tc : Thread Cert.SmallHalfIdeal.nD Cert.SmallHalfIdeal.τ).loc Cert.SmallHalfIdeal.main_arg3) = m ((c.tc : Thread Cert.SmallHalfIdeal.nD Cert.SmallHalfIdeal.τ).loc Cert.SmallHalfIdeal.main_arg3))
      ∧ r.2.sem = fun _ => 0)

def quiescent_SmallHalfRefIdeal [hSmallHalfRefIdeal : Cert.SmallHalfRefIdeal.Facts] : Prop :=
  ∀ (m : (ℓ : Loc Cert.SmallHalfRefIdeal.nD Cert.SmallHalfRefIdeal.τ Cert.SmallHalfRefIdeal.sig) → Buf (Elt Ideal) ℓ) (g : Dev Cert.SmallHalfRefIdeal.nD → PrngReg), Pre_SmallHalfRefIdeal m →
    θ_run (Cert.SmallHalfRefIdeal.defs (F := Ideal)) (onTc (τ := Cert.SmallHalfRefIdeal.τ) (Cert.SmallHalfRefIdeal.main (F := Ideal))) ⟨m, fun _ => 0, g⟩ (fun r => (∀ c : Dev Cert.SmallHalfRefIdeal.nD,
      r.2.mem ((c.tc : Thread Cert.SmallHalfRefIdeal.nD Cert.SmallHalfRefIdeal.τ).loc Cert.SmallHalfRefIdeal.main_arg0) = m ((c.tc : Thread Cert.SmallHalfRefIdeal.nD Cert.SmallHalfRefIdeal.τ).loc Cert.SmallHalfRefIdeal.main_arg0)
      ∧ r.2.mem ((c.tc : Thread Cert.SmallHalfRefIdeal.nD Cert.SmallHalfRefIdeal.τ).loc Cert.SmallHalfRefIdeal.main_arg1) = m ((c.tc : Thread Cert.SmallHalfRefIdeal.nD Cert.SmallHalfRefIdeal.τ).loc Cert.SmallHalfRefIdeal.main_arg1)
      ∧ r.2.mem ((c.tc : Thread Cert.SmallHalfRefIdeal.nD Cert.SmallHalfRefIdeal.τ).loc Cert.SmallHalfRefIdeal.main_arg2) = m ((c.tc : Thread Cert.SmallHalfRefIdeal.nD Cert.SmallHalfRefIdeal.τ).loc Cert.SmallHalfRefIdeal.main_arg2)
      ∧ r.2.mem ((c.tc : Thread Cert.SmallHalfRefIdeal.nD Cert.SmallHalfRefIdeal.τ).loc Cert.SmallHalfRefIdeal.main_arg3) = m ((c.tc : Thread Cert.SmallHalfRefIdeal.nD Cert.SmallHalfRefIdeal.τ).loc Cert.SmallHalfRefIdeal.main_arg3))
      ∧ r.2.sem = fun _ => 0)

def quiescent_SmallFfn [hSmallFfn : Cert.SmallFfn.Facts] : Prop :=
  ∀ (m : (ℓ : Loc Cert.SmallFfn.nD Cert.SmallFfn.τ Cert.SmallFfn.sig) → Buf (Elt Bits) ℓ) (g : Dev Cert.SmallFfn.nD → PrngReg), Pre_SmallFfn m →
    θ_run (Cert.SmallFfn.defs (F := Bits)) (onTc (τ := Cert.SmallFfn.τ) (Cert.SmallFfn.main (F := Bits))) ⟨m, fun _ => 0, g⟩ (fun r => (∀ c : Dev Cert.SmallFfn.nD,
      r.2.mem ((c.tc : Thread Cert.SmallFfn.nD Cert.SmallFfn.τ).loc Cert.SmallFfn.main_arg0) = m ((c.tc : Thread Cert.SmallFfn.nD Cert.SmallFfn.τ).loc Cert.SmallFfn.main_arg0)
      ∧ r.2.mem ((c.tc : Thread Cert.SmallFfn.nD Cert.SmallFfn.τ).loc Cert.SmallFfn.main_arg1) = m ((c.tc : Thread Cert.SmallFfn.nD Cert.SmallFfn.τ).loc Cert.SmallFfn.main_arg1)
      ∧ r.2.mem ((c.tc : Thread Cert.SmallFfn.nD Cert.SmallFfn.τ).loc Cert.SmallFfn.main_arg2) = m ((c.tc : Thread Cert.SmallFfn.nD Cert.SmallFfn.τ).loc Cert.SmallFfn.main_arg2)
      ∧ r.2.mem ((c.tc : Thread Cert.SmallFfn.nD Cert.SmallFfn.τ).loc Cert.SmallFfn.main_arg3) = m ((c.tc : Thread Cert.SmallFfn.nD Cert.SmallFfn.τ).loc Cert.SmallFfn.main_arg3))
      ∧ r.2.sem = fun _ => 0)

def quiescent_SmallFfnIdeal [hSmallFfnIdeal : Cert.SmallFfnIdeal.Facts] : Prop :=
  ∀ (m : (ℓ : Loc Cert.SmallFfnIdeal.nD Cert.SmallFfnIdeal.τ Cert.SmallFfnIdeal.sig) → Buf (Elt Ideal) ℓ) (g : Dev Cert.SmallFfnIdeal.nD → PrngReg), Pre_SmallFfnIdeal m →
    θ_run (Cert.SmallFfnIdeal.defs (F := Ideal)) (onTc (τ := Cert.SmallFfnIdeal.τ) (Cert.SmallFfnIdeal.main (F := Ideal))) ⟨m, fun _ => 0, g⟩ (fun r => (∀ c : Dev Cert.SmallFfnIdeal.nD,
      r.2.mem ((c.tc : Thread Cert.SmallFfnIdeal.nD Cert.SmallFfnIdeal.τ).loc Cert.SmallFfnIdeal.main_arg0) = m ((c.tc : Thread Cert.SmallFfnIdeal.nD Cert.SmallFfnIdeal.τ).loc Cert.SmallFfnIdeal.main_arg0)
      ∧ r.2.mem ((c.tc : Thread Cert.SmallFfnIdeal.nD Cert.SmallFfnIdeal.τ).loc Cert.SmallFfnIdeal.main_arg1) = m ((c.tc : Thread Cert.SmallFfnIdeal.nD Cert.SmallFfnIdeal.τ).loc Cert.SmallFfnIdeal.main_arg1)
      ∧ r.2.mem ((c.tc : Thread Cert.SmallFfnIdeal.nD Cert.SmallFfnIdeal.τ).loc Cert.SmallFfnIdeal.main_arg2) = m ((c.tc : Thread Cert.SmallFfnIdeal.nD Cert.SmallFfnIdeal.τ).loc Cert.SmallFfnIdeal.main_arg2)
      ∧ r.2.mem ((c.tc : Thread Cert.SmallFfnIdeal.nD Cert.SmallFfnIdeal.τ).loc Cert.SmallFfnIdeal.main_arg3) = m ((c.tc : Thread Cert.SmallFfnIdeal.nD Cert.SmallFfnIdeal.τ).loc Cert.SmallFfnIdeal.main_arg3))
      ∧ r.2.sem = fun _ => 0)

def quiescent_SmallFfnRefIdeal [hSmallFfnRefIdeal : Cert.SmallFfnRefIdeal.Facts] : Prop :=
  ∀ (m : (ℓ : Loc Cert.SmallFfnRefIdeal.nD Cert.SmallFfnRefIdeal.τ Cert.SmallFfnRefIdeal.sig) → Buf (Elt Ideal) ℓ) (g : Dev Cert.SmallFfnRefIdeal.nD → PrngReg), Pre_SmallFfnRefIdeal m →
    θ_run (Cert.SmallFfnRefIdeal.defs (F := Ideal)) (onTc (τ := Cert.SmallFfnRefIdeal.τ) (Cert.SmallFfnRefIdeal.main (F := Ideal))) ⟨m, fun _ => 0, g⟩ (fun r => (∀ c : Dev Cert.SmallFfnRefIdeal.nD,
      r.2.mem ((c.tc : Thread Cert.SmallFfnRefIdeal.nD Cert.SmallFfnRefIdeal.τ).loc Cert.SmallFfnRefIdeal.main_arg0) = m ((c.tc : Thread Cert.SmallFfnRefIdeal.nD Cert.SmallFfnRefIdeal.τ).loc Cert.SmallFfnRefIdeal.main_arg0)
      ∧ r.2.mem ((c.tc : Thread Cert.SmallFfnRefIdeal.nD Cert.SmallFfnRefIdeal.τ).loc Cert.SmallFfnRefIdeal.main_arg1) = m ((c.tc : Thread Cert.SmallFfnRefIdeal.nD Cert.SmallFfnRefIdeal.τ).loc Cert.SmallFfnRefIdeal.main_arg1)
      ∧ r.2.mem ((c.tc : Thread Cert.SmallFfnRefIdeal.nD Cert.SmallFfnRefIdeal.τ).loc Cert.SmallFfnRefIdeal.main_arg2) = m ((c.tc : Thread Cert.SmallFfnRefIdeal.nD Cert.SmallFfnRefIdeal.τ).loc Cert.SmallFfnRefIdeal.main_arg2)
      ∧ r.2.mem ((c.tc : Thread Cert.SmallFfnRefIdeal.nD Cert.SmallFfnRefIdeal.τ).loc Cert.SmallFfnRefIdeal.main_arg3) = m ((c.tc : Thread Cert.SmallFfnRefIdeal.nD Cert.SmallFfnRefIdeal.τ).loc Cert.SmallFfnRefIdeal.main_arg3))
      ∧ r.2.sem = fun _ => 0)

def quiescent_SmallMix [hSmallMix : Cert.SmallMix.Facts] : Prop :=
  ∀ (m : (ℓ : Loc Cert.SmallMix.nD Cert.SmallMix.τ Cert.SmallMix.sig) → Buf (Elt Bits) ℓ) (g : Dev Cert.SmallMix.nD → PrngReg), Pre_SmallMix m →
    θ_run (Cert.SmallMix.defs (F := Bits)) (onTc (τ := Cert.SmallMix.τ) (Cert.SmallMix.main (F := Bits))) ⟨m, fun _ => 0, g⟩ (fun r => (∀ c : Dev Cert.SmallMix.nD,
      r.2.mem ((c.tc : Thread Cert.SmallMix.nD Cert.SmallMix.τ).loc Cert.SmallMix.main_arg0) = m ((c.tc : Thread Cert.SmallMix.nD Cert.SmallMix.τ).loc Cert.SmallMix.main_arg0)
      ∧ r.2.mem ((c.tc : Thread Cert.SmallMix.nD Cert.SmallMix.τ).loc Cert.SmallMix.main_arg1) = m ((c.tc : Thread Cert.SmallMix.nD Cert.SmallMix.τ).loc Cert.SmallMix.main_arg1)
      ∧ r.2.mem ((c.tc : Thread Cert.SmallMix.nD Cert.SmallMix.τ).loc Cert.SmallMix.main_arg2) = m ((c.tc : Thread Cert.SmallMix.nD Cert.SmallMix.τ).loc Cert.SmallMix.main_arg2)
      ∧ r.2.mem ((c.tc : Thread Cert.SmallMix.nD Cert.SmallMix.τ).loc Cert.SmallMix.main_arg3) = m ((c.tc : Thread Cert.SmallMix.nD Cert.SmallMix.τ).loc Cert.SmallMix.main_arg3))
      ∧ r.2.sem = fun _ => 0)

def quiescent_SmallMixIdeal [hSmallMixIdeal : Cert.SmallMixIdeal.Facts] : Prop :=
  ∀ (m : (ℓ : Loc Cert.SmallMixIdeal.nD Cert.SmallMixIdeal.τ Cert.SmallMixIdeal.sig) → Buf (Elt Ideal) ℓ) (g : Dev Cert.SmallMixIdeal.nD → PrngReg), Pre_SmallMixIdeal m →
    θ_run (Cert.SmallMixIdeal.defs (F := Ideal)) (onTc (τ := Cert.SmallMixIdeal.τ) (Cert.SmallMixIdeal.main (F := Ideal))) ⟨m, fun _ => 0, g⟩ (fun r => (∀ c : Dev Cert.SmallMixIdeal.nD,
      r.2.mem ((c.tc : Thread Cert.SmallMixIdeal.nD Cert.SmallMixIdeal.τ).loc Cert.SmallMixIdeal.main_arg0) = m ((c.tc : Thread Cert.SmallMixIdeal.nD Cert.SmallMixIdeal.τ).loc Cert.SmallMixIdeal.main_arg0)
      ∧ r.2.mem ((c.tc : Thread Cert.SmallMixIdeal.nD Cert.SmallMixIdeal.τ).loc Cert.SmallMixIdeal.main_arg1) = m ((c.tc : Thread Cert.SmallMixIdeal.nD Cert.SmallMixIdeal.τ).loc Cert.SmallMixIdeal.main_arg1)
      ∧ r.2.mem ((c.tc : Thread Cert.SmallMixIdeal.nD Cert.SmallMixIdeal.τ).loc Cert.SmallMixIdeal.main_arg2) = m ((c.tc : Thread Cert.SmallMixIdeal.nD Cert.SmallMixIdeal.τ).loc Cert.SmallMixIdeal.main_arg2)
      ∧ r.2.mem ((c.tc : Thread Cert.SmallMixIdeal.nD Cert.SmallMixIdeal.τ).loc Cert.SmallMixIdeal.main_arg3) = m ((c.tc : Thread Cert.SmallMixIdeal.nD Cert.SmallMixIdeal.τ).loc Cert.SmallMixIdeal.main_arg3))
      ∧ r.2.sem = fun _ => 0)

def quiescent_SmallMixRefIdeal [hSmallMixRefIdeal : Cert.SmallMixRefIdeal.Facts] : Prop :=
  ∀ (m : (ℓ : Loc Cert.SmallMixRefIdeal.nD Cert.SmallMixRefIdeal.τ Cert.SmallMixRefIdeal.sig) → Buf (Elt Ideal) ℓ) (g : Dev Cert.SmallMixRefIdeal.nD → PrngReg), Pre_SmallMixRefIdeal m →
    θ_run (Cert.SmallMixRefIdeal.defs (F := Ideal)) (onTc (τ := Cert.SmallMixRefIdeal.τ) (Cert.SmallMixRefIdeal.main (F := Ideal))) ⟨m, fun _ => 0, g⟩ (fun r => (∀ c : Dev Cert.SmallMixRefIdeal.nD,
      r.2.mem ((c.tc : Thread Cert.SmallMixRefIdeal.nD Cert.SmallMixRefIdeal.τ).loc Cert.SmallMixRefIdeal.main_arg0) = m ((c.tc : Thread Cert.SmallMixRefIdeal.nD Cert.SmallMixRefIdeal.τ).loc Cert.SmallMixRefIdeal.main_arg0)
      ∧ r.2.mem ((c.tc : Thread Cert.SmallMixRefIdeal.nD Cert.SmallMixRefIdeal.τ).loc Cert.SmallMixRefIdeal.main_arg1) = m ((c.tc : Thread Cert.SmallMixRefIdeal.nD Cert.SmallMixRefIdeal.τ).loc Cert.SmallMixRefIdeal.main_arg1)
      ∧ r.2.mem ((c.tc : Thread Cert.SmallMixRefIdeal.nD Cert.SmallMixRefIdeal.τ).loc Cert.SmallMixRefIdeal.main_arg2) = m ((c.tc : Thread Cert.SmallMixRefIdeal.nD Cert.SmallMixRefIdeal.τ).loc Cert.SmallMixRefIdeal.main_arg2)
      ∧ r.2.mem ((c.tc : Thread Cert.SmallMixRefIdeal.nD Cert.SmallMixRefIdeal.τ).loc Cert.SmallMixRefIdeal.main_arg3) = m ((c.tc : Thread Cert.SmallMixRefIdeal.nD Cert.SmallMixRefIdeal.τ).loc Cert.SmallMixRefIdeal.main_arg3))
      ∧ r.2.sem = fun _ => 0)

def quiescent_SmallBias [hSmallBias : Cert.SmallBias.Facts] : Prop :=
  ∀ (m : (ℓ : Loc Cert.SmallBias.nD Cert.SmallBias.τ Cert.SmallBias.sig) → Buf (Elt Bits) ℓ) (g : Dev Cert.SmallBias.nD → PrngReg), Pre_SmallBias m →
    θ_run (Cert.SmallBias.defs (F := Bits)) (onTc (τ := Cert.SmallBias.τ) (Cert.SmallBias.main (F := Bits))) ⟨m, fun _ => 0, g⟩ (fun r => (∀ c : Dev Cert.SmallBias.nD,
      r.2.mem ((c.tc : Thread Cert.SmallBias.nD Cert.SmallBias.τ).loc Cert.SmallBias.main_arg0) = m ((c.tc : Thread Cert.SmallBias.nD Cert.SmallBias.τ).loc Cert.SmallBias.main_arg0)
      ∧ r.2.mem ((c.tc : Thread Cert.SmallBias.nD Cert.SmallBias.τ).loc Cert.SmallBias.main_arg1) = m ((c.tc : Thread Cert.SmallBias.nD Cert.SmallBias.τ).loc Cert.SmallBias.main_arg1)
      ∧ r.2.mem ((c.tc : Thread Cert.SmallBias.nD Cert.SmallBias.τ).loc Cert.SmallBias.main_arg2) = m ((c.tc : Thread Cert.SmallBias.nD Cert.SmallBias.τ).loc Cert.SmallBias.main_arg2)
      ∧ r.2.mem ((c.tc : Thread Cert.SmallBias.nD Cert.SmallBias.τ).loc Cert.SmallBias.main_arg3) = m ((c.tc : Thread Cert.SmallBias.nD Cert.SmallBias.τ).loc Cert.SmallBias.main_arg3))
      ∧ r.2.sem = fun _ => 0)

def quiescent_SmallBiasIdeal [hSmallBiasIdeal : Cert.SmallBiasIdeal.Facts] : Prop :=
  ∀ (m : (ℓ : Loc Cert.SmallBiasIdeal.nD Cert.SmallBiasIdeal.τ Cert.SmallBiasIdeal.sig) → Buf (Elt Ideal) ℓ) (g : Dev Cert.SmallBiasIdeal.nD → PrngReg), Pre_SmallBiasIdeal m →
    θ_run (Cert.SmallBiasIdeal.defs (F := Ideal)) (onTc (τ := Cert.SmallBiasIdeal.τ) (Cert.SmallBiasIdeal.main (F := Ideal))) ⟨m, fun _ => 0, g⟩ (fun r => (∀ c : Dev Cert.SmallBiasIdeal.nD,
      r.2.mem ((c.tc : Thread Cert.SmallBiasIdeal.nD Cert.SmallBiasIdeal.τ).loc Cert.SmallBiasIdeal.main_arg0) = m ((c.tc : Thread Cert.SmallBiasIdeal.nD Cert.SmallBiasIdeal.τ).loc Cert.SmallBiasIdeal.main_arg0)
      ∧ r.2.mem ((c.tc : Thread Cert.SmallBiasIdeal.nD Cert.SmallBiasIdeal.τ).loc Cert.SmallBiasIdeal.main_arg1) = m ((c.tc : Thread Cert.SmallBiasIdeal.nD Cert.SmallBiasIdeal.τ).loc Cert.SmallBiasIdeal.main_arg1)
      ∧ r.2.mem ((c.tc : Thread Cert.SmallBiasIdeal.nD Cert.SmallBiasIdeal.τ).loc Cert.SmallBiasIdeal.main_arg2) = m ((c.tc : Thread Cert.SmallBiasIdeal.nD Cert.SmallBiasIdeal.τ).loc Cert.SmallBiasIdeal.main_arg2)
      ∧ r.2.mem ((c.tc : Thread Cert.SmallBiasIdeal.nD Cert.SmallBiasIdeal.τ).loc Cert.SmallBiasIdeal.main_arg3) = m ((c.tc : Thread Cert.SmallBiasIdeal.nD Cert.SmallBiasIdeal.τ).loc Cert.SmallBiasIdeal.main_arg3))
      ∧ r.2.sem = fun _ => 0)

def quiescent_SmallBiasRefIdeal [hSmallBiasRefIdeal : Cert.SmallBiasRefIdeal.Facts] : Prop :=
  ∀ (m : (ℓ : Loc Cert.SmallBiasRefIdeal.nD Cert.SmallBiasRefIdeal.τ Cert.SmallBiasRefIdeal.sig) → Buf (Elt Ideal) ℓ) (g : Dev Cert.SmallBiasRefIdeal.nD → PrngReg), Pre_SmallBiasRefIdeal m →
    θ_run (Cert.SmallBiasRefIdeal.defs (F := Ideal)) (onTc (τ := Cert.SmallBiasRefIdeal.τ) (Cert.SmallBiasRefIdeal.main (F := Ideal))) ⟨m, fun _ => 0, g⟩ (fun r => (∀ c : Dev Cert.SmallBiasRefIdeal.nD,
      r.2.mem ((c.tc : Thread Cert.SmallBiasRefIdeal.nD Cert.SmallBiasRefIdeal.τ).loc Cert.SmallBiasRefIdeal.main_arg0) = m ((c.tc : Thread Cert.SmallBiasRefIdeal.nD Cert.SmallBiasRefIdeal.τ).loc Cert.SmallBiasRefIdeal.main_arg0)
      ∧ r.2.mem ((c.tc : Thread Cert.SmallBiasRefIdeal.nD Cert.SmallBiasRefIdeal.τ).loc Cert.SmallBiasRefIdeal.main_arg1) = m ((c.tc : Thread Cert.SmallBiasRefIdeal.nD Cert.SmallBiasRefIdeal.τ).loc Cert.SmallBiasRefIdeal.main_arg1)
      ∧ r.2.mem ((c.tc : Thread Cert.SmallBiasRefIdeal.nD Cert.SmallBiasRefIdeal.τ).loc Cert.SmallBiasRefIdeal.main_arg2) = m ((c.tc : Thread Cert.SmallBiasRefIdeal.nD Cert.SmallBiasRefIdeal.τ).loc Cert.SmallBiasRefIdeal.main_arg2)
      ∧ r.2.mem ((c.tc : Thread Cert.SmallBiasRefIdeal.nD Cert.SmallBiasRefIdeal.τ).loc Cert.SmallBiasRefIdeal.main_arg3) = m ((c.tc : Thread Cert.SmallBiasRefIdeal.nD Cert.SmallBiasRefIdeal.τ).loc Cert.SmallBiasRefIdeal.main_arg3))
      ∧ r.2.sem = fun _ => 0)

def quiescent_SmallTaps [hSmallTaps : Cert.SmallTaps.Facts] : Prop :=
  ∀ (m : (ℓ : Loc Cert.SmallTaps.nD Cert.SmallTaps.τ Cert.SmallTaps.sig) → Buf (Elt Bits) ℓ) (g : Dev Cert.SmallTaps.nD → PrngReg), Pre_SmallTaps m →
    θ_run (Cert.SmallTaps.defs (F := Bits)) (onTc (τ := Cert.SmallTaps.τ) (Cert.SmallTaps.main (F := Bits))) ⟨m, fun _ => 0, g⟩ (fun r => (∀ c : Dev Cert.SmallTaps.nD,
      r.2.mem ((c.tc : Thread Cert.SmallTaps.nD Cert.SmallTaps.τ).loc Cert.SmallTaps.main_arg0) = m ((c.tc : Thread Cert.SmallTaps.nD Cert.SmallTaps.τ).loc Cert.SmallTaps.main_arg0)
      ∧ r.2.mem ((c.tc : Thread Cert.SmallTaps.nD Cert.SmallTaps.τ).loc Cert.SmallTaps.main_arg1) = m ((c.tc : Thread Cert.SmallTaps.nD Cert.SmallTaps.τ).loc Cert.SmallTaps.main_arg1)
      ∧ r.2.mem ((c.tc : Thread Cert.SmallTaps.nD Cert.SmallTaps.τ).loc Cert.SmallTaps.main_arg2) = m ((c.tc : Thread Cert.SmallTaps.nD Cert.SmallTaps.τ).loc Cert.SmallTaps.main_arg2)
      ∧ r.2.mem ((c.tc : Thread Cert.SmallTaps.nD Cert.SmallTaps.τ).loc Cert.SmallTaps.main_arg3) = m ((c.tc : Thread Cert.SmallTaps.nD Cert.SmallTaps.τ).loc Cert.SmallTaps.main_arg3))
      ∧ r.2.sem = fun _ => 0)

def quiescent_SmallTapsIdeal [hSmallTapsIdeal : Cert.SmallTapsIdeal.Facts] : Prop :=
  ∀ (m : (ℓ : Loc Cert.SmallTapsIdeal.nD Cert.SmallTapsIdeal.τ Cert.SmallTapsIdeal.sig) → Buf (Elt Ideal) ℓ) (g : Dev Cert.SmallTapsIdeal.nD → PrngReg), Pre_SmallTapsIdeal m →
    θ_run (Cert.SmallTapsIdeal.defs (F := Ideal)) (onTc (τ := Cert.SmallTapsIdeal.τ) (Cert.SmallTapsIdeal.main (F := Ideal))) ⟨m, fun _ => 0, g⟩ (fun r => (∀ c : Dev Cert.SmallTapsIdeal.nD,
      r.2.mem ((c.tc : Thread Cert.SmallTapsIdeal.nD Cert.SmallTapsIdeal.τ).loc Cert.SmallTapsIdeal.main_arg0) = m ((c.tc : Thread Cert.SmallTapsIdeal.nD Cert.SmallTapsIdeal.τ).loc Cert.SmallTapsIdeal.main_arg0)
      ∧ r.2.mem ((c.tc : Thread Cert.SmallTapsIdeal.nD Cert.SmallTapsIdeal.τ).loc Cert.SmallTapsIdeal.main_arg1) = m ((c.tc : Thread Cert.SmallTapsIdeal.nD Cert.SmallTapsIdeal.τ).loc Cert.SmallTapsIdeal.main_arg1)
      ∧ r.2.mem ((c.tc : Thread Cert.SmallTapsIdeal.nD Cert.SmallTapsIdeal.τ).loc Cert.SmallTapsIdeal.main_arg2) = m ((c.tc : Thread Cert.SmallTapsIdeal.nD Cert.SmallTapsIdeal.τ).loc Cert.SmallTapsIdeal.main_arg2)
      ∧ r.2.mem ((c.tc : Thread Cert.SmallTapsIdeal.nD Cert.SmallTapsIdeal.τ).loc Cert.SmallTapsIdeal.main_arg3) = m ((c.tc : Thread Cert.SmallTapsIdeal.nD Cert.SmallTapsIdeal.τ).loc Cert.SmallTapsIdeal.main_arg3))
      ∧ r.2.sem = fun _ => 0)

def quiescent_SmallTapsRefIdeal [hSmallTapsRefIdeal : Cert.SmallTapsRefIdeal.Facts] : Prop :=
  ∀ (m : (ℓ : Loc Cert.SmallTapsRefIdeal.nD Cert.SmallTapsRefIdeal.τ Cert.SmallTapsRefIdeal.sig) → Buf (Elt Ideal) ℓ) (g : Dev Cert.SmallTapsRefIdeal.nD → PrngReg), Pre_SmallTapsRefIdeal m →
    θ_run (Cert.SmallTapsRefIdeal.defs (F := Ideal)) (onTc (τ := Cert.SmallTapsRefIdeal.τ) (Cert.SmallTapsRefIdeal.main (F := Ideal))) ⟨m, fun _ => 0, g⟩ (fun r => (∀ c : Dev Cert.SmallTapsRefIdeal.nD,
      r.2.mem ((c.tc : Thread Cert.SmallTapsRefIdeal.nD Cert.SmallTapsRefIdeal.τ).loc Cert.SmallTapsRefIdeal.main_arg0) = m ((c.tc : Thread Cert.SmallTapsRefIdeal.nD Cert.SmallTapsRefIdeal.τ).loc Cert.SmallTapsRefIdeal.main_arg0)
      ∧ r.2.mem ((c.tc : Thread Cert.SmallTapsRefIdeal.nD Cert.SmallTapsRefIdeal.τ).loc Cert.SmallTapsRefIdeal.main_arg1) = m ((c.tc : Thread Cert.SmallTapsRefIdeal.nD Cert.SmallTapsRefIdeal.τ).loc Cert.SmallTapsRefIdeal.main_arg1)
      ∧ r.2.mem ((c.tc : Thread Cert.SmallTapsRefIdeal.nD Cert.SmallTapsRefIdeal.τ).loc Cert.SmallTapsRefIdeal.main_arg2) = m ((c.tc : Thread Cert.SmallTapsRefIdeal.nD Cert.SmallTapsRefIdeal.τ).loc Cert.SmallTapsRefIdeal.main_arg2)
      ∧ r.2.mem ((c.tc : Thread Cert.SmallTapsRefIdeal.nD Cert.SmallTapsRefIdeal.τ).loc Cert.SmallTapsRefIdeal.main_arg3) = m ((c.tc : Thread Cert.SmallTapsRefIdeal.nD Cert.SmallTapsRefIdeal.τ).loc Cert.SmallTapsRefIdeal.main_arg3))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2560]⟩ ⟨2, ![4096, 20480]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![16, 32, 256]⟩ ⟨3, ![16, 256, 256]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![16, 32, 256]⟩ ⟨3, ![16, 256, 256]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 512]⟩ ⟨2, ![2048, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![88, 128]⟩ ⟨2, ![704, 128]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v1)) (v1 : Buf (Elt Ideal) (((0 : Dev Cert.ReferenceIdeal.nD).tc : Thread Cert.ReferenceIdeal.nD Cert.ReferenceIdeal.τ).loc Cert.ReferenceIdeal.main_v3)) (v2 : Buf (Elt Ideal) (((0 : Dev Cert.ReferenceIdeal.nD).tc : Thread Cert.ReferenceIdeal.nD Cert.ReferenceIdeal.τ).loc Cert.ReferenceIdeal.main_v5)) (v3 : Buf (Elt Ideal) (((0 : Dev Cert.ReferenceIdeal.nD).tc : Thread Cert.ReferenceIdeal.nD Cert.ReferenceIdeal.τ).loc Cert.ReferenceIdeal.main_v7)) (v4 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_v3) = v1
          ∧ r.2.mem (((0 : Dev Cert.ReferenceIdeal.nD).tc : Thread Cert.ReferenceIdeal.nD Cert.ReferenceIdeal.τ).loc Cert.ReferenceIdeal.main_v5) = v2
          ∧ r.2.mem (((0 : Dev Cert.ReferenceIdeal.nD).tc : Thread Cert.ReferenceIdeal.nD Cert.ReferenceIdeal.τ).loc Cert.ReferenceIdeal.main_v7) = v3
          ∧ r.2.mem (((0 : Dev Cert.ReferenceIdeal.nD).tc : Thread Cert.ReferenceIdeal.nD Cert.ReferenceIdeal.τ).loc Cert.ReferenceIdeal.main_v8) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![4096, 2560]⟩ ⟨2, ![4096, 20480]⟩ 1 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![16, 32, 256]⟩ ⟨3, ![16, 256, 256]⟩ 1 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![16, 32, 256]⟩ ⟨3, ![16, 256, 256]⟩ 1 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![2048, 512]⟩ ⟨2, ![2048, 4096]⟩ 1 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![88, 128]⟩ ⟨2, ![704, 128]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v1)) (v1 : Buf (Elt Bits) (((0 : Dev Cert.Reference.nD).tc : Thread Cert.Reference.nD Cert.Reference.τ).loc Cert.Reference.main_v3)) (v2 : Buf (Elt Bits) (((0 : Dev Cert.Reference.nD).tc : Thread Cert.Reference.nD Cert.Reference.τ).loc Cert.Reference.main_v5)) (v3 : Buf (Elt Bits) (((0 : Dev Cert.Reference.nD).tc : Thread Cert.Reference.nD Cert.Reference.τ).loc Cert.Reference.main_v7)) (v4 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v1) = v0
          ∧ r.2.mem (((0 : Dev Cert.Reference.nD).tc : Thread Cert.Reference.nD Cert.Reference.τ).loc Cert.Reference.main_v3) = v1
          ∧ r.2.mem (((0 : Dev Cert.Reference.nD).tc : Thread Cert.Reference.nD Cert.Reference.τ).loc Cert.Reference.main_v5) = v2
          ∧ r.2.mem (((0 : Dev Cert.Reference.nD).tc : Thread Cert.Reference.nD Cert.Reference.τ).loc Cert.Reference.main_v7) = v3
          ∧ r.2.mem (((0 : Dev Cert.Reference.nD).tc : Thread Cert.Reference.nD Cert.Reference.τ).loc Cert.Reference.main_v8) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 4096, 2560]⟩ ⟨4, ![32, 2, 4096, 2560]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨4, ![4, 2, 512, 256]⟩ ⟨4, ![32, 2, 512, 256]⟩ 0 8 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨4, ![4, 2, 512, 256]⟩ ⟨4, ![32, 2, 512, 256]⟩ 0 8 c (m' (((0 : Dev Cert.SwapRefIdeal.nD).tc : Thread Cert.SwapRefIdeal.nD Cert.SwapRefIdeal.τ).loc Cert.SwapRefIdeal.main_arg2))) →
    ∃ (v0 : Buf (Elt Ideal) (((0 : Dev Cert.SwapRefIdeal.nD).tc : Thread Cert.SwapRefIdeal.nD Cert.SwapRefIdeal.τ).loc Cert.SwapRefIdeal.main_v4)) (v1 : Buf (Elt Ideal) (((0 : Dev Cert.SwapRefIdeal.nD).tc : Thread Cert.SwapRefIdeal.nD Cert.SwapRefIdeal.τ).loc Cert.SwapRefIdeal.main_v9)) (v2 : Buf (Elt Ideal) (((0 : Dev Cert.SwapRefIdeal.nD).tc : Thread Cert.SwapRefIdeal.nD Cert.SwapRefIdeal.τ).loc Cert.SwapRefIdeal.main_v14)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 4096, 2560]⟩ ⟨3, ![32, 4096, 2560]⟩ 0 8 c v0
          ∧ r.2.mem ((c.tc : Thread Cert.SwapIdeal.nD Cert.SwapIdeal.τ).loc Cert.SwapIdeal.main_v1_1) = Layout.block ⟨3, ![4, 512, 256]⟩ ⟨3, ![32, 512, 256]⟩ 0 8 c v1
          ∧ r.2.mem ((c.tc : Thread Cert.SwapIdeal.nD Cert.SwapIdeal.τ).loc Cert.SwapIdeal.main_v1_2) = Layout.block ⟨3, ![4, 512, 256]⟩ ⟨3, ![32, 512, 256]⟩ 0 8 c v2
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v4) = v0
          ∧ r.2.mem (((0 : Dev Cert.SwapRefIdeal.nD).tc : Thread Cert.SwapRefIdeal.nD Cert.SwapRefIdeal.τ).loc Cert.SwapRefIdeal.main_v9) = v1
          ∧ r.2.mem (((0 : Dev Cert.SwapRefIdeal.nD).tc : Thread Cert.SwapRefIdeal.nD Cert.SwapRefIdeal.τ).loc Cert.SwapRefIdeal.main_v14) = v2
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![4, 2, 4096, 2560]⟩ ⟨4, ![32, 2, 4096, 2560]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨4, ![4, 2, 512, 256]⟩ ⟨4, ![32, 2, 512, 256]⟩ 0 8 c (m' (((0 : Dev Cert.SwapRef.nD).tc : Thread Cert.SwapRef.nD Cert.SwapRef.τ).loc Cert.SwapRef.main_arg1))
      ∧ m ((c.tc : Thread Cert.Swap.nD Cert.Swap.τ).loc Cert.Swap.main_arg2) = Layout.block ⟨4, ![4, 2, 512, 256]⟩ ⟨4, ![32, 2, 512, 256]⟩ 0 8 c (m' (((0 : Dev Cert.SwapRef.nD).tc : Thread Cert.SwapRef.nD Cert.SwapRef.τ).loc Cert.SwapRef.main_arg2))) →
    ∃ (v0 : Buf (Elt Bits) (((0 : Dev Cert.SwapRef.nD).tc : Thread Cert.SwapRef.nD Cert.SwapRef.τ).loc Cert.SwapRef.main_v4)) (v1 : Buf (Elt Bits) (((0 : Dev Cert.SwapRef.nD).tc : Thread Cert.SwapRef.nD Cert.SwapRef.τ).loc Cert.SwapRef.main_v9)) (v2 : Buf (Elt Bits) (((0 : Dev Cert.SwapRef.nD).tc : Thread Cert.SwapRef.nD Cert.SwapRef.τ).loc Cert.SwapRef.main_v14)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 4096, 2560]⟩ ⟨3, ![32, 4096, 2560]⟩ 0 8 c v0
          ∧ r.2.mem ((c.tc : Thread Cert.Swap.nD Cert.Swap.τ).loc Cert.Swap.main_v1_1) = Layout.block ⟨3, ![4, 512, 256]⟩ ⟨3, ![32, 512, 256]⟩ 0 8 c v1
          ∧ r.2.mem ((c.tc : Thread Cert.Swap.nD Cert.Swap.τ).loc Cert.Swap.main_v1_2) = Layout.block ⟨3, ![4, 512, 256]⟩ ⟨3, ![32, 512, 256]⟩ 0 8 c v2
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v4) = v0
          ∧ r.2.mem (((0 : Dev Cert.SwapRef.nD).tc : Thread Cert.SwapRef.nD Cert.SwapRef.τ).loc Cert.SwapRef.main_v9) = v1
          ∧ r.2.mem (((0 : Dev Cert.SwapRef.nD).tc : Thread Cert.SwapRef.nD Cert.SwapRef.τ).loc Cert.SwapRef.main_v14) = v2
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1)
          ∧ r.2.mem (((0 : Dev Cert.SwapRef.nD).tc : Thread Cert.SwapRef.nD Cert.SwapRef.τ).loc Cert.SwapRef.main_arg2) = m' (((0 : Dev Cert.SwapRef.nD).tc : Thread Cert.SwapRef.nD Cert.SwapRef.τ).loc Cert.SwapRef.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m ((c.tc : Thread Cert.UpIdeal.nD Cert.UpIdeal.τ).loc Cert.UpIdeal.main_arg0) = Layout.block ⟨2, ![4096, 24576]⟩ ⟨2, ![32768, 24576]⟩ 0 8 c (m' (((0 : Dev Cert.UpRefIdeal.nD).tc : Thread Cert.UpRefIdeal.nD Cert.UpRefIdeal.τ).loc Cert.UpRefIdeal.main_arg0))
      ∧ m ((c.tc : Thread Cert.UpIdeal.nD Cert.UpIdeal.τ).loc Cert.UpIdeal.main_arg1) = m' (((0 : Dev Cert.UpRefIdeal.nD).tc : Thread Cert.UpRefIdeal.nD Cert.UpRefIdeal.τ).loc Cert.UpRefIdeal.main_arg1)
      ∧ m ((c.tc : Thread Cert.UpIdeal.nD Cert.UpIdeal.τ).loc Cert.UpIdeal.main_arg2) = Layout.block ⟨4, ![4, 2, 4096, 3072]⟩ ⟨4, ![32, 2, 4096, 3072]⟩ 0 8 c (m' (((0 : Dev Cert.UpRefIdeal.nD).tc : Thread Cert.UpRefIdeal.nD Cert.UpRefIdeal.τ).loc Cert.UpRefIdeal.main_arg2))) →
    ∃ (v0 : Buf (Elt Ideal) (((0 : Dev Cert.UpRefIdeal.nD).tc : Thread Cert.UpRefIdeal.nD Cert.UpRefIdeal.τ).loc Cert.UpRefIdeal.main_v3)) (v1 : Buf (Elt Ideal) (((0 : Dev Cert.UpRefIdeal.nD).tc : Thread Cert.UpRefIdeal.nD Cert.UpRefIdeal.τ).loc Cert.UpRefIdeal.main_v8)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = Layout.block ⟨2, ![4096, 4096]⟩ ⟨2, ![32768, 4096]⟩ 0 8 c v0
          ∧ r.2.mem ((c.tc : Thread Cert.UpIdeal.nD Cert.UpIdeal.τ).loc Cert.UpIdeal.main_v1_1) = Layout.block ⟨3, ![4, 4096, 3072]⟩ ⟨3, ![32, 4096, 3072]⟩ 0 8 c v1
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r =>
          r.2.mem (((0 : Dev Cert.UpRefIdeal.nD).tc : Thread Cert.UpRefIdeal.nD Cert.UpRefIdeal.τ).loc Cert.UpRefIdeal.main_v3) = v0
          ∧ r.2.mem (((0 : Dev Cert.UpRefIdeal.nD).tc : Thread Cert.UpRefIdeal.nD Cert.UpRefIdeal.τ).loc Cert.UpRefIdeal.main_v8) = v1
          ∧ r.2.mem (((0 : Dev Cert.UpRefIdeal.nD).tc : Thread Cert.UpRefIdeal.nD Cert.UpRefIdeal.τ).loc Cert.UpRefIdeal.main_arg0) = m' (((0 : Dev Cert.UpRefIdeal.nD).tc : Thread Cert.UpRefIdeal.nD Cert.UpRefIdeal.τ).loc Cert.UpRefIdeal.main_arg0)
          ∧ r.2.mem (((0 : Dev Cert.UpRefIdeal.nD).tc : Thread Cert.UpRefIdeal.nD Cert.UpRefIdeal.τ).loc Cert.UpRefIdeal.main_arg1) = m' (((0 : Dev Cert.UpRefIdeal.nD).tc : Thread Cert.UpRefIdeal.nD Cert.UpRefIdeal.τ).loc Cert.UpRefIdeal.main_arg1)
          ∧ r.2.mem (((0 : Dev Cert.UpRefIdeal.nD).tc : Thread Cert.UpRefIdeal.nD Cert.UpRefIdeal.τ).loc Cert.UpRefIdeal.main_arg2) = m' (((0 : Dev Cert.UpRefIdeal.nD).tc : Thread Cert.UpRefIdeal.nD Cert.UpRefIdeal.τ).loc Cert.UpRefIdeal.main_arg2))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m ((c.tc : Thread Cert.GradUpIdeal.nD Cert.GradUpIdeal.τ).loc Cert.GradUpIdeal.main_arg0) = Layout.block ⟨2, ![4096, 4096]⟩ ⟨2, ![32768, 4096]⟩ 0 8 c (m' (((0 : Dev Cert.GradUpRefIdeal.nD).tc : Thread Cert.GradUpRefIdeal.nD Cert.GradUpRefIdeal.τ).loc Cert.GradUpRefIdeal.main_arg0))
      ∧ m ((c.tc : Thread Cert.GradUpIdeal.nD Cert.GradUpIdeal.τ).loc Cert.GradUpIdeal.main_arg1) = Layout.block ⟨2, ![4096, 24576]⟩ ⟨2, ![32768, 24576]⟩ 0 8 c (m' (((0 : Dev Cert.GradUpRefIdeal.nD).tc : Thread Cert.GradUpRefIdeal.nD Cert.GradUpRefIdeal.τ).loc Cert.GradUpRefIdeal.main_arg1))
      ∧ m ((c.tc : Thread Cert.GradUpIdeal.nD Cert.GradUpIdeal.τ).loc Cert.GradUpIdeal.main_arg2) = Layout.block ⟨3, ![4, 1536, 4096]⟩ ⟨3, ![32, 1536, 4096]⟩ 0 8 c (m' (((0 : Dev Cert.GradUpRefIdeal.nD).tc : Thread Cert.GradUpRefIdeal.nD Cert.GradUpRefIdeal.τ).loc Cert.GradUpRefIdeal.main_arg2))) →
    ∃ (v0 : Buf (Elt Ideal) (((0 : Dev Cert.GradUpRefIdeal.nD).tc : Thread Cert.GradUpRefIdeal.nD Cert.GradUpRefIdeal.τ).loc Cert.GradUpRefIdeal.main_v6)) (v1 : Buf (Elt Ideal) (((0 : Dev Cert.GradUpRefIdeal.nD).tc : Thread Cert.GradUpRefIdeal.nD Cert.GradUpRefIdeal.τ).loc Cert.GradUpRefIdeal.main_v17)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v1_0) = Layout.block ⟨3, ![8, 4096, 3072]⟩ ⟨3, ![64, 4096, 3072]⟩ 0 8 c v0
          ∧ r.2.mem ((c.tc : Thread Cert.GradUpIdeal.nD Cert.GradUpIdeal.τ).loc Cert.GradUpIdeal.main_v1_1) = Layout.block ⟨3, ![4, 1536, 4096]⟩ ⟨3, ![32, 1536, 4096]⟩ 0 8 c v1
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
          ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2))
      ∧ θ_run (Cert.GradUpRefIdeal.defs (F := Ideal)) (onTc (τ := Cert.GradUpRefIdeal.τ) (Cert.GradUpRefIdeal.main (F := Ideal))) ⟨m', fun _ => 0, g'⟩ (fun r =>
          r.2.mem (((0 : Dev Cert.GradUpRefIdeal.nD).tc : Thread Cert.GradUpRefIdeal.nD Cert.GradUpRefIdeal.τ).loc Cert.GradUpRefIdeal.main_v6) = v0
          ∧ r.2.mem (((0 : Dev Cert.GradUpRefIdeal.nD).tc : Thread Cert.GradUpRefIdeal.nD Cert.GradUpRefIdeal.τ).loc Cert.GradUpRefIdeal.main_v17) = v1
          ∧ r.2.mem (((0 : Dev Cert.GradUpRefIdeal.nD).tc : Thread Cert.GradUpRefIdeal.nD Cert.GradUpRefIdeal.τ).loc Cert.GradUpRefIdeal.main_arg0) = m' (((0 : Dev Cert.GradUpRefIdeal.nD).tc : Thread Cert.GradUpRefIdeal.nD Cert.GradUpRefIdeal.τ).loc Cert.GradUpRefIdeal.main_arg0)
          ∧ r.2.mem (((0 : Dev Cert.GradUpRefIdeal.nD).tc : Thread Cert.GradUpRefIdeal.nD Cert.GradUpRefIdeal.τ).loc Cert.GradUpRefIdeal.main_arg1) = m' (((0 : Dev Cert.GradUpRefIdeal.nD).tc : Thread Cert.GradUpRefIdeal.nD Cert.GradUpRefIdeal.τ).loc Cert.GradUpRefIdeal.main_arg1)
          ∧ r.2.mem (((0 : Dev Cert.GradUpRefIdeal.nD).tc : Thread Cert.GradUpRefIdeal.nD Cert.GradUpRefIdeal.τ).loc Cert.GradUpRefIdeal.main_arg2) = m' (((0 : Dev Cert.GradUpRefIdeal.nD).tc : Thread Cert.GradUpRefIdeal.nD Cert.GradUpRefIdeal.τ).loc Cert.GradUpRefIdeal.main_arg2))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m ((c.tc : Thread Cert.GradInIdeal.nD Cert.GradInIdeal.τ).loc Cert.GradInIdeal.main_arg0) = Layout.block ⟨2, ![4096, 4096]⟩ ⟨2, ![32768, 4096]⟩ 0 8 c (m' (((0 : Dev Cert.GradInRefIdeal.nD).tc : Thread Cert.GradInRefIdeal.nD Cert.GradInRefIdeal.τ).loc Cert.GradInRefIdeal.main_arg0))
      ∧ m ((c.tc : Thread Cert.GradInIdeal.nD Cert.GradInIdeal.τ).loc Cert.GradInIdeal.main_arg1) = Layout.block ⟨2, ![4096, 20480]⟩ ⟨2, ![32768, 20480]⟩ 0 8 c (m' (((0 : Dev Cert.GradInRefIdeal.nD).tc : Thread Cert.GradInRefIdeal.nD Cert.GradInRefIdeal.τ).loc Cert.GradInRefIdeal.main_arg1))
      ∧ m ((c.tc : Thread Cert.GradInIdeal.nD Cert.GradInIdeal.τ).loc Cert.GradInIdeal.main_arg2) = Layout.block ⟨3, ![4, 2048, 3072]⟩ ⟨3, ![32, 2048, 3072]⟩ 0 8 c (m' (((0 : Dev Cert.GradInRefIdeal.nD).tc : Thread Cert.GradInRefIdeal.nD Cert.GradInRefIdeal.τ).loc Cert.GradInRefIdeal.main_arg2))
      ∧ m ((c.tc : Thread Cert.GradInIdeal.nD Cert.GradInIdeal.τ).loc Cert.GradInIdeal.main_arg3) = Layout.block ⟨3, ![4, 2048, 512]⟩ ⟨3, ![32, 2048, 512]⟩ 0 8 c (m' (((0 : Dev Cert.GradInRefIdeal.nD).tc : Thread Cert.GradInRefIdeal.nD Cert.GradInRefIdeal.τ).loc Cert.GradInRefIdeal.main_arg3))
      ∧ m ((c.tc : Thread Cert.GradInIdeal.nD Cert.GradInIdeal.τ).loc Cert.GradInIdeal.main_arg4) = Layout.block ⟨3, ![4, 512, 4096]⟩ ⟨3, ![32, 512, 4096]⟩ 0 8 c (m' (((0 : Dev Cert.GradInRefIdeal.nD).tc : Thread Cert.GradInRefIdeal.nD Cert.GradInRefIdeal.τ).loc Cert.GradInRefIdeal.main_arg4))) →
    ∃ (v0 : Buf (Elt Ideal) (((0 : Dev Cert.GradInRefIdeal.nD).tc : Thread Cert.GradInRefIdeal.nD Cert.GradInRefIdeal.τ).loc Cert.GradInRefIdeal.main_v6)) (v1 : Buf (Elt Ideal) (((0 : Dev Cert.GradInRefIdeal.nD).tc : Thread Cert.GradInRefIdeal.nD Cert.GradInRefIdeal.τ).loc Cert.GradInRefIdeal.main_v17)) (v2 : Buf (Elt Ideal) (((0 : Dev Cert.GradInRefIdeal.nD).tc : Thread Cert.GradInRefIdeal.nD Cert.GradInRefIdeal.τ).loc Cert.GradInRefIdeal.main_v28)) (v3 : Buf (Elt Ideal) (((0 : Dev Cert.GradInRefIdeal.nD).tc : Thread Cert.GradInRefIdeal.nD Cert.GradInRefIdeal.τ).loc Cert.GradInRefIdeal.main_v39)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v1_0) = Layout.block ⟨3, ![8, 4096, 2560]⟩ ⟨3, ![64, 4096, 2560]⟩ 0 8 c v0
          ∧ r.2.mem ((c.tc : Thread Cert.GradInIdeal.nD Cert.GradInIdeal.τ).loc Cert.GradInIdeal.main_v1_1) = Layout.block ⟨3, ![4, 2048, 3072]⟩ ⟨3, ![32, 2048, 3072]⟩ 0 8 c v1
          ∧ r.2.mem ((c.tc : Thread Cert.GradInIdeal.nD Cert.GradInIdeal.τ).loc Cert.GradInIdeal.main_v1_2) = Layout.block ⟨3, ![4, 2048, 512]⟩ ⟨3, ![32, 2048, 512]⟩ 0 8 c v2
          ∧ r.2.mem ((c.tc : Thread Cert.GradInIdeal.nD Cert.GradInIdeal.τ).loc Cert.GradInIdeal.main_v1_3) = Layout.block ⟨3, ![4, 512, 4096]⟩ ⟨3, ![32, 512, 4096]⟩ 0 8 c v3
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1)
          ∧ r.2.mem ((c.tc : Thread Cert.GradInIdeal.nD Cert.GradInIdeal.τ).loc Cert.GradInIdeal.main_arg2) = m ((c.tc : Thread Cert.GradInIdeal.nD Cert.GradInIdeal.τ).loc Cert.GradInIdeal.main_arg2)
          ∧ r.2.mem ((c.tc : Thread Cert.GradInIdeal.nD Cert.GradInIdeal.τ).loc Cert.GradInIdeal.main_arg3) = m ((c.tc : Thread Cert.GradInIdeal.nD Cert.GradInIdeal.τ).loc Cert.GradInIdeal.main_arg3)
          ∧ r.2.mem ((c.tc : Thread Cert.GradInIdeal.nD Cert.GradInIdeal.τ).loc Cert.GradInIdeal.main_arg4) = m ((c.tc : Thread Cert.GradInIdeal.nD Cert.GradInIdeal.τ).loc Cert.GradInIdeal.main_arg4))
      ∧ θ_run (Cert.GradInRefIdeal.defs (F := Ideal)) (onTc (τ := Cert.GradInRefIdeal.τ) (Cert.GradInRefIdeal.main (F := Ideal))) ⟨m', fun _ => 0, g'⟩ (fun r =>
          r.2.mem (((0 : Dev Cert.GradInRefIdeal.nD).tc : Thread Cert.GradInRefIdeal.nD Cert.GradInRefIdeal.τ).loc Cert.GradInRefIdeal.main_v6) = v0
          ∧ r.2.mem (((0 : Dev Cert.GradInRefIdeal.nD).tc : Thread Cert.GradInRefIdeal.nD Cert.GradInRefIdeal.τ).loc Cert.GradInRefIdeal.main_v17) = v1
          ∧ r.2.mem (((0 : Dev Cert.GradInRefIdeal.nD).tc : Thread Cert.GradInRefIdeal.nD Cert.GradInRefIdeal.τ).loc Cert.GradInRefIdeal.main_v28) = v2
          ∧ r.2.mem (((0 : Dev Cert.GradInRefIdeal.nD).tc : Thread Cert.GradInRefIdeal.nD Cert.GradInRefIdeal.τ).loc Cert.GradInRefIdeal.main_v39) = v3
          ∧ r.2.mem (((0 : Dev Cert.GradInRefIdeal.nD).tc : Thread Cert.GradInRefIdeal.nD Cert.GradInRefIdeal.τ).loc Cert.GradInRefIdeal.main_arg0) = m' (((0 : Dev Cert.GradInRefIdeal.nD).tc : Thread Cert.GradInRefIdeal.nD Cert.GradInRefIdeal.τ).loc Cert.GradInRefIdeal.main_arg0)
          ∧ r.2.mem (((0 : Dev Cert.GradInRefIdeal.nD).tc : Thread Cert.GradInRefIdeal.nD Cert.GradInRefIdeal.τ).loc Cert.GradInRefIdeal.main_arg1) = m' (((0 : Dev Cert.GradInRefIdeal.nD).tc : Thread Cert.GradInRefIdeal.nD Cert.GradInRefIdeal.τ).loc Cert.GradInRefIdeal.main_arg1)
          ∧ r.2.mem (((0 : Dev Cert.GradInRefIdeal.nD).tc : Thread Cert.GradInRefIdeal.nD Cert.GradInRefIdeal.τ).loc Cert.GradInRefIdeal.main_arg2) = m' (((0 : Dev Cert.GradInRefIdeal.nD).tc : Thread Cert.GradInRefIdeal.nD Cert.GradInRefIdeal.τ).loc Cert.GradInRefIdeal.main_arg2)
          ∧ r.2.mem (((0 : Dev Cert.GradInRefIdeal.nD).tc : Thread Cert.GradInRefIdeal.nD Cert.GradInRefIdeal.τ).loc Cert.GradInRefIdeal.main_arg3) = m' (((0 : Dev Cert.GradInRefIdeal.nD).tc : Thread Cert.GradInRefIdeal.nD Cert.GradInRefIdeal.τ).loc Cert.GradInRefIdeal.main_arg3)
          ∧ r.2.mem (((0 : Dev Cert.GradInRefIdeal.nD).tc : Thread Cert.GradInRefIdeal.nD Cert.GradInRefIdeal.τ).loc Cert.GradInRefIdeal.main_arg4) = m' (((0 : Dev Cert.GradInRefIdeal.nD).tc : Thread Cert.GradInRefIdeal.nD Cert.GradInRefIdeal.τ).loc Cert.GradInRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m ((c.tc : Thread Cert.ProjIdeal.nD Cert.ProjIdeal.τ).loc Cert.ProjIdeal.main_arg0) = Layout.block ⟨2, ![4096, 20480]⟩ ⟨2, ![32768, 20480]⟩ 0 8 c (m' (((0 : Dev Cert.ProjRefIdeal.nD).tc : Thread Cert.ProjRefIdeal.nD Cert.ProjRefIdeal.τ).loc Cert.ProjRefIdeal.main_arg0))
      ∧ m ((c.tc : Thread Cert.ProjIdeal.nD Cert.ProjIdeal.τ).loc Cert.ProjIdeal.main_arg1) = m' (((0 : Dev Cert.ProjRefIdeal.nD).tc : Thread Cert.ProjRefIdeal.nD Cert.ProjRefIdeal.τ).loc Cert.ProjRefIdeal.main_arg1)
      ∧ m ((c.tc : Thread Cert.ProjIdeal.nD Cert.ProjIdeal.τ).loc Cert.ProjIdeal.main_arg2) = Layout.block ⟨3, ![4, 4096, 2560]⟩ ⟨3, ![32, 4096, 2560]⟩ 0 8 c (m' (((0 : Dev Cert.ProjRefIdeal.nD).tc : Thread Cert.ProjRefIdeal.nD Cert.ProjRefIdeal.τ).loc Cert.ProjRefIdeal.main_arg2))
      ∧ m ((c.tc : Thread Cert.ProjIdeal.nD Cert.ProjIdeal.τ).loc Cert.ProjIdeal.main_arg3) = Layout.block ⟨3, ![4, 512, 256]⟩ ⟨3, ![32, 512, 256]⟩ 0 8 c (m' (((0 : Dev Cert.ProjRefIdeal.nD).tc : Thread Cert.ProjRefIdeal.nD Cert.ProjRefIdeal.τ).loc Cert.ProjRefIdeal.main_arg3))
      ∧ m ((c.tc : Thread Cert.ProjIdeal.nD Cert.ProjIdeal.τ).loc Cert.ProjIdeal.main_arg4) = Layout.block ⟨3, ![4, 512, 256]⟩ ⟨3, ![32, 512, 256]⟩ 0 8 c (m' (((0 : Dev Cert.ProjRefIdeal.nD).tc : Thread Cert.ProjRefIdeal.nD Cert.ProjRefIdeal.τ).loc Cert.ProjRefIdeal.main_arg4))) →
    ∃ (v0 : Buf (Elt Ideal) (((0 : Dev Cert.ProjRefIdeal.nD).tc : Thread Cert.ProjRefIdeal.nD Cert.ProjRefIdeal.τ).loc Cert.ProjRefIdeal.main_v3)) (v1 : Buf (Elt Ideal) (((0 : Dev Cert.ProjRefIdeal.nD).tc : Thread Cert.ProjRefIdeal.nD Cert.ProjRefIdeal.τ).loc Cert.ProjRefIdeal.main_v14)) (v2 : Buf (Elt Ideal) (((0 : Dev Cert.ProjRefIdeal.nD).tc : Thread Cert.ProjRefIdeal.nD Cert.ProjRefIdeal.τ).loc Cert.ProjRefIdeal.main_v25)) (v3 : Buf (Elt Ideal) (((0 : Dev Cert.ProjRefIdeal.nD).tc : Thread Cert.ProjRefIdeal.nD Cert.ProjRefIdeal.τ).loc Cert.ProjRefIdeal.main_v36)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = Layout.block ⟨2, ![4096, 4096]⟩ ⟨2, ![32768, 4096]⟩ 0 8 c v0
          ∧ r.2.mem ((c.tc : Thread Cert.ProjIdeal.nD Cert.ProjIdeal.τ).loc Cert.ProjIdeal.main_v1_1) = Layout.block ⟨3, ![4, 4096, 2560]⟩ ⟨3, ![32, 4096, 2560]⟩ 0 8 c v1
          ∧ r.2.mem ((c.tc : Thread Cert.ProjIdeal.nD Cert.ProjIdeal.τ).loc Cert.ProjIdeal.main_v1_2) = Layout.block ⟨3, ![4, 512, 256]⟩ ⟨3, ![32, 512, 256]⟩ 0 8 c v2
          ∧ r.2.mem ((c.tc : Thread Cert.ProjIdeal.nD Cert.ProjIdeal.τ).loc Cert.ProjIdeal.main_v1_3) = Layout.block ⟨3, ![4, 512, 256]⟩ ⟨3, ![32, 512, 256]⟩ 0 8 c v3
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r =>
          r.2.mem (((0 : Dev Cert.ProjRefIdeal.nD).tc : Thread Cert.ProjRefIdeal.nD Cert.ProjRefIdeal.τ).loc Cert.ProjRefIdeal.main_v3) = v0
          ∧ r.2.mem (((0 : Dev Cert.ProjRefIdeal.nD).tc : Thread Cert.ProjRefIdeal.nD Cert.ProjRefIdeal.τ).loc Cert.ProjRefIdeal.main_v14) = v1
          ∧ r.2.mem (((0 : Dev Cert.ProjRefIdeal.nD).tc : Thread Cert.ProjRefIdeal.nD Cert.ProjRefIdeal.τ).loc Cert.ProjRefIdeal.main_v25) = v2
          ∧ r.2.mem (((0 : Dev Cert.ProjRefIdeal.nD).tc : Thread Cert.ProjRefIdeal.nD Cert.ProjRefIdeal.τ).loc Cert.ProjRefIdeal.main_v36) = v3
          ∧ r.2.mem (((0 : Dev Cert.ProjRefIdeal.nD).tc : Thread Cert.ProjRefIdeal.nD Cert.ProjRefIdeal.τ).loc Cert.ProjRefIdeal.main_arg0) = m' (((0 : Dev Cert.ProjRefIdeal.nD).tc : Thread Cert.ProjRefIdeal.nD Cert.ProjRefIdeal.τ).loc Cert.ProjRefIdeal.main_arg0)
          ∧ r.2.mem (((0 : Dev Cert.ProjRefIdeal.nD).tc : Thread Cert.ProjRefIdeal.nD Cert.ProjRefIdeal.τ).loc Cert.ProjRefIdeal.main_arg1) = m' (((0 : Dev Cert.ProjRefIdeal.nD).tc : Thread Cert.ProjRefIdeal.nD Cert.ProjRefIdeal.τ).loc Cert.ProjRefIdeal.main_arg1)
          ∧ r.2.mem (((0 : Dev Cert.ProjRefIdeal.nD).tc : Thread Cert.ProjRefIdeal.nD Cert.ProjRefIdeal.τ).loc Cert.ProjRefIdeal.main_arg2) = m' (((0 : Dev Cert.ProjRefIdeal.nD).tc : Thread Cert.ProjRefIdeal.nD Cert.ProjRefIdeal.τ).loc Cert.ProjRefIdeal.main_arg2)
          ∧ r.2.mem (((0 : Dev Cert.ProjRefIdeal.nD).tc : Thread Cert.ProjRefIdeal.nD Cert.ProjRefIdeal.τ).loc Cert.ProjRefIdeal.main_arg3) = m' (((0 : Dev Cert.ProjRefIdeal.nD).tc : Thread Cert.ProjRefIdeal.nD Cert.ProjRefIdeal.τ).loc Cert.ProjRefIdeal.main_arg3)
          ∧ r.2.mem (((0 : Dev Cert.ProjRefIdeal.nD).tc : Thread Cert.ProjRefIdeal.nD Cert.ProjRefIdeal.τ).loc Cert.ProjRefIdeal.main_arg4) = m' (((0 : Dev Cert.ProjRefIdeal.nD).tc : Thread Cert.ProjRefIdeal.nD Cert.ProjRefIdeal.τ).loc Cert.ProjRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m ((c.tc : Thread Cert.DownIdeal.nD Cert.DownIdeal.τ).loc Cert.DownIdeal.main_arg0) = Layout.block ⟨2, ![4096, 4096]⟩ ⟨2, ![32768, 4096]⟩ 0 8 c (m' (((0 : Dev Cert.DownRefIdeal.nD).tc : Thread Cert.DownRefIdeal.nD Cert.DownRefIdeal.τ).loc Cert.DownRefIdeal.main_arg0))
      ∧ m ((c.tc : Thread Cert.DownIdeal.nD Cert.DownIdeal.τ).loc Cert.DownIdeal.main_arg1) = m' (((0 : Dev Cert.DownRefIdeal.nD).tc : Thread Cert.DownRefIdeal.nD Cert.DownRefIdeal.τ).loc Cert.DownRefIdeal.main_arg1)
      ∧ m ((c.tc : Thread Cert.DownIdeal.nD Cert.DownIdeal.τ).loc Cert.DownIdeal.main_arg2) = Layout.block ⟨4, ![4, 2, 1536, 4096]⟩ ⟨4, ![32, 2, 1536, 4096]⟩ 0 8 c (m' (((0 : Dev Cert.DownRefIdeal.nD).tc : Thread Cert.DownRefIdeal.nD Cert.DownRefIdeal.τ).loc Cert.DownRefIdeal.main_arg2))) →
    ∃ (v0 : Buf (Elt Ideal) (((0 : Dev Cert.DownRefIdeal.nD).tc : Thread Cert.DownRefIdeal.nD Cert.DownRefIdeal.τ).loc Cert.DownRefIdeal.main_v3)) (v1 : Buf (Elt Ideal) (((0 : Dev Cert.DownRefIdeal.nD).tc : Thread Cert.DownRefIdeal.nD Cert.DownRefIdeal.τ).loc Cert.DownRefIdeal.main_v8)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = Layout.block ⟨2, ![4096, 12288]⟩ ⟨2, ![32768, 12288]⟩ 0 8 c v0
          ∧ r.2.mem ((c.tc : Thread Cert.DownIdeal.nD Cert.DownIdeal.τ).loc Cert.DownIdeal.main_v1_1) = Layout.block ⟨3, ![4, 1536, 4096]⟩ ⟨3, ![32, 1536, 4096]⟩ 0 8 c v1
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r =>
          r.2.mem (((0 : Dev Cert.DownRefIdeal.nD).tc : Thread Cert.DownRefIdeal.nD Cert.DownRefIdeal.τ).loc Cert.DownRefIdeal.main_v3) = v0
          ∧ r.2.mem (((0 : Dev Cert.DownRefIdeal.nD).tc : Thread Cert.DownRefIdeal.nD Cert.DownRefIdeal.τ).loc Cert.DownRefIdeal.main_v8) = v1
          ∧ r.2.mem (((0 : Dev Cert.DownRefIdeal.nD).tc : Thread Cert.DownRefIdeal.nD Cert.DownRefIdeal.τ).loc Cert.DownRefIdeal.main_arg0) = m' (((0 : Dev Cert.DownRefIdeal.nD).tc : Thread Cert.DownRefIdeal.nD Cert.DownRefIdeal.τ).loc Cert.DownRefIdeal.main_arg0)
          ∧ r.2.mem (((0 : Dev Cert.DownRefIdeal.nD).tc : Thread Cert.DownRefIdeal.nD Cert.DownRefIdeal.τ).loc Cert.DownRefIdeal.main_arg1) = m' (((0 : Dev Cert.DownRefIdeal.nD).tc : Thread Cert.DownRefIdeal.nD Cert.DownRefIdeal.τ).loc Cert.DownRefIdeal.main_arg1)
          ∧ r.2.mem (((0 : Dev Cert.DownRefIdeal.nD).tc : Thread Cert.DownRefIdeal.nD Cert.DownRefIdeal.τ).loc Cert.DownRefIdeal.main_arg2) = m' (((0 : Dev Cert.DownRefIdeal.nD).tc : Thread Cert.DownRefIdeal.nD Cert.DownRefIdeal.τ).loc Cert.DownRefIdeal.main_arg2))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m ((c.tc : Thread Cert.MergedIdeal.nD Cert.MergedIdeal.τ).loc Cert.MergedIdeal.main_arg0) = Layout.block ⟨2, ![4096, 4096]⟩ ⟨2, ![32768, 4096]⟩ 0 8 c (m' (((0 : Dev Cert.MergedRefIdeal.nD).tc : Thread Cert.MergedRefIdeal.nD Cert.MergedRefIdeal.τ).loc Cert.MergedRefIdeal.main_arg0))
      ∧ m ((c.tc : Thread Cert.MergedIdeal.nD Cert.MergedIdeal.τ).loc Cert.MergedIdeal.main_arg1) = m' (((0 : Dev Cert.MergedRefIdeal.nD).tc : Thread Cert.MergedRefIdeal.nD Cert.MergedRefIdeal.τ).loc Cert.MergedRefIdeal.main_arg1)
      ∧ m ((c.tc : Thread Cert.MergedIdeal.nD Cert.MergedIdeal.τ).loc Cert.MergedIdeal.main_arg2) = Layout.block ⟨4, ![4, 2, 512, 4096]⟩ ⟨4, ![32, 2, 512, 4096]⟩ 0 8 c (m' (((0 : Dev Cert.MergedRefIdeal.nD).tc : Thread Cert.MergedRefIdeal.nD Cert.MergedRefIdeal.τ).loc Cert.MergedRefIdeal.main_arg2))) →
    ∃ (v0 : Buf (Elt Ideal) (((0 : Dev Cert.MergedRefIdeal.nD).tc : Thread Cert.MergedRefIdeal.nD Cert.MergedRefIdeal.τ).loc Cert.MergedRefIdeal.main_v3)) (v1 : Buf (Elt Ideal) (((0 : Dev Cert.MergedRefIdeal.nD).tc : Thread Cert.MergedRefIdeal.nD Cert.MergedRefIdeal.τ).loc Cert.MergedRefIdeal.main_v8)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v1_0) = Layout.block ⟨2, ![4096, 4096]⟩ ⟨2, ![32768, 4096]⟩ 0 8 c v0
          ∧ r.2.mem ((c.tc : Thread Cert.MergedIdeal.nD Cert.MergedIdeal.τ).loc Cert.MergedIdeal.main_v1_1) = Layout.block ⟨3, ![4, 512, 4096]⟩ ⟨3, ![32, 512, 4096]⟩ 0 8 c v1
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ θ_run (Cert.MergedRefIdeal.defs (F := Ideal)) (onTc (τ := Cert.MergedRefIdeal.τ) (Cert.MergedRefIdeal.main (F := Ideal))) ⟨m', fun _ => 0, g'⟩ (fun r =>
          r.2.mem (((0 : Dev Cert.MergedRefIdeal.nD).tc : Thread Cert.MergedRefIdeal.nD Cert.MergedRefIdeal.τ).loc Cert.MergedRefIdeal.main_v3) = v0
          ∧ r.2.mem (((0 : Dev Cert.MergedRefIdeal.nD).tc : Thread Cert.MergedRefIdeal.nD Cert.MergedRefIdeal.τ).loc Cert.MergedRefIdeal.main_v8) = v1
          ∧ r.2.mem (((0 : Dev Cert.MergedRefIdeal.nD).tc : Thread Cert.MergedRefIdeal.nD Cert.MergedRefIdeal.τ).loc Cert.MergedRefIdeal.main_arg0) = m' (((0 : Dev Cert.MergedRefIdeal.nD).tc : Thread Cert.MergedRefIdeal.nD Cert.MergedRefIdeal.τ).loc Cert.MergedRefIdeal.main_arg0)
          ∧ r.2.mem (((0 : Dev Cert.MergedRefIdeal.nD).tc : Thread Cert.MergedRefIdeal.nD Cert.MergedRefIdeal.τ).loc Cert.MergedRefIdeal.main_arg1) = m' (((0 : Dev Cert.MergedRefIdeal.nD).tc : Thread Cert.MergedRefIdeal.nD Cert.MergedRefIdeal.τ).loc Cert.MergedRefIdeal.main_arg1)
          ∧ r.2.mem (((0 : Dev Cert.MergedRefIdeal.nD).tc : Thread Cert.MergedRefIdeal.nD Cert.MergedRefIdeal.τ).loc Cert.MergedRefIdeal.main_arg2) = m' (((0 : Dev Cert.MergedRefIdeal.nD).tc : Thread Cert.MergedRefIdeal.nD Cert.MergedRefIdeal.τ).loc Cert.MergedRefIdeal.main_arg2))

def preserves_MixerA_MixerAIdeal : Prop :=
  True

def algebraic_MixerAIdeal_MixerARefIdeal [hMixerAIdeal : Cert.MixerAIdeal.Facts] [hMixerARefIdeal : Cert.MixerARefIdeal.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.MixerARefIdeal.nD Cert.MixerARefIdeal.τ Cert.MixerARefIdeal.sig) → Buf (Elt Ideal) ℓ) (g' : Dev Cert.MixerARefIdeal.nD → PrngReg), Pre_MixerAIdeal m →
    (∀ c : Dev Cert.MixerAIdeal.nD,
      m ((c.tc : Thread Cert.MixerAIdeal.nD Cert.MixerAIdeal.τ).loc Cert.MixerAIdeal.main_arg0) = Layout.block ⟨2, ![4096, 4096]⟩ ⟨2, ![32768, 4096]⟩ 0 8 c (m' (((0 : Dev Cert.MixerARefIdeal.nD).tc : Thread Cert.MixerARefIdeal.nD Cert.MixerARefIdeal.τ).loc Cert.MixerARefIdeal.main_arg0))
      ∧ m ((c.tc : Thread Cert.MixerAIdeal.nD Cert.MixerAIdeal.τ).loc Cert.MixerAIdeal.main_arg1) = m' (((0 : Dev Cert.MixerARefIdeal.nD).tc : Thread Cert.MixerARefIdeal.nD Cert.MixerARefIdeal.τ).loc Cert.MixerARefIdeal.main_arg1)
      ∧ m ((c.tc : Thread Cert.MixerAIdeal.nD Cert.MixerAIdeal.τ).loc Cert.MixerAIdeal.main_arg2) = Layout.block ⟨4, ![4, 2, 2048, 512]⟩ ⟨4, ![32, 2, 2048, 512]⟩ 0 8 c (m' (((0 : Dev Cert.MixerARefIdeal.nD).tc : Thread Cert.MixerARefIdeal.nD Cert.MixerARefIdeal.τ).loc Cert.MixerARefIdeal.main_arg2))
      ∧ m ((c.tc : Thread Cert.MixerAIdeal.nD Cert.MixerAIdeal.τ).loc Cert.MixerAIdeal.main_arg3) = Layout.block ⟨4, ![4, 2, 512, 4096]⟩ ⟨4, ![32, 2, 512, 4096]⟩ 0 8 c (m' (((0 : Dev Cert.MixerARefIdeal.nD).tc : Thread Cert.MixerARefIdeal.nD Cert.MixerARefIdeal.τ).loc Cert.MixerARefIdeal.main_arg3))) →
    ∃ (v0 : Buf (Elt Ideal) (((0 : Dev Cert.MixerARefIdeal.nD).tc : Thread Cert.MixerARefIdeal.nD Cert.MixerARefIdeal.τ).loc Cert.MixerARefIdeal.main_v3)) (v1 : Buf (Elt Ideal) (((0 : Dev Cert.MixerARefIdeal.nD).tc : Thread Cert.MixerARefIdeal.nD Cert.MixerARefIdeal.τ).loc Cert.MixerARefIdeal.main_v8)) (v2 : Buf (Elt Ideal) (((0 : Dev Cert.MixerARefIdeal.nD).tc : Thread Cert.MixerARefIdeal.nD Cert.MixerARefIdeal.τ).loc Cert.MixerARefIdeal.main_v13)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          r.2.mem ((c.tc : Thread Cert.MixerAIdeal.nD Cert.MixerAIdeal.τ).loc Cert.MixerAIdeal.main_v1_0) = Layout.block ⟨2, ![4096, 2048]⟩ ⟨2, ![32768, 2048]⟩ 0 8 c v0
          ∧ r.2.mem ((c.tc : Thread Cert.MixerAIdeal.nD Cert.MixerAIdeal.τ).loc Cert.MixerAIdeal.main_v1_1) = Layout.block ⟨3, ![4, 2048, 512]⟩ ⟨3, ![32, 2048, 512]⟩ 0 8 c v1
          ∧ r.2.mem ((c.tc : Thread Cert.MixerAIdeal.nD Cert.MixerAIdeal.τ).loc Cert.MixerAIdeal.main_v1_2) = Layout.block ⟨3, ![4, 512, 4096]⟩ ⟨3, ![32, 512, 4096]⟩ 0 8 c v2
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
          ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
          ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3))
      ∧ θ_run (Cert.MixerARefIdeal.defs (F := Ideal)) (onTc (τ := Cert.MixerARefIdeal.τ) (Cert.MixerARefIdeal.main (F := Ideal))) ⟨m', fun _ => 0, g'⟩ (fun r =>
          r.2.mem (((0 : Dev Cert.MixerARefIdeal.nD).tc : Thread Cert.MixerARefIdeal.nD Cert.MixerARefIdeal.τ).loc Cert.MixerARefIdeal.main_v3) = v0
          ∧ r.2.mem (((0 : Dev Cert.MixerARefIdeal.nD).tc : Thread Cert.MixerARefIdeal.nD Cert.MixerARefIdeal.τ).loc Cert.MixerARefIdeal.main_v8) = v1
          ∧ r.2.mem (((0 : Dev Cert.MixerARefIdeal.nD).tc : Thread Cert.MixerARefIdeal.nD Cert.MixerARefIdeal.τ).loc Cert.MixerARefIdeal.main_v13) = v2
          ∧ r.2.mem (((0 : Dev Cert.MixerARefIdeal.nD).tc : Thread Cert.MixerARefIdeal.nD Cert.MixerARefIdeal.τ).loc Cert.MixerARefIdeal.main_arg0) = m' (((0 : Dev Cert.MixerARefIdeal.nD).tc : Thread Cert.MixerARefIdeal.nD Cert.MixerARefIdeal.τ).loc Cert.MixerARefIdeal.main_arg0)
          ∧ r.2.mem (((0 : Dev Cert.MixerARefIdeal.nD).tc : Thread Cert.MixerARefIdeal.nD Cert.MixerARefIdeal.τ).loc Cert.MixerARefIdeal.main_arg1) = m' (((0 : Dev Cert.MixerARefIdeal.nD).tc : Thread Cert.MixerARefIdeal.nD Cert.MixerARefIdeal.τ).loc Cert.MixerARefIdeal.main_arg1)
          ∧ r.2.mem (((0 : Dev Cert.MixerARefIdeal.nD).tc : Thread Cert.MixerARefIdeal.nD Cert.MixerARefIdeal.τ).loc Cert.MixerARefIdeal.main_arg2) = m' (((0 : Dev Cert.MixerARefIdeal.nD).tc : Thread Cert.MixerARefIdeal.nD Cert.MixerARefIdeal.τ).loc Cert.MixerARefIdeal.main_arg2)
          ∧ r.2.mem (((0 : Dev Cert.MixerARefIdeal.nD).tc : Thread Cert.MixerARefIdeal.nD Cert.MixerARefIdeal.τ).loc Cert.MixerARefIdeal.main_arg3) = m' (((0 : Dev Cert.MixerARefIdeal.nD).tc : Thread Cert.MixerARefIdeal.nD Cert.MixerARefIdeal.τ).loc Cert.MixerARefIdeal.main_arg3))

def preserves_MixerB_MixerBIdeal : Prop :=
  True

def algebraic_MixerBIdeal_MixerBRefIdeal [hMixerBIdeal : Cert.MixerBIdeal.Facts] [hMixerBRefIdeal : Cert.MixerBRefIdeal.Facts] : Prop :=
  ∀ (m : (ℓ : Loc Cert.MixerBIdeal.nD Cert.MixerBIdeal.τ Cert.MixerBIdeal.sig) → Buf (Elt Ideal) ℓ) (g : Dev Cert.MixerBIdeal.nD → PrngReg)
    (m' : (ℓ : Loc Cert.MixerBRefIdeal.nD Cert.MixerBRefIdeal.τ Cert.MixerBRefIdeal.sig) → Buf (Elt Ideal) ℓ) (g' : Dev Cert.MixerBRefIdeal.nD → PrngReg), Pre_MixerBIdeal m →
    (∀ c : Dev Cert.MixerBIdeal.nD,
      m ((c.tc : Thread Cert.MixerBIdeal.nD Cert.MixerBIdeal.τ).loc Cert.MixerBIdeal.main_arg0) = Layout.block ⟨2, ![4096, 4096]⟩ ⟨2, ![32768, 4096]⟩ 0 8 c (m' (((0 : Dev Cert.MixerBRefIdeal.nD).tc : Thread Cert.MixerBRefIdeal.nD Cert.MixerBRefIdeal.τ).loc Cert.MixerBRefIdeal.main_arg0))
      ∧ m ((c.tc : Thread Cert.MixerBIdeal.nD Cert.MixerBIdeal.τ).loc Cert.MixerBIdeal.main_arg1) = m' (((0 : Dev Cert.MixerBRefIdeal.nD).tc : Thread Cert.MixerBRefIdeal.nD Cert.MixerBRefIdeal.τ).loc Cert.MixerBRefIdeal.main_arg1)
      ∧ m ((c.tc : Thread Cert.MixerBIdeal.nD Cert.MixerBIdeal.τ).loc Cert.MixerBIdeal.main_arg2) = Layout.block ⟨3, ![4, 512, 4096]⟩ ⟨3, ![32, 512, 4096]⟩ 0 8 c (m' (((0 : Dev Cert.MixerBRefIdeal.nD).tc : Thread Cert.MixerBRefIdeal.nD Cert.MixerBRefIdeal.τ).loc Cert.MixerBRefIdeal.main_arg2))) →
    ∃ (v0 : Buf (Elt Ideal) (((0 : Dev Cert.MixerBRefIdeal.nD).tc : Thread Cert.MixerBRefIdeal.nD Cert.MixerBRefIdeal.τ).loc Cert.MixerBRefIdeal.main_v3)) (v1 : Buf (Elt Ideal) (((0 : Dev Cert.MixerBRefIdeal.nD).tc : Thread Cert.MixerBRefIdeal.nD Cert.MixerBRefIdeal.τ).loc Cert.MixerBRefIdeal.main_v14)),
      θ_run (Cert.MixerBIdeal.defs (F := Ideal)) (onTc (τ := Cert.MixerBIdeal.τ) (Cert.MixerBIdeal.main (F := Ideal))) ⟨m, fun _ => 0, g⟩ (fun r => ∀ c : Dev Cert.MixerBIdeal.nD,
          r.2.mem ((c.tc : Thread Cert.MixerBIdeal.nD Cert.MixerBIdeal.τ).loc Cert.MixerBIdeal.main_v1_0) = Layout.block ⟨2, ![4096, 4096]⟩ ⟨2, ![32768, 4096]⟩ 0 8 c v0
          ∧ r.2.mem ((c.tc : Thread Cert.MixerBIdeal.nD Cert.MixerBIdeal.τ).loc Cert.MixerBIdeal.main_v1_1) = Layout.block ⟨3, ![4, 512, 4096]⟩ ⟨3, ![32, 512, 4096]⟩ 0 8 c v1
          ∧ r.2.mem ((c.tc : Thread Cert.MixerBIdeal.nD Cert.MixerBIdeal.τ).loc Cert.MixerBIdeal.main_arg0) = m ((c.tc : Thread Cert.MixerBIdeal.nD Cert.MixerBIdeal.τ).loc Cert.MixerBIdeal.main_arg0)
          ∧ r.2.mem ((c.tc : Thread Cert.MixerBIdeal.nD Cert.MixerBIdeal.τ).loc Cert.MixerBIdeal.main_arg1) = m ((c.tc : Thread Cert.MixerBIdeal.nD Cert.MixerBIdeal.τ).loc Cert.MixerBIdeal.main_arg1)
          ∧ r.2.mem ((c.tc : Thread Cert.MixerBIdeal.nD Cert.MixerBIdeal.τ).loc Cert.MixerBIdeal.main_arg2) = m ((c.tc : Thread Cert.MixerBIdeal.nD Cert.MixerBIdeal.τ).loc Cert.MixerBIdeal.main_arg2))
      ∧ θ_run (Cert.MixerBRefIdeal.defs (F := Ideal)) (onTc (τ := Cert.MixerBRefIdeal.τ) (Cert.MixerBRefIdeal.main (F := Ideal))) ⟨m', fun _ => 0, g'⟩ (fun r =>
          r.2.mem (((0 : Dev Cert.MixerBRefIdeal.nD).tc : Thread Cert.MixerBRefIdeal.nD Cert.MixerBRefIdeal.τ).loc Cert.MixerBRefIdeal.main_v3) = v0
          ∧ r.2.mem (((0 : Dev Cert.MixerBRefIdeal.nD).tc : Thread Cert.MixerBRefIdeal.nD Cert.MixerBRefIdeal.τ).loc Cert.MixerBRefIdeal.main_v14) = v1
          ∧ r.2.mem (((0 : Dev Cert.MixerBRefIdeal.nD).tc : Thread Cert.MixerBRefIdeal.nD Cert.MixerBRefIdeal.τ).loc Cert.MixerBRefIdeal.main_arg0) = m' (((0 : Dev Cert.MixerBRefIdeal.nD).tc : Thread Cert.MixerBRefIdeal.nD Cert.MixerBRefIdeal.τ).loc Cert.MixerBRefIdeal.main_arg0)
          ∧ r.2.mem (((0 : Dev Cert.MixerBRefIdeal.nD).tc : Thread Cert.MixerBRefIdeal.nD Cert.MixerBRefIdeal.τ).loc Cert.MixerBRefIdeal.main_arg1) = m' (((0 : Dev Cert.MixerBRefIdeal.nD).tc : Thread Cert.MixerBRefIdeal.nD Cert.MixerBRefIdeal.τ).loc Cert.MixerBRefIdeal.main_arg1)
          ∧ r.2.mem (((0 : Dev Cert.MixerBRefIdeal.nD).tc : Thread Cert.MixerBRefIdeal.nD Cert.MixerBRefIdeal.τ).loc Cert.MixerBRefIdeal.main_arg2) = m' (((0 : Dev Cert.MixerBRefIdeal.nD).tc : Thread Cert.MixerBRefIdeal.nD Cert.MixerBRefIdeal.τ).loc Cert.MixerBRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamSg_AdamSgIdeal : Prop :=
  True

def algebraic_AdamSgIdeal_AdamSgRefIdeal [hAdamSgIdeal : Cert.AdamSgIdeal.Facts] [hAdamSgRefIdeal : Cert.AdamSgRefIdeal.Facts] : Prop :=
  ∀ (m : (ℓ : Loc Cert.AdamSgIdeal.nD Cert.AdamSgIdeal.τ Cert.AdamSgIdeal.sig) → Buf (Elt Ideal) ℓ) (g : Dev Cert.AdamSgIdeal.nD → PrngReg)
    (m' : (ℓ : Loc Cert.AdamSgRefIdeal.nD Cert.AdamSgRefIdeal.τ Cert.AdamSgRefIdeal.sig) → Buf (Elt Ideal) ℓ) (g' : Dev Cert.AdamSgRefIdeal.nD → PrngReg), Pre_AdamSgIdeal m →
    (∀ c : Dev Cert.AdamSgIdeal.nD,
      m' ((c.tc : Thread Cert.AdamSgRefIdeal.nD Cert.AdamSgRefIdeal.τ).loc Cert.AdamSgRefIdeal.main_arg0) = m ((c.tc : Thread Cert.AdamSgIdeal.nD Cert.AdamSgIdeal.τ).loc Cert.AdamSgIdeal.main_arg0)
      ∧ m' ((c.tc : Thread Cert.AdamSgRefIdeal.nD Cert.AdamSgRefIdeal.τ).loc Cert.AdamSgRefIdeal.main_arg1) = m ((c.tc : Thread Cert.AdamSgIdeal.nD Cert.AdamSgIdeal.τ).loc Cert.AdamSgIdeal.main_arg1)
      ∧ m' ((c.tc : Thread Cert.AdamSgRefIdeal.nD Cert.AdamSgRefIdeal.τ).loc Cert.AdamSgRefIdeal.main_arg2) = m ((c.tc : Thread Cert.AdamSgIdeal.nD Cert.AdamSgIdeal.τ).loc Cert.AdamSgIdeal.main_arg2)
      ∧ m' ((c.tc : Thread Cert.AdamSgRefIdeal.nD Cert.AdamSgRefIdeal.τ).loc Cert.AdamSgRefIdeal.main_arg3) = m ((c.tc : Thread Cert.AdamSgIdeal.nD Cert.AdamSgIdeal.τ).loc Cert.AdamSgIdeal.main_arg3)) →
    ∃ (v0 : (c : Dev Cert.AdamSgIdeal.nD) → Buf (Elt Ideal) ((c.tc : Thread Cert.AdamSgIdeal.nD Cert.AdamSgIdeal.τ).loc Cert.AdamSgIdeal.main_v0_0)) (v1 : (c : Dev Cert.AdamSgIdeal.nD) → Buf (Elt Ideal) ((c.tc : Thread Cert.AdamSgIdeal.nD Cert.AdamSgIdeal.τ).loc Cert.AdamSgIdeal.main_v0_1)) (v2 : (c : Dev Cert.AdamSgIdeal.nD) → Buf (Elt Ideal) ((c.tc : Thread Cert.AdamSgIdeal.nD Cert.AdamSgIdeal.τ).loc Cert.AdamSgIdeal.main_v0_2)) (v3 : (c : Dev Cert.AdamSgIdeal.nD) → Buf (Elt Ideal) ((c.tc : Thread Cert.AdamSgIdeal.nD Cert.AdamSgIdeal.τ).loc Cert.AdamSgIdeal.main_v0_3)),
      θ_run (Cert.AdamSgIdeal.defs (F := Ideal)) (onTc (τ := Cert.AdamSgIdeal.τ) (Cert.AdamSgIdeal.main (F := Ideal))) ⟨m, fun _ => 0, g⟩ (fun r => ∀ c : Dev Cert.AdamSgIdeal.nD,
          r.2.mem ((c.tc : Thread Cert.AdamSgIdeal.nD Cert.AdamSgIdeal.τ).loc Cert.AdamSgIdeal.main_v0_0) = v0 c
          ∧ r.2.mem ((c.tc : Thread Cert.AdamSgIdeal.nD Cert.AdamSgIdeal.τ).loc Cert.AdamSgIdeal.main_v0_1) = v1 c
          ∧ r.2.mem ((c.tc : Thread Cert.AdamSgIdeal.nD Cert.AdamSgIdeal.τ).loc Cert.AdamSgIdeal.main_v0_2) = v2 c
          ∧ r.2.mem ((c.tc : Thread Cert.AdamSgIdeal.nD Cert.AdamSgIdeal.τ).loc Cert.AdamSgIdeal.main_v0_3) = v3 c
          ∧ r.2.mem ((c.tc : Thread Cert.AdamSgIdeal.nD Cert.AdamSgIdeal.τ).loc Cert.AdamSgIdeal.main_arg0) = m ((c.tc : Thread Cert.AdamSgIdeal.nD Cert.AdamSgIdeal.τ).loc Cert.AdamSgIdeal.main_arg0)
          ∧ r.2.mem ((c.tc : Thread Cert.AdamSgIdeal.nD Cert.AdamSgIdeal.τ).loc Cert.AdamSgIdeal.main_arg1) = m ((c.tc : Thread Cert.AdamSgIdeal.nD Cert.AdamSgIdeal.τ).loc Cert.AdamSgIdeal.main_arg1)
          ∧ r.2.mem ((c.tc : Thread Cert.AdamSgIdeal.nD Cert.AdamSgIdeal.τ).loc Cert.AdamSgIdeal.main_arg2) = m ((c.tc : Thread Cert.AdamSgIdeal.nD Cert.AdamSgIdeal.τ).loc Cert.AdamSgIdeal.main_arg2)
          ∧ r.2.mem ((c.tc : Thread Cert.AdamSgIdeal.nD Cert.AdamSgIdeal.τ).loc Cert.AdamSgIdeal.main_arg3) = m ((c.tc : Thread Cert.AdamSgIdeal.nD Cert.AdamSgIdeal.τ).loc Cert.AdamSgIdeal.main_arg3))
      ∧ θ_run (Cert.AdamSgRefIdeal.defs (F := Ideal)) (onTc (τ := Cert.AdamSgRefIdeal.τ) (Cert.AdamSgRefIdeal.main (F := Ideal))) ⟨m', fun _ => 0, g'⟩ (fun r => ∀ c : Dev Cert.AdamSgRefIdeal.nD,
          r.2.mem ((c.tc : Thread Cert.AdamSgRefIdeal.nD Cert.AdamSgRefIdeal.τ).loc Cert.AdamSgRefIdeal.main_v1) = v0 c
          ∧ r.2.mem ((c.tc : Thread Cert.AdamSgRefIdeal.nD Cert.AdamSgRefIdeal.τ).loc Cert.AdamSgRefIdeal.main_v25) = v1 c
          ∧ r.2.mem ((c.tc : Thread Cert.AdamSgRefIdeal.nD Cert.AdamSgRefIdeal.τ).loc Cert.AdamSgRefIdeal.main_v6) = v2 c
          ∧ r.2.mem ((c.tc : Thread Cert.AdamSgRefIdeal.nD Cert.AdamSgRefIdeal.τ).loc Cert.AdamSgRefIdeal.main_v12) = v3 c
          ∧ r.2.mem ((c.tc : Thread Cert.AdamSgRefIdeal.nD Cert.AdamSgRefIdeal.τ).loc Cert.AdamSgRefIdeal.main_arg0) = m' ((c.tc : Thread Cert.AdamSgRefIdeal.nD Cert.AdamSgRefIdeal.τ).loc Cert.AdamSgRefIdeal.main_arg0)
          ∧ r.2.mem ((c.tc : Thread Cert.AdamSgRefIdeal.nD Cert.AdamSgRefIdeal.τ).loc Cert.AdamSgRefIdeal.main_arg1) = m' ((c.tc : Thread Cert.AdamSgRefIdeal.nD Cert.AdamSgRefIdeal.τ).loc Cert.AdamSgRefIdeal.main_arg1)
          ∧ r.2.mem ((c.tc : Thread Cert.AdamSgRefIdeal.nD Cert.AdamSgRefIdeal.τ).loc Cert.AdamSgRefIdeal.main_arg2) = m' ((c.tc : Thread Cert.AdamSgRefIdeal.nD Cert.AdamSgRefIdeal.τ).loc Cert.AdamSgRefIdeal.main_arg2)
          ∧ r.2.mem ((c.tc : Thread Cert.AdamSgRefIdeal.nD Cert.AdamSgRefIdeal.τ).loc Cert.AdamSgRefIdeal.main_arg3) = m' ((c.tc : Thread Cert.AdamSgRefIdeal.nD Cert.AdamSgRefIdeal.τ).loc Cert.AdamSgRefIdeal.main_arg3))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v0_0)) (v1 : (c : Dev Cert.AdamRowsIdeal.nD) → Buf (Elt Ideal) ((c.tc : Thread Cert.AdamRowsIdeal.nD Cert.AdamRowsIdeal.τ).loc Cert.AdamRowsIdeal.main_v0_1)) (v2 : (c : Dev Cert.AdamRowsIdeal.nD) → Buf (Elt Ideal) ((c.tc : Thread Cert.AdamRowsIdeal.nD Cert.AdamRowsIdeal.τ).loc Cert.AdamRowsIdeal.main_v0_2)) (v3 : (c : Dev Cert.AdamRowsIdeal.nD) → Buf (Elt Ideal) ((c.tc : Thread Cert.AdamRowsIdeal.nD Cert.AdamRowsIdeal.τ).loc Cert.AdamRowsIdeal.main_v0_3)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v0_0) = v0 c
          ∧ r.2.mem ((c.tc : Thread Cert.AdamRowsIdeal.nD Cert.AdamRowsIdeal.τ).loc Cert.AdamRowsIdeal.main_v0_1) = v1 c
          ∧ r.2.mem ((c.tc : Thread Cert.AdamRowsIdeal.nD Cert.AdamRowsIdeal.τ).loc Cert.AdamRowsIdeal.main_v0_2) = v2 c
          ∧ r.2.mem ((c.tc : Thread Cert.AdamRowsIdeal.nD Cert.AdamRowsIdeal.τ).loc Cert.AdamRowsIdeal.main_v0_3) = v3 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v1) = v0 c
          ∧ r.2.mem ((c.tc : Thread Cert.AdamRowsRefIdeal.nD Cert.AdamRowsRefIdeal.τ).loc Cert.AdamRowsRefIdeal.main_v25) = v1 c
          ∧ r.2.mem ((c.tc : Thread Cert.AdamRowsRefIdeal.nD Cert.AdamRowsRefIdeal.τ).loc Cert.AdamRowsRefIdeal.main_v6) = v2 c
          ∧ r.2.mem ((c.tc : Thread Cert.AdamRowsRefIdeal.nD Cert.AdamRowsRefIdeal.τ).loc Cert.AdamRowsRefIdeal.main_v12) = v3 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamLru_AdamLruIdeal : Prop :=
  True

def algebraic_AdamLruIdeal_AdamLruRefIdeal [hAdamLruIdeal : Cert.AdamLruIdeal.Facts] [hAdamLruRefIdeal : Cert.AdamLruRefIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruRefIdeal.nD Cert.AdamLruRefIdeal.τ Cert.AdamLruRefIdeal.sig) → Buf (Elt Ideal) ℓ) (g' : Dev Cert.AdamLruRefIdeal.nD → PrngReg), Pre_AdamLruIdeal m →
    (∀ c : Dev Cert.AdamLruIdeal.nD,
      m' ((c.tc : Thread Cert.AdamLruRefIdeal.nD Cert.AdamLruRefIdeal.τ).loc Cert.AdamLruRefIdeal.main_arg0) = m ((c.tc : Thread Cert.AdamLruIdeal.nD Cert.AdamLruIdeal.τ).loc Cert.AdamLruIdeal.main_arg0)
      ∧ m' ((c.tc : Thread Cert.AdamLruRefIdeal.nD Cert.AdamLruRefIdeal.τ).loc Cert.AdamLruRefIdeal.main_arg1) = m ((c.tc : Thread Cert.AdamLruIdeal.nD Cert.AdamLruIdeal.τ).loc Cert.AdamLruIdeal.main_arg1)
      ∧ m' ((c.tc : Thread Cert.AdamLruRefIdeal.nD Cert.AdamLruRefIdeal.τ).loc Cert.AdamLruRefIdeal.main_arg2) = m ((c.tc : Thread Cert.AdamLruIdeal.nD Cert.AdamLruIdeal.τ).loc Cert.AdamLruIdeal.main_arg2)
      ∧ m' ((c.tc : Thread Cert.AdamLruRefIdeal.nD Cert.AdamLruRefIdeal.τ).loc Cert.AdamLruRefIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v0_0)) (v1 : (c : Dev Cert.AdamLruIdeal.nD) → Buf (Elt Ideal) ((c.tc : Thread Cert.AdamLruIdeal.nD Cert.AdamLruIdeal.τ).loc Cert.AdamLruIdeal.main_v0_1)) (v2 : (c : Dev Cert.AdamLruIdeal.nD) → Buf (Elt Ideal) ((c.tc : Thread Cert.AdamLruIdeal.nD Cert.AdamLruIdeal.τ).loc Cert.AdamLruIdeal.main_v0_2)) (v3 : (c : Dev Cert.AdamLruIdeal.nD) → Buf (Elt Ideal) ((c.tc : Thread Cert.AdamLruIdeal.nD Cert.AdamLruIdeal.τ).loc Cert.AdamLruIdeal.main_v0_3)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v0_0) = v0 c
          ∧ r.2.mem ((c.tc : Thread Cert.AdamLruIdeal.nD Cert.AdamLruIdeal.τ).loc Cert.AdamLruIdeal.main_v0_1) = v1 c
          ∧ r.2.mem ((c.tc : Thread Cert.AdamLruIdeal.nD Cert.AdamLruIdeal.τ).loc Cert.AdamLruIdeal.main_v0_2) = v2 c
          ∧ r.2.mem ((c.tc : Thread Cert.AdamLruIdeal.nD Cert.AdamLruIdeal.τ).loc Cert.AdamLruIdeal.main_v0_3) = v3 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruRefIdeal.defs (F := Ideal)) (onTc (τ := Cert.AdamLruRefIdeal.τ) (Cert.AdamLruRefIdeal.main (F := Ideal))) ⟨m', fun _ => 0, g'⟩ (fun r => ∀ c : Dev Cert.AdamLruRefIdeal.nD,
          r.2.mem ((c.tc : Thread Cert.AdamLruRefIdeal.nD Cert.AdamLruRefIdeal.τ).loc Cert.AdamLruRefIdeal.main_v1) = v0 c
          ∧ r.2.mem ((c.tc : Thread Cert.AdamLruRefIdeal.nD Cert.AdamLruRefIdeal.τ).loc Cert.AdamLruRefIdeal.main_v25) = v1 c
          ∧ r.2.mem ((c.tc : Thread Cert.AdamLruRefIdeal.nD Cert.AdamLruRefIdeal.τ).loc Cert.AdamLruRefIdeal.main_v6) = v2 c
          ∧ r.2.mem ((c.tc : Thread Cert.AdamLruRefIdeal.nD Cert.AdamLruRefIdeal.τ).loc Cert.AdamLruRefIdeal.main_v12) = v3 c
          ∧ r.2.mem ((c.tc : Thread Cert.AdamLruRefIdeal.nD Cert.AdamLruRefIdeal.τ).loc Cert.AdamLruRefIdeal.main_arg0) = m' ((c.tc : Thread Cert.AdamLruRefIdeal.nD Cert.AdamLruRefIdeal.τ).loc Cert.AdamLruRefIdeal.main_arg0)
          ∧ r.2.mem ((c.tc : Thread Cert.AdamLruRefIdeal.nD Cert.AdamLruRefIdeal.τ).loc Cert.AdamLruRefIdeal.main_arg1) = m' ((c.tc : Thread Cert.AdamLruRefIdeal.nD Cert.AdamLruRefIdeal.τ).loc Cert.AdamLruRefIdeal.main_arg1)
          ∧ r.2.mem ((c.tc : Thread Cert.AdamLruRefIdeal.nD Cert.AdamLruRefIdeal.τ).loc Cert.AdamLruRefIdeal.main_arg2) = m' ((c.tc : Thread Cert.AdamLruRefIdeal.nD Cert.AdamLruRefIdeal.τ).loc Cert.AdamLruRefIdeal.main_arg2)
          ∧ r.2.mem ((c.tc : Thread Cert.AdamLruRefIdeal.nD Cert.AdamLruRefIdeal.τ).loc Cert.AdamLruRefIdeal.main_arg3) = m' ((c.tc : Thread Cert.AdamLruRefIdeal.nD Cert.AdamLruRefIdeal.τ).loc Cert.AdamLruRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_SmallModel_SmallModelIdeal : Prop :=
  True

def algebraic_SmallModelIdeal_SmallModelRefIdeal [hSmallModelIdeal : Cert.SmallModelIdeal.Facts] [hSmallModelRefIdeal : Cert.SmallModelRefIdeal.Facts] : Prop :=
  ∀ (m : (ℓ : Loc Cert.SmallModelIdeal.nD Cert.SmallModelIdeal.τ Cert.SmallModelIdeal.sig) → Buf (Elt Ideal) ℓ) (g : Dev Cert.SmallModelIdeal.nD → PrngReg)
    (m' : (ℓ : Loc Cert.SmallModelRefIdeal.nD Cert.SmallModelRefIdeal.τ Cert.SmallModelRefIdeal.sig) → Buf (Elt Ideal) ℓ) (g' : Dev Cert.SmallModelRefIdeal.nD → PrngReg), Pre_SmallModelIdeal m →
    (∀ c : Dev Cert.SmallModelIdeal.nD,
      m' ((c.tc : Thread Cert.SmallModelRefIdeal.nD Cert.SmallModelRefIdeal.τ).loc Cert.SmallModelRefIdeal.main_arg0) = m ((c.tc : Thread Cert.SmallModelIdeal.nD Cert.SmallModelIdeal.τ).loc Cert.SmallModelIdeal.main_arg0)
      ∧ m' ((c.tc : Thread Cert.SmallModelRefIdeal.nD Cert.SmallModelRefIdeal.τ).loc Cert.SmallModelRefIdeal.main_arg1) = m ((c.tc : Thread Cert.SmallModelIdeal.nD Cert.SmallModelIdeal.τ).loc Cert.SmallModelIdeal.main_arg1)
      ∧ m' ((c.tc : Thread Cert.SmallModelRefIdeal.nD Cert.SmallModelRefIdeal.τ).loc Cert.SmallModelRefIdeal.main_arg2) = m ((c.tc : Thread Cert.SmallModelIdeal.nD Cert.SmallModelIdeal.τ).loc Cert.SmallModelIdeal.main_arg2)
      ∧ m' ((c.tc : Thread Cert.SmallModelRefIdeal.nD Cert.SmallModelRefIdeal.τ).loc Cert.SmallModelRefIdeal.main_arg3) = m ((c.tc : Thread Cert.SmallModelIdeal.nD Cert.SmallModelIdeal.τ).loc Cert.SmallModelIdeal.main_arg3)) →
    ∃ (v0 : (c : Dev Cert.SmallModelIdeal.nD) → Buf (Elt Ideal) ((c.tc : Thread Cert.SmallModelIdeal.nD Cert.SmallModelIdeal.τ).loc Cert.SmallModelIdeal.main_v0_0)) (v1 : (c : Dev Cert.SmallModelIdeal.nD) → Buf (Elt Ideal) ((c.tc : Thread Cert.SmallModelIdeal.nD Cert.SmallModelIdeal.τ).loc Cert.SmallModelIdeal.main_v0_1)) (v2 : (c : Dev Cert.SmallModelIdeal.nD) → Buf (Elt Ideal) ((c.tc : Thread Cert.SmallModelIdeal.nD Cert.SmallModelIdeal.τ).loc Cert.SmallModelIdeal.main_v0_2)) (v3 : (c : Dev Cert.SmallModelIdeal.nD) → Buf (Elt Ideal) ((c.tc : Thread Cert.SmallModelIdeal.nD Cert.SmallModelIdeal.τ).loc Cert.SmallModelIdeal.main_v0_3)),
      θ_run (Cert.SmallModelIdeal.defs (F := Ideal)) (onTc (τ := Cert.SmallModelIdeal.τ) (Cert.SmallModelIdeal.main (F := Ideal))) ⟨m, fun _ => 0, g⟩ (fun r => ∀ c : Dev Cert.SmallModelIdeal.nD,
          r.2.mem ((c.tc : Thread Cert.SmallModelIdeal.nD Cert.SmallModelIdeal.τ).loc Cert.SmallModelIdeal.main_v0_0) = v0 c
          ∧ r.2.mem ((c.tc : Thread Cert.SmallModelIdeal.nD Cert.SmallModelIdeal.τ).loc Cert.SmallModelIdeal.main_v0_1) = v1 c
          ∧ r.2.mem ((c.tc : Thread Cert.SmallModelIdeal.nD Cert.SmallModelIdeal.τ).loc Cert.SmallModelIdeal.main_v0_2) = v2 c
          ∧ r.2.mem ((c.tc : Thread Cert.SmallModelIdeal.nD Cert.SmallModelIdeal.τ).loc Cert.SmallModelIdeal.main_v0_3) = v3 c
          ∧ r.2.mem ((c.tc : Thread Cert.SmallModelIdeal.nD Cert.SmallModelIdeal.τ).loc Cert.SmallModelIdeal.main_arg0) = m ((c.tc : Thread Cert.SmallModelIdeal.nD Cert.SmallModelIdeal.τ).loc Cert.SmallModelIdeal.main_arg0)
          ∧ r.2.mem ((c.tc : Thread Cert.SmallModelIdeal.nD Cert.SmallModelIdeal.τ).loc Cert.SmallModelIdeal.main_arg1) = m ((c.tc : Thread Cert.SmallModelIdeal.nD Cert.SmallModelIdeal.τ).loc Cert.SmallModelIdeal.main_arg1)
          ∧ r.2.mem ((c.tc : Thread Cert.SmallModelIdeal.nD Cert.SmallModelIdeal.τ).loc Cert.SmallModelIdeal.main_arg2) = m ((c.tc : Thread Cert.SmallModelIdeal.nD Cert.SmallModelIdeal.τ).loc Cert.SmallModelIdeal.main_arg2)
          ∧ r.2.mem ((c.tc : Thread Cert.SmallModelIdeal.nD Cert.SmallModelIdeal.τ).loc Cert.SmallModelIdeal.main_arg3) = m ((c.tc : Thread Cert.SmallModelIdeal.nD Cert.SmallModelIdeal.τ).loc Cert.SmallModelIdeal.main_arg3))
      ∧ θ_run (Cert.SmallModelRefIdeal.defs (F := Ideal)) (onTc (τ := Cert.SmallModelRefIdeal.τ) (Cert.SmallModelRefIdeal.main (F := Ideal))) ⟨m', fun _ => 0, g'⟩ (fun r => ∀ c : Dev Cert.SmallModelRefIdeal.nD,
          r.2.mem ((c.tc : Thread Cert.SmallModelRefIdeal.nD Cert.SmallModelRefIdeal.τ).loc Cert.SmallModelRefIdeal.main_v0) = v0 c
          ∧ r.2.mem ((c.tc : Thread Cert.SmallModelRefIdeal.nD Cert.SmallModelRefIdeal.τ).loc Cert.SmallModelRefIdeal.main_v24) = v1 c
          ∧ r.2.mem ((c.tc : Thread Cert.SmallModelRefIdeal.nD Cert.SmallModelRefIdeal.τ).loc Cert.SmallModelRefIdeal.main_v5) = v2 c
          ∧ r.2.mem ((c.tc : Thread Cert.SmallModelRefIdeal.nD Cert.SmallModelRefIdeal.τ).loc Cert.SmallModelRefIdeal.main_v11) = v3 c
          ∧ r.2.mem ((c.tc : Thread Cert.SmallModelRefIdeal.nD Cert.SmallModelRefIdeal.τ).loc Cert.SmallModelRefIdeal.main_arg0) = m' ((c.tc : Thread Cert.SmallModelRefIdeal.nD Cert.SmallModelRefIdeal.τ).loc Cert.SmallModelRefIdeal.main_arg0)
          ∧ r.2.mem ((c.tc : Thread Cert.SmallModelRefIdeal.nD Cert.SmallModelRefIdeal.τ).loc Cert.SmallModelRefIdeal.main_arg1) = m' ((c.tc : Thread Cert.SmallModelRefIdeal.nD Cert.SmallModelRefIdeal.τ).loc Cert.SmallModelRefIdeal.main_arg1)
          ∧ r.2.mem ((c.tc : Thread Cert.SmallModelRefIdeal.nD Cert.SmallModelRefIdeal.τ).loc Cert.SmallModelRefIdeal.main_arg2) = m' ((c.tc : Thread Cert.SmallModelRefIdeal.nD Cert.SmallModelRefIdeal.τ).loc Cert.SmallModelRefIdeal.main_arg2)
          ∧ r.2.mem ((c.tc : Thread Cert.SmallModelRefIdeal.nD Cert.SmallModelRefIdeal.τ).loc Cert.SmallModelRefIdeal.main_arg3) = m' ((c.tc : Thread Cert.SmallModelRefIdeal.nD Cert.SmallModelRefIdeal.τ).loc Cert.SmallModelRefIdeal.main_arg3))

def preserves_SmallHalf_SmallHalfIdeal : Prop :=
  True

def algebraic_SmallHalfIdeal_SmallHalfRefIdeal [hSmallHalfIdeal : Cert.SmallHalfIdeal.Facts] [hSmallHalfRefIdeal : Cert.SmallHalfRefIdeal.Facts] : Prop :=
  ∀ (m : (ℓ : Loc Cert.SmallHalfIdeal.nD Cert.SmallHalfIdeal.τ Cert.SmallHalfIdeal.sig) → Buf (Elt Ideal) ℓ) (g : Dev Cert.SmallHalfIdeal.nD → PrngReg)
    (m' : (ℓ : Loc Cert.SmallHalfRefIdeal.nD Cert.SmallHalfRefIdeal.τ Cert.SmallHalfRefIdeal.sig) → Buf (Elt Ideal) ℓ) (g' : Dev Cert.SmallHalfRefIdeal.nD → PrngReg), Pre_SmallHalfIdeal m →
    (∀ c : Dev Cert.SmallHalfIdeal.nD,
      m' ((c.tc : Thread Cert.SmallHalfRefIdeal.nD Cert.SmallHalfRefIdeal.τ).loc Cert.SmallHalfRefIdeal.main_arg0) = m ((c.tc : Thread Cert.SmallHalfIdeal.nD Cert.SmallHalfIdeal.τ).loc Cert.SmallHalfIdeal.main_arg0)
      ∧ m' ((c.tc : Thread Cert.SmallHalfRefIdeal.nD Cert.SmallHalfRefIdeal.τ).loc Cert.SmallHalfRefIdeal.main_arg1) = m ((c.tc : Thread Cert.SmallHalfIdeal.nD Cert.SmallHalfIdeal.τ).loc Cert.SmallHalfIdeal.main_arg1)
      ∧ m' ((c.tc : Thread Cert.SmallHalfRefIdeal.nD Cert.SmallHalfRefIdeal.τ).loc Cert.SmallHalfRefIdeal.main_arg2) = m ((c.tc : Thread Cert.SmallHalfIdeal.nD Cert.SmallHalfIdeal.τ).loc Cert.SmallHalfIdeal.main_arg2)
      ∧ m' ((c.tc : Thread Cert.SmallHalfRefIdeal.nD Cert.SmallHalfRefIdeal.τ).loc Cert.SmallHalfRefIdeal.main_arg3) = m ((c.tc : Thread Cert.SmallHalfIdeal.nD Cert.SmallHalfIdeal.τ).loc Cert.SmallHalfIdeal.main_arg3)) →
    ∃ (v0 : (c : Dev Cert.SmallHalfIdeal.nD) → Buf (Elt Ideal) ((c.tc : Thread Cert.SmallHalfIdeal.nD Cert.SmallHalfIdeal.τ).loc Cert.SmallHalfIdeal.main_v0_0)) (v1 : (c : Dev Cert.SmallHalfIdeal.nD) → Buf (Elt Ideal) ((c.tc : Thread Cert.SmallHalfIdeal.nD Cert.SmallHalfIdeal.τ).loc Cert.SmallHalfIdeal.main_v0_1)) (v2 : (c : Dev Cert.SmallHalfIdeal.nD) → Buf (Elt Ideal) ((c.tc : Thread Cert.SmallHalfIdeal.nD Cert.SmallHalfIdeal.τ).loc Cert.SmallHalfIdeal.main_v0_2)) (v3 : (c : Dev Cert.SmallHalfIdeal.nD) → Buf (Elt Ideal) ((c.tc : Thread Cert.SmallHalfIdeal.nD Cert.SmallHalfIdeal.τ).loc Cert.SmallHalfIdeal.main_v0_3)),
      θ_run (Cert.SmallHalfIdeal.defs (F := Ideal)) (onTc (τ := Cert.SmallHalfIdeal.τ) (Cert.SmallHalfIdeal.main (F := Ideal))) ⟨m, fun _ => 0, g⟩ (fun r => ∀ c : Dev Cert.SmallHalfIdeal.nD,
          r.2.mem ((c.tc : Thread Cert.SmallHalfIdeal.nD Cert.SmallHalfIdeal.τ).loc Cert.SmallHalfIdeal.main_v0_0) = v0 c
          ∧ r.2.mem ((c.tc : Thread Cert.SmallHalfIdeal.nD Cert.SmallHalfIdeal.τ).loc Cert.SmallHalfIdeal.main_v0_1) = v1 c
          ∧ r.2.mem ((c.tc : Thread Cert.SmallHalfIdeal.nD Cert.SmallHalfIdeal.τ).loc Cert.SmallHalfIdeal.main_v0_2) = v2 c
          ∧ r.2.mem ((c.tc : Thread Cert.SmallHalfIdeal.nD Cert.SmallHalfIdeal.τ).loc Cert.SmallHalfIdeal.main_v0_3) = v3 c
          ∧ r.2.mem ((c.tc : Thread Cert.SmallHalfIdeal.nD Cert.SmallHalfIdeal.τ).loc Cert.SmallHalfIdeal.main_arg0) = m ((c.tc : Thread Cert.SmallHalfIdeal.nD Cert.SmallHalfIdeal.τ).loc Cert.SmallHalfIdeal.main_arg0)
          ∧ r.2.mem ((c.tc : Thread Cert.SmallHalfIdeal.nD Cert.SmallHalfIdeal.τ).loc Cert.SmallHalfIdeal.main_arg1) = m ((c.tc : Thread Cert.SmallHalfIdeal.nD Cert.SmallHalfIdeal.τ).loc Cert.SmallHalfIdeal.main_arg1)
          ∧ r.2.mem ((c.tc : Thread Cert.SmallHalfIdeal.nD Cert.SmallHalfIdeal.τ).loc Cert.SmallHalfIdeal.main_arg2) = m ((c.tc : Thread Cert.SmallHalfIdeal.nD Cert.SmallHalfIdeal.τ).loc Cert.SmallHalfIdeal.main_arg2)
          ∧ r.2.mem ((c.tc : Thread Cert.SmallHalfIdeal.nD Cert.SmallHalfIdeal.τ).loc Cert.SmallHalfIdeal.main_arg3) = m ((c.tc : Thread Cert.SmallHalfIdeal.nD Cert.SmallHalfIdeal.τ).loc Cert.SmallHalfIdeal.main_arg3))
      ∧ θ_run (Cert.SmallHalfRefIdeal.defs (F := Ideal)) (onTc (τ := Cert.SmallHalfRefIdeal.τ) (Cert.SmallHalfRefIdeal.main (F := Ideal))) ⟨m', fun _ => 0, g'⟩ (fun r => ∀ c : Dev Cert.SmallHalfRefIdeal.nD,
          r.2.mem ((c.tc : Thread Cert.SmallHalfRefIdeal.nD Cert.SmallHalfRefIdeal.τ).loc Cert.SmallHalfRefIdeal.main_v0) = v0 c
          ∧ r.2.mem ((c.tc : Thread Cert.SmallHalfRefIdeal.nD Cert.SmallHalfRefIdeal.τ).loc Cert.SmallHalfRefIdeal.main_v24) = v1 c
          ∧ r.2.mem ((c.tc : Thread Cert.SmallHalfRefIdeal.nD Cert.SmallHalfRefIdeal.τ).loc Cert.SmallHalfRefIdeal.main_v5) = v2 c
          ∧ r.2.mem ((c.tc : Thread Cert.SmallHalfRefIdeal.nD Cert.SmallHalfRefIdeal.τ).loc Cert.SmallHalfRefIdeal.main_v11) = v3 c
          ∧ r.2.mem ((c.tc : Thread Cert.SmallHalfRefIdeal.nD Cert.SmallHalfRefIdeal.τ).loc Cert.SmallHalfRefIdeal.main_arg0) = m' ((c.tc : Thread Cert.SmallHalfRefIdeal.nD Cert.SmallHalfRefIdeal.τ).loc Cert.SmallHalfRefIdeal.main_arg0)
          ∧ r.2.mem ((c.tc : Thread Cert.SmallHalfRefIdeal.nD Cert.SmallHalfRefIdeal.τ).loc Cert.SmallHalfRefIdeal.main_arg1) = m' ((c.tc : Thread Cert.SmallHalfRefIdeal.nD Cert.SmallHalfRefIdeal.τ).loc Cert.SmallHalfRefIdeal.main_arg1)
          ∧ r.2.mem ((c.tc : Thread Cert.SmallHalfRefIdeal.nD Cert.SmallHalfRefIdeal.τ).loc Cert.SmallHalfRefIdeal.main_arg2) = m' ((c.tc : Thread Cert.SmallHalfRefIdeal.nD Cert.SmallHalfRefIdeal.τ).loc Cert.SmallHalfRefIdeal.main_arg2)
          ∧ r.2.mem ((c.tc : Thread Cert.SmallHalfRefIdeal.nD Cert.SmallHalfRefIdeal.τ).loc Cert.SmallHalfRefIdeal.main_arg3) = m' ((c.tc : Thread Cert.SmallHalfRefIdeal.nD Cert.SmallHalfRefIdeal.τ).loc Cert.SmallHalfRefIdeal.main_arg3))

def preserves_SmallFfn_SmallFfnIdeal : Prop :=
  True

def algebraic_SmallFfnIdeal_SmallFfnRefIdeal [hSmallFfnIdeal : Cert.SmallFfnIdeal.Facts] [hSmallFfnRefIdeal : Cert.SmallFfnRefIdeal.Facts] : Prop :=
  ∀ (m : (ℓ : Loc Cert.SmallFfnIdeal.nD Cert.SmallFfnIdeal.τ Cert.SmallFfnIdeal.sig) → Buf (Elt Ideal) ℓ) (g : Dev Cert.SmallFfnIdeal.nD → PrngReg)
    (m' : (ℓ : Loc Cert.SmallFfnRefIdeal.nD Cert.SmallFfnRefIdeal.τ Cert.SmallFfnRefIdeal.sig) → Buf (Elt Ideal) ℓ) (g' : Dev Cert.SmallFfnRefIdeal.nD → PrngReg), Pre_SmallFfnIdeal m →
    (∀ c : Dev Cert.SmallFfnIdeal.nD,
      m' ((c.tc : Thread Cert.SmallFfnRefIdeal.nD Cert.SmallFfnRefIdeal.τ).loc Cert.SmallFfnRefIdeal.main_arg0) = m ((c.tc : Thread Cert.SmallFfnIdeal.nD Cert.SmallFfnIdeal.τ).loc Cert.SmallFfnIdeal.main_arg0)
      ∧ m' ((c.tc : Thread Cert.SmallFfnRefIdeal.nD Cert.SmallFfnRefIdeal.τ).loc Cert.SmallFfnRefIdeal.main_arg1) = m ((c.tc : Thread Cert.SmallFfnIdeal.nD Cert.SmallFfnIdeal.τ).loc Cert.SmallFfnIdeal.main_arg1)
      ∧ m' ((c.tc : Thread Cert.SmallFfnRefIdeal.nD Cert.SmallFfnRefIdeal.τ).loc Cert.SmallFfnRefIdeal.main_arg2) = m ((c.tc : Thread Cert.SmallFfnIdeal.nD Cert.SmallFfnIdeal.τ).loc Cert.SmallFfnIdeal.main_arg2)
      ∧ m' ((c.tc : Thread Cert.SmallFfnRefIdeal.nD Cert.SmallFfnRefIdeal.τ).loc Cert.SmallFfnRefIdeal.main_arg3) = m ((c.tc : Thread Cert.SmallFfnIdeal.nD Cert.SmallFfnIdeal.τ).loc Cert.SmallFfnIdeal.main_arg3)) →
    ∃ (v0 : (c : Dev Cert.SmallFfnIdeal.nD) → Buf (Elt Ideal) ((c.tc : Thread Cert.SmallFfnIdeal.nD Cert.SmallFfnIdeal.τ).loc Cert.SmallFfnIdeal.main_v0_0)) (v1 : (c : Dev Cert.SmallFfnIdeal.nD) → Buf (Elt Ideal) ((c.tc : Thread Cert.SmallFfnIdeal.nD Cert.SmallFfnIdeal.τ).loc Cert.SmallFfnIdeal.main_v0_1)) (v2 : (c : Dev Cert.SmallFfnIdeal.nD) → Buf (Elt Ideal) ((c.tc : Thread Cert.SmallFfnIdeal.nD Cert.SmallFfnIdeal.τ).loc Cert.SmallFfnIdeal.main_v0_2)) (v3 : (c : Dev Cert.SmallFfnIdeal.nD) → Buf (Elt Ideal) ((c.tc : Thread Cert.SmallFfnIdeal.nD Cert.SmallFfnIdeal.τ).loc Cert.SmallFfnIdeal.main_v0_3)),
      θ_run (Cert.SmallFfnIdeal.defs (F := Ideal)) (onTc (τ := Cert.SmallFfnIdeal.τ) (Cert.SmallFfnIdeal.main (F := Ideal))) ⟨m, fun _ => 0, g⟩ (fun r => ∀ c : Dev Cert.SmallFfnIdeal.nD,
          r.2.mem ((c.tc : Thread Cert.SmallFfnIdeal.nD Cert.SmallFfnIdeal.τ).loc Cert.SmallFfnIdeal.main_v0_0) = v0 c
          ∧ r.2.mem ((c.tc : Thread Cert.SmallFfnIdeal.nD Cert.SmallFfnIdeal.τ).loc Cert.SmallFfnIdeal.main_v0_1) = v1 c
          ∧ r.2.mem ((c.tc : Thread Cert.SmallFfnIdeal.nD Cert.SmallFfnIdeal.τ).loc Cert.SmallFfnIdeal.main_v0_2) = v2 c
          ∧ r.2.mem ((c.tc : Thread Cert.SmallFfnIdeal.nD Cert.SmallFfnIdeal.τ).loc Cert.SmallFfnIdeal.main_v0_3) = v3 c
          ∧ r.2.mem ((c.tc : Thread Cert.SmallFfnIdeal.nD Cert.SmallFfnIdeal.τ).loc Cert.SmallFfnIdeal.main_arg0) = m ((c.tc : Thread Cert.SmallFfnIdeal.nD Cert.SmallFfnIdeal.τ).loc Cert.SmallFfnIdeal.main_arg0)
          ∧ r.2.mem ((c.tc : Thread Cert.SmallFfnIdeal.nD Cert.SmallFfnIdeal.τ).loc Cert.SmallFfnIdeal.main_arg1) = m ((c.tc : Thread Cert.SmallFfnIdeal.nD Cert.SmallFfnIdeal.τ).loc Cert.SmallFfnIdeal.main_arg1)
          ∧ r.2.mem ((c.tc : Thread Cert.SmallFfnIdeal.nD Cert.SmallFfnIdeal.τ).loc Cert.SmallFfnIdeal.main_arg2) = m ((c.tc : Thread Cert.SmallFfnIdeal.nD Cert.SmallFfnIdeal.τ).loc Cert.SmallFfnIdeal.main_arg2)
          ∧ r.2.mem ((c.tc : Thread Cert.SmallFfnIdeal.nD Cert.SmallFfnIdeal.τ).loc Cert.SmallFfnIdeal.main_arg3) = m ((c.tc : Thread Cert.SmallFfnIdeal.nD Cert.SmallFfnIdeal.τ).loc Cert.SmallFfnIdeal.main_arg3))
      ∧ θ_run (Cert.SmallFfnRefIdeal.defs (F := Ideal)) (onTc (τ := Cert.SmallFfnRefIdeal.τ) (Cert.SmallFfnRefIdeal.main (F := Ideal))) ⟨m', fun _ => 0, g'⟩ (fun r => ∀ c : Dev Cert.SmallFfnRefIdeal.nD,
          r.2.mem ((c.tc : Thread Cert.SmallFfnRefIdeal.nD Cert.SmallFfnRefIdeal.τ).loc Cert.SmallFfnRefIdeal.main_v0) = v0 c
          ∧ r.2.mem ((c.tc : Thread Cert.SmallFfnRefIdeal.nD Cert.SmallFfnRefIdeal.τ).loc Cert.SmallFfnRefIdeal.main_v24) = v1 c
          ∧ r.2.mem ((c.tc : Thread Cert.SmallFfnRefIdeal.nD Cert.SmallFfnRefIdeal.τ).loc Cert.SmallFfnRefIdeal.main_v5) = v2 c
          ∧ r.2.mem ((c.tc : Thread Cert.SmallFfnRefIdeal.nD Cert.SmallFfnRefIdeal.τ).loc Cert.SmallFfnRefIdeal.main_v11) = v3 c
          ∧ r.2.mem ((c.tc : Thread Cert.SmallFfnRefIdeal.nD Cert.SmallFfnRefIdeal.τ).loc Cert.SmallFfnRefIdeal.main_arg0) = m' ((c.tc : Thread Cert.SmallFfnRefIdeal.nD Cert.SmallFfnRefIdeal.τ).loc Cert.SmallFfnRefIdeal.main_arg0)
          ∧ r.2.mem ((c.tc : Thread Cert.SmallFfnRefIdeal.nD Cert.SmallFfnRefIdeal.τ).loc Cert.SmallFfnRefIdeal.main_arg1) = m' ((c.tc : Thread Cert.SmallFfnRefIdeal.nD Cert.SmallFfnRefIdeal.τ).loc Cert.SmallFfnRefIdeal.main_arg1)
          ∧ r.2.mem ((c.tc : Thread Cert.SmallFfnRefIdeal.nD Cert.SmallFfnRefIdeal.τ).loc Cert.SmallFfnRefIdeal.main_arg2) = m' ((c.tc : Thread Cert.SmallFfnRefIdeal.nD Cert.SmallFfnRefIdeal.τ).loc Cert.SmallFfnRefIdeal.main_arg2)
          ∧ r.2.mem ((c.tc : Thread Cert.SmallFfnRefIdeal.nD Cert.SmallFfnRefIdeal.τ).loc Cert.SmallFfnRefIdeal.main_arg3) = m' ((c.tc : Thread Cert.SmallFfnRefIdeal.nD Cert.SmallFfnRefIdeal.τ).loc Cert.SmallFfnRefIdeal.main_arg3))

def preserves_SmallMix_SmallMixIdeal : Prop :=
  True

def algebraic_SmallMixIdeal_SmallMixRefIdeal [hSmallMixIdeal : Cert.SmallMixIdeal.Facts] [hSmallMixRefIdeal : Cert.SmallMixRefIdeal.Facts] : Prop :=
  ∀ (m : (ℓ : Loc Cert.SmallMixIdeal.nD Cert.SmallMixIdeal.τ Cert.SmallMixIdeal.sig) → Buf (Elt Ideal) ℓ) (g : Dev Cert.SmallMixIdeal.nD → PrngReg)
    (m' : (ℓ : Loc Cert.SmallMixRefIdeal.nD Cert.SmallMixRefIdeal.τ Cert.SmallMixRefIdeal.sig) → Buf (Elt Ideal) ℓ) (g' : Dev Cert.SmallMixRefIdeal.nD → PrngReg), Pre_SmallMixIdeal m →
    (∀ c : Dev Cert.SmallMixIdeal.nD,
      m' ((c.tc : Thread Cert.SmallMixRefIdeal.nD Cert.SmallMixRefIdeal.τ).loc Cert.SmallMixRefIdeal.main_arg0) = m ((c.tc : Thread Cert.SmallMixIdeal.nD Cert.SmallMixIdeal.τ).loc Cert.SmallMixIdeal.main_arg0)
      ∧ m' ((c.tc : Thread Cert.SmallMixRefIdeal.nD Cert.SmallMixRefIdeal.τ).loc Cert.SmallMixRefIdeal.main_arg1) = m ((c.tc : Thread Cert.SmallMixIdeal.nD Cert.SmallMixIdeal.τ).loc Cert.SmallMixIdeal.main_arg1)
      ∧ m' ((c.tc : Thread Cert.SmallMixRefIdeal.nD Cert.SmallMixRefIdeal.τ).loc Cert.SmallMixRefIdeal.main_arg2) = m ((c.tc : Thread Cert.SmallMixIdeal.nD Cert.SmallMixIdeal.τ).loc Cert.SmallMixIdeal.main_arg2)
      ∧ m' ((c.tc : Thread Cert.SmallMixRefIdeal.nD Cert.SmallMixRefIdeal.τ).loc Cert.SmallMixRefIdeal.main_arg3) = m ((c.tc : Thread Cert.SmallMixIdeal.nD Cert.SmallMixIdeal.τ).loc Cert.SmallMixIdeal.main_arg3)) →
    ∃ (v0 : (c : Dev Cert.SmallMixIdeal.nD) → Buf (Elt Ideal) ((c.tc : Thread Cert.SmallMixIdeal.nD Cert.SmallMixIdeal.τ).loc Cert.SmallMixIdeal.main_v0_0)) (v1 : (c : Dev Cert.SmallMixIdeal.nD) → Buf (Elt Ideal) ((c.tc : Thread Cert.SmallMixIdeal.nD Cert.SmallMixIdeal.τ).loc Cert.SmallMixIdeal.main_v0_1)) (v2 : (c : Dev Cert.SmallMixIdeal.nD) → Buf (Elt Ideal) ((c.tc : Thread Cert.SmallMixIdeal.nD Cert.SmallMixIdeal.τ).loc Cert.SmallMixIdeal.main_v0_2)) (v3 : (c : Dev Cert.SmallMixIdeal.nD) → Buf (Elt Ideal) ((c.tc : Thread Cert.SmallMixIdeal.nD Cert.SmallMixIdeal.τ).loc Cert.SmallMixIdeal.main_v0_3)),
      θ_run (Cert.SmallMixIdeal.defs (F := Ideal)) (onTc (τ := Cert.SmallMixIdeal.τ) (Cert.SmallMixIdeal.main (F := Ideal))) ⟨m, fun _ => 0, g⟩ (fun r => ∀ c : Dev Cert.SmallMixIdeal.nD,
          r.2.mem ((c.tc : Thread Cert.SmallMixIdeal.nD Cert.SmallMixIdeal.τ).loc Cert.SmallMixIdeal.main_v0_0) = v0 c
          ∧ r.2.mem ((c.tc : Thread Cert.SmallMixIdeal.nD Cert.SmallMixIdeal.τ).loc Cert.SmallMixIdeal.main_v0_1) = v1 c
          ∧ r.2.mem ((c.tc : Thread Cert.SmallMixIdeal.nD Cert.SmallMixIdeal.τ).loc Cert.SmallMixIdeal.main_v0_2) = v2 c
          ∧ r.2.mem ((c.tc : Thread Cert.SmallMixIdeal.nD Cert.SmallMixIdeal.τ).loc Cert.SmallMixIdeal.main_v0_3) = v3 c
          ∧ r.2.mem ((c.tc : Thread Cert.SmallMixIdeal.nD Cert.SmallMixIdeal.τ).loc Cert.SmallMixIdeal.main_arg0) = m ((c.tc : Thread Cert.SmallMixIdeal.nD Cert.SmallMixIdeal.τ).loc Cert.SmallMixIdeal.main_arg0)
          ∧ r.2.mem ((c.tc : Thread Cert.SmallMixIdeal.nD Cert.SmallMixIdeal.τ).loc Cert.SmallMixIdeal.main_arg1) = m ((c.tc : Thread Cert.SmallMixIdeal.nD Cert.SmallMixIdeal.τ).loc Cert.SmallMixIdeal.main_arg1)
          ∧ r.2.mem ((c.tc : Thread Cert.SmallMixIdeal.nD Cert.SmallMixIdeal.τ).loc Cert.SmallMixIdeal.main_arg2) = m ((c.tc : Thread Cert.SmallMixIdeal.nD Cert.SmallMixIdeal.τ).loc Cert.SmallMixIdeal.main_arg2)
          ∧ r.2.mem ((c.tc : Thread Cert.SmallMixIdeal.nD Cert.SmallMixIdeal.τ).loc Cert.SmallMixIdeal.main_arg3) = m ((c.tc : Thread Cert.SmallMixIdeal.nD Cert.SmallMixIdeal.τ).loc Cert.SmallMixIdeal.main_arg3))
      ∧ θ_run (Cert.SmallMixRefIdeal.defs (F := Ideal)) (onTc (τ := Cert.SmallMixRefIdeal.τ) (Cert.SmallMixRefIdeal.main (F := Ideal))) ⟨m', fun _ => 0, g'⟩ (fun r => ∀ c : Dev Cert.SmallMixRefIdeal.nD,
          r.2.mem ((c.tc : Thread Cert.SmallMixRefIdeal.nD Cert.SmallMixRefIdeal.τ).loc Cert.SmallMixRefIdeal.main_v0) = v0 c
          ∧ r.2.mem ((c.tc : Thread Cert.SmallMixRefIdeal.nD Cert.SmallMixRefIdeal.τ).loc Cert.SmallMixRefIdeal.main_v24) = v1 c
          ∧ r.2.mem ((c.tc : Thread Cert.SmallMixRefIdeal.nD Cert.SmallMixRefIdeal.τ).loc Cert.SmallMixRefIdeal.main_v5) = v2 c
          ∧ r.2.mem ((c.tc : Thread Cert.SmallMixRefIdeal.nD Cert.SmallMixRefIdeal.τ).loc Cert.SmallMixRefIdeal.main_v11) = v3 c
          ∧ r.2.mem ((c.tc : Thread Cert.SmallMixRefIdeal.nD Cert.SmallMixRefIdeal.τ).loc Cert.SmallMixRefIdeal.main_arg0) = m' ((c.tc : Thread Cert.SmallMixRefIdeal.nD Cert.SmallMixRefIdeal.τ).loc Cert.SmallMixRefIdeal.main_arg0)
          ∧ r.2.mem ((c.tc : Thread Cert.SmallMixRefIdeal.nD Cert.SmallMixRefIdeal.τ).loc Cert.SmallMixRefIdeal.main_arg1) = m' ((c.tc : Thread Cert.SmallMixRefIdeal.nD Cert.SmallMixRefIdeal.τ).loc Cert.SmallMixRefIdeal.main_arg1)
          ∧ r.2.mem ((c.tc : Thread Cert.SmallMixRefIdeal.nD Cert.SmallMixRefIdeal.τ).loc Cert.SmallMixRefIdeal.main_arg2) = m' ((c.tc : Thread Cert.SmallMixRefIdeal.nD Cert.SmallMixRefIdeal.τ).loc Cert.SmallMixRefIdeal.main_arg2)
          ∧ r.2.mem ((c.tc : Thread Cert.SmallMixRefIdeal.nD Cert.SmallMixRefIdeal.τ).loc Cert.SmallMixRefIdeal.main_arg3) = m' ((c.tc : Thread Cert.SmallMixRefIdeal.nD Cert.SmallMixRefIdeal.τ).loc Cert.SmallMixRefIdeal.main_arg3))

def preserves_SmallBias_SmallBiasIdeal : Prop :=
  True

def algebraic_SmallBiasIdeal_SmallBiasRefIdeal [hSmallBiasIdeal : Cert.SmallBiasIdeal.Facts] [hSmallBiasRefIdeal : Cert.SmallBiasRefIdeal.Facts] : Prop :=
  ∀ (m : (ℓ : Loc Cert.SmallBiasIdeal.nD Cert.SmallBiasIdeal.τ Cert.SmallBiasIdeal.sig) → Buf (Elt Ideal) ℓ) (g : Dev Cert.SmallBiasIdeal.nD → PrngReg)
    (m' : (ℓ : Loc Cert.SmallBiasRefIdeal.nD Cert.SmallBiasRefIdeal.τ Cert.SmallBiasRefIdeal.sig) → Buf (Elt Ideal) ℓ) (g' : Dev Cert.SmallBiasRefIdeal.nD → PrngReg), Pre_SmallBiasIdeal m →
    (∀ c : Dev Cert.SmallBiasIdeal.nD,
      m' ((c.tc : Thread Cert.SmallBiasRefIdeal.nD Cert.SmallBiasRefIdeal.τ).loc Cert.SmallBiasRefIdeal.main_arg0) = m ((c.tc : Thread Cert.SmallBiasIdeal.nD Cert.SmallBiasIdeal.τ).loc Cert.SmallBiasIdeal.main_arg0)
      ∧ m' ((c.tc : Thread Cert.SmallBiasRefIdeal.nD Cert.SmallBiasRefIdeal.τ).loc Cert.SmallBiasRefIdeal.main_arg1) = m ((c.tc : Thread Cert.SmallBiasIdeal.nD Cert.SmallBiasIdeal.τ).loc Cert.SmallBiasIdeal.main_arg1)
      ∧ m' ((c.tc : Thread Cert.SmallBiasRefIdeal.nD Cert.SmallBiasRefIdeal.τ).loc Cert.SmallBiasRefIdeal.main_arg2) = m ((c.tc : Thread Cert.SmallBiasIdeal.nD Cert.SmallBiasIdeal.τ).loc Cert.SmallBiasIdeal.main_arg2)
      ∧ m' ((c.tc : Thread Cert.SmallBiasRefIdeal.nD Cert.SmallBiasRefIdeal.τ).loc Cert.SmallBiasRefIdeal.main_arg3) = m ((c.tc : Thread Cert.SmallBiasIdeal.nD Cert.SmallBiasIdeal.τ).loc Cert.SmallBiasIdeal.main_arg3)) →
    ∃ (v0 : (c : Dev Cert.SmallBiasIdeal.nD) → Buf (Elt Ideal) ((c.tc : Thread Cert.SmallBiasIdeal.nD Cert.SmallBiasIdeal.τ).loc Cert.SmallBiasIdeal.main_v0_0)) (v1 : (c : Dev Cert.SmallBiasIdeal.nD) → Buf (Elt Ideal) ((c.tc : Thread Cert.SmallBiasIdeal.nD Cert.SmallBiasIdeal.τ).loc Cert.SmallBiasIdeal.main_v0_1)) (v2 : (c : Dev Cert.SmallBiasIdeal.nD) → Buf (Elt Ideal) ((c.tc : Thread Cert.SmallBiasIdeal.nD Cert.SmallBiasIdeal.τ).loc Cert.SmallBiasIdeal.main_v0_2)) (v3 : (c : Dev Cert.SmallBiasIdeal.nD) → Buf (Elt Ideal) ((c.tc : Thread Cert.SmallBiasIdeal.nD Cert.SmallBiasIdeal.τ).loc Cert.SmallBiasIdeal.main_v0_3)),
      θ_run (Cert.SmallBiasIdeal.defs (F := Ideal)) (onTc (τ := Cert.SmallBiasIdeal.τ) (Cert.SmallBiasIdeal.main (F := Ideal))) ⟨m, fun _ => 0, g⟩ (fun r => ∀ c : Dev Cert.SmallBiasIdeal.nD,
          r.2.mem ((c.tc : Thread Cert.SmallBiasIdeal.nD Cert.SmallBiasIdeal.τ).loc Cert.SmallBiasIdeal.main_v0_0) = v0 c
          ∧ r.2.mem ((c.tc : Thread Cert.SmallBiasIdeal.nD Cert.SmallBiasIdeal.τ).loc Cert.SmallBiasIdeal.main_v0_1) = v1 c
          ∧ r.2.mem ((c.tc : Thread Cert.SmallBiasIdeal.nD Cert.SmallBiasIdeal.τ).loc Cert.SmallBiasIdeal.main_v0_2) = v2 c
          ∧ r.2.mem ((c.tc : Thread Cert.SmallBiasIdeal.nD Cert.SmallBiasIdeal.τ).loc Cert.SmallBiasIdeal.main_v0_3) = v3 c
          ∧ r.2.mem ((c.tc : Thread Cert.SmallBiasIdeal.nD Cert.SmallBiasIdeal.τ).loc Cert.SmallBiasIdeal.main_arg0) = m ((c.tc : Thread Cert.SmallBiasIdeal.nD Cert.SmallBiasIdeal.τ).loc Cert.SmallBiasIdeal.main_arg0)
          ∧ r.2.mem ((c.tc : Thread Cert.SmallBiasIdeal.nD Cert.SmallBiasIdeal.τ).loc Cert.SmallBiasIdeal.main_arg1) = m ((c.tc : Thread Cert.SmallBiasIdeal.nD Cert.SmallBiasIdeal.τ).loc Cert.SmallBiasIdeal.main_arg1)
          ∧ r.2.mem ((c.tc : Thread Cert.SmallBiasIdeal.nD Cert.SmallBiasIdeal.τ).loc Cert.SmallBiasIdeal.main_arg2) = m ((c.tc : Thread Cert.SmallBiasIdeal.nD Cert.SmallBiasIdeal.τ).loc Cert.SmallBiasIdeal.main_arg2)
          ∧ r.2.mem ((c.tc : Thread Cert.SmallBiasIdeal.nD Cert.SmallBiasIdeal.τ).loc Cert.SmallBiasIdeal.main_arg3) = m ((c.tc : Thread Cert.SmallBiasIdeal.nD Cert.SmallBiasIdeal.τ).loc Cert.SmallBiasIdeal.main_arg3))
      ∧ θ_run (Cert.SmallBiasRefIdeal.defs (F := Ideal)) (onTc (τ := Cert.SmallBiasRefIdeal.τ) (Cert.SmallBiasRefIdeal.main (F := Ideal))) ⟨m', fun _ => 0, g'⟩ (fun r => ∀ c : Dev Cert.SmallBiasRefIdeal.nD,
          r.2.mem ((c.tc : Thread Cert.SmallBiasRefIdeal.nD Cert.SmallBiasRefIdeal.τ).loc Cert.SmallBiasRefIdeal.main_v0) = v0 c
          ∧ r.2.mem ((c.tc : Thread Cert.SmallBiasRefIdeal.nD Cert.SmallBiasRefIdeal.τ).loc Cert.SmallBiasRefIdeal.main_v24) = v1 c
          ∧ r.2.mem ((c.tc : Thread Cert.SmallBiasRefIdeal.nD Cert.SmallBiasRefIdeal.τ).loc Cert.SmallBiasRefIdeal.main_v5) = v2 c
          ∧ r.2.mem ((c.tc : Thread Cert.SmallBiasRefIdeal.nD Cert.SmallBiasRefIdeal.τ).loc Cert.SmallBiasRefIdeal.main_v11) = v3 c
          ∧ r.2.mem ((c.tc : Thread Cert.SmallBiasRefIdeal.nD Cert.SmallBiasRefIdeal.τ).loc Cert.SmallBiasRefIdeal.main_arg0) = m' ((c.tc : Thread Cert.SmallBiasRefIdeal.nD Cert.SmallBiasRefIdeal.τ).loc Cert.SmallBiasRefIdeal.main_arg0)
          ∧ r.2.mem ((c.tc : Thread Cert.SmallBiasRefIdeal.nD Cert.SmallBiasRefIdeal.τ).loc Cert.SmallBiasRefIdeal.main_arg1) = m' ((c.tc : Thread Cert.SmallBiasRefIdeal.nD Cert.SmallBiasRefIdeal.τ).loc Cert.SmallBiasRefIdeal.main_arg1)
          ∧ r.2.mem ((c.tc : Thread Cert.SmallBiasRefIdeal.nD Cert.SmallBiasRefIdeal.τ).loc Cert.SmallBiasRefIdeal.main_arg2) = m' ((c.tc : Thread Cert.SmallBiasRefIdeal.nD Cert.SmallBiasRefIdeal.τ).loc Cert.SmallBiasRefIdeal.main_arg2)
          ∧ r.2.mem ((c.tc : Thread Cert.SmallBiasRefIdeal.nD Cert.SmallBiasRefIdeal.τ).loc Cert.SmallBiasRefIdeal.main_arg3) = m' ((c.tc : Thread Cert.SmallBiasRefIdeal.nD Cert.SmallBiasRefIdeal.τ).loc Cert.SmallBiasRefIdeal.main_arg3))

def preserves_SmallTaps_SmallTapsIdeal : Prop :=
  True

def algebraic_SmallTapsIdeal_SmallTapsRefIdeal [hSmallTapsIdeal : Cert.SmallTapsIdeal.Facts] [hSmallTapsRefIdeal : Cert.SmallTapsRefIdeal.Facts] : Prop :=
  ∀ (m : (ℓ : Loc Cert.SmallTapsIdeal.nD Cert.SmallTapsIdeal.τ Cert.SmallTapsIdeal.sig) → Buf (Elt Ideal) ℓ) (g : Dev Cert.SmallTapsIdeal.nD → PrngReg)
    (m' : (ℓ : Loc Cert.SmallTapsRefIdeal.nD Cert.SmallTapsRefIdeal.τ Cert.SmallTapsRefIdeal.sig) → Buf (Elt Ideal) ℓ) (g' : Dev Cert.SmallTapsRefIdeal.nD → PrngReg), Pre_SmallTapsIdeal m →
    (∀ c : Dev Cert.SmallTapsIdeal.nD,
      m' ((c.tc : Thread Cert.SmallTapsRefIdeal.nD Cert.SmallTapsRefIdeal.τ).loc Cert.SmallTapsRefIdeal.main_arg0) = m ((c.tc : Thread Cert.SmallTapsIdeal.nD Cert.SmallTapsIdeal.τ).loc Cert.SmallTapsIdeal.main_arg0)
      ∧ m' ((c.tc : Thread Cert.SmallTapsRefIdeal.nD Cert.SmallTapsRefIdeal.τ).loc Cert.SmallTapsRefIdeal.main_arg1) = m ((c.tc : Thread Cert.SmallTapsIdeal.nD Cert.SmallTapsIdeal.τ).loc Cert.SmallTapsIdeal.main_arg1)
      ∧ m' ((c.tc : Thread Cert.SmallTapsRefIdeal.nD Cert.SmallTapsRefIdeal.τ).loc Cert.SmallTapsRefIdeal.main_arg2) = m ((c.tc : Thread Cert.SmallTapsIdeal.nD Cert.SmallTapsIdeal.τ).loc Cert.SmallTapsIdeal.main_arg2)
      ∧ m' ((c.tc : Thread Cert.SmallTapsRefIdeal.nD Cert.SmallTapsRefIdeal.τ).loc Cert.SmallTapsRefIdeal.main_arg3) = m ((c.tc : Thread Cert.SmallTapsIdeal.nD Cert.SmallTapsIdeal.τ).loc Cert.SmallTapsIdeal.main_arg3)) →
    ∃ (v0 : (c : Dev Cert.SmallTapsIdeal.nD) → Buf (Elt Ideal) ((c.tc : Thread Cert.SmallTapsIdeal.nD Cert.SmallTapsIdeal.τ).loc Cert.SmallTapsIdeal.main_v0_0)) (v1 : (c : Dev Cert.SmallTapsIdeal.nD) → Buf (Elt Ideal) ((c.tc : Thread Cert.SmallTapsIdeal.nD Cert.SmallTapsIdeal.τ).loc Cert.SmallTapsIdeal.main_v0_1)) (v2 : (c : Dev Cert.SmallTapsIdeal.nD) → Buf (Elt Ideal) ((c.tc : Thread Cert.SmallTapsIdeal.nD Cert.SmallTapsIdeal.τ).loc Cert.SmallTapsIdeal.main_v0_2)) (v3 : (c : Dev Cert.SmallTapsIdeal.nD) → Buf (Elt Ideal) ((c.tc : Thread Cert.SmallTapsIdeal.nD Cert.SmallTapsIdeal.τ).loc Cert.SmallTapsIdeal.main_v0_3)),
      θ_run (Cert.SmallTapsIdeal.defs (F := Ideal)) (onTc (τ := Cert.SmallTapsIdeal.τ) (Cert.SmallTapsIdeal.main (F := Ideal))) ⟨m, fun _ => 0, g⟩ (fun r => ∀ c : Dev Cert.SmallTapsIdeal.nD,
          r.2.mem ((c.tc : Thread Cert.SmallTapsIdeal.nD Cert.SmallTapsIdeal.τ).loc Cert.SmallTapsIdeal.main_v0_0) = v0 c
          ∧ r.2.mem ((c.tc : Thread Cert.SmallTapsIdeal.nD Cert.SmallTapsIdeal.τ).loc Cert.SmallTapsIdeal.main_v0_1) = v1 c
          ∧ r.2.mem ((c.tc : Thread Cert.SmallTapsIdeal.nD Cert.SmallTapsIdeal.τ).loc Cert.SmallTapsIdeal.main_v0_2) = v2 c
          ∧ r.2.mem ((c.tc : Thread Cert.SmallTapsIdeal.nD Cert.SmallTapsIdeal.τ).loc Cert.SmallTapsIdeal.main_v0_3) = v3 c
          ∧ r.2.mem ((c.tc : Thread Cert.SmallTapsIdeal.nD Cert.SmallTapsIdeal.τ).loc Cert.SmallTapsIdeal.main_arg0) = m ((c.tc : Thread Cert.SmallTapsIdeal.nD Cert.SmallTapsIdeal.τ).loc Cert.SmallTapsIdeal.main_arg0)
          ∧ r.2.mem ((c.tc : Thread Cert.SmallTapsIdeal.nD Cert.SmallTapsIdeal.τ).loc Cert.SmallTapsIdeal.main_arg1) = m ((c.tc : Thread Cert.SmallTapsIdeal.nD Cert.SmallTapsIdeal.τ).loc Cert.SmallTapsIdeal.main_arg1)
          ∧ r.2.mem ((c.tc : Thread Cert.SmallTapsIdeal.nD Cert.SmallTapsIdeal.τ).loc Cert.SmallTapsIdeal.main_arg2) = m ((c.tc : Thread Cert.SmallTapsIdeal.nD Cert.SmallTapsIdeal.τ).loc Cert.SmallTapsIdeal.main_arg2)
          ∧ r.2.mem ((c.tc : Thread Cert.SmallTapsIdeal.nD Cert.SmallTapsIdeal.τ).loc Cert.SmallTapsIdeal.main_arg3) = m ((c.tc : Thread Cert.SmallTapsIdeal.nD Cert.SmallTapsIdeal.τ).loc Cert.SmallTapsIdeal.main_arg3))
      ∧ θ_run (Cert.SmallTapsRefIdeal.defs (F := Ideal)) (onTc (τ := Cert.SmallTapsRefIdeal.τ) (Cert.SmallTapsRefIdeal.main (F := Ideal))) ⟨m', fun _ => 0, g'⟩ (fun r => ∀ c : Dev Cert.SmallTapsRefIdeal.nD,
          r.2.mem ((c.tc : Thread Cert.SmallTapsRefIdeal.nD Cert.SmallTapsRefIdeal.τ).loc Cert.SmallTapsRefIdeal.main_v0) = v0 c
          ∧ r.2.mem ((c.tc : Thread Cert.SmallTapsRefIdeal.nD Cert.SmallTapsRefIdeal.τ).loc Cert.SmallTapsRefIdeal.main_v24) = v1 c
          ∧ r.2.mem ((c.tc : Thread Cert.SmallTapsRefIdeal.nD Cert.SmallTapsRefIdeal.τ).loc Cert.SmallTapsRefIdeal.main_v5) = v2 c
          ∧ r.2.mem ((c.tc : Thread Cert.SmallTapsRefIdeal.nD Cert.SmallTapsRefIdeal.τ).loc Cert.SmallTapsRefIdeal.main_v11) = v3 c
          ∧ r.2.mem ((c.tc : Thread Cert.SmallTapsRefIdeal.nD Cert.SmallTapsRefIdeal.τ).loc Cert.SmallTapsRefIdeal.main_arg0) = m' ((c.tc : Thread Cert.SmallTapsRefIdeal.nD Cert.SmallTapsRefIdeal.τ).loc Cert.SmallTapsRefIdeal.main_arg0)
          ∧ r.2.mem ((c.tc : Thread Cert.SmallTapsRefIdeal.nD Cert.SmallTapsRefIdeal.τ).loc Cert.SmallTapsRefIdeal.main_arg1) = m' ((c.tc : Thread Cert.SmallTapsRefIdeal.nD Cert.SmallTapsRefIdeal.τ).loc Cert.SmallTapsRefIdeal.main_arg1)
          ∧ r.2.mem ((c.tc : Thread Cert.SmallTapsRefIdeal.nD Cert.SmallTapsRefIdeal.τ).loc Cert.SmallTapsRefIdeal.main_arg2) = m' ((c.tc : Thread Cert.SmallTapsRefIdeal.nD Cert.SmallTapsRefIdeal.τ).loc Cert.SmallTapsRefIdeal.main_arg2)
          ∧ r.2.mem ((c.tc : Thread Cert.SmallTapsRefIdeal.nD Cert.SmallTapsRefIdeal.τ).loc Cert.SmallTapsRefIdeal.main_arg3) = m' ((c.tc : Thread Cert.SmallTapsRefIdeal.nD Cert.SmallTapsRefIdeal.τ).loc Cert.SmallTapsRefIdeal.main_arg3))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def Claim : Prop :=
  ∃ (hKernel : Cert.Kernel.Facts) (hKernelIdeal : Cert.KernelIdeal.Facts) (hReferenceIdeal : Cert.ReferenceIdeal.Facts) (hReference : Cert.Reference.Facts) (hSwap : Cert.Swap.Facts) (hSwapIdeal : Cert.SwapIdeal.Facts) (hSwapRefIdeal : Cert.SwapRefIdeal.Facts) (hSwapRef : Cert.SwapRef.Facts) (hUp : Cert.Up.Facts) (hUpIdeal : Cert.UpIdeal.Facts) (hUpRefIdeal : Cert.UpRefIdeal.Facts) (hGradUp : Cert.GradUp.Facts) (hGradUpIdeal : Cert.GradUpIdeal.Facts) (hGradUpRefIdeal : Cert.GradUpRefIdeal.Facts) (hGradIn : Cert.GradIn.Facts) (hGradInIdeal : Cert.GradInIdeal.Facts) (hGradInRefIdeal : Cert.GradInRefIdeal.Facts) (hProj : Cert.Proj.Facts) (hProjIdeal : Cert.ProjIdeal.Facts) (hProjRefIdeal : Cert.ProjRefIdeal.Facts) (hDown : Cert.Down.Facts) (hDownIdeal : Cert.DownIdeal.Facts) (hDownRefIdeal : Cert.DownRefIdeal.Facts) (hMerged : Cert.Merged.Facts) (hMergedIdeal : Cert.MergedIdeal.Facts) (hMergedRefIdeal : Cert.MergedRefIdeal.Facts) (hMixerA : Cert.MixerA.Facts) (hMixerAIdeal : Cert.MixerAIdeal.Facts) (hMixerARefIdeal : Cert.MixerARefIdeal.Facts) (hMixerB : Cert.MixerB.Facts) (hMixerBIdeal : Cert.MixerBIdeal.Facts) (hMixerBRefIdeal : Cert.MixerBRefIdeal.Facts) (hAdam : Cert.Adam.Facts) (hAdamIdeal : Cert.AdamIdeal.Facts) (hAdamRefIdeal : Cert.AdamRefIdeal.Facts) (hAdamSg : Cert.AdamSg.Facts) (hAdamSgIdeal : Cert.AdamSgIdeal.Facts) (hAdamSgRefIdeal : Cert.AdamSgRefIdeal.Facts) (hAdamRows : Cert.AdamRows.Facts) (hAdamRowsIdeal : Cert.AdamRowsIdeal.Facts) (hAdamRowsRefIdeal : Cert.AdamRowsRefIdeal.Facts) (hAdamDown : Cert.AdamDown.Facts) (hAdamDownIdeal : Cert.AdamDownIdeal.Facts) (hAdamDownRefIdeal : Cert.AdamDownRefIdeal.Facts) (hAdamLru : Cert.AdamLru.Facts) (hAdamLruIdeal : Cert.AdamLruIdeal.Facts) (hAdamLruRefIdeal : Cert.AdamLruRefIdeal.Facts) (hAdamUp : Cert.AdamUp.Facts) (hAdamUpIdeal : Cert.AdamUpIdeal.Facts) (hAdamUpRefIdeal : Cert.AdamUpRefIdeal.Facts) (hSmallModel : Cert.SmallModel.Facts) (hSmallModelIdeal : Cert.SmallModelIdeal.Facts) (hSmallModelRefIdeal : Cert.SmallModelRefIdeal.Facts) (hSmallHalf : Cert.SmallHalf.Facts) (hSmallHalfIdeal : Cert.SmallHalfIdeal.Facts) (hSmallHalfRefIdeal : Cert.SmallHalfRefIdeal.Facts) (hSmallFfn : Cert.SmallFfn.Facts) (hSmallFfnIdeal : Cert.SmallFfnIdeal.Facts) (hSmallFfnRefIdeal : Cert.SmallFfnRefIdeal.Facts) (hSmallMix : Cert.SmallMix.Facts) (hSmallMixIdeal : Cert.SmallMixIdeal.Facts) (hSmallMixRefIdeal : Cert.SmallMixRefIdeal.Facts) (hSmallBias : Cert.SmallBias.Facts) (hSmallBiasIdeal : Cert.SmallBiasIdeal.Facts) (hSmallBiasRefIdeal : Cert.SmallBiasRefIdeal.Facts) (hSmallTaps : Cert.SmallTaps.Facts) (hSmallTapsIdeal : Cert.SmallTapsIdeal.Facts) (hSmallTapsRefIdeal : Cert.SmallTapsRefIdeal.Facts) (hSmallSum : Cert.SmallSum.Facts) (hSmallSumIdeal : Cert.SmallSumIdeal.Facts) (hSmallSumRefIdeal : Cert.SmallSumRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Up (hUp := hUp)
    ∧ quiescent_UpIdeal (hUpIdeal := hUpIdeal)
    ∧ quiescent_UpRefIdeal (hUpRefIdeal := hUpRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_Proj (hProj := hProj)
    ∧ quiescent_ProjIdeal (hProjIdeal := hProjIdeal)
    ∧ quiescent_ProjRefIdeal (hProjRefIdeal := hProjRefIdeal)
    ∧ quiescent_Down (hDown := hDown)
    ∧ quiescent_DownIdeal (hDownIdeal := hDownIdeal)
    ∧ quiescent_DownRefIdeal (hDownRefIdeal := hDownRefIdeal)
    ∧ quiescent_Merged (hMerged := hMerged)
    ∧ quiescent_MergedIdeal (hMergedIdeal := hMergedIdeal)
    ∧ quiescent_MergedRefIdeal (hMergedRefIdeal := hMergedRefIdeal)
    ∧ quiescent_MixerA (hMixerA := hMixerA)
    ∧ quiescent_MixerAIdeal (hMixerAIdeal := hMixerAIdeal)
    ∧ quiescent_MixerARefIdeal (hMixerARefIdeal := hMixerARefIdeal)
    ∧ quiescent_MixerB (hMixerB := hMixerB)
    ∧ quiescent_MixerBIdeal (hMixerBIdeal := hMixerBIdeal)
    ∧ quiescent_MixerBRefIdeal (hMixerBRefIdeal := hMixerBRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamSg (hAdamSg := hAdamSg)
    ∧ quiescent_AdamSgIdeal (hAdamSgIdeal := hAdamSgIdeal)
    ∧ quiescent_AdamSgRefIdeal (hAdamSgRefIdeal := hAdamSgRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamLru (hAdamLru := hAdamLru)
    ∧ quiescent_AdamLruIdeal (hAdamLruIdeal := hAdamLruIdeal)
    ∧ quiescent_AdamLruRefIdeal (hAdamLruRefIdeal := hAdamLruRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_SmallModel (hSmallModel := hSmallModel)
    ∧ quiescent_SmallModelIdeal (hSmallModelIdeal := hSmallModelIdeal)
    ∧ quiescent_SmallModelRefIdeal (hSmallModelRefIdeal := hSmallModelRefIdeal)
    ∧ quiescent_SmallHalf (hSmallHalf := hSmallHalf)
    ∧ quiescent_SmallHalfIdeal (hSmallHalfIdeal := hSmallHalfIdeal)
    ∧ quiescent_SmallHalfRefIdeal (hSmallHalfRefIdeal := hSmallHalfRefIdeal)
    ∧ quiescent_SmallFfn (hSmallFfn := hSmallFfn)
    ∧ quiescent_SmallFfnIdeal (hSmallFfnIdeal := hSmallFfnIdeal)
    ∧ quiescent_SmallFfnRefIdeal (hSmallFfnRefIdeal := hSmallFfnRefIdeal)
    ∧ quiescent_SmallMix (hSmallMix := hSmallMix)
    ∧ quiescent_SmallMixIdeal (hSmallMixIdeal := hSmallMixIdeal)
    ∧ quiescent_SmallMixRefIdeal (hSmallMixRefIdeal := hSmallMixRefIdeal)
    ∧ quiescent_SmallBias (hSmallBias := hSmallBias)
    ∧ quiescent_SmallBiasIdeal (hSmallBiasIdeal := hSmallBiasIdeal)
    ∧ quiescent_SmallBiasRefIdeal (hSmallBiasRefIdeal := hSmallBiasRefIdeal)
    ∧ quiescent_SmallTaps (hSmallTaps := hSmallTaps)
    ∧ quiescent_SmallTapsIdeal (hSmallTapsIdeal := hSmallTapsIdeal)
    ∧ quiescent_SmallTapsRefIdeal (hSmallTapsRefIdeal := hSmallTapsRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Up_UpIdeal
    ∧ algebraic_UpIdeal_UpRefIdeal (hUpIdeal := hUpIdeal) (hUpRefIdeal := hUpRefIdeal)
    ∧ preserves_GradUp_GradUpIdeal
    ∧ algebraic_GradUpIdeal_GradUpRefIdeal (hGradUpIdeal := hGradUpIdeal) (hGradUpRefIdeal := hGradUpRefIdeal)
    ∧ preserves_GradIn_GradInIdeal
    ∧ algebraic_GradInIdeal_GradInRefIdeal (hGradInIdeal := hGradInIdeal) (hGradInRefIdeal := hGradInRefIdeal)
    ∧ preserves_Proj_ProjIdeal
    ∧ algebraic_ProjIdeal_ProjRefIdeal (hProjIdeal := hProjIdeal) (hProjRefIdeal := hProjRefIdeal)
    ∧ preserves_Down_DownIdeal
    ∧ algebraic_DownIdeal_DownRefIdeal (hDownIdeal := hDownIdeal) (hDownRefIdeal := hDownRefIdeal)
    ∧ preserves_Merged_MergedIdeal
    ∧ algebraic_MergedIdeal_MergedRefIdeal (hMergedIdeal := hMergedIdeal) (hMergedRefIdeal := hMergedRefIdeal)
    ∧ preserves_MixerA_MixerAIdeal
    ∧ algebraic_MixerAIdeal_MixerARefIdeal (hMixerAIdeal := hMixerAIdeal) (hMixerARefIdeal := hMixerARefIdeal)
    ∧ preserves_MixerB_MixerBIdeal
    ∧ algebraic_MixerBIdeal_MixerBRefIdeal (hMixerBIdeal := hMixerBIdeal) (hMixerBRefIdeal := hMixerBRefIdeal)
    ∧ preserves_Adam_AdamIdeal
    ∧ algebraic_AdamIdeal_AdamRefIdeal (hAdamIdeal := hAdamIdeal) (hAdamRefIdeal := hAdamRefIdeal)
    ∧ preserves_AdamSg_AdamSgIdeal
    ∧ algebraic_AdamSgIdeal_AdamSgRefIdeal (hAdamSgIdeal := hAdamSgIdeal) (hAdamSgRefIdeal := hAdamSgRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamLru_AdamLruIdeal
    ∧ algebraic_AdamLruIdeal_AdamLruRefIdeal (hAdamLruIdeal := hAdamLruIdeal) (hAdamLruRefIdeal := hAdamLruRefIdeal)
    ∧ preserves_AdamUp_AdamUpIdeal
    ∧ algebraic_AdamUpIdeal_AdamUpRefIdeal (hAdamUpIdeal := hAdamUpIdeal) (hAdamUpRefIdeal := hAdamUpRefIdeal)
    ∧ preserves_SmallModel_SmallModelIdeal
    ∧ algebraic_SmallModelIdeal_SmallModelRefIdeal (hSmallModelIdeal := hSmallModelIdeal) (hSmallModelRefIdeal := hSmallModelRefIdeal)
    ∧ preserves_SmallHalf_SmallHalfIdeal
    ∧ algebraic_SmallHalfIdeal_SmallHalfRefIdeal (hSmallHalfIdeal := hSmallHalfIdeal) (hSmallHalfRefIdeal := hSmallHalfRefIdeal)
    ∧ preserves_SmallFfn_SmallFfnIdeal
    ∧ algebraic_SmallFfnIdeal_SmallFfnRefIdeal (hSmallFfnIdeal := hSmallFfnIdeal) (hSmallFfnRefIdeal := hSmallFfnRefIdeal)
    ∧ preserves_SmallMix_SmallMixIdeal
    ∧ algebraic_SmallMixIdeal_SmallMixRefIdeal (hSmallMixIdeal := hSmallMixIdeal) (hSmallMixRefIdeal := hSmallMixRefIdeal)
    ∧ preserves_SmallBias_SmallBiasIdeal
    ∧ algebraic_SmallBiasIdeal_SmallBiasRefIdeal (hSmallBiasIdeal := hSmallBiasIdeal) (hSmallBiasRefIdeal := hSmallBiasRefIdeal)
    ∧ preserves_SmallTaps_SmallTapsIdeal
    ∧ algebraic_SmallTapsIdeal_SmallTapsRefIdeal (hSmallTapsIdeal := hSmallTapsIdeal) (hSmallTapsRefIdeal := hSmallTapsRefIdeal)
    ∧ preserves_SmallSum_SmallSumIdeal
    ∧ algebraic_SmallSumIdeal_SmallSumRefIdeal (hSmallSumIdeal := hSmallSumIdeal) (hSmallSumRefIdeal := hSmallSumRefIdeal)
-- ==== Kernel.lean ====
abbrev S4096x2560 : Shape := ⟨2, ![4096, 2560]⟩
abbrev S16x32x256 : Shape := ⟨3, ![16, 32, 256]⟩
abbrev S2048x512 : Shape := ⟨2, ![2048, 512]⟩
abbrev S88x128 : Shape := ⟨2, ![88, 128]⟩
abbrev S8x4096x2560 : Shape := ⟨3, ![8, 4096, 2560]⟩
abbrev S8x16x32x256 : Shape := ⟨4, ![8, 16, 32, 256]⟩
abbrev S8x2048x512 : Shape := ⟨3, ![8, 2048, 512]⟩
abbrev S8x88x128 : Shape := ⟨3, ![8, 88, 128]⟩
abbrev S5x7 : Shape := ⟨2, ![5, 7]⟩
abbrev S5 : Shape := ⟨1, ![5]⟩
abbrev S1 : Shape := ⟨1, ![1]⟩
abbrev S_ : Shape := ⟨0, ![]⟩
abbrev S1x4096x2560 : Shape := ⟨3, ![1, 4096, 2560]⟩
abbrev S1x16x32x256 : Shape := ⟨4, ![1, 16, 32, 256]⟩
abbrev S1x2048x512 : Shape := ⟨3, ![1, 2048, 512]⟩
abbrev S1x88x128 : Shape := ⟨3, ![1, 88, 128]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S16x32x256, .bf16⟩
  | .hbm, ⟨2, _⟩ => ⟨S16x32x256, .bf16⟩
  | .hbm, ⟨3, _⟩ => ⟨S2048x512, .bf16⟩
  | .hbm, ⟨4, _⟩ => ⟨S88x128, .f32⟩
  | .hbm, ⟨5, _⟩ => ⟨S8x4096x2560, .bf16⟩
  | .hbm, ⟨6, _⟩ => ⟨S8x16x32x256, .bf16⟩
  | .hbm, ⟨7, _⟩ => ⟨S8x16x32x256, .bf16⟩
  | .hbm, ⟨8, _⟩ => ⟨S8x2048x512, .bf16⟩
  | .hbm, ⟨9, _⟩ => ⟨S8x88x128, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_18 : BitVec 32 := 0#32
  let c0_i32_19 : BitVec 32 := 0#32
  ![v17.toNat, 0, 0]
def k0_off2 (d0 : Dev nD) : Fin 4 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_21 : BitVec 32 := 0#32
  let c0_i32_22 : BitVec 32 := 0#32
  let c0_i32_23 : BitVec 32 := 0#32
  ![v21.toNat, 0, 0, 0]
def k0_off3 (d0 : Dev nD) : Fin 3 → Nat :=
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_28 : BitVec 32 := 0#32
  let c0_i32_29 : BitVec 32 := 0#32
  ![v29.toNat, 0, 0]
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_31 : BitVec 32 := 0#32
  let c0_i32_32 : BitVec 32 := 0#32
  ![v33.toNat, 0, 0]
def k0_dev1 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v134 : BitVec 32 := Scalar.muli v2 c4_i32_77
  let v135 : BitVec 32 := Scalar.addi c0_i32_78 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v136 : BitVec 32 := Scalar.muli v5 c2_i32_79
  let v137 : BitVec 32 := Scalar.addi v135 v136
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_80 : BitVec 32 := 1#32
  let v138 : BitVec 32 := Scalar.muli v9 c1_i32_80
  let v139 : BitVec 32 := Scalar.addi v137 v138
  v139.toNat
def k0_dev2 (d0 : Dev nD) : Nat :=
  let c0_i32_88 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_87 : BitVec 32 := 4#32
  let v146 : BitVec 32 := Scalar.muli v10 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v150 : BitVec 32 := Scalar.muli v8 c1_i32_90
  let v151 : BitVec 32 := Scalar.addi v149 v150
  v151.toNat
def k0_dev3 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v158 : BitVec 32 := Scalar.muli v2 c4_i32_97
  let v159 : BitVec 32 := Scalar.addi c0_i32_98 v158
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_99 : BitVec 32 := 2#32
  let v160 : BitVec 32 := Scalar.muli v11 c2_i32_99
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v162 : BitVec 32 := Scalar.muli v8 c1_i32_100
  let v163 : BitVec 32 := Scalar.addi v161 v162
  v163.toNat
def k0_dev4 (d0 : Dev nD) : Nat :=
  let c0_i32_108 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_107 : BitVec 32 := 4#32
  let v170 : BitVec 32 := Scalar.muli v12 c4_i32_107
  let v171 : BitVec 32 := Scalar.addi c0_i32_108 v170
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_109 : BitVec 32 := 2#32
  let v172 : BitVec 32 := Scalar.muli v13 c2_i32_109
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v174 : BitVec 32 := Scalar.muli v8 c1_i32_110
  let v175 : BitVec 32 := Scalar.addi v173 v174
  v175.toNat
def k0_dev5 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v182 : BitVec 32 := Scalar.muli v2 c4_i32_117
  let v183 : BitVec 32 := Scalar.addi c0_i32_118 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v184 : BitVec 32 := Scalar.muli v5 c2_i32_119
  let v185 : BitVec 32 := Scalar.addi v183 v184
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_120 : BitVec 32 := 1#32
  let v186 : BitVec 32 := Scalar.muli v9 c1_i32_120
  let v187 : BitVec 32 := Scalar.addi v185 v186
  v187.toNat
def k0_dev6 (d0 : Dev nD) : Nat :=
  let c0_i32_129 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_128 : BitVec 32 := 4#32
  let v194 : BitVec 32 := Scalar.muli v10 c4_i32_128
  let v195 : BitVec 32 := Scalar.addi c0_i32_129 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v196 : BitVec 32 := Scalar.muli v5 c2_i32_130
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v198 : BitVec 32 := Scalar.muli v8 c1_i32_131
  let v199 : BitVec 32 := Scalar.addi v197 v198
  v199.toNat
def k0_dev7 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v206 : BitVec 32 := Scalar.muli v2 c4_i32_139
  let v207 : BitVec 32 := Scalar.addi c0_i32_140 v206
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_141 : BitVec 32 := 2#32
  let v208 : BitVec 32 := Scalar.muli v11 c2_i32_141
  let v209 : BitVec 32 := Scalar.addi v207 v208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v210 : BitVec 32 := Scalar.muli v8 c1_i32_142
  let v211 : BitVec 32 := Scalar.addi v209 v210
  v211.toNat
def k0_dev8 (d0 : Dev nD) : Nat :=
  let c0_i32_151 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_150 : BitVec 32 := 4#32
  let v218 : BitVec 32 := Scalar.muli v12 c4_i32_150
  let v219 : BitVec 32 := Scalar.addi c0_i32_151 v218
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_152 : BitVec 32 := 2#32
  let v220 : BitVec 32 := Scalar.muli v13 c2_i32_152
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v222 : BitVec 32 := Scalar.muli v8 c1_i32_153
  let v223 : BitVec 32 := Scalar.addi v221 v222
  v223.toNat
def k0_dev9 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v230 : BitVec 32 := Scalar.muli v2 c4_i32_161
  let v231 : BitVec 32 := Scalar.addi c0_i32_162 v230
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v232 : BitVec 32 := Scalar.muli v5 c2_i32_163
  let v233 : BitVec 32 := Scalar.addi v231 v232
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_164 : BitVec 32 := 1#32
  let v234 : BitVec 32 := Scalar.muli v9 c1_i32_164
  let v235 : BitVec 32 := Scalar.addi v233 v234
  v235.toNat
def k0_dev10 (d0 : Dev nD) : Nat :=
  let c0_i32_173 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_172 : BitVec 32 := 4#32
  let v242 : BitVec 32 := Scalar.muli v10 c4_i32_172
  let v243 : BitVec 32 := Scalar.addi c0_i32_173 v242
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v244 : BitVec 32 := Scalar.muli v5 c2_i32_174
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v246 : BitVec 32 := Scalar.muli v8 c1_i32_175
  let v247 : BitVec 32 := Scalar.addi v245 v246
  v247.toNat
def k0_dev11 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v254 : BitVec 32 := Scalar.muli v2 c4_i32_183
  let v255 : BitVec 32 := Scalar.addi c0_i32_184 v254
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_185 : BitVec 32 := 2#32
  let v256 : BitVec 32 := Scalar.muli v11 c2_i32_185
  let v257 : BitVec 32 := Scalar.addi v255 v256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v258 : BitVec 32 := Scalar.muli v8 c1_i32_186
  let v259 : BitVec 32 := Scalar.addi v257 v258
  v259.toNat
def k0_dev12 (d0 : Dev nD) : Nat :=
  let c0_i32_195 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_194 : BitVec 32 := 4#32
  let v266 : BitVec 32 := Scalar.muli v12 c4_i32_194
  let v267 : BitVec 32 := Scalar.addi c0_i32_195 v266
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_196 : BitVec 32 := 2#32
  let v268 : BitVec 32 := Scalar.muli v13 c2_i32_196
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_197 : BitVec 32 := 1#32
  let v270 : BitVec 32 := Scalar.muli v8 c1_i32_197
  let v271 : BitVec 32 := Scalar.addi v269 v270
  v271.toNat
def k0_dev13 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v278 : BitVec 32 := Scalar.muli v2 c4_i32_205
  let v279 : BitVec 32 := Scalar.addi c0_i32_206 v278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v280 : BitVec 32 := Scalar.muli v5 c2_i32_207
  let v281 : BitVec 32 := Scalar.addi v279 v280
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_208 : BitVec 32 := 1#32
  let v282 : BitVec 32 := Scalar.muli v9 c1_i32_208
  let v283 : BitVec 32 := Scalar.addi v281 v282
  v283.toNat
def k0_dev14 (d0 : Dev nD) : Nat :=
  let c0_i32_216 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_215 : BitVec 32 := 4#32
  let v290 : BitVec 32 := Scalar.muli v10 c4_i32_215
  let v291 : BitVec 32 := Scalar.addi c0_i32_216 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v292 : BitVec 32 := Scalar.muli v5 c2_i32_217
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_218 : BitVec 32 := 1#32
  let v294 : BitVec 32 := Scalar.muli v8 c1_i32_218
  let v295 : BitVec 32 := Scalar.addi v293 v294
  v295.toNat
def k0_dev15 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v302 : BitVec 32 := Scalar.muli v2 c4_i32_225
  let v303 : BitVec 32 := Scalar.addi c0_i32_226 v302
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_227 : BitVec 32 := 2#32
  let v304 : BitVec 32 := Scalar.muli v11 c2_i32_227
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_228 : BitVec 32 := 1#32
  let v306 : BitVec 32 := Scalar.muli v8 c1_i32_228
  let v307 : BitVec 32 := Scalar.addi v305 v306
  v307.toNat
def k0_dev16 (d0 : Dev nD) : Nat :=
  let c0_i32_236 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_235 : BitVec 32 := 4#32
  let v314 : BitVec 32 := Scalar.muli v12 c4_i32_235
  let v315 : BitVec 32 := Scalar.addi c0_i32_236 v314
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_237 : BitVec 32 := 2#32
  let v316 : BitVec 32 := Scalar.muli v13 c2_i32_237
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v318 : BitVec 32 := Scalar.muli v8 c1_i32_238
  let v319 : BitVec 32 := Scalar.addi v317 v318
  v319.toNat
def k0_dev17 (d0 : Dev nD) : Nat :=
  let c0_i32_246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_245 : BitVec 32 := 4#32
  let v326 : BitVec 32 := Scalar.muli v2 c4_i32_245
  let v327 : BitVec 32 := Scalar.addi c0_i32_246 v326
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v328 : BitVec 32 := Scalar.muli v5 c2_i32_247
  let v329 : BitVec 32 := Scalar.addi v327 v328
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_248 : BitVec 32 := 1#32
  let v330 : BitVec 32 := Scalar.muli v9 c1_i32_248
  let v331 : BitVec 32 := Scalar.addi v329 v330
  v331.toNat
def k0_dev18 (d0 : Dev nD) : Nat :=
  let c0_i32_256 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_255 : BitVec 32 := 4#32
  let v338 : BitVec 32 := Scalar.muli v10 c4_i32_255
  let v339 : BitVec 32 := Scalar.addi c0_i32_256 v338
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v340 : BitVec 32 := Scalar.muli v5 c2_i32_257
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v342 : BitVec 32 := Scalar.muli v8 c1_i32_258
  let v343 : BitVec 32 := Scalar.addi v341 v342
  v343.toNat
def k0_dev19 (d0 : Dev nD) : Nat :=
  let c0_i32_266 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_265 : BitVec 32 := 4#32
  let v350 : BitVec 32 := Scalar.muli v2 c4_i32_265
  let v351 : BitVec 32 := Scalar.addi c0_i32_266 v350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_267 : BitVec 32 := 2#32
  let v352 : BitVec 32 := Scalar.muli v11 c2_i32_267
  let v353 : BitVec 32 := Scalar.addi v351 v352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v354 : BitVec 32 := Scalar.muli v8 c1_i32_268
  let v355 : BitVec 32 := Scalar.addi v353 v354
  v355.toNat
def k0_dev20 (d0 : Dev nD) : Nat :=
  let c0_i32_276 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_275 : BitVec 32 := 4#32
  let v362 : BitVec 32 := Scalar.muli v12 c4_i32_275
  let v363 : BitVec 32 := Scalar.addi c0_i32_276 v362
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_277 : BitVec 32 := 2#32
  let v364 : BitVec 32 := Scalar.muli v13 c2_i32_277
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v366 : BitVec 32 := Scalar.muli v8 c1_i32_278
  let v367 : BitVec 32 := Scalar.addi v365 v366
  v367.toNat
def k0_off5 (d0 : Dev nD) : Fin 3 → Nat :=
  let c4_i32_283 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v378 : BitVec 32 := Scalar.muli c4_i32_283 v10
  let c2_i32_284 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v379 : BitVec 32 := Scalar.muli c2_i32_284 v5
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v381 : BitVec 32 := Scalar.addi v380 v8
  let c0_i32_293 : BitVec 32 := 0#32
  let c0_i32_294 : BitVec 32 := 0#32
  ![v381.toNat, 0, 0]
def k0_dev21 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v402 : BitVec 32 := Scalar.muli v2 c4_i32_305
  let v403 : BitVec 32 := Scalar.addi c0_i32_306 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v404 : BitVec 32 := Scalar.muli v5 c2_i32_307
  let v405 : BitVec 32 := Scalar.addi v403 v404
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_308 : BitVec 32 := 1#32
  let v406 : BitVec 32 := Scalar.muli v9 c1_i32_308
  let v407 : BitVec 32 := Scalar.addi v405 v406
  v407.toNat
def k0_off6 (d0 : Dev nD) : Fin 4 → Nat :=
  let c4_i32_315 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v420 : BitVec 32 := Scalar.muli c4_i32_315 v10
  let c2_i32_316 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v421 : BitVec 32 := Scalar.muli c2_i32_316 v5
  let v422 : BitVec 32 := Scalar.addi v420 v421
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v423 : BitVec 32 := Scalar.addi v422 v8
  let c0_i32_325 : BitVec 32 := 0#32
  let c0_i32_326 : BitVec 32 := 0#32
  let c0_i32_327 : BitVec 32 := 0#32
  ![v423.toNat, 0, 0, 0]
def k0_dev22 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v444 : BitVec 32 := Scalar.muli v2 c4_i32_339
  let v445 : BitVec 32 := Scalar.addi c0_i32_340 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_341 : BitVec 32 := 2#32
  let v446 : BitVec 32 := Scalar.muli v5 c2_i32_341
  let v447 : BitVec 32 := Scalar.addi v445 v446
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_342 : BitVec 32 := 1#32
  let v448 : BitVec 32 := Scalar.muli v9 c1_i32_342
  let v449 : BitVec 32 := Scalar.addi v447 v448
  v449.toNat
def k0_dev23 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v486 : BitVec 32 := Scalar.muli v2 c4_i32_375
  let v487 : BitVec 32 := Scalar.addi c0_i32_376 v486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v488 : BitVec 32 := Scalar.muli v5 c2_i32_377
  let v489 : BitVec 32 := Scalar.addi v487 v488
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_378 : BitVec 32 := 1#32
  let v490 : BitVec 32 := Scalar.muli v9 c1_i32_378
  let v491 : BitVec 32 := Scalar.addi v489 v490
  v491.toNat
def k0_off7 (d0 : Dev nD) : Fin 3 → Nat :=
  let c4_i32_387 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v504 : BitVec 32 := Scalar.muli c4_i32_387 v10
  let c2_i32_388 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v505 : BitVec 32 := Scalar.muli c2_i32_388 v5
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v507 : BitVec 32 := Scalar.addi v506 v8
  let c0_i32_397 : BitVec 32 := 0#32
  let c0_i32_398 : BitVec 32 := 0#32
  ![v507.toNat, 0, 0]
def k0_dev24 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v528 : BitVec 32 := Scalar.muli v2 c4_i32_409
  let v529 : BitVec 32 := Scalar.addi c0_i32_410 v528
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v530 : BitVec 32 := Scalar.muli v5 c2_i32_411
  let v531 : BitVec 32 := Scalar.addi v529 v530
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_412 : BitVec 32 := 1#32
  let v532 : BitVec 32 := Scalar.muli v9 c1_i32_412
  let v533 : BitVec 32 := Scalar.addi v531 v532
  v533.toNat
def k0_off8 (d0 : Dev nD) : Fin 3 → Nat :=
  let c4_i32_419 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v546 : BitVec 32 := Scalar.muli c4_i32_419 v10
  let c2_i32_420 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v547 : BitVec 32 := Scalar.muli c2_i32_420 v5
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v549 : BitVec 32 := Scalar.addi v548 v8
  let c0_i32_429 : BitVec 32 := 0#32
  let c0_i32_430 : BitVec 32 := 0#32
  ![v549.toNat, 0, 0]
def k0_dev25 (d0 : Dev nD) : Nat :=
  let c0_i32_442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_441 : BitVec 32 := 4#32
  let v570 : BitVec 32 := Scalar.muli v2 c4_i32_441
  let v571 : BitVec 32 := Scalar.addi c0_i32_442 v570
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_443 : BitVec 32 := 2#32
  let v572 : BitVec 32 := Scalar.muli v5 c2_i32_443
  let v573 : BitVec 32 := Scalar.addi v571 v572
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_444 : BitVec 32 := 1#32
  let v574 : BitVec 32 := Scalar.muli v9 c1_i32_444
  let v575 : BitVec 32 := Scalar.addi v573 v574
  v575.toNat
def k0_off9 (d0 : Dev nD) : Fin 3 → Nat :=
  let c4_i32_451 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v588 : BitVec 32 := Scalar.muli c4_i32_451 v2
  let c2_i32_452 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v589 : BitVec 32 := Scalar.muli c2_i32_452 v11
  let v590 : BitVec 32 := Scalar.addi v588 v589
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v591 : BitVec 32 := Scalar.addi v590 v8
  let c0_i32_461 : BitVec 32 := 0#32
  let c0_i32_462 : BitVec 32 := 0#32
  ![v591.toNat, 0, 0]
def k0_dev26 (d0 : Dev nD) : Nat :=
  let c0_i32_473 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_472 : BitVec 32 := 4#32
  let v612 : BitVec 32 := Scalar.muli v2 c4_i32_472
  let v613 : BitVec 32 := Scalar.addi c0_i32_473 v612
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_474 : BitVec 32 := 2#32
  let v614 : BitVec 32 := Scalar.muli v5 c2_i32_474
  let v615 : BitVec 32 := Scalar.addi v613 v614
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_475 : BitVec 32 := 1#32
  let v616 : BitVec 32 := Scalar.muli v9 c1_i32_475
  let v617 : BitVec 32 := Scalar.addi v615 v616
  v617.toNat
def k0_off10 (d0 : Dev nD) : Fin 4 → Nat :=
  let c4_i32_482 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v630 : BitVec 32 := Scalar.muli c4_i32_482 v2
  let c2_i32_483 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v631 : BitVec 32 := Scalar.muli c2_i32_483 v11
  let v632 : BitVec 32 := Scalar.addi v630 v631
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v633 : BitVec 32 := Scalar.addi v632 v8
  let c0_i32_492 : BitVec 32 := 0#32
  let c0_i32_493 : BitVec 32 := 0#32
  let c0_i32_494 : BitVec 32 := 0#32
  ![v633.toNat, 0, 0, 0]
def k0_dev27 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v654 : BitVec 32 := Scalar.muli v2 c4_i32_506
  let v655 : BitVec 32 := Scalar.addi c0_i32_507 v654
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v656 : BitVec 32 := Scalar.muli v5 c2_i32_508
  let v657 : BitVec 32 := Scalar.addi v655 v656
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_509 : BitVec 32 := 1#32
  let v658 : BitVec 32 := Scalar.muli v9 c1_i32_509
  let v659 : BitVec 32 := Scalar.addi v657 v658
  v659.toNat
def k0_dev28 (d0 : Dev nD) : Nat :=
  let c0_i32_543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_542 : BitVec 32 := 4#32
  let v696 : BitVec 32 := Scalar.muli v2 c4_i32_542
  let v697 : BitVec 32 := Scalar.addi c0_i32_543 v696
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_544 : BitVec 32 := 2#32
  let v698 : BitVec 32 := Scalar.muli v5 c2_i32_544
  let v699 : BitVec 32 := Scalar.addi v697 v698
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_545 : BitVec 32 := 1#32
  let v700 : BitVec 32 := Scalar.muli v9 c1_i32_545
  let v701 : BitVec 32 := Scalar.addi v699 v700
  v701.toNat
def k0_off11 (d0 : Dev nD) : Fin 3 → Nat :=
  let c4_i32_554 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v714 : BitVec 32 := Scalar.muli c4_i32_554 v2
  let c2_i32_555 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v715 : BitVec 32 := Scalar.muli c2_i32_555 v11
  let v716 : BitVec 32 := Scalar.addi v714 v715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v717 : BitVec 32 := Scalar.addi v716 v8
  let c0_i32_564 : BitVec 32 := 0#32
  let c0_i32_565 : BitVec 32 := 0#32
  ![v717.toNat, 0, 0]
def k0_dev29 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v738 : BitVec 32 := Scalar.muli v2 c4_i32_576
  let v739 : BitVec 32 := Scalar.addi c0_i32_577 v738
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_578 : BitVec 32 := 2#32
  let v740 : BitVec 32 := Scalar.muli v5 c2_i32_578
  let v741 : BitVec 32 := Scalar.addi v739 v740
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_579 : BitVec 32 := 1#32
  let v742 : BitVec 32 := Scalar.muli v9 c1_i32_579
  let v743 : BitVec 32 := Scalar.addi v741 v742
  v743.toNat
def k0_off12 (d0 : Dev nD) : Fin 3 → Nat :=
  let c4_i32_586 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v756 : BitVec 32 := Scalar.muli c4_i32_586 v2
  let c2_i32_587 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v757 : BitVec 32 := Scalar.muli c2_i32_587 v11
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v759 : BitVec 32 := Scalar.addi v758 v8
  let c0_i32_596 : BitVec 32 := 0#32
  let c0_i32_597 : BitVec 32 := 0#32
  ![v759.toNat, 0, 0]
def k0_dev30 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v780 : BitVec 32 := Scalar.muli v2 c4_i32_608
  let v781 : BitVec 32 := Scalar.addi c0_i32_609 v780
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_610 : BitVec 32 := 2#32
  let v782 : BitVec 32 := Scalar.muli v5 c2_i32_610
  let v783 : BitVec 32 := Scalar.addi v781 v782
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_611 : BitVec 32 := 1#32
  let v784 : BitVec 32 := Scalar.muli v9 c1_i32_611
  let v785 : BitVec 32 := Scalar.addi v783 v784
  v785.toNat
def k0_off13 (d0 : Dev nD) : Fin 3 → Nat :=
  let c4_i32_618 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v798 : BitVec 32 := Scalar.muli c4_i32_618 v12
  let c2_i32_619 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v799 : BitVec 32 := Scalar.muli c2_i32_619 v13
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v801 : BitVec 32 := Scalar.addi v800 v8
  let c0_i32_628 : BitVec 32 := 0#32
  let c0_i32_629 : BitVec 32 := 0#32
  ![v801.toNat, 0, 0]
def k0_dev31 (d0 : Dev nD) : Nat :=
  let c0_i32_640 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_639 : BitVec 32 := 4#32
  let v822 : BitVec 32 := Scalar.muli v2 c4_i32_639
  let v823 : BitVec 32 := Scalar.addi c0_i32_640 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_641 : BitVec 32 := 2#32
  let v824 : BitVec 32 := Scalar.muli v5 c2_i32_641
  let v825 : BitVec 32 := Scalar.addi v823 v824
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_642 : BitVec 32 := 1#32
  let v826 : BitVec 32 := Scalar.muli v9 c1_i32_642
  let v827 : BitVec 32 := Scalar.addi v825 v826
  v827.toNat
def k0_off14 (d0 : Dev nD) : Fin 4 → Nat :=
  let c4_i32_649 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v840 : BitVec 32 := Scalar.muli c4_i32_649 v12
  let c2_i32_650 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v841 : BitVec 32 := Scalar.muli c2_i32_650 v13
  let v842 : BitVec 32 := Scalar.addi v840 v841
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v843 : BitVec 32 := Scalar.addi v842 v8
  let c0_i32_659 : BitVec 32 := 0#32
  let c0_i32_660 : BitVec 32 := 0#32
  let c0_i32_661 : BitVec 32 := 0#32
  ![v843.toNat, 0, 0, 0]
def k0_dev32 (d0 : Dev nD) : Nat :=
  let c0_i32_674 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_673 : BitVec 32 := 4#32
  let v864 : BitVec 32 := Scalar.muli v2 c4_i32_673
  let v865 : BitVec 32 := Scalar.addi c0_i32_674 v864
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_675 : BitVec 32 := 2#32
  let v866 : BitVec 32 := Scalar.muli v5 c2_i32_675
  let v867 : BitVec 32 := Scalar.addi v865 v866
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_676 : BitVec 32 := 1#32
  let v868 : BitVec 32 := Scalar.muli v9 c1_i32_676
  let v869 : BitVec 32 := Scalar.addi v867 v868
  v869.toNat
def k0_dev33 (d0 : Dev nD) : Nat :=
  let c0_i32_710 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_709 : BitVec 32 := 4#32
  let v906 : BitVec 32 := Scalar.muli v2 c4_i32_709
  let v907 : BitVec 32 := Scalar.addi c0_i32_710 v906
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_711 : BitVec 32 := 2#32
  let v908 : BitVec 32 := Scalar.muli v5 c2_i32_711
  let v909 : BitVec 32 := Scalar.addi v907 v908
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_712 : BitVec 32 := 1#32
  let v910 : BitVec 32 := Scalar.muli v9 c1_i32_712
  let v911 : BitVec 32 := Scalar.addi v909 v910
  v911.toNat
def k0_off15 (d0 : Dev nD) : Fin 3 → Nat :=
  let c4_i32_721 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v924 : BitVec 32 := Scalar.muli c4_i32_721 v12
  let c2_i32_722 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v925 : BitVec 32 := Scalar.muli c2_i32_722 v13
  let v926 : BitVec 32 := Scalar.addi v924 v925
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v927 : BitVec 32 := Scalar.addi v926 v8
  let c0_i32_731 : BitVec 32 := 0#32
  let c0_i32_732 : BitVec 32 := 0#32
  ![v927.toNat, 0, 0]
def k0_dev34 (d0 : Dev nD) : Nat :=
  let c0_i32_744 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_743 : BitVec 32 := 4#32
  let v948 : BitVec 32 := Scalar.muli v2 c4_i32_743
  let v949 : BitVec 32 := Scalar.addi c0_i32_744 v948
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_745 : BitVec 32 := 2#32
  let v950 : BitVec 32 := Scalar.muli v5 c2_i32_745
  let v951 : BitVec 32 := Scalar.addi v949 v950
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_746 : BitVec 32 := 1#32
  let v952 : BitVec 32 := Scalar.muli v9 c1_i32_746
  let v953 : BitVec 32 := Scalar.addi v951 v952
  v953.toNat
def k0_off16 (d0 : Dev nD) : Fin 3 → Nat :=
  let c4_i32_753 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v966 : BitVec 32 := Scalar.muli c4_i32_753 v12
  let c2_i32_754 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v967 : BitVec 32 := Scalar.muli c2_i32_754 v13
  let v968 : BitVec 32 := Scalar.addi v966 v967
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v969 : BitVec 32 := Scalar.addi v968 v8
  let c0_i32_763 : BitVec 32 := 0#32
  let c0_i32_764 : BitVec 32 := 0#32
  ![v969.toNat, 0, 0]
def k0_dev35 (d0 : Dev nD) : Nat :=
  let c0_i32_776 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_775 : BitVec 32 := 4#32
  let v990 : BitVec 32 := Scalar.muli v2 c4_i32_775
  let v991 : BitVec 32 := Scalar.addi c0_i32_776 v990
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_777 : BitVec 32 := 2#32
  let v992 : BitVec 32 := Scalar.muli v5 c2_i32_777
  let v993 : BitVec 32 := Scalar.addi v991 v992
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_778 : BitVec 32 := 1#32
  let v994 : BitVec 32 := Scalar.muli v9 c1_i32_778
  let v995 : BitVec 32 := Scalar.addi v993 v994
  v995.toNat
def k0_off17 (d0 : Dev nD) : Fin 3 → Nat :=
  let c4_i32_785 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1008 : BitVec 32 := Scalar.muli c4_i32_785 v2
  let c2_i32_786 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1009 : BitVec 32 := Scalar.muli c2_i32_786 v5
  let v1010 : BitVec 32 := Scalar.addi v1008 v1009
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1011 : BitVec 32 := Scalar.addi v1010 v9
  let c0_i32_795 : BitVec 32 := 0#32
  let c0_i32_796 : BitVec 32 := 0#32
  ![v1011.toNat, 0, 0]
def k0_off18 (d0 : Dev nD) : Fin 3 → Nat :=
  let c4_i32_802 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1029 : BitVec 32 := Scalar.muli c4_i32_802 v10
  let c2_i32_803 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1030 : BitVec 32 := Scalar.muli c2_i32_803 v5
  let v1031 : BitVec 32 := Scalar.addi v1029 v1030
  let c1_i32_799 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1024 : BitVec 32 := Scalar.subi c1_i32_799 v8
  let v1032 : BitVec 32 := Scalar.addi v1031 v1024
  let c0_i32_812 : BitVec 32 := 0#32
  let c0_i32_813 : BitVec 32 := 0#32
  ![v1032.toNat, 0, 0]
def k0_off19 (d0 : Dev nD) : Fin 3 → Nat :=
  let c4_i32_819 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1050 : BitVec 32 := Scalar.muli c4_i32_819 v2
  let c2_i32_820 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1051 : BitVec 32 := Scalar.muli c2_i32_820 v11
  let v1052 : BitVec 32 := Scalar.addi v1050 v1051
  let c1_i32_816 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1045 : BitVec 32 := Scalar.subi c1_i32_816 v8
  let v1053 : BitVec 32 := Scalar.addi v1052 v1045
  let c0_i32_829 : BitVec 32 := 0#32
  let c0_i32_830 : BitVec 32 := 0#32
  ![v1053.toNat, 0, 0]
def k0_off20 (d0 : Dev nD) : Fin 3 → Nat :=
  let c4_i32_836 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1071 : BitVec 32 := Scalar.muli c4_i32_836 v12
  let c2_i32_837 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1072 : BitVec 32 := Scalar.muli c2_i32_837 v13
  let v1073 : BitVec 32 := Scalar.addi v1071 v1072
  let c1_i32_833 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1066 : BitVec 32 := Scalar.subi c1_i32_833 v8
  let v1074 : BitVec 32 := Scalar.addi v1073 v1066
  let c0_i32_846 : BitVec 32 := 0#32
  let c0_i32_847 : BitVec 32 := 0#32
  ![v1074.toNat, 0, 0]
def k0_off21 (d0 : Dev nD) : Fin 4 → Nat :=
  let c4_i32_852 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1091 : BitVec 32 := Scalar.muli c4_i32_852 v2
  let c2_i32_853 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1092 : BitVec 32 := Scalar.muli c2_i32_853 v5
  let v1093 : BitVec 32 := Scalar.addi v1091 v1092
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1094 : BitVec 32 := Scalar.addi v1093 v9
  let c0_i32_862 : BitVec 32 := 0#32
  let c0_i32_863 : BitVec 32 := 0#32
  let c0_i32_864 : BitVec 32 := 0#32
  ![v1094.toNat, 0, 0, 0]
def k0_off22 (d0 : Dev nD) : Fin 4 → Nat :=
  let c4_i32_871 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1112 : BitVec 32 := Scalar.muli c4_i32_871 v10
  let c2_i32_872 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1113 : BitVec 32 := Scalar.muli c2_i32_872 v5
  let v1114 : BitVec 32 := Scalar.addi v1112 v1113
  let c1_i32_868 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1107 : BitVec 32 := Scalar.subi c1_i32_868 v8
  let v1115 : BitVec 32 := Scalar.addi v1114 v1107
  let c0_i32_881 : BitVec 32 := 0#32
  let c0_i32_882 : BitVec 32 := 0#32
  let c0_i32_883 : BitVec 32 := 0#32
  ![v1115.toNat, 0, 0, 0]
def k0_off23 (d0 : Dev nD) : Fin 4 → Nat :=
  let c4_i32_890 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1133 : BitVec 32 := Scalar.muli c4_i32_890 v2
  let c2_i32_891 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1134 : BitVec 32 := Scalar.muli c2_i32_891 v11
  let v1135 : BitVec 32 := Scalar.addi v1133 v1134
  let c1_i32_887 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1128 : BitVec 32 := Scalar.subi c1_i32_887 v8
  let v1136 : BitVec 32 := Scalar.addi v1135 v1128
  let c0_i32_900 : BitVec 32 := 0#32
  let c0_i32_901 : BitVec 32 := 0#32
  let c0_i32_902 : BitVec 32 := 0#32
  ![v1136.toNat, 0, 0, 0]
def k0_off24 (d0 : Dev nD) : Fin 4 → Nat :=
  let c4_i32_909 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1154 : BitVec 32 := Scalar.muli c4_i32_909 v12
  let c2_i32_910 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1155 : BitVec 32 := Scalar.muli c2_i32_910 v13
  let v1156 : BitVec 32 := Scalar.addi v1154 v1155
  let c1_i32_906 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1149 : BitVec 32 := Scalar.subi c1_i32_906 v8
  let v1157 : BitVec 32 := Scalar.addi v1156 v1149
  let c0_i32_919 : BitVec 32 := 0#32
  let c0_i32_920 : BitVec 32 := 0#32
  let c0_i32_921 : BitVec 32 := 0#32
  ![v1157.toNat, 0, 0, 0]
def k0_off25 (d0 : Dev nD) : Fin 3 → Nat :=
  let c4_i32_1002 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1257 : BitVec 32 := Scalar.muli c4_i32_1002 v2
  let c2_i32_1003 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1258 : BitVec 32 := Scalar.muli c2_i32_1003 v5
  let v1259 : BitVec 32 := Scalar.addi v1257 v1258
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1260 : BitVec 32 := Scalar.addi v1259 v9
  let c0_i32_1012 : BitVec 32 := 0#32
  let c0_i32_1013 : BitVec 32 := 0#32
  ![v1260.toNat, 0, 0]
def k0_off26 (d0 : Dev nD) : Fin 3 → Nat :=
  let c4_i32_1019 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1278 : BitVec 32 := Scalar.muli c4_i32_1019 v10
  let c2_i32_1020 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1279 : BitVec 32 := Scalar.muli c2_i32_1020 v5
  let v1280 : BitVec 32 := Scalar.addi v1278 v1279
  let c1_i32_1016 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1273 : BitVec 32 := Scalar.subi c1_i32_1016 v8
  let v1281 : BitVec 32 := Scalar.addi v1280 v1273
  let c0_i32_1029 : BitVec 32 := 0#32
  let c0_i32_1030 : BitVec 32 := 0#32
  ![v1281.toNat, 0, 0]
def k0_off27 (d0 : Dev nD) : Fin 3 → Nat :=
  let c4_i32_1036 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1299 : BitVec 32 := Scalar.muli c4_i32_1036 v2
  let c2_i32_1037 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1300 : BitVec 32 := Scalar.muli c2_i32_1037 v11
  let v1301 : BitVec 32 := Scalar.addi v1299 v1300
  let c1_i32_1033 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1294 : BitVec 32 := Scalar.subi c1_i32_1033 v8
  let v1302 : BitVec 32 := Scalar.addi v1301 v1294
  let c0_i32_1046 : BitVec 32 := 0#32
  let c0_i32_1047 : BitVec 32 := 0#32
  ![v1302.toNat, 0, 0]
def k0_off28 (d0 : Dev nD) : Fin 3 → Nat :=
  let c4_i32_1053 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1320 : BitVec 32 := Scalar.muli c4_i32_1053 v12
  let c2_i32_1054 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1321 : BitVec 32 := Scalar.muli c2_i32_1054 v13
  let v1322 : BitVec 32 := Scalar.addi v1320 v1321
  let c1_i32_1050 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1315 : BitVec 32 := Scalar.subi c1_i32_1050 v8
  let v1323 : BitVec 32 := Scalar.addi v1322 v1315
  let c0_i32_1063 : BitVec 32 := 0#32
  let c0_i32_1064 : BitVec 32 := 0#32
  ![v1323.toNat, 0, 0]
def k0_off29 (d0 : Dev nD) : Fin 3 → Nat :=
  let c4_i32_1069 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1340 : BitVec 32 := Scalar.muli c4_i32_1069 v2
  let c2_i32_1070 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1341 : BitVec 32 := Scalar.muli c2_i32_1070 v5
  let v1342 : BitVec 32 := Scalar.addi v1340 v1341
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1343 : BitVec 32 := Scalar.addi v1342 v9
  let c0_i32_1079 : BitVec 32 := 0#32
  let c0_i32_1080 : BitVec 32 := 0#32
  ![v1343.toNat, 0, 0]
def k0_off30 (d0 : Dev nD) : Fin 3 → Nat :=
  let c4_i32_1086 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1361 : BitVec 32 := Scalar.muli c4_i32_1086 v10
  let c2_i32_1087 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1362 : BitVec 32 := Scalar.muli c2_i32_1087 v5
  let v1363 : BitVec 32 := Scalar.addi v1361 v1362
  let c1_i32_1083 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1356 : BitVec 32 := Scalar.subi c1_i32_1083 v8
  let v1364 : BitVec 32 := Scalar.addi v1363 v1356
  let c0_i32_1096 : BitVec 32 := 0#32
  let c0_i32_1097 : BitVec 32 := 0#32
  ![v1364.toNat, 0, 0]
def k0_off31 (d0 : Dev nD) : Fin 3 → Nat :=
  let c4_i32_1103 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1382 : BitVec 32 := Scalar.muli c4_i32_1103 v2
  let c2_i32_1104 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1383 : BitVec 32 := Scalar.muli c2_i32_1104 v11
  let v1384 : BitVec 32 := Scalar.addi v1382 v1383
  let c1_i32_1100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1377 : BitVec 32 := Scalar.subi c1_i32_1100 v8
  let v1385 : BitVec 32 := Scalar.addi v1384 v1377
  let c0_i32_1113 : BitVec 32 := 0#32
  let c0_i32_1114 : BitVec 32 := 0#32
  ![v1385.toNat, 0, 0]
def k0_off32 (d0 : Dev nD) : Fin 3 → Nat :=
  let c4_i32_1120 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1403 : BitVec 32 := Scalar.muli c4_i32_1120 v12
  let c2_i32_1121 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1404 : BitVec 32 := Scalar.muli c2_i32_1121 v13
  let v1405 : BitVec 32 := Scalar.addi v1403 v1404
  let c1_i32_1117 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1398 : BitVec 32 := Scalar.subi c1_i32_1117 v8
  let v1406 : BitVec 32 := Scalar.addi v1405 v1398
  let c0_i32_1130 : BitVec 32 := 0#32
  let c0_i32_1131 : BitVec 32 := 0#32
  ![v1406.toNat, 0, 0]
-- ==== Reference.lean ====
abbrev S4096x20480 : Shape := ⟨2, ![4096, 20480]⟩
abbrev S16x256x256 : Shape := ⟨3, ![16, 256, 256]⟩
abbrev S2048x4096 : Shape := ⟨2, ![2048, 4096]⟩
abbrev S704x128 : Shape := ⟨2, ![704, 128]⟩
abbrev S4096x8x2560 : Shape := ⟨3, ![4096, 8, 2560]⟩
abbrev S8x4096x2560 : Shape := ⟨3, ![8, 4096, 2560]⟩
abbrev S16x8x32x256 : Shape := ⟨4, ![16, 8, 32, 256]⟩
abbrev S8x16x32x256 : Shape := ⟨4, ![8, 16, 32, 256]⟩
abbrev S2048x8x512 : Shape := ⟨3, ![2048, 8, 512]⟩
abbrev S8x2048x512 : Shape := ⟨3, ![8, 2048, 512]⟩
abbrev S8x88x128 : Shape := ⟨3, ![8, 88, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x20480, .bf16⟩
  | .hbm, ⟨1, _⟩ => ⟨S16x256x256, .bf16⟩
  | .hbm, ⟨2, _⟩ => ⟨S16x256x256, .bf16⟩
  | .hbm, ⟨3, _⟩ => ⟨S2048x4096, .bf16⟩
  | .hbm, ⟨4, _⟩ => ⟨S704x128, .f32⟩
  | .hbm, ⟨5, _⟩ => ⟨S4096x8x2560, .bf16⟩
  | .hbm, ⟨6, _⟩ => ⟨S8x4096x2560, .bf16⟩
  | .hbm, ⟨7, _⟩ => ⟨S16x8x32x256, .bf16⟩
  | .hbm, ⟨8, _⟩ => ⟨S8x16x32x256, .bf16⟩
  | .hbm, ⟨9, _⟩ => ⟨S16x8x32x256, .bf16⟩
  | .hbm, ⟨10, _⟩ => ⟨S8x16x32x256, .bf16⟩
  | .hbm, ⟨11, _⟩ => ⟨S2048x8x512, .bf16⟩
  | .hbm, ⟨12, _⟩ => ⟨S8x2048x512, .bf16⟩
  | .hbm, ⟨13, _⟩ => ⟨S8x88x128, .f32⟩
  | _, _ => ⟨S4096x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Swap.lean ====
abbrev S4x2x4096x2560 : Shape := ⟨4, ![4, 2, 4096, 2560]⟩
abbrev S4x2x512x256 : Shape := ⟨4, ![4, 2, 512, 256]⟩
abbrev S4x4096x2560 : Shape := ⟨3, ![4, 4096, 2560]⟩
abbrev S4x512x256 : Shape := ⟨3, ![4, 512, 256]⟩
abbrev S3x4 : Shape := ⟨2, ![3, 4]⟩
abbrev S1x1 : Shape := ⟨2, ![1, 1]⟩
abbrev S_ : Shape := ⟨0, ![]⟩
abbrev S1x4096x2560 : Shape := ⟨3, ![1, 4096, 2560]⟩
abbrev S4096x2560 : Shape := ⟨2, ![4096, 2560]⟩
abbrev S1x1x4096x2560 : Shape := ⟨4, ![1, 1, 4096, 2560]⟩
abbrev S1x512x256 : Shape := ⟨3, ![1, 512, 256]⟩
abbrev S512x256 : Shape := ⟨2, ![512, 256]⟩
abbrev S1x1x512x256 : Shape := ⟨4, ![1, 1, 512, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x2x4096x2560, .bf16⟩
  | .hbm, ⟨1, _⟩ => ⟨S4x2x512x256, .bf16⟩
  | .hbm, ⟨2, _⟩ => ⟨S4x2x512x256, .bf16⟩
  | .hbm, ⟨3, _⟩ => ⟨S4x4096x2560, .bf16⟩
  | .hbm, ⟨4, _⟩ => ⟨S4x512x256, .bf16⟩
  | .hbm, ⟨5, _⟩ => ⟨S4x512x256, .bf16⟩
  | _, _ => ⟨S4x2x4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_38 : BitVec 32 := 0#32
  let c0_i32_39 : BitVec 32 := 0#32
  ![0, v9.toNat, 0, 0]
def k0_dev1 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v33 : BitVec 32 := Scalar.muli v2 c4_i32_32
  let v34 : BitVec 32 := Scalar.addi c0_i32_33 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v35 : BitVec 32 := Scalar.muli v5 c2_i32_34
  let v36 : BitVec 32 := Scalar.addi v34 v35
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_35 : BitVec 32 := 1#32
  let v37 : BitVec 32 := Scalar.muli v10 c1_i32_35
  let v38 : BitVec 32 := Scalar.addi v36 v37
  v38.toNat
def k0_off2 (d0 : Dev nD) : Fin 4 → Nat :=
  let c1_i32_40 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_52 : BitVec 32 := 0#32
  let c0_i32_53 : BitVec 32 := 0#32
  ![1, v11.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v47 : BitVec 32 := Scalar.muli v2 c4_i32_46
  let v48 : BitVec 32 := Scalar.addi c0_i32_47 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v49 : BitVec 32 := Scalar.muli v5 c2_i32_48
  let v50 : BitVec 32 := Scalar.addi v48 v49
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_49 : BitVec 32 := 1#32
  let v51 : BitVec 32 := Scalar.muli v12 c1_i32_49
  let v52 : BitVec 32 := Scalar.addi v50 v51
  v52.toNat
def k0_off3 (d0 : Dev nD) : Fin 4 → Nat :=
  let c2_i32_54 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_66 : BitVec 32 := 0#32
  let c0_i32_67 : BitVec 32 := 0#32
  ![2, v13.toNat, 0, 0]
def k0_dev3 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v61 : BitVec 32 := Scalar.muli v2 c4_i32_60
  let v62 : BitVec 32 := Scalar.addi c0_i32_61 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v63 : BitVec 32 := Scalar.muli v5 c2_i32_62
  let v64 : BitVec 32 := Scalar.addi v62 v63
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_63 : BitVec 32 := 1#32
  let v65 : BitVec 32 := Scalar.muli v14 c1_i32_63
  let v66 : BitVec 32 := Scalar.addi v64 v65
  v66.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_79 : BitVec 32 := 0#32
  let c0_i32_80 : BitVec 32 := 0#32
  ![3, v15.toNat, 0, 0]
def k0_dev4 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v75 : BitVec 32 := Scalar.muli v2 c4_i32_73
  let v76 : BitVec 32 := Scalar.addi c0_i32_74 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v77 : BitVec 32 := Scalar.muli v5 c2_i32_75
  let v78 : BitVec 32 := Scalar.addi v76 v77
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_76 : BitVec 32 := 1#32
  let v79 : BitVec 32 := Scalar.muli v16 c1_i32_76
  let v80 : BitVec 32 := Scalar.addi v78 v79
  v80.toNat
def k0_off5 (d0 : Dev nD) : Fin 4 → Nat :=
  let c0_i32_81 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_93 : BitVec 32 := 0#32
  let c0_i32_94 : BitVec 32 := 0#32
  ![0, v17.toNat, 0, 0]
def k0_dev5 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v89 : BitVec 32 := Scalar.muli v2 c4_i32_87
  let v90 : BitVec 32 := Scalar.addi c0_i32_88 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v91 : BitVec 32 := Scalar.muli v5 c2_i32_89
  let v92 : BitVec 32 := Scalar.addi v90 v91
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c1_i32_90 : BitVec 32 := 1#32
  let v93 : BitVec 32 := Scalar.muli v18 c1_i32_90
  let v94 : BitVec 32 := Scalar.addi v92 v93
  v94.toNat
def k0_off6 (d0 : Dev nD) : Fin 4 → Nat :=
  let c1_i32_95 : BitVec 32 := 1#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_107 : BitVec 32 := 0#32
  let c0_i32_108 : BitVec 32 := 0#32
  ![1, v19.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v103 : BitVec 32 := Scalar.muli v2 c4_i32_101
  let v104 : BitVec 32 := Scalar.addi c0_i32_102 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v105 : BitVec 32 := Scalar.muli v5 c2_i32_103
  let v106 : BitVec 32 := Scalar.addi v104 v105
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c1_i32_104 : BitVec 32 := 1#32
  let v107 : BitVec 32 := Scalar.muli v20 c1_i32_104
  let v108 : BitVec 32 := Scalar.addi v106 v107
  v108.toNat
def k0_off7 (d0 : Dev nD) : Fin 4 → Nat :=
  let c2_i32_109 : BitVec 32 := 2#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_15 v8
  let c0_i32_121 : BitVec 32 := 0#32
  let c0_i32_122 : BitVec 32 := 0#32
  ![2, v21.toNat, 0, 0]
def k0_dev7 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v117 : BitVec 32 := Scalar.muli v2 c4_i32_115
  let v118 : BitVec 32 := Scalar.addi c0_i32_116 v117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v119 : BitVec 32 := Scalar.muli v5 c2_i32_117
  let v120 : BitVec 32 := Scalar.addi v118 v119
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c1_i32_118 : BitVec 32 := 1#32
  let v121 : BitVec 32 := Scalar.muli v22 c1_i32_118
  let v122 : BitVec 32 := Scalar.addi v120 v121
  v122.toNat
def k0_off8 (d0 : Dev nD) : Fin 4 → Nat :=
  let c3_i32_123 : BitVec 32 := 3#32
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_17 v8
  let c0_i32_135 : BitVec 32 := 0#32
  let c0_i32_136 : BitVec 32 := 0#32
  ![3, v23.toNat, 0, 0]
def k0_dev8 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v131 : BitVec 32 := Scalar.muli v2 c4_i32_129
  let v132 : BitVec 32 := Scalar.addi c0_i32_130 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v133 : BitVec 32 := Scalar.muli v5 c2_i32_131
  let v134 : BitVec 32 := Scalar.addi v132 v133
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_18 v8
  let c1_i32_132 : BitVec 32 := 1#32
  let v135 : BitVec 32 := Scalar.muli v24 c1_i32_132
  let v136 : BitVec 32 := Scalar.addi v134 v135
  v136.toNat
def k0_dev9 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v145 : BitVec 32 := Scalar.muli v2 c4_i32_143
  let v146 : BitVec 32 := Scalar.addi c0_i32_144 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_145 : BitVec 32 := 2#32
  let v147 : BitVec 32 := Scalar.muli v5 c2_i32_145
  let v148 : BitVec 32 := Scalar.addi v146 v147
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_20 v8
  let c1_i32_146 : BitVec 32 := 1#32
  let v149 : BitVec 32 := Scalar.muli v26 c1_i32_146
  let v150 : BitVec 32 := Scalar.addi v148 v149
  v150.toNat
def k0_dev10 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v159 : BitVec 32 := Scalar.muli v2 c4_i32_157
  let v160 : BitVec 32 := Scalar.addi c0_i32_158 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_159 : BitVec 32 := 2#32
  let v161 : BitVec 32 := Scalar.muli v5 c2_i32_159
  let v162 : BitVec 32 := Scalar.addi v160 v161
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_22 v8
  let c1_i32_160 : BitVec 32 := 1#32
  let v163 : BitVec 32 := Scalar.muli v28 c1_i32_160
  let v164 : BitVec 32 := Scalar.addi v162 v163
  v164.toNat
def k0_dev11 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_171 : BitVec 32 := 4#32
  let v173 : BitVec 32 := Scalar.muli v2 c4_i32_171
  let v174 : BitVec 32 := Scalar.addi c0_i32_172 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_173 : BitVec 32 := 2#32
  let v175 : BitVec 32 := Scalar.muli v5 c2_i32_173
  let v176 : BitVec 32 := Scalar.addi v174 v175
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_24 v8
  let c1_i32_174 : BitVec 32 := 1#32
  let v177 : BitVec 32 := Scalar.muli v30 c1_i32_174
  let v178 : BitVec 32 := Scalar.addi v176 v177
  v178.toNat
def k0_dev12 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v187 : BitVec 32 := Scalar.muli v2 c4_i32_185
  let v188 : BitVec 32 := Scalar.addi c0_i32_186 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v189 : BitVec 32 := Scalar.muli v5 c2_i32_187
  let v190 : BitVec 32 := Scalar.addi v188 v189
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_26 v8
  let c1_i32_188 : BitVec 32 := 1#32
  let v191 : BitVec 32 := Scalar.muli v32 c1_i32_188
  let v192 : BitVec 32 := Scalar.addi v190 v191
  v192.toNat
-- ==== SwapRef.lean ====
abbrev S32x2x4096x2560 : Shape := ⟨4, ![32, 2, 4096, 2560]⟩
abbrev S32x2x512x256 : Shape := ⟨4, ![32, 2, 512, 256]⟩
abbrev S4x2x4x2x4096x2560 : Shape := ⟨6, ![4, 2, 4, 2, 4096, 2560]⟩
abbrev S4x1x4x1x4096x2560 : Shape := ⟨6, ![4, 1, 4, 1, 4096, 2560]⟩
abbrev S4x2x4x1x4096x2560 : Shape := ⟨6, ![4, 2, 4, 1, 4096, 2560]⟩
abbrev S32x4096x2560 : Shape := ⟨3, ![32, 4096, 2560]⟩
abbrev S4x2x4x2x512x256 : Shape := ⟨6, ![4, 2, 4, 2, 512, 256]⟩
abbrev S4x1x4x1x512x256 : Shape := ⟨6, ![4, 1, 4, 1, 512, 256]⟩
abbrev S4x2x4x1x512x256 : Shape := ⟨6, ![4, 2, 4, 1, 512, 256]⟩
abbrev S32x512x256 : Shape := ⟨3, ![32, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S32x2x4096x2560, .bf16⟩
  | .hbm, ⟨1, _⟩ => ⟨S32x2x512x256, .bf16⟩
  | .hbm, ⟨2, _⟩ => ⟨S32x2x512x256, .bf16⟩
  | .hbm, ⟨3, _⟩ => ⟨S4x2x4x2x4096x2560, .bf16⟩
  | .hbm, ⟨4, _⟩ => ⟨S4x1x4x1x4096x2560, .bf16⟩
  | .hbm, ⟨5, _⟩ => ⟨S4x1x4x1x4096x2560, .bf16⟩
  | .hbm, ⟨6, _⟩ => ⟨S4x2x4x1x4096x2560, .bf16⟩
  | .hbm, ⟨7, _⟩ => ⟨S32x4096x2560, .bf16⟩
  | .hbm, ⟨8, _⟩ => ⟨S4x2x4x2x512x256, .bf16⟩
  | .hbm, ⟨9, _⟩ => ⟨S4x1x4x1x512x256, .bf16⟩
  | .hbm, ⟨10, _⟩ => ⟨S4x1x4x1x512x256, .bf16⟩
  | .hbm, ⟨11, _⟩ => ⟨S4x2x4x1x512x256, .bf16⟩
  | .hbm, ⟨12, _⟩ => ⟨S32x512x256, .bf16⟩
  | .hbm, ⟨13, _⟩ => ⟨S4x2x4x2x512x256, .bf16⟩
  | .hbm, ⟨14, _⟩ => ⟨S4x1x4x1x512x256, .bf16⟩
  | .hbm, ⟨15, _⟩ => ⟨S4x1x4x1x512x256, .bf16⟩
  | .hbm, ⟨16, _⟩ => ⟨S4x2x4x1x512x256, .bf16⟩
  | .hbm, ⟨17, _⟩ => ⟨S32x512x256, .bf16⟩
  | _, _ => ⟨S32x2x4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Up.lean ====
abbrev S4096x24576 : Shape := ⟨2, ![4096, 24576]⟩
abbrev S8x4096x3072 : Shape := ⟨3, ![8, 4096, 3072]⟩
abbrev S4x2x4096x3072 : Shape := ⟨4, ![4, 2, 4096, 3072]⟩
abbrev S4096x4096 : Shape := ⟨2, ![4096, 4096]⟩
abbrev S4x4096x3072 : Shape := ⟨3, ![4, 4096, 3072]⟩
abbrev S1024x3072 : Shape := ⟨2, ![1024, 3072]⟩
abbrev S1x1024x3072 : Shape := ⟨3, ![1, 1024, 3072]⟩
abbrev S1024x1024 : Shape := ⟨2, ![1024, 1024]⟩
abbrev S1x4 : Shape := ⟨2, ![1, 4]⟩
abbrev S1x1 : Shape := ⟨2, ![1, 1]⟩
abbrev S_ : Shape := ⟨0, ![]⟩
abbrev S1x4096x3072 : Shape := ⟨3, ![1, 4096, 3072]⟩
abbrev S4096x3072 : Shape := ⟨2, ![4096, 3072]⟩
abbrev S1x1x4096x3072 : Shape := ⟨4, ![1, 1, 4096, 3072]⟩

abbrev nBuf : Space → Nat
  | .hbm => 5
  | .vmem => 7
  | .smem => 0
  | _ => 0

abbrev bufTy : (tb : Table) → Fin (tcTables nBuf tb) → BufTy
  | .hbm, ⟨0, _⟩ => ⟨S4096x24576, .bf16⟩
  | .hbm, ⟨1, _⟩ => ⟨S8x4096x3072, .bf16⟩
  | .hbm, ⟨2, _⟩ => ⟨S4x2x4096x3072, .bf16⟩
  | .hbm, ⟨3, _⟩ => ⟨S4096x4096, .f32⟩
  | .hbm, ⟨4, _⟩ => ⟨S4x4096x3072, .bf16⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 4, 8], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d28 : Dev nD) : Fin 4 → Nat :=
  let c0_i32_26 : BitVec 32 := 0#32
  let c1_i32_18 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v37 : BitVec 32 := Scalar.subi c1_i32_18 v36
  let c0_i32_38 : BitVec 32 := 0#32
  let c0_i32_39 : BitVec 32 := 0#32
  ![0, v37.toNat, 0, 0]
def k0_dev1 (d28 : Dev nD) : Nat :=
  let c0_i32_33 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_32 : BitVec 32 := 4#32
  let v45 : BitVec 32 := Scalar.muli v30 c4_i32_32
  let v46 : BitVec 32 := Scalar.addi c0_i32_33 v45
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_34 : BitVec 32 := 2#32
  let v47 : BitVec 32 := Scalar.muli v33 c2_i32_34
  let v48 : BitVec 32 := Scalar.addi v46 v47
  let c1_i32_19 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v38 : BitVec 32 := Scalar.subi c1_i32_19 v36
  let c1_i32_35 : BitVec 32 := 1#32
  let v49 : BitVec 32 := Scalar.muli v38 c1_i32_35
  let v50 : BitVec 32 := Scalar.addi v48 v49
  v50.toNat
def k0_off2 (d28 : Dev nD) : Fin 4 → Nat :=
  let c1_i32_40 : BitVec 32 := 1#32
  let c1_i32_20 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v39 : BitVec 32 := Scalar.subi c1_i32_20 v36
  let c0_i32_52 : BitVec 32 := 0#32
  let c0_i32_53 : BitVec 32 := 0#32
  ![1, v39.toNat, 0, 0]
def k0_dev2 (d28 : Dev nD) : Nat :=
  let c0_i32_47 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_46 : BitVec 32 := 4#32
  let v59 : BitVec 32 := Scalar.muli v30 c4_i32_46
  let v60 : BitVec 32 := Scalar.addi c0_i32_47 v59
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_48 : BitVec 32 := 2#32
  let v61 : BitVec 32 := Scalar.muli v33 c2_i32_48
  let v62 : BitVec 32 := Scalar.addi v60 v61
  let c1_i32_21 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v40 : BitVec 32 := Scalar.subi c1_i32_21 v36
  let c1_i32_49 : BitVec 32 := 1#32
  let v63 : BitVec 32 := Scalar.muli v40 c1_i32_49
  let v64 : BitVec 32 := Scalar.addi v62 v63
  v64.toNat
def k0_off3 (d28 : Dev nD) : Fin 4 → Nat :=
  let c2_i32_54 : BitVec 32 := 2#32
  let c1_i32_22 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v41 : BitVec 32 := Scalar.subi c1_i32_22 v36
  let c0_i32_66 : BitVec 32 := 0#32
  let c0_i32_67 : BitVec 32 := 0#32
  ![2, v41.toNat, 0, 0]
def k0_dev3 (d28 : Dev nD) : Nat :=
  let c0_i32_61 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_60 : BitVec 32 := 4#32
  let v73 : BitVec 32 := Scalar.muli v30 c4_i32_60
  let v74 : BitVec 32 := Scalar.addi c0_i32_61 v73
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_62 : BitVec 32 := 2#32
  let v75 : BitVec 32 := Scalar.muli v33 c2_i32_62
  let v76 : BitVec 32 := Scalar.addi v74 v75
  let c1_i32_23 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v42 : BitVec 32 := Scalar.subi c1_i32_23 v36
  let c1_i32_63 : BitVec 32 := 1#32
  let v77 : BitVec 32 := Scalar.muli v42 c1_i32_63
  let v78 : BitVec 32 := Scalar.addi v76 v77
  v78.toNat
def k0_off4 (d28 : Dev nD) : Fin 4 → Nat :=
  let c3_i32_68 : BitVec 32 := 3#32
  let c1_i32_24 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v43 : BitVec 32 := Scalar.subi c1_i32_24 v36
  let c0_i32_80 : BitVec 32 := 0#32
  let c0_i32_81 : BitVec 32 := 0#32
  ![3, v43.toNat, 0, 0]
def k0_dev4 (d28 : Dev nD) : Nat :=
  let c0_i32_75 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_74 : BitVec 32 := 4#32
  let v87 : BitVec 32 := Scalar.muli v30 c4_i32_74
  let v88 : BitVec 32 := Scalar.addi c0_i32_75 v87
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_76 : BitVec 32 := 2#32
  let v89 : BitVec 32 := Scalar.muli v33 c2_i32_76
  let v90 : BitVec 32 := Scalar.addi v88 v89
  let c1_i32_25 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v44 : BitVec 32 := Scalar.subi c1_i32_25 v36
  let c1_i32_77 : BitVec 32 := 1#32
  let v91 : BitVec 32 := Scalar.muli v44 c1_i32_77
  let v92 : BitVec 32 := Scalar.addi v90 v91
  v92.toNat
def k0_cond5 (i : grid0.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v8 : BitVec 1 := Scalar.andi v5 v6
  let arg2 : BitVec 32 := BitVec.ofNat 32 (i 2).val
  let c7_i32 : BitVec 32 := 7#32
  let v7 : BitVec 1 := Scalar.cmpi .eq arg2 c7_i32
  let v9 : BitVec 1 := Scalar.andi v8 v7
  let v26 : BitVec 32 := Scalar.extui v9
  let c0_i32_14 : BitVec 32 := 0#32
  let v27 : BitVec 1 := Scalar.cmpi .ne v26 c0_i32_14
  v27

def k0_off5 (d28 : Dev nD) : Fin 4 → Nat :=
  let c0_i32_26 : BitVec 32 := 0#32
  let c1_i32_18 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v37 : BitVec 32 := Scalar.subi c1_i32_18 v36
  let c0_i32_38 : BitVec 32 := 0#32
  let c0_i32_39 : BitVec 32 := 0#32
  ![0, v37.toNat, 0, 0]
def k0_off6 (d28 : Dev nD) : Fin 4 → Nat :=
  let c1_i32_40 : BitVec 32 := 1#32
  let c1_i32_20 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v39 : BitVec 32 := Scalar.subi c1_i32_20 v36
  let c0_i32_52 : BitVec 32 := 0#32
  let c0_i32_53 : BitVec 32 := 0#32
  ![1, v39.toNat, 0, 0]
def k0_off7 (d28 : Dev nD) : Fin 4 → Nat :=
  let c2_i32_54 : BitVec 32 := 2#32
  let c1_i32_22 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v41 : BitVec 32 := Scalar.subi c1_i32_22 v36
  let c0_i32_66 : BitVec 32 := 0#32
  let c0_i32_67 : BitVec 32 := 0#32
  ![2, v41.toNat, 0, 0]
def k0_off8 (d28 : Dev nD) : Fin 4 → Nat :=
  let c3_i32_68 : BitVec 32 := 3#32
  let c1_i32_24 : BitVec 32 := 1#32
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let v43 : BitVec 32 := Scalar.subi c1_i32_24 v36
  let c0_i32_80 : BitVec 32 := 0#32
  let c0_i32_81 : BitVec 32 := 0#32
  ![3, v43.toNat, 0, 0]
def k0_cond4 (i : grid0.Coords) : BitVec 1 :=
  let arg2 : BitVec 32 := BitVec.ofNat 32 (i 2).val
  let c7_i32_12 : BitVec 32 := 7#32
  let v23 : BitVec 1 := Scalar.cmpi .eq arg2 c7_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S32768x24576 : Shape := ⟨2, ![32768, 24576]⟩
abbrev S8x4096x3072 : Shape := ⟨3, ![8, 4096, 3072]⟩
abbrev S32x2x4096x3072 : Shape := ⟨4, ![32, 2, 4096, 3072]⟩
abbrev S4096x8x3072 : Shape := ⟨3, ![4096, 8, 3072]⟩
abbrev S4096x24576 : Shape := ⟨2, ![4096, 24576]⟩
abbrev S24576x4096 : Shape := ⟨2, ![24576, 4096]⟩
abbrev S32768x4096 : Shape := ⟨2, ![32768, 4096]⟩
abbrev S4x2x4x2x4096x3072 : Shape := ⟨6, ![4, 2, 4, 2, 4096, 3072]⟩
abbrev S4x1x4x1x4096x3072 : Shape := ⟨6, ![4, 1, 4, 1, 4096, 3072]⟩
abbrev S4x2x4x1x4096x3072 : Shape := ⟨6, ![4, 2, 4, 1, 4096, 3072]⟩
abbrev S32x4096x3072 : Shape := ⟨3, ![32, 4096, 3072]⟩

abbrev nBuf : Space → Nat
  | .hbm => 12
  | .vmem => 0
  | .smem => 0
  | _ => 0

abbrev bufTy : (tb : Table) → Fin (tcTables nBuf tb) → BufTy
  | .hbm, ⟨0, _⟩ => ⟨S32768x24576, .bf16⟩
  | .hbm, ⟨1, _⟩ => ⟨S8x4096x3072, .bf16⟩
  | .hbm, ⟨2, _⟩ => ⟨S32x2x4096x3072, .bf16⟩
  | .hbm, ⟨3, _⟩ => ⟨S4096x8x3072, .bf16⟩
  | .hbm, ⟨4, _⟩ => ⟨S4096x24576, .bf16⟩
  | .hbm, ⟨5, _⟩ => ⟨S24576x4096, .bf16⟩
  | .hbm, ⟨6, _⟩ => ⟨S32768x4096, .f32⟩
  | .hbm, ⟨7, _⟩ => ⟨S4x2x4x2x4096x3072, .bf16⟩
  | .hbm, ⟨8, _⟩ => ⟨S4x1x4x1x4096x3072, .bf16⟩
  | .hbm, ⟨9, _⟩ => ⟨S4x1x4x1x4096x3072, .bf16⟩
  | .hbm, ⟨10, _⟩ => ⟨S4x2x4x1x4096x3072, .bf16⟩
  | .hbm, ⟨11, _⟩ => ⟨S32x4096x3072, .bf16⟩
  | _, _ => ⟨S32768x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradUp.lean ====
abbrev S4096x4096 : Shape := ⟨2, ![4096, 4096]⟩
abbrev S4096x24576 : Shape := ⟨2, ![4096, 24576]⟩
abbrev S4x1536x4096 : Shape := ⟨3, ![4, 1536, 4096]⟩
abbrev S8x4096x3072 : Shape := ⟨3, ![8, 4096, 3072]⟩
abbrev S4096x512 : Shape := ⟨2, ![4096, 512]⟩
abbrev S4096x1536 : Shape := ⟨2, ![4096, 1536]⟩
abbrev S1x512x1536 : Shape := ⟨3, ![1, 512, 1536]⟩
abbrev S1x3 : Shape := ⟨2, ![1, 3]⟩
abbrev S1x1 : Shape := ⟨2, ![1, 1]⟩
abbrev S_ : Shape := ⟨0, ![]⟩
abbrev S1x1536x4096 : Shape := ⟨3, ![1, 1536, 4096]⟩
abbrev S1536x4096 : Shape := ⟨2, ![1536, 4096]⟩
abbrev S512x1536 : Shape := ⟨2, ![512, 1536]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x24576, .bf16⟩
  | .hbm, ⟨2, _⟩ => ⟨S4x1536x4096, .bf16⟩
  | .hbm, ⟨3, _⟩ => ⟨S8x4096x3072, .bf16⟩
  | .hbm, ⟨4, _⟩ => ⟨S4x1536x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .bf16⟩
  | .local _ .vmem, ⟨5, _⟩ => ⟨S1x512x1536, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![16, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d23 : Dev nD) : Fin 3 → Nat :=
  let c2_i32_21 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v42 : BitVec 32 := Scalar.muli c2_i32_21 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v43 : BitVec 32 := Scalar.addi v42 v28
  let c0_i32_27 : BitVec 32 := 0#32
  let c0_i32_28 : BitVec 32 := 0#32
  ![v43.toNat, 0, 0]
def k0_off2 (d23 : Dev nD) : Fin 3 → Nat :=
  let c2_i32_18 : BitVec 32 := 2#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let v36 : BitVec 32 := Scalar.muli c2_i32_18 v32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v37 : BitVec 32 := Scalar.addi v36 v28
  let c0_i32_40 : BitVec 32 := 0#32
  let c0_i32_41 : BitVec 32 := 0#32
  ![v37.toNat, 0, 0]
def k0_dev1 (d23 : Dev nD) : Nat :=
  let c0_i32_35 : BitVec 32 := 0#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let c4_i32_34 : BitVec 32 := 4#32
  let v50 : BitVec 32 := Scalar.muli v32 c4_i32_34
  let v51 : BitVec 32 := Scalar.addi c0_i32_35 v50
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_36 : BitVec 32 := 2#32
  let v52 : BitVec 32 := Scalar.muli v28 c2_i32_36
  let v53 : BitVec 32 := Scalar.addi v51 v52
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_37 : BitVec 32 := 1#32
  let v54 : BitVec 32 := Scalar.muli v31 c1_i32_37
  let v55 : BitVec 32 := Scalar.addi v53 v54
  v55.toNat
def k0_off3 (d23 : Dev nD) : Fin 3 → Nat :=
  let c2_i32_19 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v38 : BitVec 32 := Scalar.muli c2_i32_19 v25
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let v39 : BitVec 32 := Scalar.addi v38 v33
  let c0_i32_53 : BitVec 32 := 0#32
  let c0_i32_54 : BitVec 32 := 0#32
  ![v39.toNat, 0, 0]
def k0_dev2 (d23 : Dev nD) : Nat :=
  let c0_i32_48 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_47 : BitVec 32 := 4#32
  let v64 : BitVec 32 := Scalar.muli v25 c4_i32_47
  let v65 : BitVec 32 := Scalar.addi c0_i32_48 v64
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let c2_i32_49 : BitVec 32 := 2#32
  let v66 : BitVec 32 := Scalar.muli v33 c2_i32_49
  let v67 : BitVec 32 := Scalar.addi v65 v66
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_50 : BitVec 32 := 1#32
  let v68 : BitVec 32 := Scalar.muli v31 c1_i32_50
  let v69 : BitVec 32 := Scalar.addi v67 v68
  v69.toNat
def k0_off4 (d23 : Dev nD) : Fin 3 → Nat :=
  let c2_i32_20 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let v40 : BitVec 32 := Scalar.muli c2_i32_20 v34
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let v41 : BitVec 32 := Scalar.addi v40 v35
  let c0_i32_65 : BitVec 32 := 0#32
  let c0_i32_66 : BitVec 32 := 0#32
  ![v41.toNat, 0, 0]
def k0_dev3 (d23 : Dev nD) : Nat :=
  let c0_i32_60 : BitVec 32 := 0#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let c4_i32_59 : BitVec 32 := 4#32
  let v78 : BitVec 32 := Scalar.muli v34 c4_i32_59
  let v79 : BitVec 32 := Scalar.addi c0_i32_60 v78
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let c2_i32_61 : BitVec 32 := 2#32
  let v80 : BitVec 32 := Scalar.muli v35 c2_i32_61
  let v81 : BitVec 32 := Scalar.addi v79 v80
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_62 : BitVec 32 := 1#32
  let v82 : BitVec 32 := Scalar.muli v31 c1_i32_62
  let v83 : BitVec 32 := Scalar.addi v81 v82
  v83.toNat
def k0_cond2 (i : grid0.Coords) : BitVec 1 :=
  let arg0 : BitVec 32 := BitVec.ofNat 32 (i 0).val
  let c15_i32 : BitVec 32 := 15#32
  let v5 : BitVec 1 := Scalar.cmpi .eq arg0 c15_i32
  let arg1 : BitVec 32 := BitVec.ofNat 32 (i 1).val
  let c7_i32 : BitVec 32 := 7#32
  let v6 : BitVec 1 := Scalar.cmpi .eq arg1 c7_i32
  let v8 : BitVec 1 := Scalar.andi v5 v6
  let arg2 : BitVec 32 := BitVec.ofNat 32 (i 2).val
  let c0_i32_2 : BitVec 32 := 0#32
  let v7 : BitVec 1 := Scalar.cmpi .eq arg2 c0_i32_2
  let v9 : BitVec 1 := Scalar.andi v8 v7
  let v21 : BitVec 32 := Scalar.extui v9
  let c0_i32_10 : BitVec 32 := 0#32
  let v22 : BitVec 1 := Scalar.cmpi .ne v21 c0_i32_10
  v22

def k0_off5 (d23 : Dev nD) : Fin 3 → Nat :=
  let c2_i32_18 : BitVec 32 := 2#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let v36 : BitVec 32 := Scalar.muli c2_i32_18 v32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v37 : BitVec 32 := Scalar.addi v36 v28
  let c0_i32_33 : BitVec 32 := 0#32
  let c0_i32_34 : BitVec 32 := 0#32
  ![v37.toNat, 0, 0]
def k0_off6 (d23 : Dev nD) : Fin 3 → Nat :=
  let c2_i32_19 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v38 : BitVec 32 := Scalar.muli c2_i32_19 v25
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let v39 : BitVec 32 := Scalar.addi v38 v33
  let c0_i32_46 : BitVec 32 := 0#32
  let c0_i32_47 : BitVec 32 := 0#32
  ![v39.toNat, 0, 0]
def k0_off7 (d23 : Dev nD) : Fin 3 → Nat :=
  let c2_i32_20 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let v40 : BitVec 32 := Scalar.muli c2_i32_20 v34
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let v41 : BitVec 32 := Scalar.addi v40 v35
  let c0_i32_58 : BitVec 32 := 0#32
  let c0_i32_59 : BitVec 32 := 0#32
  ![v41.toNat, 0, 0]
def k0_off8 (d23 : Dev nD) : Fin 3 → Nat :=
  let c2_i32_21 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v42 : BitVec 32 := Scalar.muli c2_i32_21 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v43 : BitVec 32 := Scalar.addi v42 v28
  let c0_i32_95 : BitVec 32 := 0#32
  let c0_i32_96 : BitVec 32 := 0#32
  ![v43.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S32768x4096 : Shape := ⟨2, ![32768, 4096]⟩
abbrev S32768x24576 : Shape := ⟨2, ![32768, 24576]⟩
abbrev S32x1536x4096 : Shape := ⟨3, ![32, 1536, 4096]⟩
abbrev S8x4096x4096 : Shape := ⟨3, ![8, 4096, 4096]⟩
abbrev S8x4096x24576 : Shape := ⟨3, ![8, 4096, 24576]⟩
abbrev S8x4096x8x3072 : Shape := ⟨4, ![8, 4096, 8, 3072]⟩
abbrev S8x8x4096x3072 : Shape := ⟨4, ![8, 8, 4096, 3072]⟩
abbrev S64x4096x3072 : Shape := ⟨3, ![64, 4096, 3072]⟩
abbrev S2x2x2x2x2x6291456 : Shape := ⟨6, ![2, 2, 2, 2, 2, 6291456]⟩
abbrev S1x2x2x2x2x6291456 : Shape := ⟨6, ![1, 2, 2, 2, 2, 6291456]⟩
abbrev S2x1x2x2x2x6291456 : Shape := ⟨6, ![2, 1, 2, 2, 2, 6291456]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x24576, .bf16⟩
  | .hbm, ⟨2, _⟩ => ⟨S32x1536x4096, .bf16⟩
  | .hbm, ⟨3, _⟩ => ⟨S8x4096x4096, .bf16⟩
  | .hbm, ⟨4, _⟩ => ⟨S8x4096x24576, .bf16⟩
  | .hbm, ⟨5, _⟩ => ⟨S8x4096x24576, .f32⟩
  | .hbm, ⟨6, _⟩ => ⟨S8x4096x8x3072, .f32⟩
  | .hbm, ⟨7, _⟩ => ⟨S8x8x4096x3072, .f32⟩
  | .hbm, ⟨8, _⟩ => ⟨S64x4096x3072, .f32⟩
  | .hbm, ⟨9, _⟩ => ⟨S64x4096x3072, .bf16⟩
  | .hbm, ⟨10, _⟩ => ⟨S2x2x2x2x2x6291456, .bf16⟩
  | .hbm, ⟨11, _⟩ => ⟨S2x2x2x2x2x6291456, .bf16⟩
  | .hbm, ⟨12, _⟩ => ⟨S1x2x2x2x2x6291456, .bf16⟩
  | .hbm, ⟨13, _⟩ => ⟨S1x2x2x2x2x6291456, .bf16⟩
  | .hbm, ⟨14, _⟩ => ⟨S1x2x2x2x2x6291456, .bf16⟩
  | .hbm, ⟨15, _⟩ => ⟨S2x2x2x2x2x6291456, .bf16⟩
  | .hbm, ⟨16, _⟩ => ⟨S2x1x2x2x2x6291456, .bf16⟩
  | .hbm, ⟨17, _⟩ => ⟨S2x1x2x2x2x6291456, .bf16⟩
  | .hbm, ⟨18, _⟩ => ⟨S2x1x2x2x2x6291456, .bf16⟩
  | .hbm, ⟨19, _⟩ => ⟨S2x2x2x2x2x6291456, .bf16⟩
  | .hbm, ⟨20, _⟩ => ⟨S32x1536x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== GradIn.lean ====
abbrev S4096x4096 : Shape := ⟨2, ![4096, 4096]⟩
abbrev S4096x20480 : Shape := ⟨2, ![4096, 20480]⟩
abbrev S4x2048x3072 : Shape := ⟨3, ![4, 2048, 3072]⟩
abbrev S4x2048x512 : Shape := ⟨3, ![4, 2048, 512]⟩
abbrev S4x512x4096 : Shape := ⟨3, ![4, 512, 4096]⟩
abbrev S8x4096x2560 : Shape := ⟨3, ![8, 4096, 2560]⟩
abbrev S4096x512 : Shape := ⟨2, ![4096, 512]⟩
abbrev S4096x1280 : Shape := ⟨2, ![4096, 1280]⟩
abbrev S1x512x1280 : Shape := ⟨3, ![1, 512, 1280]⟩
abbrev S3x3 : Shape := ⟨2, ![3, 3]⟩
abbrev S3x1 : Shape := ⟨2, ![3, 1]⟩
abbrev S1x1 : Shape := ⟨2, ![1, 1]⟩
abbrev S_ : Shape := ⟨0, ![]⟩
abbrev S1x2048x3072 : Shape := ⟨3, ![1, 2048, 3072]⟩
abbrev S2048x3072 : Shape := ⟨2, ![2048, 3072]⟩
abbrev S1x2048x512 : Shape := ⟨3, ![1, 2048, 512]⟩
abbrev S2048x512 : Shape := ⟨2, ![2048, 512]⟩
abbrev S1x512x4096 : Shape := ⟨3, ![1, 512, 4096]⟩
abbrev S512x4096 : Shape := ⟨2, ![512, 4096]⟩
abbrev S512x1280 : Shape := ⟨2, ![512, 1280]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x20480, .bf16⟩
  | .hbm, ⟨2, _⟩ => ⟨S4x2048x3072, .bf16⟩
  | .hbm, ⟨3, _⟩ => ⟨S4x2048x512, .bf16⟩
  | .hbm, ⟨4, _⟩ => ⟨S4x512x4096, .bf16⟩
  | .hbm, ⟨5, _⟩ => ⟨S8x4096x2560, .bf16⟩
  | .hbm, ⟨6, _⟩ => ⟨S4x2048x3072, .bf16⟩
  | .hbm, ⟨7, _⟩ => ⟨S4x2048x512, .bf16⟩
  | .hbm, ⟨8, _⟩ => ⟨S4x512x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S1x512x1280, .bf16⟩
  | .local _ .vmem, ⟨5, _⟩ => ⟨S1x512x1280, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![16, 8, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d23 : Dev nD) : Fin 3 → Nat :=
  let c2_i32_35 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v62 : BitVec 32 := Scalar.muli c2_i32_35 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v63 : BitVec 32 := Scalar.addi v62 v28
  let c0_i32_43 : BitVec 32 := 0#32
  let c0_i32_44 : BitVec 32 := 0#32
  ![v63.toNat, 0, 0]
def k0_off2 (d23 : Dev nD) : Fin 3 → Nat :=
  let c2_i32_36 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v64 : BitVec 32 := Scalar.muli c2_i32_36 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v65 : BitVec 32 := Scalar.addi v64 v28
  let c0_i32_50 : BitVec 32 := 0#32
  let c0_i32_51 : BitVec 32 := 0#32
  ![v65.toNat, 0, 0]
def k0_off3 (d23 : Dev nD) : Fin 3 → Nat :=
  let c2_i32_37 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v66 : BitVec 32 := Scalar.muli c2_i32_37 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v67 : BitVec 32 := Scalar.addi v66 v28
  let c0_i32_57 : BitVec 32 := 0#32
  let c0_i32_58 : BitVec 32 := 0#32
  ![v67.toNat, 0, 0]
def k0_off4 (d23 : Dev nD) : Fin 3 → Nat :=
  let c2_i32_18 : BitVec 32 := 2#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let v36 : BitVec 32 := Scalar.muli c2_i32_18 v32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v37 : BitVec 32 := Scalar.addi v36 v28
  let c0_i32_70 : BitVec 32 := 0#32
  let c0_i32_71 : BitVec 32 := 0#32
  ![v37.toNat, 0, 0]
def k0_dev1 (d23 : Dev nD) : Nat :=
  let c0_i32_65 : BitVec 32 := 0#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let c4_i32_64 : BitVec 32 := 4#32
  let v86 : BitVec 32 := Scalar.muli v32 c4_i32_64
  let v87 : BitVec 32 := Scalar.addi c0_i32_65 v86
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_66 : BitVec 32 := 2#32
  let v88 : BitVec 32 := Scalar.muli v28 c2_i32_66
  let v89 : BitVec 32 := Scalar.addi v87 v88
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_67 : BitVec 32 := 1#32
  let v90 : BitVec 32 := Scalar.muli v31 c1_i32_67
  let v91 : BitVec 32 := Scalar.addi v89 v90
  v91.toNat
def k0_off5 (d23 : Dev nD) : Fin 3 → Nat :=
  let c2_i32_19 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v38 : BitVec 32 := Scalar.muli c2_i32_19 v25
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let v39 : BitVec 32 := Scalar.addi v38 v33
  let c0_i32_83 : BitVec 32 := 0#32
  let c0_i32_84 : BitVec 32 := 0#32
  ![v39.toNat, 0, 0]
def k0_dev2 (d23 : Dev nD) : Nat :=
  let c0_i32_78 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_77 : BitVec 32 := 4#32
  let v100 : BitVec 32 := Scalar.muli v25 c4_i32_77
  let v101 : BitVec 32 := Scalar.addi c0_i32_78 v100
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let c2_i32_79 : BitVec 32 := 2#32
  let v102 : BitVec 32 := Scalar.muli v33 c2_i32_79
  let v103 : BitVec 32 := Scalar.addi v101 v102
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_80 : BitVec 32 := 1#32
  let v104 : BitVec 32 := Scalar.muli v31 c1_i32_80
  let v105 : BitVec 32 := Scalar.addi v103 v104
  v105.toNat
def k0_off6 (d23 : Dev nD) : Fin 3 → Nat :=
  let c2_i32_20 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let v40 : BitVec 32 := Scalar.muli c2_i32_20 v34
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let v41 : BitVec 32 := Scalar.addi v40 v35
  let c0_i32_95 : BitVec 32 := 0#32
  let c0_i32_96 : BitVec 32 := 0#32
  ![v41.toNat, 0, 0]
def k0_dev3 (d23 : Dev nD) : Nat :=
  let c0_i32_90 : BitVec 32 := 0#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let c4_i32_89 : BitVec 32 := 4#32
  let v114 : BitVec 32 := Scalar.muli v34 c4_i32_89
  let v115 : BitVec 32 := Scalar.addi c0_i32_90 v114
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let c2_i32_91 : BitVec 32 := 2#32
  let v116 : BitVec 32 := Scalar.muli v35 c2_i32_91
  let v117 : BitVec 32 := Scalar.addi v115 v116
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_92 : BitVec 32 := 1#32
  let v118 : BitVec 32 := Scalar.muli v31 c1_i32_92
  let v119 : BitVec 32 := Scalar.addi v117 v118
  v119.toNat
def k0_off7 (d23 : Dev nD) : Fin 3 → Nat :=
  let c2_i32_25 : BitVec 32 := 2#32
  let c1_i32_21 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v42 : BitVec 32 := Scalar.subi c1_i32_21 v25
  let v46 : BitVec 32 := Scalar.muli c2_i32_25 v42
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v47 : BitVec 32 := Scalar.addi v46 v28
  let c0_i32_108 : BitVec 32 := 0#32
  let c0_i32_109 : BitVec 32 := 0#32
  ![v47.toNat, 0, 0]
def k0_dev4 (d23 : Dev nD) : Nat :=
  let c0_i32_103 : BitVec 32 := 0#32
  let c1_i32_21 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v42 : BitVec 32 := Scalar.subi c1_i32_21 v25
  let c4_i32_102 : BitVec 32 := 4#32
  let v128 : BitVec 32 := Scalar.muli v42 c4_i32_102
  let v129 : BitVec 32 := Scalar.addi c0_i32_103 v128
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_104 : BitVec 32 := 2#32
  let v130 : BitVec 32 := Scalar.muli v28 c2_i32_104
  let v131 : BitVec 32 := Scalar.addi v129 v130
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_105 : BitVec 32 := 1#32
  let v132 : BitVec 32 := Scalar.muli v31 c1_i32_105
  let v133 : BitVec 32 := Scalar.addi v131 v132
  v133.toNat
def k0_off8 (d23 : Dev nD) : Fin 3 → Nat :=
  let c2_i32_26 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v48 : BitVec 32 := Scalar.muli c2_i32_26 v25
  let c1_i32_22 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v43 : BitVec 32 := Scalar.subi c1_i32_22 v28
  let v49 : BitVec 32 := Scalar.addi v48 v43
  let c0_i32_121 : BitVec 32 := 0#32
  let c0_i32_122 : BitVec 32 := 0#32
  ![v49.toNat, 0, 0]
def k0_dev5 (d23 : Dev nD) : Nat :=
  let c0_i32_116 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_115 : BitVec 32 := 4#32
  let v142 : BitVec 32 := Scalar.muli v25 c4_i32_115
  let v143 : BitVec 32 := Scalar.addi c0_i32_116 v142
  let c1_i32_22 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v43 : BitVec 32 := Scalar.subi c1_i32_22 v28
  let c2_i32_117 : BitVec 32 := 2#32
  let v144 : BitVec 32 := Scalar.muli v43 c2_i32_117
  let v145 : BitVec 32 := Scalar.addi v143 v144
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_118 : BitVec 32 := 1#32
  let v146 : BitVec 32 := Scalar.muli v31 c1_i32_118
  let v147 : BitVec 32 := Scalar.addi v145 v146
  v147.toNat
def k0_off9 (d23 : Dev nD) : Fin 3 → Nat :=
  let c2_i32_27 : BitVec 32 := 2#32
  let c1_i32_23 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v44 : BitVec 32 := Scalar.subi c1_i32_23 v25
  let v50 : BitVec 32 := Scalar.muli c2_i32_27 v44
  let c1_i32_24 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v45 : BitVec 32 := Scalar.subi c1_i32_24 v28
  let v51 : BitVec 32 := Scalar.addi v50 v45
  let c0_i32_134 : BitVec 32 := 0#32
  let c0_i32_135 : BitVec 32 := 0#32
  ![v51.toNat, 0, 0]
def k0_dev6 (d23 : Dev nD) : Nat :=
  let c0_i32_129 : BitVec 32 := 0#32
  let c1_i32_23 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v44 : BitVec 32 := Scalar.subi c1_i32_23 v25
  let c4_i32_128 : BitVec 32 := 4#32
  let v156 : BitVec 32 := Scalar.muli v44 c4_i32_128
  let v157 : BitVec 32 := Scalar.addi c0_i32_129 v156
  let c1_i32_24 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v45 : BitVec 32 := Scalar.subi c1_i32_24 v28
  let c2_i32_130 : BitVec 32 := 2#32
  let v158 : BitVec 32 := Scalar.muli v45 c2_i32_130
  let v159 : BitVec 32 := Scalar.addi v157 v158
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_131 : BitVec 32 := 1#32
  let v160 : BitVec 32 := Scalar.muli v31 c1_i32_131
  let v161 : BitVec 32 := Scalar.addi v159 v160
  v161.toNat
def k0_off10 (d23 : Dev nD) : Fin 3 → Nat :=
  let c2_i32_32 : BitVec 32 := 2#32
  let c1_i32_28 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v52 : BitVec 32 := Scalar.subi c1_i32_28 v25
  let v56 : BitVec 32 := Scalar.muli c2_i32_32 v52
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v57 : BitVec 32 := Scalar.addi v56 v28
  let c0_i32_147 : BitVec 32 := 0#32
  let c0_i32_148 : BitVec 32 := 0#32
  ![v57.toNat, 0, 0]
def k0_dev7 (d23 : Dev nD) : Nat :=
  let c0_i32_142 : BitVec 32 := 0#32
  let c1_i32_28 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v52 : BitVec 32 := Scalar.subi c1_i32_28 v25
  let c4_i32_141 : BitVec 32 := 4#32
  let v170 : BitVec 32 := Scalar.muli v52 c4_i32_141
  let v171 : BitVec 32 := Scalar.addi c0_i32_142 v170
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_143 : BitVec 32 := 2#32
  let v172 : BitVec 32 := Scalar.muli v28 c2_i32_143
  let v173 : BitVec 32 := Scalar.addi v171 v172
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_144 : BitVec 32 := 1#32
  let v174 : BitVec 32 := Scalar.muli v31 c1_i32_144
  let v175 : BitVec 32 := Scalar.addi v173 v174
  v175.toNat
def k0_off11 (d23 : Dev nD) : Fin 3 → Nat :=
  let c2_i32_33 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v58 : BitVec 32 := Scalar.muli c2_i32_33 v25
  let c1_i32_29 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v53 : BitVec 32 := Scalar.subi c1_i32_29 v28
  let v59 : BitVec 32 := Scalar.addi v58 v53
  let c0_i32_160 : BitVec 32 := 0#32
  let c0_i32_161 : BitVec 32 := 0#32
  ![v59.toNat, 0, 0]
def k0_dev8 (d23 : Dev nD) : Nat :=
  let c0_i32_155 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_154 : BitVec 32 := 4#32
  let v184 : BitVec 32 := Scalar.muli v25 c4_i32_154
  let v185 : BitVec 32 := Scalar.addi c0_i32_155 v184
  let c1_i32_29 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v53 : BitVec 32 := Scalar.subi c1_i32_29 v28
  let c2_i32_156 : BitVec 32 := 2#32
  let v186 : BitVec 32 := Scalar.muli v53 c2_i32_156
  let v187 : BitVec 32 := Scalar.addi v185 v186
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_157 : BitVec 32 := 1#32
  let v188 : BitVec 32 := Scalar.muli v31 c1_i32_157
  let v189 : BitVec 32 := Scalar.addi v187 v188
  v189.toNat
def k0_off12 (d23 : Dev nD) : Fin 3 → Nat :=
  let c2_i32_34 : BitVec 32 := 2#32
  let c1_i32_30 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v54 : BitVec 32 := Scalar.subi c1_i32_30 v25
  let v60 : BitVec 32 := Scalar.muli c2_i32_34 v54
  let c1_i32_31 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v55 : BitVec 32 := Scalar.subi c1_i32_31 v28
  let v61 : BitVec 32 := Scalar.addi v60 v55
  let c0_i32_173 : BitVec 32 := 0#32
  let c0_i32_174 : BitVec 32 := 0#32
  ![v61.toNat, 0, 0]
def k0_dev9 (d23 : Dev nD) : Nat :=
  let c0_i32_168 : BitVec 32 := 0#32
  let c1_i32_30 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v54 : BitVec 32 := Scalar.subi c1_i32_30 v25
  let c4_i32_167 : BitVec 32 := 4#32
  let v198 : BitVec 32 := Scalar.muli v54 c4_i32_167
  let v199 : BitVec 32 := Scalar.addi c0_i32_168 v198
  let c1_i32_31 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v55 : BitVec 32 := Scalar.subi c1_i32_31 v28
  let c2_i32_169 : BitVec 32 := 2#32
  let v200 : BitVec 32 := Scalar.muli v55 c2_i32_169
  let v201 : BitVec 32 := Scalar.addi v199 v200
  let v29 : BitVec 32 := Dev.word d23
  let c1_i32 : BitVec 32 := 1#32
  let v30 : BitVec 32 := Scalar.divsi v29 c1_i32
  let c2_i32_13 : BitVec 32 := 2#32
  let v31 : BitVec 32 := Scalar.remsi v30 c2_i32_13
  let c1_i32_170 : BitVec 32 := 1#32
  let v202 : BitVec 32 := Scalar.muli v31 c1_i32_170
  let v203 : BitVec 32 := Scalar.addi v201 v202
  v203.toNat
def k0_cond2 (i : grid0.Coords) : BitVec 1 :=
  let arg0 : BitVec 32 := BitVec.ofNat 32 (i 0).val
  let c15_i32 : BitVec 32 := 15#32
  let v5 : BitVec 1 := Scalar.cmpi .eq arg0 c15_i32
  let arg1 : BitVec 32 := BitVec.ofNat 32 (i 1).val
  let c7_i32 : BitVec 32 := 7#32
  let v6 : BitVec 1 := Scalar.cmpi .eq arg1 c7_i32
  let v8 : BitVec 1 := Scalar.andi v5 v6
  let arg2 : BitVec 32 := BitVec.ofNat 32 (i 2).val
  let c0_i32_2 : BitVec 32 := 0#32
  let v7 : BitVec 1 := Scalar.cmpi .eq arg2 c0_i32_2
  let v9 : BitVec 1 := Scalar.andi v8 v7
  let v21 : BitVec 32 := Scalar.extui v9
  let c0_i32_10 : BitVec 32 := 0#32
  let v22 : BitVec 1 := Scalar.cmpi .ne v21 c0_i32_10
  v22

def k0_off13 (d23 : Dev nD) : Fin 3 → Nat :=
  let c2_i32_18 : BitVec 32 := 2#32
  let c1_i32_14 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_14 v25
  let v36 : BitVec 32 := Scalar.muli c2_i32_18 v32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v37 : BitVec 32 := Scalar.addi v36 v28
  let c0_i32_49 : BitVec 32 := 0#32
  let c0_i32_50 : BitVec 32 := 0#32
  ![v37.toNat, 0, 0]
def k0_off14 (d23 : Dev nD) : Fin 3 → Nat :=
  let c2_i32_19 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v38 : BitVec 32 := Scalar.muli c2_i32_19 v25
  let c1_i32_15 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_15 v28
  let v39 : BitVec 32 := Scalar.addi v38 v33
  let c0_i32_62 : BitVec 32 := 0#32
  let c0_i32_63 : BitVec 32 := 0#32
  ![v39.toNat, 0, 0]
def k0_off15 (d23 : Dev nD) : Fin 3 → Nat :=
  let c2_i32_20 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v34 : BitVec 32 := Scalar.subi c1_i32_16 v25
  let v40 : BitVec 32 := Scalar.muli c2_i32_20 v34
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v35 : BitVec 32 := Scalar.subi c1_i32_17 v28
  let v41 : BitVec 32 := Scalar.addi v40 v35
  let c0_i32_74 : BitVec 32 := 0#32
  let c0_i32_75 : BitVec 32 := 0#32
  ![v41.toNat, 0, 0]
def k0_off16 (d23 : Dev nD) : Fin 3 → Nat :=
  let c2_i32_25 : BitVec 32 := 2#32
  let c1_i32_21 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v42 : BitVec 32 := Scalar.subi c1_i32_21 v25
  let v46 : BitVec 32 := Scalar.muli c2_i32_25 v42
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v47 : BitVec 32 := Scalar.addi v46 v28
  let c0_i32_87 : BitVec 32 := 0#32
  let c0_i32_88 : BitVec 32 := 0#32
  ![v47.toNat, 0, 0]
def k0_off17 (d23 : Dev nD) : Fin 3 → Nat :=
  let c2_i32_26 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v48 : BitVec 32 := Scalar.muli c2_i32_26 v25
  let c1_i32_22 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v43 : BitVec 32 := Scalar.subi c1_i32_22 v28
  let v49 : BitVec 32 := Scalar.addi v48 v43
  let c0_i32_100 : BitVec 32 := 0#32
  let c0_i32_101 : BitVec 32 := 0#32
  ![v49.toNat, 0, 0]
def k0_off18 (d23 : Dev nD) : Fin 3 → Nat :=
  let c2_i32_27 : BitVec 32 := 2#32
  let c1_i32_23 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v44 : BitVec 32 := Scalar.subi c1_i32_23 v25
  let v50 : BitVec 32 := Scalar.muli c2_i32_27 v44
  let c1_i32_24 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v45 : BitVec 32 := Scalar.subi c1_i32_24 v28
  let v51 : BitVec 32 := Scalar.addi v50 v45
  let c0_i32_113 : BitVec 32 := 0#32
  let c0_i32_114 : BitVec 32 := 0#32
  ![v51.toNat, 0, 0]
def k0_off19 (d23 : Dev nD) : Fin 3 → Nat :=
  let c2_i32_32 : BitVec 32 := 2#32
  let c1_i32_28 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v52 : BitVec 32 := Scalar.subi c1_i32_28 v25
  let v56 : BitVec 32 := Scalar.muli c2_i32_32 v52
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v57 : BitVec 32 := Scalar.addi v56 v28
  let c0_i32_126 : BitVec 32 := 0#32
  let c0_i32_127 : BitVec 32 := 0#32
  ![v57.toNat, 0, 0]
def k0_off20 (d23 : Dev nD) : Fin 3 → Nat :=
  let c2_i32_33 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v58 : BitVec 32 := Scalar.muli c2_i32_33 v25
  let c1_i32_29 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v53 : BitVec 32 := Scalar.subi c1_i32_29 v28
  let v59 : BitVec 32 := Scalar.addi v58 v53
  let c0_i32_139 : BitVec 32 := 0#32
  let c0_i32_140 : BitVec 32 := 0#32
  ![v59.toNat, 0, 0]
def k0_off21 (d23 : Dev nD) : Fin 3 → Nat :=
  let c2_i32_34 : BitVec 32 := 2#32
  let c1_i32_30 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v54 : BitVec 32 := Scalar.subi c1_i32_30 v25
  let v60 : BitVec 32 := Scalar.muli c2_i32_34 v54
  let c1_i32_31 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v55 : BitVec 32 := Scalar.subi c1_i32_31 v28
  let v61 : BitVec 32 := Scalar.addi v60 v55
  let c0_i32_152 : BitVec 32 := 0#32
  let c0_i32_153 : BitVec 32 := 0#32
  ![v61.toNat, 0, 0]
def k0_off22 (d23 : Dev nD) : Fin 3 → Nat :=
  let c2_i32_35 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v62 : BitVec 32 := Scalar.muli c2_i32_35 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v63 : BitVec 32 := Scalar.addi v62 v28
  let c0_i32_249 : BitVec 32 := 0#32
  let c0_i32_250 : BitVec 32 := 0#32
  ![v63.toNat, 0, 0]
def k0_off23 (d23 : Dev nD) : Fin 3 → Nat :=
  let c2_i32_36 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v64 : BitVec 32 := Scalar.muli c2_i32_36 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v65 : BitVec 32 := Scalar.addi v64 v28
  let c0_i32_256 : BitVec 32 := 0#32
  let c0_i32_257 : BitVec 32 := 0#32
  ![v65.toNat, 0, 0]
def k0_off24 (d23 : Dev nD) : Fin 3 → Nat :=
  let c2_i32_37 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v66 : BitVec 32 := Scalar.muli c2_i32_37 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v67 : BitVec 32 := Scalar.addi v66 v28
  let c0_i32_263 : BitVec 32 := 0#32
  let c0_i32_264 : BitVec 32 := 0#32
  ![v67.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S32768x4096 : Shape := ⟨2, ![32768, 4096]⟩
abbrev S32768x20480 : Shape := ⟨2, ![32768, 20480]⟩
abbrev S32x2048x3072 : Shape := ⟨3, ![32, 2048, 3072]⟩
abbrev S32x2048x512 : Shape := ⟨3, ![32, 2048, 512]⟩
abbrev S32x512x4096 : Shape := ⟨3, ![32, 512, 4096]⟩
abbrev S8x4096x4096 : Shape := ⟨3, ![8, 4096, 4096]⟩
abbrev S8x4096x20480 : Shape := ⟨3, ![8, 4096, 20480]⟩
abbrev S8x4096x8x2560 : Shape := ⟨4, ![8, 4096, 8, 2560]⟩
abbrev S8x8x4096x2560 : Shape := ⟨4, ![8, 8, 4096, 2560]⟩
abbrev S64x4096x2560 : Shape := ⟨3, ![64, 4096, 2560]⟩
abbrev S2x2x2x2x2x6291456 : Shape := ⟨6, ![2, 2, 2, 2, 2, 6291456]⟩
abbrev S1x2x2x2x2x6291456 : Shape := ⟨6, ![1, 2, 2, 2, 2, 6291456]⟩
abbrev S2x1x2x2x2x6291456 : Shape := ⟨6, ![2, 1, 2, 2, 2, 6291456]⟩
abbrev S2x2x2x2x2x1048576 : Shape := ⟨6, ![2, 2, 2, 2, 2, 1048576]⟩
abbrev S1x2x2x2x2x1048576 : Shape := ⟨6, ![1, 2, 2, 2, 2, 1048576]⟩
abbrev S2x1x2x2x2x1048576 : Shape := ⟨6, ![2, 1, 2, 2, 2, 1048576]⟩
abbrev S2x2x2x2x2x2097152 : Shape := ⟨6, ![2, 2, 2, 2, 2, 2097152]⟩
abbrev S1x2x2x2x2x2097152 : Shape := ⟨6, ![1, 2, 2, 2, 2, 2097152]⟩
abbrev S2x1x2x2x2x2097152 : Shape := ⟨6, ![2, 1, 2, 2, 2, 2097152]⟩

abbrev nBuf : Space → Nat
  | .hbm => 45
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x20480, .bf16⟩
  | .hbm, ⟨2, _⟩ => ⟨S32x2048x3072, .bf16⟩
  | .hbm, ⟨3, _⟩ => ⟨S32x2048x512, .bf16⟩
  | .hbm, ⟨4, _⟩ => ⟨S32x512x4096, .bf16⟩
  | .hbm, ⟨5, _⟩ => ⟨S8x4096x4096, .bf16⟩
  | .hbm, ⟨6, _⟩ => ⟨S8x4096x20480, .bf16⟩
  | .hbm, ⟨7, _⟩ => ⟨S8x4096x20480, .f32⟩
  | .hbm, ⟨8, _⟩ => ⟨S8x4096x8x2560, .f32⟩
  | .hbm, ⟨9, _⟩ => ⟨S8x8x4096x2560, .f32⟩
  | .hbm, ⟨10, _⟩ => ⟨S64x4096x2560, .f32⟩
  | .hbm, ⟨11, _⟩ => ⟨S64x4096x2560, .bf16⟩
  | .hbm, ⟨12, _⟩ => ⟨S2x2x2x2x2x6291456, .bf16⟩
  | .hbm, ⟨13, _⟩ => ⟨S2x2x2x2x2x6291456, .bf16⟩
  | .hbm, ⟨14, _⟩ => ⟨S1x2x2x2x2x6291456, .bf16⟩
  | .hbm, ⟨15, _⟩ => ⟨S1x2x2x2x2x6291456, .bf16⟩
  | .hbm, ⟨16, _⟩ => ⟨S1x2x2x2x2x6291456, .bf16⟩
  | .hbm, ⟨17, _⟩ => ⟨S2x2x2x2x2x6291456, .bf16⟩
  | .hbm, ⟨18, _⟩ => ⟨S2x1x2x2x2x6291456, .bf16⟩
  | .hbm, ⟨19, _⟩ => ⟨S2x1x2x2x2x6291456, .bf16⟩
  | .hbm, ⟨20, _⟩ => ⟨S2x1x2x2x2x6291456, .bf16⟩
  | .hbm, ⟨21, _⟩ => ⟨S2x2x2x2x2x6291456, .bf16⟩
  | .hbm, ⟨22, _⟩ => ⟨S32x2048x3072, .bf16⟩
  | .hbm, ⟨23, _⟩ => ⟨S2x2x2x2x2x1048576, .bf16⟩
  | .hbm, ⟨24, _⟩ => ⟨S2x2x2x2x2x1048576, .bf16⟩
  | .hbm, ⟨25, _⟩ => ⟨S1x2x2x2x2x1048576, .bf16⟩
  | .hbm, ⟨26, _⟩ => ⟨S1x2x2x2x2x1048576, .bf16⟩
  | .hbm, ⟨27, _⟩ => ⟨S1x2x2x2x2x1048576, .bf16⟩
  | .hbm, ⟨28, _⟩ => ⟨S2x2x2x2x2x1048576, .bf16⟩
  | .hbm, ⟨29, _⟩ => ⟨S2x1x2x2x2x1048576, .bf16⟩
  | .hbm, ⟨30, _⟩ => ⟨S2x1x2x2x2x1048576, .bf16⟩
  | .hbm, ⟨31, _⟩ => ⟨S2x1x2x2x2x1048576, .bf16⟩
  | .hbm, ⟨32, _⟩ => ⟨S2x2x2x2x2x1048576, .bf16⟩
  | .hbm, ⟨33, _⟩ => ⟨S32x2048x512, .bf16⟩
  | .hbm, ⟨34, _⟩ => ⟨S2x2x2x2x2x2097152, .bf16⟩
  | .hbm, ⟨35, _⟩ => ⟨S2x2x2x2x2x2097152, .bf16⟩
  | .hbm, ⟨36, _⟩ => ⟨S1x2x2x2x2x2097152, .bf16⟩
  | .hbm, ⟨37, _⟩ => ⟨S1x2x2x2x2x2097152, .bf16⟩
  | .hbm, ⟨38, _⟩ => ⟨S1x2x2x2x2x2097152, .bf16⟩
  | .hbm, ⟨39, _⟩ => ⟨S2x2x2x2x2x2097152, .bf16⟩
  | .hbm, ⟨40, _⟩ => ⟨S2x1x2x2x2x2097152, .bf16⟩
  | .hbm, ⟨41, _⟩ => ⟨S2x1x2x2x2x2097152, .bf16⟩
  | .hbm, ⟨42, _⟩ => ⟨S2x1x2x2x2x2097152, .bf16⟩
  | .hbm, ⟨43, _⟩ => ⟨S2x2x2x2x2x2097152, .bf16⟩
  | .hbm, ⟨44, _⟩ => ⟨S32x512x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩

abbrev nD : Nat := 1
abbrev τ : Topo := Topo.v7x

variable {F : FTy → Type} [FloatOps F]
-- ==== Proj.lean ====
abbrev S4096x20480 : Shape := ⟨2, ![4096, 20480]⟩
abbrev S8x4096x2560 : Shape := ⟨3, ![8, 4096, 2560]⟩
abbrev S4x4096x2560 : Shape := ⟨3, ![4, 4096, 2560]⟩
abbrev S4x512x256 : Shape := ⟨3, ![4, 512, 256]⟩
abbrev S4096x4096 : Shape := ⟨2, ![4096, 4096]⟩
abbrev S1024x2560 : Shape := ⟨2, ![1024, 2560]⟩
abbrev S1x1024x2560 : Shape := ⟨3, ![1, 1024, 2560]⟩
abbrev S1024x1024 : Shape := ⟨2, ![1024, 1024]⟩
abbrev S3x3 : Shape := ⟨2, ![3, 3]⟩
abbrev S3x1 : Shape := ⟨2, ![3, 1]⟩
abbrev S1x1 : Shape := ⟨2, ![1, 1]⟩
abbrev S_ : Shape := ⟨0, ![]⟩
abbrev S1x4096x2560 : Shape := ⟨3, ![1, 4096, 2560]⟩
abbrev S4096x2560 : Shape := ⟨2, ![4096, 2560]⟩
abbrev S1x512x256 : Shape := ⟨3, ![1, 512, 256]⟩
abbrev S512x256 : Shape := ⟨2, ![512, 256]⟩

abbrev nBuf : Space → Nat
  | .hbm => 9
  | .vmem => 7
  | .smem => 0
  | _ => 0

abbrev bufTy : (tb : Table) → Fin (tcTables nBuf tb) → BufTy
  | .hbm, ⟨0, _⟩ => ⟨S4096x20480, .bf16⟩
  | .hbm, ⟨1, _⟩ => ⟨S8x4096x2560, .bf16⟩
  | .hbm, ⟨2, _⟩ => ⟨S4x4096x2560, .bf16⟩
  | .hbm, ⟨3, _⟩ => ⟨S4x512x256, .bf16⟩
  | .hbm, ⟨4, _⟩ => ⟨S4x512x256, .bf16⟩
  | .hbm, ⟨5, _⟩ => ⟨S4096x4096, .f32⟩
  | .hbm, ⟨6, _⟩ => ⟨S4x4096x2560, .bf16⟩
  | .hbm, ⟨7, _⟩ => ⟨S4x512x256, .bf16⟩
  | .hbm, ⟨8, _⟩ => ⟨S4x512x256, .bf16⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 4, 8], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d28 : Dev nD) : Fin 3 → Nat :=
  let c2_i32_39 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v67 : BitVec 32 := Scalar.muli c2_i32_39 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v68 : BitVec 32 := Scalar.addi v67 v33
  let c0_i32_47 : BitVec 32 := 0#32
  let c0_i32_48 : BitVec 32 := 0#32
  ![v68.toNat, 0, 0]
def k0_off2 (d28 : Dev nD) : Fin 3 → Nat :=
  let c2_i32_40 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v69 : BitVec 32 := Scalar.muli c2_i32_40 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v70 : BitVec 32 := Scalar.addi v69 v33
  let c0_i32_54 : BitVec 32 := 0#32
  let c0_i32_55 : BitVec 32 := 0#32
  ![v70.toNat, 0, 0]
def k0_off3 (d28 : Dev nD) : Fin 3 → Nat :=
  let c2_i32_22 : BitVec 32 := 2#32
  let c1_i32_18 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_18 v30
  let v41 : BitVec 32 := Scalar.muli c2_i32_22 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_74 : BitVec 32 := 0#32
  let c0_i32_75 : BitVec 32 := 0#32
  ![v42.toNat, 0, 0]
def k0_dev1 (d28 : Dev nD) : Nat :=
  let c0_i32_69 : BitVec 32 := 0#32
  let c1_i32_18 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_18 v30
  let c4_i32_68 : BitVec 32 := 4#32
  let v91 : BitVec 32 := Scalar.muli v37 c4_i32_68
  let v92 : BitVec 32 := Scalar.addi c0_i32_69 v91
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_70 : BitVec 32 := 2#32
  let v93 : BitVec 32 := Scalar.muli v33 c2_i32_70
  let v94 : BitVec 32 := Scalar.addi v92 v93
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_71 : BitVec 32 := 1#32
  let v95 : BitVec 32 := Scalar.muli v36 c1_i32_71
  let v96 : BitVec 32 := Scalar.addi v94 v95
  v96.toNat
def k0_off4 (d28 : Dev nD) : Fin 3 → Nat :=
  let c2_i32_23 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v43 : BitVec 32 := Scalar.muli c2_i32_23 v30
  let c1_i32_19 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_19 v33
  let v44 : BitVec 32 := Scalar.addi v43 v38
  let c0_i32_87 : BitVec 32 := 0#32
  let c0_i32_88 : BitVec 32 := 0#32
  ![v44.toNat, 0, 0]
def k0_dev2 (d28 : Dev nD) : Nat :=
  let c0_i32_82 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_81 : BitVec 32 := 4#32
  let v105 : BitVec 32 := Scalar.muli v30 c4_i32_81
  let v106 : BitVec 32 := Scalar.addi c0_i32_82 v105
  let c1_i32_19 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_19 v33
  let c2_i32_83 : BitVec 32 := 2#32
  let v107 : BitVec 32 := Scalar.muli v38 c2_i32_83
  let v108 : BitVec 32 := Scalar.addi v106 v107
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_84 : BitVec 32 := 1#32
  let v109 : BitVec 32 := Scalar.muli v36 c1_i32_84
  let v110 : BitVec 32 := Scalar.addi v108 v109
  v110.toNat
def k0_off5 (d28 : Dev nD) : Fin 3 → Nat :=
  let c2_i32_24 : BitVec 32 := 2#32
  let c1_i32_20 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_20 v30
  let v45 : BitVec 32 := Scalar.muli c2_i32_24 v39
  let c1_i32_21 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_21 v33
  let v46 : BitVec 32 := Scalar.addi v45 v40
  let c0_i32_100 : BitVec 32 := 0#32
  let c0_i32_101 : BitVec 32 := 0#32
  ![v46.toNat, 0, 0]
def k0_dev3 (d28 : Dev nD) : Nat :=
  let c0_i32_95 : BitVec 32 := 0#32
  let c1_i32_20 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_20 v30
  let c4_i32_94 : BitVec 32 := 4#32
  let v119 : BitVec 32 := Scalar.muli v39 c4_i32_94
  let v120 : BitVec 32 := Scalar.addi c0_i32_95 v119
  let c1_i32_21 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_21 v33
  let c2_i32_96 : BitVec 32 := 2#32
  let v121 : BitVec 32 := Scalar.muli v40 c2_i32_96
  let v122 : BitVec 32 := Scalar.addi v120 v121
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_97 : BitVec 32 := 1#32
  let v123 : BitVec 32 := Scalar.muli v36 c1_i32_97
  let v124 : BitVec 32 := Scalar.addi v122 v123
  v124.toNat
def k0_off6 (d28 : Dev nD) : Fin 3 → Nat :=
  let c2_i32_29 : BitVec 32 := 2#32
  let c1_i32_25 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.subi c1_i32_25 v30
  let v51 : BitVec 32 := Scalar.muli c2_i32_29 v47
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v52 : BitVec 32 := Scalar.addi v51 v33
  let c0_i32_113 : BitVec 32 := 0#32
  let c0_i32_114 : BitVec 32 := 0#32
  ![v52.toNat, 0, 0]
def k0_dev4 (d28 : Dev nD) : Nat :=
  let c0_i32_108 : BitVec 32 := 0#32
  let c1_i32_25 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.subi c1_i32_25 v30
  let c4_i32_107 : BitVec 32 := 4#32
  let v133 : BitVec 32 := Scalar.muli v47 c4_i32_107
  let v134 : BitVec 32 := Scalar.addi c0_i32_108 v133
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_109 : BitVec 32 := 2#32
  let v135 : BitVec 32 := Scalar.muli v33 c2_i32_109
  let v136 : BitVec 32 := Scalar.addi v134 v135
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_110 : BitVec 32 := 1#32
  let v137 : BitVec 32 := Scalar.muli v36 c1_i32_110
  let v138 : BitVec 32 := Scalar.addi v136 v137
  v138.toNat
def k0_off7 (d28 : Dev nD) : Fin 3 → Nat :=
  let c2_i32_30 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c2_i32_30 v30
  let c1_i32_26 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v48 : BitVec 32 := Scalar.subi c1_i32_26 v33
  let v54 : BitVec 32 := Scalar.addi v53 v48
  let c0_i32_126 : BitVec 32 := 0#32
  let c0_i32_127 : BitVec 32 := 0#32
  ![v54.toNat, 0, 0]
def k0_dev5 (d28 : Dev nD) : Nat :=
  let c0_i32_121 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_120 : BitVec 32 := 4#32
  let v147 : BitVec 32 := Scalar.muli v30 c4_i32_120
  let v148 : BitVec 32 := Scalar.addi c0_i32_121 v147
  let c1_i32_26 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v48 : BitVec 32 := Scalar.subi c1_i32_26 v33
  let c2_i32_122 : BitVec 32 := 2#32
  let v149 : BitVec 32 := Scalar.muli v48 c2_i32_122
  let v150 : BitVec 32 := Scalar.addi v148 v149
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_123 : BitVec 32 := 1#32
  let v151 : BitVec 32 := Scalar.muli v36 c1_i32_123
  let v152 : BitVec 32 := Scalar.addi v150 v151
  v152.toNat
def k0_off8 (d28 : Dev nD) : Fin 3 → Nat :=
  let c2_i32_31 : BitVec 32 := 2#32
  let c1_i32_27 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v49 : BitVec 32 := Scalar.subi c1_i32_27 v30
  let v55 : BitVec 32 := Scalar.muli c2_i32_31 v49
  let c1_i32_28 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v50 : BitVec 32 := Scalar.subi c1_i32_28 v33
  let v56 : BitVec 32 := Scalar.addi v55 v50
  let c0_i32_139 : BitVec 32 := 0#32
  let c0_i32_140 : BitVec 32 := 0#32
  ![v56.toNat, 0, 0]
def k0_dev6 (d28 : Dev nD) : Nat :=
  let c0_i32_134 : BitVec 32 := 0#32
  let c1_i32_27 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v49 : BitVec 32 := Scalar.subi c1_i32_27 v30
  let c4_i32_133 : BitVec 32 := 4#32
  let v161 : BitVec 32 := Scalar.muli v49 c4_i32_133
  let v162 : BitVec 32 := Scalar.addi c0_i32_134 v161
  let c1_i32_28 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v50 : BitVec 32 := Scalar.subi c1_i32_28 v33
  let c2_i32_135 : BitVec 32 := 2#32
  let v163 : BitVec 32 := Scalar.muli v50 c2_i32_135
  let v164 : BitVec 32 := Scalar.addi v162 v163
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_136 : BitVec 32 := 1#32
  let v165 : BitVec 32 := Scalar.muli v36 c1_i32_136
  let v166 : BitVec 32 := Scalar.addi v164 v165
  v166.toNat
def k0_dev7 (d28 : Dev nD) : Nat :=
  let c0_i32_147 : BitVec 32 := 0#32
  let c1_i32_32 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v57 : BitVec 32 := Scalar.subi c1_i32_32 v30
  let c4_i32_146 : BitVec 32 := 4#32
  let v175 : BitVec 32 := Scalar.muli v57 c4_i32_146
  let v176 : BitVec 32 := Scalar.addi c0_i32_147 v175
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_148 : BitVec 32 := 2#32
  let v177 : BitVec 32 := Scalar.muli v33 c2_i32_148
  let v178 : BitVec 32 := Scalar.addi v176 v177
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_149 : BitVec 32 := 1#32
  let v179 : BitVec 32 := Scalar.muli v36 c1_i32_149
  let v180 : BitVec 32 := Scalar.addi v178 v179
  v180.toNat
def k0_dev8 (d28 : Dev nD) : Nat :=
  let c0_i32_160 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_159 : BitVec 32 := 4#32
  let v189 : BitVec 32 := Scalar.muli v30 c4_i32_159
  let v190 : BitVec 32 := Scalar.addi c0_i32_160 v189
  let c1_i32_33 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v58 : BitVec 32 := Scalar.subi c1_i32_33 v33
  let c2_i32_161 : BitVec 32 := 2#32
  let v191 : BitVec 32 := Scalar.muli v58 c2_i32_161
  let v192 : BitVec 32 := Scalar.addi v190 v191
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_162 : BitVec 32 := 1#32
  let v193 : BitVec 32 := Scalar.muli v36 c1_i32_162
  let v194 : BitVec 32 := Scalar.addi v192 v193
  v194.toNat
def k0_dev9 (d28 : Dev nD) : Nat :=
  let c0_i32_173 : BitVec 32 := 0#32
  let c1_i32_34 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v59 : BitVec 32 := Scalar.subi c1_i32_34 v30
  let c4_i32_172 : BitVec 32 := 4#32
  let v203 : BitVec 32 := Scalar.muli v59 c4_i32_172
  let v204 : BitVec 32 := Scalar.addi c0_i32_173 v203
  let c1_i32_35 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v60 : BitVec 32 := Scalar.subi c1_i32_35 v33
  let c2_i32_174 : BitVec 32 := 2#32
  let v205 : BitVec 32 := Scalar.muli v60 c2_i32_174
  let v206 : BitVec 32 := Scalar.addi v204 v205
  let v34 : BitVec 32 := Dev.word d28
  let c1_i32 : BitVec 32 := 1#32
  let v35 : BitVec 32 := Scalar.divsi v34 c1_i32
  let c2_i32_17 : BitVec 32 := 2#32
  let v36 : BitVec 32 := Scalar.remsi v35 c2_i32_17
  let c1_i32_175 : BitVec 32 := 1#32
  let v207 : BitVec 32 := Scalar.muli v36 c1_i32_175
  let v208 : BitVec 32 := Scalar.addi v206 v207
  v208.toNat
def k0_cond5 (i : grid0.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v8 : BitVec 1 := Scalar.andi v5 v6
  let arg2 : BitVec 32 := BitVec.ofNat 32 (i 2).val
  let c7_i32 : BitVec 32 := 7#32
  let v7 : BitVec 1 := Scalar.cmpi .eq arg2 c7_i32
  let v9 : BitVec 1 := Scalar.andi v8 v7
  let v26 : BitVec 32 := Scalar.extui v9
  let c0_i32_14 : BitVec 32 := 0#32
  let v27 : BitVec 1 := Scalar.cmpi .ne v26 c0_i32_14
  v27

def k0_off9 (d28 : Dev nD) : Fin 3 → Nat :=
  let c2_i32_22 : BitVec 32 := 2#32
  let c1_i32_18 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_18 v30
  let v41 : BitVec 32 := Scalar.muli c2_i32_22 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_53 : BitVec 32 := 0#32
  let c0_i32_54 : BitVec 32 := 0#32
  ![v42.toNat, 0, 0]
def k0_off10 (d28 : Dev nD) : Fin 3 → Nat :=
  let c2_i32_23 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v43 : BitVec 32 := Scalar.muli c2_i32_23 v30
  let c1_i32_19 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_19 v33
  let v44 : BitVec 32 := Scalar.addi v43 v38
  let c0_i32_66 : BitVec 32 := 0#32
  let c0_i32_67 : BitVec 32 := 0#32
  ![v44.toNat, 0, 0]
def k0_off11 (d28 : Dev nD) : Fin 3 → Nat :=
  let c2_i32_24 : BitVec 32 := 2#32
  let c1_i32_20 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_20 v30
  let v45 : BitVec 32 := Scalar.muli c2_i32_24 v39
  let c1_i32_21 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_21 v33
  let v46 : BitVec 32 := Scalar.addi v45 v40
  let c0_i32_79 : BitVec 32 := 0#32
  let c0_i32_80 : BitVec 32 := 0#32
  ![v46.toNat, 0, 0]
def k0_off12 (d28 : Dev nD) : Fin 3 → Nat :=
  let c2_i32_29 : BitVec 32 := 2#32
  let c1_i32_25 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.subi c1_i32_25 v30
  let v51 : BitVec 32 := Scalar.muli c2_i32_29 v47
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v52 : BitVec 32 := Scalar.addi v51 v33
  let c0_i32_92 : BitVec 32 := 0#32
  let c0_i32_93 : BitVec 32 := 0#32
  ![v52.toNat, 0, 0]
def k0_off13 (d28 : Dev nD) : Fin 3 → Nat :=
  let c2_i32_30 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v53 : BitVec 32 := Scalar.muli c2_i32_30 v30
  let c1_i32_26 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v48 : BitVec 32 := Scalar.subi c1_i32_26 v33
  let v54 : BitVec 32 := Scalar.addi v53 v48
  let c0_i32_105 : BitVec 32 := 0#32
  let c0_i32_106 : BitVec 32 := 0#32
  ![v54.toNat, 0, 0]
def k0_off14 (d28 : Dev nD) : Fin 3 → Nat :=
  let c2_i32_31 : BitVec 32 := 2#32
  let c1_i32_27 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v49 : BitVec 32 := Scalar.subi c1_i32_27 v30
  let v55 : BitVec 32 := Scalar.muli c2_i32_31 v49
  let c1_i32_28 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v50 : BitVec 32 := Scalar.subi c1_i32_28 v33
  let v56 : BitVec 32 := Scalar.addi v55 v50
  let c0_i32_118 : BitVec 32 := 0#32
  let c0_i32_119 : BitVec 32 := 0#32
  ![v56.toNat, 0, 0]
def k0_off15 (d28 : Dev nD) : Fin 3 → Nat :=
  let c2_i32_39 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v67 : BitVec 32 := Scalar.muli c2_i32_39 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v68 : BitVec 32 := Scalar.addi v67 v33
  let c0_i32_254 : BitVec 32 := 0#32
  let c0_i32_255 : BitVec 32 := 0#32
  ![v68.toNat, 0, 0]
def k0_off16 (d28 : Dev nD) : Fin 3 → Nat :=
  let c2_i32_40 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v69 : BitVec 32 := Scalar.muli c2_i32_40 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v70 : BitVec 32 := Scalar.addi v69 v33
  let c0_i32_261 : BitVec 32 := 0#32
  let c0_i32_262 : BitVec 32 := 0#32
  ![v70.toNat, 0, 0]
def k0_cond4 (i : grid0.Coords) : BitVec 1 :=
  let arg2 : BitVec 32 := BitVec.ofNat 32 (i 2).val
  let c7_i32_12 : BitVec 32 := 7#32
  let v23 : BitVec 1 := Scalar.cmpi .eq arg2 c7_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S32768x20480 : Shape := ⟨2, ![32768, 20480]⟩
abbrev S8x4096x2560 : Shape := ⟨3, ![8, 4096, 2560]⟩
abbrev S32x4096x2560 : Shape := ⟨3, ![32, 4096, 2560]⟩
abbrev S32x512x256 : Shape := ⟨3, ![32, 512, 256]⟩
abbrev S4096x8x2560 : Shape := ⟨3, ![4096, 8, 2560]⟩
abbrev S4096x20480 : Shape := ⟨2, ![4096, 20480]⟩
abbrev S20480x4096 : Shape := ⟨2, ![20480, 4096]⟩
abbrev S32768x4096 : Shape := ⟨2, ![32768, 4096]⟩
abbrev S2x2x2x2x2x10485760 : Shape := ⟨6, ![2, 2, 2, 2, 2, 10485760]⟩
abbrev S1x2x2x2x2x10485760 : Shape := ⟨6, ![1, 2, 2, 2, 2, 10485760]⟩
abbrev S2x1x2x2x2x10485760 : Shape := ⟨6, ![2, 1, 2, 2, 2, 10485760]⟩
abbrev S2x2x2x2x2x131072 : Shape := ⟨6, ![2, 2, 2, 2, 2, 131072]⟩
abbrev S1x2x2x2x2x131072 : Shape := ⟨6, ![1, 2, 2, 2, 2, 131072]⟩
abbrev S2x1x2x2x2x131072 : Shape := ⟨6, ![2, 1, 2, 2, 2, 131072]⟩

abbrev nBuf : Space → Nat
  | .hbm => 42
  | .vmem => 0
  | .smem => 0
  | _ => 0

abbrev bufTy : (tb : Table) → Fin (tcTables nBuf tb) → BufTy
  | .hbm, ⟨0, _⟩ => ⟨S32768x20480, .bf16⟩
  | .hbm, ⟨1, _⟩ => ⟨S8x4096x2560, .bf16⟩
  | .hbm, ⟨2, _⟩ => ⟨S32x4096x2560, .bf16⟩
  | .hbm, ⟨3, _⟩ => ⟨S32x512x256, .bf16⟩
  | .hbm, ⟨4, _⟩ => ⟨S32x512x256, .bf16⟩
  | .hbm, ⟨5, _⟩ => ⟨S4096x8x2560, .bf16⟩
  | .hbm, ⟨6, _⟩ => ⟨S4096x20480, .bf16⟩
  | .hbm, ⟨7, _⟩ => ⟨S20480x4096, .bf16⟩
  | .hbm, ⟨8, _⟩ => ⟨S32768x4096, .f32⟩
  | .hbm, ⟨9, _⟩ => ⟨S2x2x2x2x2x10485760, .bf16⟩
  | .hbm, ⟨10, _⟩ => ⟨S2x2x2x2x2x10485760, .bf16⟩
  | .hbm, ⟨11, _⟩ => ⟨S1x2x2x2x2x10485760, .bf16⟩
  | .hbm, ⟨12, _⟩ => ⟨S1x2x2x2x2x10485760, .bf16⟩
  | .hbm, ⟨13, _⟩ => ⟨S1x2x2x2x2x10485760, .bf16⟩
  | .hbm, ⟨14, _⟩ => ⟨S2x2x2x2x2x10485760, .bf16⟩
  | .hbm, ⟨15, _⟩ => ⟨S2x1x2x2x2x10485760, .bf16⟩
  | .hbm, ⟨16, _⟩ => ⟨S2x1x2x2x2x10485760, .bf16⟩
  | .hbm, ⟨17, _⟩ => ⟨S2x1x2x2x2x10485760, .bf16⟩
  | .hbm, ⟨18, _⟩ => ⟨S2x2x2x2x2x10485760, .bf16⟩
  | .hbm, ⟨19, _⟩ => ⟨S32x4096x2560, .bf16⟩
  | .hbm, ⟨20, _⟩ => ⟨S2x2x2x2x2x131072, .bf16⟩
  | .hbm, ⟨21, _⟩ => ⟨S2x2x2x2x2x131072, .bf16⟩
  | .hbm, ⟨22, _⟩ => ⟨S1x2x2x2x2x131072, .bf16⟩
  | .hbm, ⟨23, _⟩ => ⟨S1x2x2x2x2x131072, .bf16⟩
  | .hbm, ⟨24, _⟩ => ⟨S1x2x2x2x2x131072, .bf16⟩
  | .hbm, ⟨25, _⟩ => ⟨S2x2x2x2x2x131072, .bf16⟩
  | .hbm, ⟨26, _⟩ => ⟨S2x1x2x2x2x131072, .bf16⟩
  | .hbm, ⟨27, _⟩ => ⟨S2x1x2x2x2x131072, .bf16⟩
  | .hbm, ⟨28, _⟩ => ⟨S2x1x2x2x2x131072, .bf16⟩
  | .hbm, ⟨29, _⟩ => ⟨S2x2x2x2x2x131072, .bf16⟩
  | .hbm, ⟨30, _⟩ => ⟨S32x512x256, .bf16⟩
  | .hbm, ⟨31, _⟩ => ⟨S2x2x2x2x2x131072, .bf16⟩
  | .hbm, ⟨32, _⟩ => ⟨S2x2x2x2x2x131072, .bf16⟩
  | .hbm, ⟨33, _⟩ => ⟨S1x2x2x2x2x131072, .bf16⟩
  | .hbm, ⟨34, _⟩ => ⟨S1x2x2x2x2x131072, .bf16⟩
  | .hbm, ⟨35, _⟩ => ⟨S1x2x2x2x2x131072, .bf16⟩
  | .hbm, ⟨36, _⟩ => ⟨S2x2x2x2x2x131072, .bf16⟩
  | .hbm, ⟨37, _⟩ => ⟨S2x1x2x2x2x131072, .bf16⟩
  | .hbm, ⟨38, _⟩ => ⟨S2x1x2x2x2x131072, .bf16⟩
  | .hbm, ⟨39, _⟩ => ⟨S2x1x2x2x2x131072, .bf16⟩
  | .hbm, ⟨40, _⟩ => ⟨S2x2x2x2x2x131072, .bf16⟩
  | .hbm, ⟨41, _⟩ => ⟨S32x512x256, .bf16⟩
  | _, _ => ⟨S32768x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Down.lean ====
abbrev S4096x4096 : Shape := ⟨2, ![4096, 4096]⟩
abbrev S1x12288x4096 : Shape := ⟨3, ![1, 12288, 4096]⟩
abbrev S4x2x1536x4096 : Shape := ⟨4, ![4, 2, 1536, 4096]⟩
abbrev S4096x12288 : Shape := ⟨2, ![4096, 12288]⟩
abbrev S4x1536x4096 : Shape := ⟨3, ![4, 1536, 4096]⟩
abbrev S1024x2048 : Shape := ⟨2, ![1024, 2048]⟩
abbrev S1x1024x2048 : Shape := ⟨3, ![1, 1024, 2048]⟩
abbrev S1024x1024 : Shape := ⟨2, ![1024, 1024]⟩
abbrev S1x4 : Shape := ⟨2, ![1, 4]⟩
abbrev S1x1 : Shape := ⟨2, ![1, 1]⟩
abbrev S_ : Shape := ⟨0, ![]⟩
abbrev S1x1536x4096 : Shape := ⟨3, ![1, 1536, 4096]⟩
abbrev S1536x4096 : Shape := ⟨2, ![1536, 4096]⟩
abbrev S1x1x1536x4096 : Shape := ⟨4, ![1, 1, 1536, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x12288x4096, .bf16⟩
  | .hbm, ⟨2, _⟩ => ⟨S4x2x1536x4096, .bf16⟩
  | .hbm, ⟨3, _⟩ => ⟨S4096x12288, .f32⟩
  | .hbm, ⟨4, _⟩ => ⟨S4x1536x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![12, 4, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_2 : BitVec 32 := 0#32
  let v11 : BitVec 1 := Scalar.cmpi .ne v10 c0_i32_2
  v11

def k0_off1 (d28 : Dev nD) : Fin 4 → Nat :=
  let c0_i32_26 : BitVec 32 := 0#32
  let c1_i32_18 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v37 : BitVec 32 := Scalar.subi c1_i32_18 v36
  let c0_i32_38 : BitVec 32 := 0#32
  let c0_i32_39 : BitVec 32 := 0#32
  ![0, v37.toNat, 0, 0]
def k0_dev1 (d28 : Dev nD) : Nat :=
  let c0_i32_33 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_32 : BitVec 32 := 4#32
  let v45 : BitVec 32 := Scalar.muli v30 c4_i32_32
  let v46 : BitVec 32 := Scalar.addi c0_i32_33 v45
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_34 : BitVec 32 := 2#32
  let v47 : BitVec 32 := Scalar.muli v33 c2_i32_34
  let v48 : BitVec 32 := Scalar.addi v46 v47
  let c1_i32_19 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v38 : BitVec 32 := Scalar.subi c1_i32_19 v36
  let c1_i32_35 : BitVec 32 := 1#32
  let v49 : BitVec 32 := Scalar.muli v38 c1_i32_35
  let v50 : BitVec 32 := Scalar.addi v48 v49
  v50.toNat
def k0_off2 (d28 : Dev nD) : Fin 4 → Nat :=
  let c1_i32_40 : BitVec 32 := 1#32
  let c1_i32_20 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v39 : BitVec 32 := Scalar.subi c1_i32_20 v36
  let c0_i32_52 : BitVec 32 := 0#32
  let c0_i32_53 : BitVec 32 := 0#32
  ![1, v39.toNat, 0, 0]
def k0_dev2 (d28 : Dev nD) : Nat :=
  let c0_i32_47 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_46 : BitVec 32 := 4#32
  let v59 : BitVec 32 := Scalar.muli v30 c4_i32_46
  let v60 : BitVec 32 := Scalar.addi c0_i32_47 v59
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_48 : BitVec 32 := 2#32
  let v61 : BitVec 32 := Scalar.muli v33 c2_i32_48
  let v62 : BitVec 32 := Scalar.addi v60 v61
  let c1_i32_21 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v40 : BitVec 32 := Scalar.subi c1_i32_21 v36
  let c1_i32_49 : BitVec 32 := 1#32
  let v63 : BitVec 32 := Scalar.muli v40 c1_i32_49
  let v64 : BitVec 32 := Scalar.addi v62 v63
  v64.toNat
def k0_off3 (d28 : Dev nD) : Fin 4 → Nat :=
  let c2_i32_54 : BitVec 32 := 2#32
  let c1_i32_22 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v41 : BitVec 32 := Scalar.subi c1_i32_22 v36
  let c0_i32_66 : BitVec 32 := 0#32
  let c0_i32_67 : BitVec 32 := 0#32
  ![2, v41.toNat, 0, 0]
def k0_dev3 (d28 : Dev nD) : Nat :=
  let c0_i32_61 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_60 : BitVec 32 := 4#32
  let v73 : BitVec 32 := Scalar.muli v30 c4_i32_60
  let v74 : BitVec 32 := Scalar.addi c0_i32_61 v73
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_62 : BitVec 32 := 2#32
  let v75 : BitVec 32 := Scalar.muli v33 c2_i32_62
  let v76 : BitVec 32 := Scalar.addi v74 v75
  let c1_i32_23 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v42 : BitVec 32 := Scalar.subi c1_i32_23 v36
  let c1_i32_63 : BitVec 32 := 1#32
  let v77 : BitVec 32 := Scalar.muli v42 c1_i32_63
  let v78 : BitVec 32 := Scalar.addi v76 v77
  v78.toNat
def k0_off4 (d28 : Dev nD) : Fin 4 → Nat :=
  let c3_i32_68 : BitVec 32 := 3#32
  let c1_i32_24 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v43 : BitVec 32 := Scalar.subi c1_i32_24 v36
  let c0_i32_80 : BitVec 32 := 0#32
  let c0_i32_81 : BitVec 32 := 0#32
  ![3, v43.toNat, 0, 0]
def k0_dev4 (d28 : Dev nD) : Nat :=
  let c0_i32_75 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_74 : BitVec 32 := 4#32
  let v87 : BitVec 32 := Scalar.muli v30 c4_i32_74
  let v88 : BitVec 32 := Scalar.addi c0_i32_75 v87
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_76 : BitVec 32 := 2#32
  let v89 : BitVec 32 := Scalar.muli v33 c2_i32_76
  let v90 : BitVec 32 := Scalar.addi v88 v89
  let c1_i32_25 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v44 : BitVec 32 := Scalar.subi c1_i32_25 v36
  let c1_i32_77 : BitVec 32 := 1#32
  let v91 : BitVec 32 := Scalar.muli v44 c1_i32_77
  let v92 : BitVec 32 := Scalar.addi v90 v91
  v92.toNat
def k0_cond5 (i : grid0.Coords) : BitVec 1 :=
  let arg0 : BitVec 32 := BitVec.ofNat 32 (i 0).val
  let c11_i32 : BitVec 32 := 11#32
  let v5 : BitVec 1 := Scalar.cmpi .eq arg0 c11_i32
  let arg1 : BitVec 32 := BitVec.ofNat 32 (i 1).val
  let c3_i32 : BitVec 32 := 3#32
  let v6 : BitVec 1 := Scalar.cmpi .eq arg1 c3_i32
  let v8 : BitVec 1 := Scalar.andi v5 v6
  let arg2 : BitVec 32 := BitVec.ofNat 32 (i 2).val
  let c1_i32 : BitVec 32 := 1#32
  let v7 : BitVec 1 := Scalar.cmpi .eq arg2 c1_i32
  let v9 : BitVec 1 := Scalar.andi v8 v7
  let v26 : BitVec 32 := Scalar.extui v9
  let c0_i32_13 : BitVec 32 := 0#32
  let v27 : BitVec 1 := Scalar.cmpi .ne v26 c0_i32_13
  v27

def k0_off5 (d28 : Dev nD) : Fin 4 → Nat :=
  let c0_i32_26 : BitVec 32 := 0#32
  let c1_i32_18 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v37 : BitVec 32 := Scalar.subi c1_i32_18 v36
  let c0_i32_38 : BitVec 32 := 0#32
  let c0_i32_39 : BitVec 32 := 0#32
  ![0, v37.toNat, 0, 0]
def k0_off6 (d28 : Dev nD) : Fin 4 → Nat :=
  let c1_i32_40 : BitVec 32 := 1#32
  let c1_i32_20 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v39 : BitVec 32 := Scalar.subi c1_i32_20 v36
  let c0_i32_52 : BitVec 32 := 0#32
  let c0_i32_53 : BitVec 32 := 0#32
  ![1, v39.toNat, 0, 0]
def k0_off7 (d28 : Dev nD) : Fin 4 → Nat :=
  let c2_i32_54 : BitVec 32 := 2#32
  let c1_i32_22 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v41 : BitVec 32 := Scalar.subi c1_i32_22 v36
  let c0_i32_66 : BitVec 32 := 0#32
  let c0_i32_67 : BitVec 32 := 0#32
  ![2, v41.toNat, 0, 0]
def k0_off8 (d28 : Dev nD) : Fin 4 → Nat :=
  let c3_i32_68 : BitVec 32 := 3#32
  let c1_i32_24 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v43 : BitVec 32 := Scalar.subi c1_i32_24 v36
  let c0_i32_80 : BitVec 32 := 0#32
  let c0_i32_81 : BitVec 32 := 0#32
  ![3, v43.toNat, 0, 0]
def k0_cond4 (i : grid0.Coords) : BitVec 1 :=
  let arg2 : BitVec 32 := BitVec.ofNat 32 (i 2).val
  let c1_i32_11 : BitVec 32 := 1#32
  let v23 : BitVec 1 := Scalar.cmpi .eq arg2 c1_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S32768x4096 : Shape := ⟨2, ![32768, 4096]⟩
abbrev S1x12288x4096 : Shape := ⟨3, ![1, 12288, 4096]⟩
abbrev S32x2x1536x4096 : Shape := ⟨4, ![32, 2, 1536, 4096]⟩
abbrev S12288x1x4096 : Shape := ⟨3, ![12288, 1, 4096]⟩
abbrev S12288x4096 : Shape := ⟨2, ![12288, 4096]⟩
abbrev S4096x12288 : Shape := ⟨2, ![4096, 12288]⟩
abbrev S32768x12288 : Shape := ⟨2, ![32768, 12288]⟩
abbrev S4x2x4x2x1536x4096 : Shape := ⟨6, ![4, 2, 4, 2, 1536, 4096]⟩
abbrev S4x1x4x1x1536x4096 : Shape := ⟨6, ![4, 1, 4, 1, 1536, 4096]⟩
abbrev S4x2x4x1x1536x4096 : Shape := ⟨6, ![4, 2, 4, 1, 1536, 4096]⟩
abbrev S32x1536x4096 : Shape := ⟨3, ![32, 1536, 4096]⟩

abbrev nBuf : Space → Nat
  | .hbm => 12
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x12288x4096, .bf16⟩
  | .hbm, ⟨2, _⟩ => ⟨S32x2x1536x4096, .bf16⟩
  | .hbm, ⟨3, _⟩ => ⟨S12288x1x4096, .bf16⟩
  | .hbm, ⟨4, _⟩ => ⟨S12288x4096, .bf16⟩
  | .hbm, ⟨5, _⟩ => ⟨S4096x12288, .bf16⟩
  | .hbm, ⟨6, _⟩ => ⟨S32768x12288, .f32⟩
  | .hbm, ⟨7, _⟩ => ⟨S4x2x4x2x1536x4096, .bf16⟩
  | .hbm, ⟨8, _⟩ => ⟨S4x1x4x1x1536x4096, .bf16⟩
  | .hbm, ⟨9, _⟩ => ⟨S4x1x4x1x1536x4096, .bf16⟩
  | .hbm, ⟨10, _⟩ => ⟨S4x2x4x1x1536x4096, .bf16⟩
  | .hbm, ⟨11, _⟩ => ⟨S32x1536x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Merged.lean ====
abbrev S4096x4096 : Shape := ⟨2, ![4096, 4096]⟩
abbrev S1x4096x4096 : Shape := ⟨3, ![1, 4096, 4096]⟩
abbrev S4x2x512x4096 : Shape := ⟨4, ![4, 2, 512, 4096]⟩
abbrev S4x512x4096 : Shape := ⟨3, ![4, 512, 4096]⟩
abbrev S1024x2048 : Shape := ⟨2, ![1024, 2048]⟩
abbrev S1x1024x2048 : Shape := ⟨3, ![1, 1024, 2048]⟩
abbrev S1024x1024 : Shape := ⟨2, ![1024, 1024]⟩
abbrev S1x4 : Shape := ⟨2, ![1, 4]⟩
abbrev S1x1 : Shape := ⟨2, ![1, 1]⟩
abbrev S_ : Shape := ⟨0, ![]⟩
abbrev S1x512x4096 : Shape := ⟨3, ![1, 512, 4096]⟩
abbrev S512x4096 : Shape := ⟨2, ![512, 4096]⟩
abbrev S1x1x512x4096 : Shape := ⟨4, ![1, 1, 512, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4x2x512x4096, .bf16⟩
  | .hbm, ⟨3, _⟩ => ⟨S4096x4096, .f32⟩
  | .hbm, ⟨4, _⟩ => ⟨S4x512x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 4, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d28 : Dev nD) : Fin 4 → Nat :=
  let c0_i32_27 : BitVec 32 := 0#32
  let c1_i32_19 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v37 : BitVec 32 := Scalar.subi c1_i32_19 v36
  let c0_i32_39 : BitVec 32 := 0#32
  let c0_i32_40 : BitVec 32 := 0#32
  ![0, v37.toNat, 0, 0]
def k0_dev1 (d28 : Dev nD) : Nat :=
  let c0_i32_34 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_33 : BitVec 32 := 4#32
  let v45 : BitVec 32 := Scalar.muli v30 c4_i32_33
  let v46 : BitVec 32 := Scalar.addi c0_i32_34 v45
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_35 : BitVec 32 := 2#32
  let v47 : BitVec 32 := Scalar.muli v33 c2_i32_35
  let v48 : BitVec 32 := Scalar.addi v46 v47
  let c1_i32_20 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v38 : BitVec 32 := Scalar.subi c1_i32_20 v36
  let c1_i32_36 : BitVec 32 := 1#32
  let v49 : BitVec 32 := Scalar.muli v38 c1_i32_36
  let v50 : BitVec 32 := Scalar.addi v48 v49
  v50.toNat
def k0_off2 (d28 : Dev nD) : Fin 4 → Nat :=
  let c1_i32_41 : BitVec 32 := 1#32
  let c1_i32_21 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v39 : BitVec 32 := Scalar.subi c1_i32_21 v36
  let c0_i32_53 : BitVec 32 := 0#32
  let c0_i32_54 : BitVec 32 := 0#32
  ![1, v39.toNat, 0, 0]
def k0_dev2 (d28 : Dev nD) : Nat :=
  let c0_i32_48 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_47 : BitVec 32 := 4#32
  let v59 : BitVec 32 := Scalar.muli v30 c4_i32_47
  let v60 : BitVec 32 := Scalar.addi c0_i32_48 v59
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_49 : BitVec 32 := 2#32
  let v61 : BitVec 32 := Scalar.muli v33 c2_i32_49
  let v62 : BitVec 32 := Scalar.addi v60 v61
  let c1_i32_22 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v40 : BitVec 32 := Scalar.subi c1_i32_22 v36
  let c1_i32_50 : BitVec 32 := 1#32
  let v63 : BitVec 32 := Scalar.muli v40 c1_i32_50
  let v64 : BitVec 32 := Scalar.addi v62 v63
  v64.toNat
def k0_off3 (d28 : Dev nD) : Fin 4 → Nat :=
  let c2_i32_55 : BitVec 32 := 2#32
  let c1_i32_23 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v41 : BitVec 32 := Scalar.subi c1_i32_23 v36
  let c0_i32_67 : BitVec 32 := 0#32
  let c0_i32_68 : BitVec 32 := 0#32
  ![2, v41.toNat, 0, 0]
def k0_dev3 (d28 : Dev nD) : Nat :=
  let c0_i32_62 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_61 : BitVec 32 := 4#32
  let v73 : BitVec 32 := Scalar.muli v30 c4_i32_61
  let v74 : BitVec 32 := Scalar.addi c0_i32_62 v73
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_63 : BitVec 32 := 2#32
  let v75 : BitVec 32 := Scalar.muli v33 c2_i32_63
  let v76 : BitVec 32 := Scalar.addi v74 v75
  let c1_i32_24 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v42 : BitVec 32 := Scalar.subi c1_i32_24 v36
  let c1_i32_64 : BitVec 32 := 1#32
  let v77 : BitVec 32 := Scalar.muli v42 c1_i32_64
  let v78 : BitVec 32 := Scalar.addi v76 v77
  v78.toNat
def k0_off4 (d28 : Dev nD) : Fin 4 → Nat :=
  let c3_i32_69 : BitVec 32 := 3#32
  let c1_i32_25 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v43 : BitVec 32 := Scalar.subi c1_i32_25 v36
  let c0_i32_81 : BitVec 32 := 0#32
  let c0_i32_82 : BitVec 32 := 0#32
  ![3, v43.toNat, 0, 0]
def k0_dev4 (d28 : Dev nD) : Nat :=
  let c0_i32_76 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_75 : BitVec 32 := 4#32
  let v87 : BitVec 32 := Scalar.muli v30 c4_i32_75
  let v88 : BitVec 32 := Scalar.addi c0_i32_76 v87
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_77 : BitVec 32 := 2#32
  let v89 : BitVec 32 := Scalar.muli v33 c2_i32_77
  let v90 : BitVec 32 := Scalar.addi v88 v89
  let c1_i32_26 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v44 : BitVec 32 := Scalar.subi c1_i32_26 v36
  let c1_i32_78 : BitVec 32 := 1#32
  let v91 : BitVec 32 := Scalar.muli v44 c1_i32_78
  let v92 : BitVec 32 := Scalar.addi v90 v91
  v92.toNat
def k0_cond5 (i : grid0.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v8 : BitVec 1 := Scalar.andi v5 v6
  let arg2 : BitVec 32 := BitVec.ofNat 32 (i 2).val
  let c1_i32 : BitVec 32 := 1#32
  let v7 : BitVec 1 := Scalar.cmpi .eq arg2 c1_i32
  let v9 : BitVec 1 := Scalar.andi v8 v7
  let v26 : BitVec 32 := Scalar.extui v9
  let c0_i32_14 : BitVec 32 := 0#32
  let v27 : BitVec 1 := Scalar.cmpi .ne v26 c0_i32_14
  v27

def k0_off5 (d28 : Dev nD) : Fin 4 → Nat :=
  let c0_i32_27 : BitVec 32 := 0#32
  let c1_i32_19 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v37 : BitVec 32 := Scalar.subi c1_i32_19 v36
  let c0_i32_39 : BitVec 32 := 0#32
  let c0_i32_40 : BitVec 32 := 0#32
  ![0, v37.toNat, 0, 0]
def k0_off6 (d28 : Dev nD) : Fin 4 → Nat :=
  let c1_i32_41 : BitVec 32 := 1#32
  let c1_i32_21 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v39 : BitVec 32 := Scalar.subi c1_i32_21 v36
  let c0_i32_53 : BitVec 32 := 0#32
  let c0_i32_54 : BitVec 32 := 0#32
  ![1, v39.toNat, 0, 0]
def k0_off7 (d28 : Dev nD) : Fin 4 → Nat :=
  let c2_i32_55 : BitVec 32 := 2#32
  let c1_i32_23 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v41 : BitVec 32 := Scalar.subi c1_i32_23 v36
  let c0_i32_67 : BitVec 32 := 0#32
  let c0_i32_68 : BitVec 32 := 0#32
  ![2, v41.toNat, 0, 0]
def k0_off8 (d28 : Dev nD) : Fin 4 → Nat :=
  let c3_i32_69 : BitVec 32 := 3#32
  let c1_i32_25 : BitVec 32 := 1#32
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let v43 : BitVec 32 := Scalar.subi c1_i32_25 v36
  let c0_i32_81 : BitVec 32 := 0#32
  let c0_i32_82 : BitVec 32 := 0#32
  ![3, v43.toNat, 0, 0]
def k0_cond4 (i : grid0.Coords) : BitVec 1 :=
  let arg2 : BitVec 32 := BitVec.ofNat 32 (i 2).val
  let c1_i32_12 : BitVec 32 := 1#32
  let v23 : BitVec 1 := Scalar.cmpi .eq arg2 c1_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedRefIdeal.lean ====
abbrev S32768x4096 : Shape := ⟨2, ![32768, 4096]⟩
abbrev S1x4096x4096 : Shape := ⟨3, ![1, 4096, 4096]⟩
abbrev S32x2x512x4096 : Shape := ⟨4, ![32, 2, 512, 4096]⟩
abbrev S4096x1x4096 : Shape := ⟨3, ![4096, 1, 4096]⟩
abbrev S4096x4096 : Shape := ⟨2, ![4096, 4096]⟩
abbrev S4x2x4x2x512x4096 : Shape := ⟨6, ![4, 2, 4, 2, 512, 4096]⟩
abbrev S4x1x4x1x512x4096 : Shape := ⟨6, ![4, 1, 4, 1, 512, 4096]⟩
abbrev S4x2x4x1x512x4096 : Shape := ⟨6, ![4, 2, 4, 1, 512, 4096]⟩
abbrev S32x512x4096 : Shape := ⟨3, ![32, 512, 4096]⟩

abbrev nBuf : Space → Nat
  | .hbm => 12
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x4096, .bf16⟩
  | .hbm, ⟨2, _⟩ => ⟨S32x2x512x4096, .bf16⟩
  | .hbm, ⟨3, _⟩ => ⟨S4096x1x4096, .bf16⟩
  | .hbm, ⟨4, _⟩ => ⟨S4096x4096, .bf16⟩
  | .hbm, ⟨5, _⟩ => ⟨S4096x4096, .bf16⟩
  | .hbm, ⟨6, _⟩ => ⟨S32768x4096, .f32⟩
  | .hbm, ⟨7, _⟩ => ⟨S4x2x4x2x512x4096, .bf16⟩
  | .hbm, ⟨8, _⟩ => ⟨S4x1x4x1x512x4096, .bf16⟩
  | .hbm, ⟨9, _⟩ => ⟨S4x1x4x1x512x4096, .bf16⟩
  | .hbm, ⟨10, _⟩ => ⟨S4x2x4x1x512x4096, .bf16⟩
  | .hbm, ⟨11, _⟩ => ⟨S32x512x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixerA.lean ====
abbrev S4096x4096 : Shape := ⟨2, ![4096, 4096]⟩
abbrev S8x2048x512 : Shape := ⟨3, ![8, 2048, 512]⟩
abbrev S4x2x2048x512 : Shape := ⟨4, ![4, 2, 2048, 512]⟩
abbrev S4x2x512x4096 : Shape := ⟨4, ![4, 2, 512, 4096]⟩
abbrev S4096x2048 : Shape := ⟨2, ![4096, 2048]⟩
abbrev S4x2048x512 : Shape := ⟨3, ![4, 2048, 512]⟩
abbrev S4x512x4096 : Shape := ⟨3, ![4, 512, 4096]⟩
abbrev S1024x512 : Shape := ⟨2, ![1024, 512]⟩
abbrev S1x1024x512 : Shape := ⟨3, ![1, 1024, 512]⟩
abbrev S1024x1024 : Shape := ⟨2, ![1024, 1024]⟩
abbrev S2x4 : Shape := ⟨2, ![2, 4]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x1x2048x512 : Shape := ⟨4, ![1, 1, 2048, 512]⟩
abbrev S1x512x4096 : Shape := ⟨3, ![1, 512, 4096]⟩
abbrev S512x4096 : Shape := ⟨2, ![512, 4096]⟩
abbrev S1x1x512x4096 : Shape := ⟨4, ![1, 1, 512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4x2x2048x512, .bf16⟩
  | .hbm, ⟨3, _⟩ => ⟨S4x2x512x4096, .bf16⟩
  | .hbm, ⟨4, _⟩ => ⟨S4096x2048, .f32⟩
  | .hbm, ⟨5, _⟩ => ⟨S4x2048x512, .bf16⟩
  | .hbm, ⟨6, _⟩ => ⟨S4x512x4096, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 4, 8], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_2 : BitVec 32 := 0#32
  let v11 : BitVec 1 := Scalar.cmpi .ne v10 c0_i32_2
  v11

def k0_off1 (d28 : Dev nD) : Fin 4 → Nat :=
  let c0_i32_34 : BitVec 32 := 0#32
  let c1_i32_18 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v37 : BitVec 32 := Scalar.subi c1_i32_18 v36
  let c0_i32_46 : BitVec 32 := 0#32
  let c0_i32_47 : BitVec 32 := 0#32
  ![0, v37.toNat, 0, 0]
def k0_dev1 (d28 : Dev nD) : Nat :=
  let c0_i32_41 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_40 : BitVec 32 := 4#32
  let v53 : BitVec 32 := Scalar.muli v30 c4_i32_40
  let v54 : BitVec 32 := Scalar.addi c0_i32_41 v53
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_42 : BitVec 32 := 2#32
  let v55 : BitVec 32 := Scalar.muli v33 c2_i32_42
  let v56 : BitVec 32 := Scalar.addi v54 v55
  let c1_i32_19 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v38 : BitVec 32 := Scalar.subi c1_i32_19 v36
  let c1_i32_43 : BitVec 32 := 1#32
  let v57 : BitVec 32 := Scalar.muli v38 c1_i32_43
  let v58 : BitVec 32 := Scalar.addi v56 v57
  v58.toNat
def k0_off2 (d28 : Dev nD) : Fin 4 → Nat :=
  let c1_i32_48 : BitVec 32 := 1#32
  let c1_i32_20 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v39 : BitVec 32 := Scalar.subi c1_i32_20 v36
  let c0_i32_60 : BitVec 32 := 0#32
  let c0_i32_61 : BitVec 32 := 0#32
  ![1, v39.toNat, 0, 0]
def k0_dev2 (d28 : Dev nD) : Nat :=
  let c0_i32_55 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_54 : BitVec 32 := 4#32
  let v67 : BitVec 32 := Scalar.muli v30 c4_i32_54
  let v68 : BitVec 32 := Scalar.addi c0_i32_55 v67
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_56 : BitVec 32 := 2#32
  let v69 : BitVec 32 := Scalar.muli v33 c2_i32_56
  let v70 : BitVec 32 := Scalar.addi v68 v69
  let c1_i32_21 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v40 : BitVec 32 := Scalar.subi c1_i32_21 v36
  let c1_i32_57 : BitVec 32 := 1#32
  let v71 : BitVec 32 := Scalar.muli v40 c1_i32_57
  let v72 : BitVec 32 := Scalar.addi v70 v71
  v72.toNat
def k0_off3 (d28 : Dev nD) : Fin 4 → Nat :=
  let c2_i32_62 : BitVec 32 := 2#32
  let c1_i32_22 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v41 : BitVec 32 := Scalar.subi c1_i32_22 v36
  let c0_i32_74 : BitVec 32 := 0#32
  let c0_i32_75 : BitVec 32 := 0#32
  ![2, v41.toNat, 0, 0]
def k0_dev3 (d28 : Dev nD) : Nat :=
  let c0_i32_69 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_68 : BitVec 32 := 4#32
  let v81 : BitVec 32 := Scalar.muli v30 c4_i32_68
  let v82 : BitVec 32 := Scalar.addi c0_i32_69 v81
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_70 : BitVec 32 := 2#32
  let v83 : BitVec 32 := Scalar.muli v33 c2_i32_70
  let v84 : BitVec 32 := Scalar.addi v82 v83
  let c1_i32_23 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v42 : BitVec 32 := Scalar.subi c1_i32_23 v36
  let c1_i32_71 : BitVec 32 := 1#32
  let v85 : BitVec 32 := Scalar.muli v42 c1_i32_71
  let v86 : BitVec 32 := Scalar.addi v84 v85
  v86.toNat
def k0_off4 (d28 : Dev nD) : Fin 4 → Nat :=
  let c3_i32_76 : BitVec 32 := 3#32
  let c1_i32_24 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v43 : BitVec 32 := Scalar.subi c1_i32_24 v36
  let c0_i32_88 : BitVec 32 := 0#32
  let c0_i32_89 : BitVec 32 := 0#32
  ![3, v43.toNat, 0, 0]
def k0_dev4 (d28 : Dev nD) : Nat :=
  let c0_i32_83 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_82 : BitVec 32 := 4#32
  let v95 : BitVec 32 := Scalar.muli v30 c4_i32_82
  let v96 : BitVec 32 := Scalar.addi c0_i32_83 v95
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_84 : BitVec 32 := 2#32
  let v97 : BitVec 32 := Scalar.muli v33 c2_i32_84
  let v98 : BitVec 32 := Scalar.addi v96 v97
  let c1_i32_25 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v44 : BitVec 32 := Scalar.subi c1_i32_25 v36
  let c1_i32_85 : BitVec 32 := 1#32
  let v99 : BitVec 32 := Scalar.muli v44 c1_i32_85
  let v100 : BitVec 32 := Scalar.addi v98 v99
  v100.toNat
def k0_off5 (d28 : Dev nD) : Fin 4 → Nat :=
  let c0_i32_90 : BitVec 32 := 0#32
  let c1_i32_26 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v45 : BitVec 32 := Scalar.subi c1_i32_26 v36
  let c0_i32_102 : BitVec 32 := 0#32
  let c0_i32_103 : BitVec 32 := 0#32
  ![0, v45.toNat, 0, 0]
def k0_dev5 (d28 : Dev nD) : Nat :=
  let c0_i32_97 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_96 : BitVec 32 := 4#32
  let v109 : BitVec 32 := Scalar.muli v30 c4_i32_96
  let v110 : BitVec 32 := Scalar.addi c0_i32_97 v109
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_98 : BitVec 32 := 2#32
  let v111 : BitVec 32 := Scalar.muli v33 c2_i32_98
  let v112 : BitVec 32 := Scalar.addi v110 v111
  let c1_i32_27 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v46 : BitVec 32 := Scalar.subi c1_i32_27 v36
  let c1_i32_99 : BitVec 32 := 1#32
  let v113 : BitVec 32 := Scalar.muli v46 c1_i32_99
  let v114 : BitVec 32 := Scalar.addi v112 v113
  v114.toNat
def k0_off6 (d28 : Dev nD) : Fin 4 → Nat :=
  let c1_i32_104 : BitVec 32 := 1#32
  let c1_i32_28 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v47 : BitVec 32 := Scalar.subi c1_i32_28 v36
  let c0_i32_116 : BitVec 32 := 0#32
  let c0_i32_117 : BitVec 32 := 0#32
  ![1, v47.toNat, 0, 0]
def k0_dev6 (d28 : Dev nD) : Nat :=
  let c0_i32_111 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_110 : BitVec 32 := 4#32
  let v123 : BitVec 32 := Scalar.muli v30 c4_i32_110
  let v124 : BitVec 32 := Scalar.addi c0_i32_111 v123
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_112 : BitVec 32 := 2#32
  let v125 : BitVec 32 := Scalar.muli v33 c2_i32_112
  let v126 : BitVec 32 := Scalar.addi v124 v125
  let c1_i32_29 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v48 : BitVec 32 := Scalar.subi c1_i32_29 v36
  let c1_i32_113 : BitVec 32 := 1#32
  let v127 : BitVec 32 := Scalar.muli v48 c1_i32_113
  let v128 : BitVec 32 := Scalar.addi v126 v127
  v128.toNat
def k0_off7 (d28 : Dev nD) : Fin 4 → Nat :=
  let c2_i32_118 : BitVec 32 := 2#32
  let c1_i32_30 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v49 : BitVec 32 := Scalar.subi c1_i32_30 v36
  let c0_i32_130 : BitVec 32 := 0#32
  let c0_i32_131 : BitVec 32 := 0#32
  ![2, v49.toNat, 0, 0]
def k0_dev7 (d28 : Dev nD) : Nat :=
  let c0_i32_125 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_124 : BitVec 32 := 4#32
  let v137 : BitVec 32 := Scalar.muli v30 c4_i32_124
  let v138 : BitVec 32 := Scalar.addi c0_i32_125 v137
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_126 : BitVec 32 := 2#32
  let v139 : BitVec 32 := Scalar.muli v33 c2_i32_126
  let v140 : BitVec 32 := Scalar.addi v138 v139
  let c1_i32_31 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v50 : BitVec 32 := Scalar.subi c1_i32_31 v36
  let c1_i32_127 : BitVec 32 := 1#32
  let v141 : BitVec 32 := Scalar.muli v50 c1_i32_127
  let v142 : BitVec 32 := Scalar.addi v140 v141
  v142.toNat
def k0_off8 (d28 : Dev nD) : Fin 4 → Nat :=
  let c3_i32_132 : BitVec 32 := 3#32
  let c1_i32_32 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v51 : BitVec 32 := Scalar.subi c1_i32_32 v36
  let c0_i32_144 : BitVec 32 := 0#32
  let c0_i32_145 : BitVec 32 := 0#32
  ![3, v51.toNat, 0, 0]
def k0_dev8 (d28 : Dev nD) : Nat :=
  let c0_i32_139 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_138 : BitVec 32 := 4#32
  let v151 : BitVec 32 := Scalar.muli v30 c4_i32_138
  let v152 : BitVec 32 := Scalar.addi c0_i32_139 v151
  let v31 : BitVec 32 := Dev.word d28
  let c2_i32_15 : BitVec 32 := 2#32
  let v32 : BitVec 32 := Scalar.divsi v31 c2_i32_15
  let c2_i32_14 : BitVec 32 := 2#32
  let v33 : BitVec 32 := Scalar.remsi v32 c2_i32_14
  let c2_i32_140 : BitVec 32 := 2#32
  let v153 : BitVec 32 := Scalar.muli v33 c2_i32_140
  let v154 : BitVec 32 := Scalar.addi v152 v153
  let c1_i32_33 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v52 : BitVec 32 := Scalar.subi c1_i32_33 v36
  let c1_i32_141 : BitVec 32 := 1#32
  let v155 : BitVec 32 := Scalar.muli v52 c1_i32_141
  let v156 : BitVec 32 := Scalar.addi v154 v155
  v156.toNat
def k0_cond5 (i : grid0.Coords) : BitVec 1 :=
  let arg0 : BitVec 32 := BitVec.ofNat 32 (i 0).val
  let c1_i32 : BitVec 32 := 1#32
  let v5 : BitVec 1 := Scalar.cmpi .eq arg0 c1_i32
  let arg1 : BitVec 32 := BitVec.ofNat 32 (i 1).val
  let c3_i32 : BitVec 32 := 3#32
  let v6 : BitVec 1 := Scalar.cmpi .eq arg1 c3_i32
  let v8 : BitVec 1 := Scalar.andi v5 v6
  let arg2 : BitVec 32 := BitVec.ofNat 32 (i 2).val
  let c7_i32 : BitVec 32 := 7#32
  let v7 : BitVec 1 := Scalar.cmpi .eq arg2 c7_i32
  let v9 : BitVec 1 := Scalar.andi v8 v7
  let v26 : BitVec 32 := Scalar.extui v9
  let c0_i32_13 : BitVec 32 := 0#32
  let v27 : BitVec 1 := Scalar.cmpi .ne v26 c0_i32_13
  v27

def k0_off9 (d28 : Dev nD) : Fin 4 → Nat :=
  let c0_i32_34 : BitVec 32 := 0#32
  let c1_i32_18 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v37 : BitVec 32 := Scalar.subi c1_i32_18 v36
  let c0_i32_46 : BitVec 32 := 0#32
  let c0_i32_47 : BitVec 32 := 0#32
  ![0, v37.toNat, 0, 0]
def k0_off10 (d28 : Dev nD) : Fin 4 → Nat :=
  let c1_i32_48 : BitVec 32 := 1#32
  let c1_i32_20 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v39 : BitVec 32 := Scalar.subi c1_i32_20 v36
  let c0_i32_60 : BitVec 32 := 0#32
  let c0_i32_61 : BitVec 32 := 0#32
  ![1, v39.toNat, 0, 0]
def k0_off11 (d28 : Dev nD) : Fin 4 → Nat :=
  let c2_i32_62 : BitVec 32 := 2#32
  let c1_i32_22 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v41 : BitVec 32 := Scalar.subi c1_i32_22 v36
  let c0_i32_74 : BitVec 32 := 0#32
  let c0_i32_75 : BitVec 32 := 0#32
  ![2, v41.toNat, 0, 0]
def k0_off12 (d28 : Dev nD) : Fin 4 → Nat :=
  let c3_i32_76 : BitVec 32 := 3#32
  let c1_i32_24 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v43 : BitVec 32 := Scalar.subi c1_i32_24 v36
  let c0_i32_88 : BitVec 32 := 0#32
  let c0_i32_89 : BitVec 32 := 0#32
  ![3, v43.toNat, 0, 0]
def k0_off13 (d28 : Dev nD) : Fin 4 → Nat :=
  let c0_i32_90 : BitVec 32 := 0#32
  let c1_i32_26 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v45 : BitVec 32 := Scalar.subi c1_i32_26 v36
  let c0_i32_102 : BitVec 32 := 0#32
  let c0_i32_103 : BitVec 32 := 0#32
  ![0, v45.toNat, 0, 0]
def k0_off14 (d28 : Dev nD) : Fin 4 → Nat :=
  let c1_i32_104 : BitVec 32 := 1#32
  let c1_i32_28 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v47 : BitVec 32 := Scalar.subi c1_i32_28 v36
  let c0_i32_116 : BitVec 32 := 0#32
  let c0_i32_117 : BitVec 32 := 0#32
  ![1, v47.toNat, 0, 0]
def k0_off15 (d28 : Dev nD) : Fin 4 → Nat :=
  let c2_i32_118 : BitVec 32 := 2#32
  let c1_i32_30 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v49 : BitVec 32 := Scalar.subi c1_i32_30 v36
  let c0_i32_130 : BitVec 32 := 0#32
  let c0_i32_131 : BitVec 32 := 0#32
  ![2, v49.toNat, 0, 0]
def k0_off16 (d28 : Dev nD) : Fin 4 → Nat :=
  let c3_i32_132 : BitVec 32 := 3#32
  let c1_i32_32 : BitVec 32 := 1#32
  let v34 : BitVec 32 := Dev.word d28
  let c1_i32_17 : BitVec 32 := 1#32
  let v35 : BitVec 32 := Scalar.divsi v34 c1_i32_17
  let c2_i32_16 : BitVec 32 := 2#32
  let v36 : BitVec 32 := Scalar.remsi v35 c2_i32_16
  let v51 : BitVec 32 := Scalar.subi c1_i32_32 v36
  let c0_i32_144 : BitVec 32 := 0#32
  let c0_i32_145 : BitVec 32 := 0#32
  ![3, v51.toNat, 0, 0]
def k0_cond4 (i : grid0.Coords) : BitVec 1 :=
  let arg2 : BitVec 32 := BitVec.ofNat 32 (i 2).val
  let c7_i32_11 : BitVec 32 := 7#32
  let v23 : BitVec 1 := Scalar.cmpi .eq arg2 c7_i32_11
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerARefIdeal.lean ====
abbrev S32768x4096 : Shape := ⟨2, ![32768, 4096]⟩
abbrev S8x2048x512 : Shape := ⟨3, ![8, 2048, 512]⟩
abbrev S32x2x2048x512 : Shape := ⟨4, ![32, 2, 2048, 512]⟩
abbrev S32x2x512x4096 : Shape := ⟨4, ![32, 2, 512, 4096]⟩
abbrev S2048x8x512 : Shape := ⟨3, ![2048, 8, 512]⟩
abbrev S2048x4096 : Shape := ⟨2, ![2048, 4096]⟩
abbrev S4096x2048 : Shape := ⟨2, ![4096, 2048]⟩
abbrev S32768x2048 : Shape := ⟨2, ![32768, 2048]⟩
abbrev S4x2x4x2x2048x512 : Shape := ⟨6, ![4, 2, 4, 2, 2048, 512]⟩
abbrev S4x1x4x1x2048x512 : Shape := ⟨6, ![4, 1, 4, 1, 2048, 512]⟩
abbrev S4x2x4x1x2048x512 : Shape := ⟨6, ![4, 2, 4, 1, 2048, 512]⟩
abbrev S32x2048x512 : Shape := ⟨3, ![32, 2048, 512]⟩
abbrev S4x2x4x2x512x4096 : Shape := ⟨6, ![4, 2, 4, 2, 512, 4096]⟩
abbrev S4x1x4x1x512x4096 : Shape := ⟨6, ![4, 1, 4, 1, 512, 4096]⟩
abbrev S4x2x4x1x512x4096 : Shape := ⟨6, ![4, 2, 4, 1, 512, 4096]⟩
abbrev S32x512x4096 : Shape := ⟨3, ![32, 512, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S8x2048x512, .bf16⟩
  | .hbm, ⟨2, _⟩ => ⟨S32x2x2048x512, .bf16⟩
  | .hbm, ⟨3, _⟩ => ⟨S32x2x512x4096, .bf16⟩
  | .hbm, ⟨4, _⟩ => ⟨S2048x8x512, .bf16⟩
  | .hbm, ⟨5, _⟩ => ⟨S2048x4096, .bf16⟩
  | .hbm, ⟨6, _⟩ => ⟨S4096x2048, .bf16⟩
  | .hbm, ⟨7, _⟩ => ⟨S32768x2048, .f32⟩
  | .hbm, ⟨8, _⟩ => ⟨S4x2x4x2x2048x512, .bf16⟩
  | .hbm, ⟨9, _⟩ => ⟨S4x1x4x1x2048x512, .bf16⟩
  | .hbm, ⟨10, _⟩ => ⟨S4x1x4x1x2048x512, .bf16⟩
  | .hbm, ⟨11, _⟩ => ⟨S4x2x4x1x2048x512, .bf16⟩
  | .hbm, ⟨12, _⟩ => ⟨S32x2048x512, .bf16⟩
  | .hbm, ⟨13, _⟩ => ⟨S4x2x4x2x512x4096, .bf16⟩
  | .hbm, ⟨14, _⟩ => ⟨S4x1x4x1x512x4096, .bf16⟩
  | .hbm, ⟨15, _⟩ => ⟨S4x1x4x1x512x4096, .bf16⟩
  | .hbm, ⟨16, _⟩ => ⟨S4x2x4x1x512x4096, .bf16⟩
  | .hbm, ⟨17, _⟩ => ⟨S32x512x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== MixerB.lean ====
abbrev S4096x4096 : Shape := ⟨2, ![4096, 4096]⟩
abbrev S1x4096x4096 : Shape := ⟨3, ![1, 4096, 4096]⟩
abbrev S4x512x4096 : Shape := ⟨3, ![4, 512, 4096]⟩
abbrev S1024x2048 : Shape := ⟨2, ![1024, 2048]⟩
abbrev S1x1024x2048 : Shape := ⟨3, ![1, 1024, 2048]⟩
abbrev S1024x1024 : Shape := ⟨2, ![1024, 1024]⟩
abbrev S1x3 : Shape := ⟨2, ![1, 3]⟩
abbrev S1x1 : Shape := ⟨2, ![1, 1]⟩
abbrev S_ : Shape := ⟨0, ![]⟩
abbrev S1x512x4096 : Shape := ⟨3, ![1, 512, 4096]⟩
abbrev S512x4096 : Shape := ⟨2, ![512, 4096]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1x4096x4096, .bf16⟩
  | .hbm, ⟨2, _⟩ => ⟨S4x512x4096, .bf16⟩
  | .hbm, ⟨3, _⟩ => ⟨S4096x4096, .f32⟩
  | .hbm, ⟨4, _⟩ => ⟨S4x512x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 4, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v3 : BitVec 1 := Scalar.andi v0 v1
  let arg2 : BitVec 32 := BitVec.ofNat 32 (i 2).val
  let c0_i32_1 : BitVec 32 := 0#32
  let v2 : BitVec 1 := Scalar.cmpi .eq arg2 c0_i32_1
  let v4 : BitVec 1 := Scalar.andi v3 v2
  let v10 : BitVec 32 := Scalar.extui v4
  let c0_i32_3 : BitVec 32 := 0#32
  let v11 : BitVec 1 := Scalar.cmpi .ne v10 c0_i32_3
  v11

def k0_off1 (d28 : Dev nD) : Fin 3 → Nat :=
  let c2_i32_26 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c2_i32_26 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v48 : BitVec 32 := Scalar.addi v47 v33
  let c0_i32_32 : BitVec 32 := 0#32
  let c0_i32_33 : BitVec 32 := 0#32
  ![v48.toNat, 0, 0]
def k0_off2 (d28 : Dev nD) : Fin 3 → Nat :=
  let c2_i32_23 : BitVec 32 := 2#32
  let c1_i32_19 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_19 v30
  let v41 : BitVec 32 := Scalar.muli c2_i32_23 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_45 : BitVec 32 := 0#32
  let c0_i32_46 : BitVec 32 := 0#32
  ![v42.toNat, 0, 0]
def k0_dev1 (d28 : Dev nD) : Nat :=
  let c0_i32_40 : BitVec 32 := 0#32
  let c1_i32_19 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_19 v30
  let c4_i32_39 : BitVec 32 := 4#32
  let v55 : BitVec 32 := Scalar.muli v37 c4_i32_39
  let v56 : BitVec 32 := Scalar.addi c0_i32_40 v55
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let c2_i32_41 : BitVec 32 := 2#32
  let v57 : BitVec 32 := Scalar.muli v33 c2_i32_41
  let v58 : BitVec 32 := Scalar.addi v56 v57
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_42 : BitVec 32 := 1#32
  let v59 : BitVec 32 := Scalar.muli v36 c1_i32_42
  let v60 : BitVec 32 := Scalar.addi v58 v59
  v60.toNat
def k0_off3 (d28 : Dev nD) : Fin 3 → Nat :=
  let c2_i32_24 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v43 : BitVec 32 := Scalar.muli c2_i32_24 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v44 : BitVec 32 := Scalar.addi v43 v38
  let c0_i32_58 : BitVec 32 := 0#32
  let c0_i32_59 : BitVec 32 := 0#32
  ![v44.toNat, 0, 0]
def k0_dev2 (d28 : Dev nD) : Nat :=
  let c0_i32_53 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_52 : BitVec 32 := 4#32
  let v69 : BitVec 32 := Scalar.muli v30 c4_i32_52
  let v70 : BitVec 32 := Scalar.addi c0_i32_53 v69
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let c2_i32_54 : BitVec 32 := 2#32
  let v71 : BitVec 32 := Scalar.muli v38 c2_i32_54
  let v72 : BitVec 32 := Scalar.addi v70 v71
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_55 : BitVec 32 := 1#32
  let v73 : BitVec 32 := Scalar.muli v36 c1_i32_55
  let v74 : BitVec 32 := Scalar.addi v72 v73
  v74.toNat
def k0_off4 (d28 : Dev nD) : Fin 3 → Nat :=
  let c2_i32_25 : BitVec 32 := 2#32
  let c1_i32_21 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_21 v30
  let v45 : BitVec 32 := Scalar.muli c2_i32_25 v39
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let v46 : BitVec 32 := Scalar.addi v45 v40
  let c0_i32_71 : BitVec 32 := 0#32
  let c0_i32_72 : BitVec 32 := 0#32
  ![v46.toNat, 0, 0]
def k0_dev3 (d28 : Dev nD) : Nat :=
  let c0_i32_66 : BitVec 32 := 0#32
  let c1_i32_21 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_21 v30
  let c4_i32_65 : BitVec 32 := 4#32
  let v83 : BitVec 32 := Scalar.muli v39 c4_i32_65
  let v84 : BitVec 32 := Scalar.addi c0_i32_66 v83
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let c2_i32_67 : BitVec 32 := 2#32
  let v85 : BitVec 32 := Scalar.muli v40 c2_i32_67
  let v86 : BitVec 32 := Scalar.addi v84 v85
  let v34 : BitVec 32 := Dev.word d28
  let c1_i32_18 : BitVec 32 := 1#32
  let v35 : BitVec 32 := Scalar.divsi v34 c1_i32_18
  let c2_i32_17 : BitVec 32 := 2#32
  let v36 : BitVec 32 := Scalar.remsi v35 c2_i32_17
  let c1_i32_68 : BitVec 32 := 1#32
  let v87 : BitVec 32 := Scalar.muli v36 c1_i32_68
  let v88 : BitVec 32 := Scalar.addi v86 v87
  v88.toNat
def k0_cond5 (i : grid0.Coords) : BitVec 1 :=
  let arg0 : BitVec 32 := BitVec.ofNat 32 (i 0).val
  let c3_i32 : BitVec 32 := 3#32
  let v5 : BitVec 1 := Scalar.cmpi .eq arg0 c3_i32
  let arg1 : BitVec 32 := BitVec.ofNat 32 (i 1).val
  let c3_i32_2 : BitVec 32 := 3#32
  let v6 : BitVec 1 := Scalar.cmpi .eq arg1 c3_i32_2
  let v8 : BitVec 1 := Scalar.andi v5 v6
  let arg2 : BitVec 32 := BitVec.ofNat 32 (i 2).val
  let c1_i32 : BitVec 32 := 1#32
  let v7 : BitVec 1 := Scalar.cmpi .eq arg2 c1_i32
  let v9 : BitVec 1 := Scalar.andi v8 v7
  let v26 : BitVec 32 := Scalar.extui v9
  let c0_i32_14 : BitVec 32 := 0#32
  let v27 : BitVec 1 := Scalar.cmpi .ne v26 c0_i32_14
  v27

def k0_off5 (d28 : Dev nD) : Fin 3 → Nat :=
  let c2_i32_23 : BitVec 32 := 2#32
  let c1_i32_19 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_19 v30
  let v41 : BitVec 32 := Scalar.muli c2_i32_23 v37
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v42 : BitVec 32 := Scalar.addi v41 v33
  let c0_i32_38 : BitVec 32 := 0#32
  let c0_i32_39 : BitVec 32 := 0#32
  ![v42.toNat, 0, 0]
def k0_off6 (d28 : Dev nD) : Fin 3 → Nat :=
  let c2_i32_24 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v43 : BitVec 32 := Scalar.muli c2_i32_24 v30
  let c1_i32_20 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v38 : BitVec 32 := Scalar.subi c1_i32_20 v33
  let v44 : BitVec 32 := Scalar.addi v43 v38
  let c0_i32_51 : BitVec 32 := 0#32
  let c0_i32_52 : BitVec 32 := 0#32
  ![v44.toNat, 0, 0]
def k0_off7 (d28 : Dev nD) : Fin 3 → Nat :=
  let c2_i32_25 : BitVec 32 := 2#32
  let c1_i32_21 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v39 : BitVec 32 := Scalar.subi c1_i32_21 v30
  let v45 : BitVec 32 := Scalar.muli c2_i32_25 v39
  let c1_i32_22 : BitVec 32 := 1#32
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v40 : BitVec 32 := Scalar.subi c1_i32_22 v33
  let v46 : BitVec 32 := Scalar.addi v45 v40
  let c0_i32_64 : BitVec 32 := 0#32
  let c0_i32_65 : BitVec 32 := 0#32
  ![v46.toNat, 0, 0]
def k0_off8 (d28 : Dev nD) : Fin 3 → Nat :=
  let c2_i32_26 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v47 : BitVec 32 := Scalar.muli c2_i32_26 v30
  let v31 : BitVec 32 := Dev.word d28
  let c2_i32_16 : BitVec 32 := 2#32
  let v32 : BitVec 32 := Scalar.divsi v31 c2_i32_16
  let c2_i32_15 : BitVec 32 := 2#32
  let v33 : BitVec 32 := Scalar.remsi v32 c2_i32_15
  let v48 : BitVec 32 := Scalar.addi v47 v33
  let c0_i32_101 : BitVec 32 := 0#32
  let c0_i32_102 : BitVec 32 := 0#32
  ![v48.toNat, 0, 0]
def k0_cond4 (i : grid0.Coords) : BitVec 1 :=
  let arg2 : BitVec 32 := BitVec.ofNat 32 (i 2).val
  let c1_i32_12 : BitVec 32 := 1#32
  let v23 : BitVec 1 := Scalar.cmpi .eq arg2 c1_i32_12
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerBRefIdeal.lean ====
abbrev S32768x4096 : Shape := ⟨2, ![32768, 4096]⟩
abbrev S1x4096x4096 : Shape := ⟨3, ![1, 4096, 4096]⟩
abbrev S32x512x4096 : Shape := ⟨3, ![32, 512, 4096]⟩
abbrev S4096x1x4096 : Shape := ⟨3, ![4096, 1, 4096]⟩
abbrev S4096x4096 : Shape := ⟨2, ![4096, 4096]⟩
abbrev S2x2x2x2x2x2097152 : Shape := ⟨6, ![2, 2, 2, 2, 2, 2097152]⟩
abbrev S1x2x2x2x2x2097152 : Shape := ⟨6, ![1, 2, 2, 2, 2, 2097152]⟩
abbrev S2x1x2x2x2x2097152 : Shape := ⟨6, ![2, 1, 2, 2, 2, 2097152]⟩

abbrev nBuf : Space → Nat
  | .hbm => 18
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x4096, .bf16⟩
  | .hbm, ⟨2, _⟩ => ⟨S32x512x4096, .bf16⟩
  | .hbm, ⟨3, _⟩ => ⟨S4096x1x4096, .bf16⟩
  | .hbm, ⟨4, _⟩ => ⟨S4096x4096, .bf16⟩
  | .hbm, ⟨5, _⟩ => ⟨S4096x4096, .bf16⟩
  | .hbm, ⟨6, _⟩ => ⟨S32768x4096, .f32⟩
  | .hbm, ⟨7, _⟩ => ⟨S2x2x2x2x2x2097152, .bf16⟩
  | .hbm, ⟨8, _⟩ => ⟨S2x2x2x2x2x2097152, .bf16⟩
  | .hbm, ⟨9, _⟩ => ⟨S1x2x2x2x2x2097152, .bf16⟩
  | .hbm, ⟨10, _⟩ => ⟨S1x2x2x2x2x2097152, .bf16⟩
  | .hbm, ⟨11, _⟩ => ⟨S1x2x2x2x2x2097152, .bf16⟩
  | .hbm, ⟨12, _⟩ => ⟨S2x2x2x2x2x2097152, .bf16⟩
  | .hbm, ⟨13, _⟩ => ⟨S2x1x2x2x2x2097152, .bf16⟩
  | .hbm, ⟨14, _⟩ => ⟨S2x1x2x2x2x2097152, .bf16⟩
  | .hbm, ⟨15, _⟩ => ⟨S2x1x2x2x2x2097152, .bf16⟩
  | .hbm, ⟨16, _⟩ => ⟨S2x2x2x2x2x2097152, .bf16⟩
  | .hbm, ⟨17, _⟩ => ⟨S32x512x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Adam.lean ====
abbrev S4096x2560 : Shape := ⟨2, ![4096, 2560]⟩
abbrev S4x4096x2560 : Shape := ⟨3, ![4, 4096, 2560]⟩
abbrev S128x2560 : Shape := ⟨2, ![128, 2560]⟩
abbrev S4x128x2560 : Shape := ⟨3, ![4, 128, 2560]⟩
abbrev S1x128x2560 : Shape := ⟨3, ![1, 128, 2560]⟩

abbrev nBuf : Space → Nat
  | .hbm => 8
  | .vmem => 16
  | .smem => 0
  | _ => 0

abbrev bufTy : (tb : Table) → Fin (tcTables nBuf tb) → BufTy
  | .hbm, ⟨0, _⟩ => ⟨S4096x2560, .f32⟩
  | .hbm, ⟨1, _⟩ => ⟨S4096x2560, .f32⟩
  | .hbm, ⟨2, _⟩ => ⟨S4096x2560, .f32⟩
  | .hbm, ⟨3, _⟩ => ⟨S4x4096x2560, .bf16⟩
  | .hbm, ⟨4, _⟩ => ⟨S4096x2560, .f32⟩
  | .hbm, ⟨5, _⟩ => ⟨S4096x2560, .f32⟩
  | .hbm, ⟨6, _⟩ => ⟨S4096x2560, .f32⟩
  | .hbm, ⟨7, _⟩ => ⟨S4096x2560, .f32⟩
  | .local _ .vmem, ⟨0, _⟩ => ⟨S128x2560, .f32⟩
  | .local _ .vmem, ⟨1, _⟩ => ⟨S128x2560, .f32⟩
  | .local _ .vmem, ⟨2, _⟩ => ⟨S128x2560, .f32⟩
  | .local _ .vmem, ⟨3, _⟩ => ⟨S128x2560, .f32⟩
  | .local _ .vmem, ⟨4, _⟩ => ⟨S128x2560, .f32⟩
  | .local _ .vmem, ⟨5, _⟩ => ⟨S128x2560, .f32⟩
  | .local _ .vmem, ⟨6, _⟩ => ⟨S4x128x2560, .bf16⟩
  | .local _ .vmem, ⟨7, _⟩ => ⟨S4x128x2560, .bf16⟩
  | .local _ .vmem, ⟨8, _⟩ => ⟨S128x2560, .f32⟩
  | .local _ .vmem, ⟨9, _⟩ => ⟨S128x2560, .f32⟩
  | .local _ .vmem, ⟨10, _⟩ => ⟨S128x2560, .f32⟩
  | .local _ .vmem, ⟨11, _⟩ => ⟨S128x2560, .f32⟩
  | .local _ .vmem, ⟨12, _⟩ => ⟨S128x2560, .f32⟩
  | .local _ .vmem, ⟨13, _⟩ => ⟨S128x2560, .f32⟩
  | .local _ .vmem, ⟨14, _⟩ => ⟨S128x2560, .f32⟩
  | .local _ .vmem, ⟨15, _⟩ => ⟨S128x2560, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4096x2560 : Shape := ⟨2, ![4096, 2560]⟩
abbrev S4x4096x2560 : Shape := ⟨3, ![4, 4096, 2560]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2560, .f32⟩
  | .hbm, ⟨1, _⟩ => ⟨S4096x2560, .f32⟩
  | .hbm, ⟨2, _⟩ => ⟨S4096x2560, .f32⟩
  | .hbm, ⟨3, _⟩ => ⟨S4x4096x2560, .bf16⟩
  | .hbm, ⟨4, _⟩ => ⟨S4x4096x2560, .f32⟩
  | .hbm, ⟨5, _⟩ => ⟨S_, .f32⟩
  | .hbm, ⟨6, _⟩ => ⟨S4096x2560, .f32⟩
  | .hbm, ⟨7, _⟩ => ⟨S_, .f32⟩
  | .hbm, ⟨8, _⟩ => ⟨S4096x2560, .f32⟩
  | .hbm, ⟨9, _⟩ => ⟨S4096x2560, .f32⟩
  | .hbm, ⟨10, _⟩ => ⟨S_, .f32⟩
  | .hbm, ⟨11, _⟩ => ⟨S4096x2560, .f32⟩
  | .hbm, ⟨12, _⟩ => ⟨S4096x2560, .f32⟩
  | .hbm, ⟨13, _⟩ => ⟨S4096x2560, .f32⟩
  | .hbm, ⟨14, _⟩ => ⟨S_, .f32⟩
  | .hbm, ⟨15, _⟩ => ⟨S4096x2560, .f32⟩
  | .hbm, ⟨16, _⟩ => ⟨S4096x2560, .f32⟩
  | .hbm, ⟨17, _⟩ => ⟨S4096x2560, .f32⟩
  | .hbm, ⟨18, _⟩ => ⟨S_, .f32⟩
  | .hbm, ⟨19, _⟩ => ⟨S4096x2560, .f32⟩
  | .hbm, ⟨20, _⟩ => ⟨S4096x2560, .f32⟩
  | .hbm, ⟨21, _⟩ => ⟨S4096x2560, .f32⟩
  | .hbm, ⟨22, _⟩ => ⟨S_, .f32⟩
  | .hbm, ⟨23, _⟩ => ⟨S4096x2560, .f32⟩
  | .hbm, ⟨24, _⟩ => ⟨S4096x2560, .f32⟩
  | .hbm, ⟨25, _⟩ => ⟨S_, .f32⟩
  | .hbm, ⟨26, _⟩ => ⟨S4096x2560, .f32⟩
  | .hbm, ⟨27, _⟩ => ⟨S4096x2560, .f32⟩
  | .hbm, ⟨28, _⟩ => ⟨S4096x2560, .f32⟩
  | .hbm, ⟨29, _⟩ => ⟨S_, .f32⟩
  | .hbm, ⟨30, _⟩ => ⟨S4096x2560, .f32⟩
  | .hbm, ⟨31, _⟩ => ⟨S4096x2560, .f32⟩
  | .hbm, ⟨32, _⟩ => ⟨S4096x2560, .f32⟩
  | .hbm, ⟨33, _⟩ => ⟨S_, .f32⟩
  | .hbm, ⟨34, _⟩ => ⟨S4096x2560, .f32⟩
  | .hbm, ⟨35, _⟩ => ⟨S4096x2560, .f32⟩
  | .hbm, ⟨36, _⟩ => ⟨S4096x2560, .f32⟩
  | .hbm, ⟨37, _⟩ => ⟨S_, .f32⟩
  | .hbm, ⟨38, _⟩ => ⟨S4096x2560, .f32⟩
  | .hbm, ⟨39, _⟩ => ⟨S4096x2560, .f32⟩
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSg.lean ====
abbrev S2048x512 : Shape := ⟨2, ![2048, 512]⟩
abbrev S4x2048x512 : Shape := ⟨3, ![4, 2048, 512]⟩
abbrev S512x512 : Shape := ⟨2, ![512, 512]⟩
abbrev S4x512x512 : Shape := ⟨3, ![4, 512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S4x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S4x512x512, .bf16⟩
  | .local _ .vmem, ⟨7, _⟩ => ⟨S4x512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSgRefIdeal.lean ====
abbrev S2048x512 : Shape := ⟨2, ![2048, 512]⟩
abbrev S4x2048x512 : Shape := ⟨3, ![4, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S4x2048x512, .bf16⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRows.lean ====
abbrev S512x4096 : Shape := ⟨2, ![512, 4096]⟩
abbrev S4x512x4096 : Shape := ⟨3, ![4, 512, 4096]⟩
abbrev S64x4096 : Shape := ⟨2, ![64, 4096]⟩
abbrev S4x64x4096 : Shape := ⟨3, ![4, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S4x512x4096, .bf16⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S4x64x4096, .bf16⟩
  | .local _ .vmem, ⟨7, _⟩ => ⟨S4x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRowsRefIdeal.lean ====
abbrev S512x4096 : Shape := ⟨2, ![512, 4096]⟩
abbrev S4x512x4096 : Shape := ⟨3, ![4, 512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x4096, .f32⟩
  | .hbm, ⟨2, _⟩ => ⟨S512x4096, .f32⟩
  | .hbm, ⟨3, _⟩ => ⟨S4x512x4096, .bf16⟩
  | .hbm, ⟨4, _⟩ => ⟨S4x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S1536x4096 : Shape := ⟨2, ![1536, 4096]⟩
abbrev S4x1536x4096 : Shape := ⟨3, ![4, 1536, 4096]⟩
abbrev S64x4096 : Shape := ⟨2, ![64, 4096]⟩
abbrev S4x64x4096 : Shape := ⟨3, ![4, 64, 4096]⟩
abbrev S1x64x4096 : Shape := ⟨3, ![1, 64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1536x4096, .f32⟩
  | .hbm, ⟨1, _⟩ => ⟨S1536x4096, .f32⟩
  | .hbm, ⟨2, _⟩ => ⟨S1536x4096, .f32⟩
  | .hbm, ⟨3, _⟩ => ⟨S4x1536x4096, .bf16⟩
  | .hbm, ⟨4, _⟩ => ⟨S1536x4096, .f32⟩
  | .hbm, ⟨5, _⟩ => ⟨S1536x4096, .f32⟩
  | .hbm, ⟨6, _⟩ => ⟨S1536x4096, .f32⟩
  | .hbm, ⟨7, _⟩ => ⟨S1536x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S4x64x4096, .bf16⟩
  | .local _ .vmem, ⟨7, _⟩ => ⟨S4x64x4096, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c23_i32 : BitVec 32 := 23#32
  let v1 : BitVec 32 := Scalar.maxsi c0_i32_0 v0
  let v2 : BitVec 32 := Scalar.minsi c23_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1536x4096 : Shape := ⟨2, ![1536, 4096]⟩
abbrev S4x1536x4096 : Shape := ⟨3, ![4, 1536, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1536x4096, .f32⟩
  | .hbm, ⟨1, _⟩ => ⟨S1536x4096, .f32⟩
  | .hbm, ⟨2, _⟩ => ⟨S1536x4096, .f32⟩
  | .hbm, ⟨3, _⟩ => ⟨S4x1536x4096, .bf16⟩
  | .hbm, ⟨4, _⟩ => ⟨S4x1536x4096, .f32⟩
  | .hbm, ⟨5, _⟩ => ⟨S_, .f32⟩
  | .hbm, ⟨6, _⟩ => ⟨S1536x4096, .f32⟩
  | .hbm, ⟨7, _⟩ => ⟨S_, .f32⟩
  | .hbm, ⟨8, _⟩ => ⟨S1536x4096, .f32⟩
  | .hbm, ⟨9, _⟩ => ⟨S1536x4096, .f32⟩
  | .hbm, ⟨10, _⟩ => ⟨S_, .f32⟩
  | .hbm, ⟨11, _⟩ => ⟨S1536x4096, .f32⟩
  | .hbm, ⟨12, _⟩ => ⟨S1536x4096, .f32⟩
  | .hbm, ⟨13, _⟩ => ⟨S1536x4096, .f32⟩
  | .hbm, ⟨14, _⟩ => ⟨S_, .f32⟩
  | .hbm, ⟨15, _⟩ => ⟨S1536x4096, .f32⟩
  | .hbm, ⟨16, _⟩ => ⟨S1536x4096, .f32⟩
  | .hbm, ⟨17, _⟩ => ⟨S1536x4096, .f32⟩
  | .hbm, ⟨18, _⟩ => ⟨S_, .f32⟩
  | .hbm, ⟨19, _⟩ => ⟨S1536x4096, .f32⟩
  | .hbm, ⟨20, _⟩ => ⟨S1536x4096, .f32⟩
  | .hbm, ⟨21, _⟩ => ⟨S1536x4096, .f32⟩
  | .hbm, ⟨22, _⟩ => ⟨S_, .f32⟩
  | .hbm, ⟨23, _⟩ => ⟨S1536x4096, .f32⟩
  | .hbm, ⟨24, _⟩ => ⟨S1536x4096, .f32⟩
  | .hbm, ⟨25, _⟩ => ⟨S_, .f32⟩
  | .hbm, ⟨26, _⟩ => ⟨S1536x4096, .f32⟩
  | .hbm, ⟨27, _⟩ => ⟨S1536x4096, .f32⟩
  | .hbm, ⟨28, _⟩ => ⟨S1536x4096, .f32⟩
  | .hbm, ⟨29, _⟩ => ⟨S_, .f32⟩
  | .hbm, ⟨30, _⟩ => ⟨S1536x4096, .f32⟩
  | .hbm, ⟨31, _⟩ => ⟨S1536x4096, .f32⟩
  | .hbm, ⟨32, _⟩ => ⟨S1536x4096, .f32⟩
  | .hbm, ⟨33, _⟩ => ⟨S_, .f32⟩
  | .hbm, ⟨34, _⟩ => ⟨S1536x4096, .f32⟩
  | .hbm, ⟨35, _⟩ => ⟨S1536x4096, .f32⟩
  | .hbm, ⟨36, _⟩ => ⟨S1536x4096, .f32⟩
  | .hbm, ⟨37, _⟩ => ⟨S_, .f32⟩
  | .hbm, ⟨38, _⟩ => ⟨S1536x4096, .f32⟩
  | .hbm, ⟨39, _⟩ => ⟨S1536x4096, .f32⟩
  | _, _ => ⟨S1536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamLru.lean ====
abbrev S512x256 : Shape := ⟨2, ![512, 256]⟩
abbrev S4x512x256 : Shape := ⟨3, ![4, 512, 256]⟩
abbrev S1x512x256 : Shape := ⟨3, ![1, 512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S4x512x256, .bf16⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S4x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLruRefIdeal.lean ====
abbrev S512x256 : Shape := ⟨2, ![512, 256]⟩
abbrev S4x512x256 : Shape := ⟨3, ![4, 512, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S4x512x256, .bf16⟩
  | .hbm, ⟨4, _⟩ => ⟨S4x512x256, .f32⟩
  | .hbm, ⟨5, _⟩ => ⟨S_, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S4096x3072 : Shape := ⟨2, ![4096, 3072]⟩
abbrev S4x2048x3072 : Shape := ⟨3, ![4, 2048, 3072]⟩
abbrev S64x3072 : Shape := ⟨2, ![64, 3072]⟩
abbrev S4x64x3072 : Shape := ⟨3, ![4, 64, 3072]⟩
abbrev S1x64x3072 : Shape := ⟨3, ![1, 64, 3072]⟩

abbrev nBuf : Space → Nat
  | .hbm => 9
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4x2048x3072, .bf16⟩
  | .hbm, ⟨4, _⟩ => ⟨S4x2048x3072, .bf16⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S4x64x3072, .bf16⟩
  | .local _ .vmem, ⟨7, _⟩ => ⟨S4x64x3072, .bf16⟩
  | .local _ .vmem, ⟨8, _⟩ => ⟨S4x64x3072, .bf16⟩
  | .local _ .vmem, ⟨9, _⟩ => ⟨S4x64x3072, .bf16⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | .local _ .vmem, ⟨14, _⟩ => ⟨S64x3072, .f32⟩
  | .local _ .vmem, ⟨15, _⟩ => ⟨S64x3072, .f32⟩
  | .local _ .vmem, ⟨16, _⟩ => ⟨S64x3072, .f32⟩
  | .local _ .vmem, ⟨17, _⟩ => ⟨S64x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  let c0_i32_2 : BitVec 32 := 0#32
  ![c0_i32_0.toNat, v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S4096x3072 : Shape := ⟨2, ![4096, 3072]⟩
abbrev S4x2048x3072 : Shape := ⟨3, ![4, 2048, 3072]⟩
abbrev S4x4096x3072 : Shape := ⟨3, ![4, 4096, 3072]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4x2048x3072, .bf16⟩
  | .hbm, ⟨4, _⟩ => ⟨S4x2048x3072, .bf16⟩
  | .hbm, ⟨5, _⟩ => ⟨S4x4096x3072, .bf16⟩
  | .hbm, ⟨6, _⟩ => ⟨S4x4096x3072, .f32⟩
  | .hbm, ⟨7, _⟩ => ⟨S_, .f32⟩
  | .hbm, ⟨8, _⟩ => ⟨S4096x3072, .f32⟩
  | .hbm, ⟨9, _⟩ => ⟨S_, .f32⟩
  | .hbm, ⟨10, _⟩ => ⟨S4096x3072, .f32⟩
  | .hbm, ⟨11, _⟩ => ⟨S4096x3072, .f32⟩
  | .hbm, ⟨12, _⟩ => ⟨S_, .f32⟩
  | .hbm, ⟨13, _⟩ => ⟨S4096x3072, .f32⟩
  | .hbm, ⟨14, _⟩ => ⟨S4096x3072, .f32⟩
  | .hbm, ⟨15, _⟩ => ⟨S4096x3072, .f32⟩
  | .hbm, ⟨16, _⟩ => ⟨S_, .f32⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S_, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== SmallModel.lean ====
abbrev S32x128 : Shape := ⟨2, ![32, 128]⟩
abbrev S1x32x128 : Shape := ⟨3, ![1, 32, 128]⟩

abbrev nBuf : Space → Nat
  | .hbm => 8
  | .vmem => 8
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S1x32x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S1x32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallModelRefIdeal.lean ====
abbrev S32x128 : Shape := ⟨2, ![32, 128]⟩
abbrev S1x32x128 : Shape := ⟨3, ![1, 32, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S1x32x128, .f32⟩
  | .hbm, ⟨4, _⟩ => ⟨S_, .f32⟩
  | .hbm, ⟨5, _⟩ => ⟨S32x128, .f32⟩
  | .hbm, ⟨6, _⟩ => ⟨S_, .f32⟩
  | .hbm, ⟨7, _⟩ => ⟨S32x128, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S32x128, .f32⟩
  | .hbm, ⟨19, _⟩ => ⟨S32x128, .f32⟩
  | .hbm, ⟨20, _⟩ => ⟨S32x128, .f32⟩
  | .hbm, ⟨21, _⟩ => ⟨S_, .f32⟩
  | .hbm, ⟨22, _⟩ => ⟨S32x128, .f32⟩
  | .hbm, ⟨23, _⟩ => ⟨S32x128, .f32⟩
  | .hbm, ⟨24, _⟩ => ⟨S_, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x128, .f32⟩
  | .hbm, ⟨32, _⟩ => ⟨S_, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S_, .f32⟩
  | .hbm, ⟨37, _⟩ => ⟨S32x128, .f32⟩
  | .hbm, ⟨38, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallHalf.lean ====
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S1x16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallHalfRefIdeal.lean ====
abbrev S16x128 : Shape := ⟨2, ![16, 128]⟩
abbrev S1x16x128 : Shape := ⟨3, ![1, 16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S1x16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallFfn.lean ====
abbrev S192x128 : Shape := ⟨2, ![192, 128]⟩
abbrev S1x192x128 : Shape := ⟨3, ![1, 192, 128]⟩

abbrev nBuf : Space → Nat
  | .hbm => 8
  | .vmem => 8
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S1x192x128, .f32⟩
  | .hbm, ⟨4, _⟩ => ⟨S192x128, .f32⟩
  | .hbm, ⟨5, _⟩ => ⟨S192x128, .f32⟩
  | .hbm, ⟨6, _⟩ => ⟨S192x128, .f32⟩
  | .hbm, ⟨7, _⟩ => ⟨S192x128, .f32⟩
  | .local _ .vmem, ⟨0, _⟩ => ⟨S192x128, .f32⟩
  | .local _ .vmem, ⟨1, _⟩ => ⟨S192x128, .f32⟩
  | .local _ .vmem, ⟨2, _⟩ => ⟨S192x128, .f32⟩
  | .local _ .vmem, ⟨3, _⟩ => ⟨S1x192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | _, _ => ⟨S192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallFfnRefIdeal.lean ====
abbrev S192x128 : Shape := ⟨2, ![192, 128]⟩
abbrev S1x192x128 : Shape := ⟨3, ![1, 192, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S192x128, .f32⟩
  | .hbm, ⟨1, _⟩ => ⟨S192x128, .f32⟩
  | .hbm, ⟨2, _⟩ => ⟨S192x128, .f32⟩
  | .hbm, ⟨3, _⟩ => ⟨S1x192x128, .f32⟩
  | .hbm, ⟨4, _⟩ => ⟨S_, .f32⟩
  | .hbm, ⟨5, _⟩ => ⟨S192x128, .f32⟩
  | .hbm, ⟨6, _⟩ => ⟨S_, .f32⟩
  | .hbm, ⟨7, _⟩ => ⟨S192x128, .f32⟩
  | .hbm, ⟨8, _⟩ => ⟨S192x128, .f32⟩
  | .hbm, ⟨9, _⟩ => ⟨S_, .f32⟩
  | .hbm, ⟨10, _⟩ => ⟨S192x128, .f32⟩
  | .hbm, ⟨11, _⟩ => ⟨S192x128, .f32⟩
  | .hbm, ⟨12, _⟩ => ⟨S192x128, .f32⟩
  | .hbm, ⟨13, _⟩ => ⟨S_, .f32⟩
  | .hbm, ⟨14, _⟩ => ⟨S192x128, .f32⟩
  | .hbm, ⟨15, _⟩ => ⟨S192x128, .f32⟩
  | .hbm, ⟨16, _⟩ => ⟨S192x128, .f32⟩
  | .hbm, ⟨17, _⟩ => ⟨S_, .f32⟩
  | .hbm, ⟨18, _⟩ => ⟨S192x128, .f32⟩
  | .hbm, ⟨19, _⟩ => ⟨S192x128, .f32⟩
  | .hbm, ⟨20, _⟩ => ⟨S192x128, .f32⟩
  | .hbm, ⟨21, _⟩ => ⟨S_, .f32⟩
  | .hbm, ⟨22, _⟩ => ⟨S192x128, .f32⟩
  | .hbm, ⟨23, _⟩ => ⟨S192x128, .f32⟩
  | .hbm, ⟨24, _⟩ => ⟨S_, .f32⟩
  | .hbm, ⟨25, _⟩ => ⟨S192x128, .f32⟩
  | .hbm, ⟨26, _⟩ => ⟨S192x128, .f32⟩
  | .hbm, ⟨27, _⟩ => ⟨S192x128, .f32⟩
  | .hbm, ⟨28, _⟩ => ⟨S_, .f32⟩
  | .hbm, ⟨29, _⟩ => ⟨S192x128, .f32⟩
  | .hbm, ⟨30, _⟩ => ⟨S192x128, .f32⟩
  | .hbm, ⟨31, _⟩ => ⟨S192x128, .f32⟩
  | .hbm, ⟨32, _⟩ => ⟨S_, .f32⟩
  | .hbm, ⟨33, _⟩ => ⟨S192x128, .f32⟩
  | .hbm, ⟨34, _⟩ => ⟨S192x128, .f32⟩
  | .hbm, ⟨35, _⟩ => ⟨S192x128, .f32⟩
  | .hbm, ⟨36, _⟩ => ⟨S_, .f32⟩
  | .hbm, ⟨37, _⟩ => ⟨S192x128, .f32⟩
  | .hbm, ⟨38, _⟩ => ⟨S192x128, .f32⟩
  | _, _ => ⟨S192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallMix.lean ====
abbrev S1024x128 : Shape := ⟨2, ![1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1x1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallMixRefIdeal.lean ====
abbrev S1024x128 : Shape := ⟨2, ![1024, 128]⟩
abbrev S1x1024x128 : Shape := ⟨3, ![1, 1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1x1024x128, .f32⟩
  | .hbm, ⟨4, _⟩ => ⟨S_, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallBias.lean ====
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S1x8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S1x8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallBiasRefIdeal.lean ====
abbrev S8x128 : Shape := ⟨2, ![8, 128]⟩
abbrev S1x8x128 : Shape := ⟨3, ![1, 8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S1x8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallTaps.lean ====
abbrev S72x128 : Shape := ⟨2, ![72, 128]⟩
abbrev S1x72x128 : Shape := ⟨3, ![1, 72, 128]⟩

abbrev nBuf : Space → Nat
  | .hbm => 8
  | .vmem => 8
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S1x72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S72x128, .f32⟩
  | .local _ .vmem, ⟨1, _⟩ => ⟨S72x128, .f32⟩
  | .local _ .vmem, ⟨2, _⟩ => ⟨S72x128, .f32⟩
  | .local _ .vmem, ⟨3, _⟩ => ⟨S1x72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | _, _ => ⟨S72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallTapsRefIdeal.lean ====
abbrev S72x128 : Shape := ⟨2, ![72, 128]⟩
abbrev S1x72x128 : Shape := ⟨3, ![1, 72, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S72x128, .f32⟩
  | .hbm, ⟨2, _⟩ => ⟨S72x128, .f32⟩
  | .hbm, ⟨3, _⟩ => ⟨S1x72x128, .f32⟩
  | .hbm, ⟨4, _⟩ => ⟨S_, .f32⟩
  | .hbm, ⟨5, _⟩ => ⟨S72x128, .f32⟩
  | .hbm, ⟨6, _⟩ => ⟨S_, .f32⟩
  | .hbm, ⟨7, _⟩ => ⟨S72x128, .f32⟩
  | .hbm, ⟨8, _⟩ => ⟨S72x128, .f32⟩
  | .hbm, ⟨9, _⟩ => ⟨S_, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S_, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S_, .f32⟩
  | .hbm, ⟨18, _⟩ => ⟨S72x128, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S72x128, .f32⟩
  | .hbm, ⟨26, _⟩ => ⟨S72x128, .f32⟩
  | .hbm, ⟨27, _⟩ => ⟨S72x128, .f32⟩
  | .hbm, ⟨28, _⟩ => ⟨S_, .f32⟩
  | .hbm, ⟨29, _⟩ => ⟨S72x128, .f32⟩
  | .hbm, ⟨30, _⟩ => ⟨S72x128, .f32⟩
  | .hbm, ⟨31, _⟩ => ⟨S72x128, .f32⟩
  | .hbm, ⟨32, _⟩ => ⟨S_, .f32⟩
  | .hbm, ⟨33, _⟩ => ⟨S72x128, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== SmallSum.lean ====
abbrev S8x2184x128 : Shape := ⟨3, ![8, 2184, 128]⟩
abbrev S2184x128 : Shape := ⟨2, ![2184, 128]⟩
abbrev S1x2184x128 : Shape := ⟨3, ![1, 2184, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2184x128, .f32⟩
  | .hbm, ⟨1, _⟩ => ⟨S2184x128, .f32⟩
  | .local _ .vmem, ⟨0, _⟩ => ⟨S8x2184x128, .f32⟩
  | .local _ .vmem, ⟨1, _⟩ => ⟨S2184x128, .f32⟩
  | _, _ => ⟨S8x2184x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SmallSumRefIdeal.lean ====
abbrev S8x2184x128 : Shape := ⟨3, ![8, 2184, 128]⟩
abbrev S_ : Shape := ⟨0, ![]⟩
abbrev S2184x128 : Shape := ⟨2, ![2184, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2184x128, .f32⟩
  | .hbm, ⟨1, _⟩ => ⟨S_, .f32⟩
  | .hbm, ⟨2, _⟩ => ⟨S2184x128, .f32⟩
  | _, _ => ⟨S8x2184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shared.Exchange.lean ====
/- Exchanges in which every semaphore is raised by one transfer and waited for once. A kernel of this kind is described by
   its semaphores, what each carries to the device that waits on it, and a list of what each device owes the others. A
   device's part is then a script: a nested promise that says, operation by operation, what the next one needs. -/
module

public import Idealize.ShloMosaic.Lib.Pipeline.Launch
public import Idealize.ShloMosaic.Lib.Pipeline.Kit
public import Idealize.ShloMosaic.Lib.Tactic

@[expose] public section

universe u

noncomputable section

namespace Cert.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

variable {nD : Nat} {τ : Topo} {sig : RefSig} {Val : EltTy → Type} {Λ : Idealize.SL.Sem.Labels}

/-- Two copies of the round bookkeeping: the grid's own and the exchange's. -/
abbrev Two (nD : Nat) (τ : Topo) (sig : RefSig) : Type := UR sig nD τ × UR sig nD τ

/-- The resources an exchange is proved with. -/
abbrev XM (nD : Nat) (τ : Topo) (sig : RefSig) (Val : EltTy → Type) : Type := MT nD τ sig Unit Val ℕ (Two nD τ sig) ℕ

/-- The grid's copy. -/
abbrev EG (nD : Nat) (τ : Topo) (sig : RefSig) (Val : EltTy → Type) : Emb (UR sig nD τ) (MT nD τ sig Unit Val ℕ (Two nD τ sig) ℕ) := embL
/-- The exchange's copy. -/
abbrev EX (nD : Nat) (τ : Topo) (sig : RefSig) (Val : EltTy → Type) : Emb (UR sig nD τ) (MT nD τ sig Unit Val ℕ (Two nD τ sig) ℕ) := embR

/-- The semaphores of an exchange: where each lies, how many units its one transfer brings, and how late it is waited for
    (a wait is for something earlier than everything the waiting device still owes). -/
structure Wires (sig : RefSig) (K : Type) where
  at_ : K → SemLoc sig
  inj : Function.Injective at_
  amt : K → ℕ
  amt_pos : ∀ k, 0 < amt k
  level : K → ℕ

section Plan

variable {K : Type} [Fintype K] [DecidableEq K] (W : Wires sig K)

/-- Semaphore `k` of device `c`. -/
def cell (ck : Dev nD × K) : GSem nD τ sig := ((ck.1.tc : Thread nD τ), W.at_ ck.2)

theorem cell_inj : Function.Injective (cell (nD := nD) (τ := τ) W) := by
  rintro ⟨c, k⟩ ⟨c', k'⟩ h
  have h1 : c = c' := by have := congrArg (fun g : GSem nD τ sig => g.1.1) h; exact this
  have h2 : W.at_ k = W.at_ k' := congrArg Prod.snd h
  rw [h1, W.inj h2]

/-- A function of the exchange's semaphores extended to all. -/
def onCells {β : Sort u} (f : Dev nD × K → β) (b : β) (g : GSem nD τ sig) : β :=
  open Classical in if h : ∃ ck, cell W ck = g then f h.choose else b

theorem onCells_cell {β : Sort u} (f : Dev nD × K → β) (b : β) (ck : Dev nD × K) : onCells (τ := τ) W f b (cell W ck) = f ck := by
  have h : ∃ ck', cell (τ := τ) W ck' = cell W ck := ⟨ck, rfl⟩
  unfold onCells
  rw [dif_pos h, cell_inj W h.choose_spec]

/-- The same for numbers. -/
def natOn (f : Dev nD × K → ℕ) (b : ℕ) (g : GSem nD τ sig) : ℕ :=
  open Classical in if h : ∃ ck, cell W ck = g then f h.choose else b

theorem natOn_cell (f : Dev nD × K → ℕ) (b : ℕ) (ck : Dev nD × K) : natOn (τ := τ) W f b (cell W ck) = f ck := by
  have h : ∃ ck', cell (τ := τ) W ck' = cell W ck := ⟨ck, rfl⟩
  unfold natOn
  rw [dif_pos h, cell_inj W h.choose_spec]

variable (Pay : Dev nD × K → sProp (XM nD τ sig Val))

/-- What is deposited at each semaphore: once, the units of its transfer, and with them its payload. -/
def sched : Rounds.Schedule (GSem nD τ sig) Unit (XM nD τ sig Val) where
  duties g r := open Classical in
    if r = 0 ∧ ∃ ck, cell W ck = g then {()} else ∅
  unitless _ := False
  amount g _ _ := natOn W (fun ck => W.amt ck.2) 1 g
  payload g _ _ := onCells W Pay iprop(emp) g
  amount_pos g _ _ _ := by
    unfold natOn
    split
    · exact W.amt_pos _
    · exact Nat.one_pos

instance sched_storable [∀ ck : Dev nD × K, BI.Storable (upEmb : UEmb _ (XM nD τ sig Val)) (Pay ck)] (g : GSem nD τ sig) (r : ℕ) (d : Unit) :
    BI.Storable (upEmb : UEmb _ (XM nD τ sig Val)) ((sched W Pay).payload g r d) := by
  show BI.Storable (upEmb : UEmb _ (XM nD τ sig Val)) (onCells W Pay iprop(emp) g)
  unfold onCells
  split <;> infer_instance

theorem duties_cell (ck : Dev nD × K) : (sched (τ := τ) W Pay).duties (cell W ck) 0 = {()} := by
  dsimp only [sched]; exact if_pos ⟨rfl, ck, rfl⟩
theorem duties_later (g : GSem nD τ sig) (r : ℕ) (hr : 1 ≤ r) : (sched W Pay).duties g r = ∅ := by
  dsimp only [sched]; exact if_neg fun h => by omega
theorem amount_cell (ck : Dev nD × K) (u : Unit) : (sched (τ := τ) W Pay).amount (cell W ck) 0 u = W.amt ck.2 :=
  natOn_cell W (fun ck => W.amt ck.2) 1 ck
theorem payload_cell (ck : Dev nD × K) (u : Unit) : (sched (τ := τ) W Pay).payload (cell W ck) 0 u = Pay ck :=
  onCells_cell W Pay iprop(emp) ck
theorem expect_cell (ck : Dev nD × K) : (sched (τ := τ) W Pay).expect (cell W ck) 0 = W.amt ck.2 := by
  unfold Schedule.expect Schedule.amountOf; rw [duties_cell, Finset.sum_singleton, amount_cell]
theorem rest_cell (ck : Dev nD × K) :
    bigSep ((sched (τ := τ) W Pay).duties (cell W ck) 0 \ ∅) (fun u => (sched W Pay).payload (cell W ck) 0 u) = Pay ck := by
  rw [Finset.sdiff_empty, duties_cell, bigSep_singleton, payload_cell]

/-! ### What is owed, and the order of waits -/

/-- The tally of a list of transfers owed: the head is the next to be paid. -/
def debt : List (Dev nD × K) → CellTallies nD τ sig Unit
  | [] => 0
  | x :: l => debt l + tallyAt (cell W x) () (W.amt x.2)

omit [Fintype K] [DecidableEq K] in
theorem debt_pos {l : List (Dev nD × K)} {g : GSem nD τ sig} {u : Unit} (h : 0 < debt W l g u) : ∃ x ∈ l, cell W x = g := by
  induction l with
  | nil => exact absurd h (Nat.lt_irrefl 0)
  | cons x l ih =>
    unfold debt at h
    rw [Pi.add_apply, Finsupp.add_apply, tallyAt_apply] at h
    by_cases hx : g = cell W x ∧ u = ()
    · exact ⟨x, List.mem_cons_self, hx.1.symm⟩
    · rw [if_neg hx, Nat.add_zero] at h
      obtain ⟨y, hy, e⟩ := ih h
      exact ⟨y, List.mem_cons_of_mem _ hy, e⟩

/-- Every TensorCore semaphore can be waited for. -/
def lvls (g : GSem nD τ sig) : Finset Unit := if g.1.2 = .tc then {()} else ∅
/-- How late each is waited for. -/
def lev (g : GSem nD τ sig) (_ : Unit) : ℕ := natOn (nD := nD) W (fun ck => W.level ck.2) 0 g

theorem lvls_ne (g : GSem nD τ sig) (h : g.1.2 ≠ .tc) : lvls g = ∅ := if_neg h
theorem lvls_cell (ck : Dev nD × K) : lvls (cell (τ := τ) W ck) = {()} := if_pos rfl

theorem mayWait (c : Dev nD) (k : K) (l : List (Dev nD × K)) (hl : ∀ x ∈ l, W.level k < W.level x.2) :
    (levAts lvls (lev W) : sProp (XM nD τ sig Val)) ⊢ MayWait (c.tc : Thread nD τ) (W.at_ k) () (debt W l) := by
  have hk : lev W (cell (τ := τ) W (c, k)) () = W.level k := natOn_cell W _ _ (c, k)
  refine MayOwe.of_cut (L := lvls) (lev := lev W) (W.level k) (fun p hp => ?_) (fun g u hg => ?_) (fun p hp => ?_) (fun g u hg => ?_)
  · rw [Finset.mem_singleton.mp hp]; exact (lvls_cell W (c, k)).symm ▸ Finset.mem_singleton_self _
  · obtain ⟨x, -, rfl⟩ := debt_pos W hg; rw [lvls_cell]; exact Finset.mem_singleton_self _
  · rw [Finset.mem_singleton.mp hp]; exact le_of_eq hk
  · obtain ⟨x, hx, rfl⟩ := debt_pos W hg
    rw [show lev W (cell (τ := τ) W x) u = W.level x.2 from natOn_cell W _ _ x]; exact hl x hx

/-! ### Scripts -/

variable (defs : Defs nD τ sig Val Λ) (𝒱 : Variants) (σ : K → Dev nD → Dev nD)

/-- The transfers of kinds `l` from device `c`: kind `k` raises the semaphore `k` of its partner `σ k c`. -/
abbrev due (c : Dev nD) (l : List K) : List (Dev nD × K) := l.map fun k => (σ k c, k)

/-- Device `c` owes the transfers of kinds `l`. -/
def owesAny (c : Dev nD) (l : List K) : sProp (XM nD τ sig Val) := iprop(∃ Ws : Waits sig Unit, owes (c.tc : Thread nD τ) (debt W (due σ c l)) Ws)

/-- Device `c` can perform `w`, paying the transfers `xs`, and go on with `R`. -/
def start (c : Dev nD) (w : TpuEff nD τ sig Val Λ .tc PUnit) (xs : List K) (R : sProp (XM nD τ sig Val)) : sProp (XM nD τ sig Val) :=
  iprop(∀ (Q : PUnit → sProp (XM nD τ sig Val)) (l : List K), owesAny W σ c (xs ++ l) -∗ ((owesAny W σ c l ∗ R) -∗ Q ⟨⟩)
    -∗ wp frame (wpE defs 𝒱 (c.tc : Thread nD τ) none) Set.univ (Prog.lift w) Q)

/-- Device `c` can wait for its semaphore `k` while it owes only later transfers, and go on with `R`. -/
def await (c : Dev nD) (k : K) (R : sProp (XM nD τ sig Val)) : sProp (XM nD τ sig Val) :=
  iprop(∀ (w : TpuEff nD τ sig Val Λ .tc PUnit) (Q : PUnit → sProp (XM nD τ sig Val)) (l : List K),
    ⌜(∀ Kk : PUnit → sProp (XM nD τ sig Val), wpE defs 𝒱 (c.tc : Thread nD τ) none Set.univ w Kk = waitSpec (c.tc : Thread nD τ) Set.univ (W.at_ k) (W.amt k) Kk)
      ∧ ∀ x ∈ l, W.level k < W.level x⌝
    -∗ owesAny W σ c l -∗ ((owesAny W σ c l ∗ R) -∗ Q ⟨⟩)
    -∗ wp frame (wpE defs 𝒱 (c.tc : Thread nD τ) none) Set.univ (Prog.lift w) Q)

/-- What every device knows: the semaphores' agreements, and the order of waits. -/
def know (κ : Dev nD × K → ℕ) : sProp (XM nD τ sig Val) :=
  iprop((bigSep Finset.univ fun ck : Dev nD × K => cellInv (EX nD τ sig Val) (sched W Pay) (κ ck) (cell W ck))
    ∗ (bigSep Finset.univ fun ck : Dev nD × K => reached (EX nD τ sig Val) (cell W ck) 0)
    ∗ levAts lvls (lev W))

instance know_persistent (κ : Dev nD × K → ℕ) : BI.Persistent (know W Pay κ) := by unfold know; infer_instance

/-- The right to raise semaphore `ck`. -/
def tok (ck : Dev nD × K) : sProp (XM nD τ sig Val) := dutyTok (EX nD τ sig Val) (cell W ck) 0 ()
/-- The right to wait for it. -/
def pos (ck : Dev nD × K) : sProp (XM nD τ sig Val) := atPos (EX nD τ sig Val) (cell W ck) 0 ∅ 0
/-- That it will be raised. -/
def credit (ck : Dev nD × K) : sProp (XM nD τ sig Val) := cred (tallyAt (cell W ck) () (W.amt ck.2))

theorem know_inv (κ : Dev nD × K → ℕ) (ck : Dev nD × K) :
    know W Pay κ ⊢ iprop(cellInv (EX nD τ sig Val) (sched W Pay) (κ ck) (cell W ck) ∗ reached (EX nD τ sig Val) (cell W ck) 0 ∗ levAts lvls (lev W)) := by
  have h₁ : (bigSep Finset.univ fun ck : Dev nD × K => cellInv (EX nD τ sig Val) (sched W Pay) (κ ck) (cell W ck))
      ⊢ cellInv (EX nD τ sig Val) (sched W Pay) (κ ck) (cell W ck) := bigSep_elim (Finset.mem_univ ck)
  have h₂ : (bigSep Finset.univ fun ck : Dev nD × K => (reached (EX nD τ sig Val) (cell W ck) 0 : sProp (XM nD τ sig Val)))
      ⊢ reached (EX nD τ sig Val) (cell W ck) 0 := bigSep_elim (Finset.mem_univ ck)
  unfold know
  iintro ⟨#HI, #HR, #HL⟩
  isplitr
  · iapply h₁; iexact HI
  isplitr
  · iapply h₂; iexact HR
  iexact HL

variable {sp sp' : Space} {s : Shape} {e : EltTy}

/-- A copy within device `c`. -/
theorem start_copy (κ : Dev nD × K → ℕ) (c : Dev nD) (k : K) {src : Memref sig .tc sp s e} {dst : Memref sig .tc sp' s e} {sem : SemLoc sig}
    {hsrc : src.view.WordExact} {hdst : dst.view.WordExact} {hsem : DmaTarget.Typed (nD := nD) (τ := τ) (p := .tc) sp sem (.here dst)}
    (hs : sem = W.at_ k) (hN : dst.view.amount sem = W.amt k)
    {q : PosShare TreeShare} {fs : Buf Val (src.view.loc (c.tc : Thread nD τ))} {fd : Buf Val (dst.view.loc (c.tc : Thread nD τ))}
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ Pay (c, k)) (R : sProp (XM nD τ sig Val)) :
    iprop(know W Pay κ ∗ (src.view.loc (c.tc : Thread nD τ) ↦[src.view.set]{q} fs) ∗ (dst.view.loc (c.tc : Thread nD τ) ↦[dst.view.set]{fullShare} fd)
        ∗ tok W (c, k) ∗ (credit W (c, k) -∗ R))
      ⊢ start W defs 𝒱 σ c (.enqueueDma src (.here dst) sem hsrc hdst hsem) [] R := by
  subst hs
  unfold start
  iintro ⟨#HK, Hs, Hd, Ht, HR⟩ %Q %l HO HQ
  ihave HK' := (know_inv W Pay κ (c, k)) $$ HK
  icases HK' with ⟨#HI, #Hr, -⟩
  iapply (Rounds.wp_copy_pointsTo 𝒱 (EX nD τ sig Val) (sched W Pay) (c.tc : Thread nD τ) none (κ := κ (c, k)) (r := 0) (d := ()) (fd := fd)
      (by rw [show (((c.tc : Thread nD τ), W.at_ k) : GSem nD τ sig) = cell W (c, k) from rfl, duties_cell]; exact Finset.mem_singleton_self _)
      () (W.amt k) hN (amount_cell W Pay (c, k) ()) (hpay.trans (Entails.of_eq (payload_cell W Pay (c, k) ()).symm))) $$ [Hs Hd Ht]
  · isplitr; · iexact HI
    isplitl [Hs]; · iexact Hs
    isplitl [Hd]; · iexact Hd
    isplitl [Ht]; · unfold tok; iexact Ht
    iexact Hr
  iintro Hc
  rw [wp_ret]; imodintro
  iapply HQ
  isplitl [HO]; · iexact HO
  iapply HR; unfold credit; iexact Hc

/-- A transfer from device `c` to device `c'`, the partner of the kind `k₂`: it raises semaphore `k₁` of `c` when the source has been read and
    semaphore `k₂` of `c'` when the destination is written. -/
theorem start_send (κ : Dev nD × K → ℕ) (c : Dev nD) {c' : Dev nD} (k₁ k₂ : K) (hc : c' = σ k₂ c) {src : Memref sig .tc sp s e} {dst : Memref sig .tc sp' s e} {sS sem : SemLoc sig}
    {hsc : dst.view.ref.isScScratch = false} {hsrc : src.view.WordExact} {hdst : dst.view.WordExact}
    {hsem : DmaTarget.Typed (nD := nD) (τ := τ) (p := .tc) sp sem (.remote (c'.tc : Thread nD τ) dst sS hsc)}
    (hs₁ : sS = W.at_ k₁) (hs₂ : sem = W.at_ k₂) (hN : dst.view.amount sem = W.amt k₂) (hN' : W.amt k₁ = W.amt k₂)
    {q : PosShare TreeShare} {fs : Buf Val (src.view.loc (c.tc : Thread nD τ))} {fd : Buf Val (dst.view.loc (c'.tc : Thread nD τ))}
    (hpay₁ : (src.view.loc (c.tc : Thread nD τ) ↦[src.view.set]{q} fs) ⊢ Pay (c, k₁))
    (hpay₂ : (dst.view.loc (c'.tc : Thread nD τ) ↦[dst.view.set]{fullShare} (dst.view.write Val fd (src.view.read Val fs) Finset.univ)) ⊢ Pay (c', k₂))
    (R : sProp (XM nD τ sig Val)) :
    iprop(know W Pay κ ∗ (src.view.loc (c.tc : Thread nD τ) ↦[src.view.set]{q} fs) ∗ (dst.view.loc (c'.tc : Thread nD τ) ↦[dst.view.set]{fullShare} fd)
        ∗ tok W (c, k₁) ∗ tok W (c', k₂) ∗ (credit W (c, k₁) -∗ R))
      ⊢ start W defs 𝒱 σ c (.enqueueDma src (.remote (c'.tc : Thread nD τ) dst sS hsc) sem hsrc hdst hsem) [k₂] R := by
  subst hc; subst hs₁; subst hs₂
  unfold start
  iintro ⟨#HK, Hs, Hd, Ht₁, Ht₂, HR⟩ %Q %l HO HQ
  ihave HK₁ := (know_inv W Pay κ (c, k₁)) $$ HK
  icases HK₁ with ⟨#HI₁, #Hr₁, -⟩
  ihave HK₂ := (know_inv W Pay κ ((σ k₂ c), k₂)) $$ HK
  icases HK₂ with ⟨#HI₂, #Hr₂, -⟩
  unfold owesAny
  icases HO with ⟨%Ws, HO⟩
  iapply (Rounds.wp_send_pointsTo 𝒱 (EX nD τ sig Val) (sched W Pay) (c.tc : Thread nD τ) none (κ₁ := κ (c, k₁)) (κ₂ := κ ((σ k₂ c), k₂))
      (r₁ := 0) (r₂ := 0) (d₁ := ()) (d₂ := ()) (fd := fd)
      (by rw [show (((c.tc : Thread nD τ), W.at_ k₁) : GSem nD τ sig) = cell W (c, k₁) from rfl, duties_cell]; exact Finset.mem_singleton_self _)
      (by rw [show ((((σ k₂ c).tc : Thread nD τ), W.at_ k₂) : GSem nD τ sig) = cell W ((σ k₂ c), k₂) from rfl, duties_cell]; exact Finset.mem_singleton_self _)
      () () (W.amt k₂) hN ((amount_cell W Pay (c, k₁) ()).trans hN') (amount_cell W Pay ((σ k₂ c), k₂) ()) (debt W (due σ c l)) rfl (W := Ws)
      (hpay₁.trans (Entails.of_eq (payload_cell W Pay (c, k₁) ()).symm)) (hpay₂.trans (Entails.of_eq (payload_cell W Pay ((σ k₂ c), k₂) ()).symm)))
    $$ [Hs Hd Ht₁ Ht₂ HO]
  · isplitr; · iexact HI₁
    isplitr; · iexact HI₂
    isplitl [Hs]; · iexact Hs
    isplitl [Hd]; · iexact Hd
    isplitl [HO]; · iexact HO
    isplitl [Ht₁]; · unfold tok; iexact Ht₁
    isplitr; · iexact Hr₁
    isplitl [Ht₂]; · unfold tok; iexact Ht₂
    iexact Hr₂
  iintro ⟨Hc, HO⟩
  rw [wp_ret]; imodintro
  iapply HQ
  isplitl [HO]; · iexists Ws; iexact HO
  iapply HR; unfold credit; rw [hN']; iexact Hc

/-- A wait: the payload comes, and the semaphore, no longer needed, is known to stand at zero. -/
theorem await_intro (κ : Dev nD × K → ℕ) (c : Dev nD) (k : K) (R : sProp (XM nD τ sig Val)) :
    iprop(know W Pay κ ∗ credit W (c, k) ∗ pos W (c, k) ∗ ((Pay (c, k) ∗ semVal (cell W (c, k)) 0) -∗ R)) ⊢ await W defs 𝒱 σ c k R := by
  unfold await
  iintro ⟨#HK, Hc, Hat, HR⟩ %w %Q %l %hw HO HQ
  ihave HK' := (know_inv W Pay κ (c, k)) $$ HK
  icases HK' with ⟨#HI, -, #HL⟩
  unfold owesAny
  icases HO with ⟨%Ws, HO⟩
  iapply (Rounds.wp_wait_rest_token 𝒱 (EX nD τ sig Val) (sched W Pay) (c.tc : Thread nD τ) none (κ := κ (c, k))
      hw.1 (Set.mem_univ _) () (O := debt W (due σ c l)) (W := Ws) (R := 0) (m := 0) (T := ∅)
      (by rw [Nat.zero_add]; exact (expect_cell W Pay (c, k)).symm)) $$ [Hc HO Hat]
  · isplitr; · iexact HI
    isplitl [Hc]; · unfold credit; iexact Hc
    isplitl [HO]; · iexact HO
    isplitr; · iapply (mayWait W c k (due σ c l) (fun x hx => by obtain ⟨k', hk', rfl⟩ := List.mem_map.mp hx; exact hw.2 k' hk')); iexact HL
    unfold pos; iexact Hat
  iintro ⟨HO, Hat, -, Hpay⟩
  have hrest : bigSep ((sched W Pay).duties ((c.tc : Thread nD τ), W.at_ k) 0 \ ∅) (fun u => (sched W Pay).payload ((c.tc : Thread nD τ), W.at_ k) 0 u) ⊢ Pay (c, k) :=
    Entails.of_eq (rest_cell W Pay (c, k))
  ihave Hp := hrest $$ Hpay
  rw [wp_ret]
  imod (Rounds.cell_close (EX nD τ sig Val) (sched W Pay) (Set.mem_univ (κ (c, k))) (fun h => h) (R := 0 + 1) (duties_later W Pay (cell W (c, k)))) $$ [Hat] with Hz
  · isplitr; · iexact HI
    iexact Hat
  imodintro
  iapply HQ
  isplitl [HO]; · iexists (insert (W.at_ k, ()) Ws); iexact HO
  iapply HR
  isplitl [Hp] <;> iassumption

/-! ### The start of an exchange -/

/-- All the exchange's semaphores. -/
def allCells : Finset (GSem nD τ sig) := Finset.univ.map ⟨cell (nD := nD) W, cell_inj W⟩
/-- All rights to raise them. -/
def allToks : Finset (GSem nD τ sig × ℕ × Unit) :=
  Finset.univ.map ⟨fun ck : Dev nD × K => (cell W ck, 0, ()), fun _ _ h => cell_inj W (congrArg Prod.fst h)⟩

/-- From all the semaphores at zero: every device's knowledge, and the rights to wait and to raise. -/
theorem exchange_start [∀ ck : Dev nD × K, BI.Storable (upEmb : UEmb _ (XM nD τ sig Val)) (Pay ck)] :
    iprop(levAts lvls (lev W) ∗ (bigSep Finset.univ fun c : Dev nD => Pipeline.ownSems0 (Ix := Unit) (Name := ℕ) (U := Two nD τ sig) (Lvl := ℕ) (Val := Val) (τ := τ) W.at_ c)
        ∗ BI.own (EX nD τ sig Val (initOf (allCells W) (allToks W))))
      ⊢ |={Set.univ}=> iprop((∃ κ, know W Pay κ) ∗ (bigSep Finset.univ fun ck : Dev nD × K => pos W ck)
          ∗ (bigSep Finset.univ fun ck : Dev nD × K => tok W ck) : sProp (XM nD τ sig Val)) := by
  have hX (Φ : GSem nD τ sig → sProp (XM nD τ sig Val)) : bigSep (allCells W) Φ = bigSep Finset.univ fun ck : Dev nD × K => Φ (cell W ck) := by
    unfold allCells; rw [bigSep_map]; rfl
  have hT : bigSep (allToks W) (fun x => (dutyTok (EX nD τ sig Val) x.1 x.2.1 x.2.2 : sProp (XM nD τ sig Val))) = bigSep Finset.univ fun ck : Dev nD × K => tok W ck := by
    unfold allToks; rw [bigSep_map]; rfl
  have hS : (bigSep Finset.univ fun c : Dev nD => Pipeline.ownSems0 (Ix := Unit) (Name := ℕ) (U := Two nD τ sig) (Lvl := ℕ) (Val := Val) (τ := τ) W.at_ c : sProp (XM nD τ sig Val))
      = bigSep Finset.univ fun ck : Dev nD × K => semVal (cell W ck) 0 := by
    rw [bigSep_univ_prod (fun ck : Dev nD × K => (semVal (cell W ck) 0 : sProp (XM nD τ sig Val)))]; rfl
  have hI : iprop((bigSep Finset.univ fun ck : Dev nD × K => semVal (cell W ck) 0) ∗ bigSep Finset.univ fun ck : Dev nD × K => roundState (EX nD τ sig Val) (sched W Pay) (cell W ck) 0)
      ⊢ (|={Set.univ}=> bigSep Finset.univ fun ck : Dev nD × K => iprop(∃ κ : ℕ, cellInv (EX nD τ sig Val) (sched W Pay) κ (cell W ck)) : sProp (XM nD τ sig Val)) := by
    rw [← bigSep_sep']
    exact (bigSep_mono fun ck _ => (Rounds.body_intro (EX nD τ sig Val) (sched W Pay) (cell W ck)).trans inv_alloc).trans (bigSep_fupd _ _)
  rw [hS]
  iintro ⟨#HL, Hv, HG⟩
  imod (Rounds.fund (EX nD τ sig Val) (sched W Pay) (allCells W) (allToks W)) $$ HG with ⟨Hst, Hr, Hat, Htok⟩
  ihave Hst' := (Entails.of_eq (hX fun g => roundState (EX nD τ sig Val) (sched W Pay) g 0)) $$ Hst
  ihave Hat' := (Entails.of_eq (hX fun g => atPos (EX nD τ sig Val) g 0 ∅ 0)) $$ Hat
  ihave Hr' := (Entails.of_eq (hX fun g => reached (EX nD τ sig Val) g 0)) $$ Hr
  ihave Htok' := (Entails.of_eq hT) $$ Htok
  imod hI $$ [Hv Hst'] with HI
  · isplitl [Hv] <;> iassumption
  ihave HK := (BI.bigSep_exists_pi Finset.univ (fun (ck : Dev nD × K) (κ : ℕ) => (cellInv (EX nD τ sig Val) (sched W Pay) κ (cell W ck) : sProp (XM nD τ sig Val)))) $$ HI
  icases HK with ⟨%κ, #HI⟩
  imodintro
  isplitl [Hr']
  · iexists κ; unfold know
    isplitr; · iexact HI
    isplitl [Hr']; · iexact Hr'
    iexact HL
  isplitl [Hat']; · unfold pos; iexact Hat'
  iexact Htok'

/-- The credit the devices' debts give device `c`, when every device owes each kind of a list once, and to each kind's
    own partner. -/
theorem launch_credit (σ' : K → Dev nD → Dev nD) (h₁ : ∀ k c, σ k (σ' k c) = c) (h₂ : ∀ k c, σ' k (σ k c) = c)
    (ks : List K) (c : Dev nD) :
    (launchCred (fun d => debt W (due σ d ks)) c : sProp (XM nD τ sig Val)) ⊢ bigSepL ks fun k => credit W (c, k) := by
  induction ks with
  | nil => exact Entails.of_eq (Pipeline.launchCred_zero c)
  | cons k ks ih =>
    have e : (launchCred (fun d => debt W (due σ d (k :: ks))) c : sProp (XM nD τ sig Val))
        = iprop(launchCred (fun d => debt W (due σ d ks)) c ∗ launchCred (fun d => tallyAt (((σ k d).tc : Thread nD τ), W.at_ k) () (W.amt k)) c) :=
      Pipeline.launchCred_add _ _ c
    have h : (launchCred (fun d => tallyAt (((σ k d).tc : Thread nD τ), W.at_ k) () (W.amt k)) c : sProp (XM nD τ sig Val)) ⊢ credit W (c, k) :=
      Pipeline.launchCred_tallyAt (W.at_ k) (σ k) (σ' k) (h₁ k) (h₂ k) () (W.amt k) c
    have hsep : iprop(launchCred (fun d => debt W (due σ d ks)) c ∗ launchCred (fun d => tallyAt (((σ k d).tc : Thread nD τ), W.at_ k) () (W.amt k)) c)
        ⊢ iprop(credit W (c, k) ∗ bigSepL ks fun k => (credit W (c, k) : sProp (XM nD τ sig Val))) := by
      iintro ⟨Hl, Hk⟩
      ihave Hl' := ih $$ Hl
      ihave Hk' := h $$ Hk
      isplitl [Hk'] <;> iassumption
    rw [e]
    rw [BI.bigSepL_cons]
    exact hsep

end Plan

end Cert.Shared
-- ==== Proof.Shared.Gather.lean ====
/- The all-gather of one array over eight devices on a cube, in three directions: each device sends its own block to its
   sibling and to the devices of its kind on the other three chips, and passes what those sent it on to its sibling. A
   device's part for one array is a script of twenty-three operations; several arrays are gathered by following their
   scripts side by side. -/
module

public import proofs.«01_k».proof.Proof.Shared.Exchange

@[expose] public section

noncomputable section

namespace Cert.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ### Who sends what to whom -/

/-- The device whose number differs in the bits of `b`. -/
def flipBits (b : ℕ) (c : Dev 8) : Dev 8 := ⟨(c.val ^^^ b) % 8, Nat.mod_lt _ (by decide)⟩

/-- The partner in transfer `k`: the sibling, the three other chips, and the sibling again for what is passed on. -/
def peer : Fin 7 → Dev 8 → Dev 8
  | 0 => flipBits 1 | 1 => flipBits 4 | 2 => flipBits 2 | 3 => flipBits 6 | 4 => flipBits 1 | 5 => flipBits 1 | 6 => flipBits 1

/-- The block device `c` sends in transfer `k`. -/
def blk : Fin 7 → Dev 8 → Dev 8
  | 0 => id | 1 => id | 2 => id | 3 => id | 4 => peer 1 | 5 => peer 2 | 6 => peer 3

theorem peer_peer : ∀ (k : Fin 7) (c : Dev 8), peer k (peer k c) = c := by decide +kernel

/-- The semaphores of one array: the seven transfers' two ends, and the local copy. -/
inductive Leg
  | send (k : Fin 7) | recv (k : Fin 7) | loc
deriving DecidableEq

/-- All of them. -/
def legs : List Leg :=
  [.send 0, .send 1, .send 2, .send 3, .send 4, .send 5, .send 6, .recv 0, .recv 1, .recv 2, .recv 3, .recv 4, .recv 5, .recv 6, .loc]

theorem legs_nodup : legs.Nodup := by decide
theorem mem_legs : ∀ l : Leg, l ∈ legs
  | .send k => by revert k; decide
  | .recv k => by revert k; decide
  | .loc => by decide

instance : Fintype Leg := ⟨⟨legs, legs_nodup⟩, mem_legs⟩

/-- The device whose semaphore a leg of device `c` raises. -/
def legDev : Leg → Dev 8 → Dev 8
  | .recv k, c => peer k c
  | .send _, c => c
  | .loc, c => c

theorem legDev_legDev (l : Leg) (c : Dev 8) : legDev l (legDev l c) = c := by
  cases l
  · rfl
  · exact peer_peer _ c
  · rfl

/-- The blocks of a device's result: its own, and the seven that arrive. -/
def blocks (c : Dev 8) : List (Dev 8) :=
  [c, blk 0 (peer 0 c), blk 1 (peer 1 c), blk 2 (peer 2 c), blk 3 (peer 3 c), blk 4 (peer 4 c), blk 5 (peer 5 c), blk 6 (peer 6 c)]
theorem blocks_nodup : ∀ c, (blocks c).Nodup := by decide +kernel
theorem mem_blocks : ∀ c d : Dev 8, d ∈ blocks c := by decide +kernel

/-- The five shares of a source read by five transfers. -/
def sh : Fin 5 → PosShare TreeShare
  | 0 => fullShare.left | 1 => fullShare.right.left | 2 => fullShare.right.right.left | 3 => fullShare.right.right.right.left
  | 4 => fullShare.right.right.right.right

variable {τ : Topo} {sig : RefSig} {Val : EltTy → Type} {Λ : Idealize.SL.Sem.Labels}
variable {A : Type} [Fintype A] [DecidableEq A]

/-- One array of a gather: the device's own block, the eight places of the result, and its semaphores. -/
structure Arr (W : Wires sig (A × Leg)) (a : A) where
  s : Shape
  e : EltTy
  src : Memref sig .tc .hbm s e
  slot : Dev 8 → Memref sig .tc .hbm s e
  hsrc : src.view.WordExact
  hslot : ∀ j, (slot j).view.WordExact
  hsc : ∀ j, (slot j).view.ref.isScScratch = false
  hdma : ∀ l, (W.at_ (a, l)).isDma = true
  amount : ∀ j l, (slot j).view.amount (W.at_ (a, l)) = W.amt (a, l)
  same : ∀ l l', W.amt (a, l) = W.amt (a, l')

section Thread

variable (W : Wires sig (A × Leg)) (arr : ∀ a, Arr W a) (m : (ℓ : Loc 8 τ sig) → Buf Val ℓ)

/-- Device `j`'s own block. -/
def block (a : A) (j : Dev 8) : (arr a).s.Idx → Val (arr a).e := (arr a).src.view.read Val (m ((arr a).src.view.loc (j.tc : Thread 8 τ)))

/-- A share of device `c`'s own block. -/
def srcSh (a : A) (c : Dev 8) (q : PosShare TreeShare) : sProp (XM 8 τ sig Val) :=
  iprop((arr a).src.view.loc (c.tc : Thread 8 τ) ↦[(arr a).src.view.set]{q} m ((arr a).src.view.loc (c.tc : Thread 8 τ)))

/-- Place `j` of device `c`'s result holds `f`. -/
def slotIs (a : A) (c j : Dev 8) (f : Buf Val (((arr a).slot j).view.loc (c.tc : Thread 8 τ))) : sProp (XM 8 τ sig Val) :=
  iprop(((arr a).slot j).view.loc (c.tc : Thread 8 τ) ↦[((arr a).slot j).view.set]{fullShare} f)

/-- It holds something. -/
def slotAny (a : A) (c j : Dev 8) : sProp (XM 8 τ sig Val) := iprop(∃ f, slotIs W arr a c j f)

/-- It holds device `j`'s block. -/
def full (a : A) (c j : Dev 8) : sProp (XM 8 τ sig Val) :=
  iprop(∃ f, ⌜((arr a).slot j).view.read Val f = block W arr m a j⌝ ∗ slotIs W arr a c j f)

/-- What each semaphore brings: an arrival the filled place, a departure what was read. -/
def payload : Dev 8 × (A × Leg) → sProp (XM 8 τ sig Val)
  | (c, (a, .loc)) => iprop(full W arr m a c c ∗ srcSh W arr m a c (sh 4))
  | (c, (a, .send 0)) => srcSh W arr m a c (sh 0)
  | (c, (a, .send 1)) => srcSh W arr m a c (sh 1)
  | (c, (a, .send 2)) => srcSh W arr m a c (sh 2)
  | (c, (a, .send 3)) => srcSh W arr m a c (sh 3)
  | (c, (a, .send 4)) => full W arr m a c (blk 4 c)
  | (c, (a, .send 5)) => full W arr m a c (blk 5 c)
  | (c, (a, .send 6)) => full W arr m a c (blk 6 c)
  | (c, (a, .recv k)) => full W arr m a c (blk k (peer k c))

instance srcSh_storable (a : A) (c : Dev 8) (q : PosShare TreeShare) : BI.Storable (upEmb : UEmb _ (XM 8 τ sig Val)) (srcSh W arr m a c q) := by
  unfold srcSh; infer_instance
instance full_storable (a : A) (c j : Dev 8) : BI.Storable (upEmb : UEmb _ (XM 8 τ sig Val)) (full W arr m a c j) := by
  unfold full slotIs; infer_instance

instance payload_storable (ck : Dev 8 × (A × Leg)) : BI.Storable (upEmb : UEmb _ (XM 8 τ sig Val)) (payload W arr m ck) := by
  obtain ⟨c, a, l⟩ := ck
  unfold payload
  split <;> infer_instance

variable (defs : Defs 8 τ sig Val Λ) (𝒱 : Variants)

/-- The partner of each kind of transfer. -/
def partner (k : A × Leg) (c : Dev 8) : Dev 8 := legDev k.2 c

/-- The local copy. -/
def copyOp (a : A) (c : Dev 8) : TpuEff 8 τ sig Val Λ .tc PUnit :=
  .enqueueDma (arr a).src (.here ((arr a).slot c)) (W.at_ (a, .loc)) (arr a).hsrc ((arr a).hslot c)
    ⟨Or.inl ((arr a).hdma _), trivial⟩

/-- The first sends, of the device's own block. -/
def sendOp (a : A) (c : Dev 8) (k : Fin 7) : TpuEff 8 τ sig Val Λ .tc PUnit :=
  .enqueueDma (arr a).src (.remote ((peer k c).tc : Thread 8 τ) ((arr a).slot c) (W.at_ (a, .send k)) ((arr a).hsc c)) (W.at_ (a, .recv k))
    (arr a).hsrc ((arr a).hslot c)
    ⟨⟨((arr a).hdma _).trans ((arr a).hdma _).symm, Or.inl ((arr a).hdma _)⟩, trivial⟩

/-- The passing on of a block that came. -/
def passOp (a : A) (c : Dev 8) (k : Fin 7) : TpuEff 8 τ sig Val Λ .tc PUnit :=
  .enqueueDma ((arr a).slot (blk k c)) (.remote ((peer k c).tc : Thread 8 τ) ((arr a).slot (blk k c)) (W.at_ (a, .send k)) ((arr a).hsc (blk k c)))
    (W.at_ (a, .recv k)) ((arr a).hslot _) ((arr a).hslot _)
    ⟨⟨((arr a).hdma _).trans ((arr a).hdma _).symm, Or.inl ((arr a).hdma _)⟩, trivial⟩

variable (κ : Dev 8 × (A × Leg) → ℕ)

theorem full_of_write (a : A) (d j : Dev 8) (fd : Buf Val (((arr a).slot j).view.loc (d.tc : Thread 8 τ))) (w : (arr a).s.Idx → Val (arr a).e)
    (hw : w = block W arr m a j) :
    (((arr a).slot j).view.loc (d.tc : Thread 8 τ) ↦[((arr a).slot j).view.set]{fullShare} (((arr a).slot j).view.write Val fd w Finset.univ))
      ⊢ (full W arr m a d j : sProp (XM 8 τ sig Val)) := by
  unfold full slotIs
  iintro H
  iexists (((arr a).slot j).view.write Val fd w Finset.univ)
  isplitr
  · ipureintro; exact (View.read_write_univ _ _).trans hw
  iexact H

theorem copy_step (a : A) (c : Dev 8) (R : sProp (XM 8 τ sig Val)) :
    iprop(know W (payload W arr m) κ ∗ srcSh W arr m a c (sh 4) ∗ slotAny W arr a c c ∗ tok W (c, (a, Leg.loc)) ∗ (credit W (c, (a, Leg.loc)) -∗ R))
      ⊢ start W defs 𝒱 partner c (copyOp W arr a c) [] R := by
  have h (fd : Buf Val (((arr a).slot c).view.loc (c.tc : Thread 8 τ))) := start_copy W (payload W arr m) defs 𝒱 partner κ c (a, Leg.loc) (src := (arr a).src) (dst := (arr a).slot c)
    (hsrc := (arr a).hsrc) (hdst := (arr a).hslot c) (hsem := ⟨Or.inl ((arr a).hdma _), trivial⟩) rfl ((arr a).amount c Leg.loc) (q := sh 4)
    (fs := m ((arr a).src.view.loc (c.tc : Thread 8 τ))) (fd := fd)
    (by
      show _ ⊢ iprop(full W arr m a c c ∗ srcSh W arr m a c (sh 4))
      iintro ⟨Hd, Hs⟩
      ihave Hf := (full_of_write W arr m a c c fd ((arr a).src.view.read Val (m ((arr a).src.view.loc (c.tc : Thread 8 τ)))) rfl) $$ Hd
      isplitl [Hf]; · iexact Hf
      unfold srcSh; iexact Hs) R
  unfold slotAny srcSh slotIs
  iintro ⟨HK, Hs, ⟨%fd, Hd⟩, Ht, HR⟩
  iapply (h fd)
  isplitl [HK]; · iexact HK
  isplitl [Hs]; · iexact Hs
  isplitl [Hd]; · iexact Hd
  isplitl [Ht] <;> iassumption

theorem send_step (a : A) (c : Dev 8) (k : Fin 7) (q : PosShare TreeShare) (hb : blk k c = c) (hp : payload W arr m (c, (a, .send k)) = srcSh W arr m a c q)
    (R : sProp (XM 8 τ sig Val)) :
    iprop(know W (payload W arr m) κ ∗ srcSh W arr m a c q ∗ slotAny W arr a (peer k c) c ∗ tok W (c, (a, Leg.send k)) ∗ tok W (peer k c, (a, Leg.recv k))
        ∗ (credit W (c, (a, Leg.send k)) -∗ R))
      ⊢ start W defs 𝒱 partner c (sendOp W arr a c k) [(a, .recv k)] R := by
  have h (fd : Buf Val (((arr a).slot c).view.loc ((peer k c).tc : Thread 8 τ))) := start_send W (payload W arr m) defs 𝒱 partner κ c (c' := peer k c) (a, Leg.send k) (a, Leg.recv k) rfl
    (src := (arr a).src) (dst := (arr a).slot c) (hsc := (arr a).hsc c) (hsrc := (arr a).hsrc) (hdst := (arr a).hslot c)
    (hsem := ⟨⟨((arr a).hdma _).trans ((arr a).hdma _).symm, Or.inl ((arr a).hdma _)⟩, trivial⟩) rfl rfl
    ((arr a).amount c (.recv k)) ((arr a).same _ _) (q := q) (fs := m ((arr a).src.view.loc (c.tc : Thread 8 τ))) (fd := fd)
    (by rw [hp]; exact Entails.of_eq rfl)
    (by
      refine (full_of_write W arr m a (peer k c) c fd _ rfl).trans (Entails.of_eq ?_)
      show _ = full W arr m a (peer k c) (blk k (peer k (peer k c)))
      rw [peer_peer, hb]) R
  unfold slotAny srcSh slotIs
  iintro ⟨HK, Hs, ⟨%fd, Hd⟩, Ht, Ht', HR⟩
  iapply (h fd)
  isplitl [HK]; · iexact HK
  isplitl [Hs]; · iexact Hs
  isplitl [Hd]; · iexact Hd
  isplitl [Ht]; · iexact Ht
  isplitl [Ht'] <;> iassumption

theorem pass_step (a : A) (c : Dev 8) (k : Fin 7) (hp : payload W arr m (c, (a, .send k)) = full W arr m a c (blk k c))
    (R : sProp (XM 8 τ sig Val)) :
    iprop(know W (payload W arr m) κ ∗ full W arr m a c (blk k c) ∗ slotAny W arr a (peer k c) (blk k c) ∗ tok W (c, (a, Leg.send k)) ∗ tok W (peer k c, (a, Leg.recv k))
        ∗ (credit W (c, (a, Leg.send k)) -∗ R))
      ⊢ start W defs 𝒱 partner c (passOp W arr a c k) [(a, .recv k)] R := by
  have h (fs : Buf Val (((arr a).slot (blk k c)).view.loc (c.tc : Thread 8 τ))) (hfs : ((arr a).slot (blk k c)).view.read Val fs = block W arr m a (blk k c))
      (fd : Buf Val (((arr a).slot (blk k c)).view.loc ((peer k c).tc : Thread 8 τ))) := start_send W (payload W arr m) defs 𝒱 partner κ c (c' := peer k c) (a, Leg.send k) (a, Leg.recv k) rfl
    (src := (arr a).slot (blk k c)) (dst := (arr a).slot (blk k c)) (hsc := (arr a).hsc _) (hsrc := (arr a).hslot _) (hdst := (arr a).hslot _)
    (hsem := ⟨⟨((arr a).hdma _).trans ((arr a).hdma _).symm, Or.inl ((arr a).hdma _)⟩, trivial⟩) rfl rfl
    ((arr a).amount _ (.recv k)) ((arr a).same _ _) (q := fullShare) (fs := fs) (fd := fd)
    (by
      rw [hp]; unfold full slotIs
      iintro H
      iexists fs
      isplitr; · ipureintro; exact hfs
      iexact H)
    (by
      refine (full_of_write W arr m a (peer k c) (blk k c) fd _ hfs).trans (Entails.of_eq ?_)
      show _ = full W arr m a (peer k c) (blk k (peer k (peer k c)))
      rw [peer_peer]) R
  unfold slotAny full slotIs
  iintro ⟨HK, ⟨%fs, %hfs, Hs⟩, ⟨%fd, Hd⟩, Ht, Ht', HR⟩
  iapply (h fs hfs fd)
  isplitl [HK]; · iexact HK
  isplitl [Hs]; · iexact Hs
  isplitl [Hd]; · iexact Hd
  isplitl [Ht]; · iexact Ht
  isplitl [Ht'] <;> iassumption

theorem wait_step (a : A) (c : Dev 8) (l : Leg) (P R : sProp (XM 8 τ sig Val)) (hP : payload W arr m (c, (a, l)) = P) :
    iprop(know W (payload W arr m) κ ∗ credit W (c, (a, l)) ∗ pos W (c, (a, l)) ∗ ((P ∗ semVal (cell W (c, (a, l))) 0) -∗ R))
      ⊢ await W defs 𝒱 partner c (a, l) R := by
  subst hP; exact await_intro W (payload W arr m) defs 𝒱 partner κ c (a, l) R

/-- The places a device fills on its partners. -/
def places (a : A) (c : Dev 8) : sProp (XM 8 τ sig Val) :=
  iprop(slotAny W arr a (peer 0 c) (blk 0 c) ∗ slotAny W arr a (peer 1 c) (blk 1 c) ∗ slotAny W arr a (peer 2 c) (blk 2 c) ∗ slotAny W arr a (peer 3 c) (blk 3 c) ∗ slotAny W arr a (peer 4 c) (blk 4 c) ∗ slotAny W arr a (peer 5 c) (blk 5 c) ∗ slotAny W arr a (peer 6 c) (blk 6 c))
/-- Its rights to wait. -/
def waits (a : A) (c : Dev 8) : sProp (XM 8 τ sig Val) :=
  iprop(pos W (c, (a, Leg.send 0)) ∗ pos W (c, (a, Leg.send 1)) ∗ pos W (c, (a, Leg.send 2)) ∗ pos W (c, (a, Leg.send 3)) ∗ pos W (c, (a, Leg.send 4)) ∗ pos W (c, (a, Leg.send 5)) ∗ pos W (c, (a, Leg.send 6))
    ∗ pos W (c, (a, Leg.recv 0)) ∗ pos W (c, (a, Leg.recv 1)) ∗ pos W (c, (a, Leg.recv 2)) ∗ pos W (c, (a, Leg.recv 3)) ∗ pos W (c, (a, Leg.recv 4)) ∗ pos W (c, (a, Leg.recv 5)) ∗ pos W (c, (a, Leg.recv 6)) ∗ pos W (c, (a, Leg.loc)))
/-- Its rights to raise. -/
def raises (a : A) (c : Dev 8) : sProp (XM 8 τ sig Val) :=
  iprop(tok W (c, (a, Leg.send 0)) ∗ tok W (c, (a, Leg.send 1)) ∗ tok W (c, (a, Leg.send 2)) ∗ tok W (c, (a, Leg.send 3)) ∗ tok W (c, (a, Leg.send 4)) ∗ tok W (c, (a, Leg.send 5)) ∗ tok W (c, (a, Leg.send 6))
    ∗ tok W (peer 0 c, (a, Leg.recv 0)) ∗ tok W (peer 1 c, (a, Leg.recv 1)) ∗ tok W (peer 2 c, (a, Leg.recv 2)) ∗ tok W (peer 3 c, (a, Leg.recv 3)) ∗ tok W (peer 4 c, (a, Leg.recv 4)) ∗ tok W (peer 5 c, (a, Leg.recv 5)) ∗ tok W (peer 6 c, (a, Leg.recv 6)) ∗ tok W (c, (a, Leg.loc)))
/-- That its arrivals will come. -/
def comes (a : A) (c : Dev 8) : sProp (XM 8 τ sig Val) :=
  iprop(credit W (c, (a, Leg.recv 0)) ∗ credit W (c, (a, Leg.recv 1)) ∗ credit W (c, (a, Leg.recv 2)) ∗ credit W (c, (a, Leg.recv 3)) ∗ credit W (c, (a, Leg.recv 4)) ∗ credit W (c, (a, Leg.recv 5)) ∗ credit W (c, (a, Leg.recv 6)))
/-- Its semaphores at zero. -/
def zeros (a : A) (c : Dev 8) : sProp (XM 8 τ sig Val) :=
  iprop(semVal (cell W (c, (a, Leg.send 0))) 0 ∗ semVal (cell W (c, (a, Leg.send 1))) 0 ∗ semVal (cell W (c, (a, Leg.send 2))) 0 ∗ semVal (cell W (c, (a, Leg.send 3))) 0 ∗ semVal (cell W (c, (a, Leg.send 4))) 0 ∗ semVal (cell W (c, (a, Leg.send 5))) 0 ∗ semVal (cell W (c, (a, Leg.send 6))) 0
    ∗ semVal (cell W (c, (a, Leg.recv 0))) 0 ∗ semVal (cell W (c, (a, Leg.recv 1))) 0 ∗ semVal (cell W (c, (a, Leg.recv 2))) 0 ∗ semVal (cell W (c, (a, Leg.recv 3))) 0 ∗ semVal (cell W (c, (a, Leg.recv 4))) 0 ∗ semVal (cell W (c, (a, Leg.recv 5))) 0 ∗ semVal (cell W (c, (a, Leg.recv 6))) 0 ∗ semVal (cell W (c, (a, Leg.loc))) 0)

/-- What a device starts an array with. -/
def init (a : A) (c : Dev 8) : sProp (XM 8 τ sig Val) :=
  iprop(srcSh W arr m a c fullShare ∗ slotAny W arr a c c ∗ places W arr a c ∗ waits W a c ∗ raises W a c ∗ comes W a c)

/-- What it ends with. -/
def final (a : A) (c : Dev 8) : sProp (XM 8 τ sig Val) :=
  iprop((bigSep Finset.univ fun j => full W arr m a c j) ∗ srcSh W arr m a c fullShare
    ∗ zeros W a c)

/-- The script from the waits for departures on. -/
def tail (a : A) (c : Dev 8) : sProp (XM 8 τ sig Val) :=
  await W defs 𝒱 partner c (a, .recv 0) <| await W defs 𝒱 partner c (a, .recv 4) <| await W defs 𝒱 partner c (a, .recv 5) <| await W defs 𝒱 partner c (a, .recv 6) <|
  await W defs 𝒱 partner c (a, .send 0) <| await W defs 𝒱 partner c (a, .send 1) <| await W defs 𝒱 partner c (a, .send 2) <| await W defs 𝒱 partner c (a, .send 3) <|
  await W defs 𝒱 partner c (a, .send 4) <| await W defs 𝒱 partner c (a, .send 5) <| await W defs 𝒱 partner c (a, .send 6) <|
  await W defs 𝒱 partner c (a, .loc) (final W arr m a c)

/-- The whole script. -/
def script (a : A) (c : Dev 8) : sProp (XM 8 τ sig Val) :=
  start W defs 𝒱 partner c (copyOp W arr a c) [] <|
  start W defs 𝒱 partner c (sendOp W arr a c 0) [(a, .recv 0)] <|
  start W defs 𝒱 partner c (sendOp W arr a c 1) [(a, .recv 1)] <|
  start W defs 𝒱 partner c (sendOp W arr a c 2) [(a, .recv 2)] <|
  start W defs 𝒱 partner c (sendOp W arr a c 3) [(a, .recv 3)] <|
  await W defs 𝒱 partner c (a, .recv 1) <| start W defs 𝒱 partner c (passOp W arr a c 4) [(a, .recv 4)] <|
  await W defs 𝒱 partner c (a, .recv 2) <| start W defs 𝒱 partner c (passOp W arr a c 5) [(a, .recv 5)] <|
  await W defs 𝒱 partner c (a, .recv 3) <| start W defs 𝒱 partner c (passOp W arr a c 6) [(a, .recv 6)] <|
  tail W arr m defs 𝒱 a c

theorem src_split (a : A) (c : Dev 8) : srcSh W arr m a c fullShare
    ⊣⊢ iprop(srcSh W arr m a c (sh 0) ∗ srcSh W arr m a c (sh 1) ∗ srcSh W arr m a c (sh 2) ∗ srcSh W arr m a c (sh 3) ∗ srcSh W arr m a c (sh 4)) := by
  have h (q : PosShare TreeShare) : srcSh W arr m a c q ⊣⊢ iprop(srcSh W arr m a c q.left ∗ srcSh W arr m a c q.right) :=
    pointsTo_share (PosShare.mem_left_op_right q)
  constructor
  · iintro H
    ihave H := (h fullShare).1 $$ H
    icases H with ⟨H0, H⟩
    ihave H := (h fullShare.right).1 $$ H
    icases H with ⟨H1, H⟩
    ihave H := (h fullShare.right.right).1 $$ H
    icases H with ⟨H2, H⟩
    ihave H := (h fullShare.right.right.right).1 $$ H
    icases H with ⟨H3, H4⟩
    isplitl [H0]; · iexact H0
    isplitl [H1]; · iexact H1
    isplitl [H2]; · iexact H2
    isplitl [H3]; · iexact H3
    iexact H4
  · iintro ⟨H0, H1, H2, H3, H4⟩
    iapply (h fullShare).2
    isplitl [H0]; · iexact H0
    iapply (h fullShare.right).2
    isplitl [H1]; · iexact H1
    iapply (h fullShare.right.right).2
    isplitl [H2]; · iexact H2
    iapply (h fullShare.right.right.right).2
    isplitl [H3]; · iexact H3
    iexact H4

theorem fulls (a : A) (c : Dev 8) : iprop(full W arr m a c c ∗ full W arr m a c (blk 0 (peer 0 c)) ∗ full W arr m a c (blk 1 (peer 1 c)) ∗ full W arr m a c (blk 2 (peer 2 c)) ∗ full W arr m a c (blk 3 (peer 3 c)) ∗ full W arr m a c (blk 4 (peer 4 c)) ∗ full W arr m a c (blk 5 (peer 5 c)) ∗ full W arr m a c (blk 6 (peer 6 c)))
    ⊢ bigSep Finset.univ fun j => full W arr m a c j := by
  rw [BI.bigSep_eq_bigSepL_of_eq (blocks c) (show Finset.univ = (blocks c).toFinset from Finset.ext fun d => by simp [mem_blocks c d]) (blocks_nodup c)]
  unfold blocks
  have h (x₀ x₁ x₂ x₃ x₄ x₅ x₆ x₇ : Dev 8) : bigSepL [x₀, x₁, x₂, x₃, x₄, x₅, x₆, x₇] (fun j => full W arr m a c j)
      = iprop(full W arr m a c x₀ ∗ full W arr m a c x₁ ∗ full W arr m a c x₂ ∗ full W arr m a c x₃ ∗ full W arr m a c x₄ ∗ full W arr m a c x₅
          ∗ full W arr m a c x₆ ∗ full W arr m a c x₇ ∗ emp) := by
    simp only [BI.bigSepL_cons, BI.bigSepL_nil]; rfl
  rw [h]
  iintro ⟨F, F0, F1, F2, F3, F4, F5, F6⟩
  isplitl [F]; · iexact F
  isplitl [F0]; · iexact F0
  isplitl [F1]; · iexact F1
  isplitl [F2]; · iexact F2
  isplitl [F3]; · iexact F3
  isplitl [F4]; · iexact F4
  isplitl [F5]; · iexact F5
  isplitl [F6]; · iexact F6
  iempintro

theorem thread (a : A) (c : Dev 8) : iprop(know W (payload W arr m) κ ∗ init W arr m a c) ⊢ script W arr m defs 𝒱 a c := by
  unfold init places waits raises comes
  iintro ⟨#HK, Hsrc, Hown, ⟨D0, D1, D2, D3, D4, D5, D6⟩, ⟨A0, A1, A2, A3, A4, A5, A6, B0, B1, B2, B3, B4, B5, B6, L⟩,
    ⟨T0, T1, T2, T3, T4, T5, T6, U0, U1, U2, U3, U4, U5, U6, TL⟩, ⟨C0, C1, C2, C3, C4, C5, C6⟩⟩
  ihave Hsrc := (src_split W arr m a c).1 $$ Hsrc
  icases Hsrc with ⟨Q0, Q1, Q2, Q3, Q4⟩
  unfold script
  iapply (copy_step W arr m defs 𝒱 κ a c) $$ [-]
  isplitr; · iexact HK
  isplitl [Q4]; · iexact Q4
  isplitl [Hown]; · iexact Hown
  isplitl [TL]; · iexact TL
  iintro CL
  iapply (send_step W arr m defs 𝒱 κ a c 0 (sh 0) rfl rfl) $$ [-]
  isplitr; · iexact HK
  isplitl [Q0]; · iexact Q0
  isplitl [D0]; · iexact D0
  isplitl [T0]; · iexact T0
  isplitl [U0]; · iexact U0
  iintro E0
  iapply (send_step W arr m defs 𝒱 κ a c 1 (sh 1) rfl rfl) $$ [-]
  isplitr; · iexact HK
  isplitl [Q1]; · iexact Q1
  isplitl [D1]; · iexact D1
  isplitl [T1]; · iexact T1
  isplitl [U1]; · iexact U1
  iintro E1
  iapply (send_step W arr m defs 𝒱 κ a c 2 (sh 2) rfl rfl) $$ [-]
  isplitr; · iexact HK
  isplitl [Q2]; · iexact Q2
  isplitl [D2]; · iexact D2
  isplitl [T2]; · iexact T2
  isplitl [U2]; · iexact U2
  iintro E2
  iapply (send_step W arr m defs 𝒱 κ a c 3 (sh 3) rfl rfl) $$ [-]
  isplitr; · iexact HK
  isplitl [Q3]; · iexact Q3
  isplitl [D3]; · iexact D3
  isplitl [T3]; · iexact T3
  isplitl [U3]; · iexact U3
  iintro E3
  iapply (wait_step W arr m defs 𝒱 κ a c (.recv 1) (full W arr m a c (blk 4 c)) _ rfl) $$ [-]
  isplitr; · iexact HK
  isplitl [C1]; · iexact C1
  isplitl [B1]; · iexact B1
  iintro ⟨F1, ZB1⟩
  iapply (pass_step W arr m defs 𝒱 κ a c 4 rfl) $$ [-]
  isplitr; · iexact HK
  isplitl [F1]; · iexact F1
  isplitl [D4]; · iexact D4
  isplitl [T4]; · iexact T4
  isplitl [U4]; · iexact U4
  iintro E4
  iapply (wait_step W arr m defs 𝒱 κ a c (.recv 2) (full W arr m a c (blk 5 c)) _ rfl) $$ [-]
  isplitr; · iexact HK
  isplitl [C2]; · iexact C2
  isplitl [B2]; · iexact B2
  iintro ⟨F2, ZB2⟩
  iapply (pass_step W arr m defs 𝒱 κ a c 5 rfl) $$ [-]
  isplitr; · iexact HK
  isplitl [F2]; · iexact F2
  isplitl [D5]; · iexact D5
  isplitl [T5]; · iexact T5
  isplitl [U5]; · iexact U5
  iintro E5
  iapply (wait_step W arr m defs 𝒱 κ a c (.recv 3) (full W arr m a c (blk 6 c)) _ rfl) $$ [-]
  isplitr; · iexact HK
  isplitl [C3]; · iexact C3
  isplitl [B3]; · iexact B3
  iintro ⟨F3, ZB3⟩
  iapply (pass_step W arr m defs 𝒱 κ a c 6 rfl) $$ [-]
  isplitr; · iexact HK
  isplitl [F3]; · iexact F3
  isplitl [D6]; · iexact D6
  isplitl [T6]; · iexact T6
  isplitl [U6]; · iexact U6
  iintro E6
  unfold tail
  iapply (wait_step W arr m defs 𝒱 κ a c (.recv 0) (full W arr m a c (blk 0 (peer 0 c))) _ rfl) $$ [-]
  isplitr; · iexact HK
  isplitl [C0]; · iexact C0
  isplitl [B0]; · iexact B0
  iintro ⟨F0, ZB0⟩
  iapply (wait_step W arr m defs 𝒱 κ a c (.recv 4) (full W arr m a c (blk 4 (peer 4 c))) _ rfl) $$ [-]
  isplitr; · iexact HK
  isplitl [C4]; · iexact C4
  isplitl [B4]; · iexact B4
  iintro ⟨F4, ZB4⟩
  iapply (wait_step W arr m defs 𝒱 κ a c (.recv 5) (full W arr m a c (blk 5 (peer 5 c))) _ rfl) $$ [-]
  isplitr; · iexact HK
  isplitl [C5]; · iexact C5
  isplitl [B5]; · iexact B5
  iintro ⟨F5, ZB5⟩
  iapply (wait_step W arr m defs 𝒱 κ a c (.recv 6) (full W arr m a c (blk 6 (peer 6 c))) _ rfl) $$ [-]
  isplitr; · iexact HK
  isplitl [C6]; · iexact C6
  isplitl [B6]; · iexact B6
  iintro ⟨F6, ZB6⟩
  iapply (wait_step W arr m defs 𝒱 κ a c (.send 0) (srcSh W arr m a c (sh 0)) _ rfl) $$ [-]
  isplitr; · iexact HK
  isplitl [E0]; · iexact E0
  isplitl [A0]; · iexact A0
  iintro ⟨Q0, ZA0⟩
  iapply (wait_step W arr m defs 𝒱 κ a c (.send 1) (srcSh W arr m a c (sh 1)) _ rfl) $$ [-]
  isplitr; · iexact HK
  isplitl [E1]; · iexact E1
  isplitl [A1]; · iexact A1
  iintro ⟨Q1, ZA1⟩
  iapply (wait_step W arr m defs 𝒱 κ a c (.send 2) (srcSh W arr m a c (sh 2)) _ rfl) $$ [-]
  isplitr; · iexact HK
  isplitl [E2]; · iexact E2
  isplitl [A2]; · iexact A2
  iintro ⟨Q2, ZA2⟩
  iapply (wait_step W arr m defs 𝒱 κ a c (.send 3) (srcSh W arr m a c (sh 3)) _ rfl) $$ [-]
  isplitr; · iexact HK
  isplitl [E3]; · iexact E3
  isplitl [A3]; · iexact A3
  iintro ⟨Q3, ZA3⟩
  iapply (wait_step W arr m defs 𝒱 κ a c (.send 4) (full W arr m a c (blk 1 (peer 1 c))) _ rfl) $$ [-]
  isplitr; · iexact HK
  isplitl [E4]; · iexact E4
  isplitl [A4]; · iexact A4
  iintro ⟨F1, ZA4⟩
  iapply (wait_step W arr m defs 𝒱 κ a c (.send 5) (full W arr m a c (blk 2 (peer 2 c))) _ rfl) $$ [-]
  isplitr; · iexact HK
  isplitl [E5]; · iexact E5
  isplitl [A5]; · iexact A5
  iintro ⟨F2, ZA5⟩
  iapply (wait_step W arr m defs 𝒱 κ a c (.send 6) (full W arr m a c (blk 3 (peer 3 c))) _ rfl) $$ [-]
  isplitr; · iexact HK
  isplitl [E6]; · iexact E6
  isplitl [A6]; · iexact A6
  iintro ⟨F3, ZA6⟩
  iapply (wait_step W arr m defs 𝒱 κ a c .loc iprop(full W arr m a c c ∗ srcSh W arr m a c (sh 4)) _ rfl) $$ [-]
  isplitr; · iexact HK
  isplitl [CL]; · iexact CL
  isplitl [L]; · iexact L
  iintro ⟨⟨F, Q4⟩, ZL⟩
  unfold final zeros
  isplitl [F F0 F1 F2 F3 F4 F5 F6]
  · iapply (fulls W arr m a c)
    isplitl [F]; · iexact F
    isplitl [F0]; · iexact F0
    isplitl [F1]; · iexact F1
    isplitl [F2]; · iexact F2
    isplitl [F3]; · iexact F3
    isplitl [F4]; · iexact F4
    isplitl [F5]; · iexact F5
    iexact F6
  isplitl [Q0 Q1 Q2 Q3 Q4]
  · iapply (src_split W arr m a c).2
    isplitl [Q0]; · iexact Q0
    isplitl [Q1]; · iexact Q1
    isplitl [Q2]; · iexact Q2
    isplitl [Q3]; · iexact Q3
    iexact Q4
  isplitl [ZA0]; · iexact ZA0
  isplitl [ZA1]; · iexact ZA1
  isplitl [ZA2]; · iexact ZA2
  isplitl [ZA3]; · iexact ZA3
  isplitl [ZA4]; · iexact ZA4
  isplitl [ZA5]; · iexact ZA5
  isplitl [ZA6]; · iexact ZA6
  isplitl [ZB0]; · iexact ZB0
  isplitl [ZB1]; · iexact ZB1
  isplitl [ZB2]; · iexact ZB2
  isplitl [ZB3]; · iexact ZB3
  isplitl [ZB4]; · iexact ZB4
  isplitl [ZB5]; · iexact ZB5
  isplitl [ZB6]; · iexact ZB6
  iexact ZL

end Thread

end Cert.Shared
-- ==== Proof.Shared.Steps.lean ====
/- Following five scripts side by side: the step that one operation of the program takes, on the script whose turn it is. -/
module

public import proofs.«01_k».proof.Proof.Shared.Exchange

@[expose] public section

noncomputable section

namespace Cert.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Idealize.SL.Sem.Labels}
variable {K : Type} [Fintype K] [DecidableEq K] (W : Wires sig K) (defs : Defs nD τ sig Val Λ) (𝒱 : Variants) (σ : K → Dev nD → Dev nD)
variable {c : Dev nD} {T₀ T₁ T₂ T₃ T₄ R G : sProp (XM nD τ sig Val)} {α : Type} {Q : α → sProp (XM nD τ sig Val)} {L l : List K}

/-- An operation a script is ready to perform. -/
theorem step_start {w w' : TpuEff nD τ sig Val Λ .tc PUnit} {xs : List K} {k : PUnit → Prog (TpuEff nD τ sig Val Λ .tc) α}
    (hw : w' = w) (hL : L = xs ++ l)
    (hk : iprop(owesAny W σ c l ∗ R ∗ G) ⊢ wp frame (wpE defs 𝒱 (c.tc : Thread nD τ) none) Set.univ (k ⟨⟩) Q) :
    iprop(owesAny W σ c L ∗ start W defs 𝒱 σ c w xs R ∗ G) ⊢ wp frame (wpE defs 𝒱 (c.tc : Thread nD τ) none) Set.univ (.op w' k) Q := by
  subst hw; subst hL
  rw [show (Prog.op w' k : Prog (TpuEff nD τ sig Val Λ .tc) α) = Prog.lift w' >>= k from rfl, wp_bind]
  unfold start
  iintro ⟨HO, HS, HG⟩
  iapply HS $$ [HO]
  · iexact HO
  iintro ⟨HO, HR⟩
  iapply hk
  isplitl [HO]; · iexact HO
  isplitl [HR] <;> iassumption

/-- A wait a script is ready for. -/
theorem step_await {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ R ∗ G) ⊢ wp frame (wpE defs 𝒱 (c.tc : Thread nD τ) none) Set.univ (k ⟨⟩) Q) :
    iprop(owesAny W σ c L ∗ await W defs 𝒱 σ c x R ∗ G) ⊢ wp frame (wpE defs 𝒱 (c.tc : Thread nD τ) none) Set.univ (.op w' k) Q := by
  rw [show (Prog.op w' k : Prog (TpuEff nD τ sig Val Λ .tc) α) = Prog.lift w' >>= k from rfl, wp_bind]
  unfold await
  iintro ⟨HO, HS, HG⟩
  iapply HS $$ [] [HO]
  · ipureintro; exact ⟨hw, hL⟩
  · iexact HO
  iintro ⟨HO, HR⟩
  iapply hk
  isplitl [HO]; · iexact HO
  isplitl [HR] <;> iassumption

/-- Copies within a device are equal when their ends and semaphores are. -/
theorem copy_congr {sp sp' : Space} {s : Shape} {e : EltTy} {src src' : Memref sig .tc sp s e} {dst dst' : Memref sig .tc sp' s e} {sem sem' : SemLoc sig}
    (h₁ : src = src') (h₂ : dst = dst') (h₃ : sem = sem')
    {a₁ : src.view.WordExact} {a₂ : dst.view.WordExact} {a₃ : DmaTarget.Typed (nD := nD) (τ := τ) (p := .tc) sp sem (.here dst)}
    {b₁ : src'.view.WordExact} {b₂ : dst'.view.WordExact} {b₃ : DmaTarget.Typed (nD := nD) (τ := τ) (p := .tc) sp sem' (.here dst')} :
    (.enqueueDma src (.here dst) sem a₁ a₂ a₃ : TpuEff nD τ sig Val Λ .tc PUnit) = .enqueueDma src' (.here dst') sem' b₁ b₂ b₃ := by
  subst h₁; subst h₂; subst h₃; rfl

/-- The same for transfers between devices. -/
theorem send_congr {sp sp' : Space} {s : Shape} {e : EltTy} {d d' : Dev nD} {src src' : Memref sig .tc sp s e} {dst dst' : Memref sig .tc sp' s e}
    {sS sS' sem sem' : SemLoc sig} {hd : dst.view.ref.isScScratch = false} {hd' : dst'.view.ref.isScScratch = false}
    (h : d = d') (h₁ : src = src') (h₂ : dst = dst') (h₃ : sS = sS') (h₄ : sem = sem')
    {a₁ : src.view.WordExact} {a₂ : dst.view.WordExact} {a₃ : DmaTarget.Typed (nD := nD) (τ := τ) (p := .tc) sp sem (.remote (d.tc : Thread nD τ) dst sS hd)}
    {b₁ : src'.view.WordExact} {b₂ : dst'.view.WordExact} {b₃ : DmaTarget.Typed (nD := nD) (τ := τ) (p := .tc) sp sem' (.remote (d'.tc : Thread nD τ) dst' sS' hd')} :
    (.enqueueDma src (.remote (d.tc : Thread nD τ) dst sS hd) sem a₁ a₂ a₃ : TpuEff nD τ sig Val Λ .tc PUnit)
      = .enqueueDma src' (.remote (d'.tc : Thread nD τ) dst' sS' hd') sem' b₁ b₂ b₃ := by
  subst h; subst h₁; subst h₂; subst h₃; subst h₄; rfl

theorem take₀ (O A : sProp (XM nD τ sig Val)) : iprop(O ∗ A ∗ T₁ ∗ T₂ ∗ T₃ ∗ T₄) ⊣⊢ iprop(O ∗ A ∗ T₁ ∗ T₂ ∗ T₃ ∗ T₄) := by
  constructor
  · iintro ⟨HO, H0, H1, H2, H3, H4⟩
    isplitl [HO]; · iexact HO
    isplitl [H0]; · iexact H0
    isplitl [H1]; · iexact H1
    isplitl [H2]; · iexact H2
    isplitl [H3]; · iexact H3
    iexact H4
  · iintro ⟨HO, H0, H1, H2, H3, H4⟩
    isplitl [HO]; · iexact HO
    isplitl [H0]; · iexact H0
    isplitl [H1]; · iexact H1
    isplitl [H2]; · iexact H2
    isplitl [H3]; · iexact H3
    iexact H4

theorem start₀ {w w' : TpuEff nD τ sig Val Λ .tc PUnit} {xs : List K} {k : PUnit → Prog (TpuEff nD τ sig Val Λ .tc) α}
    (hw : w' = w) (hL : L = xs ++ l)
    (hk : iprop(owesAny W σ c l ∗ R ∗ T₁ ∗ T₂ ∗ T₃ ∗ T₄) ⊢ wp frame (wpE defs 𝒱 (c.tc : Thread nD τ) none) Set.univ (k ⟨⟩) Q) :
    iprop(owesAny W σ c L ∗ start W defs 𝒱 σ c w xs R ∗ T₁ ∗ T₂ ∗ T₃ ∗ T₄) ⊢ wp frame (wpE defs 𝒱 (c.tc : Thread nD τ) none) Set.univ (.op w' k) Q := by
  exact (take₀ _ _).1.trans (step_start W defs 𝒱 σ hw hL ((take₀ _ _).2.trans hk))

theorem await₀ {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ R ∗ T₁ ∗ T₂ ∗ T₃ ∗ T₄) ⊢ wp frame (wpE defs 𝒱 (c.tc : Thread nD τ) none) Set.univ (k ⟨⟩) Q) :
    iprop(owesAny W σ c L ∗ await W defs 𝒱 σ c x R ∗ T₁ ∗ T₂ ∗ T₃ ∗ T₄) ⊢ wp frame (wpE defs 𝒱 (c.tc : Thread nD τ) none) Set.univ (.op w' k) Q := by
  exact (take₀ _ _).1.trans (step_await W defs 𝒱 σ hw hL ((take₀ _ _).2.trans hk))

theorem take₁ (O A : sProp (XM nD τ sig Val)) : iprop(O ∗ T₀ ∗ A ∗ T₂ ∗ T₃ ∗ T₄) ⊣⊢ iprop(O ∗ A ∗ T₀ ∗ T₂ ∗ T₃ ∗ T₄) := by
  constructor
  · iintro ⟨HO, H0, H1, H2, H3, H4⟩
    isplitl [HO]; · iexact HO
    isplitl [H1]; · iexact H1
    isplitl [H0]; · iexact H0
    isplitl [H2]; · iexact H2
    isplitl [H3]; · iexact H3
    iexact H4
  · iintro ⟨HO, H1, H0, H2, H3, H4⟩
    isplitl [HO]; · iexact HO
    isplitl [H0]; · iexact H0
    isplitl [H1]; · iexact H1
    isplitl [H2]; · iexact H2
    isplitl [H3]; · iexact H3
    iexact H4

theorem start₁ {w w' : TpuEff nD τ sig Val Λ .tc PUnit} {xs : List K} {k : PUnit → Prog (TpuEff nD τ sig Val Λ .tc) α}
    (hw : w' = w) (hL : L = xs ++ l)
    (hk : iprop(owesAny W σ c l ∗ T₀ ∗ R ∗ T₂ ∗ T₃ ∗ T₄) ⊢ wp frame (wpE defs 𝒱 (c.tc : Thread nD τ) none) Set.univ (k ⟨⟩) Q) :
    iprop(owesAny W σ c L ∗ T₀ ∗ start W defs 𝒱 σ c w xs R ∗ T₂ ∗ T₃ ∗ T₄) ⊢ wp frame (wpE defs 𝒱 (c.tc : Thread nD τ) none) Set.univ (.op w' k) Q := by
  exact (take₁ _ _).1.trans (step_start W defs 𝒱 σ hw hL ((take₁ _ _).2.trans hk))

theorem await₁ {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ T₀ ∗ R ∗ T₂ ∗ T₃ ∗ T₄) ⊢ wp frame (wpE defs 𝒱 (c.tc : Thread nD τ) none) Set.univ (k ⟨⟩) Q) :
    iprop(owesAny W σ c L ∗ T₀ ∗ await W defs 𝒱 σ c x R ∗ T₂ ∗ T₃ ∗ T₄) ⊢ wp frame (wpE defs 𝒱 (c.tc : Thread nD τ) none) Set.univ (.op w' k) Q := by
  exact (take₁ _ _).1.trans (step_await W defs 𝒱 σ hw hL ((take₁ _ _).2.trans hk))

theorem take₂ (O A : sProp (XM nD τ sig Val)) : iprop(O ∗ T₀ ∗ T₁ ∗ A ∗ T₃ ∗ T₄) ⊣⊢ iprop(O ∗ A ∗ T₀ ∗ T₁ ∗ T₃ ∗ T₄) := by
  constructor
  · iintro ⟨HO, H0, H1, H2, H3, H4⟩
    isplitl [HO]; · iexact HO
    isplitl [H2]; · iexact H2
    isplitl [H0]; · iexact H0
    isplitl [H1]; · iexact H1
    isplitl [H3]; · iexact H3
    iexact H4
  · iintro ⟨HO, H2, H0, H1, H3, H4⟩
    isplitl [HO]; · iexact HO
    isplitl [H0]; · iexact H0
    isplitl [H1]; · iexact H1
    isplitl [H2]; · iexact H2
    isplitl [H3]; · iexact H3
    iexact H4

theorem start₂ {w w' : TpuEff nD τ sig Val Λ .tc PUnit} {xs : List K} {k : PUnit → Prog (TpuEff nD τ sig Val Λ .tc) α}
    (hw : w' = w) (hL : L = xs ++ l)
    (hk : iprop(owesAny W σ c l ∗ T₀ ∗ T₁ ∗ R ∗ T₃ ∗ T₄) ⊢ wp frame (wpE defs 𝒱 (c.tc : Thread nD τ) none) Set.univ (k ⟨⟩) Q) :
    iprop(owesAny W σ c L ∗ T₀ ∗ T₁ ∗ start W defs 𝒱 σ c w xs R ∗ T₃ ∗ T₄) ⊢ wp frame (wpE defs 𝒱 (c.tc : Thread nD τ) none) Set.univ (.op w' k) Q := by
  exact (take₂ _ _).1.trans (step_start W defs 𝒱 σ hw hL ((take₂ _ _).2.trans hk))

theorem await₂ {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ T₀ ∗ T₁ ∗ R ∗ T₃ ∗ T₄) ⊢ wp frame (wpE defs 𝒱 (c.tc : Thread nD τ) none) Set.univ (k ⟨⟩) Q) :
    iprop(owesAny W σ c L ∗ T₀ ∗ T₁ ∗ await W defs 𝒱 σ c x R ∗ T₃ ∗ T₄) ⊢ wp frame (wpE defs 𝒱 (c.tc : Thread nD τ) none) Set.univ (.op w' k) Q := by
  exact (take₂ _ _).1.trans (step_await W defs 𝒱 σ hw hL ((take₂ _ _).2.trans hk))

theorem take₃ (O A : sProp (XM nD τ sig Val)) : iprop(O ∗ T₀ ∗ T₁ ∗ T₂ ∗ A ∗ T₄) ⊣⊢ iprop(O ∗ A ∗ T₀ ∗ T₁ ∗ T₂ ∗ T₄) := by
  constructor
  · iintro ⟨HO, H0, H1, H2, H3, H4⟩
    isplitl [HO]; · iexact HO
    isplitl [H3]; · iexact H3
    isplitl [H0]; · iexact H0
    isplitl [H1]; · iexact H1
    isplitl [H2]; · iexact H2
    iexact H4
  · iintro ⟨HO, H3, H0, H1, H2, H4⟩
    isplitl [HO]; · iexact HO
    isplitl [H0]; · iexact H0
    isplitl [H1]; · iexact H1
    isplitl [H2]; · iexact H2
    isplitl [H3]; · iexact H3
    iexact H4

theorem start₃ {w w' : TpuEff nD τ sig Val Λ .tc PUnit} {xs : List K} {k : PUnit → Prog (TpuEff nD τ sig Val Λ .tc) α}
    (hw : w' = w) (hL : L = xs ++ l)
    (hk : iprop(owesAny W σ c l ∗ T₀ ∗ T₁ ∗ T₂ ∗ R ∗ T₄) ⊢ wp frame (wpE defs 𝒱 (c.tc : Thread nD τ) none) Set.univ (k ⟨⟩) Q) :
    iprop(owesAny W σ c L ∗ T₀ ∗ T₁ ∗ T₂ ∗ start W defs 𝒱 σ c w xs R ∗ T₄) ⊢ wp frame (wpE defs 𝒱 (c.tc : Thread nD τ) none) Set.univ (.op w' k) Q := by
  exact (take₃ _ _).1.trans (step_start W defs 𝒱 σ hw hL ((take₃ _ _).2.trans hk))

theorem await₃ {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ T₀ ∗ T₁ ∗ T₂ ∗ R ∗ T₄) ⊢ wp frame (wpE defs 𝒱 (c.tc : Thread nD τ) none) Set.univ (k ⟨⟩) Q) :
    iprop(owesAny W σ c L ∗ T₀ ∗ T₁ ∗ T₂ ∗ await W defs 𝒱 σ c x R ∗ T₄) ⊢ wp frame (wpE defs 𝒱 (c.tc : Thread nD τ) none) Set.univ (.op w' k) Q := by
  exact (take₃ _ _).1.trans (step_await W defs 𝒱 σ hw hL ((take₃ _ _).2.trans hk))

theorem take₄ (O A : sProp (XM nD τ sig Val)) : iprop(O ∗ T₀ ∗ T₁ ∗ T₂ ∗ T₃ ∗ A) ⊣⊢ iprop(O ∗ A ∗ T₀ ∗ T₁ ∗ T₂ ∗ T₃) := by
  constructor
  · iintro ⟨HO, H0, H1, H2, H3, H4⟩
    isplitl [HO]; · iexact HO
    isplitl [H4]; · iexact H4
    isplitl [H0]; · iexact H0
    isplitl [H1]; · iexact H1
    isplitl [H2]; · iexact H2
    iexact H3
  · iintro ⟨HO, H4, H0, H1, H2, H3⟩
    isplitl [HO]; · iexact HO
    isplitl [H0]; · iexact H0
    isplitl [H1]; · iexact H1
    isplitl [H2]; · iexact H2
    isplitl [H3]; · iexact H3
    iexact H4

theorem start₄ {w w' : TpuEff nD τ sig Val Λ .tc PUnit} {xs : List K} {k : PUnit → Prog (TpuEff nD τ sig Val Λ .tc) α}
    (hw : w' = w) (hL : L = xs ++ l)
    (hk : iprop(owesAny W σ c l ∗ T₀ ∗ T₁ ∗ T₂ ∗ T₃ ∗ R) ⊢ wp frame (wpE defs 𝒱 (c.tc : Thread nD τ) none) Set.univ (k ⟨⟩) Q) :
    iprop(owesAny W σ c L ∗ T₀ ∗ T₁ ∗ T₂ ∗ T₃ ∗ start W defs 𝒱 σ c w xs R) ⊢ wp frame (wpE defs 𝒱 (c.tc : Thread nD τ) none) Set.univ (.op w' k) Q := by
  exact (take₄ _ _).1.trans (step_start W defs 𝒱 σ hw hL ((take₄ _ _).2.trans hk))

theorem await₄ {w' : TpuEff nD τ sig Val Λ .tc PUnit} {x : K} {k : PUnit → Prog (TpuEff nD τ sig Val Λ .tc) α}
    (hw : ∀ Kk : PUnit → sProp (XM nD τ sig Val), wpE defs 𝒱 (c.tc : Thread nD τ) none Set.univ w' Kk = waitSpec (c.tc : Thread nD τ) Set.univ (W.at_ x) (W.amt x) Kk)
    (hL : ∀ y ∈ L, W.level x < W.level y)
    (hk : iprop(owesAny W σ c L ∗ T₀ ∗ T₁ ∗ T₂ ∗ T₃ ∗ R) ⊢ wp frame (wpE defs 𝒱 (c.tc : Thread nD τ) none) Set.univ (k ⟨⟩) Q) :
    iprop(owesAny W σ c L ∗ T₀ ∗ T₁ ∗ T₂ ∗ T₃ ∗ await W defs 𝒱 σ c x R) ⊢ wp frame (wpE defs 𝒱 (c.tc : Thread nD τ) none) Set.univ (.op w' k) Q := by
  exact (take₄ _ _).1.trans (step_await W defs 𝒱 σ hw hL ((take₄ _ _).2.trans hk))

end Cert.Shared
-- ==== Proof.Arrays.lean ====
/- The five arrays of the gather: where each device's block and the eight places of its result lie, and the semaphores the
   kernel uses for them. -/
module

public import proofs.«01_k».proof.Proof.Shared.Gather
public import proofs.«01_k».proof.Proof.Shared.Steps
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Shared

theorem inb0 : ∀ j : Dev 8, ∀ a, (![j.val, 0, 0] : Fin S8x4096x2560.rank → ℕ) a + S1x4096x2560.size a ≤ S8x4096x2560.size a := by decide +kernel

theorem words0 : ∀ j : Dev 8, (Rect.unit (s := S8x4096x2560) ![j.val, 0, 0] S1x4096x2560.size (inb0 j)).WholeWords (EltTy.packing .bf16) := by decide +kernel

/-- Place `j` of result 0. -/
def slot0 (j : Dev 8) : Memref sig .tc .hbm S4096x2560 .bf16 :=
  ((Memref.whole main_v1_0).slice (Rect.unit (s := S8x4096x2560) ![j.val, 0, 0] S1x4096x2560.size (inb0 j)) (fun _ => rfl)).squeeze S4096x2560 squeezes_S1x4096x2560_S4096x2560
theorem slot0_word (j : Dev 8) : (slot0 j).view.WordExact := ((Memref.isWhole_whole main_v1_0).wordExact_slice rfl _ (words0 j)).reshape _ _
theorem slot0_eq {off : Fin S8x4096x2560.rank → ℕ} (inb : ∀ a, off a + S1x4096x2560.size a ≤ S8x4096x2560.size a) (j : Dev 8) (h : off = ![j.val, 0, 0]) :
    ((Memref.whole main_v1_0).slice (Rect.unit (s := S8x4096x2560) off S1x4096x2560.size inb) (fun _ => rfl)).squeeze S4096x2560 squeezes_S1x4096x2560_S4096x2560 = slot0 j := by
  subst h; rfl

theorem inb1 : ∀ j : Dev 8, ∀ a, (![j.val, 0, 0, 0] : Fin S8x16x32x256.rank → ℕ) a + S1x16x32x256.size a ≤ S8x16x32x256.size a := by decide +kernel

theorem words1 : ∀ j : Dev 8, (Rect.unit (s := S8x16x32x256) ![j.val, 0, 0, 0] S1x16x32x256.size (inb1 j)).WholeWords (EltTy.packing .bf16) := by decide +kernel

/-- Place `j` of result 1. -/
def slot1 (j : Dev 8) : Memref sig .tc .hbm S16x32x256 .bf16 :=
  ((Memref.whole main_v1_1).slice (Rect.unit (s := S8x16x32x256) ![j.val, 0, 0, 0] S1x16x32x256.size (inb1 j)) (fun _ => rfl)).squeeze S16x32x256 squeezes_S1x16x32x256_S16x32x256
theorem slot1_word (j : Dev 8) : (slot1 j).view.WordExact := ((Memref.isWhole_whole main_v1_1).wordExact_slice rfl _ (words1 j)).reshape _ _
theorem slot1_eq {off : Fin S8x16x32x256.rank → ℕ} (inb : ∀ a, off a + S1x16x32x256.size a ≤ S8x16x32x256.size a) (j : Dev 8) (h : off = ![j.val, 0, 0, 0]) :
    ((Memref.whole main_v1_1).slice (Rect.unit (s := S8x16x32x256) off S1x16x32x256.size inb) (fun _ => rfl)).squeeze S16x32x256 squeezes_S1x16x32x256_S16x32x256 = slot1 j := by
  subst h; rfl

theorem inb2 : ∀ j : Dev 8, ∀ a, (![j.val, 0, 0, 0] : Fin S8x16x32x256.rank → ℕ) a + S1x16x32x256.size a ≤ S8x16x32x256.size a := by decide +kernel

theorem words2 : ∀ j : Dev 8, (Rect.unit (s := S8x16x32x256) ![j.val, 0, 0, 0] S1x16x32x256.size (inb2 j)).WholeWords (EltTy.packing .bf16) := by decide +kernel

/-- Place `j` of result 2. -/
def slot2 (j : Dev 8) : Memref sig .tc .hbm S16x32x256 .bf16 :=
  ((Memref.whole main_v1_2).slice (Rect.unit (s := S8x16x32x256) ![j.val, 0, 0, 0] S1x16x32x256.size (inb2 j)) (fun _ => rfl)).squeeze S16x32x256 squeezes_S1x16x32x256_S16x32x256
theorem slot2_word (j : Dev 8) : (slot2 j).view.WordExact := ((Memref.isWhole_whole main_v1_2).wordExact_slice rfl _ (words2 j)).reshape _ _
theorem slot2_eq {off : Fin S8x16x32x256.rank → ℕ} (inb : ∀ a, off a + S1x16x32x256.size a ≤ S8x16x32x256.size a) (j : Dev 8) (h : off = ![j.val, 0, 0, 0]) :
    ((Memref.whole main_v1_2).slice (Rect.unit (s := S8x16x32x256) off S1x16x32x256.size inb) (fun _ => rfl)).squeeze S16x32x256 squeezes_S1x16x32x256_S16x32x256 = slot2 j := by
  subst h; rfl

theorem inb3 : ∀ j : Dev 8, ∀ a, (![j.val, 0, 0] : Fin S8x2048x512.rank → ℕ) a + S1x2048x512.size a ≤ S8x2048x512.size a := by decide +kernel

theorem words3 : ∀ j : Dev 8, (Rect.unit (s := S8x2048x512) ![j.val, 0, 0] S1x2048x512.size (inb3 j)).WholeWords (EltTy.packing .bf16) := by decide +kernel

/-- Place `j` of result 3. -/
def slot3 (j : Dev 8) : Memref sig .tc .hbm S2048x512 .bf16 :=
  ((Memref.whole main_v1_3).slice (Rect.unit (s := S8x2048x512) ![j.val, 0, 0] S1x2048x512.size (inb3 j)) (fun _ => rfl)).squeeze S2048x512 squeezes_S1x2048x512_S2048x512
theorem slot3_word (j : Dev 8) : (slot3 j).view.WordExact := ((Memref.isWhole_whole main_v1_3).wordExact_slice rfl _ (words3 j)).reshape _ _
theorem slot3_eq {off : Fin S8x2048x512.rank → ℕ} (inb : ∀ a, off a + S1x2048x512.size a ≤ S8x2048x512.size a) (j : Dev 8) (h : off = ![j.val, 0, 0]) :
    ((Memref.whole main_v1_3).slice (Rect.unit (s := S8x2048x512) off S1x2048x512.size inb) (fun _ => rfl)).squeeze S2048x512 squeezes_S1x2048x512_S2048x512 = slot3 j := by
  subst h; rfl

theorem inb4 : ∀ j : Dev 8, ∀ a, (![j.val, 0, 0] : Fin S8x88x128.rank → ℕ) a + S1x88x128.size a ≤ S8x88x128.size a := by decide +kernel

/-- Place `j` of result 4. -/
def slot4 (j : Dev 8) : Memref sig .tc .hbm S88x128 .f32 :=
  ((Memref.whole main_v1_4).slice (Rect.unit (s := S8x88x128) ![j.val, 0, 0] S1x88x128.size (inb4 j)) (fun _ => rfl)).squeeze S88x128 squeezes_S1x88x128_S88x128
theorem slot4_word (j : Dev 8) : (slot4 j).view.WordExact := (View.wordExact_bits rfl).reshape _ _
theorem slot4_eq {off : Fin S8x88x128.rank → ℕ} (inb : ∀ a, off a + S1x88x128.size a ≤ S8x88x128.size a) (j : Dev 8) (h : off = ![j.val, 0, 0]) :
    ((Memref.whole main_v1_4).slice (Rect.unit (s := S8x88x128) off S1x88x128.size inb) (fun _ => rfl)).squeeze S88x128 squeezes_S1x88x128_S88x128 = slot4 j := by
  subst h; rfl

/-- The semaphores. -/
def at_ : Fin 5 × Leg → SemLoc sig
  | (a, .send k) => .dma ⟨7 * a.val + k.val, by show _ < 75; omega⟩
  | (a, .recv k) => .dma ⟨35 + (7 * a.val + k.val), by show _ < 75; omega⟩
  | (a, .loc) => .dma ⟨70 + a.val, by show _ < 75; omega⟩

/-- The units of one transfer of each array. -/
def units : Fin 5 → ℕ
  | 0 => (slot0 0).view.dmaCredit | 1 => (slot1 0).view.dmaCredit | 2 => (slot2 0).view.dmaCredit
  | 3 => (slot3 0).view.dmaCredit | 4 => (slot4 0).view.dmaCredit

/-- Arrivals over the long ways are waited for before what is passed on. -/
def levelOf : Leg → ℕ
  | .recv k => if k.val < 4 then 1 else 2
  | _ => 0

def W : Wires sig (Fin 5 × Leg) where
  at_ := at_
  inj := by decide +kernel
  amt k := units k.1
  amt_pos k := by
    obtain ⟨a, l⟩ := k
    show 0 < units a
    unfold units
    split <;> exact View.dmaCredit_pos _ (by decide)
  level k := levelOf k.2

/-- The arrays. -/
def arr : ∀ a : Fin 5, Arr W a
  | 0 => ⟨S4096x2560, .bf16, Memref.whole main_arg0, slot0, (Memref.isWhole_whole main_arg0).wordExact, slot0_word, fun _ => rfl, fun l => by cases l <;> rfl,
      fun _ l => by cases l <;> rfl, fun _ _ => rfl⟩
  | 1 => ⟨S16x32x256, .bf16, Memref.whole main_arg1, slot1, (Memref.isWhole_whole main_arg1).wordExact, slot1_word, fun _ => rfl, fun l => by cases l <;> rfl,
      fun _ l => by cases l <;> rfl, fun _ _ => rfl⟩
  | 2 => ⟨S16x32x256, .bf16, Memref.whole main_arg2, slot2, (Memref.isWhole_whole main_arg2).wordExact, slot2_word, fun _ => rfl, fun l => by cases l <;> rfl,
      fun _ l => by cases l <;> rfl, fun _ _ => rfl⟩
  | 3 => ⟨S2048x512, .bf16, Memref.whole main_arg3, slot3, (Memref.isWhole_whole main_arg3).wordExact, slot3_word, fun _ => rfl, fun l => by cases l <;> rfl,
      fun _ l => by cases l <;> rfl, fun _ _ => rfl⟩
  | 4 => ⟨S88x128, .f32, Memref.whole main_arg4, slot4, (Memref.isWhole_whole main_arg4).wordExact, slot4_word, fun _ => rfl, fun l => by cases l <;> rfl,
      fun _ l => by cases l <;> rfl, fun _ _ => rfl⟩

theorem credit_slot0 {off : Fin S8x4096x2560.rank → ℕ} (inb : ∀ a, off a + S1x4096x2560.size a ≤ S8x4096x2560.size a) :
    (((Memref.whole main_v1_0).slice (Rect.unit (s := S8x4096x2560) off S1x4096x2560.size inb) (fun _ => rfl)).squeeze S4096x2560 squeezes_S1x4096x2560_S4096x2560).view.dmaCredit = units 0 := rfl
theorem credit_arg0 : (Memref.whole main_arg0 : Memref sig .tc .hbm S4096x2560 .bf16).view.dmaCredit = units 0 := rfl

theorem credit_slot1 {off : Fin S8x16x32x256.rank → ℕ} (inb : ∀ a, off a + S1x16x32x256.size a ≤ S8x16x32x256.size a) :
    (((Memref.whole main_v1_1).slice (Rect.unit (s := S8x16x32x256) off S1x16x32x256.size inb) (fun _ => rfl)).squeeze S16x32x256 squeezes_S1x16x32x256_S16x32x256).view.dmaCredit = units 1 := rfl
theorem credit_arg1 : (Memref.whole main_arg1 : Memref sig .tc .hbm S16x32x256 .bf16).view.dmaCredit = units 1 := rfl

theorem credit_slot2 {off : Fin S8x16x32x256.rank → ℕ} (inb : ∀ a, off a + S1x16x32x256.size a ≤ S8x16x32x256.size a) :
    (((Memref.whole main_v1_2).slice (Rect.unit (s := S8x16x32x256) off S1x16x32x256.size inb) (fun _ => rfl)).squeeze S16x32x256 squeezes_S1x16x32x256_S16x32x256).view.dmaCredit = units 2 := rfl
theorem credit_arg2 : (Memref.whole main_arg2 : Memref sig .tc .hbm S16x32x256 .bf16).view.dmaCredit = units 2 := rfl

theorem credit_slot3 {off : Fin S8x2048x512.rank → ℕ} (inb : ∀ a, off a + S1x2048x512.size a ≤ S8x2048x512.size a) :
    (((Memref.whole main_v1_3).slice (Rect.unit (s := S8x2048x512) off S1x2048x512.size inb) (fun _ => rfl)).squeeze S2048x512 squeezes_S1x2048x512_S2048x512).view.dmaCredit = units 3 := rfl
theorem credit_arg3 : (Memref.whole main_arg3 : Memref sig .tc .hbm S2048x512 .bf16).view.dmaCredit = units 3 := rfl

theorem credit_slot4 {off : Fin S8x88x128.rank → ℕ} (inb : ∀ a, off a + S1x88x128.size a ≤ S8x88x128.size a) :
    (((Memref.whole main_v1_4).slice (Rect.unit (s := S8x88x128) off S1x88x128.size inb) (fun _ => rfl)).squeeze S88x128 squeezes_S1x88x128_S88x128).view.dmaCredit = units 4 := rfl
theorem credit_arg4 : (Memref.whole main_arg4 : Memref sig .tc .hbm S88x128 .f32).view.dmaCredit = units 4 := rfl

end Cert.KernelIdeal
-- ==== Proof.Body.lean ====
/- The kernel's body on one device: its operations in order, each the next of one of five scripts. -/
module

public import proofs.«01_k».proof.Proof.Arrays

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.Shared

variable {F : FTy → Type} [FloatOps F]

theorem off1 : ∀ d : Dev 8, k0_off1 d = ![d.val, 0, 0] := by decide +kernel
theorem off5 : ∀ d : Dev 8, k0_off5 d = ![(blk 4 d).val, 0, 0] := by decide +kernel
theorem off9 : ∀ d : Dev 8, k0_off9 d = ![(blk 5 d).val, 0, 0] := by decide +kernel
theorem off13 : ∀ d : Dev 8, k0_off13 d = ![(blk 6 d).val, 0, 0] := by decide +kernel
theorem off2 : ∀ d : Dev 8, k0_off2 d = ![d.val, 0, 0, 0] := by decide +kernel
theorem off6 : ∀ d : Dev 8, k0_off6 d = ![(blk 4 d).val, 0, 0, 0] := by decide +kernel
theorem off10 : ∀ d : Dev 8, k0_off10 d = ![(blk 5 d).val, 0, 0, 0] := by decide +kernel
theorem off14 : ∀ d : Dev 8, k0_off14 d = ![(blk 6 d).val, 0, 0, 0] := by decide +kernel
theorem off3 : ∀ d : Dev 8, k0_off3 d = ![d.val, 0, 0] := by decide +kernel
theorem off7 : ∀ d : Dev 8, k0_off7 d = ![(blk 4 d).val, 0, 0] := by decide +kernel
theorem off11 : ∀ d : Dev 8, k0_off11 d = ![(blk 5 d).val, 0, 0] := by decide +kernel
theorem off15 : ∀ d : Dev 8, k0_off15 d = ![(blk 6 d).val, 0, 0] := by decide +kernel
theorem off4 : ∀ d : Dev 8, k0_off4 d = ![d.val, 0, 0] := by decide +kernel
theorem off8 : ∀ d : Dev 8, k0_off8 d = ![(blk 4 d).val, 0, 0] := by decide +kernel
theorem off12 : ∀ d : Dev 8, k0_off12 d = ![(blk 5 d).val, 0, 0] := by decide +kernel
theorem off16 : ∀ d : Dev 8, k0_off16 d = ![(blk 6 d).val, 0, 0] := by decide +kernel
theorem dev1 : ∀ d : Dev 8, (⟨k0_dev1 d, k0_dev1_lt d⟩ : Dev 8) = peer 0 d := by decide +kernel
theorem dev2 : ∀ d : Dev 8, (⟨k0_dev2 d, k0_dev2_lt d⟩ : Dev 8) = peer 1 d := by decide +kernel
theorem dev3 : ∀ d : Dev 8, (⟨k0_dev3 d, k0_dev3_lt d⟩ : Dev 8) = peer 2 d := by decide +kernel
theorem dev4 : ∀ d : Dev 8, (⟨k0_dev4 d, k0_dev4_lt d⟩ : Dev 8) = peer 3 d := by decide +kernel
theorem dev5 : ∀ d : Dev 8, (⟨k0_dev5 d, k0_dev5_lt d⟩ : Dev 8) = peer 0 d := by decide +kernel
theorem dev6 : ∀ d : Dev 8, (⟨k0_dev6 d, k0_dev6_lt d⟩ : Dev 8) = peer 1 d := by decide +kernel
theorem dev7 : ∀ d : Dev 8, (⟨k0_dev7 d, k0_dev7_lt d⟩ : Dev 8) = peer 2 d := by decide +kernel
theorem dev8 : ∀ d : Dev 8, (⟨k0_dev8 d, k0_dev8_lt d⟩ : Dev 8) = peer 3 d := by decide +kernel
theorem dev9 : ∀ d : Dev 8, (⟨k0_dev9 d, k0_dev9_lt d⟩ : Dev 8) = peer 0 d := by decide +kernel
theorem dev10 : ∀ d : Dev 8, (⟨k0_dev10 d, k0_dev10_lt d⟩ : Dev 8) = peer 1 d := by decide +kernel
theorem dev11 : ∀ d : Dev 8, (⟨k0_dev11 d, k0_dev11_lt d⟩ : Dev 8) = peer 2 d := by decide +kernel
theorem dev12 : ∀ d : Dev 8, (⟨k0_dev12 d, k0_dev12_lt d⟩ : Dev 8) = peer 3 d := by decide +kernel
theorem dev13 : ∀ d : Dev 8, (⟨k0_dev13 d, k0_dev13_lt d⟩ : Dev 8) = peer 0 d := by decide +kernel
theorem dev14 : ∀ d : Dev 8, (⟨k0_dev14 d, k0_dev14_lt d⟩ : Dev 8) = peer 1 d := by decide +kernel
theorem dev15 : ∀ d : Dev 8, (⟨k0_dev15 d, k0_dev15_lt d⟩ : Dev 8) = peer 2 d := by decide +kernel
theorem dev16 : ∀ d : Dev 8, (⟨k0_dev16 d, k0_dev16_lt d⟩ : Dev 8) = peer 3 d := by decide +kernel
theorem dev17 : ∀ d : Dev 8, (⟨k0_dev17 d, k0_dev17_lt d⟩ : Dev 8) = peer 0 d := by decide +kernel
theorem dev18 : ∀ d : Dev 8, (⟨k0_dev18 d, k0_dev18_lt d⟩ : Dev 8) = peer 1 d := by decide +kernel
theorem dev19 : ∀ d : Dev 8, (⟨k0_dev19 d, k0_dev19_lt d⟩ : Dev 8) = peer 2 d := by decide +kernel
theorem dev20 : ∀ d : Dev 8, (⟨k0_dev20 d, k0_dev20_lt d⟩ : Dev 8) = peer 3 d := by decide +kernel
theorem dev21 : ∀ d : Dev 8, (⟨k0_dev21 d, k0_dev21_lt d⟩ : Dev 8) = peer 4 d := by decide +kernel
theorem dev22 : ∀ d : Dev 8, (⟨k0_dev22 d, k0_dev22_lt d⟩ : Dev 8) = peer 4 d := by decide +kernel
theorem dev23 : ∀ d : Dev 8, (⟨k0_dev23 d, k0_dev23_lt d⟩ : Dev 8) = peer 4 d := by decide +kernel
theorem dev24 : ∀ d : Dev 8, (⟨k0_dev24 d, k0_dev24_lt d⟩ : Dev 8) = peer 4 d := by decide +kernel
theorem dev25 : ∀ d : Dev 8, (⟨k0_dev25 d, k0_dev25_lt d⟩ : Dev 8) = peer 4 d := by decide +kernel
theorem dev26 : ∀ d : Dev 8, (⟨k0_dev26 d, k0_dev26_lt d⟩ : Dev 8) = peer 5 d := by decide +kernel
theorem dev27 : ∀ d : Dev 8, (⟨k0_dev27 d, k0_dev27_lt d⟩ : Dev 8) = peer 5 d := by decide +kernel
theorem dev28 : ∀ d : Dev 8, (⟨k0_dev28 d, k0_dev28_lt d⟩ : Dev 8) = peer 5 d := by decide +kernel
theorem dev29 : ∀ d : Dev 8, (⟨k0_dev29 d, k0_dev29_lt d⟩ : Dev 8) = peer 5 d := by decide +kernel
theorem dev30 : ∀ d : Dev 8, (⟨k0_dev30 d, k0_dev30_lt d⟩ : Dev 8) = peer 5 d := by decide +kernel
theorem dev31 : ∀ d : Dev 8, (⟨k0_dev31 d, k0_dev31_lt d⟩ : Dev 8) = peer 6 d := by decide +kernel
theorem dev32 : ∀ d : Dev 8, (⟨k0_dev32 d, k0_dev32_lt d⟩ : Dev 8) = peer 6 d := by decide +kernel
theorem dev33 : ∀ d : Dev 8, (⟨k0_dev33 d, k0_dev33_lt d⟩ : Dev 8) = peer 6 d := by decide +kernel
theorem dev34 : ∀ d : Dev 8, (⟨k0_dev34 d, k0_dev34_lt d⟩ : Dev 8) = peer 6 d := by decide +kernel
theorem dev35 : ∀ d : Dev 8, (⟨k0_dev35 d, k0_dev35_lt d⟩ : Dev 8) = peer 6 d := by decide +kernel

/-- The transfers the body makes, in order. -/
def plan : List (Fin 5 × Leg) :=
  [(0, Leg.recv 0), (0, Leg.recv 1), (0, Leg.recv 2), (0, Leg.recv 3), (1, Leg.recv 0), (1, Leg.recv 1), (1, Leg.recv 2), (1, Leg.recv 3), (2, Leg.recv 0), (2, Leg.recv 1), (2, Leg.recv 2), (2, Leg.recv 3), (3, Leg.recv 0), (3, Leg.recv 1), (3, Leg.recv 2), (3, Leg.recv 3), (4, Leg.recv 0), (4, Leg.recv 1), (4, Leg.recv 2), (4, Leg.recv 3), (0, Leg.recv 4), (1, Leg.recv 4), (2, Leg.recv 4), (3, Leg.recv 4), (4, Leg.recv 4), (0, Leg.recv 5), (1, Leg.recv 5), (2, Leg.recv 5), (3, Leg.recv 5), (4, Leg.recv 5), (0, Leg.recv 6), (1, Leg.recv 6), (2, Leg.recv 6), (3, Leg.recv 6), (4, Leg.recv 6)]

variable (m : (ℓ : Loc nD τ sig) → Buf (Elt F) ℓ)

set_option maxRecDepth 20000 in
set_option maxHeartbeats 4000000 in
theorem body_wp (c : Dev nD) (t : Fin cfg0.N) (𝒱 : Variants) :
    iprop(owesAny W partner c plan ∗ script W arr m (defs₀ (F := F)) 𝒱 0 c ∗ script W arr m (defs₀ (F := F)) 𝒱 1 c ∗ script W arr m (defs₀ (F := F)) 𝒱 2 c ∗ script W arr m (defs₀ (F := F)) 𝒱 3 c ∗ script W arr m (defs₀ (F := F)) 𝒱 4 c)
      ⊢ wp frame (wpE (defs₀ (F := F)) 𝒱 (c.tc : Thread nD τ) none) Set.univ (bodyAt0 (F := F) t)
        (fun _ => iprop(owesAny W partner c [] ∗ final W arr m 0 c ∗ final W arr m 1 c ∗ final W arr m 2 c ∗ final W arr m 3 c ∗ final W arr m 4 c)) := by
  unfold bodyAt0
  simp only [cc0_gather_first_weights_eq_skeleton, cc0_gather_first_weights_skel, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, Prog.lift, Prog.bind_op, Prog.bind_ret, Prog.pure_eq_ret, wp_deviceId]
  unfold script tail plan
  refine start₀ W _ _ _ (copy_congr rfl (slot0_eq _ c (off1 c)) rfl) rfl ?_
  refine start₁ W _ _ _ (copy_congr rfl (slot1_eq _ c (off2 c)) rfl) rfl ?_
  refine start₂ W _ _ _ (copy_congr rfl (slot2_eq _ c (off2 c)) rfl) rfl ?_
  refine start₃ W _ _ _ (copy_congr rfl (slot3_eq _ c (off3 c)) rfl) rfl ?_
  refine start₄ W _ _ _ (copy_congr rfl (slot4_eq _ c (off4 c)) rfl) rfl ?_
  refine start₀ W _ _ _ (send_congr (dev1 c) rfl (slot0_eq _ c (off1 c)) rfl rfl) rfl ?_
  refine start₀ W _ _ _ (send_congr (dev2 c) rfl (slot0_eq _ c (off1 c)) rfl rfl) rfl ?_
  refine start₀ W _ _ _ (send_congr (dev3 c) rfl (slot0_eq _ c (off1 c)) rfl rfl) rfl ?_
  refine start₀ W _ _ _ (send_congr (dev4 c) rfl (slot0_eq _ c (off1 c)) rfl rfl) rfl ?_
  refine start₁ W _ _ _ (send_congr (dev5 c) rfl (slot1_eq _ c (off2 c)) rfl rfl) rfl ?_
  refine start₁ W _ _ _ (send_congr (dev6 c) rfl (slot1_eq _ c (off2 c)) rfl rfl) rfl ?_
  refine start₁ W _ _ _ (send_congr (dev7 c) rfl (slot1_eq _ c (off2 c)) rfl rfl) rfl ?_
  refine start₁ W _ _ _ (send_congr (dev8 c) rfl (slot1_eq _ c (off2 c)) rfl rfl) rfl ?_
  refine start₂ W _ _ _ (send_congr (dev9 c) rfl (slot2_eq _ c (off2 c)) rfl rfl) rfl ?_
  refine start₂ W _ _ _ (send_congr (dev10 c) rfl (slot2_eq _ c (off2 c)) rfl rfl) rfl ?_
  refine start₂ W _ _ _ (send_congr (dev11 c) rfl (slot2_eq _ c (off2 c)) rfl rfl) rfl ?_
  refine start₂ W _ _ _ (send_congr (dev12 c) rfl (slot2_eq _ c (off2 c)) rfl rfl) rfl ?_
  refine start₃ W _ _ _ (send_congr (dev13 c) rfl (slot3_eq _ c (off3 c)) rfl rfl) rfl ?_
  refine start₃ W _ _ _ (send_congr (dev14 c) rfl (slot3_eq _ c (off3 c)) rfl rfl) rfl ?_
  refine start₃ W _ _ _ (send_congr (dev15 c) rfl (slot3_eq _ c (off3 c)) rfl rfl) rfl ?_
  refine start₃ W _ _ _ (send_congr (dev16 c) rfl (slot3_eq _ c (off3 c)) rfl rfl) rfl ?_
  refine start₄ W _ _ _ (send_congr (dev17 c) rfl (slot4_eq _ c (off4 c)) rfl rfl) rfl ?_
  refine start₄ W _ _ _ (send_congr (dev18 c) rfl (slot4_eq _ c (off4 c)) rfl rfl) rfl ?_
  refine start₄ W _ _ _ (send_congr (dev19 c) rfl (slot4_eq _ c (off4 c)) rfl rfl) rfl ?_
  refine start₄ W _ _ _ (send_congr (dev20 c) rfl (slot4_eq _ c (off4 c)) rfl rfl) rfl ?_
  refine await₀ W _ _ _ (fun _ => rfl) (by decide) ?_
  refine start₀ W _ _ _ (send_congr (dev21 c) (slot0_eq _ (blk 4 c) (off5 c)) (slot0_eq _ (blk 4 c) (off5 c)) rfl rfl) rfl ?_
  refine await₁ W _ _ _ (fun _ => rfl) (by decide) ?_
  refine start₁ W _ _ _ (send_congr (dev22 c) (slot1_eq _ (blk 4 c) (off6 c)) (slot1_eq _ (blk 4 c) (off6 c)) rfl rfl) rfl ?_
  refine await₂ W _ _ _ (fun _ => rfl) (by decide) ?_
  refine start₂ W _ _ _ (send_congr (dev23 c) (slot2_eq _ (blk 4 c) (off6 c)) (slot2_eq _ (blk 4 c) (off6 c)) rfl rfl) rfl ?_
  refine await₃ W _ _ _ (fun _ => rfl) (by decide) ?_
  refine start₃ W _ _ _ (send_congr (dev24 c) (slot3_eq _ (blk 4 c) (off7 c)) (slot3_eq _ (blk 4 c) (off7 c)) rfl rfl) rfl ?_
  refine await₄ W _ _ _ (fun _ => rfl) (by decide) ?_
  refine start₄ W _ _ _ (send_congr (dev25 c) (slot4_eq _ (blk 4 c) (off8 c)) (slot4_eq _ (blk 4 c) (off8 c)) rfl rfl) rfl ?_
  refine await₀ W _ _ _ (fun _ => rfl) (by decide) ?_
  refine start₀ W _ _ _ (send_congr (dev26 c) (slot0_eq _ (blk 5 c) (off9 c)) (slot0_eq _ (blk 5 c) (off9 c)) rfl rfl) rfl ?_
  refine await₁ W _ _ _ (fun _ => rfl) (by decide) ?_
  refine start₁ W _ _ _ (send_congr (dev27 c) (slot1_eq _ (blk 5 c) (off10 c)) (slot1_eq _ (blk 5 c) (off10 c)) rfl rfl) rfl ?_
  refine await₂ W _ _ _ (fun _ => rfl) (by decide) ?_
  refine start₂ W _ _ _ (send_congr (dev28 c) (slot2_eq _ (blk 5 c) (off10 c)) (slot2_eq _ (blk 5 c) (off10 c)) rfl rfl) rfl ?_
  refine await₃ W _ _ _ (fun _ => rfl) (by decide) ?_
  refine start₃ W _ _ _ (send_congr (dev29 c) (slot3_eq _ (blk 5 c) (off11 c)) (slot3_eq _ (blk 5 c) (off11 c)) rfl rfl) rfl ?_
  refine await₄ W _ _ _ (fun _ => rfl) (by decide) ?_
  refine start₄ W _ _ _ (send_congr (dev30 c) (slot4_eq _ (blk 5 c) (off12 c)) (slot4_eq _ (blk 5 c) (off12 c)) rfl rfl) rfl ?_
  refine await₀ W _ _ _ (fun _ => rfl) (by decide) ?_
  refine start₀ W _ _ _ (send_congr (dev31 c) (slot0_eq _ (blk 6 c) (off13 c)) (slot0_eq _ (blk 6 c) (off13 c)) rfl rfl) rfl ?_
  refine await₁ W _ _ _ (fun _ => rfl) (by decide) ?_
  refine start₁ W _ _ _ (send_congr (dev32 c) (slot1_eq _ (blk 6 c) (off14 c)) (slot1_eq _ (blk 6 c) (off14 c)) rfl rfl) rfl ?_
  refine await₂ W _ _ _ (fun _ => rfl) (by decide) ?_
  refine start₂ W _ _ _ (send_congr (dev33 c) (slot2_eq _ (blk 6 c) (off14 c)) (slot2_eq _ (blk 6 c) (off14 c)) rfl rfl) rfl ?_
  refine await₃ W _ _ _ (fun _ => rfl) (by decide) ?_
  refine start₃ W _ _ _ (send_congr (dev34 c) (slot3_eq _ (blk 6 c) (off15 c)) (slot3_eq _ (blk 6 c) (off15 c)) rfl rfl) rfl ?_
  refine await₄ W _ _ _ (fun _ => rfl) (by decide) ?_
  refine start₄ W _ _ _ (send_congr (dev35 c) (slot4_eq _ (blk 6 c) (off16 c)) (slot4_eq _ (blk 6 c) (off16 c)) rfl rfl) rfl ?_
  refine await₀ W _ _ _ (fun _ => rfl) (by decide) ?_
  refine await₀ W _ _ _ (fun _ => rfl) (by decide) ?_
  refine await₀ W _ _ _ (fun _ => rfl) (by decide) ?_
  refine await₀ W _ _ _ (fun _ => rfl) (by decide) ?_
  refine await₁ W _ _ _ (fun _ => rfl) (by decide) ?_
  refine await₁ W _ _ _ (fun _ => rfl) (by decide) ?_
  refine await₁ W _ _ _ (fun _ => rfl) (by decide) ?_
  refine await₁ W _ _ _ (fun _ => rfl) (by decide) ?_
  refine await₂ W _ _ _ (fun _ => rfl) (by decide) ?_
  refine await₂ W _ _ _ (fun _ => rfl) (by decide) ?_
  refine await₂ W _ _ _ (fun _ => rfl) (by decide) ?_
  refine await₂ W _ _ _ (fun _ => rfl) (by decide) ?_
  refine await₃ W _ _ _ (fun _ => rfl) (by decide) ?_
  refine await₃ W _ _ _ (fun _ => rfl) (by decide) ?_
  refine await₃ W _ _ _ (fun _ => rfl) (by decide) ?_
  refine await₃ W _ _ _ (fun _ => rfl) (by decide) ?_
  refine await₄ W _ _ _ (fun _ => rfl) (by decide) ?_
  refine await₄ W _ _ _ (fun _ => rfl) (by decide) ?_
  refine await₄ W _ _ _ (fun _ => rfl) (by decide) ?_
  refine await₄ W _ _ _ (fun _ => rfl) (by decide) ?_
  refine await₀ W _ _ _ (fun _ => rfl) (by decide) ?_
  refine await₀ W _ _ _ (fun _ => rfl) (by decide) ?_
  refine await₀ W _ _ _ (fun _ => rfl) (by decide) ?_
  refine await₀ W _ _ _ (fun _ => rfl) (by decide) ?_
  refine await₁ W _ _ _ (fun _ => rfl) (by decide) ?_
  refine await₁ W _ _ _ (fun _ => rfl) (by decide) ?_
  refine await₁ W _ _ _ (fun _ => rfl) (by decide) ?_
  refine await₁ W _ _ _ (fun _ => rfl) (by decide) ?_
  refine await₂ W _ _ _ (fun _ => rfl) (by decide) ?_
  refine await₂ W _ _ _ (fun _ => rfl) (by decide) ?_
  refine await₂ W _ _ _ (fun _ => rfl) (by decide) ?_
  refine await₂ W _ _ _ (fun _ => rfl) (by decide) ?_
  refine await₃ W _ _ _ (fun _ => rfl) (by decide) ?_
  refine await₃ W _ _ _ (fun _ => rfl) (by decide) ?_
  refine await₃ W _ _ _ (fun _ => rfl) (by decide) ?_
  refine await₃ W _ _ _ (fun _ => rfl) (by decide) ?_
  refine await₄ W _ _ _ (fun _ => rfl) (by decide) ?_
  refine await₄ W _ _ _ (fun _ => rfl) (by decide) ?_
  refine await₄ W _ _ _ (fun _ => rfl) (by decide) ?_
  refine await₄ W _ _ _ (fun _ => rfl) (by decide) ?_
  refine await₀ W _ _ _ (fun _ => rfl) (by decide) ?_
  refine await₁ W _ _ _ (fun _ => rfl) (by decide) ?_
  refine await₂ W _ _ _ (fun _ => rfl) (by decide) ?_
  refine await₃ W _ _ _ (fun _ => rfl) (by decide) ?_
  refine await₄ W _ _ _ (fun _ => rfl) (by decide) ?_
  refine await₀ W _ _ _ (fun _ => rfl) (by decide) ?_
  refine await₁ W _ _ _ (fun _ => rfl) (by decide) ?_
  refine await₂ W _ _ _ (fun _ => rfl) (by decide) ?_
  refine await₃ W _ _ _ (fun _ => rfl) (by decide) ?_
  refine await₄ W _ _ _ (fun _ => rfl) (by decide) ?_
  refine await₀ W _ _ _ (fun _ => rfl) (by decide) ?_
  refine await₁ W _ _ _ (fun _ => rfl) (by decide) ?_
  refine await₂ W _ _ _ (fun _ => rfl) (by decide) ?_
  refine await₃ W _ _ _ (fun _ => rfl) (by decide) ?_
  refine await₄ W _ _ _ (fun _ => rfl) (by decide) ?_
  refine await₀ W _ _ _ (fun _ => rfl) (by decide) ?_
  refine await₁ W _ _ _ (fun _ => rfl) (by decide) ?_
  refine await₂ W _ _ _ (fun _ => rfl) (by decide) ?_
  refine await₃ W _ _ _ (fun _ => rfl) (by decide) ?_
  refine await₄ W _ _ _ (fun _ => rfl) (by decide) ?_
  rw [wp_ret]; iintro H; imodintro; iexact H

end Cert.KernelIdeal
-- ==== Proof.Shared.Deal.lean ====
/- What the devices of a gather are dealt before they run: of all results' places each device takes those it fills, of all
   rights to raise a semaphore those of its own transfers. -/
module

public import proofs.«01_k».proof.Proof.Shared.Gather

@[expose] public section

noncomputable section

namespace Cert.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)

section Chains

variable {M : Type} [URA M]

theorem seven (Φ : Fin 7 → sProp M) : bigSep Finset.univ Φ = iprop(Φ 0 ∗ Φ 1 ∗ Φ 2 ∗ Φ 3 ∗ Φ 4 ∗ Φ 5 ∗ Φ 6) :=
  BI.bigSep_univ_eq_bigSepL [0, 1, 2, 3, 4, 5, 6] (by decide) (by decide) Φ

theorem fifteen (Φ : Leg → sProp M) : bigSep Finset.univ Φ
    = iprop(Φ (.send 0) ∗ Φ (.send 1) ∗ Φ (.send 2) ∗ Φ (.send 3) ∗ Φ (.send 4) ∗ Φ (.send 5) ∗ Φ (.send 6)
        ∗ Φ (.recv 0) ∗ Φ (.recv 1) ∗ Φ (.recv 2) ∗ Φ (.recv 3) ∗ Φ (.recv 4) ∗ Φ (.recv 5) ∗ Φ (.recv 6) ∗ Φ .loc) :=
  BI.bigSep_univ_eq_bigSepL legs (Finset.ext fun d => by simp [mem_legs d]) legs_nodup Φ

theorem eight (Φ : Dev 8 → sProp M) (c : Dev 8) :
    bigSep Finset.univ Φ = iprop(Φ c ∗ bigSep Finset.univ fun k => Φ (blk k (peer k c))) := by
  rw [seven]
  exact BI.bigSep_eq_bigSepL_of_eq (blocks c) (show Finset.univ = (blocks c).toFinset from Finset.ext fun d => by simp [mem_blocks c d]) (blocks_nodup c) Φ

theorem swap_sums {I J : Type} [Fintype I] [Fintype J] [DecidableEq I] [DecidableEq J] (Φ : I → J → sProp M) :
    (bigSep Finset.univ fun i => bigSep Finset.univ fun j => Φ i j) = bigSep Finset.univ fun j => bigSep Finset.univ fun i => Φ i j := by
  have e₁ := bigSep_univ_prod (fun x : I × J => Φ x.1 x.2)
  have e₂ := bigSep_univ_prod (fun x : J × I => Φ x.2 x.1)
  exact e₁.symm.trans ((bigSep_univ_equiv (Equiv.prodComm J I) (fun x : I × J => Φ x.1 x.2)).trans e₂)

/-- The places of all devices, each with the device that fills it. -/
theorem deal_places (Φ : Dev 8 → Dev 8 → sProp M) : (bigSep Finset.univ fun c => bigSep Finset.univ fun j => Φ c j)
    = bigSep Finset.univ fun c => iprop(Φ c c ∗ bigSep Finset.univ fun k => Φ (peer k c) (blk k c)) := by
  rw [bigSep_congr fun c _ => eight (Φ c) c, bigSep_sep', bigSep_sep', swap_sums, swap_sums (J := Fin 7)]
  congr 1
  refine bigSep_congr fun k _ => ?_
  let e : Dev 8 ≃ Dev 8 := ⟨peer k, peer k, peer_peer k, peer_peer k⟩
  rw [bigSep_univ_equiv e (fun c => Φ c (blk k (peer k c)))]
  refine bigSep_congr fun c _ => ?_
  show Φ (peer k c) (blk k (peer k (peer k c))) = _
  rw [peer_peer]

/-- One thing for each leg of each device, each with the device whose transfer it is. -/
theorem deal_legs (Φ : Dev 8 → Leg → sProp M) : (bigSep Finset.univ fun c => bigSep Finset.univ fun l => Φ c l)
    = bigSep Finset.univ fun c => bigSep Finset.univ fun l => Φ (legDev l c) l := by
  rw [swap_sums, swap_sums (J := Leg)]
  refine bigSep_congr fun l _ => ?_
  let e : Dev 8 ≃ Dev 8 := ⟨legDev l, legDev l, legDev_legDev l, legDev_legDev l⟩
  exact bigSep_univ_equiv e (fun c => Φ c l)

theorem with_known {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Chains

variable {τ : Topo} {sig : RefSig} {Val : EltTy → Type}
variable {A : Type} [Fintype A] [DecidableEq A]
variable (W : Wires sig (A × Leg)) (arr : ∀ a, Arr W a) (m : (ℓ : Loc 8 τ sig) → Buf Val ℓ)

theorem init_eq (a : A) (c : Dev 8) : init W arr m a c = iprop(srcSh W arr m a c fullShare
    ∗ (slotAny W arr a c c ∗ bigSep Finset.univ fun k => slotAny W arr a (peer k c) (blk k c))
    ∗ (bigSep Finset.univ fun l => pos W (c, (a, l))) ∗ (bigSep Finset.univ fun l => tok W (legDev l c, (a, l)))
    ∗ bigSep Finset.univ fun k => credit W (c, (a, Leg.recv k))) := by
  rw [seven, seven, fifteen, fifteen]
  unfold init places waits raises comes
  have h (P₁ P₂ P₃ P₄ : sProp (XM 8 τ sig Val)) : iprop(P₁ ∗ P₂ ∗ P₃ ∗ P₄) = iprop(P₁ ∗ (P₂ ∗ P₃) ∗ P₄) := by
    have h₁ : iprop(P₁ ∗ P₂ ∗ P₃ ∗ P₄) ⊢ iprop(P₁ ∗ (P₂ ∗ P₃) ∗ P₄) := by
      iintro ⟨H₁, H₂, H₃, H₄⟩
      isplitl [H₁]; · iexact H₁
      isplitl [H₂ H₃]; · isplitl [H₂] <;> iassumption
      iexact H₄
    have h₂ : iprop(P₁ ∗ (P₂ ∗ P₃) ∗ P₄) ⊢ iprop(P₁ ∗ P₂ ∗ P₃ ∗ P₄) := by
      iintro ⟨H₁, ⟨H₂, H₃⟩, H₄⟩
      isplitl [H₁]; · iexact H₁
      isplitl [H₂]; · iexact H₂
      isplitl [H₃] <;> iassumption
    exact BI.Entails.antisymm h₁ h₂
  exact h _ _ _ _

theorem zeros_eq (a : A) (c : Dev 8) : (zeros W a c : sProp (XM 8 τ sig Val)) = bigSep Finset.univ fun l => semVal (cell W (c, (a, l))) 0 := by
  rw [fifteen]; rfl

/-- The arrivals of each array, as pairs. -/
def arrivals : A × Fin 7 ↪ A × Leg :=
  ⟨fun x => (x.1, .recv x.2), fun x y h => by obtain ⟨a, k⟩ := x; obtain ⟨b, l⟩ := y; cases h; rfl⟩

/-- Everything the machine holds before a gather, dealt to the devices. -/
theorem deal (ks : List (A × Leg)) (hn : ks.Nodup) (hks : ks.toFinset = Finset.univ.map arrivals) :
    iprop((bigSep Finset.univ fun c : Dev 8 => bigSep Finset.univ fun a => srcSh W arr m a c fullShare)
        ∗ (bigSep Finset.univ fun c : Dev 8 => bigSep Finset.univ fun a => bigSep Finset.univ fun j => slotAny W arr a c j)
        ∗ (bigSep Finset.univ fun ck : Dev 8 × (A × Leg) => pos W ck)
        ∗ (bigSep Finset.univ fun ck : Dev 8 × (A × Leg) => tok W ck)
        ∗ (bigSep Finset.univ fun c : Dev 8 => launchCred (fun d => debt W (due partner d ks)) c))
      ⊢ bigSep Finset.univ fun c : Dev 8 => bigSep Finset.univ fun a => init W arr m a c := by
  have hcr : (bigSep Finset.univ fun c : Dev 8 => launchCred (fun d => debt W (due partner d ks)) c : sProp (XM 8 τ sig Val))
      ⊢ bigSep Finset.univ fun c : Dev 8 => bigSep Finset.univ fun a => bigSep Finset.univ fun k => credit W (c, (a, Leg.recv k)) := by
    refine bigSep_mono fun c _ => ?_
    refine (launch_credit W partner partner (fun k c => legDev_legDev k.2 c) (fun k c => legDev_legDev k.2 c) ks c).trans (Entails.of_eq ?_)
    rw [← BI.bigSep_eq_bigSepL ks hn, hks, bigSep_map]
    exact bigSep_univ_prod (fun x : A × Fin 7 => (credit W (c, arrivals x) : sProp (XM 8 τ sig Val)))
  have hpos : (bigSep Finset.univ fun ck : Dev 8 × (A × Leg) => pos W ck : sProp (XM 8 τ sig Val))
      = bigSep Finset.univ fun c : Dev 8 => bigSep Finset.univ fun a => bigSep Finset.univ fun l => pos W (c, (a, l)) := by
    rw [bigSep_univ_prod]
    exact bigSep_congr fun c _ => bigSep_univ_prod (fun x : A × Leg => (pos W (c, x) : sProp (XM 8 τ sig Val)))
  have htok : (bigSep Finset.univ fun ck : Dev 8 × (A × Leg) => tok W ck : sProp (XM 8 τ sig Val))
      = bigSep Finset.univ fun c : Dev 8 => bigSep Finset.univ fun a => bigSep Finset.univ fun l => tok W (legDev l c, (a, l)) := by
    rw [bigSep_univ_prod, bigSep_congr fun c _ => bigSep_univ_prod (fun x : A × Leg => (tok W (c, x) : sProp (XM 8 τ sig Val))),
      swap_sums, swap_sums (J := A)]
    exact bigSep_congr fun a _ => deal_legs (fun c l => (tok W (c, (a, l)) : sProp (XM 8 τ sig Val)))
  have hslot : (bigSep Finset.univ fun c : Dev 8 => bigSep Finset.univ fun a => bigSep Finset.univ fun j => slotAny W arr a c j : sProp (XM 8 τ sig Val))
      = bigSep Finset.univ fun c : Dev 8 => bigSep Finset.univ fun a => iprop(slotAny W arr a c c ∗ bigSep Finset.univ fun k => slotAny W arr a (peer k c) (blk k c)) := by
    rw [swap_sums, swap_sums (J := A)]
    exact bigSep_congr fun a _ => deal_places (slotAny W arr a)
  simp only [init_eq]
  rw [hpos, htok, hslot]
  simp only [bigSep_sep']
  iintro ⟨H1, H2, H3, H4, H5⟩
  ihave H5 := hcr $$ H5
  isplitl [H1]; · iexact H1
  isplitl [H2]; · iexact H2
  isplitl [H3]; · iexact H3
  isplitl [H4] <;> iassumption

/-! ### The places of one result -/

section Whole

variable {nD : Nat} {Ix : Type} [DecidableEq Ix] {Name : Type} [DecidableEq Name] {U : Type} [URA U] {Lvl : Type} [Preorder Lvl]

local notation "𝕄" => MT nD τ sig Ix Val Name U Lvl

/-- A buffer is its parts. -/
theorem split_parts {J : Type} [Fintype J] [DecidableEq J] {ℓ : Loc nD τ sig} (S : J → Finset (Idx ℓ)) (hd : ∀ t t', t ≠ t' → Disjoint (S t) (S t'))
    (hc : ∀ i, ∃ t, i ∈ S t) (f : Buf Val ℓ) :
    (ℓ ↦{fullShare} f : sProp 𝕄) ⊢ bigSep Finset.univ fun t => iprop(∃ g, ℓ ↦[S t]{fullShare} g) := by
  have hu : (Finset.univ : Finset (Idx ℓ)) = Finset.univ.biUnion S := Finset.ext fun i => by simp [hc i]
  have h : (ℓ ↦{fullShare} f : sProp 𝕄) = bigSep Finset.univ fun t => ℓ ↦[S t]{fullShare} f := by
    rw [← pointsTo_biUnion Finset.univ S fun t _ t' _ => hd t t', ← hu]
  rw [h]
  have h₁ (t : J) : (ℓ ↦[S t]{fullShare} f : sProp 𝕄) ⊢ iprop(∃ g, ℓ ↦[S t]{fullShare} g) := by iintro H; iexists f; iexact H
  exact bigSep_mono fun t _ => h₁ t

theorem pure_parts {J : Type} [DecidableEq J] (S : Finset J) (P : J → Prop) (Φ : J → sProp 𝕄) :
    (bigSep S fun t => iprop(⌜P t⌝ ∗ Φ t) : sProp 𝕄) ⊢ iprop(⌜∀ t ∈ S, P t⌝ ∗ bigSep S Φ) := by
  induction S using Finset.induction_on with
  | empty =>
    rw [bigSep_empty, bigSep_empty]
    iintro H
    isplitr; · ipureintro; exact fun t ht => absurd ht (Finset.notMem_empty t)
    iexact H
  | insert t S ht ih =>
    rw [bigSep_insert ht, bigSep_insert ht]
    show iprop((⌜P t⌝ ∗ Φ t) ∗ bigSep S fun t => iprop(⌜P t⌝ ∗ Φ t)) ⊢ iprop(⌜∀ u ∈ insert t S, P u⌝ ∗ (Φ t ∗ bigSep S Φ))
    iintro ⟨⟨%h, Ht⟩, HS⟩
    ihave HS := ih $$ HS
    icases HS with ⟨%hS, HS⟩
    isplitr
    · ipureintro
      intro u hu
      rcases Finset.mem_insert.mp hu with rfl | hu
      · exact h
      · exact hS u hu
    isplitl [Ht] <;> iassumption

/-- Parts that hold what they should make a buffer that does. -/
theorem join_parts {J : Type} [Fintype J] [DecidableEq J] {ℓ : Loc nD τ sig} (S : J → Finset (Idx ℓ)) (hd : ∀ t t', t ≠ t' → Disjoint (S t) (S t'))
    (hc : ∀ i, ∃ t, i ∈ S t) (P : J → Buf Val ℓ → Prop) (hP : ∀ t f g, (∀ i ∈ S t, g i = f i) → P t f → P t g) (f₀ : Buf Val ℓ) :
    (bigSep Finset.univ fun t => iprop(∃ g, ⌜P t g⌝ ∗ ℓ ↦[S t]{fullShare} g) : sProp 𝕄) ⊢ iprop(∃ g, ⌜∀ t, P t g⌝ ∗ ℓ ↦{fullShare} g) := by
  haveI : Nonempty (Buf Val ℓ) := ⟨f₀⟩
  have hu : (Finset.univ : Finset (Idx ℓ)) = Finset.univ.biUnion S := Finset.ext fun i => by simp [hc i]
  have hj (fs : J → Buf Val ℓ) := pointsTo_biUnion_join (Ix := Ix) (Name := Name) (U := U) (Lvl := Lvl) (q := fullShare) Finset.univ S fs f₀ fun t _ t' _ => hd t t'
  rw [← hu] at hj
  have hp (fs : J → Buf Val ℓ) : (bigSep Finset.univ fun t => iprop(⌜P t (fs t)⌝ ∗ ℓ ↦[S t]{fullShare} fs t) : sProp 𝕄)
      ⊢ iprop(⌜∀ t, P t (fs t)⌝ ∗ bigSep Finset.univ fun t => ℓ ↦[S t]{fullShare} fs t) := by
    refine (pure_parts Finset.univ (fun t => P t (fs t)) _).trans ?_
    iintro ⟨%h, H⟩
    isplitr; · ipureintro; exact fun t => h t (Finset.mem_univ t)
    iexact H
  iintro H
  ihave H := (BI.bigSep_exists_pi Finset.univ (fun (t : J) (g : Buf Val ℓ) => (iprop(⌜P t g⌝ ∗ ℓ ↦[S t]{fullShare} g) : sProp 𝕄))) $$ H
  icases H with ⟨%fs, H⟩
  ihave H := (hp fs) $$ H
  icases H with ⟨%hfs, H⟩
  ihave H := (hj fs) $$ H
  icases H with ⟨%g, %hg, H⟩
  iexists g
  isplitr
  · ipureintro; exact fun t => hP t (fs t) g (hg t (Finset.mem_univ t)) (hfs t)
  iexact H

end Whole

end Cert.Shared
-- ==== Proof.Shared.Launch.lean ====
/- The launch of one exchange kernel over all devices of the mesh. Before any device runs, one step over the whole
   machine sorts what each device holds — its semaphores at zero, its arrays, the credit its peers' debts give it — so
   that a device can be handed places in another device's memory from the very start. The library's launches let the
   step over the machine see the semaphores only; a kernel whose devices write into one another without first
   exchanging a signal needs it to see the arrays too. -/
module

public import Idealize.ShloMosaic.Lib.Pipeline.Launch
public import Idealize.ShloMosaic.Lib.Pipeline.Kit

@[expose] public section

noncomputable section

namespace Cert.Shared

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- Every device's fresh levels, set at once for the whole machine: only TensorCore cells have an index. -/
theorem levels_set (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  refine ((bigSep_mono fun c _ => lev_assign_cells (c.tc : Thread nD τ) L lv).trans (bigSep_bupd _ _)).trans (bupd_mono ?_)
  have hoff : ∀ t : Thread nD τ, t.2 ≠ .tc → (coreLevAts t L lv : sProp 𝕄) = BI.emp := fun t ht => by
    unfold coreLevAts
    rw [bigSep_congr (Ψ := fun _ : SemLoc sig => (BI.emp : sProp 𝕄)) fun sm _ => by rw [hL (t, sm) ht, bigSep_empty], bigSep_emp_const]
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ => by
      rw [bigSep_congr (Ψ := fun _ : Proc τ => (BI.emp : sProp 𝕄)) fun q hq => hoff (d, q) (Finset.ne_of_mem_erase hq), bigSep_emp_const],
      bigSep_emp_const]
  have hall : (levAts L lv : sProp 𝕄) = bigSep Finset.univ fun t : Thread nD τ => coreLevAts t L lv :=
    bigSep_univ_prod fun g : GSem nD τ sig => bigSep (L g) fun i => levAt g i (lv g i)
  rw [hall, bigSep_threads (fun t : Thread nD τ => coreLevAts t L lv), hrest]
  have hone : ∀ c : Dev nD, (iprop((bigSep Finset.univ fun sm : SemLoc sig => levels ((c.tc : Thread nD τ), sm) (L ((c.tc : Thread nD τ), sm))) ∗ coreLevAts (c.tc : Thread nD τ) L lv) : sProp 𝕄)
      ⊢ (coreLevAts (c.tc : Thread nD τ) L lv : sProp 𝕄) := fun c => by
    iintro ⟨-, H⟩; iexact H
  have hemp : ∀ A : sProp 𝕄, A ⊢ iprop(A ∗ BI.emp) := fun A => by
    iintro H; isplitl [H]; · iexact H
    iempintro
  exact (bigSep_mono (Ψ := fun c : Dev nD => coreLevAts (c.tc : Thread nD τ) L lv) fun c _ => hone c).trans (hemp _)

variable {Λ₀ : Idealize.SL.Sem.Labels} {P : Type} [Fintype P] [DecidableEq P]
variable (cfgs : P → Cfg sig Λ₀) (dats : (p : P) → (c : Dev nD) → Dat τ Val Ix Name U Lvl (cfgs p) c) (ι : Ix)
variable (hinj : Function.Injective (cellOf (nD := nD) (τ := τ) cfgs)) (p : P)
variable {K : Type} [Fintype K] {osem : K → SemLoc sig}
variable (hw : WinFacts₀ (cfgs p).spec) (ho : OwnSemFacts (cfgs p).spec osem)
variable (EP : Emb (URounds (GSem nD τ sig) Unit) (MT nD τ sig Ix Val Name U Lvl))
variable (defs₀ : Defs nD τ sig Val Λ₀) (𝒱₀ : Variants)

/-- The configurations as ones without prefetched tables. -/
abbrev bare (Val : EltTy → Type) (cfgs : P → Cfg sig Λ₀) : P → PCfg sig Λ₀ Val := fun q => (cfgs q).toPCfg
/-- The tables of none. -/
abbrev bareAdm (Val : EltTy → Type) (cfgs : P → Cfg sig Λ₀) : (q : P) → (bare Val cfgs q).Adm := fun q => (cfgs q).toPCfg_adm

local notation "𝔻" => Pipeline.defs (bare Val cfgs) defs₀
local notation "𝕍" => Variants.lift 𝒱₀

include hinj hw ho in
/-- One kernel launch on every device, its devices owing `O₀` at the start, with the machine-wide step `hdeal` seeing
    every device's semaphores, arrays outside the windows and credit at once. -/
theorem θ_run_exchange [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun q => (bare Val cfgs q).Adm) .tc) PUnit)
    (hmain : ∀ c, main c = .op (.customCall (entry p) ()) fun _ => .ret ⟨⟩)
    (hbody : ∀ c, BodyObligationLoose (dats p c) defs₀ 𝒱₀ ι Set.univ)
    (hne : ∀ w : Fin (cfgs p).W, 0 < ((cfgs p).spec w).block.numel)
    (harr : ∀ w, ((cfgs p).spec w).arr.IsWhole) (hstage : ∀ w s, (((cfgs p).spec w).stage s).IsWhole)
    (hshare : ∀ c w, (dats p c).share w = fullShare) (hdistinct : Function.Injective (arrRef (cfgs p).spec))
    (O₀ : Dev nD → CellTallies nD τ sig Ix) (howed₀ : ∀ c, (dats p c).owed 0 = O₀ c) (howedN : ∀ c, (dats p c).owed (Fin.last _) = 0)
    (L : GSem nD τ sig → Finset Ix) (lv : GSem nD τ sig → Ix → Lvl) (hL : ∀ g : GSem nD τ sig, g.1.2 ≠ .tc → L g = ∅)
    (hwaits : ∀ c, (levAts L lv : sProp 𝕄) ⊢ cellsWaits cfgs dats ι p c)
    (G : sProp 𝕄) (u₀ : U)
    (hu₀ : (ownU u₀ : sProp 𝕄)
      ⊢ |={Set.univ}=> iprop(BI.own (EP (initOf (cells cfgs hinj) (launchToks cfgs hinj))) ∗ G))
    (hA : ∀ c w, (dats p c).A w = m (((cfgs p).spec w).arr.view.loc (c.tc : Thread nD τ)))
    (X Y : Dev nD → sProp 𝕄)
    (hdeal : iprop(levAts L lv ∗ (bigSep Finset.univ fun c : Dev nD => ownSems0 osem c)
        ∗ (bigSep Finset.univ fun c : Dev nD => unscopedRest (cfgs p).spec c fun b => m ((c.tc : Thread nD τ).loc b))
        ∗ (bigSep Finset.univ fun c : Dev nD => launchCred O₀ c) ∗ G)
      ⊢ |={Set.univ}=> bigSep Finset.univ X)
    (hin : ∀ c, iprop(X c ∗ scopedRest (cfgs p).spec c) ⊢ (dats p c).Φ 0)
    (hout : ∀ c, (dats p c).Φ (Fin.last (cfgs p).N) ⊢ iprop(Y c ∗ ownSems0 osem c ∗ scopedRest (cfgs p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((cfgs p).spec w).arr.view.loc (c.tc : Thread nD τ)) = (dats p c).arrAt w (cfgs p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hss := fun c : Dev nD => Pipeline.scopedSems0_split cfgs hinj p hw ho (Ix := Ix) (Val := Val) (Name := Name) (U := U) (Lvl := Lvl) c
  have hsb := fun c : Dev nD => Pipeline.scopedBufs_split cfgs p hw.stage_scoped hw.stage_inj hstage c (nD := nD) (τ := τ) (Ix := Ix) (Val := Val) (Name := Name) (U := U) (Lvl := Lvl)
  -- what a device holds when it starts, and what it has at its return
  let start : Dev nD → sProp 𝕄 := fun c => iprop(scopedBufs (c.tc : Thread nD τ) ∗ (cellsSems0 cfgs p c ∗ Pipeline.idleSems0 cfgs hinj p ho c)
    ∗ (bigSep Finset.univ fun w => (((c.tc : Thread nD τ).loc (arrRef (cfgs p).spec w)) ↦{fullShare} m ((c.tc : Thread nD τ).loc (arrRef (cfgs p).spec w)) : sProp 𝕄))
    ∗ owes (c.tc : Thread nD τ) (O₀ c) ∅ ∗ levAts L lv ∗ cellsGhost cfgs EP p c ∗ toksInit cfgs EP p c ∗ X c)
  let stop : Dev nD → sProp 𝕄 := fun c => iprop((dats p c).arrays ((dats p c).arrAt · (cfgs p).N) ∗ Y c ∗ scopedSems0 (c.tc : Thread nD τ))
  refine (θ_run 𝔻 _ _).mono (Q := fun r => (∀ c : Dev nD, ((∀ w, r.2.mem (((cfgs p).spec w).arr.view.loc (c.tc : Thread nD τ)) = (dats p c).arrAt w (cfgs p).N) ∧ QY c r.2)
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => start) (fun _ => stop)
      (fun _ => iprop(emp)) Set.univ ?_ (fun _ c => ?_) fun _ => ?_))
  · -- before any device runs
    have hdev (c : Dev nD) :
        coreInit (Ix := Ix) (Name := Name) (U := U) (Lvl := Lvl) (owing O₀) 0 (⟨m, fun _ => 0, g⟩ : MemSt nD τ sig Val) (c.tc : Thread nD τ)
          ⊢ iprop((scopedBufs (c.tc : Thread nD τ) ∗ (cellsSems0 cfgs p c ∗ Pipeline.idleSems0 cfgs hinj p ho c)
              ∗ (bigSep Finset.univ fun w => (((c.tc : Thread nD τ).loc (arrRef (cfgs p).spec w)) ↦{fullShare} m ((c.tc : Thread nD τ).loc (arrRef (cfgs p).spec w)) : sProp 𝕄))
              ∗ owes (c.tc : Thread nD τ) (O₀ c) ∅)
            ∗ ownSems0 osem c ∗ (unscopedRest (cfgs p).spec c fun b => m ((c.tc : Thread nD τ).loc b)) ∗ levels0 c ∗ launchCred O₀ c) := by
      refine (coreInit_boundary_owing O₀ m g c).trans ?_
      unfold boundary
      rw [hss c, Pipeline.unscopedBufs_split cfgs p hw.arr_unscoped hdistinct c]
      iintro ⟨⟨Hsc, ⟨⟨Hcells, Hos⟩, Hidle⟩, -⟩, ⟨Harr, Hrest⟩, -, How, Hlv, -, Hcr⟩
      isplitl [Hsc Hcells Hidle Harr How]
      · isplitl [Hsc]; · iexact Hsc
        isplitl [Hcells Hidle]; · isplitl [Hcells] <;> iassumption
        isplitl [Harr] <;> iassumption
      isplitl [Hos]; · iexact Hos
      isplitl [Hrest]; · iexact Hrest
      isplitl [Hlv] <;> iassumption
    have hone (Φ : P → Dev nD → sProp 𝕄) :
        (bigSep Finset.univ fun c : Dev nD => bigSep Finset.univ fun q => Φ q c) ⊢ bigSep Finset.univ fun c : Dev nD => Φ p c :=
      bigSep_mono fun c _ => bigSep_elim (Finset.mem_univ p)
    have hdevs := bigSep_mono (s := (Finset.univ : Finset (Dev nD))) fun c _ => hdev c
    simp only [bigSep_sep'] at hdevs
    iintro ⟨Hcores, Hu⟩
    ihave Hc := (show _ ⊢ _ from hdevs) $$ Hcores
    icases Hc with ⟨⟨Hsc, ⟨Hcells, Hidle⟩, Harr, How⟩, Hos, Hrest, Hlv, Hcr⟩
    imod (levels_set L lv hL) $$ Hlv with #Hla
    imod hu₀ $$ Hu with ⟨HP, HG⟩
    imod (fund_ghost cfgs EP hinj) $$ HP with ⟨Hg, Ht⟩
    imod hdeal $$ [Hos Hrest Hcr HG] with HX
    · isplitr; · iexact Hla
      isplitl [Hos]; · iexact Hos
      isplitl [Hrest]; · iexact Hrest
      isplitl [Hcr] <;> iassumption
    imodintro
    iexists ()
    isplitr []
    · simp only [start, bigSep_sep']
      isplitl [Hsc]; · iexact Hsc
      isplitl [Hcells Hidle]; · isplitl [Hcells] <;> iassumption
      isplitl [Harr]; · iexact Harr
      isplitl [How]; · iexact How
      isplitr; · iapply (bigSep_intro_persistent (S := Finset.univ) fun (c : Dev nD) _ => (BI.Entails.refl (levAts L lv : sProp 𝕄))); iexact Hla
      isplitl [Hg]; · iapply (hone fun q c => cellsGhost cfgs EP q c); iexact Hg
      isplitl [Ht]; · iapply (hone fun q c => toksInit cfgs EP q c); iexact Ht
      iexact HX
    · iempintro
  · -- one device's run
    have harr₀ : (bigSep Finset.univ fun w => (((c.tc : Thread nD τ).loc (arrRef (cfgs p).spec w)) ↦{fullShare} m ((c.tc : Thread nD τ).loc (arrRef (cfgs p).spec w)) : sProp 𝕄))
        ⊢ (dats p c).arrays ((dats p c).arrAt · 0) := by
      rw [Pipeline.arrays_eq cfgs dats p c harr (hshare c)]
      exact Entails.of_eq (bigSep_congr fun w _ => by
        rw [show (dats p c).arrAt w 0 = (dats p c).A w from rfl, hA])
    have hend : iprop((dats p c).Φ (Fin.last (cfgs p).N) ∗ cellsSems0 cfgs p c ∗ Dat.staging (cfgs p) c ∗ Pipeline.idleSems0 cfgs hinj p ho c)
        ⊢ iprop(Y c ∗ scopedSems0 (c.tc : Thread nD τ) ∗ scopedBufs (c.tc : Thread nD τ)) := by
      rw [hss c, hsb c]
      iintro ⟨HΦ, Hcells, Hst, Hidle⟩
      ihave H := (hout c) $$ HΦ
      icases H with ⟨HY, Hos, Hr⟩
      isplitl [HY]; · iexact HY
      isplitl [Hcells Hos Hidle]
      · isplitl [Hcells Hos]; · isplitl [Hcells] <;> iassumption
        iexact Hidle
      isplitl [Hst] <;> iassumption
    have hbegin : iprop(X c ∗ prefHeld (bare Val cfgs p).pre c (fun _ => fullShare) (bareAdm Val cfgs p).1 ∗ scopedRest (cfgs p).spec c) ⊢ (dats p c).Φ 0 := by
      iintro ⟨HX, -, Hr⟩
      iapply (hin c)
      isplitl [HX] <;> iassumption
    simp only [start]
    rw [hmain c]
    iintro ⟨Hsc, ⟨Hcells, Hidle⟩, Harr, HL, #Hla, Hg, Ht, HX⟩
    ihave Hw := (hwaits c) $$ Hla
    iapply (fupd_wp frame (wpE 𝔻 𝕍 (c.tc : Thread nD τ) none) Set.univ _ _)
    imod (Pipeline.cellsInit_alloc cfgs dats EP hinj p c) $$ [Hcells Hg] with ⟨%κ, -, Hinit⟩
    · isplitl [Hcells] <;> iassumption
    imodintro
    iapply (Pipeline.wp_customCall_entry_frame (bare Val cfgs) (bareAdm Val cfgs) dats ι EP κ hinj p defs₀ 𝒱₀ (fun _ => fullShare) c Set.univ (fun _ _ => Set.mem_univ _)
        (hbody c) hne none (fun u h => nomatch h) (X := X c) (Y := Y c) (R := scopedRest (cfgs p).spec c) (I := Pipeline.idleSems0 cfgs hinj p ho c)
        (Entails.of_eq (hsb c)) hbegin hend
        (k := fun _ => .ret ⟨⟩) (Q := fun _ => post (liftTc stop BI.emp) (c.tc : Thread nD τ))) $$ [Harr HL Hinit Ht HX Hidle Hsc Hw]
    · isplitl [Harr HL Hinit Ht Hw]
      · unfold Pipeline.EntryPre PerCore.EntryPre Dat.owesAt owesWithin
        rw [howed₀ c]
        isplitl [Harr]; · iapply harr₀; iexact Harr
        isplitl [HL]
        · iexists ∅; isplitr; · ipureintro; rw [Finset.coe_empty]; exact Set.empty_subset _
          iexact HL
        isplitl [Hw]; · iexact Hw
        isplitl [Hinit] <;> iassumption
      isplitr; · unfold prefHeld; iapply (Entails.of_eq (bigSep_empty (I := Fin 0)).symm); iempintro
      isplitl [HX]; · iexact HX
      isplitl [Hidle]; · iexact Hidle
      iexact Hsc
    iintro ⟨Hpost, HY, Hss2, -⟩
    rw [wp_ret]; imodintro
    unfold post Pipeline.EntryPost PerCore.EntryPost Dat.owesAt owesWithin; simp only [liftTc_tc, stop]
    rw [howedN c]
    icases Hpost with ⟨Ha, ⟨%W, -, HW⟩⟩
    isplitr [HW]
    · isplitl [Ha]; · iexact Ha
      isplitl [HY] <;> iassumption
    · iexists W; iexact HW
  · -- the final state
    have hread (c : Dev nD) (s' : Phys nD τ sig Val) : iprop(stop c ∗ SI s') ⊢ |={Set.univ}=>
        iprop(⌜((∀ w, s'.mem.mem (((cfgs p).spec w).arr.view.loc (c.tc : Thread nD τ)) = (dats p c).arrAt w (cfgs p).N) ∧ QY c s'.mem)
          ∧ ∀ sm : SemLoc sig, sm.isScoped .tc = true → s'.mem.sem ((c.tc : Thread nD τ), sm) = 0⌝ ∗ SI s') := by
      simp only [stop]
      rw [Pipeline.arrays_eq cfgs dats p c harr (hshare c)]
      iintro ⟨⟨Ha, HY, Hss⟩, HSI⟩
      ihave %hz := (tcScoped_read_pers c s') $$ [Hss HSI]
      · isplitl [Hss] <;> iassumption
      ihave Hr := (pointsTo_read_all Finset.univ (fun w => (c.tc : Thread nD τ).loc (arrRef (cfgs p).spec w)) _ s') $$ [Ha HSI]
      · isplitl [Ha] <;> iassumption
      icases Hr with ⟨%ha, HSI⟩
      imod (hY c s') $$ [HY HSI] with ⟨%hy, HSI⟩
      · isplitl [HY] <;> iassumption
      imodintro
      isplitr
      · ipureintro; exact ⟨⟨fun w => ha w (Finset.mem_univ w), hy⟩, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro; ipureintro
    exact ⟨fun c => h c (Finset.mem_univ c), hsc⟩

end Cert.Shared

end
-- ==== Proof.Run.lean ====
/- The run of the gather on eight devices: before any device runs, the places of all results and the rights to raise the
   semaphores are dealt to the devices that use them; at the end every device holds every block of every array. -/
module

public import proofs.«01_k».proof.Proof.Body
public import proofs.«01_k».proof.Proof.Shared.Deal
public import proofs.«01_k».proof.Proof.Shared.Launch

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose launchCred)
open Cert.KernelIdeal.Gen Cert.Shared

variable {F : FTy → Type} [FloatOps F]

abbrev XK (F : FTy → Type) : Type := XM nD τ sig (Elt F)

theorem mem_slot0 (j : Dev 8) (i : S8x4096x2560.Idx) : i ∈ (slot0 j).view.set ↔ (i 0).val = j.val := by
  have e : (slot0 j).view.set = (Rect.unit (s := S8x4096x2560) ![j.val, 0, 0] S1x4096x2560.size (inb0 j)).set :=
    (View.set_reshape ((View.whole main_v1_0).slice _) _).trans (View.set_slice_whole _ _)
  rw [e]
  refine Rect.mem_set_unit.trans ?_
  constructor
  · intro h
    have h0 : j.val ≤ (i 0).val ∧ (i 0).val < j.val + 1 := h 0
    omega
  · intro h a
    match a with
    | ⟨0, _⟩ => exact ⟨le_of_eq h.symm, by show (i 0).val < j.val + 1; omega⟩
    | ⟨1, hk⟩ => exact ⟨Nat.zero_le _, lt_of_lt_of_eq (i ⟨1, hk⟩).isLt (Nat.zero_add _).symm⟩
    | ⟨2, hk⟩ => exact ⟨Nat.zero_le _, lt_of_lt_of_eq (i ⟨2, hk⟩).isLt (Nat.zero_add _).symm⟩
theorem apart_slot0 (j j' : Dev 8) (h : j ≠ j') : Disjoint (slot0 j).view.set (slot0 j').view.set :=
  Finset.disjoint_left.mpr fun i hi hi' => h (Fin.ext (((mem_slot0 j i).mp hi).symm.trans ((mem_slot0 j' i).mp hi')))
theorem cover_slot0 (i : S8x4096x2560.Idx) : ∃ j : Dev 8, i ∈ (slot0 j).view.set := ⟨⟨(i 0).val, (i 0).isLt⟩, (mem_slot0 _ i).mpr rfl⟩

variable (m : (ℓ : Loc nD τ sig) → Buf (Elt F) ℓ)

theorem split_out0 (c : Dev nD) (f : Buf (Elt F) ((c.tc : Thread nD τ).loc main_v1_0)) :
    (((c.tc : Thread nD τ).loc main_v1_0) ↦{fullShare} f : sProp (XK F)) ⊢ bigSep Finset.univ fun j => slotAny W arr 0 c j :=
  split_parts (ℓ := (c.tc : Thread nD τ).loc main_v1_0) (fun j => (slot0 j).view.set) apart_slot0 cover_slot0 f

theorem join_out0 (c : Dev nD) : (bigSep Finset.univ fun j => full W arr m 0 c j : sProp (XK F))
    ⊢ iprop(∃ G : Buf (Elt F) ((c.tc : Thread nD τ).loc main_v1_0), ⌜∀ j, (slot0 j).view.read (Elt F) G = block W arr m 0 j⌝
        ∗ (((c.tc : Thread nD τ).loc main_v1_0) ↦{fullShare} G)) :=
  join_parts (ℓ := (c.tc : Thread nD τ).loc main_v1_0) (fun j => (slot0 j).view.set) apart_slot0 cover_slot0
    (fun j G => (slot0 j).view.read (Elt F) G = block W arr m 0 j)
    (fun j f g h hf => (View.read_congr (v := (slot0 j).view) h).trans hf) (m ((c.tc : Thread nD τ).loc main_v1_0))

theorem src_whole0 (c : Dev nD) : (srcSh W arr m 0 c fullShare : sProp (XK F))
    = (((c.tc : Thread nD τ).loc main_arg0) ↦{fullShare} m ((c.tc : Thread nD τ).loc main_arg0)) := by
  show (((c.tc : Thread nD τ).loc main_arg0) ↦[(View.whole main_arg0).set]{fullShare} m ((c.tc : Thread nD τ).loc main_arg0) : sProp (XK F)) = _
  rw [View.set_whole]

omit m

theorem mem_slot1 (j : Dev 8) (i : S8x16x32x256.Idx) : i ∈ (slot1 j).view.set ↔ (i 0).val = j.val := by
  have e : (slot1 j).view.set = (Rect.unit (s := S8x16x32x256) ![j.val, 0, 0, 0] S1x16x32x256.size (inb1 j)).set :=
    (View.set_reshape ((View.whole main_v1_1).slice _) _).trans (View.set_slice_whole _ _)
  rw [e]
  refine Rect.mem_set_unit.trans ?_
  constructor
  · intro h
    have h0 : j.val ≤ (i 0).val ∧ (i 0).val < j.val + 1 := h 0
    omega
  · intro h a
    match a with
    | ⟨0, _⟩ => exact ⟨le_of_eq h.symm, by show (i 0).val < j.val + 1; omega⟩
    | ⟨1, hk⟩ => exact ⟨Nat.zero_le _, lt_of_lt_of_eq (i ⟨1, hk⟩).isLt (Nat.zero_add _).symm⟩
    | ⟨2, hk⟩ => exact ⟨Nat.zero_le _, lt_of_lt_of_eq (i ⟨2, hk⟩).isLt (Nat.zero_add _).symm⟩
    | ⟨3, hk⟩ => exact ⟨Nat.zero_le _, lt_of_lt_of_eq (i ⟨3, hk⟩).isLt (Nat.zero_add _).symm⟩
theorem apart_slot1 (j j' : Dev 8) (h : j ≠ j') : Disjoint (slot1 j).view.set (slot1 j').view.set :=
  Finset.disjoint_left.mpr fun i hi hi' => h (Fin.ext (((mem_slot1 j i).mp hi).symm.trans ((mem_slot1 j' i).mp hi')))
theorem cover_slot1 (i : S8x16x32x256.Idx) : ∃ j : Dev 8, i ∈ (slot1 j).view.set := ⟨⟨(i 0).val, (i 0).isLt⟩, (mem_slot1 _ i).mpr rfl⟩

variable (m : (ℓ : Loc nD τ sig) → Buf (Elt F) ℓ)

theorem split_out1 (c : Dev nD) (f : Buf (Elt F) ((c.tc : Thread nD τ).loc main_v1_1)) :
    (((c.tc : Thread nD τ).loc main_v1_1) ↦{fullShare} f : sProp (XK F)) ⊢ bigSep Finset.univ fun j => slotAny W arr 1 c j :=
  split_parts (ℓ := (c.tc : Thread nD τ).loc main_v1_1) (fun j => (slot1 j).view.set) apart_slot1 cover_slot1 f

theorem join_out1 (c : Dev nD) : (bigSep Finset.univ fun j => full W arr m 1 c j : sProp (XK F))
    ⊢ iprop(∃ G : Buf (Elt F) ((c.tc : Thread nD τ).loc main_v1_1), ⌜∀ j, (slot1 j).view.read (Elt F) G = block W arr m 1 j⌝
        ∗ (((c.tc : Thread nD τ).loc main_v1_1) ↦{fullShare} G)) :=
  join_parts (ℓ := (c.tc : Thread nD τ).loc main_v1_1) (fun j => (slot1 j).view.set) apart_slot1 cover_slot1
    (fun j G => (slot1 j).view.read (Elt F) G = block W arr m 1 j)
    (fun j f g h hf => (View.read_congr (v := (slot1 j).view) h).trans hf) (m ((c.tc : Thread nD τ).loc main_v1_1))

theorem src_whole1 (c : Dev nD) : (srcSh W arr m 1 c fullShare : sProp (XK F))
    = (((c.tc : Thread nD τ).loc main_arg1) ↦{fullShare} m ((c.tc : Thread nD τ).loc main_arg1)) := by
  show (((c.tc : Thread nD τ).loc main_arg1) ↦[(View.whole main_arg1).set]{fullShare} m ((c.tc : Thread nD τ).loc main_arg1) : sProp (XK F)) = _
  rw [View.set_whole]

omit m

theorem mem_slot2 (j : Dev 8) (i : S8x16x32x256.Idx) : i ∈ (slot2 j).view.set ↔ (i 0).val = j.val := by
  have e : (slot2 j).view.set = (Rect.unit (s := S8x16x32x256) ![j.val, 0, 0, 0] S1x16x32x256.size (inb2 j)).set :=
    (View.set_reshape ((View.whole main_v1_2).slice _) _).trans (View.set_slice_whole _ _)
  rw [e]
  refine Rect.mem_set_unit.trans ?_
  constructor
  · intro h
    have h0 : j.val ≤ (i 0).val ∧ (i 0).val < j.val + 1 := h 0
    omega
  · intro h a
    match a with
    | ⟨0, _⟩ => exact ⟨le_of_eq h.symm, by show (i 0).val < j.val + 1; omega⟩
    | ⟨1, hk⟩ => exact ⟨Nat.zero_le _, lt_of_lt_of_eq (i ⟨1, hk⟩).isLt (Nat.zero_add _).symm⟩
    | ⟨2, hk⟩ => exact ⟨Nat.zero_le _, lt_of_lt_of_eq (i ⟨2, hk⟩).isLt (Nat.zero_add _).symm⟩
    | ⟨3, hk⟩ => exact ⟨Nat.zero_le _, lt_of_lt_of_eq (i ⟨3, hk⟩).isLt (Nat.zero_add _).symm⟩
theorem apart_slot2 (j j' : Dev 8) (h : j ≠ j') : Disjoint (slot2 j).view.set (slot2 j').view.set :=
  Finset.disjoint_left.mpr fun i hi hi' => h (Fin.ext (((mem_slot2 j i).mp hi).symm.trans ((mem_slot2 j' i).mp hi')))
theorem cover_slot2 (i : S8x16x32x256.Idx) : ∃ j : Dev 8, i ∈ (slot2 j).view.set := ⟨⟨(i 0).val, (i 0).isLt⟩, (mem_slot2 _ i).mpr rfl⟩

variable (m : (ℓ : Loc nD τ sig) → Buf (Elt F) ℓ)

theorem split_out2 (c : Dev nD) (f : Buf (Elt F) ((c.tc : Thread nD τ).loc main_v1_2)) :
    (((c.tc : Thread nD τ).loc main_v1_2) ↦{fullShare} f : sProp (XK F)) ⊢ bigSep Finset.univ fun j => slotAny W arr 2 c j :=
  split_parts (ℓ := (c.tc : Thread nD τ).loc main_v1_2) (fun j => (slot2 j).view.set) apart_slot2 cover_slot2 f

theorem join_out2 (c : Dev nD) : (bigSep Finset.univ fun j => full W arr m 2 c j : sProp (XK F))
    ⊢ iprop(∃ G : Buf (Elt F) ((c.tc : Thread nD τ).loc main_v1_2), ⌜∀ j, (slot2 j).view.read (Elt F) G = block W arr m 2 j⌝
        ∗ (((c.tc : Thread nD τ).loc main_v1_2) ↦{fullShare} G)) :=
  join_parts (ℓ := (c.tc : Thread nD τ).loc main_v1_2) (fun j => (slot2 j).view.set) apart_slot2 cover_slot2
    (fun j G => (slot2 j).view.read (Elt F) G = block W arr m 2 j)
    (fun j f g h hf => (View.read_congr (v := (slot2 j).view) h).trans hf) (m ((c.tc : Thread nD τ).loc main_v1_2))

theorem src_whole2 (c : Dev nD) : (srcSh W arr m 2 c fullShare : sProp (XK F))
    = (((c.tc : Thread nD τ).loc main_arg2) ↦{fullShare} m ((c.tc : Thread nD τ).loc main_arg2)) := by
  show (((c.tc : Thread nD τ).loc main_arg2) ↦[(View.whole main_arg2).set]{fullShare} m ((c.tc : Thread nD τ).loc main_arg2) : sProp (XK F)) = _
  rw [View.set_whole]

omit m

theorem mem_slot3 (j : Dev 8) (i : S8x2048x512.Idx) : i ∈ (slot3 j).view.set ↔ (i 0).val = j.val := by
  have e : (slot3 j).view.set = (Rect.unit (s := S8x2048x512) ![j.val, 0, 0] S1x2048x512.size (inb3 j)).set :=
    (View.set_reshape ((View.whole main_v1_3).slice _) _).trans (View.set_slice_whole _ _)
  rw [e]
  refine Rect.mem_set_unit.trans ?_
  constructor
  · intro h
    have h0 : j.val ≤ (i 0).val ∧ (i 0).val < j.val + 1 := h 0
    omega
  · intro h a
    match a with
    | ⟨0, _⟩ => exact ⟨le_of_eq h.symm, by show (i 0).val < j.val + 1; omega⟩
    | ⟨1, hk⟩ => exact ⟨Nat.zero_le _, lt_of_lt_of_eq (i ⟨1, hk⟩).isLt (Nat.zero_add _).symm⟩
    | ⟨2, hk⟩ => exact ⟨Nat.zero_le _, lt_of_lt_of_eq (i ⟨2, hk⟩).isLt (Nat.zero_add _).symm⟩
theorem apart_slot3 (j j' : Dev 8) (h : j ≠ j') : Disjoint (slot3 j).view.set (slot3 j').view.set :=
  Finset.disjoint_left.mpr fun i hi hi' => h (Fin.ext (((mem_slot3 j i).mp hi).symm.trans ((mem_slot3 j' i).mp hi')))
theorem cover_slot3 (i : S8x2048x512.Idx) : ∃ j : Dev 8, i ∈ (slot3 j).view.set := ⟨⟨(i 0).val, (i 0).isLt⟩, (mem_slot3 _ i).mpr rfl⟩

variable (m : (ℓ : Loc nD τ sig) → Buf (Elt F) ℓ)

theorem split_out3 (c : Dev nD) (f : Buf (Elt F) ((c.tc : Thread nD τ).loc main_v1_3)) :
    (((c.tc : Thread nD τ).loc main_v1_3) ↦{fullShare} f : sProp (XK F)) ⊢ bigSep Finset.univ fun j => slotAny W arr 3 c j :=
  split_parts (ℓ := (c.tc : Thread nD τ).loc main_v1_3) (fun j => (slot3 j).view.set) apart_slot3 cover_slot3 f

theorem join_out3 (c : Dev nD) : (bigSep Finset.univ fun j => full W arr m 3 c j : sProp (XK F))
    ⊢ iprop(∃ G : Buf (Elt F) ((c.tc : Thread nD τ).loc main_v1_3), ⌜∀ j, (slot3 j).view.read (Elt F) G = block W arr m 3 j⌝
        ∗ (((c.tc : Thread nD τ).loc main_v1_3) ↦{fullShare} G)) :=
  join_parts (ℓ := (c.tc : Thread nD τ).loc main_v1_3) (fun j => (slot3 j).view.set) apart_slot3 cover_slot3
    (fun j G => (slot3 j).view.read (Elt F) G = block W arr m 3 j)
    (fun j f g h hf => (View.read_congr (v := (slot3 j).view) h).trans hf) (m ((c.tc : Thread nD τ).loc main_v1_3))

theorem src_whole3 (c : Dev nD) : (srcSh W arr m 3 c fullShare : sProp (XK F))
    = (((c.tc : Thread nD τ).loc main_arg3) ↦{fullShare} m ((c.tc : Thread nD τ).loc main_arg3)) := by
  show (((c.tc : Thread nD τ).loc main_arg3) ↦[(View.whole main_arg3).set]{fullShare} m ((c.tc : Thread nD τ).loc main_arg3) : sProp (XK F)) = _
  rw [View.set_whole]

omit m

theorem mem_slot4 (j : Dev 8) (i : S8x88x128.Idx) : i ∈ (slot4 j).view.set ↔ (i 0).val = j.val := by
  have e : (slot4 j).view.set = (Rect.unit (s := S8x88x128) ![j.val, 0, 0] S1x88x128.size (inb4 j)).set :=
    (View.set_reshape ((View.whole main_v1_4).slice _) _).trans (View.set_slice_whole _ _)
  rw [e]
  refine Rect.mem_set_unit.trans ?_
  constructor
  · intro h
    have h0 : j.val ≤ (i 0).val ∧ (i 0).val < j.val + 1 := h 0
    omega
  · intro h a
    match a with
    | ⟨0, _⟩ => exact ⟨le_of_eq h.symm, by show (i 0).val < j.val + 1; omega⟩
    | ⟨1, hk⟩ => exact ⟨Nat.zero_le _, lt_of_lt_of_eq (i ⟨1, hk⟩).isLt (Nat.zero_add _).symm⟩
    | ⟨2, hk⟩ => exact ⟨Nat.zero_le _, lt_of_lt_of_eq (i ⟨2, hk⟩).isLt (Nat.zero_add _).symm⟩
theorem apart_slot4 (j j' : Dev 8) (h : j ≠ j') : Disjoint (slot4 j).view.set (slot4 j').view.set :=
  Finset.disjoint_left.mpr fun i hi hi' => h (Fin.ext (((mem_slot4 j i).mp hi).symm.trans ((mem_slot4 j' i).mp hi')))
theorem cover_slot4 (i : S8x88x128.Idx) : ∃ j : Dev 8, i ∈ (slot4 j).view.set := ⟨⟨(i 0).val, (i 0).isLt⟩, (mem_slot4 _ i).mpr rfl⟩

variable (m : (ℓ : Loc nD τ sig) → Buf (Elt F) ℓ)

theorem split_out4 (c : Dev nD) (f : Buf (Elt F) ((c.tc : Thread nD τ).loc main_v1_4)) :
    (((c.tc : Thread nD τ).loc main_v1_4) ↦{fullShare} f : sProp (XK F)) ⊢ bigSep Finset.univ fun j => slotAny W arr 4 c j :=
  split_parts (ℓ := (c.tc : Thread nD τ).loc main_v1_4) (fun j => (slot4 j).view.set) apart_slot4 cover_slot4 f

theorem join_out4 (c : Dev nD) : (bigSep Finset.univ fun j => full W arr m 4 c j : sProp (XK F))
    ⊢ iprop(∃ G : Buf (Elt F) ((c.tc : Thread nD τ).loc main_v1_4), ⌜∀ j, (slot4 j).view.read (Elt F) G = block W arr m 4 j⌝
        ∗ (((c.tc : Thread nD τ).loc main_v1_4) ↦{fullShare} G)) :=
  join_parts (ℓ := (c.tc : Thread nD τ).loc main_v1_4) (fun j => (slot4 j).view.set) apart_slot4 cover_slot4
    (fun j G => (slot4 j).view.read (Elt F) G = block W arr m 4 j)
    (fun j f g h hf => (View.read_congr (v := (slot4 j).view) h).trans hf) (m ((c.tc : Thread nD τ).loc main_v1_4))

theorem src_whole4 (c : Dev nD) : (srcSh W arr m 4 c fullShare : sProp (XK F))
    = (((c.tc : Thread nD τ).loc main_arg4) ↦{fullShare} m ((c.tc : Thread nD τ).loc main_arg4)) := by
  show (((c.tc : Thread nD τ).loc main_arg4) ↦[(View.whole main_arg4).set]{fullShare} m ((c.tc : Thread nD τ).loc main_arg4) : sProp (XK F)) = _
  rw [View.set_whole]

omit m

theorem five (Φ : Fin 5 → sProp (XK F)) : bigSep Finset.univ Φ = iprop(Φ 0 ∗ Φ 1 ∗ Φ 2 ∗ Φ 3 ∗ Φ 4) :=
  BI.bigSep_univ_eq_bigSepL [0, 1, 2, 3, 4] (by decide) (by decide) Φ

variable (m : (ℓ : Loc nD τ sig) → Buf (Elt F) ℓ)

/-- What a device starts with. -/
def Φ₀ (c : Dev nD) : sProp (XK F) := iprop((∃ κ, know W (payload W arr m) κ) ∗ init W arr m 0 c ∗ init W arr m 1 c ∗ init W arr m 2 c ∗ init W arr m 3 c ∗ init W arr m 4 c)
/-- What it ends with. -/
def Φ₁ (c : Dev nD) : sProp (XK F) := iprop(final W arr m 0 c ∗ final W arr m 1 c ∗ final W arr m 2 c ∗ final W arr m 3 c ∗ final W arr m 4 c)

/-- The proof's data: the gather has no windows, its arrays pass through what a device holds. -/
def dats (_ : Fin 1) (c : Dev nD) : Dat τ (Elt F) Unit ℕ (Two nD τ sig) ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => debt W (due partner c plan)
    | ⟨_ + 1, _⟩ => 0

theorem no_windows (Φ : Fin cfg0.W → sProp (XK F)) : bigSep Finset.univ Φ = iprop(emp) := by
  haveI : IsEmpty (Fin cfg0.W) := ⟨fun w => w.elim0⟩
  rw [Finset.univ_eq_empty, bigSep_empty]; rfl

set_option maxRecDepth 20000 in
theorem body_obligation (c : Dev nD) : BodyObligationLoose (dats m 0 c) (defs₀ (F := F)) Variants.none () Set.univ := fun t => by
  rw [fin_N0 t, no_windows, no_windows]
  have hpre : (dats m 0 c).owesAt () t0_0.castSucc ⊢ owesAny W partner c plan := by
    unfold Dat.owesAt Pipeline.owesWithin owesAny
    iintro ⟨%Ws, -, H⟩
    iexists Ws; iexact H
  have hpost : owesAny W partner c [] ⊢ (dats m 0 c).owesAt () t0_0.succ := by
    unfold Dat.owesAt Pipeline.owesWithin owesAny
    iintro ⟨%Ws, H⟩
    iexists Ws
    isplitr; · ipureintro; exact fun _ _ => Or.inl trivial
    iexact H
  show iprop(Φ₀ m c ∗ (dats m 0 c).owesAt () t0_0.castSucc ∗ emp)
    ⊢ wp frame (wpE (defs₀ (F := F)) Variants.none (c.tc : Thread nD τ) none) Set.univ (bodyAt0 (F := F) t0_0)
      (fun _ => iprop(Φ₁ m c ∗ (dats m 0 c).owesAt () t0_0.succ ∗ emp))
  have hw : iprop(Φ₀ m c ∗ (dats m 0 c).owesAt () t0_0.castSucc ∗ emp) ⊢ iprop(owesAny W partner c plan ∗ script W arr m (defs₀ (F := F)) Variants.none 0 c ∗ script W arr m (defs₀ (F := F)) Variants.none 1 c ∗ script W arr m (defs₀ (F := F)) Variants.none 2 c ∗ script W arr m (defs₀ (F := F)) Variants.none 3 c ∗ script W arr m (defs₀ (F := F)) Variants.none 4 c) := by
    unfold Φ₀
    iintro ⟨⟨⟨%κ, #HK⟩, I0, I1, I2, I3, I4⟩, HO, -⟩
    isplitl [HO]; · iapply hpre; iexact HO
    isplitl [I0]
    · iapply (thread W arr m (defs₀ (F := F)) Variants.none κ 0 c)
      isplitr; · iexact HK
      iexact I0
    isplitl [I1]
    · iapply (thread W arr m (defs₀ (F := F)) Variants.none κ 1 c)
      isplitr; · iexact HK
      iexact I1
    isplitl [I2]
    · iapply (thread W arr m (defs₀ (F := F)) Variants.none κ 2 c)
      isplitr; · iexact HK
      iexact I2
    isplitl [I3]
    · iapply (thread W arr m (defs₀ (F := F)) Variants.none κ 3 c)
      isplitr; · iexact HK
      iexact I3
    iapply (thread W arr m (defs₀ (F := F)) Variants.none κ 4 c)
    isplitr; · iexact HK
    iexact I4
  have hq : iprop(owesAny W partner c [] ∗ final W arr m 0 c ∗ final W arr m 1 c ∗ final W arr m 2 c ∗ final W arr m 3 c ∗ final W arr m 4 c) ⊢ iprop(Φ₁ m c ∗ (dats m 0 c).owesAt () t0_0.succ ∗ emp) := by
    unfold Φ₁
    iintro ⟨HO, HF⟩
    isplitl [HF]; · iexact HF
    isplitl [HO]; · iapply hpost; iexact HO
    iempintro
  exact hw.trans ((body_wp m c t0_0 Variants.none).trans (wp_mono frame _ Set.univ fun _ => hq))

/-- What each result holds at the end. -/
def outs (c : Dev nD) : sProp (XK F) := iprop((∃ G : Buf (Elt F) ((c.tc : Thread nD τ).loc main_v1_0), ⌜∀ j, (slot0 j).view.read (Elt F) G = block W arr m 0 j⌝
        ∗ (((c.tc : Thread nD τ).loc main_v1_0) ↦{fullShare} G)) ∗ (∃ G : Buf (Elt F) ((c.tc : Thread nD τ).loc main_v1_1), ⌜∀ j, (slot1 j).view.read (Elt F) G = block W arr m 1 j⌝
        ∗ (((c.tc : Thread nD τ).loc main_v1_1) ↦{fullShare} G)) ∗ (∃ G : Buf (Elt F) ((c.tc : Thread nD τ).loc main_v1_2), ⌜∀ j, (slot2 j).view.read (Elt F) G = block W arr m 2 j⌝
        ∗ (((c.tc : Thread nD τ).loc main_v1_2) ↦{fullShare} G)) ∗ (∃ G : Buf (Elt F) ((c.tc : Thread nD τ).loc main_v1_3), ⌜∀ j, (slot3 j).view.read (Elt F) G = block W arr m 3 j⌝
        ∗ (((c.tc : Thread nD τ).loc main_v1_3) ↦{fullShare} G)) ∗ (∃ G : Buf (Elt F) ((c.tc : Thread nD τ).loc main_v1_4), ⌜∀ j, (slot4 j).view.read (Elt F) G = block W arr m 4 j⌝
        ∗ (((c.tc : Thread nD τ).loc main_v1_4) ↦{fullShare} G)))
/-- The inputs, as they were. -/
def ins (c : Dev nD) : sProp (XK F) := iprop((((c.tc : Thread nD τ).loc main_arg0) ↦{fullShare} m ((c.tc : Thread nD τ).loc main_arg0)) ∗ (((c.tc : Thread nD τ).loc main_arg1) ↦{fullShare} m ((c.tc : Thread nD τ).loc main_arg1)) ∗ (((c.tc : Thread nD τ).loc main_arg2) ↦{fullShare} m ((c.tc : Thread nD τ).loc main_arg2)) ∗ (((c.tc : Thread nD τ).loc main_arg3) ↦{fullShare} m ((c.tc : Thread nD τ).loc main_arg3)) ∗ (((c.tc : Thread nD τ).loc main_arg4) ↦{fullShare} m ((c.tc : Thread nD τ).loc main_arg4)))

/-- One device's results and inputs in a memory. -/
def Good (c : Dev nD) (s : MemSt nD τ sig (Elt F)) : Prop :=
  ((∀ j, (slot0 j).view.read (Elt F) (s.mem ((c.tc : Thread nD τ).loc main_v1_0)) = block W arr m 0 j) ∧ (∀ j, (slot1 j).view.read (Elt F) (s.mem ((c.tc : Thread nD τ).loc main_v1_1)) = block W arr m 1 j) ∧ (∀ j, (slot2 j).view.read (Elt F) (s.mem ((c.tc : Thread nD τ).loc main_v1_2)) = block W arr m 2 j) ∧ (∀ j, (slot3 j).view.read (Elt F) (s.mem ((c.tc : Thread nD τ).loc main_v1_3)) = block W arr m 3 j) ∧ (∀ j, (slot4 j).view.read (Elt F) (s.mem ((c.tc : Thread nD τ).loc main_v1_4)) = block W arr m 4 j))
    ∧ (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))

theorem final_split (c : Dev nD) : Φ₁ m c ⊢ iprop((outs m c ∗ ins m c) ∗ Pipeline.ownSems0 (Ix := Unit) (Name := ℕ) (U := Two nD τ sig) (Lvl := ℕ) (Val := Elt F) (τ := τ) W.at_ c) := by
  have hz : (Pipeline.ownSems0 (Ix := Unit) (Name := ℕ) (U := Two nD τ sig) (Lvl := ℕ) (Val := Elt F) (τ := τ) W.at_ c : sProp (XK F))
      = iprop(zeros W 0 c ∗ zeros W 1 c ∗ zeros W 2 c ∗ zeros W 3 c ∗ zeros W 4 c) := by
    rw [← five (fun a => zeros W a c), bigSep_congr fun a _ => zeros_eq W a c]
    exact bigSep_univ_prod (fun k : Fin 5 × Leg => (semVal (cell W (c, k)) 0 : sProp (XK F)))
  rw [hz]
  unfold Φ₁ final outs ins
  rw [src_whole0]
  rw [src_whole1]
  rw [src_whole2]
  rw [src_whole3]
  rw [src_whole4]
  iintro ⟨⟨F0, S0, Z0⟩, ⟨F1, S1, Z1⟩, ⟨F2, S2, Z2⟩, ⟨F3, S3, Z3⟩, ⟨F4, S4, Z4⟩⟩
  ihave F0 := (join_out0 m c) $$ F0
  ihave F1 := (join_out1 m c) $$ F1
  ihave F2 := (join_out2 m c) $$ F2
  ihave F3 := (join_out3 m c) $$ F3
  ihave F4 := (join_out4 m c) $$ F4
  isplitr [Z0 Z1 Z2 Z3 Z4]
  · isplitl [F0 F1 F2 F3 F4]
    · isplitl [F0]; · iexact F0
      isplitl [F1]; · iexact F1
      isplitl [F2]; · iexact F2
      isplitl [F3]; · iexact F3
      iexact F4
    · isplitl [S0]; · iexact S0
      isplitl [S1]; · iexact S1
      isplitl [S2]; · iexact S2
      isplitl [S3]; · iexact S3
      iexact S4
  · isplitl [Z0]; · iexact Z0
    isplitl [Z1]; · iexact Z1
    isplitl [Z2]; · iexact Z2
    isplitl [Z3]; · iexact Z3
    iexact Z4

theorem read_good (c : Dev nD) (s' : Phys nD τ sig (Elt F)) :
    iprop((outs m c ∗ ins m c) ∗ SI s') ⊢ (|={Set.univ}=> iprop(⌜Good m c s'.mem⌝ ∗ SI s') : sProp (XK F)) := by
  unfold outs ins
  iintro ⟨⟨⟨⟨%G0, %g0, O0⟩, ⟨%G1, %g1, O1⟩, ⟨%G2, %g2, O2⟩, ⟨%G3, %g3, O3⟩, ⟨%G4, %g4, O4⟩⟩, ⟨S0, S1, S2, S3, S4⟩⟩, HSI⟩
  icombine HSI O0 gives %h0
  icombine HSI O1 gives %h1
  icombine HSI O2 gives %h2
  icombine HSI O3 gives %h3
  icombine HSI O4 gives %h4
  icombine HSI S0 gives %k0
  icombine HSI S1 gives %k1
  icombine HSI S2 gives %k2
  icombine HSI S3 gives %k3
  icombine HSI S4 gives %k4
  imodintro
  isplitr
  · ipureintro
    refine ⟨⟨?_, ?_, ?_, ?_, ?_⟩, ?_, ?_, ?_, ?_, ?_⟩
    · intro j; rw [← g0 j, Buf.eq_of_forall_mem_univ h0]
    · intro j; rw [← g1 j, Buf.eq_of_forall_mem_univ h1]
    · intro j; rw [← g2 j, Buf.eq_of_forall_mem_univ h2]
    · intro j; rw [← g3 j, Buf.eq_of_forall_mem_univ h3]
    · intro j; rw [← g4 j, Buf.eq_of_forall_mem_univ h4]
    · exact Buf.eq_of_forall_mem_univ k0
    · exact Buf.eq_of_forall_mem_univ k1
    · exact Buf.eq_of_forall_mem_univ k2
    · exact Buf.eq_of_forall_mem_univ k3
    · exact Buf.eq_of_forall_mem_univ k4
  iexact HSI

/-- Everything the machine holds, dealt. -/
theorem deal_all :
    iprop(levAts lvls (lev W) ∗ (bigSep Finset.univ fun c : Dev nD => Pipeline.ownSems0 (Ix := Unit) (Name := ℕ) (U := Two nD τ sig) (Lvl := ℕ) (Val := Elt F) (τ := τ) W.at_ c)
        ∗ (bigSep Finset.univ fun c : Dev nD => Pipeline.unscopedRest cfg0.spec c fun b => m ((c.tc : Thread nD τ).loc b))
        ∗ (bigSep Finset.univ fun c : Dev nD => launchCred (fun d => debt W (due partner d plan)) c)
        ∗ BI.own (EX nD τ sig (Elt F) (initOf (allCells W) (allToks W))))
      ⊢ (|={Set.univ}=> bigSep Finset.univ (Φ₀ m) : sProp (XK F)) := by
  have hrest : (bigSep Finset.univ fun c : Dev nD => Pipeline.unscopedRest cfg0.spec c fun b => m ((c.tc : Thread nD τ).loc b) : sProp (XK F))
      ⊢ iprop((bigSep Finset.univ fun c : Dev nD => bigSep Finset.univ fun a => srcSh W arr m a c fullShare)
          ∗ (bigSep Finset.univ fun c : Dev nD => bigSep Finset.univ fun a => bigSep Finset.univ fun j => slotAny W arr a c j)) := by
    rw [← bigSep_sep']
    have h (c : Dev nD) : (Pipeline.unscopedRest cfg0.spec c (fun b => m ((c.tc : Thread nD τ).loc b)) : sProp (XK F))
        ⊢ iprop((bigSep Finset.univ fun a => srcSh W arr m a c fullShare) ∗ (bigSep Finset.univ fun a => bigSep Finset.univ fun j => slotAny W arr a c j)) := by
      rw [unscopedRest0_eq, five, five, src_whole0, src_whole1, src_whole2, src_whole3, src_whole4]
      iintro ⟨S0, S1, S2, S3, S4, O0, O1, O2, O3, O4⟩
      ihave O0 := (split_out0 c _) $$ O0
      ihave O1 := (split_out1 c _) $$ O1
      ihave O2 := (split_out2 c _) $$ O2
      ihave O3 := (split_out3 c _) $$ O3
      ihave O4 := (split_out4 c _) $$ O4
      isplitl [S0 S1 S2 S3 S4]
      · isplitl [S0]; · iexact S0
        isplitl [S1]; · iexact S1
        isplitl [S2]; · iexact S2
        isplitl [S3]; · iexact S3
        iexact S4
      · isplitl [O0]; · iexact O0
        isplitl [O1]; · iexact O1
        isplitl [O2]; · iexact O2
        isplitl [O3]; · iexact O3
        iexact O4
    exact bigSep_mono fun c _ => h c
  have hd := deal W arr m plan (by decide +kernel) (by decide +kernel)
  have hΦ : iprop((∃ κ, know W (payload W arr m) κ) ∗ bigSep Finset.univ fun c : Dev 8 => bigSep Finset.univ fun a => init W arr m a c)
      ⊢ (bigSep Finset.univ (Φ₀ m) : sProp (XK F)) := by
    refine with_known fun c _ => ?_
    rw [five]
    unfold Φ₀
    iintro H; iexact H
  iintro ⟨HL, HS, HR, HC, HX⟩
  imod (exchange_start W (payload W arr m)) $$ [HL HS HX] with ⟨HK, Hp, Ht⟩
  · isplitl [HL]; · iexact HL
    isplitl [HS] <;> iassumption
  ihave HR := hrest $$ HR
  icases HR with ⟨HR, HO⟩
  imodintro
  iapply hΦ
  isplitl [HK]; · iexact HK
  iapply hd
  isplitl [HR]; · iexact HR
  isplitl [HO]; · iexact HO
  isplitl [Hp]; · iexact Hp
  isplitl [Ht] <;> iassumption

theorem own_sems : Pipeline.OwnSemFacts cfg0.spec W.at_ := by decide +kernel

/-- What the two copies of the bookkeeping start from. -/
def u₀ : Two nD τ sig := (initOf (Pipeline.cells cfgs cellOf_inj) (Pipeline.launchToks cfgs cellOf_inj), initOf (allCells W) (allToks W))

/-- Every weakly fair run of the kernel on the eight devices ends, with every device's results made of all devices'
    blocks, the inputs as they were and every semaphore at zero. -/
theorem run_main (g : Dev nD → PrngReg) : θ_run (defs (F := F)) (onTc (main (F := F))) ⟨m, fun _ => 0, g⟩
    (fun r => (∀ c : Dev nD, Good m c r.2) ∧ r.2.sem = fun _ => 0) :=
  θ_run_exchange cfgs (dats m) () cellOf_inj 0 winFacts0.to₀ own_sems (EG nD τ sig (Elt F)) defs₀ Variants.none m g main
    (hmain := fun _ => rfl) (hbody := body_obligation m) (hne := fun w => w.elim0) (harr := arr_whole0) (hstage := stage_whole0)
    (hshare := fun _ w => w.elim0) (hdistinct := winFacts0.arr_inj)
    (O₀ := fun c => debt W (due partner c plan)) (howed₀ := fun _ => rfl) (howedN := fun _ => rfl)
    (L := lvls) (lv := lev W) (hL := lvls_ne) (hwaits := fun c => Pipeline.cellsWaits_intro cfgs (dats m) () 0 c fun w => w.elim0)
    (G := BI.own (EX nD τ sig (Elt F) (initOf (allCells W) (allToks W)))) (u₀ := u₀)
    (hu₀ := by
      unfold u₀
      iintro Hu
      ihave H := (ownU_pair _ _) $$ Hu
      icases H with ⟨HP, HX⟩
      imodintro
      isplitl [HP] <;> iassumption)
    (hA := fun _ w => w.elim0) (X := Φ₀ m) (Y := fun c => iprop(outs m c ∗ ins m c)) (hdeal := deal_all m)
    (hin := fun c => by
      rw [scopedRest0_eq]
      show iprop(Φ₀ m c ∗ BI.emp) ⊢ Φ₀ m c
      iintro ⟨H, -⟩; iexact H)
    (hout := fun c => by
      rw [scopedRest0_eq]
      show Φ₁ m c ⊢ _
      iintro H
      ihave H := (final_split m c) $$ H
      icases H with ⟨HY, HZ⟩
      isplitl [HY]; · iexact HY
      isplitl [HZ]; · iexact HZ
      iempintro)
    (QY := Good m) (hY := read_good m)
    (hQ := fun _ h hs => ⟨fun c => (h c).2, sem_eq_zero_of_scoped (by decide) hs⟩)

end Cert.KernelIdeal
-- ==== Proof.Ref.lean ====
/- The reference's run on one device: each whole array cut into its eight blocks, the block number moved in front. -/
module

public import Idealize.ShloMosaic.Lib.StableHlo.Run
public import Idealize.ShloMosaic.Lib.Quiescent
public import proofs.«01_k».proof.Proof.Gen.ReferenceIdeal

@[expose] public section

noncomputable section

namespace Cert.ReferenceIdeal

open Cert.ReferenceIdeal.Gen
open Idealize.ShloMosaic Idealize.ShloMosaic.TcCoe Idealize.ShloMosaic.StableHlo Idealize.SL.Sem

variable {F : FTy → Type} [FloatOps F]

/-- The eight column blocks of a whole array, stacked; -/
abbrev stack0 (x : S4096x20480.Idx → Elt F .bf16) : S8x4096x2560.Idx → Elt F .bf16 :=
  transpose S8x4096x2560 [1, 0, 2] (shapeCast S4096x8x2560 x Facts₀.shapeCasts_S4096x20480_S4096x8x2560) Facts₀.transposes_S4096x8x2560_S8x4096x2560_1_0_2
abbrev stack1 (x : S16x256x256.Idx → Elt F .bf16) : S8x16x32x256.Idx → Elt F .bf16 :=
  transpose S8x16x32x256 [1, 0, 2, 3] (shapeCast S16x8x32x256 x Facts₀.shapeCasts_S16x256x256_S16x8x32x256) Facts₀.transposes_S16x8x32x256_S8x16x32x256_1_0_2_3
abbrev stack3 (x : S2048x4096.Idx → Elt F .bf16) : S8x2048x512.Idx → Elt F .bf16 :=
  transpose S8x2048x512 [1, 0, 2] (shapeCast S2048x8x512 x Facts₀.shapeCasts_S2048x4096_S2048x8x512) Facts₀.transposes_S2048x8x512_S8x2048x512_1_0_2
/-- and the eight row blocks of one. -/
abbrev stack4 (x : S704x128.Idx → Elt F .f32) : S8x88x128.Idx → Elt F .f32 :=
  shapeCast S8x88x128 x Facts₀.shapeCasts_S704x128_S8x88x128

/-- The reference's operations. -/
abbrev steps : List (HloOp τ sig (Elt F)) :=
  [ reshape main_arg0 main_v0 rfl Facts₀.shapeCasts_S4096x20480_S4096x8x2560,
    unary main_v0 main_v1 (transpose S8x4096x2560 [1, 0, 2] · Facts₀.transposes_S4096x8x2560_S8x4096x2560_1_0_2),
    reshape main_arg1 main_v2 rfl Facts₀.shapeCasts_S16x256x256_S16x8x32x256,
    unary main_v2 main_v3 (transpose S8x16x32x256 [1, 0, 2, 3] · Facts₀.transposes_S16x8x32x256_S8x16x32x256_1_0_2_3),
    reshape main_arg2 main_v4 rfl Facts₀.shapeCasts_S16x256x256_S16x8x32x256,
    unary main_v4 main_v5 (transpose S8x16x32x256 [1, 0, 2, 3] · Facts₀.transposes_S16x8x32x256_S8x16x32x256_1_0_2_3),
    reshape main_arg3 main_v6 rfl Facts₀.shapeCasts_S2048x4096_S2048x8x512,
    unary main_v6 main_v7 (transpose S8x2048x512 [1, 0, 2] · Facts₀.transposes_S2048x8x512_S8x2048x512_1_0_2),
    reshape main_arg4 main_v8 rfl Facts₀.shapeCasts_S704x128_S8x88x128 ]

theorem main_steps (c : Dev nD) : main (F := F) c = seq steps := rfl

variable (V : Valuation τ sig (Elt F))

theorem steps_v1 : after steps V (main_v1 : DevRef τ sig) = stack0 (V (main_arg0 : DevRef τ sig)) := by after_results; rfl
theorem steps_v3 : after steps V (main_v3 : DevRef τ sig) = stack1 (V (main_arg1 : DevRef τ sig)) := by after_results; rfl
theorem steps_v5 : after steps V (main_v5 : DevRef τ sig) = stack1 (V (main_arg2 : DevRef τ sig)) := by after_results; rfl
theorem steps_v7 : after steps V (main_v7 : DevRef τ sig) = stack3 (V (main_arg3 : DevRef τ sig)) := by after_results; rfl
theorem steps_v8 : after steps V (main_v8 : DevRef τ sig) = stack4 (V (main_arg4 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results
theorem steps_arg3 : after steps V (main_arg3 : DevRef τ sig) = V (main_arg3 : DevRef τ sig) := by after_results
theorem steps_arg4 : after steps V (main_arg4 : DevRef τ sig) = V (main_arg4 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub .., unary_bufs_sub .., reshape_bufs_sub ..⟩

/-- What a final memory of the reference holds. -/
def Stacked (m : (ℓ : Loc nD τ sig) → Buf (Elt F) ℓ) (c : Dev nD) (s : MemSt nD τ sig (Elt F)) : Prop :=
  ((s.mem ((c.tc : Thread nD τ).loc main_v1) = stack0 (m ((c.tc : Thread nD τ).loc main_arg0)))
    ∧ (s.mem ((c.tc : Thread nD τ).loc main_v3) = stack1 (m ((c.tc : Thread nD τ).loc main_arg1)))
    ∧ (s.mem ((c.tc : Thread nD τ).loc main_v5) = stack1 (m ((c.tc : Thread nD τ).loc main_arg2)))
    ∧ (s.mem ((c.tc : Thread nD τ).loc main_v7) = stack3 (m ((c.tc : Thread nD τ).loc main_arg3)))
    ∧ (s.mem ((c.tc : Thread nD τ).loc main_v8) = stack4 (m ((c.tc : Thread nD τ).loc main_arg4))))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The reference ends with every stack in place and its arguments as they were. -/
theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Stacked m c r.2) ∧ r.2.sem = fun _ => 0) :=
  (θ_run defs _ _).mono
    (fun r h => ⟨fun c => ⟨⟨(h c main_v1).trans (steps_v1 _), (h c main_v3).trans (steps_v3 _), (h c main_v5).trans (steps_v5 _),
        (h c main_v7).trans (steps_v7 _), (h c main_v8).trans (steps_v8 _)⟩,
        (h c main_arg0).trans (steps_arg0 _), (h c main_arg1).trans (steps_arg1 _), (h c main_arg2).trans (steps_arg2 _),
        (h c main_arg3).trans (steps_arg3 _), (h c main_arg4).trans (steps_arg4 _)⟩,
      sem_eq_zero_of_no_sems (by decide) r.2⟩)
    (run_seq none_scoped_refs none_scoped_sems defs main (fun _ => steps) main_steps (fun _ => steps_local) m g)

end Cert.ReferenceIdeal

end
-- ==== Proof.Value.lean ====
/- What the gather ends with is the reference's stack of blocks. -/
module

public import proofs.«01_k».proof.Proof.Run
public import proofs.«01_k».proof.Proof.Ref
public import Idealize.ShloMosaic.Lib.Pipeline.Value
public import Idealize.ShloMosaic.Lib.Layout

@[expose] public section

noncomputable section

namespace Cert.KernelIdeal

open Idealize.ShloMosaic Idealize.ShloMosaic.TcCoe
open Cert.KernelIdeal.Gen Cert.ReferenceIdeal.Gen Cert.Shared

variable {F : FTy → Type} [FloatOps F]

/-! ### Result 0 -/

/-- Where the entry `y` of place `j` lies in the result: in its `j`-th block. -/
def at0 (j : Dev 8) (y : S4096x2560.Idx) : S8x4096x2560.Idx := (slot0 j).view.emb y

theorem slot0_at (j : Dev 8) (y : S4096x2560.Idx) : (at0 j y 0).val = j.val ∧ (at0 j y 1).val = (y 0).val ∧ (at0 j y 2).val = (y 1).val := by
  have e : Shape.reshapeEquiv ((squeezes_S1x4096x2560_S4096x2560 : S1x4096x2560.Squeezes S4096x2560).numel_eq) y = Fin.cons ⟨0, Nat.one_pos⟩ y :=
    Shape.reshapeEquiv_cons_one (d := ![4096, 2560]) _ y
  have h : ∀ b, (at0 j y b).val = (![j.val, 0, 0] : Fin 3 → Nat) b + 1 * ((Fin.cons ⟨0, Nat.one_pos⟩ y : S1x4096x2560.Idx) b).val := fun b =>
    congrArg (fun t : S1x4096x2560.Idx => (![j.val, 0, 0] : Fin 3 → Nat) b + 1 * (t b).val) e
  refine ⟨(h 0).trans ?_, (h 1).trans ?_, (h 2).trans ?_⟩
  · show j.val + 1 * 0 = j.val
    omega
  · show 0 + 1 * (y 0).val = (y 0).val
    omega
  · show 0 + 1 * (y 1).val = (y 1).val
    omega

/-- Contents that agree at every place are equal. -/
theorem ext0 {G G' : S8x4096x2560.Idx → Elt F .bf16} (h : ∀ j, (slot0 j).view.read (Elt F) G = (slot0 j).view.read (Elt F) G') : G = G' := by
  funext i
  obtain ⟨j, hj⟩ := cover_slot0 i
  obtain ⟨y, -, rfl⟩ := Finset.mem_map.mp hj
  exact congrFun (h j) y

/-- Place `j` of the reference's stack is block `j` of the whole array. -/
theorem read_stack0 (j : Dev 8) (x : Cert.ReferenceIdeal.S4096x20480.Idx → Elt F .bf16) :
    (slot0 j).view.read (Elt F) (Cert.ReferenceIdeal.stack0 x) = Layout.block S4096x2560 Cert.ReferenceIdeal.S4096x20480 1 8 j x := by
  funext y
  obtain ⟨h0, h1, h2⟩ := slot0_at j y
  rw [Layout.block_apply]
  show Cert.ReferenceIdeal.stack0 x (at0 j y) = _
  generalize at0 j y = i at *
  have t : Layout.Tiles S4096x2560 Cert.ReferenceIdeal.S4096x20480 1 8 := by decide
  have z0 : (t.idx j y 0).val = (y 0).val := t.idx_val j y 0
  have z1 : (t.idx j y 1).val = j.val * 2560 + (y 1).val := t.idx_val j y 1
  let q : Cert.ReferenceIdeal.S4096x8x2560.Idx := fun b => match b with
    | ⟨0, _⟩ => i 1
    | ⟨1, _⟩ => i 0
    | ⟨2, _⟩ => i 2
  refine (transpose_apply _ _ _ i q ?_).trans (shapeCast_apply _ _ q _ ?_)
  · intro b
    match b with
    | ⟨0, _⟩ => rfl
    | ⟨1, _⟩ => rfl
    | ⟨2, _⟩ => rfl
  · rw [Shape.rowMajor_val_two, Shape.rowMajor_val_three]
    show ((t.idx j y 0).val) * 20480 + (t.idx j y 1).val = (((i 1).val) * 8 + (i 0).val) * 2560 + (i 2).val
    omega

/-! ### Result 1 -/

/-- Where the entry `y` of place `j` lies in the result: in its `j`-th block. -/
def at1 (j : Dev 8) (y : S16x32x256.Idx) : S8x16x32x256.Idx := (slot1 j).view.emb y

theorem slot1_at (j : Dev 8) (y : S16x32x256.Idx) : (at1 j y 0).val = j.val ∧ (at1 j y 1).val = (y 0).val ∧ (at1 j y 2).val = (y 1).val ∧ (at1 j y 3).val = (y 2).val := by
  have e : Shape.reshapeEquiv ((squeezes_S1x16x32x256_S16x32x256 : S1x16x32x256.Squeezes S16x32x256).numel_eq) y = Fin.cons ⟨0, Nat.one_pos⟩ y :=
    Shape.reshapeEquiv_cons_one (d := ![16, 32, 256]) _ y
  have h : ∀ b, (at1 j y b).val = (![j.val, 0, 0, 0] : Fin 4 → Nat) b + 1 * ((Fin.cons ⟨0, Nat.one_pos⟩ y : S1x16x32x256.Idx) b).val := fun b =>
    congrArg (fun t : S1x16x32x256.Idx => (![j.val, 0, 0, 0] : Fin 4 → Nat) b + 1 * (t b).val) e
  refine ⟨(h 0).trans ?_, (h 1).trans ?_, (h 2).trans ?_, (h 3).trans ?_⟩
  · show j.val + 1 * 0 = j.val
    omega
  · show 0 + 1 * (y 0).val = (y 0).val
    omega
  · show 0 + 1 * (y 1).val = (y 1).val
    omega
  · show 0 + 1 * (y 2).val = (y 2).val
    omega

/-- Contents that agree at every place are equal. -/
theorem ext1 {G G' : S8x16x32x256.Idx → Elt F .bf16} (h : ∀ j, (slot1 j).view.read (Elt F) G = (slot1 j).view.read (Elt F) G') : G = G' := by
  funext i
  obtain ⟨j, hj⟩ := cover_slot1 i
  obtain ⟨y, -, rfl⟩ := Finset.mem_map.mp hj
  exact congrFun (h j) y

/-- Place `j` of the reference's stack is block `j` of the whole array. -/
theorem read_stack1 (j : Dev 8) (x : Cert.ReferenceIdeal.S16x256x256.Idx → Elt F .bf16) :
    (slot1 j).view.read (Elt F) (Cert.ReferenceIdeal.stack1 x) = Layout.block S16x32x256 Cert.ReferenceIdeal.S16x256x256 1 8 j x := by
  funext y
  obtain ⟨h0, h1, h2, h3⟩ := slot1_at j y
  rw [Layout.block_apply]
  show Cert.ReferenceIdeal.stack1 x (at1 j y) = _
  generalize at1 j y = i at *
  have t : Layout.Tiles S16x32x256 Cert.ReferenceIdeal.S16x256x256 1 8 := by decide
  have z0 : (t.idx j y 0).val = (y 0).val := t.idx_val j y 0
  have z1 : (t.idx j y 1).val = j.val * 32 + (y 1).val := t.idx_val j y 1
  have z2 : (t.idx j y 2).val = (y 2).val := t.idx_val j y 2
  let q : Cert.ReferenceIdeal.S16x8x32x256.Idx := fun b => match b with
    | ⟨0, _⟩ => i 1
    | ⟨1, _⟩ => i 0
    | ⟨2, _⟩ => i 2
    | ⟨3, _⟩ => i 3
  refine (transpose_apply _ _ _ i q ?_).trans (shapeCast_apply _ _ q _ ?_)
  · intro b
    match b with
    | ⟨0, _⟩ => rfl
    | ⟨1, _⟩ => rfl
    | ⟨2, _⟩ => rfl
    | ⟨3, _⟩ => rfl
  · rw [Shape.rowMajor_val_three, Shape.rowMajor_val_four]
    show (((t.idx j y 0).val) * 256 + (t.idx j y 1).val) * 256 + (t.idx j y 2).val = ((((i 1).val) * 8 + (i 0).val) * 32 + (i 2).val) * 256 + (i 3).val
    omega

/-! ### Result 2 -/

/-- Where the entry `y` of place `j` lies in the result: in its `j`-th block. -/
def at2 (j : Dev 8) (y : S16x32x256.Idx) : S8x16x32x256.Idx := (slot2 j).view.emb y

theorem slot2_at (j : Dev 8) (y : S16x32x256.Idx) : (at2 j y 0).val = j.val ∧ (at2 j y 1).val = (y 0).val ∧ (at2 j y 2).val = (y 1).val ∧ (at2 j y 3).val = (y 2).val := by
  have e : Shape.reshapeEquiv ((squeezes_S1x16x32x256_S16x32x256 : S1x16x32x256.Squeezes S16x32x256).numel_eq) y = Fin.cons ⟨0, Nat.one_pos⟩ y :=
    Shape.reshapeEquiv_cons_one (d := ![16, 32, 256]) _ y
  have h : ∀ b, (at2 j y b).val = (![j.val, 0, 0, 0] : Fin 4 → Nat) b + 1 * ((Fin.cons ⟨0, Nat.one_pos⟩ y : S1x16x32x256.Idx) b).val := fun b =>
    congrArg (fun t : S1x16x32x256.Idx => (![j.val, 0, 0, 0] : Fin 4 → Nat) b + 1 * (t b).val) e
  refine ⟨(h 0).trans ?_, (h 1).trans ?_, (h 2).trans ?_, (h 3).trans ?_⟩
  · show j.val + 1 * 0 = j.val
    omega
  · show 0 + 1 * (y 0).val = (y 0).val
    omega
  · show 0 + 1 * (y 1).val = (y 1).val
    omega
  · show 0 + 1 * (y 2).val = (y 2).val
    omega

/-- Contents that agree at every place are equal. -/
theorem ext2 {G G' : S8x16x32x256.Idx → Elt F .bf16} (h : ∀ j, (slot2 j).view.read (Elt F) G = (slot2 j).view.read (Elt F) G') : G = G' := by
  funext i
  obtain ⟨j, hj⟩ := cover_slot2 i
  obtain ⟨y, -, rfl⟩ := Finset.mem_map.mp hj
  exact congrFun (h j) y

/-- Place `j` of the reference's stack is block `j` of the whole array. -/
theorem read_stack2 (j : Dev 8) (x : Cert.ReferenceIdeal.S16x256x256.Idx → Elt F .bf16) :
    (slot2 j).view.read (Elt F) (Cert.ReferenceIdeal.stack1 x) = Layout.block S16x32x256 Cert.ReferenceIdeal.S16x256x256 1 8 j x := by
  funext y
  obtain ⟨h0, h1, h2, h3⟩ := slot2_at j y
  rw [Layout.block_apply]
  show Cert.ReferenceIdeal.stack1 x (at2 j y) = _
  generalize at2 j y = i at *
  have t : Layout.Tiles S16x32x256 Cert.ReferenceIdeal.S16x256x256 1 8 := by decide
  have z0 : (t.idx j y 0).val = (y 0).val := t.idx_val j y 0
  have z1 : (t.idx j y 1).val = j.val * 32 + (y 1).val := t.idx_val j y 1
  have z2 : (t.idx j y 2).val = (y 2).val := t.idx_val j y 2
  let q : Cert.ReferenceIdeal.S16x8x32x256.Idx := fun b => match b with
    | ⟨0, _⟩ => i 1
    | ⟨1, _⟩ => i 0
    | ⟨2, _⟩ => i 2
    | ⟨3, _⟩ => i 3
  refine (transpose_apply _ _ _ i q ?_).trans (shapeCast_apply _ _ q _ ?_)
  · intro b
    match b with
    | ⟨0, _⟩ => rfl
    | ⟨1, _⟩ => rfl
    | ⟨2, _⟩ => rfl
    | ⟨3, _⟩ => rfl
  · rw [Shape.rowMajor_val_three, Shape.rowMajor_val_four]
    show (((t.idx j y 0).val) * 256 + (t.idx j y 1).val) * 256 + (t.idx j y 2).val = ((((i 1).val) * 8 + (i 0).val) * 32 + (i 2).val) * 256 + (i 3).val
    omega

/-! ### Result 3 -/

/-- Where the entry `y` of place `j` lies in the result: in its `j`-th block. -/
def at3 (j : Dev 8) (y : S2048x512.Idx) : S8x2048x512.Idx := (slot3 j).view.emb y

theorem slot3_at (j : Dev 8) (y : S2048x512.Idx) : (at3 j y 0).val = j.val ∧ (at3 j y 1).val = (y 0).val ∧ (at3 j y 2).val = (y 1).val := by
  have e : Shape.reshapeEquiv ((squeezes_S1x2048x512_S2048x512 : S1x2048x512.Squeezes S2048x512).numel_eq) y = Fin.cons ⟨0, Nat.one_pos⟩ y :=
    Shape.reshapeEquiv_cons_one (d := ![2048, 512]) _ y
  have h : ∀ b, (at3 j y b).val = (![j.val, 0, 0] : Fin 3 → Nat) b + 1 * ((Fin.cons ⟨0, Nat.one_pos⟩ y : S1x2048x512.Idx) b).val := fun b =>
    congrArg (fun t : S1x2048x512.Idx => (![j.val, 0, 0] : Fin 3 → Nat) b + 1 * (t b).val) e
  refine ⟨(h 0).trans ?_, (h 1).trans ?_, (h 2).trans ?_⟩
  · show j.val + 1 * 0 = j.val
    omega
  · show 0 + 1 * (y 0).val = (y 0).val
    omega
  · show 0 + 1 * (y 1).val = (y 1).val
    omega

/-- Contents that agree at every place are equal. -/
theorem ext3 {G G' : S8x2048x512.Idx → Elt F .bf16} (h : ∀ j, (slot3 j).view.read (Elt F) G = (slot3 j).view.read (Elt F) G') : G = G' := by
  funext i
  obtain ⟨j, hj⟩ := cover_slot3 i
  obtain ⟨y, -, rfl⟩ := Finset.mem_map.mp hj
  exact congrFun (h j) y

/-- Place `j` of the reference's stack is block `j` of the whole array. -/
theorem read_stack3 (j : Dev 8) (x : Cert.ReferenceIdeal.S2048x4096.Idx → Elt F .bf16) :
    (slot3 j).view.read (Elt F) (Cert.ReferenceIdeal.stack3 x) = Layout.block S2048x512 Cert.ReferenceIdeal.S2048x4096 1 8 j x := by
  funext y
  obtain ⟨h0, h1, h2⟩ := slot3_at j y
  rw [Layout.block_apply]
  show Cert.ReferenceIdeal.stack3 x (at3 j y) = _
  generalize at3 j y = i at *
  have t : Layout.Tiles S2048x512 Cert.ReferenceIdeal.S2048x4096 1 8 := by decide
  have z0 : (t.idx j y 0).val = (y 0).val := t.idx_val j y 0
  have z1 : (t.idx j y 1).val = j.val * 512 + (y 1).val := t.idx_val j y 1
  let q : Cert.ReferenceIdeal.S2048x8x512.Idx := fun b => match b with
    | ⟨0, _⟩ => i 1
    | ⟨1, _⟩ => i 0
    | ⟨2, _⟩ => i 2
  refine (transpose_apply _ _ _ i q ?_).trans (shapeCast_apply _ _ q _ ?_)
  · intro b
    match b with
    | ⟨0, _⟩ => rfl
    | ⟨1, _⟩ => rfl
    | ⟨2, _⟩ => rfl
  · rw [Shape.rowMajor_val_two, Shape.rowMajor_val_three]
    show ((t.idx j y 0).val) * 4096 + (t.idx j y 1).val = (((i 1).val) * 8 + (i 0).val) * 512 + (i 2).val
    omega

/-! ### Result 4 -/

/-- Where the entry `y` of place `j` lies in the result: in its `j`-th block. -/
def at4 (j : Dev 8) (y : S88x128.Idx) : S8x88x128.Idx := (slot4 j).view.emb y

theorem slot4_at (j : Dev 8) (y : S88x128.Idx) : (at4 j y 0).val = j.val ∧ (at4 j y 1).val = (y 0).val ∧ (at4 j y 2).val = (y 1).val := by
  have e : Shape.reshapeEquiv ((squeezes_S1x88x128_S88x128 : S1x88x128.Squeezes S88x128).numel_eq) y = Fin.cons ⟨0, Nat.one_pos⟩ y :=
    Shape.reshapeEquiv_cons_one (d := ![88, 128]) _ y
  have h : ∀ b, (at4 j y b).val = (![j.val, 0, 0] : Fin 3 → Nat) b + 1 * ((Fin.cons ⟨0, Nat.one_pos⟩ y : S1x88x128.Idx) b).val := fun b =>
    congrArg (fun t : S1x88x128.Idx => (![j.val, 0, 0] : Fin 3 → Nat) b + 1 * (t b).val) e
  refine ⟨(h 0).trans ?_, (h 1).trans ?_, (h 2).trans ?_⟩
  · show j.val + 1 * 0 = j.val
    omega
  · show 0 + 1 * (y 0).val = (y 0).val
    omega
  · show 0 + 1 * (y 1).val = (y 1).val
    omega

/-- Contents that agree at every place are equal. -/
theorem ext4 {G G' : S8x88x128.Idx → Elt F .f32} (h : ∀ j, (slot4 j).view.read (Elt F) G = (slot4 j).view.read (Elt F) G') : G = G' := by
  funext i
  obtain ⟨j, hj⟩ := cover_slot4 i
  obtain ⟨y, -, rfl⟩ := Finset.mem_map.mp hj
  exact congrFun (h j) y

/-- Place `j` of the reference's stack is block `j` of the whole array. -/
theorem read_stack4 (j : Dev 8) (x : Cert.ReferenceIdeal.S704x128.Idx → Elt F .f32) :
    (slot4 j).view.read (Elt F) (Cert.ReferenceIdeal.stack4 x) = Layout.block S88x128 Cert.ReferenceIdeal.S704x128 0 8 j x := by
  funext y
  obtain ⟨h0, h1, h2⟩ := slot4_at j y
  rw [Layout.block_apply]
  show Cert.ReferenceIdeal.stack4 x (at4 j y) = _
  generalize at4 j y = i at *
  have t : Layout.Tiles S88x128 Cert.ReferenceIdeal.S704x128 0 8 := by decide
  have z0 : (t.idx j y 0).val = j.val * 88 + (y 0).val := t.idx_val j y 0
  have z1 : (t.idx j y 1).val = (y 1).val := t.idx_val j y 1
  refine shapeCast_apply _ _ i _ ?_
  rw [Shape.rowMajor_val_two, Shape.rowMajor_val_three]
  show (t.idx j y 0).val * 128 + (t.idx j y 1).val = ((i 0).val * 88 + (i 1).val) * 128 + (i 2).val
  omega

end Cert.KernelIdeal

end
-- ==== Proof.Shared.Direct.lean ====
/- Exchanges in one round over eight devices. Each result is an array of slots; each slot is filled either by a copy within
   the device or by one partner, and no transfer waits for another. A device first starts all its transfers and later waits
   for each semaphore once; what happens in between does not touch what is under way. -/
module

public import proofs.«01_k».proof.Proof.Shared.Deal
public import proofs.«01_k».proof.Proof.Shared.Steps
public import Idealize.ShloMosaic.Lib.Pipeline.BigSepL

@[expose] public section

noncomputable section

namespace Cert.Shared.Direct

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)
open Cert.Shared

variable {τ : Topo} {sig : RefSig} {Val : EltTy → Type} {Λ : Idealize.SL.Sem.Labels}

/-- One slot of a result: what each device reads for it, and where it lies. -/
structure Piece (sig : RefSig) where
  s : Shape
  e : EltTy
  src : Dev 8 → Memref sig .tc .hbm s e
  dst : Memref sig .tc .hbm s e
  hsrc : ∀ c, (src c).view.WordExact
  hdst : dst.view.WordExact
  hsc : dst.view.ref.isScScratch = false

/-- The semaphores of array `A`: of the copies `I` within a device, and of the two ends of the transfers `J`. -/
abbrev Kind (A I J : Type) : Type := A × (I ⊕ (J ⊕ J))
abbrev loc {A I J : Type} (x : A × I) : Kind A I J := (x.1, .inl x.2)
abbrev snd {A I J : Type} (x : A × J) : Kind A I J := (x.1, .inr (.inl x.2))
abbrev rcv {A I J : Type} (x : A × J) : Kind A I J := (x.1, .inr (.inr x.2))

/-- An exchange: its semaphores, who is whose partner, and which transfer fills which slot. -/
structure Plan (sig : RefSig) (A I J T : Type) where
  W : Wires sig (Kind A I J)
  slot : I ⊕ J ≃ T
  mate : J → Dev 8 → Dev 8
  mate_mate : ∀ j c, mate j (mate j c) = c
  piece : A → T → Piece sig
  hdma : ∀ k, (W.at_ k).isDma = true
  amtL : ∀ x : A × I, (piece x.1 (slot (.inl x.2))).dst.view.amount (W.at_ (loc x)) = W.amt (loc x)
  amtR : ∀ x : A × J, (piece x.1 (slot (.inr x.2))).dst.view.amount (W.at_ (rcv x)) = W.amt (rcv x)
  same : ∀ x : A × J, W.amt (snd x) = W.amt (rcv x)

section One

variable (P : Piece sig) (m : (ℓ : Loc 8 τ sig) → Buf Val ℓ)

/-- What device `c` reads for the slot. -/
def given (c : Dev 8) : P.s.Idx → Val P.e := (P.src c).view.read Val (m ((P.src c).view.loc (c.tc : Thread 8 τ)))

/-- The source of device `c`, as it was at the start. -/
def source (c : Dev 8) : sProp (XM 8 τ sig Val) :=
  iprop((P.src c).view.loc (c.tc : Thread 8 τ) ↦[(P.src c).view.set]{fullShare} m ((P.src c).view.loc (c.tc : Thread 8 τ)))

/-- Device `d`'s slot holds something. -/
def free (d : Dev 8) : sProp (XM 8 τ sig Val) := iprop(∃ f, P.dst.view.loc (d.tc : Thread 8 τ) ↦[P.dst.view.set]{fullShare} f)

/-- Device `d`'s slot holds what device `c` reads for it. -/
def held (d c : Dev 8) : sProp (XM 8 τ sig Val) :=
  iprop(∃ f, ⌜P.dst.view.read Val f = given P m c⌝ ∗ P.dst.view.loc (d.tc : Thread 8 τ) ↦[P.dst.view.set]{fullShare} f)

instance source_storable (c : Dev 8) : BI.Storable (upEmb : UEmb _ (XM 8 τ sig Val)) (source P m c) := by unfold source; infer_instance
instance held_storable (d c : Dev 8) : BI.Storable (upEmb : UEmb _ (XM 8 τ sig Val)) (held P m d c) := by unfold held; infer_instance

theorem held_of_write (d c : Dev 8) (fd : Buf Val (P.dst.view.loc (d.tc : Thread 8 τ))) :
    (P.dst.view.loc (d.tc : Thread 8 τ) ↦[P.dst.view.set]{fullShare} (P.dst.view.write Val fd (given P m c) Finset.univ))
      ⊢ (held P m d c : sProp (XM 8 τ sig Val)) := by
  unfold held
  iintro H
  iexists (P.dst.view.write Val fd (given P m c) Finset.univ)
  isplitr
  · ipureintro; exact View.read_write_univ _ _
  iexact H

end One

variable {A I J T : Type} [Fintype A] [DecidableEq A] [Fintype I] [DecidableEq I] [Fintype J] [DecidableEq J] [Fintype T] [DecidableEq T]
variable (D : Plan sig A I J T) (m : (ℓ : Loc 8 τ sig) → Buf Val ℓ)

namespace Plan

/-- The device whose semaphore a kind of device `c` raises. -/
def toward : Kind A I J → Dev 8 → Dev 8
  | (_, .inr (.inr j)), c => D.mate j c
  | (_, .inr (.inl _)), c => c
  | (_, .inl _), c => c

omit [Fintype A] [DecidableEq A] [Fintype I] [DecidableEq I] [Fintype J] [DecidableEq J] [Fintype T] [DecidableEq T] in
theorem toward_toward (k : Kind A I J) (c : Dev 8) : D.toward k (D.toward k c) = c := by
  obtain ⟨a, i | j | j⟩ := k
  · rfl
  · rfl
  · exact D.mate_mate j c

/-- The device that fills slot `t` of device `c`, which is also the one whose slot `t` device `c` fills. -/
def who (t : T) (c : Dev 8) : Dev 8 :=
  match D.slot.symm t with
  | .inl _ => c
  | .inr j => D.mate j c

omit [Fintype A] [DecidableEq A] [Fintype I] [DecidableEq I] [Fintype J] [DecidableEq J] [Fintype T] [DecidableEq T] in
theorem who_inl (i : I) (c : Dev 8) : D.who (D.slot (.inl i)) c = c := by unfold who; rw [Equiv.symm_apply_apply]
omit [Fintype A] [DecidableEq A] [Fintype I] [DecidableEq I] [Fintype J] [DecidableEq J] [Fintype T] [DecidableEq T] in
theorem who_inr (j : J) (c : Dev 8) : D.who (D.slot (.inr j)) c = D.mate j c := by unfold who; rw [Equiv.symm_apply_apply]
omit [Fintype A] [DecidableEq A] [Fintype I] [DecidableEq I] [Fintype J] [DecidableEq J] [Fintype T] [DecidableEq T] in
theorem who_who (t : T) (c : Dev 8) : D.who t (D.who t c) = c := by
  unfold who
  split
  · rfl
  · exact D.mate_mate _ c

abbrev pieceL (x : A × I) : Piece sig := D.piece x.1 (D.slot (.inl x.2))
abbrev pieceR (x : A × J) : Piece sig := D.piece x.1 (D.slot (.inr x.2))

/-- What each semaphore brings: an arrival the filled slot, a departure what was read, a copy both. -/
def payload : Dev 8 × Kind A I J → sProp (XM 8 τ sig Val)
  | (c, (a, .inl i)) => iprop(held (D.pieceL (a, i)) m c c ∗ source (D.pieceL (a, i)) m c)
  | (c, (a, .inr (.inl j))) => source (D.pieceR (a, j)) m c
  | (c, (a, .inr (.inr j))) => held (D.pieceR (a, j)) m c (D.mate j c)

instance payload_storable (ck : Dev 8 × Kind A I J) : BI.Storable (upEmb : UEmb _ (XM 8 τ sig Val)) (D.payload m ck) := by
  obtain ⟨c, a, i | j | j⟩ := ck <;> (unfold payload; infer_instance)

/-- A copy within device `c`. -/
def copyOp (c : Dev 8) (x : A × I) : TpuEff 8 τ sig Val Λ .tc PUnit :=
  .enqueueDma ((D.pieceL x).src c) (.here (D.pieceL x).dst) (D.W.at_ (loc x)) ((D.pieceL x).hsrc c) (D.pieceL x).hdst ⟨Or.inl (D.hdma _), trivial⟩

/-- A transfer from device `c` to its partner. -/
def sendOp (c : Dev 8) (x : A × J) : TpuEff 8 τ sig Val Λ .tc PUnit :=
  .enqueueDma ((D.pieceR x).src c) (.remote ((D.mate x.2 c).tc : Thread 8 τ) (D.pieceR x).dst (D.W.at_ (snd x)) (D.pieceR x).hsc) (D.W.at_ (rcv x))
    ((D.pieceR x).hsrc c) (D.pieceR x).hdst ⟨⟨(D.hdma _).trans (D.hdma _).symm, Or.inl (D.hdma _)⟩, trivial⟩

variable (defs : Defs 8 τ sig Val Λ) (𝒱 : Variants) (κ : Dev 8 × Kind A I J → ℕ) (c : Dev 8)

/-- What a copy needs, -/
def readyL (x : A × I) : sProp (XM 8 τ sig Val) :=
  iprop(source (D.pieceL x) m c ∗ free (D.pieceL x) c ∗ tok D.W (c, loc x))
/-- and a transfer. -/
def readyR (x : A × J) : sProp (XM 8 τ sig Val) :=
  iprop(source (D.pieceR x) m c ∗ free (D.pieceR x) (D.mate x.2 c) ∗ tok D.W (c, snd x) ∗ tok D.W (D.mate x.2 c, rcv x))

theorem copy_step (x : A × I) (R : sProp (XM 8 τ sig Val)) :
    iprop(know D.W (D.payload m) κ ∗ D.readyL m c x ∗ (credit D.W (c, loc x) -∗ R)) ⊢ start D.W defs 𝒱 D.toward c (D.copyOp c x) [] R := by
  have h (fd : Buf Val ((D.pieceL x).dst.view.loc (c.tc : Thread 8 τ))) := start_copy D.W (D.payload m) defs 𝒱 D.toward κ c (loc x)
    (src := (D.pieceL x).src c) (dst := (D.pieceL x).dst) (hsrc := (D.pieceL x).hsrc c) (hdst := (D.pieceL x).hdst)
    (hsem := ⟨Or.inl (D.hdma _), trivial⟩) rfl (D.amtL x) (q := fullShare) (fs := m (((D.pieceL x).src c).view.loc (c.tc : Thread 8 τ))) (fd := fd)
    (by
      show _ ⊢ iprop(held (D.pieceL x) m c c ∗ source (D.pieceL x) m c)
      exact sep_mono_left (held_of_write (D.pieceL x) m c c fd)) R
  unfold readyL free source
  iintro ⟨HK, ⟨Hs, ⟨%fd, Hd⟩, Ht⟩, HR⟩
  iapply (h fd)
  isplitl [HK]; · iexact HK
  isplitl [Hs]; · iexact Hs
  isplitl [Hd]; · iexact Hd
  isplitl [Ht] <;> iassumption

theorem send_step (x : A × J) (R : sProp (XM 8 τ sig Val)) :
    iprop(know D.W (D.payload m) κ ∗ D.readyR m c x ∗ (credit D.W (c, snd x) -∗ R)) ⊢ start D.W defs 𝒱 D.toward c (D.sendOp c x) [rcv x] R := by
  have h (fd : Buf Val ((D.pieceR x).dst.view.loc ((D.mate x.2 c).tc : Thread 8 τ))) := start_send D.W (D.payload m) defs 𝒱 D.toward κ c (c' := D.mate x.2 c) (snd x) (rcv x) rfl
    (src := (D.pieceR x).src c) (dst := (D.pieceR x).dst) (hsc := (D.pieceR x).hsc) (hsrc := (D.pieceR x).hsrc c) (hdst := (D.pieceR x).hdst)
    (hsem := ⟨⟨(D.hdma _).trans (D.hdma _).symm, Or.inl (D.hdma _)⟩, trivial⟩) rfl rfl
    (D.amtR x) (D.same x) (q := fullShare) (fs := m (((D.pieceR x).src c).view.loc (c.tc : Thread 8 τ))) (fd := fd)
    (Entails.of_eq rfl)
    (by
      refine (held_of_write (D.pieceR x) m (D.mate x.2 c) c fd).trans (Entails.of_eq ?_)
      show _ = held (D.pieceR x) m (D.mate x.2 c) (D.mate x.2 (D.mate x.2 c))
      rw [D.mate_mate]) R
  unfold readyR free source
  iintro ⟨HK, ⟨Hs, ⟨%fd, Hd⟩, Ht, Ht'⟩, HR⟩
  iapply (h fd)
  isplitl [HK]; · iexact HK
  isplitl [Hs]; · iexact Hs
  isplitl [Hd]; · iexact Hd
  isplitl [Ht]; · iexact Ht
  isplitl [Ht'] <;> iassumption

/-! ### Scripts -/

/-- Device `c` can start the copies of a list, one after the other, and go on with `R`; -/
def copies (R : sProp (XM 8 τ sig Val)) : List (A × I) → sProp (XM 8 τ sig Val)
  | [] => R
  | x :: l => start D.W defs 𝒱 D.toward c (D.copyOp c x) [] (copies R l)
/-- the transfers of a list; -/
def sends (R : sProp (XM 8 τ sig Val)) : List (A × J) → sProp (XM 8 τ sig Val)
  | [] => R
  | x :: l => start D.W defs 𝒱 D.toward c (D.sendOp c x) [rcv x] (sends R l)
/-- and wait for the semaphores of a list. -/
def awaits (R : sProp (XM 8 τ sig Val)) : List (Kind A I J) → sProp (XM 8 τ sig Val)
  | [] => R
  | k :: l => await D.W defs 𝒱 D.toward c k (awaits R l)

theorem copies_ready (R : sProp (XM 8 τ sig Val)) (l : List (A × I)) :
    iprop(know D.W (D.payload m) κ ∗ bigSepL l (D.readyL m c) ∗ ((bigSepL l fun x => credit D.W (c, loc x)) -∗ R)) ⊢ D.copies defs 𝒱 c R l := by
  induction l generalizing R with
  | nil =>
    unfold copies
    iintro ⟨-, -, HR⟩
    iapply HR
    rw [BI.bigSepL_nil]; iempintro
  | cons x l ih =>
    rw [BI.bigSepL_cons, BI.bigSepL_cons]
    show iprop(know D.W (D.payload m) κ ∗ (D.readyL m c x ∗ bigSepL l (D.readyL m c)) ∗ ((credit D.W (c, loc x) ∗ bigSepL l fun x => credit D.W (c, loc x)) -∗ R))
      ⊢ start D.W defs 𝒱 D.toward c (D.copyOp c x) [] (D.copies defs 𝒱 c R l)
    iintro ⟨#HK, ⟨Hx, Hl⟩, HR⟩
    iapply (D.copy_step m defs 𝒱 κ c x (D.copies defs 𝒱 c R l)) $$ [-]
    isplitr; · iexact HK
    isplitl [Hx]; · iexact Hx
    iintro Hc
    iapply (ih R) $$ [-]
    isplitr; · iexact HK
    isplitl [Hl]; · iexact Hl
    iintro Hcs
    iapply HR
    isplitl [Hc] <;> iassumption

theorem sends_ready (R : sProp (XM 8 τ sig Val)) (l : List (A × J)) :
    iprop(know D.W (D.payload m) κ ∗ bigSepL l (D.readyR m c) ∗ ((bigSepL l fun x => credit D.W (c, snd x)) -∗ R)) ⊢ D.sends defs 𝒱 c R l := by
  induction l generalizing R with
  | nil =>
    unfold sends
    iintro ⟨-, -, HR⟩
    iapply HR
    rw [BI.bigSepL_nil]; iempintro
  | cons x l ih =>
    rw [BI.bigSepL_cons, BI.bigSepL_cons]
    show iprop(know D.W (D.payload m) κ ∗ (D.readyR m c x ∗ bigSepL l (D.readyR m c)) ∗ ((credit D.W (c, snd x) ∗ bigSepL l fun x => credit D.W (c, snd x)) -∗ R))
      ⊢ start D.W defs 𝒱 D.toward c (D.sendOp c x) [rcv x] (D.sends defs 𝒱 c R l)
    iintro ⟨#HK, ⟨Hx, Hl⟩, HR⟩
    iapply (D.send_step m defs 𝒱 κ c x (D.sends defs 𝒱 c R l)) $$ [-]
    isplitr; · iexact HK
    isplitl [Hx]; · iexact Hx
    iintro Hc
    iapply (ih R) $$ [-]
    isplitr; · iexact HK
    isplitl [Hl]; · iexact Hl
    iintro Hcs
    iapply HR
    isplitl [Hc] <;> iassumption

theorem awaits_ready (R : sProp (XM 8 τ sig Val)) (l : List (Kind A I J)) :
    iprop(know D.W (D.payload m) κ ∗ (bigSepL l fun k => iprop(credit D.W (c, k) ∗ pos D.W (c, k)))
        ∗ ((bigSepL l fun k => iprop(D.payload m (c, k) ∗ semVal (cell D.W (c, k)) 0)) -∗ R)) ⊢ D.awaits defs 𝒱 c R l := by
  induction l generalizing R with
  | nil =>
    unfold awaits
    iintro ⟨-, -, HR⟩
    iapply HR
    rw [BI.bigSepL_nil]; iempintro
  | cons k l ih =>
    rw [BI.bigSepL_cons, BI.bigSepL_cons]
    show iprop(know D.W (D.payload m) κ ∗ ((credit D.W (c, k) ∗ pos D.W (c, k)) ∗ bigSepL l fun k => iprop(credit D.W (c, k) ∗ pos D.W (c, k)))
        ∗ (((D.payload m (c, k) ∗ semVal (cell D.W (c, k)) 0) ∗ bigSepL l fun k => iprop(D.payload m (c, k) ∗ semVal (cell D.W (c, k)) 0)) -∗ R))
      ⊢ await D.W defs 𝒱 D.toward c k (D.awaits defs 𝒱 c R l)
    iintro ⟨#HK, ⟨⟨Hc, Hp⟩, Hl⟩, HR⟩
    iapply (await_intro D.W (D.payload m) defs 𝒱 D.toward κ c k (D.awaits defs 𝒱 c R l)) $$ [-]
    isplitr; · iexact HK
    isplitl [Hc]; · iexact Hc
    isplitl [Hp]; · iexact Hp
    iintro Hk
    iapply (ih R) $$ [-]
    isplitr; · iexact HK
    isplitl [Hl]; · iexact Hl
    iintro Hks
    iapply HR
    isplitl [Hk] <;> iassumption

/-! ### What a device holds before, between and after -/

/-- Before its transfers start. -/
def before : sProp (XM 8 τ sig Val) :=
  iprop((∃ κ, know D.W (D.payload m) κ) ∗ (bigSep Finset.univ fun x : A × T => source (D.piece x.1 x.2) m c)
    ∗ (bigSep Finset.univ fun x : A × T => free (D.piece x.1 x.2) (D.who x.2 c))
    ∗ (bigSep Finset.univ fun k : Kind A I J => pos D.W (c, k))
    ∗ (bigSep Finset.univ fun k : Kind A I J => tok D.W (D.toward k c, k))
    ∗ bigSep Finset.univ fun x : A × J => credit D.W (c, rcv x))

/-- While they are under way. -/
def between : sProp (XM 8 τ sig Val) :=
  iprop((∃ κ, know D.W (D.payload m) κ) ∗ bigSep Finset.univ fun k : Kind A I J => iprop(credit D.W (c, k) ∗ pos D.W (c, k)))

/-- When all is done: every slot filled, every source as it was, the semaphores at zero. -/
def after : sProp (XM 8 τ sig Val) :=
  iprop((bigSep Finset.univ fun x : A × T => held (D.piece x.1 x.2) m c (D.who x.2 c))
    ∗ (bigSep Finset.univ fun x : A × T => source (D.piece x.1 x.2) m c)
    ∗ bigSep Finset.univ fun k : Kind A I J => semVal (cell D.W (c, k)) 0)

omit [DecidableEq A] [DecidableEq I] [DecidableEq J] [DecidableEq T] in
theorem over_kinds {M : Type} [URA M] (Φ : Kind A I J → sProp M) : bigSep Finset.univ Φ
    = iprop((bigSep Finset.univ fun x : A × I => Φ (loc x)) ∗ (bigSep Finset.univ fun x : A × J => Φ (snd x)) ∗ bigSep Finset.univ fun x : A × J => Φ (rcv x)) := by
  rw [bigSep_univ_prod, bigSep_univ_prod, bigSep_univ_prod (fun x : A × J => Φ (snd x)), bigSep_univ_prod (fun x : A × J => Φ (rcv x)),
    ← bigSep_sep', ← bigSep_sep']
  refine bigSep_congr fun a _ => ?_
  rw [bigSep_univ_sum, bigSep_univ_sum]; rfl

omit [DecidableEq A] [DecidableEq I] [DecidableEq J] [DecidableEq T] in
theorem over_slots {M : Type} [URA M] (Φ : A × T → sProp M) : bigSep Finset.univ Φ
    = iprop((bigSep Finset.univ fun x : A × I => Φ (x.1, D.slot (.inl x.2))) ∗ bigSep Finset.univ fun x : A × J => Φ (x.1, D.slot (.inr x.2))) := by
  rw [bigSep_univ_prod, bigSep_univ_prod, bigSep_univ_prod (fun x : A × J => Φ (x.1, D.slot (.inr x.2))), ← bigSep_sep']
  refine bigSep_congr fun a _ => ?_
  rw [bigSep_univ_equiv D.slot, bigSep_univ_sum]; rfl

/-- Everything the machine holds before an exchange, dealt to the devices. -/
theorem deal (ks : List (A × J)) (hn : ks.Nodup) (hks : Finset.univ = ks.toFinset) :
    iprop((∃ κ, know D.W (D.payload m) κ)
        ∗ (bigSep Finset.univ fun c : Dev 8 => bigSep Finset.univ fun x : A × T => source (D.piece x.1 x.2) m c)
        ∗ (bigSep Finset.univ fun c : Dev 8 => bigSep Finset.univ fun x : A × T => free (D.piece x.1 x.2) c)
        ∗ (bigSep Finset.univ fun ck : Dev 8 × Kind A I J => pos D.W ck)
        ∗ (bigSep Finset.univ fun ck : Dev 8 × Kind A I J => tok D.W ck)
        ∗ (bigSep Finset.univ fun c : Dev 8 => launchCred (fun d => debt D.W (due D.toward d (ks.map rcv))) c))
      ⊢ bigSep Finset.univ fun c : Dev 8 => D.before m c := by
  have along {X : Type} [Fintype X] [DecidableEq X] (p : X → Dev 8 → Dev 8) (hp : ∀ x c, p x (p x c) = c) (Φ : Dev 8 → X → sProp (XM 8 τ sig Val)) :
      (bigSep Finset.univ fun c => bigSep Finset.univ fun x => Φ c x) = bigSep Finset.univ fun c => bigSep Finset.univ fun x => Φ (p x c) x := by
    rw [swap_sums, swap_sums (J := X)]
    refine bigSep_congr fun x _ => ?_
    let e : Dev 8 ≃ Dev 8 := ⟨p x, p x, hp x, hp x⟩
    exact bigSep_univ_equiv e (fun c => Φ c x)
  have hcr : (bigSep Finset.univ fun c : Dev 8 => launchCred (fun d => debt D.W (due D.toward d (ks.map rcv))) c : sProp (XM 8 τ sig Val))
      ⊢ bigSep Finset.univ fun c : Dev 8 => bigSep Finset.univ fun x : A × J => credit D.W (c, rcv x) := by
    refine bigSep_mono fun c _ => ?_
    refine (launch_credit D.W D.toward D.toward D.toward_toward D.toward_toward (ks.map rcv) c).trans (Entails.of_eq ?_)
    rw [BI.bigSepL_map, ← BI.bigSep_univ_eq_bigSepL ks hks hn]
  have hpos : (bigSep Finset.univ fun ck : Dev 8 × Kind A I J => pos D.W ck : sProp (XM 8 τ sig Val))
      = bigSep Finset.univ fun c : Dev 8 => bigSep Finset.univ fun k : Kind A I J => pos D.W (c, k) := bigSep_univ_prod _
  have htok : (bigSep Finset.univ fun ck : Dev 8 × Kind A I J => tok D.W ck : sProp (XM 8 τ sig Val))
      = bigSep Finset.univ fun c : Dev 8 => bigSep Finset.univ fun k : Kind A I J => tok D.W (D.toward k c, k) :=
    (bigSep_univ_prod _).trans (along D.toward D.toward_toward fun c k => tok D.W (c, k))
  have hfree : (bigSep Finset.univ fun c : Dev 8 => bigSep Finset.univ fun x : A × T => free (D.piece x.1 x.2) c : sProp (XM 8 τ sig Val))
      = bigSep Finset.univ fun c : Dev 8 => bigSep Finset.univ fun x : A × T => free (D.piece x.1 x.2) (D.who x.2 c) :=
    along (fun x : A × T => D.who x.2) (fun x => D.who_who x.2) fun c x => free (D.piece x.1 x.2) c
  rw [hpos, htok, hfree]
  have hΨ := with_known (S := (Finset.univ : Finset (Dev 8))) (R := iprop(∃ κ, know D.W (D.payload m) κ))
    (Φ := fun c => iprop((bigSep Finset.univ fun x : A × T => source (D.piece x.1 x.2) m c)
      ∗ (bigSep Finset.univ fun x : A × T => free (D.piece x.1 x.2) (D.who x.2 c))
      ∗ (bigSep Finset.univ fun k : Kind A I J => pos D.W (c, k))
      ∗ (bigSep Finset.univ fun k : Kind A I J => tok D.W (D.toward k c, k))
      ∗ bigSep Finset.univ fun x : A × J => credit D.W (c, rcv x))) (Ψ := fun c => D.before m c) (fun c _ => Entails.of_eq rfl)
  simp only [bigSep_sep'] at hΨ
  iintro ⟨HK, H1, H2, H3, H4, H5⟩
  ihave H5 := hcr $$ H5
  iapply hΨ
  isplitl [HK]; · iexact HK
  isplitl [H1]; · iexact H1
  isplitl [H2]; · iexact H2
  isplitl [H3]; · iexact H3
  isplitl [H4] <;> iassumption

/-- A device can start all its transfers and go on. -/
theorem starting (R : sProp (XM 8 τ sig Val)) (ls : List (A × I)) (hls : Finset.univ = ls.toFinset) (hl : ls.Nodup) (rs : List (A × J)) (hrs : Finset.univ = rs.toFinset) (hr : rs.Nodup) :
    iprop(D.before m c ∗ (D.between m c -∗ R)) ⊢ D.copies defs 𝒱 c (D.sends defs 𝒱 c R rs) ls := by
  have eL (Φ : A × I → sProp (XM 8 τ sig Val)) := BI.bigSep_univ_eq_bigSepL ls hls hl Φ
  have eR (Φ : A × J → sProp (XM 8 τ sig Val)) := BI.bigSep_univ_eq_bigSepL rs hrs hr Φ
  have hL : iprop((bigSep Finset.univ fun x : A × I => source (D.pieceL x) m c) ∗ (bigSep Finset.univ fun x : A × I => free (D.pieceL x) (D.who (D.slot (.inl x.2)) c))
      ∗ bigSep Finset.univ fun x : A × I => tok D.W (c, loc x)) ⊢ bigSepL ls (D.readyL m c) := by
    rw [← eL, ← bigSep_sep', ← bigSep_sep']
    exact Entails.of_eq (bigSep_congr fun x _ => by rw [D.who_inl]; rfl)
  have hR : iprop((bigSep Finset.univ fun x : A × J => source (D.pieceR x) m c) ∗ (bigSep Finset.univ fun x : A × J => free (D.pieceR x) (D.who (D.slot (.inr x.2)) c))
      ∗ (bigSep Finset.univ fun x : A × J => tok D.W (c, snd x)) ∗ bigSep Finset.univ fun x : A × J => tok D.W (D.mate x.2 c, rcv x)) ⊢ bigSepL rs (D.readyR m c) := by
    rw [← eR, ← bigSep_sep', ← bigSep_sep', ← bigSep_sep']
    exact Entails.of_eq (bigSep_congr fun x _ => by rw [D.who_inr]; rfl)
  have hB : iprop((bigSepL ls fun x => credit D.W (c, loc x)) ∗ (bigSepL rs fun x => credit D.W (c, snd x)) ∗ (bigSep Finset.univ fun x : A × J => credit D.W (c, rcv x))
      ∗ bigSep Finset.univ fun k : Kind A I J => pos D.W (c, k)) ⊢ (bigSep Finset.univ fun k : Kind A I J => iprop(credit D.W (c, k) ∗ pos D.W (c, k)) : sProp (XM 8 τ sig Val)) := by
    rw [bigSep_sep', over_kinds fun k : Kind A I J => credit D.W (c, k), ← eL, ← eR (fun x => credit D.W (c, snd x))]
    iintro ⟨CL, CS, HC, HP⟩
    isplitr [HP]
    · isplitl [CL]; · iexact CL
      isplitl [CS]; · iexact CS
      iexact HC
    iexact HP
  unfold before
  rw [D.over_slots fun x => source (D.piece x.1 x.2) m c, D.over_slots fun x => free (D.piece x.1 x.2) (D.who x.2 c),
    over_kinds fun k : Kind A I J => tok D.W (D.toward k c, k)]
  iintro ⟨⟨⟨%κ, #HK⟩, ⟨SL, SR⟩, ⟨FL, FR⟩, HP, ⟨TL, TS, TR⟩, HC⟩, HR⟩
  iapply (D.copies_ready m defs 𝒱 κ c (D.sends defs 𝒱 c R rs) ls) $$ [-]
  isplitr; · iexact HK
  isplitl [SL FL TL]
  · iapply hL
    isplitl [SL]; · iexact SL
    isplitl [FL]; · iexact FL
    iexact TL
  iintro CL
  iapply (D.sends_ready m defs 𝒱 κ c R rs) $$ [-]
  isplitr; · iexact HK
  isplitl [SR FR TS TR]
  · iapply hR
    isplitl [SR]; · iexact SR
    isplitl [FR]; · iexact FR
    isplitl [TS]; · iexact TS
    iexact TR
  iintro CS
  iapply HR
  unfold between
  isplitr; · iexists κ; iexact HK
  iapply hB
  isplitl [CL]; · iexact CL
  isplitl [CS]; · iexact CS
  isplitl [HC]; · iexact HC
  iexact HP

/-- It can wait for them all and go on. -/
theorem waiting (R : sProp (XM 8 τ sig Val)) (ks : List (Kind A I J)) (hks : Finset.univ = ks.toFinset) (hk : ks.Nodup) :
    iprop(D.between m c ∗ (D.after m c -∗ R)) ⊢ D.awaits defs 𝒱 c R ks := by
  have e (Φ : Kind A I J → sProp (XM 8 τ sig Val)) := BI.bigSep_univ_eq_bigSepL ks hks hk Φ
  have hend : (bigSep Finset.univ fun k : Kind A I J => iprop(D.payload m (c, k) ∗ semVal (cell D.W (c, k)) 0)) ⊢ D.after m c := by
    unfold after
    rw [bigSep_sep', over_kinds fun k : Kind A I J => D.payload m (c, k), D.over_slots fun x => source (D.piece x.1 x.2) m c,
      D.over_slots fun x => held (D.piece x.1 x.2) m c (D.who x.2 c)]
    have h₁ : (bigSep Finset.univ fun x : A × I => D.payload m (c, loc x))
        = iprop((bigSep Finset.univ fun x : A × I => held (D.pieceL x) m c (D.who (D.slot (.inl x.2)) c)) ∗ bigSep Finset.univ fun x : A × I => source (D.pieceL x) m c) := by
      rw [← bigSep_sep']
      refine bigSep_congr fun x _ => ?_
      rw [D.who_inl]; rfl
    have h₂ : (bigSep Finset.univ fun x : A × J => D.payload m (c, snd x)) = bigSep Finset.univ fun x : A × J => source (D.pieceR x) m c := rfl
    have h₃ : (bigSep Finset.univ fun x : A × J => D.payload m (c, rcv x)) = bigSep Finset.univ fun x : A × J => held (D.pieceR x) m c (D.who (D.slot (.inr x.2)) c) := by
      refine bigSep_congr fun x _ => ?_
      rw [D.who_inr]; rfl
    rw [h₁, h₂, h₃]
    iintro ⟨⟨⟨HL, SL⟩, SR, HR⟩, HZ⟩
    isplitl [HL HR]; · isplitl [HL] <;> iassumption
    isplitl [SL SR]; · isplitl [SL] <;> iassumption
    iexact HZ
  unfold between
  rw [e]
  iintro ⟨⟨⟨%κ, #HK⟩, H⟩, HR⟩
  iapply (D.awaits_ready m defs 𝒱 κ c R ks) $$ [-]
  isplitr; · iexact HK
  isplitl [H]; · iexact H
  iintro H
  iapply HR
  iapply hend
  rw [e]; iexact H

/-! ### The next operation of a script -/

section Next

variable {defs 𝒱 c} {α : Type} {R G : sProp (XM 8 τ sig Val)} {Q : α → sProp (XM 8 τ sig Val)} {w' : TpuEff 8 τ sig Val Λ .tc PUnit}
  {k : PUnit → Prog (TpuEff 8 τ sig Val Λ .tc) α}

theorem next_copy {L : List (Kind A I J)} {x : A × I} {l : List (A × I)} (hw : w' = D.copyOp c x)
    (hk : iprop(owesAny D.W D.toward c L ∗ D.copies defs 𝒱 c R l ∗ G) ⊢ wp frame (wpE defs 𝒱 (c.tc : Thread 8 τ) none) Set.univ (k ⟨⟩) Q) :
    iprop(owesAny D.W D.toward c L ∗ D.copies defs 𝒱 c R (x :: l) ∗ G) ⊢ wp frame (wpE defs 𝒱 (c.tc : Thread 8 τ) none) Set.univ (.op w' k) Q :=
  step_start D.W defs 𝒱 D.toward hw rfl hk

theorem next_send {x : A × J} {l : List (A × J)} (hw : w' = D.sendOp c x)
    (hk : iprop(owesAny D.W D.toward c (l.map rcv) ∗ D.sends defs 𝒱 c R l ∗ G) ⊢ wp frame (wpE defs 𝒱 (c.tc : Thread 8 τ) none) Set.univ (k ⟨⟩) Q) :
    iprop(owesAny D.W D.toward c ((x :: l).map rcv) ∗ D.sends defs 𝒱 c R (x :: l) ∗ G) ⊢ wp frame (wpE defs 𝒱 (c.tc : Thread 8 τ) none) Set.univ (.op w' k) Q :=
  step_start D.W defs 𝒱 D.toward hw rfl hk

theorem next_await {x : Kind A I J} {l : List (Kind A I J)}
    (hw : ∀ Kk : PUnit → sProp (XM 8 τ sig Val), wpE defs 𝒱 (c.tc : Thread 8 τ) none Set.univ w' Kk = waitSpec (c.tc : Thread 8 τ) Set.univ (D.W.at_ x) (D.W.amt x) Kk)
    (hk : iprop(owesAny D.W D.toward c [] ∗ D.awaits defs 𝒱 c R l ∗ G) ⊢ wp frame (wpE defs 𝒱 (c.tc : Thread 8 τ) none) Set.univ (k ⟨⟩) Q) :
    iprop(owesAny D.W D.toward c [] ∗ D.awaits defs 𝒱 c R (x :: l) ∗ G) ⊢ wp frame (wpE defs 𝒱 (c.tc : Thread 8 τ) none) Set.univ (.op w' k) Q :=
  step_await D.W defs 𝒱 D.toward hw (fun _ h => absurd h List.not_mem_nil) hk

end Next

end Plan

/-! ### Places in a buffer -/

/-- An element lies in a box that is one thick along some axes and whole along the others exactly when its coordinates
    along the former are the box's. -/
theorem mem_box {s : Shape} {off size : Fin s.rank → ℕ} {inb : ∀ a, off a + size a ≤ s.size a} (thin : Fin s.rank → Bool)
    (h : ∀ a, if thin a = true then size a = 1 else off a = 0 ∧ size a = s.size a) (i : s.Idx) :
    i ∈ (Rect.unit (s := s) off size inb).set ↔ ∀ a, thin a = true → (i a).val = off a := by
  refine Rect.mem_set_unit.trans ?_
  constructor
  · intro hi a ha
    have h₁ := h a
    rw [if_pos ha] at h₁
    have h₂ := hi a
    omega
  · intro hi a
    have h₁ := h a
    by_cases ha : thin a = true
    · rw [if_pos ha] at h₁
      have h₂ := hi a ha
      omega
    · rw [if_neg ha] at h₁
      have h₂ := (i a).isLt
      omega

section Whole

variable {nD : Nat} {Ix : Type} [DecidableEq Ix] {Name : Type} [DecidableEq Name] {U : Type} [URA U] {Lvl : Type} [Preorder Lvl]

local notation "𝕄" => MT nD τ sig Ix Val Name U Lvl

/-- A buffer is any parts of it that are apart, and what is left. -/
theorem cut {K : Type} [Fintype K] [DecidableEq K] {ℓ : Loc nD τ sig} (S : K → Finset (Idx ℓ)) (hd : ∀ t t', t ≠ t' → Disjoint (S t) (S t')) (f : Buf Val ℓ) :
    (ℓ ↦{fullShare} f : sProp 𝕄) ⊣⊢ iprop((bigSep Finset.univ fun t => ℓ ↦[S t]{fullShare} f) ∗ ℓ ↦[Finset.univ \ Finset.univ.biUnion S]{fullShare} f) := by
  rw [← pointsTo_biUnion Finset.univ S fun t _ t' _ => hd t t']
  exact pointsTo_split_subset (Finset.subset_univ _)

end Whole

end Cert.Shared.Direct
-- ==== Proof.Shared.Sheets.lean ====
/- Arrays whose pieces an exchange in one round moves: every slot of a result is filled with a piece of an argument. From a few
   facts about the pieces follow the exchange itself, what a device holds around it, and what its memory contains at the end. -/
module

public import proofs.«01_k».proof.Proof.Shared.Direct

@[expose] public section

noncomputable section

namespace Cert.Shared.Direct

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (launchCred)
open Cert.Shared

/-- Two boxes one thick along an axis, at different places there, are apart. -/
theorem apart_axis {s : Shape} {off off' size size' : Fin s.rank → ℕ} {inb : ∀ a, off a + size a ≤ s.size a} {inb' : ∀ a, off' a + size' a ≤ s.size a}
    (a : Fin s.rank) (h₁ : size a = 1) (h₂ : size' a = 1) (h : off a ≠ off' a) :
    Disjoint (Rect.unit (s := s) off size inb).set (Rect.unit (s := s) off' size' inb').set :=
  Finset.disjoint_left.mpr fun i hi hi' => by
    have h₃ := (Rect.mem_set_unit.mp hi) a
    have h₄ := (Rect.mem_set_unit.mp hi') a
    omega

/-- An element lies in the box that is one thick along an axis, there at the element's place, and whole along the others. -/
theorem mem_axis {s : Shape} {off size : Fin s.rank → ℕ} {inb : ∀ a, off a + size a ≤ s.size a} (a : Fin s.rank) (i : s.Idx)
    (h₁ : size a = 1) (h₂ : off a = (i a).val) (h : ∀ b, b ≠ a → off b = 0 ∧ size b = s.size b) : i ∈ (Rect.unit (s := s) off size inb).set :=
  Rect.mem_set_unit.mpr fun b => by
    by_cases hb : b = a
    · subst hb; omega
    · have := h b hb
      have := (i b).isLt
      omega

/-- An argument, a result, the piece of the argument that each device reads for a slot of the result, and the slots. -/
structure Sheet (sig : RefSig) (T : Type) where
  {big : Shape}
  {out : Shape}
  {s : Shape}
  {e : EltTy}
  inp : Memref sig .tc .hbm big e
  res : Memref sig .tc .hbm out e
  inp_whole : inp.IsWhole
  res_whole : res.IsWhole
  own : res.view.ref.isScScratch = false
  pick : T → Dev 8 → Rect big
  pick_one : ∀ t c a, (pick t c).stride a = 1
  pick_shape : ∀ t c, (pick t c).shape.Squeezes s
  pick_words : ∀ t c, (pick t c).WholeWords e.packing
  put : T → Rect out
  put_one : ∀ t a, (put t).stride a = 1
  put_shape : ∀ t, (put t).shape.Squeezes s
  put_words : ∀ t, (put t).WholeWords e.packing
  pick_apart : ∀ c t t', t ≠ t' → Disjoint (pick t c).set (pick t' c).set
  put_apart : ∀ t t', t ≠ t' → Disjoint (put t).set (put t').set
  put_cover : ∀ i, ∃ t, i ∈ (put t).set
  some : 0 < s.numel

namespace Sheet

variable {sig : RefSig} {T : Type} (S : Sheet sig T)

/-- A slot and what is read for it. -/
def piece (t : T) : Piece sig where
  s := S.s
  e := S.e
  src c := (S.inp.slice (S.pick t c) (S.pick_one t c)).squeeze S.s (S.pick_shape t c)
  dst := (S.res.slice (S.put t) (S.put_one t)).squeeze S.s (S.put_shape t)
  hsrc c := (S.inp_whole.wordExact_slice rfl _ (S.pick_words t c)).reshape _ _
  hdst := (S.res_whole.wordExact_slice rfl _ (S.put_words t)).reshape _ _
  hsc := S.own

theorem src_set (t : T) (c : Dev 8) : ((S.piece t).src c).view.set = (S.pick t c).set.map S.inp.view.emb :=
  (View.set_reshape (S.inp.view.slice _) _).trans (View.set_slice S.inp.view _)
theorem dst_set (t : T) : (S.piece t).dst.view.set = (S.put t).set.map S.res.view.emb :=
  (View.set_reshape (S.res.view.slice _) _).trans (View.set_slice S.res.view _)

theorem src_apart (c : Dev 8) (t t' : T) (h : t ≠ t') : Disjoint ((S.piece t).src c).view.set ((S.piece t').src c).view.set := by
  rw [src_set, src_set]; exact (Finset.disjoint_map S.inp.view.emb).mpr (S.pick_apart c t t' h)
theorem dst_apart (t t' : T) (h : t ≠ t') : Disjoint (S.piece t).dst.view.set (S.piece t').dst.view.set := by
  rw [dst_set, dst_set]; exact (Finset.disjoint_map S.res.view.emb).mpr (S.put_apart t t' h)
theorem dst_cover (i : S.res.view.ty.Idx) : ∃ t, i ∈ (S.piece t).dst.view.set := by
  have hi : i ∈ S.res.view.set := by rw [S.res_whole.set_eq_univ]; exact Finset.mem_univ i
  obtain ⟨j, -, hj⟩ := Finset.mem_map.mp hi
  obtain ⟨t, ht⟩ := S.put_cover j
  exact ⟨t, by rw [dst_set, ← hj]; exact Finset.mem_map_of_mem _ ht⟩

/-- The units one piece counts. -/
def units : ℕ := sig.dmaCredit .tc (Kind.tc.table .hbm) S.res.view.buf S.s S.e

end Sheet

/-- Sheets, the semaphores of their transfers, and who is whose partner. -/
structure Setup (sig : RefSig) (A I J T : Type) where
  sheet : A → Sheet sig T
  num : Kind A I J → DmaSem sig
  num_inj : Function.Injective num
  slot : I ⊕ J ≃ T
  mate : J → Dev 8 → Dev 8
  mate_mate : ∀ j c, mate j (mate j c) = c

namespace Setup

variable {τ : Topo} {sig : RefSig} {Val : EltTy → Type}
variable {A I J T : Type} [Fintype A] [DecidableEq A] [Fintype I] [DecidableEq I] [Fintype J] [DecidableEq J] [Fintype T] [DecidableEq T]
variable (E : Setup sig A I J T)

def wires : Wires sig (Kind A I J) where
  at_ k := .dma (E.num k)
  inj _ _ h := E.num_inj (SemLoc.dma.inj h)
  amt k := (E.sheet k.1).units
  amt_pos k := sig.dmaCredit_pos _ _ _ _ _ (E.sheet k.1).some
  level k := match k.2 with
    | .inr (.inr _) => 1
    | _ => 0

def plan : Plan sig A I J T where
  W := E.wires
  slot := E.slot
  mate := E.mate
  mate_mate := E.mate_mate
  piece a t := (E.sheet a).piece t
  hdma _ := rfl
  amtL _ := rfl
  amtR _ := rfl
  same _ := rfl

variable (m : (ℓ : Loc 8 τ sig) → Buf Val ℓ) (c : Dev 8)

/-- The arguments, as they were; -/
def inputs : sProp (XM 8 τ sig Val) :=
  bigSep Finset.univ fun a => (E.sheet a).inp.view.loc (c.tc : Thread 8 τ) ↦{fullShare} m ((E.sheet a).inp.view.loc (c.tc : Thread 8 τ))
/-- the results, whatever they hold; -/
def outputs : sProp (XM 8 τ sig Val) :=
  bigSep Finset.univ fun a => iprop(∃ f : Buf Val ((E.sheet a).res.view.loc (c.tc : Thread 8 τ)), (E.sheet a).res.view.loc (c.tc : Thread 8 τ) ↦{fullShare} f)
/-- the parts of the arguments that nothing reads; -/
def leftover : sProp (XM 8 τ sig Val) :=
  bigSep Finset.univ fun a => (E.sheet a).inp.view.loc (c.tc : Thread 8 τ)
    ↦[Finset.univ \ Finset.univ.biUnion fun t => (((E.sheet a).piece t).src c).view.set]{fullShare} m ((E.sheet a).inp.view.loc (c.tc : Thread 8 τ))
/-- a result's contents with every slot filled; -/
def Full (a : A) (G : Buf Val ((E.sheet a).res.view.loc (c.tc : Thread 8 τ))) : Prop :=
  ∀ t, ((E.sheet a).piece t).dst.view.read Val G = given ((E.sheet a).piece t) m (E.plan.who t c)
/-- the results, filled. -/
def filled : sProp (XM 8 τ sig Val) :=
  bigSep Finset.univ fun a => iprop(∃ G : Buf Val ((E.sheet a).res.view.loc (c.tc : Thread 8 τ)), ⌜E.Full m c a G⌝ ∗ (E.sheet a).res.view.loc (c.tc : Thread 8 τ) ↦{fullShare} G)

omit [Fintype I] [DecidableEq I] [Fintype J] [DecidableEq J] in
theorem cut_inputs : (E.inputs m c : sProp (XM 8 τ sig Val))
    = iprop((bigSep Finset.univ fun x : A × T => source (E.plan.piece x.1 x.2) m c) ∗ E.leftover m c) := by
  unfold inputs leftover
  rw [bigSep_univ_prod, ← bigSep_sep']
  refine bigSep_congr fun a _ => ?_
  have h := cut (Ix := Unit) (Name := ℕ) (U := Two 8 τ sig) (Lvl := ℕ) (ℓ := (E.sheet a).inp.view.loc (c.tc : Thread 8 τ))
    (fun t => (((E.sheet a).piece t).src c).view.set) ((E.sheet a).src_apart c) (m ((E.sheet a).inp.view.loc (c.tc : Thread 8 τ)))
  exact BI.Entails.antisymm h.1 h.2

omit [Fintype I] [DecidableEq I] [Fintype J] [DecidableEq J] in
theorem cut_outputs : (E.outputs c : sProp (XM 8 τ sig Val)) ⊢ bigSep Finset.univ fun x : A × T => free (E.plan.piece x.1 x.2) c := by
  unfold outputs
  rw [bigSep_univ_prod]
  refine bigSep_mono fun a _ => ?_
  have h (f : Buf Val ((E.sheet a).res.view.loc (c.tc : Thread 8 τ))) : ((E.sheet a).res.view.loc (c.tc : Thread 8 τ) ↦{fullShare} f : sProp (XM 8 τ sig Val))
      ⊢ bigSep Finset.univ fun t => free (E.plan.piece a t) c :=
    split_parts (ℓ := (E.sheet a).res.view.loc (c.tc : Thread 8 τ)) (fun t => ((E.sheet a).piece t).dst.view.set) (E.sheet a).dst_apart (E.sheet a).dst_cover f
  show iprop(∃ f : Buf Val ((E.sheet a).res.view.loc (c.tc : Thread 8 τ)), (E.sheet a).res.view.loc (c.tc : Thread 8 τ) ↦{fullShare} f) ⊢ _
  iintro ⟨%f, H⟩
  iapply (h f); iexact H

omit [Fintype I] [DecidableEq I] [Fintype J] [DecidableEq J] in
theorem join_outputs : (bigSep Finset.univ fun x : A × T => held (E.plan.piece x.1 x.2) m c (E.plan.who x.2 c) : sProp (XM 8 τ sig Val)) ⊢ E.filled m c := by
  unfold filled
  rw [bigSep_univ_prod]
  refine bigSep_mono fun a _ => ?_
  exact join_parts (ℓ := (E.sheet a).res.view.loc (c.tc : Thread 8 τ)) (fun t => ((E.sheet a).piece t).dst.view.set) (E.sheet a).dst_apart (E.sheet a).dst_cover
    (fun t G => ((E.sheet a).piece t).dst.view.read Val G = given ((E.sheet a).piece t) m (E.plan.who t c))
    (fun t f g h hf => (View.read_congr (v := ((E.sheet a).piece t).dst.view) h).trans hf) (m ((E.sheet a).res.view.loc (c.tc : Thread 8 τ)))

/-- What a device ends with. -/
theorem close : iprop(E.plan.after m c ∗ E.leftover m c)
    ⊢ (iprop((E.filled m c ∗ E.inputs m c) ∗ Pipeline.ownSems0 (Ix := Unit) (Name := ℕ) (U := Two 8 τ sig) (Lvl := ℕ) (Val := Val) (τ := τ) E.wires.at_ c)
      : sProp (XM 8 τ sig Val)) := by
  rw [cut_inputs, show (Pipeline.ownSems0 (Ix := Unit) (Name := ℕ) (U := Two 8 τ sig) (Lvl := ℕ) (Val := Val) (τ := τ) E.wires.at_ c : sProp (XM 8 τ sig Val))
    = bigSep Finset.univ fun k : Kind A I J => semVal (cell E.plan.W (c, k)) 0 from rfl]
  unfold Plan.after
  iintro ⟨⟨HH, HS, HZ⟩, HL⟩
  ihave HH := (E.join_outputs m c) $$ HH
  isplitr [HZ]
  · isplitl [HH]; · iexact HH
    isplitl [HS] <;> iassumption
  iexact HZ

/-- Everything the machine holds, dealt. -/
theorem deal_all (ks : List (A × J)) (hn : ks.Nodup) (hks : Finset.univ = ks.toFinset) :
    iprop(levAts lvls (lev E.wires) ∗ (bigSep Finset.univ fun c : Dev 8 => Pipeline.ownSems0 (Ix := Unit) (Name := ℕ) (U := Two 8 τ sig) (Lvl := ℕ) (Val := Val) (τ := τ) E.wires.at_ c)
        ∗ (bigSep Finset.univ fun c : Dev 8 => iprop(E.inputs m c ∗ E.outputs c))
        ∗ (bigSep Finset.univ fun c : Dev 8 => launchCred (fun d => debt E.wires (due E.plan.toward d (ks.map rcv))) c)
        ∗ BI.own (EX 8 τ sig Val (initOf (allCells E.wires) (allToks E.wires))))
      ⊢ (|={Set.univ}=> bigSep Finset.univ fun c : Dev 8 => iprop(E.plan.before m c ∗ E.leftover m c) : sProp (XM 8 τ sig Val)) := by
  have hrest : (bigSep Finset.univ fun c : Dev 8 => iprop(E.inputs m c ∗ E.outputs c) : sProp (XM 8 τ sig Val))
      ⊢ iprop((bigSep Finset.univ fun c : Dev 8 => bigSep Finset.univ fun x : A × T => source (E.plan.piece x.1 x.2) m c)
          ∗ (bigSep Finset.univ fun c : Dev 8 => bigSep Finset.univ fun x : A × T => free (E.plan.piece x.1 x.2) c)
          ∗ bigSep Finset.univ fun c : Dev 8 => E.leftover m c) := by
    rw [← bigSep_sep', ← bigSep_sep']
    have h (c : Dev 8) : (iprop(E.inputs m c ∗ E.outputs c) : sProp (XM 8 τ sig Val))
        ⊢ iprop((bigSep Finset.univ fun x : A × T => source (E.plan.piece x.1 x.2) m c)
          ∗ (bigSep Finset.univ fun x : A × T => free (E.plan.piece x.1 x.2) c) ∗ E.leftover m c) := by
      rw [cut_inputs]
      iintro ⟨⟨HS, HL⟩, HO⟩
      ihave HO := (E.cut_outputs c) $$ HO
      isplitl [HS]; · iexact HS
      isplitl [HO] <;> iassumption
    exact bigSep_mono fun c _ => h c
  have hd := E.plan.deal m ks hn hks
  rw [show (bigSep Finset.univ fun c : Dev 8 => iprop(E.plan.before m c ∗ E.leftover m c) : sProp (XM 8 τ sig Val))
    = iprop((bigSep Finset.univ fun c : Dev 8 => E.plan.before m c) ∗ bigSep Finset.univ fun c : Dev 8 => E.leftover m c) from bigSep_sep' _ _ _]
  iintro ⟨HL, HS, HR, HC, HX⟩
  imod (exchange_start E.wires (E.plan.payload m)) $$ [HL HS HX] with ⟨HK, Hp, Ht⟩
  · isplitl [HL]; · iexact HL
    isplitl [HS] <;> iassumption
  ihave HR := hrest $$ HR
  icases HR with ⟨HR, HO, HV⟩
  imodintro
  isplitr [HV]
  · iapply hd
    isplitl [HK]; · iexact HK
    isplitl [HR]; · iexact HR
    isplitl [HO]; · iexact HO
    isplitl [Hp]; · iexact Hp
    isplitl [Ht]; · iexact Ht
    iexact HC
  iexact HV

/-- A device's results and arguments in a memory. -/
def Done (s : MemSt 8 τ sig Val) : Prop :=
  ∀ a, E.Full m c a (s.mem ((E.sheet a).res.view.loc (c.tc : Thread 8 τ)))
    ∧ s.mem ((E.sheet a).inp.view.loc (c.tc : Thread 8 τ)) = m ((E.sheet a).inp.view.loc (c.tc : Thread 8 τ))

omit [Fintype I] [DecidableEq I] [Fintype J] [DecidableEq J] in
theorem read_done (s' : Phys 8 τ sig Val) :
    iprop((E.filled m c ∗ E.inputs m c) ∗ SI s') ⊢ (|={Set.univ}=> iprop(⌜E.Done m c s'.mem⌝ ∗ SI s') : sProp (XM 8 τ sig Val)) := by
  have h (B : Finset A) : iprop((bigSep B fun a => iprop((∃ G : Buf Val ((E.sheet a).res.view.loc (c.tc : Thread 8 τ)), ⌜E.Full m c a G⌝ ∗ (E.sheet a).res.view.loc (c.tc : Thread 8 τ) ↦{fullShare} G)
        ∗ (E.sheet a).inp.view.loc (c.tc : Thread 8 τ) ↦{fullShare} m ((E.sheet a).inp.view.loc (c.tc : Thread 8 τ)))) ∗ SI s')
      ⊢ (iprop(⌜∀ a ∈ B, E.Full m c a (s'.mem.mem ((E.sheet a).res.view.loc (c.tc : Thread 8 τ)))
          ∧ s'.mem.mem ((E.sheet a).inp.view.loc (c.tc : Thread 8 τ)) = m ((E.sheet a).inp.view.loc (c.tc : Thread 8 τ))⌝ ∗ SI s') : sProp (XM 8 τ sig Val)) := by
    induction B using Finset.induction_on with
    | empty =>
      iintro ⟨-, H⟩
      isplitr; · ipureintro; exact fun a ha => absurd ha (Finset.notMem_empty a)
      iexact H
    | insert a B ha ih =>
      rw [bigSep_insert ha]
      show iprop((((∃ G : Buf Val ((E.sheet a).res.view.loc (c.tc : Thread 8 τ)), ⌜E.Full m c a G⌝ ∗ (E.sheet a).res.view.loc (c.tc : Thread 8 τ) ↦{fullShare} G)
        ∗ (E.sheet a).inp.view.loc (c.tc : Thread 8 τ) ↦{fullShare} m ((E.sheet a).inp.view.loc (c.tc : Thread 8 τ))) ∗ bigSep B _) ∗ SI s') ⊢ _
      iintro ⟨⟨⟨⟨%G, %hG, HO⟩, HS⟩, HB⟩, HI⟩
      icombine HI HO gives %h₁
      icombine HI HS gives %h₂
      ihave H := ih $$ [HB HI]
      · isplitl [HB] <;> iassumption
      icases H with ⟨%h₃, HI⟩
      isplitr
      · ipureintro
        intro b hb
        rcases Finset.mem_insert.mp hb with rfl | hb
        · exact ⟨by rw [Buf.eq_of_forall_mem_univ h₁]; exact hG, Buf.eq_of_forall_mem_univ h₂⟩
        · exact h₃ b hb
      iexact HI
  have h' := h Finset.univ
  rw [bigSep_sep'] at h'
  unfold filled inputs
  iintro H
  ihave H := h' $$ H
  icases H with ⟨%hd, HI⟩
  imodintro
  isplitr; · ipureintro; exact fun a => hd a (Finset.mem_univ a)
  iexact HI

end Setup

end Cert.Shared.Direct
-- ==== Proof.Swap.Body.lean ====
/- The exchange of every chip's pieces between the two devices of a chip: where the pieces lie, the semaphores, and the body on
   one device, whose operations in order are the script of the exchange. -/
module

public import proofs.«01_k».proof.Proof.Shared.Sheets
public import proofs.«01_k».proof.Proof.Gen.SwapIdeal.Skeleton
public import proofs.«01_k».proof.Proof.Gen.SwapIdeal.Points
public import proofs.«01_k».proof.Proof.Gen.SwapIdeal.Launch

@[expose] public section

noncomputable section

namespace Cert.SwapIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SwapIdeal.Gen Cert.Shared Cert.Shared.Direct

theorem inbA : ∀ (t : Fin 4) (c : Dev 8) (a : Fin 4), (![t.val, 1 - c.val % 2, 0, 0] : Fin 4 → ℕ) a + S1x1x4096x2560.size a ≤ S4x2x4096x2560.size a := by
  decide +kernel
theorem wordsA : ∀ (t : Fin 4) (c : Dev 8), (Rect.unit (s := S4x2x4096x2560) ![t.val, 1 - c.val % 2, 0, 0] S1x1x4096x2560.size (inbA t c)).WholeWords (EltTy.packing .bf16) := by
  decide +kernel
theorem inbB : ∀ (t : Fin 4) (c : Dev 8) (a : Fin 4), (![t.val, 1 - c.val % 2, 0, 0] : Fin 4 → ℕ) a + S1x1x512x256.size a ≤ S4x2x512x256.size a := by
  decide +kernel
theorem wordsB : ∀ (t : Fin 4) (c : Dev 8), (Rect.unit (s := S4x2x512x256) ![t.val, 1 - c.val % 2, 0, 0] S1x1x512x256.size (inbB t c)).WholeWords (EltTy.packing .bf16) := by
  decide +kernel
theorem inbC : ∀ (t : Fin 4) (a : Fin 3), (![t.val, 0, 0] : Fin 3 → ℕ) a + S1x4096x2560.size a ≤ S4x4096x2560.size a := by decide +kernel
theorem wordsC : ∀ t : Fin 4, (Rect.unit (s := S4x4096x2560) ![t.val, 0, 0] S1x4096x2560.size (inbC t)).WholeWords (EltTy.packing .bf16) := by decide +kernel
theorem inbD : ∀ (t : Fin 4) (a : Fin 3), (![t.val, 0, 0] : Fin 3 → ℕ) a + S1x512x256.size a ≤ S4x512x256.size a := by decide +kernel
theorem wordsD : ∀ t : Fin 4, (Rect.unit (s := S4x512x256) ![t.val, 0, 0] S1x512x256.size (inbD t)).WholeWords (EltTy.packing .bf16) := by decide +kernel

theorem row_ne {n : ℕ} {t t' : Fin n} (h : t ≠ t') : t.val ≠ t'.val := fun e => h (Fin.ext e)

/-- A large array and its result, -/
def sheetA (inp : Memref sig .tc .hbm S4x2x4096x2560 .bf16) (res : Memref sig .tc .hbm S4x4096x2560 .bf16) (hi : inp.IsWhole) (hr : res.IsWhole)
    (ho : res.view.ref.isScScratch = false) : Sheet sig (Fin 4) where
  s := S4096x2560
  e := .bf16
  inp := inp
  res := res
  inp_whole := hi
  res_whole := hr
  own := ho
  pick t c := Rect.unit (s := S4x2x4096x2560) ![t.val, 1 - c.val % 2, 0, 0] S1x1x4096x2560.size (inbA t c)
  pick_one _ _ _ := rfl
  pick_shape _ _ := squeezes_S1x1x4096x2560_S4096x2560
  pick_words := wordsA
  put t := Rect.unit (s := S4x4096x2560) ![t.val, 0, 0] S1x4096x2560.size (inbC t)
  put_one _ _ := rfl
  put_shape _ := squeezes_S1x4096x2560_S4096x2560
  put_words := wordsC
  pick_apart _ _ _ h := apart_axis (s := S4x2x4096x2560) (0 : Fin 4) rfl rfl (row_ne h)
  put_apart _ _ h := apart_axis (s := S4x4096x2560) (0 : Fin 3) rfl rfl (row_ne h)
  put_cover i := ⟨⟨(i 0).val, (i 0).isLt⟩, mem_axis (s := S4x4096x2560) (0 : Fin 3) i rfl rfl (by
    intro b hb
    match b with
    | 0 => exact absurd rfl hb
    | 1 => exact ⟨rfl, rfl⟩
    | 2 => exact ⟨rfl, rfl⟩)⟩
  some := by decide

/-- and a small one. -/
def sheetB (inp : Memref sig .tc .hbm S4x2x512x256 .bf16) (res : Memref sig .tc .hbm S4x512x256 .bf16) (hi : inp.IsWhole) (hr : res.IsWhole)
    (ho : res.view.ref.isScScratch = false) : Sheet sig (Fin 4) where
  s := S512x256
  e := .bf16
  inp := inp
  res := res
  inp_whole := hi
  res_whole := hr
  own := ho
  pick t c := Rect.unit (s := S4x2x512x256) ![t.val, 1 - c.val % 2, 0, 0] S1x1x512x256.size (inbB t c)
  pick_one _ _ _ := rfl
  pick_shape _ _ := squeezes_S1x1x512x256_S512x256
  pick_words := wordsB
  put t := Rect.unit (s := S4x512x256) ![t.val, 0, 0] S1x512x256.size (inbD t)
  put_one _ _ := rfl
  put_shape _ := squeezes_S1x512x256_S512x256
  put_words := wordsD
  pick_apart _ _ _ h := apart_axis (s := S4x2x512x256) (0 : Fin 4) rfl rfl (row_ne h)
  put_apart _ _ h := apart_axis (s := S4x512x256) (0 : Fin 3) rfl rfl (row_ne h)
  put_cover i := ⟨⟨(i 0).val, (i 0).isLt⟩, mem_axis (s := S4x512x256) (0 : Fin 3) i rfl rfl (by
    intro b hb
    match b with
    | 0 => exact absurd rfl hb
    | 1 => exact ⟨rfl, rfl⟩
    | 2 => exact ⟨rfl, rfl⟩)⟩
  some := by decide

def num : Kind (Fin 3) (Fin 0) (Fin 4) → DmaSem sig
  | (_, .inl i) => i.elim0
  | (a, .inr (.inl j)) => ⟨4 * a.val + j.val, by show _ < 24; omega⟩
  | (a, .inr (.inr j)) => ⟨12 + (4 * a.val + j.val), by show _ < 24; omega⟩

/-- The exchange: every slot is filled by the other device of the chip. -/
def E : Setup sig (Fin 3) (Fin 0) (Fin 4) (Fin 4) where
  sheet
    | 0 => sheetA (Memref.whole main_arg0) (Memref.whole main_v1_0) (Memref.isWhole_whole _) (Memref.isWhole_whole _) rfl
    | 1 => sheetB (Memref.whole main_arg1) (Memref.whole main_v1_1) (Memref.isWhole_whole _) (Memref.isWhole_whole _) rfl
    | 2 => sheetB (Memref.whole main_arg2) (Memref.whole main_v1_2) (Memref.isWhole_whole _) (Memref.isWhole_whole _) rfl
  num := num
  num_inj := by decide +kernel
  slot := Equiv.emptySum (Fin 0) (Fin 4)
  mate _ := flipBits 1
  mate_mate _ := by decide +kernel

theorem srcA_eq (arg : Memref sig .tc .hbm S4x2x4096x2560 .bf16) {off : Fin 4 → ℕ} (inb : ∀ a, off a + S1x1x4096x2560.size a ≤ S4x2x4096x2560.size a) (t : Fin 4) (c : Dev 8)
    (h : off = ![t.val, 1 - c.val % 2, 0, 0]) :
    (arg.slice (Rect.unit (s := S4x2x4096x2560) off S1x1x4096x2560.size inb) (fun _ => rfl)).squeeze S4096x2560 squeezes_S1x1x4096x2560_S4096x2560
      = (arg.slice (Rect.unit (s := S4x2x4096x2560) ![t.val, 1 - c.val % 2, 0, 0] S1x1x4096x2560.size (inbA t c)) (fun _ => rfl)).squeeze S4096x2560 squeezes_S1x1x4096x2560_S4096x2560 := by
  subst h; rfl
theorem srcB_eq (arg : Memref sig .tc .hbm S4x2x512x256 .bf16) {off : Fin 4 → ℕ} (inb : ∀ a, off a + S1x1x512x256.size a ≤ S4x2x512x256.size a) (t : Fin 4) (c : Dev 8)
    (h : off = ![t.val, 1 - c.val % 2, 0, 0]) :
    (arg.slice (Rect.unit (s := S4x2x512x256) off S1x1x512x256.size inb) (fun _ => rfl)).squeeze S512x256 squeezes_S1x1x512x256_S512x256
      = (arg.slice (Rect.unit (s := S4x2x512x256) ![t.val, 1 - c.val % 2, 0, 0] S1x1x512x256.size (inbB t c)) (fun _ => rfl)).squeeze S512x256 squeezes_S1x1x512x256_S512x256 := by
  subst h; rfl

theorem dev_eq : ∀ d : Dev 8, (4 * (d.val / 4) + 2 * ((d.val / 2) % 2) + 1) - (d.val % 2) = (flipBits 1 d).val := by decide +kernel

variable {F : FTy → Type} [FloatOps F] (m : (ℓ : Loc nD τ sig) → Buf (Elt F) ℓ)

/-- The transfers in order. -/
def ways : List (Fin 3 × Fin 4) := [(0, 0), (0, 1), (0, 2), (0, 3), (1, 0), (1, 1), (1, 2), (1, 3), (2, 0), (2, 1), (2, 2), (2, 3)]

set_option maxRecDepth 20000 in
set_option maxHeartbeats 4000000 in
theorem body_wp (c : Dev nD) (t : Fin cfg0.N) (𝒱 : Variants) (R G : sProp (XM nD τ sig (Elt F))) :
    iprop(owesAny E.plan.W E.plan.toward c (ways.map rcv)
        ∗ E.plan.sends (defs₀ (F := F)) 𝒱 c (E.plan.awaits (defs₀ (F := F)) 𝒱 c R (ways.map rcv ++ ways.map snd)) ways ∗ G)
      ⊢ wp frame (wpE (defs₀ (F := F)) 𝒱 (c.tc : Thread nD τ) none) Set.univ (bodyAt0 (F := F) t)
        (fun _ => iprop(owesAny E.plan.W E.plan.toward c [] ∗ R ∗ G)) := by
  unfold bodyAt0
  simp only [cc0_swap_sibling_w_in_eq_skeleton, cc0_swap_sibling_w_in_skel, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton, k0_part11_eq_skeleton,
    k0_part12_eq_skeleton, k0_part13_eq_skeleton, k0_part14_eq_skeleton, k0_part15_eq_skeleton, k0_part16_eq_skeleton,
    k0_part1_skel, k0_part2_skel, k0_part3_skel, k0_part4_skel, k0_part5_skel, k0_part6_skel, k0_part7_skel, k0_part8_skel, k0_part9_skel, k0_part10_skel, k0_part11_skel,
    k0_part12_skel, k0_part13_skel, k0_part14_skel, k0_part15_skel, k0_part16_skel, Prog.lift, Prog.bind_op, Prog.bind_ret, Prog.pure_eq_ret, wp_deviceId]
  have dev {n : ℕ} {h : n < 8} (hn : n = (4 * (c.val / 4) + 2 * ((c.val / 2) % 2) + 1) - (c.val % 2)) : (⟨n, h⟩ : Dev 8) = flipBits 1 c :=
    Fin.ext (hn.trans (dev_eq c))
  unfold ways
  refine E.plan.next_send (send_congr (dev (k0_dev1_eq c)) (srcA_eq _ _ 0 c (k0_off1_eq c)) rfl rfl rfl) ?_
  refine E.plan.next_send (send_congr (dev (k0_dev2_eq c)) (srcA_eq _ _ 1 c (k0_off2_eq c)) rfl rfl rfl) ?_
  refine E.plan.next_send (send_congr (dev (k0_dev3_eq c)) (srcA_eq _ _ 2 c (k0_off3_eq c)) rfl rfl rfl) ?_
  refine E.plan.next_send (send_congr (dev (k0_dev4_eq c)) (srcA_eq _ _ 3 c (k0_off4_eq c)) rfl rfl rfl) ?_
  refine E.plan.next_send (send_congr (dev (k0_dev5_eq c)) (srcB_eq _ _ 0 c (k0_off5_eq c)) rfl rfl rfl) ?_
  refine E.plan.next_send (send_congr (dev (k0_dev6_eq c)) (srcB_eq _ _ 1 c (k0_off6_eq c)) rfl rfl rfl) ?_
  refine E.plan.next_send (send_congr (dev (k0_dev7_eq c)) (srcB_eq _ _ 2 c (k0_off7_eq c)) rfl rfl rfl) ?_
  refine E.plan.next_send (send_congr (dev (k0_dev8_eq c)) (srcB_eq _ _ 3 c (k0_off8_eq c)) rfl rfl rfl) ?_
  refine E.plan.next_send (send_congr (dev (k0_dev9_eq c)) (srcB_eq _ _ 0 c (k0_off5_eq c)) rfl rfl rfl) ?_
  refine E.plan.next_send (send_congr (dev (k0_dev10_eq c)) (srcB_eq _ _ 1 c (k0_off6_eq c)) rfl rfl rfl) ?_
  refine E.plan.next_send (send_congr (dev (k0_dev11_eq c)) (srcB_eq _ _ 2 c (k0_off7_eq c)) rfl rfl rfl) ?_
  refine E.plan.next_send (send_congr (dev (k0_dev12_eq c)) (srcB_eq _ _ 3 c (k0_off8_eq c)) rfl rfl rfl) ?_
  simp only [List.map_cons, List.map_nil, List.cons_append, List.nil_append]
  unfold Plan.sends
  iterate 24 (refine E.plan.next_await (fun _ => rfl) ?_)
  unfold Plan.awaits
  rw [wp_ret]; iintro H; imodintro; iexact H

end Cert.SwapIdeal
-- ==== Proof.Swap.Run.lean ====
/- The run of the exchange within the chips on eight devices. -/
module

public import proofs.«01_k».proof.Proof.Swap.Body
public import proofs.«01_k».proof.Proof.Shared.Launch

@[expose] public section

noncomputable section

namespace Cert.SwapIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose launchCred)
open Cert.SwapIdeal.Gen Cert.Shared Cert.Shared.Direct

variable {F : FTy → Type} [FloatOps F] (m : (ℓ : Loc nD τ sig) → Buf (Elt F) ℓ)

/-- What a device starts and ends with. -/
def Φ₀ (c : Dev nD) : sProp (XM nD τ sig (Elt F)) := iprop(E.plan.before m c ∗ E.leftover m c)
def Φ₁ (c : Dev nD) : sProp (XM nD τ sig (Elt F)) := iprop(E.plan.after m c ∗ E.leftover m c)

/-- The proof's data: there are no windows, the arrays pass through what a device holds. -/
def dats (_ : Fin 1) (c : Dev nD) : Dat τ (Elt F) Unit ℕ (Two nD τ sig) ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => debt E.wires (due E.plan.toward c (ways.map rcv))
    | ⟨_ + 1, _⟩ => 0

theorem no_windows (Φ : Fin cfg0.W → sProp (XM nD τ sig (Elt F))) : bigSep Finset.univ Φ = iprop(emp) := by
  haveI : IsEmpty (Fin cfg0.W) := ⟨fun w => w.elim0⟩
  rw [Finset.univ_eq_empty, bigSep_empty]; rfl

set_option maxRecDepth 20000 in
theorem body_obligation (c : Dev nD) : BodyObligationLoose (dats m 0 c) (defs₀ (F := F)) Variants.none () Set.univ := fun t => by
  rw [fin_N0 t, no_windows, no_windows]
  have hpre : (dats m 0 c).owesAt () t0_0.castSucc ⊢ owesAny E.plan.W E.plan.toward c (ways.map rcv) := by
    unfold Dat.owesAt Pipeline.owesWithin owesAny
    iintro ⟨%Ws, -, H⟩
    iexists Ws; iexact H
  have hpost : owesAny E.plan.W E.plan.toward c [] ⊢ (dats m 0 c).owesAt () t0_0.succ := by
    unfold Dat.owesAt Pipeline.owesWithin owesAny
    iintro ⟨%Ws, H⟩
    iexists Ws
    isplitr; · ipureintro; exact fun _ _ => Or.inl trivial
    iexact H
  show iprop(Φ₀ m c ∗ (dats m 0 c).owesAt () t0_0.castSucc ∗ emp)
    ⊢ wp frame (wpE (defs₀ (F := F)) Variants.none (c.tc : Thread nD τ) none) Set.univ (bodyAt0 (F := F) t0_0)
      (fun _ => iprop(Φ₁ m c ∗ (dats m 0 c).owesAt () t0_0.succ ∗ emp))
  have hs (R : sProp (XM nD τ sig (Elt F))) : iprop(E.plan.before m c ∗ (E.plan.between m c -∗ R)) ⊢ E.plan.sends (defs₀ (F := F)) Variants.none c R ways :=
    E.plan.starting m (defs₀ (F := F)) Variants.none c R [] (by decide +kernel) (by decide) ways (by decide +kernel) (by decide +kernel)
  have hw : iprop(Φ₀ m c ∗ (dats m 0 c).owesAt () t0_0.castSucc ∗ emp) ⊢ iprop(owesAny E.plan.W E.plan.toward c (ways.map rcv)
      ∗ E.plan.sends (defs₀ (F := F)) Variants.none c (E.plan.awaits (defs₀ (F := F)) Variants.none c (E.plan.after m c) (ways.map rcv ++ ways.map snd)) ways ∗ E.leftover m c) := by
    unfold Φ₀
    iintro ⟨⟨HB, HL⟩, HO, -⟩
    isplitl [HO]; · iapply hpre; iexact HO
    isplitl [HB]
    · iapply (hs _) $$ [-]
      isplitl [HB]; · iexact HB
      iintro HM
      iapply (E.plan.waiting m (defs₀ (F := F)) Variants.none c (E.plan.after m c) (ways.map rcv ++ ways.map snd) (by decide +kernel) (by decide +kernel)) $$ [-]
      isplitl [HM]; · iexact HM
      iintro H; iexact H
    iexact HL
  have hq : iprop(owesAny E.plan.W E.plan.toward c [] ∗ E.plan.after m c ∗ E.leftover m c) ⊢ iprop(Φ₁ m c ∗ (dats m 0 c).owesAt () t0_0.succ ∗ emp) := by
    unfold Φ₁
    iintro ⟨HO, HF⟩
    isplitl [HF]; · iexact HF
    isplitl [HO]; · iapply hpost; iexact HO
    iempintro
  exact hw.trans ((body_wp c t0_0 Variants.none _ _).trans (wp_mono frame _ Set.univ fun _ => hq))

theorem three (Φ : Fin 3 → sProp (XM nD τ sig (Elt F))) : bigSep Finset.univ Φ = iprop(Φ 0 ∗ Φ 1 ∗ Φ 2) :=
  BI.bigSep_univ_eq_bigSepL [0, 1, 2] (by decide) (by decide) Φ

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [three, three]
  iintro ⟨S0, S1, S2, O0, O1, O2⟩
  isplitl [S0 S1 S2]
  · isplitl [S0]; · iexact S0
    isplitl [S1]; · iexact S1
    iexact S2
  · isplitl [O0]; · iexists _; iexact O0
    isplitl [O1]; · iexists _; iexact O1
    iexists _; iexact O2

theorem own_sems : Pipeline.OwnSemFacts cfg0.spec E.wires.at_ := by decide +kernel

/-- What the two copies of the bookkeeping start from. -/
def u₀ : Two nD τ sig := (initOf (Pipeline.cells cfgs cellOf_inj) (Pipeline.launchToks cfgs cellOf_inj), initOf (allCells E.wires) (allToks E.wires))

/-- Every weakly fair run of the exchange on the eight devices ends, with every slot of every device's results filled from the
    other device of the chip, the arguments as they were and every semaphore at zero. -/
theorem run_main (g : Dev nD → PrngReg) : θ_run (defs (F := F)) (onTc (main (F := F))) ⟨m, fun _ => 0, g⟩
    (fun r => (∀ c : Dev nD, E.Done m c r.2) ∧ r.2.sem = fun _ => 0) :=
  θ_run_exchange cfgs (dats m) () cellOf_inj 0 winFacts0.to₀ own_sems (EG nD τ sig (Elt F)) defs₀ Variants.none m g main
    (hmain := fun _ => rfl) (hbody := body_obligation m) (hne := fun w => w.elim0) (harr := arr_whole0) (hstage := stage_whole0)
    (hshare := fun _ w => w.elim0) (hdistinct := winFacts0.arr_inj)
    (O₀ := fun c => debt E.wires (due E.plan.toward c (ways.map rcv))) (howed₀ := fun _ => rfl) (howedN := fun _ => rfl)
    (L := lvls) (lv := lev E.wires) (hL := lvls_ne) (hwaits := fun c => Pipeline.cellsWaits_intro cfgs (dats m) () 0 c fun w => w.elim0)
    (G := BI.own (EX nD τ sig (Elt F) (initOf (allCells E.wires) (allToks E.wires)))) (u₀ := u₀)
    (hu₀ := by
      unfold u₀
      iintro Hu
      ihave H := (ownU_pair _ _) $$ Hu
      icases H with ⟨HP, HX⟩
      imodintro
      isplitl [HP] <;> iassumption)
    (hA := fun _ w => w.elim0) (X := Φ₀ m) (Y := fun c => iprop(E.filled m c ∗ E.inputs m c))
    (hdeal := by
      have hr : (bigSep Finset.univ fun c : Dev nD => Pipeline.unscopedRest cfg0.spec c fun b => m ((c.tc : Thread nD τ).loc b) : sProp (XM nD τ sig (Elt F)))
          ⊢ bigSep Finset.univ fun c : Dev nD => iprop(E.inputs m c ∗ E.outputs c) := bigSep_mono fun c _ => arrays m c
      iintro ⟨HL, HS, HR, HC, HX⟩
      ihave HR := hr $$ HR
      iapply (E.deal_all m ways (by decide +kernel) (by decide +kernel))
      isplitl [HL]; · iexact HL
      isplitl [HS]; · iexact HS
      isplitl [HR]; · iexact HR
      isplitl [HC]; · iexact HC
      iexact HX)
    (hin := fun c => by
      rw [scopedRest0_eq]
      show iprop(Φ₀ m c ∗ BI.emp) ⊢ Φ₀ m c
      iintro ⟨H, -⟩; iexact H)
    (hout := fun c => by
      rw [scopedRest0_eq]
      have hc : Φ₁ m c ⊢ _ := E.close m c
      show Φ₁ m c ⊢ _
      iintro H
      ihave H := hc $$ H
      icases H with ⟨HY, HZ⟩
      isplitl [HY]; · iexact HY
      isplitl [HZ]; · iexact HZ
      iempintro)
    (QY := E.Done m) (hY := E.read_done m)
    (hQ := fun _ h hs => ⟨fun c => (h c).2, sem_eq_zero_of_scoped (by decide) hs⟩)

end Cert.SwapIdeal
-- ==== Proof.Swap.Ref.lean ====
/- The reference's run of the exchange within the chips, on one device. -/
module

public import Idealize.ShloMosaic.Lib.StableHlo.Run
public import Idealize.ShloMosaic.Lib.Quiescent
public import proofs.«01_k».proof.Proof.Gen.SwapRefIdeal

@[expose] public section

noncomputable section

namespace Cert.SwapRefIdeal

open Cert.SwapRefIdeal.Gen
open Idealize.ShloMosaic Idealize.ShloMosaic.TcCoe Idealize.ShloMosaic.StableHlo Idealize.SL.Sem

variable {F : FTy → Type} [FloatOps F]

/-- The reference's results: of a large array, -/
abbrev largeSwap (x : S32x2x4096x2560.Idx → Elt F .bf16) : S32x4096x2560.Idx → Elt F .bf16 :=
  shapeCast S32x4096x2560 (concatenate S4x2x4x1x4096x2560 1
    [⟨S4x1x4x1x4096x2560, extractStridedSlice S4x1x4x1x4096x2560 ![0, 1, 0, 0, 0, 0] (shapeCast S4x2x4x2x4096x2560 x Facts₀.shapeCasts_S32x2x4096x2560_S4x2x4x2x4096x2560) Facts₀.slices_S4x2x4x2x4096x2560_S4x1x4x1x4096x2560_0_1_0_0_0_0⟩,
     ⟨S4x1x4x1x4096x2560, extractStridedSlice S4x1x4x1x4096x2560 ![0, 0, 0, 1, 0, 0] (shapeCast S4x2x4x2x4096x2560 x Facts₀.shapeCasts_S32x2x4096x2560_S4x2x4x2x4096x2560) Facts₀.slices_S4x2x4x2x4096x2560_S4x1x4x1x4096x2560_0_0_0_1_0_0⟩]
    Facts₀.concatenates_S4x1x4x1x4096x2560_S4x1x4x1x4096x2560_S4x2x4x1x4096x2560_d1) Facts₀.shapeCasts_S4x2x4x1x4096x2560_S32x4096x2560
/-- and of a small one. -/
abbrev smallSwap (x : S32x2x512x256.Idx → Elt F .bf16) : S32x512x256.Idx → Elt F .bf16 :=
  shapeCast S32x512x256 (concatenate S4x2x4x1x512x256 1
    [⟨S4x1x4x1x512x256, extractStridedSlice S4x1x4x1x512x256 ![0, 1, 0, 0, 0, 0] (shapeCast S4x2x4x2x512x256 x Facts₀.shapeCasts_S32x2x512x256_S4x2x4x2x512x256) Facts₀.slices_S4x2x4x2x512x256_S4x1x4x1x512x256_0_1_0_0_0_0⟩,
     ⟨S4x1x4x1x512x256, extractStridedSlice S4x1x4x1x512x256 ![0, 0, 0, 1, 0, 0] (shapeCast S4x2x4x2x512x256 x Facts₀.shapeCasts_S32x2x512x256_S4x2x4x2x512x256) Facts₀.slices_S4x2x4x2x512x256_S4x1x4x1x512x256_0_0_0_1_0_0⟩]
    Facts₀.concatenates_S4x1x4x1x512x256_S4x1x4x1x512x256_S4x2x4x1x512x256_d1) Facts₀.shapeCasts_S4x2x4x1x512x256_S32x512x256

/-- The reference's operations. -/
abbrev steps : List (HloOp τ sig (Elt F)) :=
  [ reshape main_arg0 main_v0 rfl Facts₀.shapeCasts_S32x2x4096x2560_S4x2x4x2x4096x2560,
    unary main_v0 main_v1 (extractStridedSlice S4x1x4x1x4096x2560 ![0, 1, 0, 0, 0, 0] · Facts₀.slices_S4x2x4x2x4096x2560_S4x1x4x1x4096x2560_0_1_0_0_0_0),
    unary main_v0 main_v2 (extractStridedSlice S4x1x4x1x4096x2560 ![0, 0, 0, 1, 0, 0] · Facts₀.slices_S4x2x4x2x4096x2560_S4x1x4x1x4096x2560_0_0_0_1_0_0),
    binary main_v1 main_v2 main_v3 (fun a b => concatenate S4x2x4x1x4096x2560 1 [⟨S4x1x4x1x4096x2560, a⟩, ⟨S4x1x4x1x4096x2560, b⟩] Facts₀.concatenates_S4x1x4x1x4096x2560_S4x1x4x1x4096x2560_S4x2x4x1x4096x2560_d1),
    reshape main_v3 main_v4 rfl Facts₀.shapeCasts_S4x2x4x1x4096x2560_S32x4096x2560,
    reshape main_arg1 main_v5 rfl Facts₀.shapeCasts_S32x2x512x256_S4x2x4x2x512x256,
    unary main_v5 main_v6 (extractStridedSlice S4x1x4x1x512x256 ![0, 1, 0, 0, 0, 0] · Facts₀.slices_S4x2x4x2x512x256_S4x1x4x1x512x256_0_1_0_0_0_0),
    unary main_v5 main_v7 (extractStridedSlice S4x1x4x1x512x256 ![0, 0, 0, 1, 0, 0] · Facts₀.slices_S4x2x4x2x512x256_S4x1x4x1x512x256_0_0_0_1_0_0),
    binary main_v6 main_v7 main_v8 (fun a b => concatenate S4x2x4x1x512x256 1 [⟨S4x1x4x1x512x256, a⟩, ⟨S4x1x4x1x512x256, b⟩] Facts₀.concatenates_S4x1x4x1x512x256_S4x1x4x1x512x256_S4x2x4x1x512x256_d1),
    reshape main_v8 main_v9 rfl Facts₀.shapeCasts_S4x2x4x1x512x256_S32x512x256,
    reshape main_arg2 main_v10 rfl Facts₀.shapeCasts_S32x2x512x256_S4x2x4x2x512x256,
    unary main_v10 main_v11 (extractStridedSlice S4x1x4x1x512x256 ![0, 1, 0, 0, 0, 0] · Facts₀.slices_S4x2x4x2x512x256_S4x1x4x1x512x256_0_1_0_0_0_0),
    unary main_v10 main_v12 (extractStridedSlice S4x1x4x1x512x256 ![0, 0, 0, 1, 0, 0] · Facts₀.slices_S4x2x4x2x512x256_S4x1x4x1x512x256_0_0_0_1_0_0),
    binary main_v11 main_v12 main_v13 (fun a b => concatenate S4x2x4x1x512x256 1 [⟨S4x1x4x1x512x256, a⟩, ⟨S4x1x4x1x512x256, b⟩] Facts₀.concatenates_S4x1x4x1x512x256_S4x1x4x1x512x256_S4x2x4x1x512x256_d1),
    reshape main_v13 main_v14 rfl Facts₀.shapeCasts_S4x2x4x1x512x256_S32x512x256 ]

theorem main_steps (c : Dev nD) : main (F := F) c = seq steps := rfl

variable (V : Valuation τ sig (Elt F))

theorem steps_v4 : after steps V (main_v4 : DevRef τ sig) = largeSwap (V (main_arg0 : DevRef τ sig)) := by after_results; rfl
theorem steps_v9 : after steps V (main_v9 : DevRef τ sig) = smallSwap (V (main_arg1 : DevRef τ sig)) := by after_results; rfl
theorem steps_v14 : after steps V (main_v14 : DevRef τ sig) = smallSwap (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨reshape_bufs_sub .., unary_bufs_sub .., unary_bufs_sub .., binary_bufs_sub .., reshape_bufs_sub .., reshape_bufs_sub .., unary_bufs_sub .., unary_bufs_sub .., binary_bufs_sub .., reshape_bufs_sub .., reshape_bufs_sub .., unary_bufs_sub .., unary_bufs_sub .., binary_bufs_sub .., reshape_bufs_sub ..⟩

/-- What a final memory of the reference holds. -/
def Swapped (m : (ℓ : Loc nD τ sig) → Buf (Elt F) ℓ) (c : Dev nD) (s : MemSt nD τ sig (Elt F)) : Prop :=
  ((s.mem ((c.tc : Thread nD τ).loc main_v4) = largeSwap (m ((c.tc : Thread nD τ).loc main_arg0)))
    ∧ (s.mem ((c.tc : Thread nD τ).loc main_v9) = smallSwap (m ((c.tc : Thread nD τ).loc main_arg1)))
    ∧ (s.mem ((c.tc : Thread nD τ).loc main_v14) = smallSwap (m ((c.tc : Thread nD τ).loc main_arg2))))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Swapped m c r.2) ∧ r.2.sem = fun _ => 0) :=
  (θ_run defs _ _).mono
    (fun r h => ⟨fun c => ⟨⟨(h c main_v4).trans (steps_v4 _), (h c main_v9).trans (steps_v9 _), (h c main_v14).trans (steps_v14 _)⟩,
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.SwapRefIdeal

end
-- ==== Proof.Shared.Sibling.lean ====
/- The reference of an exchange between the two devices of a chip, entry by entry, and the same of a sheet whose slots are filled. -/
module

public import Idealize.ShloMosaic.PureOps
public import Idealize.ShloMosaic.Lib.Pipeline.Value
public import Idealize.ShloMosaic.Lib.Layout
public import Idealize.ShloMosaic.Lib.ValueIdxRank6
public import proofs.«01_k».proof.Proof.Shared.Gather

@[expose] public section

noncomputable section

namespace Cert.Shared

open Idealize.ShloMosaic

variable {α : Type} {p q : ℕ}

/-- Rows of a whole array, two halves each. -/
abbrev Halves (n p q : ℕ) : Shape := ⟨4, ![n, 2, p, q]⟩
/-- Rows. -/
abbrev Rows (n p q : ℕ) : Shape := ⟨3, ![n, p, q]⟩
abbrev Spread (u w p q : ℕ) : Shape := ⟨6, ![4, u, 4, w, p, q]⟩

/-- Row `4 d + t` is the half `d % 2` of row `t` of the other device of the chip. -/
theorem sibling_apply (x : (Halves 32 p q).Idx → α)
    (h₁ : (Halves 32 p q).ShapeCasts (Spread 2 2 p q)) (h₂ : (Spread 2 2 p q).Slices ![0, 1, 0, 0, 0, 0] (Spread 1 1 p q))
    (h₃ : (Spread 2 2 p q).Slices ![0, 0, 0, 1, 0, 0] (Spread 1 1 p q)) (h₄ : Shape.Concatenates [Spread 1 1 p q, Spread 1 1 p q] (Spread 2 1 p q) 1)
    (h₅ : (Spread 2 1 p q).ShapeCasts (Rows 32 p q)) (i : (Rows 32 p q).Idx) (k : (Halves 32 p q).Idx)
    (k0 : (k 0).val = 8 * ((i 0).val / 8) + 4 * (1 - (i 0).val / 4 % 2) + (i 0).val % 4) (k1 : (k 1).val = (i 0).val / 4 % 2)
    (k2 : (k 2).val = (i 1).val) (k3 : (k 3).val = (i 2).val) :
    shapeCast (Rows 32 p q) (concatenate (Spread 2 1 p q) 1 [⟨Spread 1 1 p q, extractStridedSlice (Spread 1 1 p q) ![0, 1, 0, 0, 0, 0] (shapeCast (Spread 2 2 p q) x h₁) h₂⟩,
      ⟨Spread 1 1 p q, extractStridedSlice (Spread 1 1 p q) ![0, 0, 0, 1, 0, 0] (shapeCast (Spread 2 2 p q) x h₁) h₃⟩] h₄) h₅ i = x k := by
  have hi : (i 0).val < 32 := (i 0).isLt
  let j : (Spread 2 1 p q).Idx := fun b => match b with
    | ⟨0, _⟩ => (⟨(i 0).val / 8, by omega⟩ : Fin 4)
    | ⟨1, _⟩ => (⟨(i 0).val / 4 % 2, by omega⟩ : Fin 2)
    | ⟨2, _⟩ => (⟨(i 0).val % 4, by omega⟩ : Fin 4)
    | ⟨3, _⟩ => (⟨0, by omega⟩ : Fin 1)
    | ⟨4, _⟩ => (i 1 : Fin p)
    | ⟨5, _⟩ => (i 2 : Fin q)
  let j' : (Spread 1 1 p q).Idx := fun b => match b with
    | ⟨0, _⟩ => (⟨(i 0).val / 8, by omega⟩ : Fin 4)
    | ⟨1, _⟩ => (⟨0, by omega⟩ : Fin 1)
    | ⟨2, _⟩ => (⟨(i 0).val % 4, by omega⟩ : Fin 4)
    | ⟨3, _⟩ => (⟨0, by omega⟩ : Fin 1)
    | ⟨4, _⟩ => (i 1 : Fin p)
    | ⟨5, _⟩ => (i 2 : Fin q)
  let l : (Spread 2 2 p q).Idx := fun b => match b with
    | ⟨0, _⟩ => (⟨(i 0).val / 8, by omega⟩ : Fin 4)
    | ⟨1, _⟩ => (⟨1 - (i 0).val / 4 % 2, by omega⟩ : Fin 2)
    | ⟨2, _⟩ => (⟨(i 0).val % 4, by omega⟩ : Fin 4)
    | ⟨3, _⟩ => (⟨(i 0).val / 4 % 2, by omega⟩ : Fin 2)
    | ⟨4, _⟩ => (i 1 : Fin p)
    | ⟨5, _⟩ => (i 2 : Fin q)
  refine (shapeCast_apply _ _ i j ?_).trans ?_
  · rw [Shape.rowMajor_val_six, Shape.rowMajor_val_three]
    show ((((((i 0).val / 8) * 2 + (i 0).val / 4 % 2) * 4 + (i 0).val % 4) * 1 + 0) * p + (i 1).val) * q + (i 2).val = ((i 0).val * p + (i 1).val) * q + (i 2).val
    rw [show ((((i 0).val / 8) * 2 + (i 0).val / 4 % 2) * 4 + (i 0).val % 4) * 1 + 0 = (i 0).val by omega]
  have hl : shapeCast (Spread 2 2 p q) x h₁ l = x k := by
    refine shapeCast_apply _ _ l k ?_
    rw [Shape.rowMajor_val_six, Shape.rowMajor_val_four]
    show (((k 0).val * 2 + (k 1).val) * p + (k 2).val) * q + (k 3).val
      = ((((((i 0).val / 8) * 2 + (1 - (i 0).val / 4 % 2)) * 4 + (i 0).val % 4) * 2 + (i 0).val / 4 % 2) * p + (i 1).val) * q + (i 2).val
    rw [k0, k1, k2, k3, show (8 * ((i 0).val / 8) + 4 * (1 - (i 0).val / 4 % 2) + (i 0).val % 4) * 2 + (i 0).val / 4 % 2
      = ((((i 0).val / 8) * 2 + (1 - (i 0).val / 4 % 2)) * 4 + (i 0).val % 4) * 2 + (i 0).val / 4 % 2 by omega]
  rw [← hl]
  rcases Nat.mod_two_eq_zero_or_one ((i 0).val / 4) with e | e
  · refine (concatenate_pair_apply_left 1 _ _ h₄ j rfl j' ?_).trans (extractStridedSlice_apply _ _ _ j' l ?_)
    · intro b
      match b with
      | ⟨0, _⟩ => rfl
      | ⟨1, _⟩ => exact e.symm
      | ⟨2, _⟩ => rfl
      | ⟨3, _⟩ => rfl
      | ⟨4, _⟩ => rfl
      | ⟨5, _⟩ => rfl
    · intro b
      match b with
      | ⟨0, _⟩ => exact (Nat.zero_add _).symm
      | ⟨1, _⟩ => show 1 - (i 0).val / 4 % 2 = 1 + 0; omega
      | ⟨2, _⟩ => exact (Nat.zero_add _).symm
      | ⟨3, _⟩ => show (i 0).val / 4 % 2 = 0 + 0; omega
      | ⟨4, _⟩ => exact (Nat.zero_add _).symm
      | ⟨5, _⟩ => exact (Nat.zero_add _).symm
  · refine (concatenate_pair_apply_right 1 _ _ h₄ j rfl rfl j' ?_ ?_).trans (extractStridedSlice_apply _ _ _ j' l ?_)
    · intro b hb
      match b with
      | ⟨0, _⟩ => rfl
      | ⟨1, _⟩ => exact absurd rfl hb
      | ⟨2, _⟩ => rfl
      | ⟨3, _⟩ => rfl
      | ⟨4, _⟩ => rfl
      | ⟨5, _⟩ => rfl
    · exact e.symm
    · intro b
      match b with
      | ⟨0, _⟩ => exact (Nat.zero_add _).symm
      | ⟨1, _⟩ => show 1 - (i 0).val / 4 % 2 = 0 + 0; omega
      | ⟨2, _⟩ => exact (Nat.zero_add _).symm
      | ⟨3, _⟩ => show (i 0).val / 4 % 2 = 1 + 0; omega
      | ⟨4, _⟩ => exact (Nat.zero_add _).symm
      | ⟨5, _⟩ => exact (Nat.zero_add _).symm

/-- An entry of a slot, as an index of one row; -/
theorem slot_entry (e : (⟨2, ![p, q]⟩ : Shape).numel = (Rows 1 p q).numel) (y : (⟨2, ![p, q]⟩ : Shape).Idx) :
    ((Shape.reshapeEquiv e y) 0).val = 0 ∧ ((Shape.reshapeEquiv e y) 1).val = (y 0).val ∧ ((Shape.reshapeEquiv e y) 2).val = (y 1).val := by
  let z : (Rows 1 p q).Idx := fun b => match b with
    | ⟨0, _⟩ => (⟨0, by omega⟩ : Fin 1)
    | ⟨1, _⟩ => (y 0 : Fin p)
    | ⟨2, _⟩ => (y 1 : Fin q)
  have h : Shape.reshapeEquiv e y = z := Shape.reshapeEquiv_eq_of_rowMajor e (by
    rw [Shape.rowMajor_val_three, Shape.rowMajor_val_two]
    show (0 * p + (y 0).val) * q + (y 1).val = (y 0).val * q + (y 1).val
    rw [Nat.zero_mul, Nat.zero_add])
  rw [h]; exact ⟨rfl, rfl, rfl⟩

/-- and of what is read for it, as an index of one half of one row. -/
theorem half_entry (e : (⟨2, ![p, q]⟩ : Shape).numel = (⟨4, ![1, 1, p, q]⟩ : Shape).numel) (y : (⟨2, ![p, q]⟩ : Shape).Idx) :
    ((Shape.reshapeEquiv e y) 0).val = 0 ∧ ((Shape.reshapeEquiv e y) 1).val = 0 ∧ ((Shape.reshapeEquiv e y) 2).val = (y 0).val
      ∧ ((Shape.reshapeEquiv e y) 3).val = (y 1).val := by
  let z : (⟨4, ![1, 1, p, q]⟩ : Shape).Idx := fun b => match b with
    | ⟨0, _⟩ => (⟨0, by omega⟩ : Fin 1)
    | ⟨1, _⟩ => (⟨0, by omega⟩ : Fin 1)
    | ⟨2, _⟩ => (y 0 : Fin p)
    | ⟨3, _⟩ => (y 1 : Fin q)
  have h : Shape.reshapeEquiv e y = z := Shape.reshapeEquiv_eq_of_rowMajor e (by
    rw [Shape.rowMajor_val_four, Shape.rowMajor_val_two]
    show ((0 * 1 + 0) * p + (y 0).val) * q + (y 1).val = (y 0).val * q + (y 1).val
    simp only [Nat.zero_mul, Nat.zero_add])
  rw [h]; exact ⟨rfl, rfl, rfl, rfl⟩

theorem flip_one_half : ∀ c : Dev 8, (flipBits 1 c).val = 2 * (c.val / 2) + (1 - c.val % 2) := by decide +kernel

/-- A device whose slots are filled from the other device of its chip holds its rows of the reference's result. -/
theorem sibling_block (c : Dev 8) (G : (Rows 4 p q).Idx → α) (X : Dev 8 → (Halves 4 p q).Idx → α) (x : (Halves 32 p q).Idx → α) (y : (Rows 32 p q).Idx → α)
    (put : Fin 4 → (⟨2, ![p, q]⟩ : Shape).Idx → (Rows 4 p q).Idx) (pick : Fin 4 → Dev 8 → (⟨2, ![p, q]⟩ : Shape).Idx → (Halves 4 p q).Idx)
    (eput : (⟨2, ![p, q]⟩ : Shape).numel = (Rows 1 p q).numel) (epick : (⟨2, ![p, q]⟩ : Shape).numel = (⟨4, ![1, 1, p, q]⟩ : Shape).numel)
    (hput : ∀ t z b, (put t z b).val = (![t.val, 0, 0] : Fin 3 → ℕ) b + 1 * ((Shape.reshapeEquiv eput z) b).val)
    (hpick : ∀ t d z b, (pick t d z b).val = (![t.val, 1 - d.val % 2, 0, 0] : Fin 4 → ℕ) b + 1 * ((Shape.reshapeEquiv epick z) b).val)
    (hG : ∀ t z, G (put t z) = X (flipBits 1 c) (pick t (flipBits 1 c) z))
    (tX : Layout.Tiles (Halves 4 p q) (Halves 32 p q) 0 8) (tG : Layout.Tiles (Rows 4 p q) (Rows 32 p q) 0 8)
    (hX : ∀ d, X d = Layout.block (Halves 4 p q) (Halves 32 p q) 0 8 d x tX)
    (hy : ∀ (i : (Rows 32 p q).Idx) (k : (Halves 32 p q).Idx), (k 0).val = 8 * ((i 0).val / 8) + 4 * (1 - (i 0).val / 4 % 2) + (i 0).val % 4 →
      (k 1).val = (i 0).val / 4 % 2 → (k 2).val = (i 1).val → (k 3).val = (i 2).val → y i = x k) :
    G = Layout.block (Rows 4 p q) (Rows 32 p q) 0 8 c y tG := by
  funext i
  let t : Fin 4 := (i 0 : Fin 4)
  let z : (⟨2, ![p, q]⟩ : Shape).Idx := fun b => match b with
    | ⟨0, _⟩ => (i 1 : Fin p)
    | ⟨1, _⟩ => (i 2 : Fin q)
  obtain ⟨s0, s1, s2⟩ := slot_entry eput z
  obtain ⟨r0, r1, r2, r3⟩ := half_entry epick z
  have hi : put t z = i := by
    funext b
    apply Fin.ext
    match b with
    | ⟨0, _⟩ => exact (hput t z 0).trans (by rw [s0]; rfl)
    | ⟨1, _⟩ => exact (hput t z 1).trans (by rw [s1]; show 0 + 1 * (i 1).val = (i 1).val; omega)
    | ⟨2, _⟩ => exact (hput t z 2).trans (by rw [s2]; show 0 + 1 * (i 2).val = (i 2).val; omega)
  have h := hG t z
  rw [hi] at h
  rw [h, hX, Layout.block_apply, Layout.block_apply]
  refine (hy _ _ ?_ ?_ ?_ ?_).symm
  all_goals have hc : c.val < 8 := c.isLt
  all_goals have ht : (i 0).val < 4 := (i 0).isLt
  · rw [show ((tG.idx c i) 0).val = c.val * 4 + (i 0).val from tG.idx_val c i 0]
    rw [show ((tX.idx (flipBits 1 c) (pick t (flipBits 1 c) z)) 0).val = (flipBits 1 c).val * 4 + (pick t (flipBits 1 c) z 0).val from tX.idx_val _ _ 0]
    rw [hpick, r0, flip_one_half]
    show (2 * (c.val / 2) + (1 - c.val % 2)) * 4 + ((i 0).val + 1 * 0) = _
    omega
  · rw [show ((tG.idx c i) 0).val = c.val * 4 + (i 0).val from tG.idx_val c i 0]
    rw [show ((tX.idx (flipBits 1 c) (pick t (flipBits 1 c) z)) 1).val = (pick t (flipBits 1 c) z 1).val from tX.idx_val _ _ 1]
    rw [hpick, r1]
    show 1 - (flipBits 1 c).val % 2 + 1 * 0 = _
    rw [flip_one_half]
    omega
  · rw [show ((tG.idx c i) 1).val = (i 1).val from tG.idx_val c i 1]
    rw [show ((tX.idx (flipBits 1 c) (pick t (flipBits 1 c) z)) 2).val = (pick t (flipBits 1 c) z 2).val from tX.idx_val _ _ 2]
    rw [hpick, r2]
    show 0 + 1 * (i 1).val = _
    omega
  · rw [show ((tG.idx c i) 2).val = (i 2).val from tG.idx_val c i 2]
    rw [show ((tX.idx (flipBits 1 c) (pick t (flipBits 1 c) z)) 3).val = (pick t (flipBits 1 c) z 3).val from tX.idx_val _ _ 3]
    rw [hpick, r3]
    show 0 + 1 * (i 2).val = _
    omega

end Cert.Shared

end
-- ==== Proof.Swap.Value.lean ====
/- What the exchange within the chips ends with is each device's part of the reference's results. -/
module

public import proofs.«01_k».proof.Proof.Swap.Run
public import proofs.«01_k».proof.Proof.Swap.Ref
public import proofs.«01_k».proof.Proof.Shared.Sibling

@[expose] public section

noncomputable section

namespace Cert.SwapIdeal

open Idealize.ShloMosaic Idealize.ShloMosaic.TcCoe
open Cert.SwapIdeal.Gen Cert.SwapRefIdeal.Gen Cert.Shared Cert.Shared.Direct

variable {F : FTy → Type} [FloatOps F] {m : (ℓ : Loc nD τ sig) → Buf (Elt F) ℓ}

theorem tilesA : Layout.Tiles (Halves 4 4096 2560) (Halves 32 4096 2560) 0 8 := by decide
theorem tilesB : Layout.Tiles (Halves 4 512 256) (Halves 32 512 256) 0 8 := by decide
theorem tilesC : Layout.Tiles (Rows 4 4096 2560) (Rows 32 4096 2560) 0 8 := by decide
theorem tilesD : Layout.Tiles (Rows 4 512 256) (Rows 32 512 256) 0 8 := by decide

theorem value0 (c : Dev nD) (G : S4x4096x2560.Idx → Elt F .bf16) (x : (Halves 32 4096 2560).Idx → Elt F .bf16) (hG : E.Full m c 0 G)
    (hm : ∀ d : Dev 8, m ((d.tc : Thread nD τ).loc main_arg0) = Layout.block S4x2x4096x2560 (Halves 32 4096 2560) 0 8 d x) :
    G = Layout.block S4x4096x2560 (Rows 32 4096 2560) 0 8 c (Cert.SwapRefIdeal.largeSwap x) :=
  sibling_block (p := 4096) (q := 2560) c G (fun d => m ((d.tc : Thread nD τ).loc main_arg0)) x (Cert.SwapRefIdeal.largeSwap x)
    (fun t z => ((E.sheet 0).piece t).dst.view.emb z) (fun t d z => (((E.sheet 0).piece t).src d).view.emb z)
    (squeezes_S1x4096x2560_S4096x2560 : S1x4096x2560.Squeezes S4096x2560).numel_eq
    (squeezes_S1x1x4096x2560_S4096x2560 : S1x1x4096x2560.Squeezes S4096x2560).numel_eq
    (fun _ _ _ => rfl) (fun _ _ _ _ => rfl) (fun t z => congrFun (hG t) z) tilesA tilesC hm
    (fun i k k0 k1 k2 k3 => sibling_apply x _ _ _ _ _ i k k0 k1 k2 k3)

theorem value1 (c : Dev nD) (G : S4x512x256.Idx → Elt F .bf16) (x : (Halves 32 512 256).Idx → Elt F .bf16) (hG : E.Full m c 1 G)
    (hm : ∀ d : Dev 8, m ((d.tc : Thread nD τ).loc main_arg1) = Layout.block S4x2x512x256 (Halves 32 512 256) 0 8 d x) :
    G = Layout.block S4x512x256 (Rows 32 512 256) 0 8 c (Cert.SwapRefIdeal.smallSwap x) :=
  sibling_block (p := 512) (q := 256) c G (fun d => m ((d.tc : Thread nD τ).loc main_arg1)) x (Cert.SwapRefIdeal.smallSwap x)
    (fun t z => ((E.sheet 1).piece t).dst.view.emb z) (fun t d z => (((E.sheet 1).piece t).src d).view.emb z)
    (squeezes_S1x512x256_S512x256 : S1x512x256.Squeezes S512x256).numel_eq
    (squeezes_S1x1x512x256_S512x256 : S1x1x512x256.Squeezes S512x256).numel_eq
    (fun _ _ _ => rfl) (fun _ _ _ _ => rfl) (fun t z => congrFun (hG t) z) tilesB tilesD hm
    (fun i k k0 k1 k2 k3 => sibling_apply x _ _ _ _ _ i k k0 k1 k2 k3)

theorem value2 (c : Dev nD) (G : S4x512x256.Idx → Elt F .bf16) (x : (Halves 32 512 256).Idx → Elt F .bf16) (hG : E.Full m c 2 G)
    (hm : ∀ d : Dev 8, m ((d.tc : Thread nD τ).loc main_arg2) = Layout.block S4x2x512x256 (Halves 32 512 256) 0 8 d x) :
    G = Layout.block S4x512x256 (Rows 32 512 256) 0 8 c (Cert.SwapRefIdeal.smallSwap x) :=
  sibling_block (p := 512) (q := 256) c G (fun d => m ((d.tc : Thread nD τ).loc main_arg2)) x (Cert.SwapRefIdeal.smallSwap x)
    (fun t z => ((E.sheet 2).piece t).dst.view.emb z) (fun t d z => (((E.sheet 2).piece t).src d).view.emb z)
    (squeezes_S1x512x256_S512x256 : S1x512x256.Squeezes S512x256).numel_eq
    (squeezes_S1x1x512x256_S512x256 : S1x1x512x256.Squeezes S512x256).numel_eq
    (fun _ _ _ => rfl) (fun _ _ _ _ => rfl) (fun t z => congrFun (hG t) z) tilesB tilesD hm
    (fun i k k0 k1 k2 k3 => sibling_apply x _ _ _ _ _ i k k0 k1 k2 k3)

end Cert.SwapIdeal

end
-- ==== Proof.Shared.Access.lean ====
/- Loads and stores of whole buffers. -/
module

public import proofs.«01_k».proof.Proof.Shared.Exchange
public import Idealize.ShloMosaic.Lib.VecWindow

@[expose] public section

noncomputable section

namespace Cert.Shared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {Λ : Idealize.SL.Sem.Labels}
variable (defs : Defs nD τ sig Val Λ) (𝒱 : Variants) (c : Dev nD) {α : Type}
variable {cs : CoreSpace} {s : Shape} {e : EltTy}

/-- A load of a whole buffer reads what the buffer holds. -/
theorem load_wp {M : Memref sig .tc cs s e} {q : PosShare TreeShare} {x : s.Idx → Val e} {off : Fin s.rank → ℕ} {inb : ∀ a, off a + s.size a ≤ s.size a}
    {hl : M.view.LoadsAt (Rect.unit off s.size inb).toLoadRect} {k : ((Rect.unit off s.size inb).toLoadRect.shape.Idx → Val e) → Prog (TpuEff nD τ sig Val Λ .tc) α}
    {Q : α → sProp (XM nD τ sig Val)} :
    owns (c.tc : Thread nD τ) M q x
      ⊢ iprop((owns (c.tc : Thread nD τ) M q x -∗ wp frame (wpE defs 𝒱 (c.tc : Thread nD τ) none) Set.univ (k x) Q)
        -∗ wp frame (wpE defs 𝒱 (c.tc : Thread nD τ) none) Set.univ (.op (.load M (Rect.unit off s.size inb).toLoadRect hl) k) Q) := by
  unfold owns
  iintro ⟨%f, %hf, H⟩ Hk
  iapply (wp_load 𝒱 (c.tc : Thread nD τ) none Set.univ (M.view.setOn_subset_set _)) $$ H
  iintro H
  rw [View.readAt_full M.view f inb, hf]
  iapply Hk
  iexists f
  isplitr; · ipureintro; exact hf
  iexact H

/-- A store of a whole buffer leaves what it stores. -/
theorem store_wp {M : Memref sig .tc cs s e} {x w : s.Idx → Val e} {off : Fin s.rank → ℕ} {inb : ∀ a, off a + s.size a ≤ s.size a}
    {hx : (M.access (Rect.unit off s.size inb)).Stores Finset.univ} {hm} {k : PUnit → Prog (TpuEff nD τ sig Val Λ .tc) α}
    {Q : α → sProp (XM nD τ sig Val)} :
    owns (c.tc : Thread nD τ) M fullShare x
      ⊢ iprop((owns (c.tc : Thread nD τ) M fullShare w -∗ wp frame (wpE defs 𝒱 (c.tc : Thread nD τ) none) Set.univ (k ⟨⟩) Q)
        -∗ wp frame (wpE defs 𝒱 (c.tc : Thread nD τ) none) Set.univ (.op (.store M (Rect.unit off s.size inb) w Finset.univ hx hm) k) Q) := by
  have hw (f : Buf Val (M.view.loc (c.tc : Thread nD τ))) : M.view.read Val ((M.access (Rect.unit off s.size inb)).write Val f w Finset.univ) = w := by
    have h := View.readAt_full M.view ((M.access (Rect.unit off s.size inb)).write Val f w Finset.univ) inb
    rw [View.readAt_rect] at h
    rw [← h]
    exact View.read_write_univ _ _
  have hS : (M.access (Rect.unit off s.size inb)).setOn Finset.univ ⊆ M.view.set := View.set_slice_subset M.view _
  unfold owns
  iintro ⟨%f, %hf, H⟩ Hk
  iapply (wp_store 𝒱 (c.tc : Thread nD τ) none Set.univ hS) $$ H
  iintro H
  iapply Hk
  iexists _
  isplitr; · ipureintro; exact hw f
  iexact H

/-- A return. -/
theorem wp_done {P : sProp (XM nD τ sig Val)} {Q : α → sProp (XM nD τ sig Val)} {a : α} (h : P ⊢ Q a) :
    P ⊢ wp frame (wpE defs 𝒱 (c.tc : Thread nD τ) none) Set.univ (.ret a) Q := by
  rw [wp_ret]
  refine h.trans ?_
  iintro H; imodintro; iexact H

theorem regroup {A B C : sProp (XM nD τ sig Val)} : iprop(A ∗ B ∗ C) ⊢ iprop((A ∗ B) ∗ C) := by
  iintro ⟨A, B, C⟩
  isplitl [A B]; · isplitl [A] <;> iassumption
  iexact C

section Points

/-! What one point of a grid does with the buffers of its two factors and of its result, and with an accumulator, beside whatever else
    the device holds. -/

variable {k0 k1 k2 k3 : CoreSpace} {s0 s1 s2 s3 : Shape} {e0 e1 e2 e3 : EltTy}
variable {b0 : Memref sig .tc k0 s0 e0} {b1 : Memref sig .tc k1 s1 e1} {b2 : Memref sig .tc k2 s2 e2} {b3 : Memref sig .tc k3 s3 e3}
variable {q0 q1 : PosShare TreeShare} {x : s0.Idx → Val e0} {y : s1.Idx → Val e1} {d : s2.Idx → Val e2} {z : s3.Idx → Val e3}
variable {o0 : Fin s0.rank → ℕ} {i0 : ∀ a, o0 a + s0.size a ≤ s0.size a} {l0 : b0.view.LoadsAt (Rect.unit o0 s0.size i0).toLoadRect}
variable {o1 : Fin s1.rank → ℕ} {i1 : ∀ a, o1 a + s1.size a ≤ s1.size a} {l1 : b1.view.LoadsAt (Rect.unit o1 s1.size i1).toLoadRect}
variable {o2 : Fin s2.rank → ℕ} {i2 : ∀ a, o2 a + s2.size a ≤ s2.size a} {l2 : b2.view.LoadsAt (Rect.unit o2 s2.size i2).toLoadRect}
variable {o3 : Fin s2.rank → ℕ} {i3 : ∀ a, o3 a + s2.size a ≤ s2.size a}
variable {o4 : Fin s3.rank → ℕ} {i4 : ∀ a, o4 a + s3.size a ≤ s3.size a} {l4 : b3.view.LoadsAt (Rect.unit o4 s3.size i4).toLoadRect}
variable {o5 : Fin s3.rank → ℕ} {i5 : ∀ a, o5 a + s3.size a ≤ s3.size a} {l5 : b3.view.LoadsAt (Rect.unit o5 s3.size i5).toLoadRect}
variable {o6 : Fin s3.rank → ℕ} {i6 : ∀ a, o6 a + s3.size a ≤ s3.size a}
variable {H L : sProp (XM nD τ sig Val)} {Q : α → sProp (XM nD τ sig Val)} {k : PUnit → Prog (TpuEff nD τ sig Val Λ .tc) α}

/-- The result is written from the factors; -/
theorem next_product {f : (s0.Idx → Val e0) → (s1.Idx → Val e1) → s2.Idx → Val e2}
    {hx : (b2.access (Rect.unit o3 s2.size i3)).Stores Finset.univ} {hm}
    (hk : iprop(H ∗ owns (c.tc : Thread nD τ) b0 q0 x ∗ owns (c.tc : Thread nD τ) b1 q1 y ∗ owns (c.tc : Thread nD τ) b2 fullShare (f x y) ∗ L)
      ⊢ wp frame (wpE defs 𝒱 (c.tc : Thread nD τ) none) Set.univ (k ⟨⟩) Q) :
    iprop(H ∗ owns (c.tc : Thread nD τ) b0 q0 x ∗ owns (c.tc : Thread nD τ) b1 q1 y ∗ owns (c.tc : Thread nD τ) b2 fullShare d ∗ L)
      ⊢ wp frame (wpE defs 𝒱 (c.tc : Thread nD τ) none) Set.univ
        (.op (.load b0 (Rect.unit o0 s0.size i0).toLoadRect l0) fun u =>
        .op (.load b1 (Rect.unit o1 s1.size i1).toLoadRect l1) fun v =>
        .op (.load b2 (Rect.unit o2 s2.size i2).toLoadRect l2) fun _ =>
        .op (.store b2 (Rect.unit o3 s2.size i3) (f u v) Finset.univ hx hm) k) Q := by
  iintro ⟨H, H0, H1, H2, L⟩
  iapply (load_wp defs 𝒱 c) $$ H0; iintro H0
  iapply (load_wp defs 𝒱 c) $$ H1; iintro H1
  iapply (load_wp defs 𝒱 c) $$ H2; iintro H2
  iapply (store_wp defs 𝒱 c) $$ H2; iintro H2
  iapply hk
  isplitl [H]; · iexact H
  isplitl [H0]; · iexact H0
  isplitl [H1]; · iexact H1
  isplitl [H2]; · iexact H2
  iexact L

/-- the accumulator is written from the factors; -/
theorem next_start {f : (s0.Idx → Val e0) → (s1.Idx → Val e1) → s3.Idx → Val e3}
    {hx : (b3.access (Rect.unit o6 s3.size i6)).Stores Finset.univ} {hm}
    (hk : iprop(H ∗ owns (c.tc : Thread nD τ) b0 q0 x ∗ owns (c.tc : Thread nD τ) b1 q1 y ∗ owns (c.tc : Thread nD τ) b2 fullShare d ∗ owns (c.tc : Thread nD τ) b3 fullShare (f x y) ∗ L)
      ⊢ wp frame (wpE defs 𝒱 (c.tc : Thread nD τ) none) Set.univ (k ⟨⟩) Q) :
    iprop(H ∗ owns (c.tc : Thread nD τ) b0 q0 x ∗ owns (c.tc : Thread nD τ) b1 q1 y ∗ owns (c.tc : Thread nD τ) b2 fullShare d ∗ owns (c.tc : Thread nD τ) b3 fullShare z ∗ L)
      ⊢ wp frame (wpE defs 𝒱 (c.tc : Thread nD τ) none) Set.univ
        (.op (.load b0 (Rect.unit o0 s0.size i0).toLoadRect l0) fun u =>
        .op (.load b1 (Rect.unit o1 s1.size i1).toLoadRect l1) fun v =>
        .op (.load b3 (Rect.unit o4 s3.size i4).toLoadRect l4) fun _ =>
        .op (.store b3 (Rect.unit o6 s3.size i6) (f u v) Finset.univ hx hm) k) Q := by
  iintro ⟨H, H0, H1, H2, H3, L⟩
  iapply (load_wp defs 𝒱 c) $$ H0; iintro H0
  iapply (load_wp defs 𝒱 c) $$ H1; iintro H1
  iapply (load_wp defs 𝒱 c) $$ H3; iintro H3
  iapply (store_wp defs 𝒱 c) $$ H3; iintro H3
  iapply hk
  isplitl [H]; · iexact H
  isplitl [H0]; · iexact H0
  isplitl [H1]; · iexact H1
  isplitl [H2]; · iexact H2
  isplitl [H3]; · iexact H3
  iexact L

/-- it is written from the factors and itself; -/
theorem next_add {f : (s0.Idx → Val e0) → (s1.Idx → Val e1) → (s3.Idx → Val e3) → s3.Idx → Val e3}
    {hx : (b3.access (Rect.unit o6 s3.size i6)).Stores Finset.univ} {hm}
    (hk : iprop(H ∗ owns (c.tc : Thread nD τ) b0 q0 x ∗ owns (c.tc : Thread nD τ) b1 q1 y ∗ owns (c.tc : Thread nD τ) b2 fullShare d ∗ owns (c.tc : Thread nD τ) b3 fullShare (f x y z) ∗ L)
      ⊢ wp frame (wpE defs 𝒱 (c.tc : Thread nD τ) none) Set.univ (k ⟨⟩) Q) :
    iprop(H ∗ owns (c.tc : Thread nD τ) b0 q0 x ∗ owns (c.tc : Thread nD τ) b1 q1 y ∗ owns (c.tc : Thread nD τ) b2 fullShare d ∗ owns (c.tc : Thread nD τ) b3 fullShare z ∗ L)
      ⊢ wp frame (wpE defs 𝒱 (c.tc : Thread nD τ) none) Set.univ
        (.op (.load b0 (Rect.unit o0 s0.size i0).toLoadRect l0) fun u =>
        .op (.load b1 (Rect.unit o1 s1.size i1).toLoadRect l1) fun v =>
        .op (.load b3 (Rect.unit o4 s3.size i4).toLoadRect l4) fun w =>
        .op (.load b3 (Rect.unit o5 s3.size i5).toLoadRect l5) fun _ =>
        .op (.store b3 (Rect.unit o6 s3.size i6) (f u v w) Finset.univ hx hm) k) Q := by
  iintro ⟨H, H0, H1, H2, H3, L⟩
  iapply (load_wp defs 𝒱 c) $$ H0; iintro H0
  iapply (load_wp defs 𝒱 c) $$ H1; iintro H1
  iapply (load_wp defs 𝒱 c) $$ H3; iintro H3
  iapply (load_wp defs 𝒱 c) $$ H3; iintro H3
  iapply (store_wp defs 𝒱 c) $$ H3; iintro H3
  iapply hk
  isplitl [H]; · iexact H
  isplitl [H0]; · iexact H0
  isplitl [H1]; · iexact H1
  isplitl [H2]; · iexact H2
  isplitl [H3]; · iexact H3
  iexact L

/-- and the result is written from it. -/
theorem next_flush {f : (s3.Idx → Val e3) → s2.Idx → Val e2}
    {hx : (b2.access (Rect.unit o3 s2.size i3)).Stores Finset.univ} {hm}
    (hk : iprop(H ∗ owns (c.tc : Thread nD τ) b0 q0 x ∗ owns (c.tc : Thread nD τ) b1 q1 y ∗ owns (c.tc : Thread nD τ) b2 fullShare (f z) ∗ owns (c.tc : Thread nD τ) b3 fullShare z ∗ L)
      ⊢ wp frame (wpE defs 𝒱 (c.tc : Thread nD τ) none) Set.univ (k ⟨⟩) Q) :
    iprop(H ∗ owns (c.tc : Thread nD τ) b0 q0 x ∗ owns (c.tc : Thread nD τ) b1 q1 y ∗ owns (c.tc : Thread nD τ) b2 fullShare d ∗ owns (c.tc : Thread nD τ) b3 fullShare z ∗ L)
      ⊢ wp frame (wpE defs 𝒱 (c.tc : Thread nD τ) none) Set.univ
        (.op (.load b3 (Rect.unit o4 s3.size i4).toLoadRect l4) fun w =>
        .op (.load b2 (Rect.unit o2 s2.size i2).toLoadRect l2) fun _ =>
        .op (.store b2 (Rect.unit o3 s2.size i3) (f w) Finset.univ hx hm) k) Q := by
  iintro ⟨H, H0, H1, H2, H3, L⟩
  iapply (load_wp defs 𝒱 c) $$ H3; iintro H3
  iapply (load_wp defs 𝒱 c) $$ H2; iintro H2
  iapply (store_wp defs 𝒱 c) $$ H2; iintro H2
  iapply hk
  isplitl [H]; · iexact H
  isplitl [H0]; · iexact H0
  isplitl [H1]; · iexact H1
  isplitl [H2]; · iexact H2
  isplitl [H3]; · iexact H3
  iexact L

end Points

section Waits

variable {K : Type} [Fintype K] [DecidableEq K] (W : Wires sig K)

/-- A device may wait on a semaphore outside the exchange while it owes transfers whose cells rank above the ground level. -/
theorem mayWait_other (c : Dev nD) (sm : SemLoc sig) (h : ∀ k, W.at_ k ≠ sm) (l : List (Dev nD × K)) (hl : ∀ x ∈ l, 0 < W.level x.2) :
    (levAts lvls (lev W) : sProp (XM nD τ sig Val)) ⊢ MayWait (c.tc : Thread nD τ) sm () (debt W l) := by
  have hk : lev (τ := τ) W ((c.tc : Thread nD τ), sm) () = 0 := by
    unfold lev natOn
    exact dif_neg fun ⟨ck, e⟩ => h ck.2 (congrArg Prod.snd e)
  refine MayOwe.of_cut (L := lvls) (lev := lev W) 0 (fun p hp => ?_) (fun g u hg => ?_) (fun p hp => ?_) (fun g u hg => ?_)
  · rw [Finset.mem_singleton.mp hp]; show () ∈ lvls ((c.tc : Thread nD τ), sm); unfold lvls; rw [if_pos rfl]; exact Finset.mem_singleton_self _
  · obtain ⟨x, -, rfl⟩ := debt_pos W hg; rw [lvls_cell]; exact Finset.mem_singleton_self _
  · rw [Finset.mem_singleton.mp hp]; exact le_of_eq hk
  · obtain ⟨x, hx, rfl⟩ := debt_pos W hg
    rw [show lev W (cell (τ := τ) W x) u = W.level x.2 from natOn_cell W _ _ x]; exact hl x hx

end Waits

end Cert.Shared
-- ==== Proof.Shared.Grid.lean ====
/- An exchange beside a product on a grid: started at the first point, awaited at the last, and the run of both. -/
module

public import proofs.«01_k».proof.Proof.Shared.Access
public import proofs.«01_k».proof.Proof.Shared.Sheets
public import proofs.«01_k».proof.Proof.Shared.Launch

@[expose] public section

noncomputable section

namespace Cert.Shared.Direct.Setup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation launchCred)
open Cert.Shared

variable {τ : Topo} {sig : RefSig} {Val : EltTy → Type}
variable {A I J T : Type} [Fintype A] [DecidableEq A] [Fintype I] [DecidableEq I] [Fintype J] [DecidableEq J] [Fintype T] [DecidableEq T]
variable (E : Setup sig A I J T) (N : ℕ) (ls : List (A × I)) (ws : List (A × J)) (m : (ℓ : Loc 8 τ sig) → Buf Val ℓ) (c : Dev 8)

/-- What a device holds of the exchange before point `n` of a grid of `N`. -/
def hold (n : ℕ) : sProp (XM 8 τ sig Val) :=
  if n = 0 then E.plan.before m c else if n = N then E.plan.after m c else E.plan.between m c
/-- What it still owes there. -/
def dues (_ : Setup sig A I J T) (ws : List (A × J)) (n : ℕ) : List (Kind A I J) := if n = 0 then ws.map rcv else []
/-- Both. -/
def point (n : ℕ) : sProp (XM 8 τ sig Val) := iprop(owesAny E.plan.W E.plan.toward c (E.dues ws n) ∗ E.hold N m c n)

theorem point_first : E.point N ws m c 0 = iprop(owesAny E.plan.W E.plan.toward c (ws.map rcv) ∗ E.plan.before m c) := rfl
theorem point_mid {n : ℕ} (h : n ≠ 0) (h' : n ≠ N) : E.point N ws m c n = iprop(owesAny E.plan.W E.plan.toward c [] ∗ E.plan.between m c) := by
  unfold point dues hold; rw [if_neg h, if_neg h, if_neg h']
theorem point_last (h : N ≠ 0) : E.point N ws m c N = iprop(owesAny E.plan.W E.plan.toward c [] ∗ E.plan.after m c) := by
  unfold point dues hold; rw [if_neg h, if_neg h, if_pos rfl]

section Ends

variable {Λ : Idealize.SL.Sem.Labels} (defs : Defs 8 τ sig Val Λ) (𝒱 : Variants)

/-- At the first point the device can start every copy and every transfer; -/
theorem first (hls : Finset.univ = ls.toFinset) (hl : ls.Nodup) (hws : Finset.univ = ws.toFinset) (hw : ws.Nodup) (R : sProp (XM 8 τ sig Val)) :
    iprop((owesAny E.plan.W E.plan.toward c (ws.map rcv) ∗ E.plan.before m c) ∗ R)
      ⊢ iprop(owesAny E.plan.W E.plan.toward c (ws.map rcv) ∗ E.plan.copies defs 𝒱 c (E.plan.sends defs 𝒱 c (E.plan.between m c) ws) ls ∗ R) := by
  have hs : iprop(E.plan.before m c ∗ (E.plan.between m c -∗ E.plan.between m c)) ⊢ E.plan.copies defs 𝒱 c (E.plan.sends defs 𝒱 c (E.plan.between m c) ws) ls :=
    E.plan.starting m defs 𝒱 c (E.plan.between m c) ls hls hl ws hws hw
  iintro ⟨⟨HO, HB⟩, HR⟩
  isplitl [HO]; · iexact HO
  isplitl [HB]
  · iapply hs
    isplitl [HB]; · iexact HB
    iintro H; iexact H
  iexact HR

/-- at the last it can wait for all. -/
theorem last (hks : Finset.univ = (ws.map rcv ++ ws.map snd ++ ls.map loc : List (Kind A I J)).toFinset) (hk : (ws.map rcv ++ ws.map snd ++ ls.map loc : List (Kind A I J)).Nodup) :
    E.plan.between m c ⊢ E.plan.awaits defs 𝒱 c (E.plan.after m c) (ws.map rcv ++ ws.map snd ++ ls.map loc) := by
  iintro HM
  iapply (E.plan.waiting m defs 𝒱 c (E.plan.after m c) _ hks hk)
  isplitl [HM]; · iexact HM
  iintro H; iexact H

theorem finish (hks : Finset.univ = (ws.map rcv ++ ws.map snd ++ ls.map loc : List (Kind A I J)).toFinset) (hk : (ws.map rcv ++ ws.map snd ++ ls.map loc : List (Kind A I J)).Nodup)
    (R : sProp (XM 8 τ sig Val)) :
    iprop((owesAny E.plan.W E.plan.toward c [] ∗ E.plan.between m c) ∗ R)
      ⊢ iprop(owesAny E.plan.W E.plan.toward c [] ∗ E.plan.awaits defs 𝒱 c (E.plan.after m c) (ws.map rcv ++ ws.map snd ++ ls.map loc) ∗ R) := by
  have hw := E.last ls ws m c defs 𝒱 hks hk
  iintro ⟨⟨HO, HM⟩, HR⟩
  ihave HM := hw $$ HM
  isplitl [HO]; · iexact HO
  isplitl [HM] <;> iassumption

end Ends

section Body

variable {Λ : Idealize.SL.Sem.Labels} {cfg : Cfg sig Λ} (D : Dat τ Val Unit ℕ (Two 8 τ sig) ℕ cfg c) (t : Fin cfg.N)
variable (defs : Defs 8 τ sig Val Λ) (𝒱 : Variants) {e : Prog (TpuEff 8 τ sig Val Λ .tc) PUnit} {X Y Z : Type}
variable {a₀ : X → sProp (XM 8 τ sig Val)} {a₁ : Y → sProp (XM 8 τ sig Val)} {a₂ r₂ : Z → sProp (XM 8 τ sig Val)}
variable {b₀ b₁ l₀ l₁ l₂ S S' : sProp (XM 8 τ sig Val)}

/-- The obligation of a body at one point, from what it does there with its two factors' buffers, its result's and the exchange. -/
theorem sound (hΦ : D.Φ t.castSucc = iprop(E.hold N m c t.val ∗ S)) (hΦ' : D.Φ t.succ = iprop(E.hold N m c (t.val + 1) ∗ S'))
    (hO : D.owed t.castSucc = debt E.wires (due E.plan.toward c (E.dues ws t.val)))
    (hO' : D.owed t.succ = debt E.wires (due E.plan.toward c (E.dues ws (t.val + 1))))
    (hr : ∀ x, x ∈ D.recorded t.succ) (h₀ : ∀ d, a₀ d ⊢ b₀) (h₁ : ∀ d, a₁ d ⊢ b₁)
    (hb : ∀ d, iprop(E.point N ws m c t.val ∗ b₀ ∗ b₁ ∗ a₂ d ∗ S)
      ⊢ wp frame (wpE defs 𝒱 (c.tc : Thread 8 τ) none) Set.univ e (fun _ => iprop(E.point N ws m c (t.val + 1) ∗ b₀ ∗ b₁ ∗ r₂ d ∗ S')))
    (hl₀ : b₀ ⊢ l₀) (hl₁ : b₁ ⊢ l₁) (hl₂ : ∀ d, r₂ d ⊢ l₂) :
    iprop(D.Φ t.castSucc ∗ D.owesAt () t.castSucc ∗ (∃ d, a₀ d) ∗ (∃ d, a₁ d) ∗ ∃ d, a₂ d)
      ⊢ wp frame (wpE defs 𝒱 (c.tc : Thread 8 τ) none) Set.univ e (fun _ => iprop(D.Φ t.succ ∗ D.owesAt () t.succ ∗ l₀ ∗ l₁ ∗ l₂)) := by
  have hpre : D.owesAt () t.castSucc ⊢ owesAny E.plan.W E.plan.toward c (E.dues ws t.val) := by
    unfold Dat.owesAt Pipeline.owesWithin owesAny
    rw [hO]
    iintro ⟨%Ws, -, H⟩
    iexists Ws; iexact H
  have hpost : owesAny E.plan.W E.plan.toward c (E.dues ws (t.val + 1)) ⊢ D.owesAt () t.succ := by
    unfold Dat.owesAt Pipeline.owesWithin owesAny
    rw [hO']
    iintro ⟨%Ws, H⟩
    iexists Ws
    isplitr; · ipureintro; exact fun _ _ => Or.inl (hr _)
    iexact H
  rw [hΦ, hΦ']
  have hin : iprop((E.hold N m c t.val ∗ S) ∗ D.owesAt () t.castSucc ∗ (∃ d, a₀ d) ∗ (∃ d, a₁ d) ∗ ∃ d, a₂ d)
      ⊢ iprop(∃ d, E.point N ws m c t.val ∗ b₀ ∗ b₁ ∗ a₂ d ∗ S) := by
    unfold point
    iintro ⟨⟨HH, HL⟩, HO, ⟨%d0, H0⟩, ⟨%d1, H1⟩, ⟨%d2, H2⟩⟩
    ihave HO := hpre $$ HO
    iexists _
    isplitl [HH HO]; · isplitl [HO] <;> iassumption
    isplitl [H0]; · iapply (h₀ d0); iexact H0
    isplitl [H1]; · iapply (h₁ d1); iexact H1
    isplitl [H2] <;> iassumption
  have hout (d) : iprop(E.point N ws m c (t.val + 1) ∗ b₀ ∗ b₁ ∗ r₂ d ∗ S')
      ⊢ iprop((E.hold N m c (t.val + 1) ∗ S') ∗ D.owesAt () t.succ ∗ l₀ ∗ l₁ ∗ l₂) := by
    unfold point
    iintro ⟨⟨HO, HH⟩, H0, H1, H2, HL⟩
    isplitl [HH HL]; · isplitl [HH] <;> iassumption
    isplitl [HO]; · iapply hpost; iexact HO
    isplitl [H0]; · iapply hl₀; iexact H0
    isplitl [H1]; · iapply hl₁; iexact H1
    iapply (hl₂ d); iexact H2
  exact hin.trans (exists_elim fun d => (hb d).trans (wp_mono frame _ Set.univ fun _ => hout d))

/-- The same of a body that keeps an accumulator: `p` says what it holds before the point, `p'` after. -/
theorem sound_sweep {V : Type} {p p' : V → Prop} {f : V → V} {a₃ : V → sProp (XM 8 τ sig Val)} {r : V → Z → sProp (XM 8 τ sig Val)} {L : sProp (XM 8 τ sig Val)}
    (hΦ : D.Φ t.castSucc = iprop(E.hold N m c t.val ∗ L ∗ ∃ z, ⌜p z⌝ ∗ a₃ z)) (hΦ' : D.Φ t.succ = iprop(E.hold N m c (t.val + 1) ∗ L ∗ ∃ z, ⌜p' z⌝ ∗ a₃ z))
    (hO : D.owed t.castSucc = debt E.wires (due E.plan.toward c (E.dues ws t.val)))
    (hO' : D.owed t.succ = debt E.wires (due E.plan.toward c (E.dues ws (t.val + 1))))
    (hr : ∀ x, x ∈ D.recorded t.succ) (h₀ : ∀ d, a₀ d ⊢ b₀) (h₁ : ∀ d, a₁ d ⊢ b₁) (hp : ∀ z, p z → p' (f z))
    (hb : ∀ z d, iprop(E.point N ws m c t.val ∗ b₀ ∗ b₁ ∗ a₂ d ∗ a₃ z ∗ L)
      ⊢ wp frame (wpE defs 𝒱 (c.tc : Thread 8 τ) none) Set.univ e (fun _ => iprop(E.point N ws m c (t.val + 1) ∗ b₀ ∗ b₁ ∗ r z d ∗ a₃ (f z) ∗ L)))
    (hl₀ : b₀ ⊢ l₀) (hl₁ : b₁ ⊢ l₁) (hl₂ : ∀ z d, p z → (r z d ⊢ l₂)) :
    iprop(D.Φ t.castSucc ∗ D.owesAt () t.castSucc ∗ (∃ d, a₀ d) ∗ (∃ d, a₁ d) ∗ ∃ d, a₂ d)
      ⊢ wp frame (wpE defs 𝒱 (c.tc : Thread 8 τ) none) Set.univ e (fun _ => iprop(D.Φ t.succ ∗ D.owesAt () t.succ ∗ l₀ ∗ l₁ ∗ l₂)) := by
  refine E.sound N ws m c D t defs 𝒱 (r₂ := fun d => iprop(∃ z, ⌜p z⌝ ∗ r z d)) hΦ hΦ' hO hO' hr h₀ h₁ (fun d => ?_) hl₀ hl₁ (fun d => ?_)
  · have hin : iprop(E.point N ws m c t.val ∗ b₀ ∗ b₁ ∗ a₂ d ∗ L ∗ ∃ z, ⌜p z⌝ ∗ a₃ z)
        ⊢ iprop(∃ z, ⌜p z⌝ ∗ E.point N ws m c t.val ∗ b₀ ∗ b₁ ∗ a₂ d ∗ a₃ z ∗ L) := by
      iintro ⟨HE, H0, H1, H2, HL, ⟨%z, %hz, H3⟩⟩
      iexists z
      isplitr; · ipureintro; exact hz
      isplitl [HE]; · iexact HE
      isplitl [H0]; · iexact H0
      isplitl [H1]; · iexact H1
      isplitl [H2]; · iexact H2
      isplitl [H3] <;> iassumption
    refine hin.trans (exists_elim fun z => ?_)
    have hout (hz : p z) : iprop(E.point N ws m c (t.val + 1) ∗ b₀ ∗ b₁ ∗ r z d ∗ a₃ (f z) ∗ L)
        ⊢ iprop(E.point N ws m c (t.val + 1) ∗ b₀ ∗ b₁ ∗ (∃ z, ⌜p z⌝ ∗ r z d) ∗ L ∗ ∃ z, ⌜p' z⌝ ∗ a₃ z) := by
      iintro ⟨HE, H0, H1, H2, H3, HL⟩
      isplitl [HE]; · iexact HE
      isplitl [H0]; · iexact H0
      isplitl [H1]; · iexact H1
      isplitl [H2]
      · iexists z
        isplitr; · ipureintro; exact hz
        iexact H2
      isplitl [HL]; · iexact HL
      iexists (f z)
      isplitr; · ipureintro; exact hp z hz
      iexact H3
    have hz' (hz : p z) := (hb z d).trans (wp_mono frame _ Set.univ fun _ => hout hz)
    iintro ⟨%hz, H⟩
    iapply (hz' hz)
    iexact H
  · iintro ⟨%z, %hz, H⟩
    iapply (hl₂ z d hz)
    iexact H

end Body

theorem one (Φ : Fin 1 → sProp (XM 8 τ sig Val)) : bigSep Finset.univ Φ = Φ 0 := by
  rw [show (Finset.univ : Finset (Fin 1)) = {0} from rfl, bigSep_singleton]

theorem two (Φ : Fin 2 → sProp (XM 8 τ sig Val)) : bigSep Finset.univ Φ = iprop(Φ 0 ∗ Φ 1) := by
  rw [show (Finset.univ : Finset (Fin 2)) = insert 0 {1} from rfl, bigSep_insert (by decide), bigSep_singleton]
  rfl

theorem levels (n : ℕ) : ∀ x ∈ due E.plan.toward c (E.dues ws n), 0 < E.wires.level x.2 := by
  unfold dues
  by_cases h : n = 0
  · rw [if_pos h]
    intro x hx
    obtain ⟨k, hk, rfl⟩ := List.mem_map.mp hx
    obtain ⟨y, -, rfl⟩ := List.mem_map.mp hk
    exact Nat.one_pos
  · rw [if_neg h]; exact fun x hx => absurd hx List.not_mem_nil

variable {Λ₀ : Idealize.SL.Sem.Labels} {P : Type} [Fintype P] [DecidableEq P]
variable (cfgs : P → Cfg sig Λ₀) (dats : (p : P) → (c : Dev 8) → Dat τ Val Unit ℕ (Two 8 τ sig) ℕ (cfgs p) c)
variable (p : P)

/-- Every weakly fair run on the eight devices ends, with the windows' arrays as the proof's data say, every slot of the exchange's
    results filled, its arguments as they were and every semaphore at zero. -/
theorem run [∀ e, Nonempty (Val e)] (hinj : Function.Injective (Pipeline.cellOf (nD := 8) (τ := τ) cfgs)) (hw : Pipeline.WinFacts (cfgs p).spec) (ho : Pipeline.OwnSemFacts (cfgs p).spec E.wires.at_)
    (defs₀ : Defs 8 τ sig Val Λ₀) (g : Dev 8 → PrngReg)
    (main : Dev 8 → Prog (TpuEff 8 τ sig Val (Pipeline.Sig Λ₀ P fun q => (bare Val cfgs q).Adm) .tc) PUnit)
    (hmain : ∀ c, main c = .op (.customCall (Pipeline.entry p) ()) fun _ => .ret ⟨⟩)
    (hws : Finset.univ = ws.toFinset) (hwn : ws.Nodup) (hN : (cfgs p).N ≠ 0)
    (hbody : ∀ c, BodyObligation (dats p c) defs₀ Variants.none () Set.univ)
    (hne : ∀ w : Fin (cfgs p).W, 0 < ((cfgs p).spec w).block.numel)
    (harr : ∀ w, ((cfgs p).spec w).arr.IsWhole) (hstage : ∀ w s, (((cfgs p).spec w).stage s).IsWhole)
    (hq : ∀ c w, (dats p c).q w = fullShare) (howed : ∀ c t, (dats p c).owed t = debt E.wires (due E.plan.toward c (E.dues ws t.val)))
    (hA : ∀ c w, (dats p c).A w = m (((cfgs p).spec w).arr.view.loc (c.tc : Thread 8 τ)))
    (arrays : ∀ c, (Pipeline.unscopedRest (cfgs p).spec c (fun b => m ((c.tc : Thread 8 τ).loc b)) : sProp (XM 8 τ sig Val)) ⊢ iprop(E.inputs m c ∗ E.outputs c))
    (hin : ∀ c, iprop((E.plan.before m c ∗ E.leftover m c) ∗ Pipeline.scopedRest (cfgs p).spec c) ⊢ (dats p c).Φ 0)
    (hout : ∀ c, (dats p c).Φ (Fin.last (cfgs p).N) ⊢ iprop((E.plan.after m c ∗ E.leftover m c) ∗ Pipeline.scopedRest (cfgs p).spec c))
    (hsem : ∀ sm : SemLoc sig, sm.isScoped .tc = true) :
    θ_run (Pipeline.defs (bare Val cfgs) defs₀) (onTc main) ⟨m, fun _ => 0, g⟩
      (fun r => (∀ c : Dev 8, (∀ w, r.2.mem (((cfgs p).spec w).arr.view.loc (c.tc : Thread 8 τ)) = (dats p c).arrAt w (cfgs p).N) ∧ E.Done m c r.2) ∧ r.2.sem = fun _ => 0) :=
  θ_run_exchange cfgs dats () hinj p hw.to₀ ho (EG 8 τ sig Val) defs₀ Variants.none m g main
    (hmain := hmain) (hbody := fun c => (hbody c).loose) (hne := hne) (harr := harr) (hstage := hstage)
    (hshare := fun c w => (dats p c).share_full (hq c) w) (hdistinct := hw.arr_inj)
    (O₀ := fun c => debt E.wires (due E.plan.toward c (ws.map rcv))) (howed₀ := fun c => (howed c 0).trans (by rw [show E.dues ws (0 : Fin ((cfgs p).N + 1)).val = ws.map rcv from rfl]))
    (howedN := fun c => (howed c (Fin.last _)).trans (by rw [show E.dues ws (Fin.last (cfgs p).N).val = [] from if_neg (by rw [Fin.val_last]; exact hN)]; rfl))
    (L := lvls) (lv := lev E.wires) (hL := lvls_ne)
    (hwaits := fun c => Pipeline.cellsWaits_intro cfgs dats () p c fun w s t => by
      rw [howed]; exact mayWait_other E.wires c _ (fun k => ho.disj k w s) _ (E.levels ws c t.val))
    (G := BI.own (EX 8 τ sig Val (initOf (allCells E.wires) (allToks E.wires))))
    (u₀ := (initOf (Pipeline.cells cfgs hinj) (Pipeline.launchToks cfgs hinj), initOf (allCells E.wires) (allToks E.wires)))
    (hu₀ := by
      iintro Hu
      ihave H := (ownU_pair _ _) $$ Hu
      icases H with ⟨HP, HX⟩
      imodintro
      isplitl [HP] <;> iassumption)
    (hA := hA) (X := fun c => iprop(E.plan.before m c ∗ E.leftover m c)) (Y := fun c => iprop(E.filled m c ∗ E.inputs m c))
    (hdeal := by
      have hr : (bigSep Finset.univ fun c : Dev 8 => Pipeline.unscopedRest (cfgs p).spec c fun b => m ((c.tc : Thread 8 τ).loc b) : sProp (XM 8 τ sig Val))
          ⊢ bigSep Finset.univ fun c : Dev 8 => iprop(E.inputs m c ∗ E.outputs c) := bigSep_mono fun c _ => arrays c
      iintro ⟨HL, HS, HR, HC, HX⟩
      ihave HR := hr $$ HR
      iapply (E.deal_all m ws hwn hws)
      isplitl [HL]; · iexact HL
      isplitl [HS]; · iexact HS
      isplitl [HR]; · iexact HR
      isplitl [HC]; · iexact HC
      iexact HX)
    (hin := hin)
    (hout := fun c => by
      have hc : iprop(E.plan.after m c ∗ E.leftover m c) ⊢ _ := E.close m c
      have ho := hout c
      iintro H
      ihave H := ho $$ H
      icases H with ⟨HA, HR⟩
      ihave HA := hc $$ HA
      icases HA with ⟨HY, HZ⟩
      isplitl [HY]; · iexact HY
      isplitl [HZ]; · iexact HZ
      iexact HR)
    (QY := E.Done m) (hY := E.read_done m)
    (hQ := fun _ h hs => ⟨h, sem_eq_zero_of_scoped hsem hs⟩)

end Cert.Shared.Direct.Setup

end
-- ==== Proof.Shared.Pair.lean ====
/- The exchange within a chip: every device has two halves of each of four rows, keeps nothing, and sends the other device of its chip
   that one's half of every row. The pieces, and the reference of the exchange. -/
module

public import proofs.«01_k».proof.Proof.Shared.Sheets
public import proofs.«01_k».proof.Proof.Shared.Sibling

@[expose] public section

noncomputable section

namespace Cert.Shared

open Idealize.ShloMosaic

section Pieces

variable {sig : RefSig} {p q : ℕ}

theorem half_inb (t : Fin 4) (c : Dev 8) : ∀ a : Fin 4, (![t.val, 1 - c.val % 2, 0, 0] : Fin 4 → ℕ) a + (⟨4, ![1, 1, p, q]⟩ : Shape).size a ≤ (Halves 4 p q).size a := by
  have ht := t.isLt
  intro a
  match a with
  | 0 => show t.val + 1 ≤ 4; omega
  | 1 => show 1 - c.val % 2 + 1 ≤ 2; omega
  | 2 => exact Nat.le_of_eq (Nat.zero_add p)
  | 3 => exact Nat.le_of_eq (Nat.zero_add q)

theorem slot_inb (t : Fin 4) : ∀ a : Fin 3, (![t.val, 0, 0] : Fin 3 → ℕ) a + (Rows 1 p q).size a ≤ (Rows 4 p q).size a := by
  have ht := t.isLt
  intro a
  match a with
  | 0 => show t.val + 1 ≤ 4; omega
  | 1 => exact Nat.le_of_eq (Nat.zero_add p)
  | 2 => exact Nat.le_of_eq (Nat.zero_add q)

/-- The other device's half of a row, and a row of the result. -/
abbrev half (p q : ℕ) (t : Fin 4) (c : Dev 8) : Rect (Halves 4 p q) :=
  Rect.unit (s := Halves 4 p q) ![t.val, 1 - c.val % 2, 0, 0] (⟨4, ![1, 1, p, q]⟩ : Shape).size (half_inb t c)
abbrev slot (p q : ℕ) (t : Fin 4) : Rect (Rows 4 p q) := Rect.unit (s := Rows 4 p q) ![t.val, 0, 0] (Rows 1 p q).size (slot_inb t)

/-- An array of four rows of halves, and the array of the four rows received. -/
def pairSheet (p q : ℕ) (inp : Memref sig .tc .hbm (Halves 4 p q) .bf16) (res : Memref sig .tc .hbm (Rows 4 p q) .bf16) (hi : inp.IsWhole) (hr : res.IsWhole)
    (own : res.view.ref.isScScratch = false) (sq : (⟨4, ![1, 1, p, q]⟩ : Shape).Squeezes ⟨2, ![p, q]⟩) (sq' : (Rows 1 p q).Squeezes ⟨2, ![p, q]⟩)
    (words : ∀ t c, (half p q t c).WholeWords (EltTy.packing .bf16)) (words' : ∀ t, (slot p q t).WholeWords (EltTy.packing .bf16))
    (some : 0 < (⟨2, ![p, q]⟩ : Shape).numel) : Direct.Sheet sig (Fin 4) where
  s := ⟨2, ![p, q]⟩
  e := .bf16
  inp := inp
  res := res
  inp_whole := hi
  res_whole := hr
  own := own
  pick := half p q
  pick_one _ _ _ := rfl
  pick_shape _ _ := sq
  pick_words := words
  put := slot p q
  put_one _ _ := rfl
  put_shape _ := sq'
  put_words := words'
  pick_apart _ _ _ h := Direct.apart_axis (s := Halves 4 p q) (0 : Fin 4) rfl rfl fun e => h (Fin.ext e)
  put_apart _ _ h := Direct.apart_axis (s := Rows 4 p q) (0 : Fin 3) rfl rfl fun e => h (Fin.ext e)
  put_cover i := ⟨⟨(i 0).val, (i 0).isLt⟩, Direct.mem_axis (s := Rows 4 p q) (0 : Fin 3) i rfl rfl (by
    intro b hb
    match b with
    | 0 => exact absurd rfl hb
    | 1 => exact ⟨rfl, rfl⟩
    | 2 => exact ⟨rfl, rfl⟩)⟩
  some := some

/-- The exchange of arrays: every slot is filled by the other device of the chip. -/
def pairs {A : Type} (sheet : A → Direct.Sheet sig (Fin 4)) (num : Direct.Kind A (Fin 0) (Fin 4) → DmaSem sig) (inj : Function.Injective num) :
    Direct.Setup sig A (Fin 0) (Fin 4) (Fin 4) where
  sheet := sheet
  num := num
  num_inj := inj
  slot := Equiv.emptySum (Fin 0) (Fin 4)
  mate _ := flipBits 1
  mate_mate _ := by decide +kernel

theorem half_eq (arg : Memref sig .tc .hbm (Halves 4 p q) .bf16) (sq : (⟨4, ![1, 1, p, q]⟩ : Shape).Squeezes ⟨2, ![p, q]⟩) {off : Fin 4 → ℕ}
    (inb : ∀ a, off a + (⟨4, ![1, 1, p, q]⟩ : Shape).size a ≤ (Halves 4 p q).size a) (t : Fin 4) (c : Dev 8) (h : off = ![t.val, 1 - c.val % 2, 0, 0]) :
    (arg.slice (Rect.unit (s := Halves 4 p q) off (⟨4, ![1, 1, p, q]⟩ : Shape).size inb) (fun _ => rfl)).squeeze ⟨2, ![p, q]⟩ sq
      = (arg.slice (half p q t c) (fun _ => rfl)).squeeze ⟨2, ![p, q]⟩ sq := by
  subst h; rfl

theorem other_eq : ∀ d : Dev 8, (4 * (d.val / 4) + 2 * ((d.val / 2) % 2) + 1) - (d.val % 2) = (flipBits 1 d).val := by decide +kernel

/-- The other device of the chip, by the number computed for it. -/
theorem other {n : ℕ} {h : n < 8} (c : Dev 8) (hn : n = (4 * (c.val / 4) + 2 * ((c.val / 2) % 2) + 1) - (c.val % 2)) : (⟨n, h⟩ : Dev 8) = flipBits 1 c :=
  Fin.ext (hn.trans (other_eq c))

end Pieces

section Reference

variable {α : Type} {p q : ℕ}

/-- The sizes of the arrays that the reference goes through. -/
structure PairFacts (p q : ℕ) : Prop where
  spread : (Halves 32 p q).ShapeCasts (Spread 2 2 p q)
  low : (Spread 2 2 p q).Slices ![0, 1, 0, 0, 0, 0] (Spread 1 1 p q)
  high : (Spread 2 2 p q).Slices ![0, 0, 0, 1, 0, 0] (Spread 1 1 p q)
  joined : Shape.Concatenates [Spread 1 1 p q, Spread 1 1 p q] (Spread 2 1 p q) 1
  rows : (Spread 2 1 p q).ShapeCasts (Rows 32 p q)

/-- The rows from the other device of the chip. -/
abbrev swapped (h : PairFacts p q) (x : (Halves 32 p q).Idx → α) : (Rows 32 p q).Idx → α :=
  shapeCast (Rows 32 p q) (concatenate (Spread 2 1 p q) 1 [⟨Spread 1 1 p q, extractStridedSlice (Spread 1 1 p q) ![0, 1, 0, 0, 0, 0] (shapeCast (Spread 2 2 p q) x h.spread) h.low⟩,
      ⟨Spread 1 1 p q, extractStridedSlice (Spread 1 1 p q) ![0, 0, 0, 1, 0, 0] (shapeCast (Spread 2 2 p q) x h.spread) h.high⟩] h.joined) h.rows

/-- A device whose slots are filled from the other device of its chip holds its rows of them. -/
theorem pair_swapped (h : PairFacts p q) (c : Dev 8) (G : (Rows 4 p q).Idx → α) (X : Dev 8 → (Halves 4 p q).Idx → α) (x : (Halves 32 p q).Idx → α)
    (put : Fin 4 → (⟨2, ![p, q]⟩ : Shape).Idx → (Rows 4 p q).Idx) (pick : Fin 4 → Dev 8 → (⟨2, ![p, q]⟩ : Shape).Idx → (Halves 4 p q).Idx)
    (eput : (⟨2, ![p, q]⟩ : Shape).numel = (Rows 1 p q).numel) (epick : (⟨2, ![p, q]⟩ : Shape).numel = (⟨4, ![1, 1, p, q]⟩ : Shape).numel)
    (hput : ∀ t z b, (put t z b).val = (![t.val, 0, 0] : Fin 3 → ℕ) b + 1 * ((Shape.reshapeEquiv eput z) b).val)
    (hpick : ∀ t d z b, (pick t d z b).val = (![t.val, 1 - d.val % 2, 0, 0] : Fin 4 → ℕ) b + 1 * ((Shape.reshapeEquiv epick z) b).val)
    (hG : ∀ t z, G (put t z) = X (flipBits 1 c) (pick t (flipBits 1 c) z))
    (tX : Layout.Tiles (Halves 4 p q) (Halves 32 p q) 0 8) (tG : Layout.Tiles (Rows 4 p q) (Rows 32 p q) 0 8)
    (hX : ∀ d, X d = Layout.block (Halves 4 p q) (Halves 32 p q) 0 8 d x tX) :
    G = Layout.block (Rows 4 p q) (Rows 32 p q) 0 8 c (swapped h x) tG :=
  sibling_block c G X x (swapped h x) put pick eput epick hput hpick hG tX tG hX fun i k k0 k1 k2 k3 => sibling_apply x _ _ _ _ _ i k k0 k1 k2 k3

end Reference

end Cert.Shared

end
-- ==== Proof.Up.Body.lean ====
/- The product with a transposed factor that the sibling exchange accompanies: where the exchange's pieces lie, what the product's
   accumulator holds at each point, and the body on one device at one point. -/
module

public import proofs.«01_k».proof.Proof.Shared.Grid
public import proofs.«01_k».proof.Proof.Shared.Pair
public import proofs.«01_k».proof.Proof.Gen.UpIdeal.Skeleton
public import proofs.«01_k».proof.Proof.Gen.UpIdeal.Points
public import proofs.«01_k».proof.Proof.Gen.UpIdeal.Launch

@[expose] public section

noncomputable section

namespace Cert.UpIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.UpIdeal.Gen Cert.Shared Cert.Shared.Direct

theorem words0 : ∀ (t : Fin 4) (c : Dev 8), (half 4096 3072 t c).WholeWords (EltTy.packing .bf16) := by decide +kernel
theorem words1 : ∀ t : Fin 4, (slot 4096 3072 t).WholeWords (EltTy.packing .bf16) := by decide +kernel

/-- The array exchanged and its result. -/
def sheet0 : Sheet sig (Fin 4) :=
  pairSheet 4096 3072 (Memref.whole main_arg2) (Memref.whole main_v1_1) (Memref.isWhole_whole _) (Memref.isWhole_whole _) rfl
    squeezes_S1x1x4096x3072_S4096x3072 squeezes_S1x4096x3072_S4096x3072 words0 words1 (by decide)

def num : Kind (Fin 1) (Fin 0) (Fin 4) → DmaSem sig
  | (_, .inl i) => i.elim0
  | (_, .inr (.inl j)) => ⟨6 + j.val, by show _ < 14; omega⟩
  | (_, .inr (.inr j)) => ⟨10 + j.val, by show _ < 14; omega⟩

theorem num_inj : Function.Injective num := by decide +kernel

/-- The exchange. -/
def E : Setup sig (Fin 1) (Fin 0) (Fin 4) (Fin 4) := pairs (fun _ => sheet0) num num_inj

variable {F : FTy → Type} [FloatOps F] (m : (ℓ : Loc nD τ sig) → Buf (Elt F) ℓ)

/-- The copies, of which there are none, and the transfers in order. -/
def homes : List (Fin 1 × Fin 0) := []
def ways : List (Fin 1 × Fin 4) := [(0, 0), (0, 1), (0, 2), (0, 3)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 127 := by decide +kernel
theorem cond4_iff : ∀ t : Fin cfg0.N, k0_cond4 (grid0.coords t) = 1#1 ↔ t.val % 8 = 7 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 8 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 8 ≠ 0 := by decide +kernel

/-- What a sweep's step leaves in the accumulator. -/
def step (n : ℕ) (x : Vec F S1024x3072 .bf16) (y : Vec F S1x1024x3072 .bf16) (z : Vec F S1024x1024 .f32) : Vec F S1024x1024 .f32 :=
  if n % 8 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x3072 .bf16) (h₀ : b₀.IsWhole) (b₁ : Memref sig .tc .vmem S1x1024x3072 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x3072 .bf16) (y : Vec F S1x1024x3072 .bf16) (z d : Vec F S1024x1024 .f32) :
    iprop(E.point 128 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_ffn_up (F := F) (grid0.coords t) b₀ h₀ b₁ h₁ (Memref.whole main_arg2) (Memref.isWhole_whole _) b₂ h₂ (Memref.whole main_v1_1) (Memref.isWhole_whole _)
          b₃ h₃ cc0_scratch1 cc0_scratch2)
        (fun _ => iprop(E.point 128 ways m c (t.val + 1) ∗ owns (c.tc : Thread nD τ) b₀ fullShare x ∗ owns (c.tc : Thread nD τ) b₁ fullShare y
          ∗ owns (c.tc : Thread nD τ) b₂ fullShare (if t.val % 8 = 7 then step t.val x y z else d)
          ∗ owns (c.tc : Thread nD τ) b₃ fullShare (step t.val x y z) ∗ L)) := by
  rw [cc0_bwd_ffn_up_eq_skeleton]
  unfold cc0_bwd_ffn_up_skel
  have tN : t.val < 128 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part1_skel, k0_part2_skel, Prog.lift, Prog.bind_op, Prog.bind_ret, Prog.pure_eq_ret, wp_deviceId]
    have hp : E.point 128 ways m c t.val = _ := (congrArg (E.point 128 ways m c) t0).trans (E.point_first 128 ways m c)
    rw [hp, E.point_mid 128 ways m c (by omega : t.val + 1 ≠ 0) (by omega)]
    refine (E.first homes ways m c (defs₀ (F := F)) 𝒱 (by decide +kernel) (by decide +kernel) (by decide +kernel) (by decide +kernel) _).trans ?_
    unfold homes ways
    unfold Plan.copies
    refine E.plan.next_send (send_congr (other c (k0_dev1_eq c)) (half_eq _ _ _ 0 c (k0_off1_eq c)) rfl rfl rfl) ?_
    refine E.plan.next_send (send_congr (other c (k0_dev2_eq c)) (half_eq _ _ _ 1 c (k0_off2_eq c)) rfl rfl rfl) ?_
    refine E.plan.next_send (send_congr (other c (k0_dev3_eq c)) (half_eq _ _ _ 2 c (k0_off3_eq c)) rfl rfl rfl) ?_
    refine E.plan.next_send (send_congr (other c (k0_dev4_eq c)) (half_eq _ _ _ 3 c (k0_off4_eq c)) rfl rfl rfl) ?_
    unfold Plan.sends
    simp only [List.map_nil]
    rw [if_neg (by omega : ¬ t.val % 8 = 7), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 128 ways m c t0 (by omega : t.val ≠ 128)
  by_cases t2 : t.val % 8 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 128 ways m c (by omega : t.val + 1 ≠ 0) (by omega)
    rw [hp, hq, if_neg (by omega : ¬ t.val % 8 = 7), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 8 = 7
  · have c4 := (cond4_iff t).mpr t4
    by_cases t5 : t.val = 127
    · have c5 := (cond5_iff t).mpr t5
      simp only [dif_neg c1, dif_neg c2, dif_pos c3, dif_pos c4, dif_pos c5, k0_part3_eq_skeleton, k0_part4_eq_skeleton, k0_part5_eq_skeleton,
        k0_part3_skel, k0_part4_skel, k0_part5_skel, Prog.lift, Prog.bind_op, Prog.bind_ret, Prog.pure_eq_ret, wp_deviceId]
      have hq : E.point 128 ways m c (t.val + 1) = _ := (congrArg (fun n => E.point 128 ways m c (n + 1)) t5).trans (E.point_last 128 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 8 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 128 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  have c4 := mt (cond4_iff t).mp t4
  have c5 := mt (cond5_iff t).mp (by omega)
  simp only [dif_neg c1, dif_neg c2, dif_pos c3, dif_neg c4, dif_neg c5, Prog.lift, Prog.bind_op, Prog.bind_ret, Prog.pure_eq_ret]
  have hq := E.point_mid 128 ways m c (by omega : t.val + 1 ≠ 0) (by omega)
  rw [hp, hq, if_neg t4, hz]
  exact next_add (defs₀ (F := F)) 𝒱 c (wp_done (defs₀ (F := F)) 𝒱 c .rfl)

end Cert.UpIdeal
-- ==== Proof.Shared.Product.lean ====
/- Products over a contracted axis cut into parts: a sum taken part after part is the sum over the whole axis. -/
module

public import Idealize.ShloMosaic.PureOps
public import Idealize.ShloMosaic.Lib.MatmulPlain
public import Idealize.ShloMosaic.Lib.StackMember
public import Idealize.ShloMosaic.Lib.Pipeline.Value
public import Idealize.ShloMosaic.Lib.Pipeline.ValueKit
public import Idealize.ShloMosaic.Lib.ValueIdxRank6

@[expose] public section

noncomputable section

namespace Cert.Shared

open Idealize.ShloMosaic hiding ix2 ix3
open Idealize.ShloMosaic.ValueIdx (ix2 ix3)

/-- A quantity that starts anew every `K` steps and otherwise adds to what it was, is the sum of the steps since. -/
theorem sum_since {M : Type} [AddCommMonoid M] {K N : ℕ} (f g : ℕ → M) (h₀ : ∀ n, n < N → n % K = 0 → f n = g n)
    (h₁ : ∀ n, n + 1 < N → (n + 1) % K ≠ 0 → f (n + 1) = f n + g (n + 1)) :
    ∀ n, n < N → f n = ∑ k ∈ Finset.range (n % K + 1), g (n - n % K + k) := by
  intro n
  induction n with
  | zero => intro h; rw [h₀ 0 h (Nat.zero_mod K)]; simp
  | succ n ih =>
    intro h
    by_cases hz : (n + 1) % K = 0
    · rw [h₀ _ h hz, hz]; simp
    · have hm : (n + 1) % K = n % K + 1 := by
        rcases Nat.lt_or_ge 0 K with hK | hK
        · have := Nat.mod_lt n hK
          by_cases e : n % K + 1 = K
          · exfalso; apply hz; rw [Nat.add_mod, ← Nat.add_mod, ← Nat.mod_add_div n K, Nat.add_right_comm, e]; simp
          · rw [← Nat.mod_add_div n K, Nat.add_right_comm, Nat.add_mul_mod_self_left, Nat.add_mul_mod_self_left, Nat.mod_mod,
              Nat.mod_eq_of_lt (by omega)]
        · obtain rfl : K = 0 := by omega
          simp only [Nat.mod_zero]
      rw [h₁ n h hz, ih (by omega), hm, Finset.sum_range_succ (fun k => g (n + 1 - (n % K + 1) + k))]
      have hle := Nat.mod_le n K
      rw [show n + 1 - (n % K + 1) = n - n % K by omega, show n - n % K + (n % K + 1) = n + 1 by omega]

/-- A product with a factor given part by part along the contracted axis, entry by entry. -/
theorem product_parts_apply {P M N J L : ℕ} {φ : FTy} (hL : L = P * J) (A : FVec Ideal ⟨2, ![M, L]⟩ φ) (B : FVec Ideal ⟨3, ![P, N, J]⟩ φ)
    (h₁ : (⟨3, ![P, N, J]⟩ : Shape).Transposes [1, 0, 2] ⟨3, ![N, P, J]⟩) (h₂ : (⟨3, ![N, P, J]⟩ : Shape).ShapeCasts ⟨2, ![N, L]⟩)
    (h₃ : (⟨2, ![N, L]⟩ : Shape).Transposes [1, 0] ⟨2, ![L, N]⟩) (a : Fin M) (b : Fin N) :
    Host.dotGeneral (DotDims.plain M L N) none A
        (transpose ⟨2, ![L, N]⟩ [1, 0] (shapeCast ⟨2, ![N, L]⟩ (transpose ⟨3, ![N, P, J]⟩ [1, 0, 2] B h₁) h₂) h₃) (ix2 a b)
      = ∑ k : Fin P, ∑ j : Fin J, A (ix2 a ⟨k.val * J + j.val, Fin.mul_add_lt_of_eq_mul hL k j⟩) * B (ix3 k b j) := by
  rw [StackMember.dotGeneral_plain_apply]
  refine (Fin.sum_mul_add_congr (fun k j hl => ?_) hL).symm
  refine congrArg (A (ix2 a ⟨k.val * J + j.val, hl⟩) * ·) ?_
  symm
  refine (transpose_apply _ _ _ _ (ix2 b ⟨k.val * J + j.val, hl⟩) ?_).trans ((shapeCast_apply _ _ _ (ix3 b k j) ?_).trans (transpose_apply _ _ _ _ (ix3 k b j) ?_))
  · intro x
    match x with
    | ⟨0, _⟩ => rfl
    | ⟨1, _⟩ => rfl
  · rw [Shape.rowMajor_val_three, Shape.rowMajor_val_two]
    show (b.val * P + k.val) * J + j.val = b.val * L + (k.val * J + j.val)
    subst hL; ring
  · intro x
    match x with
    | ⟨0, _⟩ => rfl
    | ⟨1, _⟩ => rfl
    | ⟨2, _⟩ => rfl

/-- One part's contribution, as the kernel computes it. -/
theorem part_apply {M N J : ℕ} {φ : FTy} (x : FVec Ideal ⟨2, ![M, J]⟩ φ) (y : FVec Ideal ⟨3, ![1, N, J]⟩ φ)
    (h₁ : (⟨2, ![M, J]⟩ : Shape).ShapeCasts ⟨2, ![M, J]⟩) (h₂ : (⟨3, ![1, N, J]⟩ : Shape).ShapeCasts ⟨2, ![N, J]⟩) (a : Fin M) (b : Fin N) :
    FloatOps.matmul (DotDims.transposedRhs M J N) none (shapeCast ⟨2, ![M, J]⟩ x h₁) (shapeCast ⟨2, ![N, J]⟩ y h₂) (constant (F := Ideal) ⟨2, ![M, N]⟩ .f32 0x00000000#32) (ix2 a b)
      = ∑ j : Fin J, x (ix2 a j) * y (ix3 0 b j) := by
  rw [Ideal.matmul_transposedRhs_apply]
  rw [show constant (F := Ideal) ⟨2, ![M, N]⟩ .f32 0x00000000#32 (ix2 a b) = 0 from Ideal.ofBits_zero_f32, zero_add, shapeCast_self]
  refine Finset.sum_congr rfl fun j _ => congrArg (x (ix2 a j) * ·) (shapeCast_apply _ _ _ (ix3 0 b j) ?_)
  rw [Shape.rowMajor_val_three, Shape.rowMajor_val_two]
  show (0 * N + b.val) * J + j.val = b.val * J + j.val
  rw [Nat.zero_mul, Nat.zero_add]

/-- An entry of a device's rows of a matrix is the whole matrix's. -/
theorem rows_apply {α : Type} {p q M : ℕ} (h : Layout.Tiles (⟨2, ![p, q]⟩ : Shape) (⟨2, ![M, q]⟩ : Shape) 0 8) (c : Dev 8) (x : (⟨2, ![M, q]⟩ : Shape).Idx → α) (a : Fin p) (b : Fin q)
    (r : Fin M) (hr : r.val = c.val * p + a.val) : Layout.block ⟨2, ![p, q]⟩ ⟨2, ![M, q]⟩ 0 8 c x h (ix2 a b) = x (ix2 r b) := by
  rw [Layout.block_apply]
  refine congrArg x (funext fun k => Fin.ext ?_)
  match k with
  | ⟨0, _⟩ => exact (h.idx_val c _ 0).trans hr.symm
  | ⟨1, _⟩ => exact h.idx_val c _ 1

/-- A device's rows of the reference's product, from its rows of the factor. -/
theorem product_rows {P p M N J L : ℕ} {φ : FTy} (hL : L = P * J) (h : Layout.Tiles (⟨2, ![p, L]⟩ : Shape) (⟨2, ![M, L]⟩ : Shape) 0 8) (c : Dev 8)
    (A : FVec Ideal ⟨2, ![M, L]⟩ φ) (B : FVec Ideal ⟨3, ![P, N, J]⟩ φ)
    (h₁ : (⟨3, ![P, N, J]⟩ : Shape).Transposes [1, 0, 2] ⟨3, ![N, P, J]⟩) (h₂ : (⟨3, ![N, P, J]⟩ : Shape).ShapeCasts ⟨2, ![N, L]⟩)
    (h₃ : (⟨2, ![N, L]⟩ : Shape).Transposes [1, 0] ⟨2, ![L, N]⟩) (a : Fin p) (b : Fin N) (r : Fin M) (hr : r.val = c.val * p + a.val) :
    ∑ k : Fin P, ∑ j : Fin J, (Layout.block ⟨2, ![p, L]⟩ ⟨2, ![M, L]⟩ 0 8 c A h (ix2 a ⟨k.val * J + j.val, Fin.mul_add_lt_of_eq_mul hL k j⟩) : EReal) * B (ix3 k b j)
      = Host.dotGeneral (DotDims.plain M L N) none A
        (transpose ⟨2, ![L, N]⟩ [1, 0] (shapeCast ⟨2, ![N, L]⟩ (transpose ⟨3, ![N, P, J]⟩ [1, 0, 2] B h₁) h₂) h₃) (ix2 r b) := by
  rw [product_parts_apply hL A B h₁ h₂ h₃ r b]
  exact Finset.sum_congr rfl fun k _ => Finset.sum_congr rfl fun j _ => congrArg (· * B (ix3 k b j)) (rows_apply h c A a _ r hr)

/-- The same of a factor given in one part, the sum taken over `K` equal pieces of the contracted axis. -/
theorem product_rows_pieces {K p M N J L : ℕ} {φ : FTy} (hL : L = K * J) (h : Layout.Tiles (⟨2, ![p, L]⟩ : Shape) (⟨2, ![M, L]⟩ : Shape) 0 8) (c : Dev 8)
    (A : FVec Ideal ⟨2, ![M, L]⟩ φ) (B : FVec Ideal ⟨3, ![1, N, L]⟩ φ)
    (h₁ : (⟨3, ![1, N, L]⟩ : Shape).Transposes [1, 0, 2] ⟨3, ![N, 1, L]⟩) (h₂ : (⟨3, ![N, 1, L]⟩ : Shape).ShapeCasts ⟨2, ![N, L]⟩)
    (h₃ : (⟨2, ![N, L]⟩ : Shape).Transposes [1, 0] ⟨2, ![L, N]⟩) (a : Fin p) (b : Fin N) (r : Fin M) (hr : r.val = c.val * p + a.val) :
    ∑ k : Fin K, ∑ j : Fin J, (Layout.block ⟨2, ![p, L]⟩ ⟨2, ![M, L]⟩ 0 8 c A h (ix2 a ⟨k.val * J + j.val, Fin.mul_add_lt_of_eq_mul hL k j⟩) : EReal)
        * B (ix3 0 b ⟨k.val * J + j.val, Fin.mul_add_lt_of_eq_mul hL k j⟩)
      = Host.dotGeneral (DotDims.plain M L N) none A
        (transpose ⟨2, ![L, N]⟩ [1, 0] (shapeCast ⟨2, ![N, L]⟩ (transpose ⟨3, ![N, 1, L]⟩ [1, 0, 2] B h₁) h₂) h₃) (ix2 r b) := by
  rw [← product_rows (Nat.one_mul L).symm h c A B h₁ h₂ h₃ a b r hr, Fin.sum_univ_one]
  refine Fin.sum_mul_add_congr (fun k j hl => ?_) hL
  refine congrArg (· * B (ix3 0 b ⟨k.val * J + j.val, hl⟩)) (congrArg (fun l => Layout.block ⟨2, ![p, L]⟩ ⟨2, ![M, L]⟩ 0 8 c A h (ix2 a l)) (Fin.ext ?_))
  show k.val * J + j.val = (0 : Fin 1).val * L + (k.val * J + j.val)
  rw [show (0 : Fin 1).val = 0 from rfl, Nat.zero_mul, Nat.zero_add]

end Cert.Shared

end
-- ==== Proof.Shared.Sweep.lean ====
/- An accumulator over sweeps of `K` points: started at a sweep's first point, added to at the others. -/
module

public import proofs.«01_k».proof.Proof.Shared.Product

@[expose] public section

noncomputable section

namespace Cert.Shared

variable {V : Type} {N : ℕ} (K : ℕ) (first : Fin N → V) (next : Fin N → V → V)

/-- What a point leaves in the accumulator. -/
def sweepStep (t : Fin N) (z : V) : V := if t.val % K = 0 then first t else next t z

/-- The accumulator after point `n`. -/
def sweep : (n : ℕ) → n < N → V
  | 0, h => first ⟨0, h⟩
  | n + 1, h => sweepStep K first next ⟨n + 1, h⟩ (sweep n (Nat.lt_of_succ_lt h))

/-- What the accumulator may hold before point `n`: after a point, what that left. -/
def Ready (n : ℕ) (z : V) : Prop := ∀ k, n = k + 1 → ∀ h : k < N, z = sweep K first next k h

theorem ready_zero (z : V) : Ready K first next 0 z := fun k h => absurd h (Nat.succ_ne_zero k).symm

theorem sweep_step (t : Fin N) (z : V) (hz : Ready K first next t.val z) : sweepStep K first next t z = sweep K first next t.val t.isLt := by
  obtain ⟨n, hn⟩ := t
  cases n with
  | zero => unfold sweepStep sweep; exact if_pos (Nat.zero_mod K)
  | succ n => rw [hz n rfl (Nat.lt_of_succ_lt hn)]; rfl

theorem ready_step (t : Fin N) (z : V) (hz : Ready K first next t.val z) : Ready K first next (t.val + 1) (sweepStep K first next t z) := by
  intro k hk h
  obtain rfl : t.val = k := Nat.succ.inj hk
  exact sweep_step K first next t z hz

/-- At a sweep's end an entry of the accumulator is the sum of what the sweep's points contribute to it. -/
theorem sweep_sum {M : Type} [AddCommMonoid M] (entry : V → M) (pay : Fin N → M) (h₀ : ∀ t, entry (first t) = pay t) (h₁ : ∀ t z, entry (next t z) = entry z + pay t)
    (t : Fin N) (ht : t.val % K + 1 = K) (part : Fin K → M) (hp : ∀ k : Fin K, ∀ h : t.val + 1 - K + k.val < N, pay ⟨t.val + 1 - K + k.val, h⟩ = part k) :
    entry (sweep K first next t.val t.isLt) = ∑ k : Fin K, part k := by
  let f : ℕ → M := fun n => if h : n < N then entry (sweep K first next n h) else 0
  let g : ℕ → M := fun n => if h : n < N then pay ⟨n, h⟩ else 0
  have hs := sum_since (K := K) (N := N) f g
    (fun n h hz => by
      simp only [f, g, dif_pos h]
      cases n with
      | zero => exact h₀ _
      | succ n => unfold sweep sweepStep; rw [if_pos hz]; exact h₀ _)
    (fun n h hz => by
      simp only [f, g, dif_pos h, dif_pos (Nat.lt_of_succ_lt h)]
      rw [sweep]; unfold sweepStep; rw [if_neg hz]; exact h₁ _ _) t.val t.isLt
  have hf : f t.val = entry (sweep K first next t.val t.isLt) := dif_pos t.isLt
  have hle := Nat.mod_le t.val K
  rw [← hf, hs, ht, show t.val - t.val % K = t.val + 1 - K by omega, ← Fin.sum_univ_eq_sum_range (fun k => g (t.val + 1 - K + k))]
  refine Finset.sum_congr rfl fun k _ => ?_
  have hl : t.val + 1 - K + k.val < N := by have := k.isLt; have := t.isLt; omega
  exact (dif_pos hl).trans (hp k hl)

open Idealize.ShloMosaic hiding ix2 ix3
open Idealize.ShloMosaic.ValueIdx (ix2 ix3)

/-- At a sweep's end an entry of an accumulator of products, each of a block of a matrix and of a block of a transposed one, is the sum
    over the sweep of the sums over the blocks' columns. -/
theorem products_sum {M P J : ℕ} {φ : FTy} (first : Fin N → (⟨2, ![M, P]⟩ : Shape).Idx → EReal) (next : Fin N → ((⟨2, ![M, P]⟩ : Shape).Idx → EReal) → (⟨2, ![M, P]⟩ : Shape).Idx → EReal)
    (x : Fin N → FVec Ideal ⟨2, ![M, J]⟩ φ) (y : Fin N → FVec Ideal ⟨3, ![1, P, J]⟩ φ)
    (h₁ : (⟨2, ![M, J]⟩ : Shape).ShapeCasts ⟨2, ![M, J]⟩) (h₂ : (⟨3, ![1, P, J]⟩ : Shape).ShapeCasts ⟨2, ![P, J]⟩) (a : Fin M) (b : Fin P)
    (start : ∀ t, first t = FloatOps.matmul (DotDims.transposedRhs M J P) none (shapeCast ⟨2, ![M, J]⟩ (x t) h₁) (shapeCast ⟨2, ![P, J]⟩ (y t) h₂) (constant (F := Ideal) ⟨2, ![M, P]⟩ .f32 0x00000000#32))
    (add : ∀ t z, next t z (ix2 a b) = z (ix2 a b) + first t (ix2 a b))
    (t : Fin N) (ht : t.val % K + 1 = K) (f g : Fin K → Fin J → EReal) (hf : ∀ k j, ∀ h : t.val + 1 - K + k.val < N, x ⟨t.val + 1 - K + k.val, h⟩ (ix2 a j) = f k j)
    (hg : ∀ k j, ∀ h : t.val + 1 - K + k.val < N, y ⟨t.val + 1 - K + k.val, h⟩ (ix3 0 b j) = g k j) :
    sweep K first next t.val t.isLt (ix2 a b) = ∑ k : Fin K, ∑ j : Fin J, f k j * g k j :=
  sweep_sum K first next (fun v => v (ix2 a b)) (fun t => first t (ix2 a b)) (fun _ => rfl) add t ht _ fun k h =>
    (congrFun (start _) (ix2 a b)).trans ((part_apply (x _) (y _) h₁ h₂ a b).trans (Finset.sum_congr rfl fun j _ => congr (congrArg HMul.hMul (hf k j h)) (hg k j h)))

end Cert.Shared

end
-- ==== Proof.Shared.Accumulate.lean ====
/- An accumulator beside an exchange: what a device holds of both before the first point of the grid and after the last, and what a
   point leaves in the buffer of a result written at the end of every sweep. -/
module

public import proofs.«01_k».proof.Proof.Shared.Grid
public import proofs.«01_k».proof.Proof.Shared.Sweep

@[expose] public section

noncomputable section

namespace Cert.Shared.Direct.Setup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Shared

variable {τ : Topo} {sig : RefSig} {Val : EltTy → Type}
variable {A I J T : Type} [Fintype A] [DecidableEq A] [Fintype I] [DecidableEq I] [Fintype J] [DecidableEq J] [Fintype T] [DecidableEq T]
variable (E : Setup sig A I J T) (N : ℕ) (m : (ℓ : Loc 8 τ sig) → Buf Val ℓ) (c : Dev 8)
variable {L : ℕ} {k : CoreSpace} {s : Shape} {e : EltTy} (K : ℕ) (first : Fin L → s.Idx → Val e) (next : Fin L → (s.Idx → Val e) → s.Idx → Val e)
variable (b : Memref sig .tc k s e)

/-- The exchange and the accumulator's buffer before point `n`. -/
def swept (n : ℕ) : sProp (XM 8 τ sig Val) :=
  iprop(E.hold N m c n ∗ E.leftover m c ∗ ∃ z, ⌜Ready K first next n z⌝ ∗ owns (c.tc : Thread 8 τ) b fullShare z)

theorem swept_in : iprop((E.plan.before m c ∗ E.leftover m c) ∗ ∃ f, owns (c.tc : Thread 8 τ) b fullShare f) ⊢ E.swept N m c K first next b 0 := by
  unfold swept
  rw [show E.hold N m c 0 = E.plan.before m c from rfl]
  iintro ⟨⟨HB, HL⟩, ⟨%f, H⟩⟩
  isplitl [HB]; · iexact HB
  isplitl [HL]; · iexact HL
  iexists f
  isplitr; · ipureintro; exact ready_zero K first next f
  iexact H

theorem swept_out (h : N ≠ 0) : E.swept N m c K first next b N ⊢ iprop((E.plan.after m c ∗ E.leftover m c) ∗ ∃ f, owns (c.tc : Thread 8 τ) b fullShare f) := by
  unfold swept
  rw [show E.hold N m c N = E.plan.after m c by unfold hold; rw [if_neg h, if_pos rfl]]
  iintro ⟨HA, HL, ⟨%z, -, H⟩⟩
  isplitl [HA HL]
  · isplitl [HA]
    · iexact HA
    iexact HL
  iexists z; iexact H

/-- A result's buffer holds what the data say where it is written, and is left as found elsewhere. -/
theorem leaves_swept {Λ : Idealize.SL.Sem.Labels} {cfg : Cfg sig Λ} (D : Dat τ Val Unit ℕ (Two 8 τ sig) ℕ cfg c) (w : Fin cfg.W) (t : Fin cfg.N) {p : Prop} [Decidable p]
    (live : p → D.leavesExact w t = owns (c.tc : Thread 8 τ) ((cfg.win w).stage (cfg.slots t w)) fullShare (D.after w t))
    (idle : ¬ p → cfg.idle w (cfg.grid.coords t) = true) (flush : (cfg.win w).flush t = true → p) (d) {x} (hx : x = D.after w t) :
    owns (c.tc : Thread 8 τ) ((cfg.win w).stage (cfg.slots t w)) fullShare (if p then x else D.before w t d) ⊢ D.leavesExact w t := by
  by_cases h : p
  · rw [if_pos h, hx, live h]
  · rw [if_neg h, Dat.leavesExact_idle D w t (idle h) (by rw [Bool.eq_false_iff]; exact fun e => h (flush e))]
    iintro H; iexists d; iexact H

end Cert.Shared.Direct.Setup

end
-- ==== Proof.Up.Run.lean ====
/- The run of the product with a transposed factor and of the exchange within the chips, on eight devices. -/
module

public import proofs.«01_k».proof.Proof.Up.Body
public import proofs.«01_k».proof.Proof.Shared.Accumulate

@[expose] public section

noncomputable section

namespace Cert.UpIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.UpIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 8 (start m c) (add m c) n h

/-- The exchange and the accumulator's buffer before point `n`. -/
def Φ (c : Dev nD) (n : ℕ) : sProp (XM nD τ sig (Elt F)) := E.swept 128 m c 8 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 8 = 7 → cfg0.idle 2 (grid0.coords t) = true := by decide +kernel
theorem live2 : ∀ t : Fin cfg0.N, t.val % 8 = 7 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 8 = 7 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 128 ways m c (dats m 0 c) t defs₀ Variants.none (p := Ready 8 (start m c) (add m c) t.val) (p' := Ready 8 (start m c) (add m c) (t.val + 1))
    (f := sweepStep 8 (start m c) (add m c) t) (L := E.leftover m c) (a₃ := owns (c.tc : Thread nD τ) (Memref.whole cc0_scratch0) fullShare)
    rfl rfl rfl rfl (fun _ => trivial) (fun _ => .rfl) (fun _ => .rfl) (ready_step 8 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 8 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.one, Setup.one]
  iintro ⟨S0, O0⟩
  isplitl [S0]; · iexact S0
  iexists _; iexact O0

theorem own_sems : Pipeline.OwnSemFacts cfg0.spec E.wires.at_ := by decide +kernel

/-- Every weakly fair run on the eight devices ends, with the product's array as the proof's data say, every slot of the exchange's
    result filled from the other device of the chip, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 128 m c 8 (start m c) (add m c) (Memref.whole cc0_scratch0)
      simp only [owns_whole] at h
      rw [scopedRest0_eq]; exact h)
    (fun c => by
      have h := E.swept_out 128 m c 8 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) :=
  ⟨(h.1 0).trans ((dats m 0 c).arrAt_in 0 rfl _), (h.1 1).trans ((dats m 0 c).arrAt_in 1 rfl _), (h.2 0).2⟩

end Cert.UpIdeal
-- ==== Proof.Up.Ref.lean ====
/- The reference's run of the product with a transposed factor and of the exchange within the chips, on one device. -/
module

public import Idealize.ShloMosaic.Lib.StableHlo.Run
public import Idealize.ShloMosaic.Lib.Quiescent
public import proofs.«01_k».proof.Proof.Shared.Pair
public import proofs.«01_k».proof.Proof.Gen.UpRefIdeal

@[expose] public section

noncomputable section

namespace Cert.UpRefIdeal

open Cert.UpRefIdeal.Gen
open Idealize.ShloMosaic Idealize.ShloMosaic.TcCoe Idealize.ShloMosaic.StableHlo Idealize.SL.Sem

variable {F : FTy → Type} [FloatOps F]

/-- The product, -/
abbrev product (x : S32768x24576.Idx → Elt F .bf16) (w : S8x4096x3072.Idx → Elt F .bf16) : S32768x4096.Idx → Elt F .f32 :=
  Host.dotGeneral dot_S32768x24576_S24576x4096_S32768x4096_1_0_0_1_n_n none x
    (transpose S24576x4096 [1, 0] (shapeCast S4096x24576 (transpose S4096x8x3072 [1, 0, 2] w Facts₀.transposes_S8x4096x3072_S4096x8x3072_1_0_2)
      Facts₀.shapeCasts_S4096x8x3072_S4096x24576) Facts₀.transposes_S4096x24576_S24576x4096_1_0)
/-- the sizes of the exchange's arrays. -/
theorem facts : Cert.Shared.PairFacts 4096 3072 := by constructor <;> decide

/-- The reference's operations. -/
abbrev steps : List (HloOp τ sig (Elt F)) :=
  [ unary main_arg1 main_v0 (transpose S4096x8x3072 [1, 0, 2] · Facts₀.transposes_S8x4096x3072_S4096x8x3072_1_0_2),
    reshape main_v0 main_v1 rfl Facts₀.shapeCasts_S4096x8x3072_S4096x24576,
    unary main_v1 main_v2 (transpose S24576x4096 [1, 0] · Facts₀.transposes_S4096x24576_S24576x4096_1_0),
    binary main_arg0 main_v2 main_v3 (fun l r => Host.dotGeneral dot_S32768x24576_S24576x4096_S32768x4096_1_0_0_1_n_n none l r),
    reshape main_arg2 main_v4 rfl Facts₀.shapeCasts_S32x2x4096x3072_S4x2x4x2x4096x3072,
    unary main_v4 main_v5 (extractStridedSlice S4x1x4x1x4096x3072 ![0, 1, 0, 0, 0, 0] · Facts₀.slices_S4x2x4x2x4096x3072_S4x1x4x1x4096x3072_0_1_0_0_0_0),
    unary main_v4 main_v6 (extractStridedSlice S4x1x4x1x4096x3072 ![0, 0, 0, 1, 0, 0] · Facts₀.slices_S4x2x4x2x4096x3072_S4x1x4x1x4096x3072_0_0_0_1_0_0),
    binary main_v5 main_v6 main_v7 (fun a b => concatenate S4x2x4x1x4096x3072 1 [⟨S4x1x4x1x4096x3072, a⟩, ⟨S4x1x4x1x4096x3072, b⟩] Facts₀.concatenates_S4x1x4x1x4096x3072_S4x1x4x1x4096x3072_S4x2x4x1x4096x3072_d1),
    reshape main_v7 main_v8 rfl Facts₀.shapeCasts_S4x2x4x1x4096x3072_S32x4096x3072 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v8 : after steps V (main_v8 : DevRef τ sig) = Cert.Shared.swapped facts (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub .., reshape_bufs_sub .., unary_bufs_sub .., unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v8) = Cert.Shared.swapped facts (m ((c.tc : Thread nD τ).loc main_arg2)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v8).trans (steps_v8 _),
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.UpRefIdeal

end
-- ==== Proof.Up.Value.lean ====
/- What the product with a transposed factor and the exchange beside it end with is each device's part of the reference's results. -/
module

public import proofs.«01_k».proof.Proof.Up.Run
public import proofs.«01_k».proof.Proof.Up.Ref
public import proofs.«01_k».proof.Proof.Shared.Sibling
public import proofs.«01_k».proof.Proof.Shared.Product

@[expose] public section

noncomputable section

namespace Cert.UpIdeal

open Idealize.ShloMosaic hiding ix2 ix3
open Idealize.ShloMosaic.TcCoe
open Idealize.ShloMosaic.ValueIdx (ix2 ix3)
open Cert.UpIdeal.Gen Cert.UpRefIdeal.Gen Cert.Shared Cert.Shared.Direct

section Exchange

variable {F : FTy → Type} [FloatOps F] {m : (ℓ : Loc nD τ sig) → Buf (Elt F) ℓ}

theorem tilesA : Layout.Tiles (Halves 4 4096 3072) (Halves 32 4096 3072) 0 8 := by decide
theorem tilesC : Layout.Tiles (Rows 4 4096 3072) (Rows 32 4096 3072) 0 8 := by decide

theorem exchanged (c : Dev nD) (G : S4x4096x3072.Idx → Elt F .bf16) (x : (Halves 32 4096 3072).Idx → Elt F .bf16) (hG : E.Full m c 0 G)
    (hm : ∀ d : Dev 8, m ((d.tc : Thread nD τ).loc main_arg2) = Layout.block S4x2x4096x3072 (Halves 32 4096 3072) 0 8 d x) :
    G = Layout.block S4x4096x3072 (Rows 32 4096 3072) 0 8 c (Cert.Shared.swapped Cert.UpRefIdeal.facts x) :=
  pair_swapped (p := 4096) (q := 3072) Cert.UpRefIdeal.facts c G (fun d => m ((d.tc : Thread nD τ).loc main_arg2)) x
    (fun t z => ((E.sheet 0).piece t).dst.view.emb z) (fun t d z => (((E.sheet 0).piece t).src d).view.emb z)
    (squeezes_S1x4096x3072_S4096x3072 : S1x4096x3072.Squeezes S4096x3072).numel_eq
    (squeezes_S1x1x4096x3072_S4096x3072 : S1x1x4096x3072.Squeezes S4096x3072).numel_eq
    (fun _ _ _ => rfl) (fun _ _ _ _ => rfl) (fun t z => congrFun (hG t) z) tilesA tilesC hm

end Exchange

variable (m : (ℓ : Loc nD τ sig) → Buf (Elt Ideal) ℓ)

theorem index0 : ∀ t : Fin cfg0.N, win0_0.index t (0 : Fin 2) = t.val / 8 % 4 ∧ win0_0.index t (1 : Fin 2) = t.val % 8 := by decide +kernel
theorem index1 : ∀ t : Fin cfg0.N, win0_1.index t (0 : Fin 3) = t.val % 8 ∧ win0_1.index t (1 : Fin 3) = t.val / 32 ∧ win0_1.index t (2 : Fin 3) = 0 := by decide +kernel
theorem index2 : ∀ t : Fin cfg0.N, win0_2.index t (0 : Fin 2) = t.val / 8 % 4 ∧ win0_2.index t (1 : Fin 2) = t.val / 32 := by decide +kernel

/-- A device's two factors, -/
abbrev left (c : Dev nD) : S4096x24576.Idx → EReal := m ((c.tc : Thread nD τ).loc main_arg0)
abbrev right (c : Dev nD) : S8x4096x3072.Idx → EReal := m ((c.tc : Thread nD τ).loc main_arg1)

/-- and their blocks at a point. -/
theorem left_block (c : Dev nD) (t : Fin cfg0.N) (y : Fin 1024) (j : Fin 3072) (a : Fin 4096) (k : Fin 8) (ha : a.val = t.val / 8 % 4 * 1024 + y.val) (hk : t.val % 8 = k.val) :
    (blk m c 0 t : S1024x3072.Idx → EReal) (ix2 y j) = left m c (ix2 a ⟨k.val * 3072 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 3072 + 1 * j.val = k.val * 3072 + j.val; omega
theorem right_block (c : Dev nD) (t : Fin cfg0.N) (y : Fin 1024) (j : Fin 3072) (b : Fin 4096) (k : Fin 8) (hb : b.val = t.val / 32 * 1024 + y.val) (hk : t.val % 8 = k.val) :
    (blk m c 1 t : S1x1024x3072.Idx → EReal) (ix3 0 y j) = right m c (ix3 k b j) := by
  obtain ⟨f0, f1, f2⟩ := index1 t
  refine congrArg (right m c) (funext fun x => Fin.ext ?_)
  match x with
  | ⟨0, _⟩ => show win0_1.index t (0 : Fin 3) * 1 + 1 * 0 = k.val; omega
  | ⟨1, _⟩ => show win0_1.index t (1 : Fin 3) * 1024 + 1 * y.val = b.val; omega
  | ⟨2, _⟩ => show win0_1.index t (2 : Fin 3) * 3072 + 1 * j.val = j.val; omega

/-- The accumulator at the end of a sweep over the parts. -/
theorem acc_apply (c : Dev nD) (t : Fin cfg0.N) (ht : t.val % 8 = 7) (y0 y1 : Fin 1024) (a : Fin 4096) (b : Fin 4096)
    (ha : a.val = t.val / 8 % 4 * 1024 + y0.val) (hb : b.val = t.val / 32 * 1024 + y1.val) :
    (acc m c t.val t.isLt : S1024x1024.Idx → EReal) (ix2 y0 y1)
      = ∑ k : Fin 8, ∑ j : Fin 3072, left m c (ix2 a ⟨k.val * 3072 + j.val, by omega⟩) * right m c (ix3 k b j) := by
  have hN : t.val < 128 := t.isLt
  refine products_sum 8 (φ := .bf16) (start m c) (add m c) (blk m c 0) (blk m c 1) shapeCasts_S1024x3072_S1024x3072 shapeCasts_S1x1024x3072_S1024x3072 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 8 + k.val) / 8 % 4 * 1024 + _; omega) (by show (t.val + 1 - 8 + k.val) % 8 = k.val; omega)
  · have hk := k.isLt
    exact right_block m c _ y1 j b k (by show _ = (t.val + 1 - 8 + k.val) / 32 * 1024 + _; omega) (by show (t.val + 1 - 8 + k.val) % 8 = k.val; omega)

theorem tilesX : Layout.Tiles S4096x24576 Cert.UpRefIdeal.S32768x24576 0 8 := by decide
theorem tilesY : Layout.Tiles S4096x4096 Cert.UpRefIdeal.S32768x4096 0 8 := by decide

/-- The product's array is the device's rows of the reference's. -/
theorem product_final (c : Dev nD) (x : Cert.UpRefIdeal.S32768x24576.Idx → EReal) (w : S8x4096x3072.Idx → EReal)
    (hx : m ((c.tc : Thread nD τ).loc main_arg0) = Layout.block S4096x24576 Cert.UpRefIdeal.S32768x24576 0 8 c x) (hw : m ((c.tc : Thread nD τ).loc main_arg1) = w) :
    (dats m 0 c).arrAt 2 cfg0.N = Layout.block S4096x4096 Cert.UpRefIdeal.S32768x4096 0 8 c (Cert.UpRefIdeal.product (F := Ideal) x w) := by
  refine (dats m 0 c).arrAt_eq_of_covers 2 _ (by decide +kernel) fun t hf y => ?_
  have ht := (flush0_2 t).mp hf
  have hc : c.val < 8 := c.isLt
  have hN : t.val < 128 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 8 % 4 * 1024 + (y 0).val, by omega⟩ ⟨t.val / 32 * 1024 + (y 1).val, by omega⟩ rfl rfl
  have hr := product_rows (p := 4096) (M := 32768) (N := 4096) (J := 3072) (L := 24576) (φ := .bf16) (rfl : 24576 = 8 * 3072) tilesX c x w Cert.UpRefIdeal.Facts₀.transposes_S8x4096x3072_S4096x8x3072_1_0_2
    Cert.UpRefIdeal.Facts₀.shapeCasts_S4096x8x3072_S4096x24576 Cert.UpRefIdeal.Facts₀.transposes_S4096x24576_S24576x4096_1_0
    ⟨t.val / 8 % 4 * 1024 + (y 0).val, by omega⟩ ⟨t.val / 32 * 1024 + (y 1).val, by omega⟩ ⟨c.val * 4096 + (t.val / 8 % 4 * 1024 + (y 0).val), by omega⟩ rfl
  have hi : tilesY.idx c (((cfg0.win 2).blk t).view.emb y)
      = ix2 (⟨c.val * 4096 + (t.val / 8 % 4 * 1024 + (y 0).val), by omega⟩ : Fin 32768) (⟨t.val / 32 * 1024 + (y 1).val, by omega⟩ : Fin 4096) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.UpRefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.UpIdeal

end
-- ==== Proof.Shared.Chips.lean ====
/- The exchange between the four chips: every device keeps its own chip's piece of an array and sends the three other chips theirs.
   The pieces, the reference of the exchange entry by entry, and the same of a sheet whose slots are filled. -/
module

public import Idealize.ShloMosaic.Lib.Pointwise.ShapeOpsCore
public import proofs.«01_k».proof.Proof.Shared.Sheets
public import proofs.«01_k».proof.Proof.Shared.Sibling

@[expose] public section

noncomputable section

namespace Cert.Shared

open Idealize.ShloMosaic hiding ix2 ix3 ix6
open Idealize.ShloMosaic.ValueIdx (ix6)

/-- Whose piece fills slot `t`: the device's own, then those of the devices across x, across y and across both. -/
def across (t : Fin 4) : Dev 8 → Dev 8 := flipBits ((![0, 4, 2, 6] : Fin 4 → ℕ) t)
/-- The chip of that device. -/
def chip (t : Fin 4) (c : Dev 8) : Fin 4 := ⟨(across t c).val / 2, by have := (across t c).isLt; omega⟩

theorem across_across : ∀ (t : Fin 4) (c : Dev 8), across t (across t c) = c := by decide +kernel
theorem chip_apart : ∀ (c : Dev 8) (t t' : Fin 4), t ≠ t' → (chip t c).val ≠ (chip t' c).val := by decide +kernel

section Pieces

variable {sig : RefSig} {p q : ℕ}

theorem row_inb (t : Fin 4) : ∀ a : Fin 3, (![t.val, 0, 0] : Fin 3 → ℕ) a + (Rows 1 p q).size a ≤ (Rows 4 p q).size a := by
  have ht := t.isLt
  intro a
  match a with
  | 0 => show t.val + 1 ≤ 4; omega
  | 1 => exact Nat.le_of_eq (Nat.zero_add p)
  | 2 => exact Nat.le_of_eq (Nat.zero_add q)

/-- One row of four. -/
abbrev row (p q : ℕ) (t : Fin 4) : Rect (Rows 4 p q) := Rect.unit (s := Rows 4 p q) ![t.val, 0, 0] (Rows 1 p q).size (row_inb t)

/-- An array of four pieces, one for each chip, and the array of the four pieces received. -/
def chipSheet (p q : ℕ) (inp res : Memref sig .tc .hbm (Rows 4 p q) .bf16) (hi : inp.IsWhole) (hr : res.IsWhole) (own : res.view.ref.isScScratch = false)
    (sq : (Rows 1 p q).Squeezes ⟨2, ![p, q]⟩) (words : ∀ t : Fin 4, (row p q t).WholeWords (EltTy.packing .bf16)) (some : 0 < (⟨2, ![p, q]⟩ : Shape).numel) :
    Direct.Sheet sig (Fin 4) where
  s := ⟨2, ![p, q]⟩
  e := .bf16
  inp := inp
  res := res
  inp_whole := hi
  res_whole := hr
  own := own
  pick t c := row p q (chip t c)
  pick_one _ _ _ := rfl
  pick_shape _ _ := sq
  pick_words t c := words (chip t c)
  put := row p q
  put_one _ _ := rfl
  put_shape _ := sq
  put_words := words
  pick_apart c t t' h := Direct.apart_axis (s := Rows 4 p q) (0 : Fin 3) rfl rfl (chip_apart c t t' h)
  put_apart _ _ h := Direct.apart_axis (s := Rows 4 p q) (0 : Fin 3) rfl rfl fun e => h (Fin.ext e)
  put_cover i := ⟨⟨(i 0).val, (i 0).isLt⟩, Direct.mem_axis (s := Rows 4 p q) (0 : Fin 3) i rfl rfl (by
    intro b hb
    match b with
    | 0 => exact absurd rfl hb
    | 1 => exact ⟨rfl, rfl⟩
    | 2 => exact ⟨rfl, rfl⟩)⟩
  some := some

/-- The exchange of several such arrays. -/
def chips {A : Type} (sheet : A → Direct.Sheet sig (Fin 4)) (num : Direct.Kind A (Fin 1) (Fin 3) → DmaSem sig) (inj : Function.Injective num) :
    Direct.Setup sig A (Fin 1) (Fin 3) (Fin 4) where
  sheet := sheet
  num := num
  num_inj := inj
  slot := finSumFinEquiv
  mate j := across j.succ
  mate_mate j c := across_across j.succ c

theorem chips_who {A : Type} (sheet : A → Direct.Sheet sig (Fin 4)) (num : Direct.Kind A (Fin 1) (Fin 3) → DmaSem sig) (inj : Function.Injective num) (t : Fin 4) (c : Dev 8) :
    (chips sheet num inj).plan.who t c = across t c := by
  have h0 := (chips sheet num inj).plan.who_inl 0 c
  have h1 (j : Fin 3) := (chips sheet num inj).plan.who_inr j c
  match t with
  | 0 => exact h0.trans ((by decide +kernel : ∀ c : Dev 8, c = across 0 c) c)
  | 1 => exact h1 0
  | 2 => exact h1 1
  | 3 => exact h1 2

/-- What a device reads for a slot does not depend on how the place is computed. -/
theorem row_eq (arg : Memref sig .tc .hbm (Rows 4 p q) .bf16) {off : Fin 3 → ℕ} (inb : ∀ a, off a + (Rows 1 p q).size a ≤ (Rows 4 p q).size a) (t : Fin 4) (c : Dev 8)
    (sq : (Rows 1 p q).Squeezes ⟨2, ![p, q]⟩) (h : off = ![(chip t c).val, 0, 0]) :
    (arg.slice (Rect.unit (s := Rows 4 p q) off (Rows 1 p q).size inb) (fun _ => rfl)).squeeze ⟨2, ![p, q]⟩ sq
      = (arg.slice (row p q (chip t c)) (fun _ => rfl)).squeeze ⟨2, ![p, q]⟩ sq := by
  subst h; rfl

end Pieces

section Reference

variable {α : Type} {p q n : ℕ}

/-- Holder or part by its chip's place, the core, the other's place, and the place within. -/
abbrev Places (a b n : ℕ) : Shape := ⟨6, ![a, b, 2, 2, 2, n]⟩

/-- A coordinate, turned over or not. -/
def turn (a f : Fin 2) : Fin 2 := if a = 0 then f else f.rev

/-- The second half of the first axis has its fifth axis turned over. -/
theorem turn_first (v : (Places 2 2 n).Idx → α) (h₁ : (Places 2 2 n).Slices ![0, 0, 0, 0, 0, 0] (Places 1 2 n)) (h₂ : (Places 2 2 n).Slices ![1, 0, 0, 0, 0, 0] (Places 1 2 n))
    (h₃ : Shape.Concatenates [Places 1 2 n, Places 1 2 n] (Places 2 2 n) 0) (a b c e f : Fin 2) (r : Fin n) :
    concatenate (Places 2 2 n) 0 [⟨Places 1 2 n, extractStridedSlice (Places 1 2 n) ![0, 0, 0, 0, 0, 0] v h₁⟩,
      ⟨Places 1 2 n, Host.reverse [4] (extractStridedSlice (Places 1 2 n) ![1, 0, 0, 0, 0, 0] v h₂)⟩] h₃ (ix6 a b c e f r) = v (ix6 a b c e (turn a f) r) := by
  match a with
  | 0 =>
    refine (concatenate_pair_apply_left 0 _ _ h₃ _ rfl (ix6 (0 : Fin 1) b c e f r : (Places 1 2 n).Idx) ?_).trans
      (extractStridedSlice_apply _ _ _ _ (ix6 (0 : Fin 2) b c e (turn 0 f) r) ?_)
    · intro x
      match x with
      | ⟨0, _⟩ => rfl
      | ⟨1, _⟩ => rfl
      | ⟨2, _⟩ => rfl
      | ⟨3, _⟩ => rfl
      | ⟨4, _⟩ => rfl
      | ⟨5, _⟩ => rfl
    · intro x
      match x with
      | ⟨0, _⟩ => rfl
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm
  | 1 =>
    refine (concatenate_pair_apply_right 0 _ _ h₃ _ rfl rfl (ix6 (0 : Fin 1) b c e f r : (Places 1 2 n).Idx) ?_ rfl).trans
      ((Host.reverse_apply _ _ _).trans (extractStridedSlice_apply _ _ _ _ (ix6 (1 : Fin 2) b c e (turn 1 f) r) ?_))
    · intro x hx
      match x with
      | ⟨0, _⟩ => exact absurd rfl hx
      | ⟨1, _⟩ => rfl
      | ⟨2, _⟩ => rfl
      | ⟨3, _⟩ => rfl
      | ⟨4, _⟩ => rfl
      | ⟨5, _⟩ => rfl
    · intro x
      match x with
      | ⟨0, _⟩ => rfl
      | ⟨1, _⟩ => exact (Nat.zero_add _).symm
      | ⟨2, _⟩ => exact (Nat.zero_add _).symm
      | ⟨3, _⟩ => exact (Nat.zero_add _).symm
      | ⟨4, _⟩ => exact (Nat.zero_add _).symm
      | ⟨5, _⟩ => exact (Nat.zero_add _).symm

/-- The second half of the second axis has its fourth axis turned over. -/
theorem turn_second (v : (Places 2 2 n).Idx → α) (h₁ : (Places 2 2 n).Slices ![0, 0, 0, 0, 0, 0] (Places 2 1 n)) (h₂ : (Places 2 2 n).Slices ![0, 1, 0, 0, 0, 0] (Places 2 1 n))
    (h₃ : Shape.Concatenates [Places 2 1 n, Places 2 1 n] (Places 2 2 n) 1) (a b c e f : Fin 2) (r : Fin n) :
    concatenate (Places 2 2 n) 1 [⟨Places 2 1 n, extractStridedSlice (Places 2 1 n) ![0, 0, 0, 0, 0, 0] v h₁⟩,
      ⟨Places 2 1 n, Host.reverse [3] (extractStridedSlice (Places 2 1 n) ![0, 1, 0, 0, 0, 0] v h₂)⟩] h₃ (ix6 a b c e f r) = v (ix6 a b c (turn b e) f r) := by
  match b with
  | 0 =>
    refine (concatenate_pair_apply_left 1 _ _ h₃ _ rfl (ix6 a (0 : Fin 1) c e f r : (Places 2 1 n).Idx) ?_).trans
      (extractStridedSlice_apply _ _ _ _ (ix6 a (0 : Fin 2) c (turn 0 e) f r) ?_)
    · intro x
      match x with
      | ⟨0, _⟩ => rfl
      | ⟨1, _⟩ => rfl
      | ⟨2, _⟩ => rfl
      | ⟨3, _⟩ => rfl
      | ⟨4, _⟩ => rfl
      | ⟨5, _⟩ => rfl
    · intro x
      match x with
      | ⟨0, _⟩ => exact (Nat.zero_add _).symm
      | ⟨1, _⟩ => rfl
      | ⟨2, _⟩ => exact (Nat.zero_add _).symm
      | ⟨3, _⟩ => exact (Nat.zero_add _).symm
      | ⟨4, _⟩ => exact (Nat.zero_add _).symm
      | ⟨5, _⟩ => exact (Nat.zero_add _).symm
  | 1 =>
    refine (concatenate_pair_apply_right 1 _ _ h₃ _ rfl rfl (ix6 a (0 : Fin 1) c e f r : (Places 2 1 n).Idx) ?_ rfl).trans
      ((Host.reverse_apply _ _ _).trans (extractStridedSlice_apply _ _ _ _ (ix6 a (1 : Fin 2) c (turn 1 e) f r) ?_))
    · intro x hx
      match x with
      | ⟨0, _⟩ => rfl
      | ⟨1, _⟩ => exact absurd rfl hx
      | ⟨2, _⟩ => rfl
      | ⟨3, _⟩ => rfl
      | ⟨4, _⟩ => rfl
      | ⟨5, _⟩ => rfl
    · intro x
      match x with
      | ⟨0, _⟩ => exact (Nat.zero_add _).symm
      | ⟨1, _⟩ => rfl
      | ⟨2, _⟩ => exact (Nat.zero_add _).symm
      | ⟨3, _⟩ => exact (Nat.zero_add _).symm
      | ⟨4, _⟩ => exact (Nat.zero_add _).symm
      | ⟨5, _⟩ => exact (Nat.zero_add _).symm

/-- The reference of the exchange between the chips. -/
abbrev fromChips (n : ℕ) (x : (Rows 32 p q).Idx → α)
    (h₁ : (Rows 32 p q).ShapeCasts (Places 2 2 n)) (h₂ : (Places 2 2 n).Transposes [3, 4, 2, 1, 0, 5] (Places 2 2 n))
    (h₃ : (Places 2 2 n).Slices ![0, 0, 0, 0, 0, 0] (Places 1 2 n)) (h₄ : (Places 2 2 n).Slices ![1, 0, 0, 0, 0, 0] (Places 1 2 n))
    (h₅ : Shape.Concatenates [Places 1 2 n, Places 1 2 n] (Places 2 2 n) 0)
    (h₆ : (Places 2 2 n).Slices ![0, 0, 0, 0, 0, 0] (Places 2 1 n)) (h₇ : (Places 2 2 n).Slices ![0, 1, 0, 0, 0, 0] (Places 2 1 n))
    (h₈ : Shape.Concatenates [Places 2 1 n, Places 2 1 n] (Places 2 2 n) 1) (h₉ : (Places 2 2 n).ShapeCasts (Rows 32 p q)) : (Rows 32 p q).Idx → α :=
  let v := transpose (Places 2 2 n) [3, 4, 2, 1, 0, 5] (shapeCast (Places 2 2 n) x h₁) h₂
  let w := concatenate (Places 2 2 n) 0 [⟨Places 1 2 n, extractStridedSlice (Places 1 2 n) ![0, 0, 0, 0, 0, 0] v h₃⟩,
    ⟨Places 1 2 n, Host.reverse [4] (extractStridedSlice (Places 1 2 n) ![1, 0, 0, 0, 0, 0] v h₄)⟩] h₅
  shapeCast (Rows 32 p q) (concatenate (Places 2 2 n) 1 [⟨Places 2 1 n, extractStridedSlice (Places 2 1 n) ![0, 0, 0, 0, 0, 0] w h₆⟩,
    ⟨Places 2 1 n, Host.reverse [3] (extractStridedSlice (Places 2 1 n) ![0, 1, 0, 0, 0, 0] w h₇)⟩] h₈) h₉

theorem across_turn : ∀ (X Y C ay ax : Fin 2) (c : Dev 8) (t : Fin 4), c.val * 4 + t.val = (((X.val * 2 + Y.val) * 2 + C.val) * 2 + ay.val) * 2 + ax.val →
    (across t c).val * 4 + c.val / 2 = ((((turn X ax).val * 2 + (turn Y ay).val) * 2 + C.val) * 2 + X.val) * 2 + Y.val := by decide +kernel

/-- Row `4 c + t` is the row of `c`'s chip of the device whose piece fills slot `t`. -/
theorem chips_apply (hn : n = p * q) (x : (Rows 32 p q).Idx → α) (h₁) (h₂) (h₃) (h₄) (h₅) (h₆) (h₇) (h₈) (h₉) (c : Dev 8) (t : Fin 4)
    (i k : (Rows 32 p q).Idx) (hi : (i 0).val = c.val * 4 + t.val) (k0 : (k 0).val = (across t c).val * 4 + c.val / 2)
    (k1 : (k 1).val = (i 1).val) (k2 : (k 2).val = (i 2).val) :
    fromChips n x h₁ h₂ h₃ h₄ h₅ h₆ h₇ h₈ h₉ i = x k := by
  subst hn
  have hr : (i 1).val * q + (i 2).val < p * q := by
    have h1 : (i 1).val < p := (i 1).isLt
    have h2 : (i 2).val < q := (i 2).isLt
    calc (i 1).val * q + (i 2).val < ((i 1).val + 1) * q := by rw [Nat.add_mul, Nat.one_mul]; omega
      _ ≤ p * q := Nat.mul_le_mul_right q h1
  have hi0 : (i 0).val < 32 := (i 0).isLt
  let X : Fin 2 := ⟨(i 0).val / 16, by omega⟩
  let Y : Fin 2 := ⟨(i 0).val / 8 % 2, by omega⟩
  let C : Fin 2 := ⟨(i 0).val / 4 % 2, by omega⟩
  let ay : Fin 2 := ⟨(i 0).val / 2 % 2, by omega⟩
  let ax : Fin 2 := ⟨(i 0).val % 2, by omega⟩
  let r : Fin (p * q) := ⟨(i 1).val * q + (i 2).val, hr⟩
  have hd : (i 0).val = (((X.val * 2 + Y.val) * 2 + C.val) * 2 + ay.val) * 2 + ax.val := by
    show (i 0).val = ((((i 0).val / 16 * 2 + (i 0).val / 8 % 2) * 2 + (i 0).val / 4 % 2) * 2 + (i 0).val / 2 % 2) * 2 + (i 0).val % 2
    omega
  have ha := across_turn X Y C ay ax c t (hi.symm.trans hd)
  refine (shapeCast_apply _ _ i (ix6 X Y C ay ax r) ?_).trans ((turn_second _ _ _ _ X Y C ay ax r).trans ((turn_first _ _ _ _ X Y C (turn Y ay) ax r).trans
    ((transpose_apply _ _ _ _ (ix6 (turn X ax) (turn Y ay) C X Y r) ?_).trans (shapeCast_apply _ _ _ k ?_))))
  · rw [Shape.rowMajor_val_six, Shape.rowMajor_val_three]
    show ((((X.val * 2 + Y.val) * 2 + C.val) * 2 + ay.val) * 2 + ax.val) * (p * q) + ((i 1).val * q + (i 2).val) = ((i 0).val * p + (i 1).val) * q + (i 2).val
    rw [← hd, Nat.add_mul, Nat.mul_assoc, Nat.add_assoc]
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_six, Shape.rowMajor_val_three]
    show ((k 0).val * p + (k 1).val) * q + (k 2).val
      = (((((turn X ax).val * 2 + (turn Y ay).val) * 2 + C.val) * 2 + X.val) * 2 + Y.val) * (p * q) + ((i 1).val * q + (i 2).val)
    rw [← ha, k0, k1, k2, Nat.add_mul, Nat.mul_assoc, Nat.add_assoc]

theorem chip_across : ∀ (t : Fin 4) (c : Dev 8), (chip t (across t c)).val = c.val / 2 := by decide +kernel

/-- A device whose slots are filled holds its rows of the reference's result. -/
theorem chips_block (c : Dev 8) (G : (Rows 4 p q).Idx → α) (X : Dev 8 → (Rows 4 p q).Idx → α) (x y : (Rows 32 p q).Idx → α)
    (put : Fin 4 → (⟨2, ![p, q]⟩ : Shape).Idx → (Rows 4 p q).Idx) (pick : Fin 4 → Dev 8 → (⟨2, ![p, q]⟩ : Shape).Idx → (Rows 4 p q).Idx)
    (e : (⟨2, ![p, q]⟩ : Shape).numel = (Rows 1 p q).numel)
    (hput : ∀ t z b, (put t z b).val = (![t.val, 0, 0] : Fin 3 → ℕ) b + 1 * ((Shape.reshapeEquiv e z) b).val)
    (hpick : ∀ t d z b, (pick t d z b).val = (![(chip t d).val, 0, 0] : Fin 3 → ℕ) b + 1 * ((Shape.reshapeEquiv e z) b).val)
    (hG : ∀ t z, G (put t z) = X (across t c) (pick t (across t c) z)) (tX : Layout.Tiles (Rows 4 p q) (Rows 32 p q) 0 8)
    (hX : ∀ d, X d = Layout.block (Rows 4 p q) (Rows 32 p q) 0 8 d x tX)
    (hy : ∀ (t : Fin 4) (i k : (Rows 32 p q).Idx), (i 0).val = c.val * 4 + t.val → (k 0).val = (across t c).val * 4 + c.val / 2 →
      (k 1).val = (i 1).val → (k 2).val = (i 2).val → y i = x k) :
    G = Layout.block (Rows 4 p q) (Rows 32 p q) 0 8 c y tX := by
  funext i
  let t : Fin 4 := (i 0 : Fin 4)
  let z : (⟨2, ![p, q]⟩ : Shape).Idx := fun b => match b with
    | ⟨0, _⟩ => (i 1 : Fin p)
    | ⟨1, _⟩ => (i 2 : Fin q)
  obtain ⟨s0, s1, s2⟩ := slot_entry e z
  have hi : put t z = i := by
    funext b
    apply Fin.ext
    match b with
    | ⟨0, _⟩ => exact (hput t z 0).trans (by rw [s0]; rfl)
    | ⟨1, _⟩ => exact (hput t z 1).trans (by rw [s1]; show 0 + 1 * (i 1).val = (i 1).val; omega)
    | ⟨2, _⟩ => exact (hput t z 2).trans (by rw [s2]; show 0 + 1 * (i 2).val = (i 2).val; omega)
  have h := hG t z
  rw [hi] at h
  rw [h, hX, Layout.block_apply, Layout.block_apply]
  refine (hy t _ _ (tX.idx_val c i 0) ?_ ?_ ?_).symm
  · rw [show ((tX.idx (across t c) (pick t (across t c) z)) 0).val = (across t c).val * 4 + (pick t (across t c) z 0).val from tX.idx_val _ _ 0]
    rw [hpick, s0]
    show _ + ((chip t (across t c)).val + 1 * 0) = _
    rw [chip_across, Nat.mul_zero, Nat.add_zero]
  · rw [show ((tX.idx c i) 1).val = (i 1).val from tX.idx_val c i 1]
    rw [show ((tX.idx (across t c) (pick t (across t c) z)) 1).val = (pick t (across t c) z 1).val from tX.idx_val _ _ 1]
    rw [hpick, s1]
    show 0 + 1 * (i 1).val = _
    omega
  · rw [show ((tX.idx c i) 2).val = (i 2).val from tX.idx_val c i 2]
    rw [show ((tX.idx (across t c) (pick t (across t c) z)) 2).val = (pick t (across t c) z 2).val from tX.idx_val _ _ 2]
    rw [hpick, s2]
    show 0 + 1 * (i 2).val = _
    omega

/-- The sizes and shapes agree. -/
structure ChipFacts (p q n : ℕ) : Prop where
  size : n = p * q
  cut : (Rows 32 p q).ShapeCasts (Places 2 2 n)
  swap : (Places 2 2 n).Transposes [3, 4, 2, 1, 0, 5] (Places 2 2 n)
  upper : (Places 2 2 n).Slices ![0, 0, 0, 0, 0, 0] (Places 1 2 n)
  lower : (Places 2 2 n).Slices ![1, 0, 0, 0, 0, 0] (Places 1 2 n)
  rows : Shape.Concatenates [Places 1 2 n, Places 1 2 n] (Places 2 2 n) 0
  before : (Places 2 2 n).Slices ![0, 0, 0, 0, 0, 0] (Places 2 1 n)
  behind : (Places 2 2 n).Slices ![0, 1, 0, 0, 0, 0] (Places 2 1 n)
  columns : Shape.Concatenates [Places 2 1 n, Places 2 1 n] (Places 2 2 n) 1
  join : (Places 2 2 n).ShapeCasts (Rows 32 p q)

/-- What the exchange between the chips makes of an array. -/
abbrev received (h : ChipFacts p q n) (x : (Rows 32 p q).Idx → α) : (Rows 32 p q).Idx → α :=
  fromChips n x h.cut h.swap h.upper h.lower h.rows h.before h.behind h.columns h.join

/-- A device whose slots are filled from the devices `who` holds its rows of that. -/
theorem chips_received (h : ChipFacts p q n) (c : Dev 8) (G : (Rows 4 p q).Idx → α) (X : Dev 8 → (Rows 4 p q).Idx → α) (x : (Rows 32 p q).Idx → α)
    (put : Fin 4 → (⟨2, ![p, q]⟩ : Shape).Idx → (Rows 4 p q).Idx) (pick : Fin 4 → Dev 8 → (⟨2, ![p, q]⟩ : Shape).Idx → (Rows 4 p q).Idx)
    (e : (⟨2, ![p, q]⟩ : Shape).numel = (Rows 1 p q).numel)
    (hput : ∀ t z b, (put t z b).val = (![t.val, 0, 0] : Fin 3 → ℕ) b + 1 * ((Shape.reshapeEquiv e z) b).val)
    (hpick : ∀ t d z b, (pick t d z b).val = (![(chip t d).val, 0, 0] : Fin 3 → ℕ) b + 1 * ((Shape.reshapeEquiv e z) b).val)
    (who : Fin 4 → Dev 8) (hwho : ∀ t, who t = across t c) (hG : ∀ t z, G (put t z) = X (who t) (pick t (who t) z)) (tX : Layout.Tiles (Rows 4 p q) (Rows 32 p q) 0 8)
    (hX : ∀ d, X d = Layout.block (Rows 4 p q) (Rows 32 p q) 0 8 d x tX) :
    G = Layout.block (Rows 4 p q) (Rows 32 p q) 0 8 c (received h x) tX :=
  chips_block c G X x _ put pick e hput hpick (fun t z => (hG t z).trans (by rw [hwho])) tX hX (fun t i k => chips_apply h.size x _ _ _ _ _ _ _ _ _ c t i k)

end Reference

end Cert.Shared

end
-- ==== Proof.GradUp.Body.lean ====
/- The gradient of the up-projection's weights beside the exchange between the chips: where the exchange's pieces lie, and the body on
   one device at one point. -/
module

public import proofs.«01_k».proof.Proof.Shared.Chips
public import proofs.«01_k».proof.Proof.Shared.Grid
public import proofs.«01_k».proof.Proof.Gen.GradUpIdeal.Skeleton
public import proofs.«01_k».proof.Proof.Gen.GradUpIdeal.Points
public import proofs.«01_k».proof.Proof.Gen.GradUpIdeal.Launch

@[expose] public section

noncomputable section

namespace Cert.GradUpIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradUpIdeal.Gen Cert.Shared Cert.Shared.Direct

theorem words0 : ∀ t : Fin 4, (row 1536 4096 t).WholeWords (EltTy.packing .bf16) := by decide +kernel

/-- The array exchanged and its result. -/
def sheet0 : Sheet sig (Fin 4) :=
  chipSheet 1536 4096 (Memref.whole main_arg2) (Memref.whole main_v1_1) (Memref.isWhole_whole _) (Memref.isWhole_whole _) rfl
    squeezes_S1x1536x4096_S1536x4096 words0 (by decide)

def num : Kind (Fin 1) (Fin 1) (Fin 3) → DmaSem sig
  | (_, .inl _) => ⟨12, by decide⟩
  | (_, .inr (.inl j)) => ⟨6 + j.val, by show _ < 13; omega⟩
  | (_, .inr (.inr j)) => ⟨9 + j.val, by show _ < 13; omega⟩

theorem num_inj : Function.Injective num := by decide +kernel

/-- The exchange. -/
def E : Setup sig (Fin 1) (Fin 1) (Fin 3) (Fin 4) := chips (fun _ => sheet0) num num_inj

theorem off_own : ∀ d : Dev 8, k0_off1 d = ![(chip 0 d).val, 0, 0] := by decide +kernel
theorem off_x : ∀ d : Dev 8, k0_off2 d = ![(chip 1 d).val, 0, 0] := by decide +kernel
theorem off_y : ∀ d : Dev 8, k0_off3 d = ![(chip 2 d).val, 0, 0] := by decide +kernel
theorem off_xy : ∀ d : Dev 8, k0_off4 d = ![(chip 3 d).val, 0, 0] := by decide +kernel
theorem dev_x : ∀ d : Dev 8, k0_dev1 d = (across 1 d).val := by decide +kernel
theorem dev_y : ∀ d : Dev 8, k0_dev2 d = (across 2 d).val := by decide +kernel
theorem dev_xy : ∀ d : Dev 8, k0_dev3 d = (across 3 d).val := by decide +kernel

variable {F : FTy → Type} [FloatOps F] (m : (ℓ : Loc nD τ sig) → Buf (Elt F) ℓ)

/-- The copies and the transfers in order. -/
def homes : List (Fin 1 × Fin 1) := [(0, 0)]
def ways : List (Fin 1 × Fin 3) := [(0, 0), (0, 1), (0, 2)]

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 127 := by decide +kernel

set_option maxRecDepth 20000 in
set_option maxHeartbeats 4000000 in
theorem body_wp (c : Dev nD) (t : Fin cfg0.N) (𝒱 : Variants) (L : sProp (XM nD τ sig (Elt F)))
    (b₀ : Memref sig .tc .vmem S4096x512 .bf16) (h₀ : b₀.IsWhole) (b₁ : Memref sig .tc .vmem S4096x1536 .bf16) (h₁ : b₁.IsWhole)
    (b₂ : Memref sig .tc .vmem S1x512x1536 .bf16) (h₂ : b₂.IsWhole)
    (x : Vec F S4096x512 .bf16) (y : Vec F S4096x1536 .bf16) (d : Vec F S1x512x1536 .bf16) :
    iprop(E.point 128 ways m c t.val ∗ owns (c.tc : Thread nD τ) b₀ fullShare x ∗ owns (c.tc : Thread nD τ) b₁ fullShare y
        ∗ owns (c.tc : Thread nD τ) b₂ fullShare d ∗ L)
      ⊢ wp frame (wpE (defs₀ (F := F)) 𝒱 (c.tc : Thread nD τ) none) Set.univ
        (cc0_grad_w_up (F := F) (grid0.coords t) b₀ h₀ b₁ h₁ (Memref.whole main_arg2) (Memref.isWhole_whole _) b₂ h₂ (Memref.whole main_v1_1) (Memref.isWhole_whole _)
          cc0_scratch0 cc0_scratch1 cc0_scratch2)
        (fun _ => iprop(E.point 128 ways m c (t.val + 1) ∗ owns (c.tc : Thread nD τ) b₀ fullShare x ∗ owns (c.tc : Thread nD τ) b₁ fullShare y
          ∗ owns (c.tc : Thread nD τ) b₂ fullShare (k0_pay1 x y) ∗ L)) := by
  rw [cc0_grad_w_up_eq_skeleton]
  unfold cc0_grad_w_up_skel
  have tN : t.val < 128 := t.isLt
  by_cases t0 : t.val = 0
  · have c1 := (cond1_iff t).mpr t0
    have c2 := mt (cond2_iff t).mp (by omega)
    have hp : E.point 128 ways m c t.val = _ := (congrArg (E.point 128 ways m c) t0).trans (E.point_first 128 ways m c)
    rw [hp, E.point_mid 128 ways m c (by omega : t.val + 1 ≠ 0) (by omega)]
    simp only [dif_pos c1, dif_neg c2, k0_part1_eq_skeleton, k0_part2_eq_skeleton, k0_part1_skel, k0_part2_skel,
      Prog.lift, Prog.bind_op, Prog.bind_ret, Prog.pure_eq_ret, wp_deviceId]
    refine (E.first homes ways m c (defs₀ (F := F)) 𝒱 (by decide +kernel) (by decide +kernel) (by decide +kernel) (by decide +kernel) _).trans ?_
    unfold homes ways
    refine E.plan.next_copy (copy_congr (row_eq _ _ 0 c _ (off_own c)) rfl rfl) ?_
    refine E.plan.next_send (send_congr (Fin.ext (dev_x c)) (row_eq _ _ 1 c _ (off_x c)) rfl rfl rfl) ?_
    refine E.plan.next_send (send_congr (Fin.ext (dev_y c)) (row_eq _ _ 2 c _ (off_y c)) rfl rfl rfl) ?_
    refine E.plan.next_send (send_congr (Fin.ext (dev_xy c)) (row_eq _ _ 3 c _ (off_xy c)) rfl rfl rfl) ?_
    unfold Plan.sends
    simp only [List.map_nil]
    exact regroup.trans (next_product (defs₀ (F := F)) 𝒱 c (wp_done (defs₀ (F := F)) 𝒱 c .rfl))
  have c1 := mt (cond1_iff t).mp t0
  rw [E.point_mid 128 ways m c t0 (by omega)]
  by_cases tl : t.val = 127
  · have c2 := (cond2_iff t).mpr tl
    have hq : E.point 128 ways m c (t.val + 1) = _ := (congrArg (fun n => E.point 128 ways m c (n + 1)) tl).trans (E.point_last 128 ways m c (by decide))
    rw [hq]
    simp only [dif_neg c1, dif_pos c2, k0_part3_eq_skeleton, k0_part4_eq_skeleton, k0_part5_eq_skeleton, k0_part3_skel, k0_part4_skel, k0_part5_skel,
      Prog.lift, Prog.bind_op, Prog.bind_ret, Prog.pure_eq_ret, wp_deviceId]
    refine next_product (defs₀ (F := F)) 𝒱 c ?_
    refine (E.finish homes ways m c (defs₀ (F := F)) 𝒱 (by decide +kernel) (by decide +kernel) _).trans ?_
    rw [wp_deviceId]
    unfold ways homes
    simp only [List.map_cons, List.map_nil, List.cons_append, List.nil_append]
    iterate 7 (refine E.plan.next_await (fun _ => rfl) ?_)
    unfold Plan.awaits
    exact wp_done (defs₀ (F := F)) 𝒱 c regroup
  have c2 := mt (cond2_iff t).mp tl
  simp only [dif_neg c1, dif_neg c2, Prog.lift, Prog.bind_op, Prog.bind_ret, Prog.pure_eq_ret]
  rw [E.point_mid 128 ways m c (by omega : t.val + 1 ≠ 0) (by omega)]
  exact next_product (defs₀ (F := F)) 𝒱 c (wp_done (defs₀ (F := F)) 𝒱 c .rfl)

end Cert.GradUpIdeal

end
-- ==== Proof.GradUp.Run.lean ====
/- The run of the gradient of the up-projection's weights and of the exchange between the chips, on eight devices. -/
module

public import proofs.«01_k».proof.Proof.GradUp.Body

@[expose] public section

noncomputable section

namespace Cert.GradUpIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.GradUpIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- The proof's data: the inputs' buffers hold their blocks, the output's their product. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => k0_pay1 (blk m c 0 t) (blk m c 1 t)
  Φ t := iprop(E.hold 128 m c t.val ∗ E.leftover m c)
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) : owns (c.tc : Thread nD τ) (st0_2 t) fullShare (k0_pay1 (blk m c 0 t) (blk m c 1 t)) ⊢ (dats m 0 c).leavesExact 2 t := .rfl

theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound 128 ways m c (dats m 0 c) t defs₀ Variants.none rfl rfl rfl rfl (fun _ => trivial) (fun _ => .rfl) (fun _ => .rfl)
    (fun d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (blk m c 0 t) (blk m c 1 t) _)
    (leaves0 m c t) (leaves1 m c t) (fun _ => leaves2 m c t)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.one, Setup.one]
  iintro ⟨S0, O0⟩
  isplitl [S0]; · iexact S0
  iexists _; iexact O0

theorem own_sems : Pipeline.OwnSemFacts cfg0.spec E.wires.at_ := by decide +kernel

/-- Every weakly fair run on the eight devices ends, with the product's array as the proof's data say, every slot of the exchange's
    result filled, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      rw [scopedRest0_eq]
      show iprop((E.plan.before m c ∗ E.leftover m c) ∗ BI.emp) ⊢ iprop(E.plan.before m c ∗ E.leftover m c)
      iintro ⟨H, -⟩; iexact H)
    (fun c => by
      rw [scopedRest0_eq]
      show iprop(E.plan.after m c ∗ E.leftover m c) ⊢ iprop((E.plan.after m c ∗ E.leftover m c) ∗ BI.emp)
      iintro H
      isplitl [H]; · iexact H
      iempintro)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) :=
  ⟨(h.1 0).trans ((dats m 0 c).arrAt_in 0 rfl _), (h.1 1).trans ((dats m 0 c).arrAt_in 1 rfl _), (h.2 0).2⟩

end Cert.GradUpIdeal

end
-- ==== Proof.GradUp.Ref.lean ====
/- The reference's run of the gradient of the up-projection's weights and of the exchange between the chips, on one device. -/
module

public import Idealize.ShloMosaic.Lib.StableHlo.Run
public import Idealize.ShloMosaic.Lib.Quiescent
public import proofs.«01_k».proof.Proof.Shared.Chips
public import proofs.«01_k».proof.Proof.Gen.GradUpRefIdeal

@[expose] public section

noncomputable section

namespace Cert.GradUpRefIdeal

open Cert.GradUpRefIdeal.Gen
open Idealize.ShloMosaic Idealize.ShloMosaic.TcCoe Idealize.ShloMosaic.StableHlo Idealize.SL.Sem

variable {F : FTy → Type} [FloatOps F]

/-- The gradient, -/
abbrev grad (x : S32768x4096.Idx → Elt F .bf16) (y : S32768x24576.Idx → Elt F .bf16) : S64x4096x3072.Idx → Elt F .bf16 :=
  truncf .bf16 (shapeCast S64x4096x3072 (transpose S8x8x4096x3072 [0, 2, 1, 3] (shapeCast S8x4096x8x3072
    (Host.dotGeneral dot_S8x4096x4096_S8x4096x24576_S8x4096x24576_1_1_2_2_0_0 none (shapeCast S8x4096x4096 x Facts₀.shapeCasts_S32768x4096_S8x4096x4096)
      (shapeCast S8x4096x24576 y Facts₀.shapeCasts_S32768x24576_S8x4096x24576)) Facts₀.shapeCasts_S8x4096x24576_S8x4096x8x3072)
    Facts₀.transposes_S8x4096x8x3072_S8x8x4096x3072_0_2_1_3) Facts₀.shapeCasts_S8x8x4096x3072_S64x4096x3072) Facts₀.bitsLt_bf16_f32

/-- the sizes of the exchange's array. -/
theorem facts : Cert.Shared.ChipFacts 1536 4096 6291456 := by constructor <;> decide

/-- The reference's operations. -/
abbrev steps : List (HloOp τ sig (Elt F)) :=
  [ reshape main_arg0 main_v0 rfl Facts₀.shapeCasts_S32768x4096_S8x4096x4096,
    reshape main_arg1 main_v1 rfl Facts₀.shapeCasts_S32768x24576_S8x4096x24576,
    binary main_v0 main_v1 main_v2 (fun l r => Host.dotGeneral dot_S8x4096x4096_S8x4096x24576_S8x4096x24576_1_1_2_2_0_0 none l r),
    reshape main_v2 main_v3 rfl Facts₀.shapeCasts_S8x4096x24576_S8x4096x8x3072,
    unary main_v3 main_v4 (transpose S8x8x4096x3072 [0, 2, 1, 3] · Facts₀.transposes_S8x4096x8x3072_S8x8x4096x3072_0_2_1_3),
    reshape main_v4 main_v5 rfl Facts₀.shapeCasts_S8x8x4096x3072_S64x4096x3072,
    unary main_v5 main_v6 (truncf .bf16 · Facts₀.bitsLt_bf16_f32),
    reshape main_arg2 main_v7 rfl Facts₀.shapeCasts_S32x1536x4096_S2x2x2x2x2x6291456,
    unary main_v7 main_v8 (transpose S2x2x2x2x2x6291456 [3, 4, 2, 1, 0, 5] · Facts₀.transposes_S2x2x2x2x2x6291456_S2x2x2x2x2x6291456_3_4_2_1_0_5),
    unary main_v8 main_v9 (extractStridedSlice S1x2x2x2x2x6291456 ![0, 0, 0, 0, 0, 0] · Facts₀.slices_S2x2x2x2x2x6291456_S1x2x2x2x2x6291456_0_0_0_0_0_0),
    unary main_v8 main_v10 (extractStridedSlice S1x2x2x2x2x6291456 ![1, 0, 0, 0, 0, 0] · Facts₀.slices_S2x2x2x2x2x6291456_S1x2x2x2x2x6291456_1_0_0_0_0_0),
    unary main_v10 main_v11 (Host.reverse [4]),
    binary main_v9 main_v11 main_v12 (fun a b => concatenate S2x2x2x2x2x6291456 0 [⟨S1x2x2x2x2x6291456, a⟩, ⟨S1x2x2x2x2x6291456, b⟩] Facts₀.concatenates_S1x2x2x2x2x6291456_S1x2x2x2x2x6291456_S2x2x2x2x2x6291456_d0),
    unary main_v12 main_v13 (extractStridedSlice S2x1x2x2x2x6291456 ![0, 0, 0, 0, 0, 0] · Facts₀.slices_S2x2x2x2x2x6291456_S2x1x2x2x2x6291456_0_0_0_0_0_0),
    unary main_v12 main_v14 (extractStridedSlice S2x1x2x2x2x6291456 ![0, 1, 0, 0, 0, 0] · Facts₀.slices_S2x2x2x2x2x6291456_S2x1x2x2x2x6291456_0_1_0_0_0_0),
    unary main_v14 main_v15 (Host.reverse [3]),
    binary main_v13 main_v15 main_v16 (fun a b => concatenate S2x2x2x2x2x6291456 1 [⟨S2x1x2x2x2x6291456, a⟩, ⟨S2x1x2x2x2x6291456, b⟩] Facts₀.concatenates_S2x1x2x2x2x6291456_S2x1x2x2x2x6291456_S2x2x2x2x2x6291456_d1),
    reshape main_v16 main_v17 rfl Facts₀.shapeCasts_S2x2x2x2x2x6291456_S32x1536x4096 ]

theorem main_steps (c : Dev nD) : main (F := F) c = seq steps := rfl

variable (V : Valuation τ sig (Elt F))

theorem steps_v6 : after steps V (main_v6 : DevRef τ sig) = grad (V (main_arg0 : DevRef τ sig)) (V (main_arg1 : DevRef τ sig)) := by after_results; rfl
theorem steps_v17 : after steps V (main_v17 : DevRef τ sig) = Cert.Shared.received facts (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨reshape_bufs_sub .., reshape_bufs_sub .., binary_bufs_sub .., reshape_bufs_sub .., unary_bufs_sub .., reshape_bufs_sub .., unary_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v6) = grad (m ((c.tc : Thread nD τ).loc main_arg0)) (m ((c.tc : Thread nD τ).loc main_arg1)))
  ∧ (s.mem ((c.tc : Thread nD τ).loc main_v17) = Cert.Shared.received facts (m ((c.tc : Thread nD τ).loc main_arg2)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v6).trans (steps_v6 _), (h c main_v17).trans (steps_v17 _),
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.GradUpRefIdeal

end
-- ==== Proof.Shared.Stack.lean ====
/- A weight's gradient: each device's product of its two factors over their rows, cut into eight parts along its columns. -/
module

public import proofs.«01_k».proof.Proof.Shared.Product

@[expose] public section

noncomputable section

namespace Cert.Shared

open Idealize.ShloMosaic hiding ix2 ix3 ix4
open Idealize.ShloMosaic.ValueIdx (ix2 ix3 ix4 contrEquiv1 contrEquiv1_symm_val)

/-- The product over the rows of both factors. -/
abbrev overRows (K M N : ℕ) (w : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := w

/-- The same, of each of several pairs. -/
abbrev overRowsEach (D K M N : ℕ) (w : DotDims.WF ⟨3, ![D, K, M]⟩ ⟨3, ![D, K, N]⟩ ⟨3, ![D, M, N]⟩ [1] [1] [2] [2] [0] [0]) : DotDims ⟨3, ![D, K, M]⟩ ⟨3, ![D, K, N]⟩ ⟨3, ![D, M, N]⟩ where
  lhsContracting := [1]
  rhsContracting := [1]
  lhsNonContracting := [2]
  rhsNonContracting := [2]
  lhsBatch := [0]
  rhsBatch := [0]
  wf := w

/-- A block of the product, as the kernel computes it. -/
theorem block_apply {K M N : ℕ} {φ : FTy} (w) (x : FVec Ideal ⟨2, ![K, M]⟩ φ) (y : FVec Ideal ⟨2, ![K, N]⟩ φ)
    (h₁ : (⟨2, ![K, M]⟩ : Shape).ShapeCasts ⟨2, ![K, M]⟩) (h₂ : (⟨2, ![K, N]⟩ : Shape).ShapeCasts ⟨2, ![K, N]⟩)
    (h₃ : FTy.bits .bf16 < FTy.bits .f32) (h₄ : (⟨2, ![M, N]⟩ : Shape).ShapeCasts ⟨3, ![1, M, N]⟩) (a : Fin M) (b : Fin N) :
    shapeCast ⟨3, ![1, M, N]⟩ (truncf .bf16 (FloatOps.matmul (overRows K M N w) none (shapeCast ⟨2, ![K, M]⟩ x h₁) (shapeCast ⟨2, ![K, N]⟩ y h₂)
        (constant (F := Ideal) ⟨2, ![M, N]⟩ .f32 0x00000000#32)) h₃) h₄ (ix3 0 a b)
      = ∑ l : Fin K, x (ix2 l a) * y (ix2 l b) := by
  refine (shapeCast_apply _ _ _ (ix2 a b) ?_).trans ?_
  · rw [Shape.rowMajor_val_three, Shape.rowMajor_val_two]
    show a.val * N + b.val = (0 * M + a.val) * N + b.val
    rw [Nat.zero_mul, Nat.zero_add]
  show FloatOps.matmul (overRows K M N w) none _ _ _ (ix2 a b) = _
  rw [Ideal.matmul_apply, ← Equiv.sum_comp (contrEquiv1 (overRows K M N w) K rfl rfl).symm]
  rw [show constant (F := Ideal) ⟨2, ![M, N]⟩ .f32 0x00000000#32 (ix2 a b) = 0 from Ideal.ofBits_zero_f32, zero_add, shapeCast_self, shapeCast_self]
  refine Finset.sum_congr rfl fun l _ => ?_
  have hl := contrEquiv1_symm_val (overRows K M N w) K rfl rfl l
  refine congr (congrArg HMul.hMul (congrArg x ?_)) (congrArg y ?_)
  · funext z; apply Fin.ext
    match z with
    | ⟨0, _⟩ => exact hl
    | ⟨1, _⟩ => rfl
  · funext z; apply Fin.ext
    match z with
    | ⟨0, _⟩ => exact hl
    | ⟨1, _⟩ => rfl

/-- The products of several pairs, entry by entry. -/
theorem each_apply {D K M N : ℕ} {φ : FTy} (w) (x : FVec Ideal ⟨3, ![D, K, M]⟩ φ) (y : FVec Ideal ⟨3, ![D, K, N]⟩ φ) (d : Fin D) (a : Fin M) (b : Fin N) :
    Host.dotGeneral (overRowsEach D K M N w) none x y (ix3 d a b) = ∑ l : Fin K, x (ix3 d l a) * y (ix3 d l b) := by
  show FloatOps.dotGeneral _ none _ x y (ix3 d a b) = _
  rw [Ideal.dotGeneral_apply, ← Equiv.sum_comp (contrEquiv1 (overRowsEach D K M N w) K rfl rfl).symm]
  refine Finset.sum_congr rfl fun l _ => ?_
  have hl := contrEquiv1_symm_val (overRowsEach D K M N w) K rfl rfl l
  refine congr (congrArg HMul.hMul (congrArg x ?_)) (congrArg y ?_)
  · funext z; apply Fin.ext
    match z with
    | ⟨0, _⟩ => rfl
    | ⟨1, _⟩ => exact hl
    | ⟨2, _⟩ => rfl
  · funext z; apply Fin.ext
    match z with
    | ⟨0, _⟩ => rfl
    | ⟨1, _⟩ => exact hl
    | ⟨2, _⟩ => rfl

/-- The reference's gradient of every device, its parts one after the other. -/
abbrev gradParts {D K M N J P DK : ℕ} (w : DotDims.WF ⟨3, ![D, K, M]⟩ ⟨3, ![D, K, N]⟩ ⟨3, ![D, M, N]⟩ [1] [1] [2] [2] [0] [0])
    (x : FVec Ideal ⟨2, ![DK, M]⟩ .bf16) (y : FVec Ideal ⟨2, ![DK, N]⟩ .bf16)
    (h₁ : (⟨2, ![DK, M]⟩ : Shape).ShapeCasts ⟨3, ![D, K, M]⟩) (h₂ : (⟨2, ![DK, N]⟩ : Shape).ShapeCasts ⟨3, ![D, K, N]⟩)
    (h₃ : (⟨3, ![D, M, N]⟩ : Shape).ShapeCasts ⟨4, ![D, M, 8, J]⟩) (h₄ : (⟨4, ![D, M, 8, J]⟩ : Shape).Transposes [0, 2, 1, 3] ⟨4, ![D, 8, M, J]⟩)
    (h₅ : (⟨4, ![D, 8, M, J]⟩ : Shape).ShapeCasts ⟨3, ![P, M, J]⟩) (h₆ : FTy.bits .bf16 < FTy.bits .f32) : FVec Ideal ⟨3, ![P, M, J]⟩ .bf16 :=
  truncf .bf16 (shapeCast ⟨3, ![P, M, J]⟩ (transpose ⟨4, ![D, 8, M, J]⟩ [0, 2, 1, 3] (shapeCast ⟨4, ![D, M, 8, J]⟩
    (Host.dotGeneral (overRowsEach D K M N w) none (shapeCast ⟨3, ![D, K, M]⟩ x h₁) (shapeCast ⟨3, ![D, K, N]⟩ y h₂)) h₃) h₄) h₅) h₆

theorem gradParts_apply {D K M N J P DK : ℕ} (w) (x : FVec Ideal ⟨2, ![DK, M]⟩ .bf16) (y : FVec Ideal ⟨2, ![DK, N]⟩ .bf16)
    (h₁) (h₂) (h₃) (h₄) (h₅) (h₆) (hN : N = 8 * J) (d : Fin D) (k : Fin 8) (e : Fin P) (he : e.val = d.val * 8 + k.val) (a : Fin M) (b : Fin J)
    (row : Fin K → Fin DK) (hrow : ∀ l, (row l).val = d.val * K + l.val) (col : Fin N) (hcol : col.val = k.val * J + b.val) :
    gradParts (D := D) (K := K) (N := N) (P := P) w x y h₁ h₂ h₃ h₄ h₅ h₆ (ix3 e a b) = ∑ l : Fin K, x (ix2 (row l) a) * y (ix2 (row l) col) := by
  refine Eq.trans (b := (shapeCast ⟨3, ![P, M, J]⟩ (transpose ⟨4, ![D, 8, M, J]⟩ [0, 2, 1, 3] (shapeCast ⟨4, ![D, M, 8, J]⟩
    (Host.dotGeneral (overRowsEach D K M N w) none (shapeCast ⟨3, ![D, K, M]⟩ x h₁) (shapeCast ⟨3, ![D, K, N]⟩ y h₂)) h₃) h₄) h₅ : (⟨3, ![P, M, J]⟩ : Shape).Idx → EReal) (ix3 e a b)) rfl ?_
  refine (shapeCast_apply _ _ _ (ix4 d k a b) ?_).trans ((transpose_apply _ _ _ _ (ix4 d a k b) ?_).trans ((shapeCast_apply _ _ _ (ix3 d a col) ?_).trans
    ((each_apply w _ _ d a col).trans (Finset.sum_congr rfl fun l _ => congr (congrArg HMul.hMul (shapeCast_apply _ _ _ (ix2 (row l) a) ?_)) (shapeCast_apply _ _ _ (ix2 (row l) col) ?_)))))
  · rw [Shape.rowMajor_val_three, Shape.rowMajor_val_four]
    show ((d.val * 8 + k.val) * M + a.val) * J + b.val = (e.val * M + a.val) * J + b.val
    rw [he]
  · intro z
    match z with
    | ⟨0, _⟩ => rfl
    | ⟨1, _⟩ => rfl
    | ⟨2, _⟩ => rfl
    | ⟨3, _⟩ => rfl
  · rw [Shape.rowMajor_val_three, Shape.rowMajor_val_four]
    show (d.val * M + a.val) * N + col.val = ((d.val * M + a.val) * 8 + k.val) * J + b.val
    rw [hcol, hN]; ring
  · rw [Shape.rowMajor_val_three, Shape.rowMajor_val_two]
    show (row l).val * M + a.val = (d.val * K + l.val) * M + a.val
    rw [hrow]
  · rw [Shape.rowMajor_val_three, Shape.rowMajor_val_two]
    show (row l).val * N + col.val = (d.val * K + l.val) * N + col.val
    rw [hrow]

/-- A block of a device's gradient, as the kernel computes it, is its part of the reference's. -/
theorem grad_block {D K M N J P mt nt : ℕ} {DK : ℕ} (w) (w') (x : FVec Ideal ⟨2, ![DK, M]⟩ .bf16) (y : FVec Ideal ⟨2, ![DK, N]⟩ .bf16)
    (bx : FVec Ideal ⟨2, ![K, mt]⟩ .bf16) (by' : FVec Ideal ⟨2, ![K, nt]⟩ .bf16)
    (g₁) (g₂) (g₃) (g₄) (h₁) (h₂) (h₃) (h₄) (h₅) (h₆) (hN : N = 8 * J) (c : Fin D) (k : Fin 8) (e : Fin P) (he : e.val = c.val * 8 + k.val) (a : Fin M) (b : Fin J)
    (row : Fin K → Fin DK) (hrow : ∀ l, (row l).val = c.val * K + l.val) (col : Fin N) (hcol : col.val = k.val * J + b.val) (y₀ : Fin mt) (y₁ : Fin nt)
    (hx : ∀ l, bx (ix2 l y₀) = x (ix2 (row l) a)) (hy : ∀ l, by' (ix2 l y₁) = y (ix2 (row l) col)) :
    shapeCast ⟨3, ![1, mt, nt]⟩ (truncf .bf16 (FloatOps.matmul (overRows K mt nt w) none (shapeCast ⟨2, ![K, mt]⟩ bx g₁) (shapeCast ⟨2, ![K, nt]⟩ by' g₂)
        (constant (F := Ideal) ⟨2, ![mt, nt]⟩ .f32 0x00000000#32)) g₃) g₄ (ix3 0 y₀ y₁)
      = gradParts (D := D) (K := K) (N := N) (P := P) w' x y h₁ h₂ h₃ h₄ h₅ h₆ (ix3 e a b) := by
  rw [block_apply w bx by' g₁ g₂ g₃ g₄ y₀ y₁, gradParts_apply w' x y h₁ h₂ h₃ h₄ h₅ h₆ hN c k e he a b row hrow col hcol]
  exact Finset.sum_congr rfl fun l _ => by rw [hx, hy]

/-- An index of a block one row deep. -/
theorem block_index {M N : ℕ} (z : (⟨3, ![1, M, N]⟩ : Shape).Idx) : z = ix3 (0 : Fin 1) (⟨(z 1).val, (z 1).isLt⟩ : Fin M) (⟨(z 2).val, (z 2).isLt⟩ : Fin N) := by
  funext x
  apply Fin.ext
  match x with
  | ⟨0, _⟩ => have := (z 0).isLt; exact Nat.lt_one_iff.mp this
  | ⟨1, _⟩ => rfl
  | ⟨2, _⟩ => rfl

end Cert.Shared

end
-- ==== Proof.GradUp.Value.lean ====
/- What the gradient of the up-projection's weights and the exchange beside it end with is each device's part of the reference's results. -/
module

public import proofs.«01_k».proof.Proof.GradUp.Run
public import proofs.«01_k».proof.Proof.GradUp.Ref
public import proofs.«01_k».proof.Proof.Shared.Stack

@[expose] public section

noncomputable section

namespace Cert.GradUpIdeal

open Idealize.ShloMosaic hiding ix2 ix3
open Idealize.ShloMosaic.TcCoe
open Idealize.ShloMosaic.ValueIdx (ix2 ix3)
open Cert.GradUpIdeal.Gen Cert.GradUpRefIdeal.Gen Cert.Shared Cert.Shared.Direct

section Exchange

variable {F : FTy → Type} [FloatOps F] {m : (ℓ : Loc nD τ sig) → Buf (Elt F) ℓ}

theorem tiles0 : Layout.Tiles (Rows 4 1536 4096) (Rows 32 1536 4096) 0 8 := by decide

theorem exchanged (c : Dev nD) (G : S4x1536x4096.Idx → Elt F .bf16) (x : (Rows 32 1536 4096).Idx → Elt F .bf16) (hG : E.Full m c 0 G)
    (hm : ∀ d : Dev 8, m ((d.tc : Thread nD τ).loc main_arg2) = Layout.block S4x1536x4096 (Rows 32 1536 4096) 0 8 d x) :
    G = Layout.block S4x1536x4096 (Rows 32 1536 4096) 0 8 c (Cert.Shared.received Cert.GradUpRefIdeal.facts x) :=
  chips_received (p := 1536) (q := 4096) Cert.GradUpRefIdeal.facts c G (fun d => m ((d.tc : Thread nD τ).loc main_arg2)) x
    (fun t z => ((E.sheet 0).piece t).dst.view.emb z) (fun t d z => (((E.sheet 0).piece t).src d).view.emb z)
    (squeezes_S1x1536x4096_S1536x4096 : S1x1536x4096.Squeezes S1536x4096).numel_eq
    (fun _ _ _ => rfl) (fun _ _ _ _ => rfl) (fun t => E.plan.who t c) (fun t => chips_who _ num num_inj t c) (fun t z => congrFun (hG t) z) tiles0 hm

end Exchange

variable (m : (ℓ : Loc nD τ sig) → Buf (Elt Ideal) ℓ)

theorem index0 : ∀ t : Fin cfg0.N, win0_0.index t (0 : Fin 2) = 0 ∧ win0_0.index t (1 : Fin 2) = t.val % 8 := by decide +kernel
theorem index1 : ∀ t : Fin cfg0.N, win0_1.index t (0 : Fin 2) = 0 ∧ win0_1.index t (1 : Fin 2) = t.val / 8 := by decide +kernel
theorem index2 : ∀ t : Fin cfg0.N, win0_2.index t (0 : Fin 3) = t.val / 16 ∧ win0_2.index t (1 : Fin 3) = t.val % 8 ∧ win0_2.index t (2 : Fin 3) = t.val / 8 % 2 := by decide +kernel

theorem tilesX : Layout.Tiles S4096x4096 Cert.GradUpRefIdeal.S32768x4096 0 8 := by decide
theorem tilesY : Layout.Tiles S4096x24576 Cert.GradUpRefIdeal.S32768x24576 0 8 := by decide
theorem tilesZ : Layout.Tiles S8x4096x3072 Cert.GradUpRefIdeal.S64x4096x3072 0 8 := by decide

/-- The product's array is the device's part of the reference's. -/
theorem grad_final (c : Dev nD) (x : Cert.GradUpRefIdeal.S32768x4096.Idx → EReal) (y : Cert.GradUpRefIdeal.S32768x24576.Idx → EReal)
    (hx : m ((c.tc : Thread nD τ).loc main_arg0) = Layout.block S4096x4096 Cert.GradUpRefIdeal.S32768x4096 0 8 c x)
    (hy : m ((c.tc : Thread nD τ).loc main_arg1) = Layout.block S4096x24576 Cert.GradUpRefIdeal.S32768x24576 0 8 c y) :
    (dats m 0 c).arrAt 2 cfg0.N = Layout.block S8x4096x3072 Cert.GradUpRefIdeal.S64x4096x3072 0 8 c (Cert.GradUpRefIdeal.grad (F := Ideal) x y) := by
  refine (dats m 0 c).arrAt_eq_of_covers 2 _ (by decide +kernel) fun t _ z => ?_
  have hc : c.val < 8 := c.isLt
  have hN : t.val < 128 := t.isLt
  obtain ⟨e0, e1, e2⟩ := index2 t
  have z0 : (z 0).val < 1 := (z 0).isLt
  have z1 : (z 1).val < 512 := (z 1).isLt
  have z2 : (z 2).val < 1536 := (z 2).isLt
  let a : Fin 4096 := ⟨t.val % 8 * 512 + (z 1).val, by omega⟩
  let b : Fin 24576 := ⟨t.val / 8 * 1536 + (z 2).val, by omega⟩
  let e : Fin 64 := ⟨c.val * 8 + t.val / 16, by omega⟩
  let s : Fin 3072 := ⟨t.val / 8 % 2 * 1536 + (z 2).val, by omega⟩
  let row : Fin 4096 → Fin 32768 := fun l => ⟨c.val * 4096 + l.val, by omega⟩
  obtain ⟨d0, d1⟩ := index0 t
  obtain ⟨f0, f1⟩ := index1 t
  have hb := grad_block (D := 8) (K := 4096) (M := 4096) (N := 24576) (J := 3072) (P := 64) (mt := 512) (nt := 1536) (DK := 32768) dot_S4096x512_S4096x1536_S512x1536_0_0_1_1_n_n.wf
    Cert.GradUpRefIdeal.dot_S8x4096x4096_S8x4096x24576_S8x4096x24576_1_1_2_2_0_0.wf x y (blk m c 0 t) (blk m c 1 t)
    shapeCasts_S4096x512_S4096x512 shapeCasts_S4096x1536_S4096x1536 Cert.GradUpIdeal.Gen.bitsLt_bf16_f32 shapeCasts_S512x1536_S1x512x1536
    Cert.GradUpRefIdeal.Facts₀.shapeCasts_S32768x4096_S8x4096x4096 Cert.GradUpRefIdeal.Facts₀.shapeCasts_S32768x24576_S8x4096x24576
    Cert.GradUpRefIdeal.Facts₀.shapeCasts_S8x4096x24576_S8x4096x8x3072 Cert.GradUpRefIdeal.Facts₀.transposes_S8x4096x8x3072_S8x8x4096x3072_0_2_1_3
    Cert.GradUpRefIdeal.Facts₀.shapeCasts_S8x8x4096x3072_S64x4096x3072 Cert.GradUpRefIdeal.Facts₀.bitsLt_bf16_f32 rfl c ⟨t.val / 16, by omega⟩ e rfl a s row (fun _ => rfl) b
    (by show t.val / 8 * 1536 + (z 2).val = t.val / 16 * 3072 + (t.val / 8 % 2 * 1536 + (z 2).val); omega) ⟨(z 1).val, z1⟩ ⟨(z 2).val, z2⟩
    (fun l => by
      refine Eq.trans (congrArg (m ((c.tc : Thread nD τ).loc main_arg0)) (show _ = ix2 l a from funext fun k => Fin.ext ?_))
        ((congrFun hx _).trans (rows_apply tilesX c x l a (row l) rfl))
      match k with
      | ⟨0, _⟩ => show win0_0.index t (0 : Fin 2) * 4096 + 1 * l.val = l.val; omega
      | ⟨1, _⟩ => show win0_0.index t (1 : Fin 2) * 512 + 1 * (z 1).val = t.val % 8 * 512 + (z 1).val; omega)
    (fun l => by
      refine Eq.trans (congrArg (m ((c.tc : Thread nD τ).loc main_arg1)) (show _ = ix2 l b from funext fun k => Fin.ext ?_))
        ((congrFun hy _).trans (rows_apply tilesY c y l b (row l) rfl))
      match k with
      | ⟨0, _⟩ => show win0_1.index t (0 : Fin 2) * 4096 + 1 * l.val = l.val; omega
      | ⟨1, _⟩ => show win0_1.index t (1 : Fin 2) * 1536 + 1 * (z 2).val = t.val / 8 * 1536 + (z 2).val; omega)
  have hi : tilesZ.idx c (((cfg0.win 2).blk t).view.emb z) = ix3 e a s := by
    funext x
    apply Fin.ext
    match x with
    | ⟨0, _⟩ => refine (tilesZ.idx_val c _ 0).trans ?_; show c.val * 8 + (win0_2.index t (0 : Fin 3) * 1 + 1 * (z 0).val) = c.val * 8 + t.val / 16; omega
    | ⟨1, _⟩ => refine (tilesZ.idx_val c _ 1).trans ?_; show win0_2.index t (1 : Fin 3) * 512 + 1 * (z 1).val = _; rw [e1, Nat.one_mul]
    | ⟨2, _⟩ => refine (tilesZ.idx_val c _ 2).trans ?_; show win0_2.index t (2 : Fin 3) * 1536 + 1 * (z 2).val = _; rw [e2, Nat.one_mul]
  rw [Layout.block_apply]
  show (k0_pay1 (F := Ideal) (blk m c 0 t) (blk m c 1 t) : S1x512x1536.Idx → EReal) z = Cert.GradUpRefIdeal.grad (F := Ideal) x y (tilesZ.idx c (((cfg0.win 2).blk t).view.emb z))
  rw [hi]
  exact Eq.trans (congrArg (k0_pay1 (F := Ideal) (blk m c 0 t) (blk m c 1 t) : S1x512x1536.Idx → EReal) (block_index z)) hb

end Cert.GradUpIdeal

end
-- ==== Proof.GradIn.Body.lean ====
/- The gradient of the input projection's weights beside the exchange of three arrays between the chips: where the exchange's pieces lie, and the body on
   one device at one point. -/
module

public import proofs.«01_k».proof.Proof.Shared.Chips
public import proofs.«01_k».proof.Proof.Shared.Grid
public import proofs.«01_k».proof.Proof.Gen.GradInIdeal.Skeleton
public import proofs.«01_k».proof.Proof.Gen.GradInIdeal.Points
public import proofs.«01_k».proof.Proof.Gen.GradInIdeal.Launch

@[expose] public section

noncomputable section

namespace Cert.GradInIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GradInIdeal.Gen Cert.Shared Cert.Shared.Direct

theorem words0 : ∀ t : Fin 4, (row 2048 3072 t).WholeWords (EltTy.packing .bf16) := by decide +kernel
theorem words1 : ∀ t : Fin 4, (row 2048 512 t).WholeWords (EltTy.packing .bf16) := by decide +kernel
theorem words2 : ∀ t : Fin 4, (row 512 4096 t).WholeWords (EltTy.packing .bf16) := by decide +kernel

/-- The arrays exchanged and their results. -/
def sheets : Fin 3 → Sheet sig (Fin 4)
  | 0 => chipSheet 2048 3072 (Memref.whole main_arg2) (Memref.whole main_v1_1) (Memref.isWhole_whole _) (Memref.isWhole_whole _) rfl
      squeezes_S1x2048x3072_S2048x3072 words0 (by decide)
  | 1 => chipSheet 2048 512 (Memref.whole main_arg3) (Memref.whole main_v1_2) (Memref.isWhole_whole _) (Memref.isWhole_whole _) rfl
      squeezes_S1x2048x512_S2048x512 words1 (by decide)
  | 2 => chipSheet 512 4096 (Memref.whole main_arg4) (Memref.whole main_v1_3) (Memref.isWhole_whole _) (Memref.isWhole_whole _) rfl
      squeezes_S1x512x4096_S512x4096 words2 (by decide)

def num : Kind (Fin 3) (Fin 1) (Fin 3) → DmaSem sig
  | (a, .inl _) => ⟨24 + a.val, by show _ < 27; omega⟩
  | (a, .inr (.inl j)) => ⟨6 + 3 * a.val + j.val, by show _ < 27; omega⟩
  | (a, .inr (.inr j)) => ⟨15 + 3 * a.val + j.val, by show _ < 27; omega⟩

theorem num_inj : Function.Injective num := by decide +kernel

/-- The exchange. -/
def E : Setup sig (Fin 3) (Fin 1) (Fin 3) (Fin 4) := chips sheets num num_inj

/-- The place of the piece for slot `t`. -/
abbrev place (t : Fin 4) (d : Dev 8) : Fin 3 → ℕ := ![(chip t d).val, 0, 0]

theorem own_places : ∀ d : Dev 8, k0_off1 d = place 0 d ∧ k0_off2 d = place 0 d ∧ k0_off3 d = place 0 d := by decide +kernel
theorem places0 : ∀ d : Dev 8, k0_off4 d = place 1 d ∧ k0_off5 d = place 2 d ∧ k0_off6 d = place 3 d := by decide +kernel
theorem places1 : ∀ d : Dev 8, k0_off7 d = place 1 d ∧ k0_off8 d = place 2 d ∧ k0_off9 d = place 3 d := by decide +kernel
theorem places2 : ∀ d : Dev 8, k0_off10 d = place 1 d ∧ k0_off11 d = place 2 d ∧ k0_off12 d = place 3 d := by decide +kernel
theorem peers0 : ∀ d : Dev 8, k0_dev1 d = (across 1 d).val ∧ k0_dev2 d = (across 2 d).val ∧ k0_dev3 d = (across 3 d).val := by decide +kernel
theorem peers1 : ∀ d : Dev 8, k0_dev4 d = (across 1 d).val ∧ k0_dev5 d = (across 2 d).val ∧ k0_dev6 d = (across 3 d).val := by decide +kernel
theorem peers2 : ∀ d : Dev 8, k0_dev7 d = (across 1 d).val ∧ k0_dev8 d = (across 2 d).val ∧ k0_dev9 d = (across 3 d).val := by decide +kernel

variable {F : FTy → Type} [FloatOps F] (m : (ℓ : Loc nD τ sig) → Buf (Elt F) ℓ)

/-- The copies and the transfers in order. -/
def homes : List (Fin 3 × Fin 1) := [(0, 0), (1, 0), (2, 0)]
def ways : List (Fin 3 × Fin 3) := [(0, 0), (0, 1), (0, 2), (1, 0), (1, 1), (1, 2), (2, 0), (2, 1), (2, 2)]

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 127 := by decide +kernel

set_option maxRecDepth 20000 in
set_option maxHeartbeats 4000000 in
theorem body_wp (c : Dev nD) (t : Fin cfg0.N) (𝒱 : Variants) (L : sProp (XM nD τ sig (Elt F)))
    (b₀ : Memref sig .tc .vmem S4096x512 .bf16) (h₀ : b₀.IsWhole) (b₁ : Memref sig .tc .vmem S4096x1280 .bf16) (h₁ : b₁.IsWhole)
    (b₂ : Memref sig .tc .vmem S1x512x1280 .bf16) (h₂ : b₂.IsWhole)
    (x : Vec F S4096x512 .bf16) (y : Vec F S4096x1280 .bf16) (d : Vec F S1x512x1280 .bf16) :
    iprop(E.point 128 ways m c t.val ∗ owns (c.tc : Thread nD τ) b₀ fullShare x ∗ owns (c.tc : Thread nD τ) b₁ fullShare y
        ∗ owns (c.tc : Thread nD τ) b₂ fullShare d ∗ L)
      ⊢ wp frame (wpE (defs₀ (F := F)) 𝒱 (c.tc : Thread nD τ) none) Set.univ
        (cc0_grad_w_in (F := F) (grid0.coords t) b₀ h₀ b₁ h₁ (Memref.whole main_arg2) (Memref.isWhole_whole _) (Memref.whole main_arg3) (Memref.isWhole_whole _)
          (Memref.whole main_arg4) (Memref.isWhole_whole _) b₂ h₂ (Memref.whole main_v1_1) (Memref.isWhole_whole _) (Memref.whole main_v1_2) (Memref.isWhole_whole _)
          (Memref.whole main_v1_3) (Memref.isWhole_whole _) cc0_scratch0 cc0_scratch1 cc0_scratch2)
        (fun _ => iprop(E.point 128 ways m c (t.val + 1) ∗ owns (c.tc : Thread nD τ) b₀ fullShare x ∗ owns (c.tc : Thread nD τ) b₁ fullShare y
          ∗ owns (c.tc : Thread nD τ) b₂ fullShare (k0_pay1 x y) ∗ L)) := by
  rw [cc0_grad_w_in_eq_skeleton]
  unfold cc0_grad_w_in_skel
  have tN : t.val < 128 := t.isLt
  by_cases t0 : t.val = 0
  · have c1 := (cond1_iff t).mpr t0
    have c2 := mt (cond2_iff t).mp (by omega)
    have hp : E.point 128 ways m c t.val = _ := (congrArg (E.point 128 ways m c) t0).trans (E.point_first 128 ways m c)
    rw [hp, E.point_mid 128 ways m c (by omega : t.val + 1 ≠ 0) (by omega)]
    simp only [dif_pos c1, dif_neg c2, k0_part1_eq_skeleton, k0_part2_eq_skeleton, k0_part3_eq_skeleton, k0_part4_eq_skeleton, k0_part5_eq_skeleton, k0_part6_eq_skeleton, k0_part1_skel, k0_part2_skel, k0_part3_skel, k0_part4_skel, k0_part5_skel, k0_part6_skel,
      Prog.lift, Prog.bind_op, Prog.bind_ret, Prog.pure_eq_ret, wp_deviceId]
    refine (E.first homes ways m c (defs₀ (F := F)) 𝒱 (by decide +kernel) (by decide +kernel) (by decide +kernel) (by decide +kernel) _).trans ?_
    unfold homes ways
    obtain ⟨o0, o1, o2⟩ := own_places c
    obtain ⟨x0, y0, xy0⟩ := places0 c
    obtain ⟨dx0, dy0, dxy0⟩ := peers0 c
    obtain ⟨x1, y1, xy1⟩ := places1 c
    obtain ⟨dx1, dy1, dxy1⟩ := peers1 c
    obtain ⟨x2, y2, xy2⟩ := places2 c
    obtain ⟨dx2, dy2, dxy2⟩ := peers2 c
    refine E.plan.next_copy (copy_congr (row_eq _ _ 0 c _ o0) rfl rfl) ?_
    refine E.plan.next_copy (copy_congr (row_eq _ _ 0 c _ o1) rfl rfl) ?_
    refine E.plan.next_copy (copy_congr (row_eq _ _ 0 c _ o2) rfl rfl) ?_
    refine E.plan.next_send (send_congr (Fin.ext dx0) (row_eq _ _ 1 c _ x0) rfl rfl rfl) ?_
    refine E.plan.next_send (send_congr (Fin.ext dy0) (row_eq _ _ 2 c _ y0) rfl rfl rfl) ?_
    refine E.plan.next_send (send_congr (Fin.ext dxy0) (row_eq _ _ 3 c _ xy0) rfl rfl rfl) ?_
    refine E.plan.next_send (send_congr (Fin.ext dx1) (row_eq _ _ 1 c _ x1) rfl rfl rfl) ?_
    refine E.plan.next_send (send_congr (Fin.ext dy1) (row_eq _ _ 2 c _ y1) rfl rfl rfl) ?_
    refine E.plan.next_send (send_congr (Fin.ext dxy1) (row_eq _ _ 3 c _ xy1) rfl rfl rfl) ?_
    refine E.plan.next_send (send_congr (Fin.ext dx2) (row_eq _ _ 1 c _ x2) rfl rfl rfl) ?_
    refine E.plan.next_send (send_congr (Fin.ext dy2) (row_eq _ _ 2 c _ y2) rfl rfl rfl) ?_
    refine E.plan.next_send (send_congr (Fin.ext dxy2) (row_eq _ _ 3 c _ xy2) rfl rfl rfl) ?_
    unfold Plan.sends
    simp only [List.map_nil]
    exact regroup.trans (next_product (defs₀ (F := F)) 𝒱 c (wp_done (defs₀ (F := F)) 𝒱 c .rfl))
  have c1 := mt (cond1_iff t).mp t0
  rw [E.point_mid 128 ways m c t0 (by omega)]
  by_cases tl : t.val = 127
  · have c2 := (cond2_iff t).mpr tl
    have hq : E.point 128 ways m c (t.val + 1) = _ := (congrArg (fun n => E.point 128 ways m c (n + 1)) tl).trans (E.point_last 128 ways m c (by decide))
    rw [hq]
    simp only [dif_neg c1, dif_pos c2, k0_part7_eq_skeleton, k0_part8_eq_skeleton, k0_part9_eq_skeleton, k0_part10_eq_skeleton, k0_part11_eq_skeleton, k0_part12_eq_skeleton, k0_part13_eq_skeleton, k0_part14_eq_skeleton, k0_part7_skel, k0_part8_skel, k0_part9_skel, k0_part10_skel, k0_part11_skel, k0_part12_skel, k0_part13_skel, k0_part14_skel,
      Prog.lift, Prog.bind_op, Prog.bind_ret, Prog.pure_eq_ret, wp_deviceId]
    refine next_product (defs₀ (F := F)) 𝒱 c ?_
    refine (E.finish homes ways m c (defs₀ (F := F)) 𝒱 (by decide +kernel) (by decide +kernel) _).trans ?_
    rw [wp_deviceId]
    unfold ways homes
    simp only [List.map_cons, List.map_nil, List.cons_append, List.nil_append]
    iterate 21 (refine E.plan.next_await (fun _ => rfl) ?_)
    unfold Plan.awaits
    exact wp_done (defs₀ (F := F)) 𝒱 c regroup
  have c2 := mt (cond2_iff t).mp tl
  simp only [dif_neg c1, dif_neg c2, Prog.lift, Prog.bind_op, Prog.bind_ret, Prog.pure_eq_ret]
  rw [E.point_mid 128 ways m c (by omega : t.val + 1 ≠ 0) (by omega)]
  exact next_product (defs₀ (F := F)) 𝒱 c (wp_done (defs₀ (F := F)) 𝒱 c .rfl)

end Cert.GradInIdeal

end
-- ==== Proof.GradIn.Run.lean ====
/- The run of the gradient of the input projection's weights and of the exchange of three arrays between the chips, on eight devices. -/
module

public import proofs.«01_k».proof.Proof.GradIn.Body

@[expose] public section

noncomputable section

namespace Cert.GradInIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.GradInIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- The proof's data: the inputs' buffers hold their blocks, the output's their product. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => k0_pay1 (blk m c 0 t) (blk m c 1 t)
  Φ t := iprop(E.hold 128 m c t.val ∗ E.leftover m c)
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) : owns (c.tc : Thread nD τ) (st0_2 t) fullShare (k0_pay1 (blk m c 0 t) (blk m c 1 t)) ⊢ (dats m 0 c).leavesExact 2 t := .rfl

theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound 128 ways m c (dats m 0 c) t defs₀ Variants.none rfl rfl rfl rfl (fun _ => trivial) (fun _ => .rfl) (fun _ => .rfl)
    (fun d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (blk m c 0 t) (blk m c 1 t) _)
    (leaves0 m c t) (leaves1 m c t) (fun _ => leaves2 m c t)

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem three (Φ : Fin 3 → sProp (XM nD τ sig (Elt F))) : bigSep Finset.univ Φ = iprop(Φ 0 ∗ Φ 1 ∗ Φ 2) := bigSep_W0 Φ

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [three, three]
  iintro ⟨S0, S1, S2, O0, O1, O2⟩
  isplitl [S0 S1 S2]
  · isplitl [S0]; · iexact S0
    isplitl [S1]; · iexact S1
    iexact S2
  isplitl [O0]; · iexists _; iexact O0
  isplitl [O1]; · iexists _; iexact O1
  iexists _; iexact O2

theorem own_sems : Pipeline.OwnSemFacts cfg0.spec E.wires.at_ := by decide +kernel

/-- Every weakly fair run on the eight devices ends, with the product's array as the proof's data say, every slot of the exchange's
    results filled, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      rw [scopedRest0_eq]
      show iprop((E.plan.before m c ∗ E.leftover m c) ∗ BI.emp) ⊢ iprop(E.plan.before m c ∗ E.leftover m c)
      iintro ⟨H, -⟩; iexact H)
    (fun c => by
      rw [scopedRest0_eq]
      show iprop(E.plan.after m c ∗ E.leftover m c) ⊢ iprop((E.plan.after m c ∗ E.leftover m c) ∗ BI.emp)
      iintro H
      isplitl [H]; · iexact H
      iempintro)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) ∧ M.mem ((c.tc : Thread nD τ).loc main_arg3) = m ((c.tc : Thread nD τ).loc main_arg3)
      ∧ M.mem ((c.tc : Thread nD τ).loc main_arg4) = m ((c.tc : Thread nD τ).loc main_arg4) :=
  ⟨(h.1 0).trans ((dats m 0 c).arrAt_in 0 rfl _), (h.1 1).trans ((dats m 0 c).arrAt_in 1 rfl _), (h.2 0).2, (h.2 1).2, (h.2 2).2⟩

end Cert.GradInIdeal

end
-- ==== Proof.GradIn.Ref.lean ====
/- The reference's run of the gradient of the input projection's weights and of the exchange of three arrays between the chips, on one device. -/
module

public import Idealize.ShloMosaic.Lib.StableHlo.Run
public import Idealize.ShloMosaic.Lib.Quiescent
public import proofs.«01_k».proof.Proof.Shared.Chips
public import proofs.«01_k».proof.Proof.Gen.GradInRefIdeal

@[expose] public section

noncomputable section

namespace Cert.GradInRefIdeal

open Cert.GradInRefIdeal.Gen
open Idealize.ShloMosaic Idealize.ShloMosaic.TcCoe Idealize.ShloMosaic.StableHlo Idealize.SL.Sem

variable {F : FTy → Type} [FloatOps F]

/-- The gradient, -/
abbrev grad (x : S32768x4096.Idx → Elt F .bf16) (y : S32768x20480.Idx → Elt F .bf16) : S64x4096x2560.Idx → Elt F .bf16 :=
  truncf .bf16 (shapeCast S64x4096x2560 (transpose S8x8x4096x2560 [0, 2, 1, 3] (shapeCast S8x4096x8x2560
    (Host.dotGeneral dot_S8x4096x4096_S8x4096x20480_S8x4096x20480_1_1_2_2_0_0 none (shapeCast S8x4096x4096 x Facts₀.shapeCasts_S32768x4096_S8x4096x4096)
      (shapeCast S8x4096x20480 y Facts₀.shapeCasts_S32768x20480_S8x4096x20480)) Facts₀.shapeCasts_S8x4096x20480_S8x4096x8x2560)
    Facts₀.transposes_S8x4096x8x2560_S8x8x4096x2560_0_2_1_3) Facts₀.shapeCasts_S8x8x4096x2560_S64x4096x2560) Facts₀.bitsLt_bf16_f32

/-- the sizes of the exchange's arrays. -/
theorem facts0 : Cert.Shared.ChipFacts 2048 3072 6291456 := by constructor <;> decide
theorem facts1 : Cert.Shared.ChipFacts 2048 512 1048576 := by constructor <;> decide
theorem facts2 : Cert.Shared.ChipFacts 512 4096 2097152 := by constructor <;> decide

/-- The reference's operations. -/
abbrev steps : List (HloOp τ sig (Elt F)) :=
  [ reshape main_arg0 main_v0 rfl Facts₀.shapeCasts_S32768x4096_S8x4096x4096,
    reshape main_arg1 main_v1 rfl Facts₀.shapeCasts_S32768x20480_S8x4096x20480,
    binary main_v0 main_v1 main_v2 (fun l r => Host.dotGeneral dot_S8x4096x4096_S8x4096x20480_S8x4096x20480_1_1_2_2_0_0 none l r),
    reshape main_v2 main_v3 rfl Facts₀.shapeCasts_S8x4096x20480_S8x4096x8x2560,
    unary main_v3 main_v4 (transpose S8x8x4096x2560 [0, 2, 1, 3] · Facts₀.transposes_S8x4096x8x2560_S8x8x4096x2560_0_2_1_3),
    reshape main_v4 main_v5 rfl Facts₀.shapeCasts_S8x8x4096x2560_S64x4096x2560,
    unary main_v5 main_v6 (truncf .bf16 · Facts₀.bitsLt_bf16_f32),
    reshape main_arg2 main_v7 rfl Facts₀.shapeCasts_S32x2048x3072_S2x2x2x2x2x6291456,
    unary main_v7 main_v8 (transpose S2x2x2x2x2x6291456 [3, 4, 2, 1, 0, 5] · Facts₀.transposes_S2x2x2x2x2x6291456_S2x2x2x2x2x6291456_3_4_2_1_0_5),
    unary main_v8 main_v9 (extractStridedSlice S1x2x2x2x2x6291456 ![0, 0, 0, 0, 0, 0] · Facts₀.slices_S2x2x2x2x2x6291456_S1x2x2x2x2x6291456_0_0_0_0_0_0),
    unary main_v8 main_v10 (extractStridedSlice S1x2x2x2x2x6291456 ![1, 0, 0, 0, 0, 0] · Facts₀.slices_S2x2x2x2x2x6291456_S1x2x2x2x2x6291456_1_0_0_0_0_0),
    unary main_v10 main_v11 (Host.reverse [4]),
    binary main_v9 main_v11 main_v12 (fun a b => concatenate S2x2x2x2x2x6291456 0 [⟨S1x2x2x2x2x6291456, a⟩, ⟨S1x2x2x2x2x6291456, b⟩] Facts₀.concatenates_S1x2x2x2x2x6291456_S1x2x2x2x2x6291456_S2x2x2x2x2x6291456_d0),
    unary main_v12 main_v13 (extractStridedSlice S2x1x2x2x2x6291456 ![0, 0, 0, 0, 0, 0] · Facts₀.slices_S2x2x2x2x2x6291456_S2x1x2x2x2x6291456_0_0_0_0_0_0),
    unary main_v12 main_v14 (extractStridedSlice S2x1x2x2x2x6291456 ![0, 1, 0, 0, 0, 0] · Facts₀.slices_S2x2x2x2x2x6291456_S2x1x2x2x2x6291456_0_1_0_0_0_0),
    unary main_v14 main_v15 (Host.reverse [3]),
    binary main_v13 main_v15 main_v16 (fun a b => concatenate S2x2x2x2x2x6291456 1 [⟨S2x1x2x2x2x6291456, a⟩, ⟨S2x1x2x2x2x6291456, b⟩] Facts₀.concatenates_S2x1x2x2x2x6291456_S2x1x2x2x2x6291456_S2x2x2x2x2x6291456_d1),
    reshape main_v16 main_v17 rfl Facts₀.shapeCasts_S2x2x2x2x2x6291456_S32x2048x3072,
    reshape main_arg3 main_v18 rfl Facts₀.shapeCasts_S32x2048x512_S2x2x2x2x2x1048576,
    unary main_v18 main_v19 (transpose S2x2x2x2x2x1048576 [3, 4, 2, 1, 0, 5] · Facts₀.transposes_S2x2x2x2x2x1048576_S2x2x2x2x2x1048576_3_4_2_1_0_5),
    unary main_v19 main_v20 (extractStridedSlice S1x2x2x2x2x1048576 ![0, 0, 0, 0, 0, 0] · Facts₀.slices_S2x2x2x2x2x1048576_S1x2x2x2x2x1048576_0_0_0_0_0_0),
    unary main_v19 main_v21 (extractStridedSlice S1x2x2x2x2x1048576 ![1, 0, 0, 0, 0, 0] · Facts₀.slices_S2x2x2x2x2x1048576_S1x2x2x2x2x1048576_1_0_0_0_0_0),
    unary main_v21 main_v22 (Host.reverse [4]),
    binary main_v20 main_v22 main_v23 (fun a b => concatenate S2x2x2x2x2x1048576 0 [⟨S1x2x2x2x2x1048576, a⟩, ⟨S1x2x2x2x2x1048576, b⟩] Facts₀.concatenates_S1x2x2x2x2x1048576_S1x2x2x2x2x1048576_S2x2x2x2x2x1048576_d0),
    unary main_v23 main_v24 (extractStridedSlice S2x1x2x2x2x1048576 ![0, 0, 0, 0, 0, 0] · Facts₀.slices_S2x2x2x2x2x1048576_S2x1x2x2x2x1048576_0_0_0_0_0_0),
    unary main_v23 main_v25 (extractStridedSlice S2x1x2x2x2x1048576 ![0, 1, 0, 0, 0, 0] · Facts₀.slices_S2x2x2x2x2x1048576_S2x1x2x2x2x1048576_0_1_0_0_0_0),
    unary main_v25 main_v26 (Host.reverse [3]),
    binary main_v24 main_v26 main_v27 (fun a b => concatenate S2x2x2x2x2x1048576 1 [⟨S2x1x2x2x2x1048576, a⟩, ⟨S2x1x2x2x2x1048576, b⟩] Facts₀.concatenates_S2x1x2x2x2x1048576_S2x1x2x2x2x1048576_S2x2x2x2x2x1048576_d1),
    reshape main_v27 main_v28 rfl Facts₀.shapeCasts_S2x2x2x2x2x1048576_S32x2048x512,
    reshape main_arg4 main_v29 rfl Facts₀.shapeCasts_S32x512x4096_S2x2x2x2x2x2097152,
    unary main_v29 main_v30 (transpose S2x2x2x2x2x2097152 [3, 4, 2, 1, 0, 5] · Facts₀.transposes_S2x2x2x2x2x2097152_S2x2x2x2x2x2097152_3_4_2_1_0_5),
    unary main_v30 main_v31 (extractStridedSlice S1x2x2x2x2x2097152 ![0, 0, 0, 0, 0, 0] · Facts₀.slices_S2x2x2x2x2x2097152_S1x2x2x2x2x2097152_0_0_0_0_0_0),
    unary main_v30 main_v32 (extractStridedSlice S1x2x2x2x2x2097152 ![1, 0, 0, 0, 0, 0] · Facts₀.slices_S2x2x2x2x2x2097152_S1x2x2x2x2x2097152_1_0_0_0_0_0),
    unary main_v32 main_v33 (Host.reverse [4]),
    binary main_v31 main_v33 main_v34 (fun a b => concatenate S2x2x2x2x2x2097152 0 [⟨S1x2x2x2x2x2097152, a⟩, ⟨S1x2x2x2x2x2097152, b⟩] Facts₀.concatenates_S1x2x2x2x2x2097152_S1x2x2x2x2x2097152_S2x2x2x2x2x2097152_d0),
    unary main_v34 main_v35 (extractStridedSlice S2x1x2x2x2x2097152 ![0, 0, 0, 0, 0, 0] · Facts₀.slices_S2x2x2x2x2x2097152_S2x1x2x2x2x2097152_0_0_0_0_0_0),
    unary main_v34 main_v36 (extractStridedSlice S2x1x2x2x2x2097152 ![0, 1, 0, 0, 0, 0] · Facts₀.slices_S2x2x2x2x2x2097152_S2x1x2x2x2x2097152_0_1_0_0_0_0),
    unary main_v36 main_v37 (Host.reverse [3]),
    binary main_v35 main_v37 main_v38 (fun a b => concatenate S2x2x2x2x2x2097152 1 [⟨S2x1x2x2x2x2097152, a⟩, ⟨S2x1x2x2x2x2097152, b⟩] Facts₀.concatenates_S2x1x2x2x2x2097152_S2x1x2x2x2x2097152_S2x2x2x2x2x2097152_d1),
    reshape main_v38 main_v39 rfl Facts₀.shapeCasts_S2x2x2x2x2x2097152_S32x512x4096 ]

theorem main_steps (c : Dev nD) : main (F := F) c = seq steps := rfl

variable (V : Valuation τ sig (Elt F))

theorem steps_v6 : after steps V (main_v6 : DevRef τ sig) = grad (V (main_arg0 : DevRef τ sig)) (V (main_arg1 : DevRef τ sig)) := by after_results; rfl
theorem steps_v17 : after steps V (main_v17 : DevRef τ sig) = Cert.Shared.received facts0 (V (main_arg2 : DevRef τ sig)) := by after_results; rfl
theorem steps_v28 : after steps V (main_v28 : DevRef τ sig) = Cert.Shared.received facts1 (V (main_arg3 : DevRef τ sig)) := by after_results; rfl
theorem steps_v39 : after steps V (main_v39 : DevRef τ sig) = Cert.Shared.received facts2 (V (main_arg4 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results
theorem steps_arg3 : after steps V (main_arg3 : DevRef τ sig) = V (main_arg3 : DevRef τ sig) := by after_results
theorem steps_arg4 : after steps V (main_arg4 : DevRef τ sig) = V (main_arg4 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨reshape_bufs_sub .., reshape_bufs_sub .., binary_bufs_sub .., reshape_bufs_sub .., unary_bufs_sub .., reshape_bufs_sub .., unary_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v6) = grad (m ((c.tc : Thread nD τ).loc main_arg0)) (m ((c.tc : Thread nD τ).loc main_arg1)))
  ∧ (s.mem ((c.tc : Thread nD τ).loc main_v17) = Cert.Shared.received facts0 (m ((c.tc : Thread nD τ).loc main_arg2)))
  ∧ (s.mem ((c.tc : Thread nD τ).loc main_v28) = Cert.Shared.received facts1 (m ((c.tc : Thread nD τ).loc main_arg3)))
  ∧ (s.mem ((c.tc : Thread nD τ).loc main_v39) = Cert.Shared.received facts2 (m ((c.tc : Thread nD τ).loc main_arg4)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v6).trans (steps_v6 _), (h c main_v17).trans (steps_v17 _), (h c main_v28).trans (steps_v28 _), (h c main_v39).trans (steps_v39 _),
        (h c main_arg0).trans (steps_arg0 _), (h c main_arg1).trans (steps_arg1 _), (h c main_arg2).trans (steps_arg2 _), (h c main_arg3).trans (steps_arg3 _), (h c main_arg4).trans (steps_arg4 _)⟩,
      sem_eq_zero_of_no_sems (by decide) r.2⟩)
    (run_seq none_scoped_refs none_scoped_sems defs main (fun _ => steps) main_steps (fun _ => steps_local) m g)

end Cert.GradInRefIdeal

end
-- ==== Proof.GradIn.Value.lean ====
/- What the gradient of the input projection's weights and the exchange beside it end with is each device's part of the reference's results. -/
module

public import proofs.«01_k».proof.Proof.GradIn.Run
public import proofs.«01_k».proof.Proof.GradIn.Ref
public import proofs.«01_k».proof.Proof.Shared.Stack

@[expose] public section

noncomputable section

namespace Cert.GradInIdeal

open Idealize.ShloMosaic hiding ix2 ix3
open Idealize.ShloMosaic.TcCoe
open Idealize.ShloMosaic.ValueIdx (ix2 ix3)
open Cert.GradInIdeal.Gen Cert.GradInRefIdeal.Gen Cert.Shared Cert.Shared.Direct

section Exchange

variable {F : FTy → Type} [FloatOps F] {m : (ℓ : Loc nD τ sig) → Buf (Elt F) ℓ}

theorem tiles0 : Layout.Tiles (Rows 4 2048 3072) (Rows 32 2048 3072) 0 8 := by decide
theorem tiles1 : Layout.Tiles (Rows 4 2048 512) (Rows 32 2048 512) 0 8 := by decide
theorem tiles2 : Layout.Tiles (Rows 4 512 4096) (Rows 32 512 4096) 0 8 := by decide

theorem exchanged0 (c : Dev nD) (G : S4x2048x3072.Idx → Elt F .bf16) (x : (Rows 32 2048 3072).Idx → Elt F .bf16) (hG : E.Full m c 0 G)
    (hm : ∀ d : Dev 8, m ((d.tc : Thread nD τ).loc main_arg2) = Layout.block S4x2048x3072 (Rows 32 2048 3072) 0 8 d x) :
    G = Layout.block S4x2048x3072 (Rows 32 2048 3072) 0 8 c (Cert.Shared.received Cert.GradInRefIdeal.facts0 x) :=
  chips_received (p := 2048) (q := 3072) Cert.GradInRefIdeal.facts0 c G (fun d => m ((d.tc : Thread nD τ).loc main_arg2)) x
    (fun t z => ((E.sheet 0).piece t).dst.view.emb z) (fun t d z => (((E.sheet 0).piece t).src d).view.emb z)
    (squeezes_S1x2048x3072_S2048x3072 : S1x2048x3072.Squeezes S2048x3072).numel_eq
    (fun _ _ _ => rfl) (fun _ _ _ _ => rfl) (fun t => E.plan.who t c) (fun t => chips_who _ num num_inj t c) (fun t z => congrFun (hG t) z) tiles0 hm

theorem exchanged1 (c : Dev nD) (G : S4x2048x512.Idx → Elt F .bf16) (x : (Rows 32 2048 512).Idx → Elt F .bf16) (hG : E.Full m c 1 G)
    (hm : ∀ d : Dev 8, m ((d.tc : Thread nD τ).loc main_arg3) = Layout.block S4x2048x512 (Rows 32 2048 512) 0 8 d x) :
    G = Layout.block S4x2048x512 (Rows 32 2048 512) 0 8 c (Cert.Shared.received Cert.GradInRefIdeal.facts1 x) :=
  chips_received (p := 2048) (q := 512) Cert.GradInRefIdeal.facts1 c G (fun d => m ((d.tc : Thread nD τ).loc main_arg3)) x
    (fun t z => ((E.sheet 1).piece t).dst.view.emb z) (fun t d z => (((E.sheet 1).piece t).src d).view.emb z)
    (squeezes_S1x2048x512_S2048x512 : S1x2048x512.Squeezes S2048x512).numel_eq
    (fun _ _ _ => rfl) (fun _ _ _ _ => rfl) (fun t => E.plan.who t c) (fun t => chips_who _ num num_inj t c) (fun t z => congrFun (hG t) z) tiles1 hm

theorem exchanged2 (c : Dev nD) (G : S4x512x4096.Idx → Elt F .bf16) (x : (Rows 32 512 4096).Idx → Elt F .bf16) (hG : E.Full m c 2 G)
    (hm : ∀ d : Dev 8, m ((d.tc : Thread nD τ).loc main_arg4) = Layout.block S4x512x4096 (Rows 32 512 4096) 0 8 d x) :
    G = Layout.block S4x512x4096 (Rows 32 512 4096) 0 8 c (Cert.Shared.received Cert.GradInRefIdeal.facts2 x) :=
  chips_received (p := 512) (q := 4096) Cert.GradInRefIdeal.facts2 c G (fun d => m ((d.tc : Thread nD τ).loc main_arg4)) x
    (fun t z => ((E.sheet 2).piece t).dst.view.emb z) (fun t d z => (((E.sheet 2).piece t).src d).view.emb z)
    (squeezes_S1x512x4096_S512x4096 : S1x512x4096.Squeezes S512x4096).numel_eq
    (fun _ _ _ => rfl) (fun _ _ _ _ => rfl) (fun t => E.plan.who t c) (fun t => chips_who _ num num_inj t c) (fun t z => congrFun (hG t) z) tiles2 hm

end Exchange

variable (m : (ℓ : Loc nD τ sig) → Buf (Elt Ideal) ℓ)

theorem index0 : ∀ t : Fin cfg0.N, win0_0.index t (0 : Fin 2) = 0 ∧ win0_0.index t (1 : Fin 2) = t.val % 8 := by decide +kernel
theorem index1 : ∀ t : Fin cfg0.N, win0_1.index t (0 : Fin 2) = 0 ∧ win0_1.index t (1 : Fin 2) = t.val / 8 := by decide +kernel
theorem index2 : ∀ t : Fin cfg0.N, win0_2.index t (0 : Fin 3) = t.val / 16 ∧ win0_2.index t (1 : Fin 3) = t.val % 8 ∧ win0_2.index t (2 : Fin 3) = t.val / 8 % 2 := by decide +kernel

theorem tilesX : Layout.Tiles S4096x4096 Cert.GradInRefIdeal.S32768x4096 0 8 := by decide
theorem tilesY : Layout.Tiles S4096x20480 Cert.GradInRefIdeal.S32768x20480 0 8 := by decide
theorem tilesZ : Layout.Tiles S8x4096x2560 Cert.GradInRefIdeal.S64x4096x2560 0 8 := by decide

/-- The product's array is the device's part of the reference's. -/
theorem grad_final (c : Dev nD) (x : Cert.GradInRefIdeal.S32768x4096.Idx → EReal) (y : Cert.GradInRefIdeal.S32768x20480.Idx → EReal)
    (hx : m ((c.tc : Thread nD τ).loc main_arg0) = Layout.block S4096x4096 Cert.GradInRefIdeal.S32768x4096 0 8 c x)
    (hy : m ((c.tc : Thread nD τ).loc main_arg1) = Layout.block S4096x20480 Cert.GradInRefIdeal.S32768x20480 0 8 c y) :
    (dats m 0 c).arrAt 2 cfg0.N = Layout.block S8x4096x2560 Cert.GradInRefIdeal.S64x4096x2560 0 8 c (Cert.GradInRefIdeal.grad (F := Ideal) x y) := by
  refine (dats m 0 c).arrAt_eq_of_covers 2 _ (by decide +kernel) fun t _ z => ?_
  have hc : c.val < 8 := c.isLt
  have hN : t.val < 128 := t.isLt
  obtain ⟨e0, e1, e2⟩ := index2 t
  have z0 : (z 0).val < 1 := (z 0).isLt
  have z1 : (z 1).val < 512 := (z 1).isLt
  have z2 : (z 2).val < 1280 := (z 2).isLt
  let a : Fin 4096 := ⟨t.val % 8 * 512 + (z 1).val, by omega⟩
  let b : Fin 20480 := ⟨t.val / 8 * 1280 + (z 2).val, by omega⟩
  let e : Fin 64 := ⟨c.val * 8 + t.val / 16, by omega⟩
  let s : Fin 2560 := ⟨t.val / 8 % 2 * 1280 + (z 2).val, by omega⟩
  let row : Fin 4096 → Fin 32768 := fun l => ⟨c.val * 4096 + l.val, by omega⟩
  obtain ⟨d0, d1⟩ := index0 t
  obtain ⟨f0, f1⟩ := index1 t
  have hb := grad_block (D := 8) (K := 4096) (M := 4096) (N := 20480) (J := 2560) (P := 64) (mt := 512) (nt := 1280) (DK := 32768) dot_S4096x512_S4096x1280_S512x1280_0_0_1_1_n_n.wf
    Cert.GradInRefIdeal.dot_S8x4096x4096_S8x4096x20480_S8x4096x20480_1_1_2_2_0_0.wf x y (blk m c 0 t) (blk m c 1 t)
    shapeCasts_S4096x512_S4096x512 shapeCasts_S4096x1280_S4096x1280 Cert.GradInIdeal.Gen.bitsLt_bf16_f32 shapeCasts_S512x1280_S1x512x1280
    Cert.GradInRefIdeal.Facts₀.shapeCasts_S32768x4096_S8x4096x4096 Cert.GradInRefIdeal.Facts₀.shapeCasts_S32768x20480_S8x4096x20480
    Cert.GradInRefIdeal.Facts₀.shapeCasts_S8x4096x20480_S8x4096x8x2560 Cert.GradInRefIdeal.Facts₀.transposes_S8x4096x8x2560_S8x8x4096x2560_0_2_1_3
    Cert.GradInRefIdeal.Facts₀.shapeCasts_S8x8x4096x2560_S64x4096x2560 Cert.GradInRefIdeal.Facts₀.bitsLt_bf16_f32 rfl c ⟨t.val / 16, by omega⟩ e rfl a s row (fun _ => rfl) b
    (by show t.val / 8 * 1280 + (z 2).val = t.val / 16 * 2560 + (t.val / 8 % 2 * 1280 + (z 2).val); omega) ⟨(z 1).val, z1⟩ ⟨(z 2).val, z2⟩
    (fun l => by
      refine Eq.trans (congrArg (m ((c.tc : Thread nD τ).loc main_arg0)) (show _ = ix2 l a from funext fun k => Fin.ext ?_))
        ((congrFun hx _).trans (rows_apply tilesX c x l a (row l) rfl))
      match k with
      | ⟨0, _⟩ => show win0_0.index t (0 : Fin 2) * 4096 + 1 * l.val = l.val; omega
      | ⟨1, _⟩ => show win0_0.index t (1 : Fin 2) * 512 + 1 * (z 1).val = t.val % 8 * 512 + (z 1).val; omega)
    (fun l => by
      refine Eq.trans (congrArg (m ((c.tc : Thread nD τ).loc main_arg1)) (show _ = ix2 l b from funext fun k => Fin.ext ?_))
        ((congrFun hy _).trans (rows_apply tilesY c y l b (row l) rfl))
      match k with
      | ⟨0, _⟩ => show win0_1.index t (0 : Fin 2) * 4096 + 1 * l.val = l.val; omega
      | ⟨1, _⟩ => show win0_1.index t (1 : Fin 2) * 1280 + 1 * (z 2).val = t.val / 8 * 1280 + (z 2).val; omega)
  have hi : tilesZ.idx c (((cfg0.win 2).blk t).view.emb z) = ix3 e a s := by
    funext x
    apply Fin.ext
    match x with
    | ⟨0, _⟩ => refine (tilesZ.idx_val c _ 0).trans ?_; show c.val * 8 + (win0_2.index t (0 : Fin 3) * 1 + 1 * (z 0).val) = c.val * 8 + t.val / 16; omega
    | ⟨1, _⟩ => refine (tilesZ.idx_val c _ 1).trans ?_; show win0_2.index t (1 : Fin 3) * 512 + 1 * (z 1).val = _; rw [e1, Nat.one_mul]
    | ⟨2, _⟩ => refine (tilesZ.idx_val c _ 2).trans ?_; show win0_2.index t (2 : Fin 3) * 1280 + 1 * (z 2).val = _; rw [e2, Nat.one_mul]
  rw [Layout.block_apply]
  show (k0_pay1 (F := Ideal) (blk m c 0 t) (blk m c 1 t) : S1x512x1280.Idx → EReal) z = Cert.GradInRefIdeal.grad (F := Ideal) x y (tilesZ.idx c (((cfg0.win 2).blk t).view.emb z))
  rw [hi]
  exact Eq.trans (congrArg (k0_pay1 (F := Ideal) (blk m c 0 t) (blk m c 1 t) : S1x512x1280.Idx → EReal) (block_index z)) hb

end Cert.GradInIdeal

end
-- ==== Proof.Proj.Body.lean ====
/- The product with the transposed input projection beside the exchange of three arrays between the chips: where the exchange's pieces lie,
   what the product's accumulator holds at each point, and the body on one device at one point. -/
module

public import proofs.«01_k».proof.Proof.Shared.Chips
public import proofs.«01_k».proof.Proof.Shared.Grid
public import proofs.«01_k».proof.Proof.Gen.ProjIdeal.Skeleton
public import proofs.«01_k».proof.Proof.Gen.ProjIdeal.Points
public import proofs.«01_k».proof.Proof.Gen.ProjIdeal.Launch

@[expose] public section

noncomputable section

namespace Cert.ProjIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal.Gen Cert.Shared Cert.Shared.Direct

theorem words0 : ∀ t : Fin 4, (row 4096 2560 t).WholeWords (EltTy.packing .bf16) := by decide +kernel
theorem words1 : ∀ t : Fin 4, (row 512 256 t).WholeWords (EltTy.packing .bf16) := by decide +kernel

/-- The arrays exchanged and their results. -/
def sheets : Fin 3 → Sheet sig (Fin 4)
  | 0 => chipSheet 4096 2560 (Memref.whole main_arg2) (Memref.whole main_v1_1) (Memref.isWhole_whole _) (Memref.isWhole_whole _) rfl
      squeezes_S1x4096x2560_S4096x2560 words0 (by decide)
  | 1 => chipSheet 512 256 (Memref.whole main_arg3) (Memref.whole main_v1_2) (Memref.isWhole_whole _) (Memref.isWhole_whole _) rfl
      squeezes_S1x512x256_S512x256 words1 (by decide)
  | 2 => chipSheet 512 256 (Memref.whole main_arg4) (Memref.whole main_v1_3) (Memref.isWhole_whole _) (Memref.isWhole_whole _) rfl
      squeezes_S1x512x256_S512x256 words1 (by decide)

def num : Kind (Fin 3) (Fin 1) (Fin 3) → DmaSem sig
  | (a, .inl _) => ⟨24 + a.val, by show _ < 27; omega⟩
  | (a, .inr (.inl j)) => ⟨6 + 3 * a.val + j.val, by show _ < 27; omega⟩
  | (a, .inr (.inr j)) => ⟨15 + 3 * a.val + j.val, by show _ < 27; omega⟩

theorem num_inj : Function.Injective num := by decide +kernel

/-- The exchange. -/
def E : Setup sig (Fin 3) (Fin 1) (Fin 3) (Fin 4) := chips sheets num num_inj

/-- The place of the piece for slot `t`. -/
abbrev place (t : Fin 4) (d : Dev 8) : Fin 3 → ℕ := ![(chip t d).val, 0, 0]

theorem own_places : ∀ d : Dev 8, k0_off1 d = place 0 d ∧ k0_off2 d = place 0 d := by decide +kernel
theorem places0 : ∀ d : Dev 8, k0_off3 d = place 1 d ∧ k0_off4 d = place 2 d ∧ k0_off5 d = place 3 d := by decide +kernel
theorem places1 : ∀ d : Dev 8, k0_off6 d = place 1 d ∧ k0_off7 d = place 2 d ∧ k0_off8 d = place 3 d := by decide +kernel
theorem peers0 : ∀ d : Dev 8, k0_dev1 d = (across 1 d).val ∧ k0_dev2 d = (across 2 d).val ∧ k0_dev3 d = (across 3 d).val := by decide +kernel
theorem peers1 : ∀ d : Dev 8, k0_dev4 d = (across 1 d).val ∧ k0_dev5 d = (across 2 d).val ∧ k0_dev6 d = (across 3 d).val := by decide +kernel
theorem peers2 : ∀ d : Dev 8, k0_dev7 d = (across 1 d).val ∧ k0_dev8 d = (across 2 d).val ∧ k0_dev9 d = (across 3 d).val := by decide +kernel

variable {F : FTy → Type} [FloatOps F] (m : (ℓ : Loc nD τ sig) → Buf (Elt F) ℓ)

/-- The copies and the transfers in order. -/
def homes : List (Fin 3 × Fin 1) := [(0, 0), (1, 0), (2, 0)]
def ways : List (Fin 3 × Fin 3) := [(0, 0), (0, 1), (0, 2), (1, 0), (1, 1), (1, 2), (2, 0), (2, 1), (2, 2)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 127 := by decide +kernel
theorem cond4_iff : ∀ t : Fin cfg0.N, k0_cond4 (grid0.coords t) = 1#1 ↔ t.val % 8 = 7 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 8 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 8 ≠ 0 := by decide +kernel

/-- What a sweep's step leaves in the accumulator. -/
def step (n : ℕ) (x : Vec F S1024x2560 .bf16) (y : Vec F S1x1024x2560 .bf16) (z : Vec F S1024x1024 .f32) : Vec F S1024x1024 .f32 :=
  if n % 8 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x2560 .bf16) (h₀ : b₀.IsWhole) (b₁ : Memref sig .tc .vmem S1x1024x2560 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x2560 .bf16) (y : Vec F S1x1024x2560 .bf16) (z d : Vec F S1024x1024 .f32) :
    iprop(E.point 128 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_proj_in (F := F) (grid0.coords t) b₀ h₀ b₁ h₁ (Memref.whole main_arg2) (Memref.isWhole_whole _) (Memref.whole main_arg3) (Memref.isWhole_whole _)
          (Memref.whole main_arg4) (Memref.isWhole_whole _) b₂ h₂ (Memref.whole main_v1_1) (Memref.isWhole_whole _) (Memref.whole main_v1_2) (Memref.isWhole_whole _)
          (Memref.whole main_v1_3) (Memref.isWhole_whole _) b₃ h₃ cc0_scratch1 cc0_scratch2 cc0_scratch3)
        (fun _ => iprop(E.point 128 ways m c (t.val + 1) ∗ owns (c.tc : Thread nD τ) b₀ fullShare x ∗ owns (c.tc : Thread nD τ) b₁ fullShare y
          ∗ owns (c.tc : Thread nD τ) b₂ fullShare (if t.val % 8 = 7 then step t.val x y z else d)
          ∗ owns (c.tc : Thread nD τ) b₃ fullShare (step t.val x y z) ∗ L)) := by
  rw [cc0_bwd_proj_in_eq_skeleton]
  unfold cc0_bwd_proj_in_skel
  have tN : t.val < 128 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part3_eq_skeleton, k0_part4_eq_skeleton, k0_part5_eq_skeleton, k0_part6_eq_skeleton,
      k0_part1_skel, k0_part2_skel, k0_part3_skel, k0_part4_skel, k0_part5_skel, k0_part6_skel, Prog.lift, Prog.bind_op, Prog.bind_ret, Prog.pure_eq_ret, wp_deviceId]
    have hp : E.point 128 ways m c t.val = _ := (congrArg (E.point 128 ways m c) t0).trans (E.point_first 128 ways m c)
    rw [hp, E.point_mid 128 ways m c (by omega : t.val + 1 ≠ 0) (by omega)]
    refine (E.first homes ways m c (defs₀ (F := F)) 𝒱 (by decide +kernel) (by decide +kernel) (by decide +kernel) (by decide +kernel) _).trans ?_
    unfold homes ways
    obtain ⟨o0, o1⟩ := own_places c
    obtain ⟨x0, y0, xy0⟩ := places0 c
    obtain ⟨x1, y1, xy1⟩ := places1 c
    obtain ⟨dx0, dy0, dxy0⟩ := peers0 c
    obtain ⟨dx1, dy1, dxy1⟩ := peers1 c
    obtain ⟨dx2, dy2, dxy2⟩ := peers2 c
    refine E.plan.next_copy (copy_congr (row_eq _ _ 0 c _ o0) rfl rfl) ?_
    refine E.plan.next_copy (copy_congr (row_eq _ _ 0 c _ o1) rfl rfl) ?_
    refine E.plan.next_copy (copy_congr (row_eq _ _ 0 c _ o1) rfl rfl) ?_
    refine E.plan.next_send (send_congr (Fin.ext dx0) (row_eq _ _ 1 c _ x0) rfl rfl rfl) ?_
    refine E.plan.next_send (send_congr (Fin.ext dy0) (row_eq _ _ 2 c _ y0) rfl rfl rfl) ?_
    refine E.plan.next_send (send_congr (Fin.ext dxy0) (row_eq _ _ 3 c _ xy0) rfl rfl rfl) ?_
    refine E.plan.next_send (send_congr (Fin.ext dx1) (row_eq _ _ 1 c _ x1) rfl rfl rfl) ?_
    refine E.plan.next_send (send_congr (Fin.ext dy1) (row_eq _ _ 2 c _ y1) rfl rfl rfl) ?_
    refine E.plan.next_send (send_congr (Fin.ext dxy1) (row_eq _ _ 3 c _ xy1) rfl rfl rfl) ?_
    refine E.plan.next_send (send_congr (Fin.ext dx2) (row_eq _ _ 1 c _ x1) rfl rfl rfl) ?_
    refine E.plan.next_send (send_congr (Fin.ext dy2) (row_eq _ _ 2 c _ y1) rfl rfl rfl) ?_
    refine E.plan.next_send (send_congr (Fin.ext dxy2) (row_eq _ _ 3 c _ xy1) rfl rfl rfl) ?_
    unfold Plan.sends
    simp only [List.map_nil]
    rw [if_neg (by omega : ¬ t.val % 8 = 7), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 128 ways m c t0 (by omega : t.val ≠ 128)
  by_cases t2 : t.val % 8 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 128 ways m c (by omega : t.val + 1 ≠ 0) (by omega)
    rw [hp, hq, if_neg (by omega : ¬ t.val % 8 = 7), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 8 = 7
  · have c4 := (cond4_iff t).mpr t4
    by_cases t5 : t.val = 127
    · have c5 := (cond5_iff t).mpr t5
      simp only [dif_neg c1, dif_neg c2, dif_pos c3, dif_pos c4, dif_pos c5,
        k0_part7_eq_skeleton, k0_part8_eq_skeleton, k0_part9_eq_skeleton, k0_part10_eq_skeleton, k0_part11_eq_skeleton, k0_part12_eq_skeleton, k0_part13_eq_skeleton, k0_part14_eq_skeleton,
        k0_part7_skel, k0_part8_skel, k0_part9_skel, k0_part10_skel, k0_part11_skel, k0_part12_skel, k0_part13_skel, k0_part14_skel, Prog.lift, Prog.bind_op, Prog.bind_ret, Prog.pure_eq_ret, wp_deviceId]
      have hq : E.point 128 ways m c (t.val + 1) = _ := (congrArg (fun n => E.point 128 ways m c (n + 1)) t5).trans (E.point_last 128 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 21 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 128 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  have c4 := mt (cond4_iff t).mp t4
  have c5 := mt (cond5_iff t).mp (by omega)
  simp only [dif_neg c1, dif_neg c2, dif_pos c3, dif_neg c4, dif_neg c5, Prog.lift, Prog.bind_op, Prog.bind_ret, Prog.pure_eq_ret]
  have hq := E.point_mid 128 ways m c (by omega : t.val + 1 ≠ 0) (by omega)
  rw [hp, hq, if_neg t4, hz]
  exact next_add (defs₀ (F := F)) 𝒱 c (wp_done (defs₀ (F := F)) 𝒱 c .rfl)

end Cert.ProjIdeal
-- ==== Proof.Proj.Run.lean ====
/- The run of the product with the transposed input projection and of the exchange of three arrays between the chips, on eight devices. -/
module

public import proofs.«01_k».proof.Proof.Proj.Body
public import proofs.«01_k».proof.Proof.Shared.Accumulate

@[expose] public section

noncomputable section

namespace Cert.ProjIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.ProjIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 8 (start m c) (add m c) n h

/-- The exchange and the accumulator's buffer before point `n`. -/
def Φ (c : Dev nD) (n : ℕ) : sProp (XM nD τ sig (Elt F)) := E.swept 128 m c 8 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 8 = 7 → cfg0.idle 2 (grid0.coords t) = true := by decide +kernel
theorem live2 : ∀ t : Fin cfg0.N, t.val % 8 = 7 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 8 = 7 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 128 ways m c (dats m 0 c) t defs₀ Variants.none (p := Ready 8 (start m c) (add m c) t.val) (p' := Ready 8 (start m c) (add m c) (t.val + 1))
    (f := sweepStep 8 (start m c) (add m c) t) (L := E.leftover m c) (a₃ := owns (c.tc : Thread nD τ) (Memref.whole cc0_scratch0) fullShare)
    rfl rfl rfl rfl (fun _ => trivial) (fun _ => .rfl) (fun _ => .rfl) (ready_step 8 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 8 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem three (Φ : Fin 3 → sProp (XM nD τ sig (Elt F))) : bigSep Finset.univ Φ = iprop(Φ 0 ∗ Φ 1 ∗ Φ 2) := bigSep_W0 Φ

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [three, three]
  iintro ⟨S0, S1, S2, O0, O1, O2⟩
  isplitl [S0 S1 S2]
  · isplitl [S0]; · iexact S0
    isplitl [S1]; · iexact S1
    iexact S2
  isplitl [O0]; · iexists _; iexact O0
  isplitl [O1]; · iexists _; iexact O1
  iexists _; iexact O2

theorem own_sems : Pipeline.OwnSemFacts cfg0.spec E.wires.at_ := by decide +kernel

/-- Every weakly fair run on the eight devices ends, with the product's array as the proof's data say, every slot of the exchange's
    results filled, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 128 m c 8 (start m c) (add m c) (Memref.whole cc0_scratch0)
      simp only [owns_whole] at h
      rw [scopedRest0_eq]; exact h)
    (fun c => by
      have h := E.swept_out 128 m c 8 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) ∧ M.mem ((c.tc : Thread nD τ).loc main_arg3) = m ((c.tc : Thread nD τ).loc main_arg3)
      ∧ M.mem ((c.tc : Thread nD τ).loc main_arg4) = m ((c.tc : Thread nD τ).loc main_arg4) :=
  ⟨(h.1 0).trans ((dats m 0 c).arrAt_in 0 rfl _), (h.1 1).trans ((dats m 0 c).arrAt_in 1 rfl _), (h.2 0).2, (h.2 1).2, (h.2 2).2⟩

end Cert.ProjIdeal

end
-- ==== Proof.Proj.Ref.lean ====
/- The reference's run of the product with the transposed input projection and of the exchange of three arrays between the chips, on one device. -/
module

public import Idealize.ShloMosaic.Lib.StableHlo.Run
public import Idealize.ShloMosaic.Lib.Quiescent
public import proofs.«01_k».proof.Proof.Shared.Chips
public import proofs.«01_k».proof.Proof.Gen.ProjRefIdeal

@[expose] public section

noncomputable section

namespace Cert.ProjRefIdeal

open Cert.ProjRefIdeal.Gen
open Idealize.ShloMosaic Idealize.ShloMosaic.TcCoe Idealize.ShloMosaic.StableHlo Idealize.SL.Sem

variable {F : FTy → Type} [FloatOps F]

/-- The product, -/
abbrev product (x : S32768x20480.Idx → Elt F .bf16) (w : S8x4096x2560.Idx → Elt F .bf16) : S32768x4096.Idx → Elt F .f32 :=
  Host.dotGeneral dot_S32768x20480_S20480x4096_S32768x4096_1_0_0_1_n_n none x
    (transpose S20480x4096 [1, 0] (shapeCast S4096x20480 (transpose S4096x8x2560 [1, 0, 2] w Facts₀.transposes_S8x4096x2560_S4096x8x2560_1_0_2)
      Facts₀.shapeCasts_S4096x8x2560_S4096x20480) Facts₀.transposes_S4096x20480_S20480x4096_1_0)

/-- the sizes of the exchange's arrays. -/
theorem facts0 : Cert.Shared.ChipFacts 4096 2560 10485760 := by constructor <;> decide
theorem facts1 : Cert.Shared.ChipFacts 512 256 131072 := by constructor <;> decide

/-- The reference's operations. -/
abbrev steps : List (HloOp τ sig (Elt F)) :=
  [ unary main_arg1 main_v0 (transpose S4096x8x2560 [1, 0, 2] · Facts₀.transposes_S8x4096x2560_S4096x8x2560_1_0_2),
    reshape main_v0 main_v1 rfl Facts₀.shapeCasts_S4096x8x2560_S4096x20480,
    unary main_v1 main_v2 (transpose S20480x4096 [1, 0] · Facts₀.transposes_S4096x20480_S20480x4096_1_0),
    binary main_arg0 main_v2 main_v3 (fun l r => Host.dotGeneral dot_S32768x20480_S20480x4096_S32768x4096_1_0_0_1_n_n none l r),
    reshape main_arg2 main_v4 rfl Facts₀.shapeCasts_S32x4096x2560_S2x2x2x2x2x10485760,
    unary main_v4 main_v5 (transpose S2x2x2x2x2x10485760 [3, 4, 2, 1, 0, 5] · Facts₀.transposes_S2x2x2x2x2x10485760_S2x2x2x2x2x10485760_3_4_2_1_0_5),
    unary main_v5 main_v6 (extractStridedSlice S1x2x2x2x2x10485760 ![0, 0, 0, 0, 0, 0] · Facts₀.slices_S2x2x2x2x2x10485760_S1x2x2x2x2x10485760_0_0_0_0_0_0),
    unary main_v5 main_v7 (extractStridedSlice S1x2x2x2x2x10485760 ![1, 0, 0, 0, 0, 0] · Facts₀.slices_S2x2x2x2x2x10485760_S1x2x2x2x2x10485760_1_0_0_0_0_0),
    unary main_v7 main_v8 (Host.reverse [4]),
    binary main_v6 main_v8 main_v9 (fun a b => concatenate S2x2x2x2x2x10485760 0 [⟨S1x2x2x2x2x10485760, a⟩, ⟨S1x2x2x2x2x10485760, b⟩] Facts₀.concatenates_S1x2x2x2x2x10485760_S1x2x2x2x2x10485760_S2x2x2x2x2x10485760_d0),
    unary main_v9 main_v10 (extractStridedSlice S2x1x2x2x2x10485760 ![0, 0, 0, 0, 0, 0] · Facts₀.slices_S2x2x2x2x2x10485760_S2x1x2x2x2x10485760_0_0_0_0_0_0),
    unary main_v9 main_v11 (extractStridedSlice S2x1x2x2x2x10485760 ![0, 1, 0, 0, 0, 0] · Facts₀.slices_S2x2x2x2x2x10485760_S2x1x2x2x2x10485760_0_1_0_0_0_0),
    unary main_v11 main_v12 (Host.reverse [3]),
    binary main_v10 main_v12 main_v13 (fun a b => concatenate S2x2x2x2x2x10485760 1 [⟨S2x1x2x2x2x10485760, a⟩, ⟨S2x1x2x2x2x10485760, b⟩] Facts₀.concatenates_S2x1x2x2x2x10485760_S2x1x2x2x2x10485760_S2x2x2x2x2x10485760_d1),
    reshape main_v13 main_v14 rfl Facts₀.shapeCasts_S2x2x2x2x2x10485760_S32x4096x2560,
    reshape main_arg3 main_v15 rfl Facts₀.shapeCasts_S32x512x256_S2x2x2x2x2x131072,
    unary main_v15 main_v16 (transpose S2x2x2x2x2x131072 [3, 4, 2, 1, 0, 5] · Facts₀.transposes_S2x2x2x2x2x131072_S2x2x2x2x2x131072_3_4_2_1_0_5),
    unary main_v16 main_v17 (extractStridedSlice S1x2x2x2x2x131072 ![0, 0, 0, 0, 0, 0] · Facts₀.slices_S2x2x2x2x2x131072_S1x2x2x2x2x131072_0_0_0_0_0_0),
    unary main_v16 main_v18 (extractStridedSlice S1x2x2x2x2x131072 ![1, 0, 0, 0, 0, 0] · Facts₀.slices_S2x2x2x2x2x131072_S1x2x2x2x2x131072_1_0_0_0_0_0),
    unary main_v18 main_v19 (Host.reverse [4]),
    binary main_v17 main_v19 main_v20 (fun a b => concatenate S2x2x2x2x2x131072 0 [⟨S1x2x2x2x2x131072, a⟩, ⟨S1x2x2x2x2x131072, b⟩] Facts₀.concatenates_S1x2x2x2x2x131072_S1x2x2x2x2x131072_S2x2x2x2x2x131072_d0),
    unary main_v20 main_v21 (extractStridedSlice S2x1x2x2x2x131072 ![0, 0, 0, 0, 0, 0] · Facts₀.slices_S2x2x2x2x2x131072_S2x1x2x2x2x131072_0_0_0_0_0_0),
    unary main_v20 main_v22 (extractStridedSlice S2x1x2x2x2x131072 ![0, 1, 0, 0, 0, 0] · Facts₀.slices_S2x2x2x2x2x131072_S2x1x2x2x2x131072_0_1_0_0_0_0),
    unary main_v22 main_v23 (Host.reverse [3]),
    binary main_v21 main_v23 main_v24 (fun a b => concatenate S2x2x2x2x2x131072 1 [⟨S2x1x2x2x2x131072, a⟩, ⟨S2x1x2x2x2x131072, b⟩] Facts₀.concatenates_S2x1x2x2x2x131072_S2x1x2x2x2x131072_S2x2x2x2x2x131072_d1),
    reshape main_v24 main_v25 rfl Facts₀.shapeCasts_S2x2x2x2x2x131072_S32x512x256,
    reshape main_arg4 main_v26 rfl Facts₀.shapeCasts_S32x512x256_S2x2x2x2x2x131072,
    unary main_v26 main_v27 (transpose S2x2x2x2x2x131072 [3, 4, 2, 1, 0, 5] · Facts₀.transposes_S2x2x2x2x2x131072_S2x2x2x2x2x131072_3_4_2_1_0_5),
    unary main_v27 main_v28 (extractStridedSlice S1x2x2x2x2x131072 ![0, 0, 0, 0, 0, 0] · Facts₀.slices_S2x2x2x2x2x131072_S1x2x2x2x2x131072_0_0_0_0_0_0),
    unary main_v27 main_v29 (extractStridedSlice S1x2x2x2x2x131072 ![1, 0, 0, 0, 0, 0] · Facts₀.slices_S2x2x2x2x2x131072_S1x2x2x2x2x131072_1_0_0_0_0_0),
    unary main_v29 main_v30 (Host.reverse [4]),
    binary main_v28 main_v30 main_v31 (fun a b => concatenate S2x2x2x2x2x131072 0 [⟨S1x2x2x2x2x131072, a⟩, ⟨S1x2x2x2x2x131072, b⟩] Facts₀.concatenates_S1x2x2x2x2x131072_S1x2x2x2x2x131072_S2x2x2x2x2x131072_d0),
    unary main_v31 main_v32 (extractStridedSlice S2x1x2x2x2x131072 ![0, 0, 0, 0, 0, 0] · Facts₀.slices_S2x2x2x2x2x131072_S2x1x2x2x2x131072_0_0_0_0_0_0),
    unary main_v31 main_v33 (extractStridedSlice S2x1x2x2x2x131072 ![0, 1, 0, 0, 0, 0] · Facts₀.slices_S2x2x2x2x2x131072_S2x1x2x2x2x131072_0_1_0_0_0_0),
    unary main_v33 main_v34 (Host.reverse [3]),
    binary main_v32 main_v34 main_v35 (fun a b => concatenate S2x2x2x2x2x131072 1 [⟨S2x1x2x2x2x131072, a⟩, ⟨S2x1x2x2x2x131072, b⟩] Facts₀.concatenates_S2x1x2x2x2x131072_S2x1x2x2x2x131072_S2x2x2x2x2x131072_d1),
    reshape main_v35 main_v36 rfl Facts₀.shapeCasts_S2x2x2x2x2x131072_S32x512x256 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v14 : after steps V (main_v14 : DevRef τ sig) = Cert.Shared.received facts0 (V (main_arg2 : DevRef τ sig)) := by after_results; rfl
theorem steps_v25 : after steps V (main_v25 : DevRef τ sig) = Cert.Shared.received facts1 (V (main_arg3 : DevRef τ sig)) := by after_results; rfl
theorem steps_v36 : after steps V (main_v36 : DevRef τ sig) = Cert.Shared.received facts1 (V (main_arg4 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results
theorem steps_arg3 : after steps V (main_arg3 : DevRef τ sig) = V (main_arg3 : DevRef τ sig) := by after_results
theorem steps_arg4 : after steps V (main_arg4 : DevRef τ sig) = V (main_arg4 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v14) = Cert.Shared.received facts0 (m ((c.tc : Thread nD τ).loc main_arg2)))
  ∧ (s.mem ((c.tc : Thread nD τ).loc main_v25) = Cert.Shared.received facts1 (m ((c.tc : Thread nD τ).loc main_arg3)))
  ∧ (s.mem ((c.tc : Thread nD τ).loc main_v36) = Cert.Shared.received facts1 (m ((c.tc : Thread nD τ).loc main_arg4)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v14).trans (steps_v14 _), (h c main_v25).trans (steps_v25 _), (h c main_v36).trans (steps_v36 _),
        (h c main_arg0).trans (steps_arg0 _), (h c main_arg1).trans (steps_arg1 _), (h c main_arg2).trans (steps_arg2 _), (h c main_arg3).trans (steps_arg3 _), (h c main_arg4).trans (steps_arg4 _)⟩,
      sem_eq_zero_of_no_sems (by decide) r.2⟩)
    (run_seq none_scoped_refs none_scoped_sems defs main (fun _ => steps) main_steps (fun _ => steps_local) m g)

end Cert.ProjRefIdeal

end
-- ==== Proof.Proj.Value.lean ====
/- What the product with the transposed input projection and the exchange beside it end with is each device's part of the reference's results. -/
module

public import proofs.«01_k».proof.Proof.Proj.Run
public import proofs.«01_k».proof.Proof.Proj.Ref
public import proofs.«01_k».proof.Proof.Shared.Product

@[expose] public section

noncomputable section

namespace Cert.ProjIdeal

open Idealize.ShloMosaic hiding ix2 ix3
open Idealize.ShloMosaic.TcCoe
open Idealize.ShloMosaic.ValueIdx (ix2 ix3)
open Cert.ProjIdeal.Gen Cert.ProjRefIdeal.Gen Cert.Shared Cert.Shared.Direct

section Exchange

variable {F : FTy → Type} [FloatOps F] {m : (ℓ : Loc nD τ sig) → Buf (Elt F) ℓ}

theorem tiles0 : Layout.Tiles (Rows 4 4096 2560) (Rows 32 4096 2560) 0 8 := by decide
theorem tiles1 : Layout.Tiles (Rows 4 512 256) (Rows 32 512 256) 0 8 := by decide

theorem exchanged0 (c : Dev nD) (G : S4x4096x2560.Idx → Elt F .bf16) (x : (Rows 32 4096 2560).Idx → Elt F .bf16) (hG : E.Full m c 0 G)
    (hm : ∀ d : Dev 8, m ((d.tc : Thread nD τ).loc main_arg2) = Layout.block S4x4096x2560 (Rows 32 4096 2560) 0 8 d x) :
    G = Layout.block S4x4096x2560 (Rows 32 4096 2560) 0 8 c (Cert.Shared.received Cert.ProjRefIdeal.facts0 x) :=
  chips_received (p := 4096) (q := 2560) Cert.ProjRefIdeal.facts0 c G (fun d => m ((d.tc : Thread nD τ).loc main_arg2)) x
    (fun t z => ((E.sheet 0).piece t).dst.view.emb z) (fun t d z => (((E.sheet 0).piece t).src d).view.emb z)
    (squeezes_S1x4096x2560_S4096x2560 : S1x4096x2560.Squeezes S4096x2560).numel_eq
    (fun _ _ _ => rfl) (fun _ _ _ _ => rfl) (fun t => E.plan.who t c) (fun t => chips_who _ num num_inj t c) (fun t z => congrFun (hG t) z) tiles0 hm

theorem exchanged1 (c : Dev nD) (G : S4x512x256.Idx → Elt F .bf16) (x : (Rows 32 512 256).Idx → Elt F .bf16) (hG : E.Full m c 1 G)
    (hm : ∀ d : Dev 8, m ((d.tc : Thread nD τ).loc main_arg3) = Layout.block S4x512x256 (Rows 32 512 256) 0 8 d x) :
    G = Layout.block S4x512x256 (Rows 32 512 256) 0 8 c (Cert.Shared.received Cert.ProjRefIdeal.facts1 x) :=
  chips_received (p := 512) (q := 256) Cert.ProjRefIdeal.facts1 c G (fun d => m ((d.tc : Thread nD τ).loc main_arg3)) x
    (fun t z => ((E.sheet 1).piece t).dst.view.emb z) (fun t d z => (((E.sheet 1).piece t).src d).view.emb z)
    (squeezes_S1x512x256_S512x256 : S1x512x256.Squeezes S512x256).numel_eq
    (fun _ _ _ => rfl) (fun _ _ _ _ => rfl) (fun t => E.plan.who t c) (fun t => chips_who _ num num_inj t c) (fun t z => congrFun (hG t) z) tiles1 hm

theorem exchanged2 (c : Dev nD) (G : S4x512x256.Idx → Elt F .bf16) (x : (Rows 32 512 256).Idx → Elt F .bf16) (hG : E.Full m c 2 G)
    (hm : ∀ d : Dev 8, m ((d.tc : Thread nD τ).loc main_arg4) = Layout.block S4x512x256 (Rows 32 512 256) 0 8 d x) :
    G = Layout.block S4x512x256 (Rows 32 512 256) 0 8 c (Cert.Shared.received Cert.ProjRefIdeal.facts1 x) :=
  chips_received (p := 512) (q := 256) Cert.ProjRefIdeal.facts1 c G (fun d => m ((d.tc : Thread nD τ).loc main_arg4)) x
    (fun t z => ((E.sheet 2).piece t).dst.view.emb z) (fun t d z => (((E.sheet 2).piece t).src d).view.emb z)
    (squeezes_S1x512x256_S512x256 : S1x512x256.Squeezes S512x256).numel_eq
    (fun _ _ _ => rfl) (fun _ _ _ _ => rfl) (fun t => E.plan.who t c) (fun t => chips_who _ num num_inj t c) (fun t z => congrFun (hG t) z) tiles1 hm

end Exchange

variable (m : (ℓ : Loc nD τ sig) → Buf (Elt Ideal) ℓ)

theorem index0 : ∀ t : Fin cfg0.N, win0_0.index t (0 : Fin 2) = t.val / 8 % 4 ∧ win0_0.index t (1 : Fin 2) = t.val % 8 := by decide +kernel
theorem index1 : ∀ t : Fin cfg0.N, win0_1.index t (0 : Fin 3) = t.val % 8 ∧ win0_1.index t (1 : Fin 3) = t.val / 32 ∧ win0_1.index t (2 : Fin 3) = 0 := by decide +kernel
theorem index2 : ∀ t : Fin cfg0.N, win0_2.index t (0 : Fin 2) = t.val / 8 % 4 ∧ win0_2.index t (1 : Fin 2) = t.val / 32 := by decide +kernel

/-- A device's two factors, -/
abbrev left (c : Dev nD) : S4096x20480.Idx → EReal := m ((c.tc : Thread nD τ).loc main_arg0)
abbrev right (c : Dev nD) : S8x4096x2560.Idx → EReal := m ((c.tc : Thread nD τ).loc main_arg1)

/-- and their blocks at a point. -/
theorem left_block (c : Dev nD) (t : Fin cfg0.N) (y : Fin 1024) (j : Fin 2560) (a : Fin 4096) (k : Fin 8) (ha : a.val = t.val / 8 % 4 * 1024 + y.val) (hk : t.val % 8 = k.val) :
    (blk m c 0 t : S1024x2560.Idx → EReal) (ix2 y j) = left m c (ix2 a ⟨k.val * 2560 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 2560 + 1 * j.val = k.val * 2560 + j.val; omega
theorem right_block (c : Dev nD) (t : Fin cfg0.N) (y : Fin 1024) (j : Fin 2560) (b : Fin 4096) (k : Fin 8) (hb : b.val = t.val / 32 * 1024 + y.val) (hk : t.val % 8 = k.val) :
    (blk m c 1 t : S1x1024x2560.Idx → EReal) (ix3 0 y j) = right m c (ix3 k b j) := by
  obtain ⟨f0, f1, f2⟩ := index1 t
  refine congrArg (right m c) (funext fun x => Fin.ext ?_)
  match x with
  | ⟨0, _⟩ => show win0_1.index t (0 : Fin 3) * 1 + 1 * 0 = k.val; omega
  | ⟨1, _⟩ => show win0_1.index t (1 : Fin 3) * 1024 + 1 * y.val = b.val; omega
  | ⟨2, _⟩ => show win0_1.index t (2 : Fin 3) * 2560 + 1 * j.val = j.val; omega

/-- The accumulator at the end of a sweep over the parts. -/
theorem acc_apply (c : Dev nD) (t : Fin cfg0.N) (ht : t.val % 8 = 7) (y0 y1 : Fin 1024) (a : Fin 4096) (b : Fin 4096)
    (ha : a.val = t.val / 8 % 4 * 1024 + y0.val) (hb : b.val = t.val / 32 * 1024 + y1.val) :
    (acc m c t.val t.isLt : S1024x1024.Idx → EReal) (ix2 y0 y1)
      = ∑ k : Fin 8, ∑ j : Fin 2560, left m c (ix2 a ⟨k.val * 2560 + j.val, by omega⟩) * right m c (ix3 k b j) := by
  have hN : t.val < 128 := t.isLt
  refine products_sum 8 (φ := .bf16) (start m c) (add m c) (blk m c 0) (blk m c 1) shapeCasts_S1024x2560_S1024x2560 shapeCasts_S1x1024x2560_S1024x2560 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 8 + k.val) / 8 % 4 * 1024 + _; omega) (by show (t.val + 1 - 8 + k.val) % 8 = k.val; omega)
  · have hk := k.isLt
    exact right_block m c _ y1 j b k (by show _ = (t.val + 1 - 8 + k.val) / 32 * 1024 + _; omega) (by show (t.val + 1 - 8 + k.val) % 8 = k.val; omega)

theorem tilesX : Layout.Tiles S4096x20480 Cert.ProjRefIdeal.S32768x20480 0 8 := by decide
theorem tilesY : Layout.Tiles S4096x4096 Cert.ProjRefIdeal.S32768x4096 0 8 := by decide

/-- The product's array is the device's rows of the reference's. -/
theorem product_final (c : Dev nD) (x : Cert.ProjRefIdeal.S32768x20480.Idx → EReal) (w : S8x4096x2560.Idx → EReal)
    (hx : m ((c.tc : Thread nD τ).loc main_arg0) = Layout.block S4096x20480 Cert.ProjRefIdeal.S32768x20480 0 8 c x) (hw : m ((c.tc : Thread nD τ).loc main_arg1) = w) :
    (dats m 0 c).arrAt 2 cfg0.N = Layout.block S4096x4096 Cert.ProjRefIdeal.S32768x4096 0 8 c (Cert.ProjRefIdeal.product (F := Ideal) x w) := by
  refine (dats m 0 c).arrAt_eq_of_covers 2 _ (by decide +kernel) fun t hf y => ?_
  have ht := (flush0_2 t).mp hf
  have hc : c.val < 8 := c.isLt
  have hN : t.val < 128 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 8 % 4 * 1024 + (y 0).val, by omega⟩ ⟨t.val / 32 * 1024 + (y 1).val, by omega⟩ rfl rfl
  have hr := product_rows (p := 4096) (M := 32768) (N := 4096) (J := 2560) (L := 20480) (φ := .bf16) (rfl : 20480 = 8 * 2560) tilesX c x w Cert.ProjRefIdeal.Facts₀.transposes_S8x4096x2560_S4096x8x2560_1_0_2
    Cert.ProjRefIdeal.Facts₀.shapeCasts_S4096x8x2560_S4096x20480 Cert.ProjRefIdeal.Facts₀.transposes_S4096x20480_S20480x4096_1_0
    ⟨t.val / 8 % 4 * 1024 + (y 0).val, by omega⟩ ⟨t.val / 32 * 1024 + (y 1).val, by omega⟩ ⟨c.val * 4096 + (t.val / 8 % 4 * 1024 + (y 0).val), by omega⟩ rfl
  have hi : tilesY.idx c (((cfg0.win 2).blk t).view.emb y)
      = ix2 (⟨c.val * 4096 + (t.val / 8 % 4 * 1024 + (y 0).val), by omega⟩ : Fin 32768) (⟨t.val / 32 * 1024 + (y 1).val, by omega⟩ : Fin 4096) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.ProjRefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.ProjIdeal

end
-- ==== Proof.Down.Body.lean ====
/- The product with the transposed down-projection beside the exchange within the chips: where the exchange's pieces lie, what the product's
   accumulator holds at each point, and the body on one device at one point. -/
module

public import proofs.«01_k».proof.Proof.Shared.Grid
public import proofs.«01_k».proof.Proof.Shared.Pair
public import proofs.«01_k».proof.Proof.Gen.DownIdeal.Skeleton
public import proofs.«01_k».proof.Proof.Gen.DownIdeal.Points
public import proofs.«01_k».proof.Proof.Gen.DownIdeal.Launch

@[expose] public section

noncomputable section

namespace Cert.DownIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen Cert.Shared Cert.Shared.Direct

theorem words0 : ∀ (t : Fin 4) (c : Dev 8), (half 1536 4096 t c).WholeWords (EltTy.packing .bf16) := by decide +kernel
theorem words1 : ∀ t : Fin 4, (slot 1536 4096 t).WholeWords (EltTy.packing .bf16) := by decide +kernel

/-- The array exchanged and its result. -/
def sheet0 : Sheet sig (Fin 4) :=
  pairSheet 1536 4096 (Memref.whole main_arg2) (Memref.whole main_v1_1) (Memref.isWhole_whole _) (Memref.isWhole_whole _) rfl
    squeezes_S1x1x1536x4096_S1536x4096 squeezes_S1x1536x4096_S1536x4096 words0 words1 (by decide)

def num : Kind (Fin 1) (Fin 0) (Fin 4) → DmaSem sig
  | (_, .inl i) => i.elim0
  | (_, .inr (.inl j)) => ⟨6 + j.val, by show _ < 14; omega⟩
  | (_, .inr (.inr j)) => ⟨10 + j.val, by show _ < 14; omega⟩

theorem num_inj : Function.Injective num := by decide +kernel

/-- The exchange. -/
def E : Setup sig (Fin 1) (Fin 0) (Fin 4) (Fin 4) := pairs (fun _ => sheet0) num num_inj

variable {F : FTy → Type} [FloatOps F] (m : (ℓ : Loc nD τ sig) → Buf (Elt F) ℓ)

/-- The copies, of which there are none, and the transfers in order. -/
def homes : List (Fin 1 × Fin 0) := []
def ways : List (Fin 1 × Fin 4) := [(0, 0), (0, 1), (0, 2), (0, 3)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 95 := by decide +kernel
theorem cond4_iff : ∀ t : Fin cfg0.N, k0_cond4 (grid0.coords t) = 1#1 ↔ t.val % 2 = 1 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 2 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 2 ≠ 0 := by decide +kernel

/-- What a sweep's step leaves in the accumulator. -/
def step (n : ℕ) (x : Vec F S1024x2048 .bf16) (y : Vec F S1x1024x2048 .bf16) (z : Vec F S1024x1024 .f32) : Vec F S1024x1024 .f32 :=
  if n % 2 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x2048 .bf16) (h₀ : b₀.IsWhole) (b₁ : Memref sig .tc .vmem S1x1024x2048 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x2048 .bf16) (y : Vec F S1x1024x2048 .bf16) (z d : Vec F S1024x1024 .f32) :
    iprop(E.point 96 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_ffn_down (F := F) (grid0.coords t) b₀ h₀ b₁ h₁ (Memref.whole main_arg2) (Memref.isWhole_whole _) b₂ h₂ (Memref.whole main_v1_1) (Memref.isWhole_whole _)
          b₃ h₃ cc0_scratch1 cc0_scratch2)
        (fun _ => iprop(E.point 96 ways m c (t.val + 1) ∗ owns (c.tc : Thread nD τ) b₀ fullShare x ∗ owns (c.tc : Thread nD τ) b₁ fullShare y
          ∗ owns (c.tc : Thread nD τ) b₂ fullShare (if t.val % 2 = 1 then step t.val x y z else d)
          ∗ owns (c.tc : Thread nD τ) b₃ fullShare (step t.val x y z) ∗ L)) := by
  rw [cc0_bwd_ffn_down_eq_skeleton]
  unfold cc0_bwd_ffn_down_skel
  have tN : t.val < 96 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part1_skel, k0_part2_skel, Prog.lift, Prog.bind_op, Prog.bind_ret, Prog.pure_eq_ret, wp_deviceId]
    have hp : E.point 96 ways m c t.val = _ := (congrArg (E.point 96 ways m c) t0).trans (E.point_first 96 ways m c)
    rw [hp, E.point_mid 96 ways m c (by omega : t.val + 1 ≠ 0) (by omega)]
    refine (E.first homes ways m c (defs₀ (F := F)) 𝒱 (by decide +kernel) (by decide +kernel) (by decide +kernel) (by decide +kernel) _).trans ?_
    unfold homes ways
    unfold Plan.copies
    refine E.plan.next_send (send_congr (other c (k0_dev1_eq c)) (half_eq _ _ _ 0 c (k0_off1_eq c)) rfl rfl rfl) ?_
    refine E.plan.next_send (send_congr (other c (k0_dev2_eq c)) (half_eq _ _ _ 1 c (k0_off2_eq c)) rfl rfl rfl) ?_
    refine E.plan.next_send (send_congr (other c (k0_dev3_eq c)) (half_eq _ _ _ 2 c (k0_off3_eq c)) rfl rfl rfl) ?_
    refine E.plan.next_send (send_congr (other c (k0_dev4_eq c)) (half_eq _ _ _ 3 c (k0_off4_eq c)) rfl rfl rfl) ?_
    unfold Plan.sends
    simp only [List.map_nil]
    rw [if_neg (by omega : ¬ t.val % 2 = 1), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 96 ways m c t0 (by omega : t.val ≠ 96)
  by_cases t2 : t.val % 2 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 96 ways m c (by omega : t.val + 1 ≠ 0) (by omega)
    rw [hp, hq, if_neg (by omega : ¬ t.val % 2 = 1), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 2 = 1
  · have c4 := (cond4_iff t).mpr t4
    by_cases t5 : t.val = 95
    · have c5 := (cond5_iff t).mpr t5
      simp only [dif_neg c1, dif_neg c2, dif_pos c3, dif_pos c4, dif_pos c5, k0_part3_eq_skeleton, k0_part4_eq_skeleton, k0_part5_eq_skeleton,
        k0_part3_skel, k0_part4_skel, k0_part5_skel, Prog.lift, Prog.bind_op, Prog.bind_ret, Prog.pure_eq_ret, wp_deviceId]
      have hq : E.point 96 ways m c (t.val + 1) = _ := (congrArg (fun n => E.point 96 ways m c (n + 1)) t5).trans (E.point_last 96 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 8 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 96 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  omega

end Cert.DownIdeal
-- ==== Proof.Down.Run.lean ====
/- The run of the product with the transposed down-projection and of the exchange within the chips, on eight devices. -/
module

public import proofs.«01_k».proof.Proof.Down.Body
public import proofs.«01_k».proof.Proof.Shared.Accumulate

@[expose] public section

noncomputable section

namespace Cert.DownIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.DownIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 2 (start m c) (add m c) n h

/-- The exchange and the accumulator's buffer before point `n`. -/
def Φ (c : Dev nD) (n : ℕ) : sProp (XM nD τ sig (Elt F)) := E.swept 96 m c 2 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 2 = 1 → cfg0.idle 2 (grid0.coords t) = true := by decide +kernel
theorem live2 : ∀ t : Fin cfg0.N, t.val % 2 = 1 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 2 = 1 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 96 ways m c (dats m 0 c) t defs₀ Variants.none (p := Ready 2 (start m c) (add m c) t.val) (p' := Ready 2 (start m c) (add m c) (t.val + 1))
    (f := sweepStep 2 (start m c) (add m c) t) (L := E.leftover m c) (a₃ := owns (c.tc : Thread nD τ) (Memref.whole cc0_scratch0) fullShare)
    rfl rfl rfl rfl (fun _ => trivial) (fun _ => .rfl) (fun _ => .rfl) (ready_step 2 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 2 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.one, Setup.one]
  iintro ⟨S0, O0⟩
  isplitl [S0]; · iexact S0
  iexists _; iexact O0

theorem own_sems : Pipeline.OwnSemFacts cfg0.spec E.wires.at_ := by decide +kernel

/-- Every weakly fair run on the eight devices ends, with the product's array as the proof's data say, every slot of the exchange's
    result filled from the other device of the chip, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 96 m c 2 (start m c) (add m c) (Memref.whole cc0_scratch0)
      simp only [owns_whole] at h
      rw [scopedRest0_eq]; exact h)
    (fun c => by
      have h := E.swept_out 96 m c 2 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) :=
  ⟨(h.1 0).trans ((dats m 0 c).arrAt_in 0 rfl _), (h.1 1).trans ((dats m 0 c).arrAt_in 1 rfl _), (h.2 0).2⟩

end Cert.DownIdeal
-- ==== Proof.Down.Ref.lean ====
/- The reference's run of the product with the transposed down-projection and of the exchange within the chips, on one device. -/
module

public import Idealize.ShloMosaic.Lib.StableHlo.Run
public import Idealize.ShloMosaic.Lib.Quiescent
public import proofs.«01_k».proof.Proof.Shared.Pair
public import proofs.«01_k».proof.Proof.Gen.DownRefIdeal

@[expose] public section

noncomputable section

namespace Cert.DownRefIdeal

open Cert.DownRefIdeal.Gen
open Idealize.ShloMosaic Idealize.ShloMosaic.TcCoe Idealize.ShloMosaic.StableHlo Idealize.SL.Sem

variable {F : FTy → Type} [FloatOps F]

/-- The product, -/
abbrev product (x : S32768x4096.Idx → Elt F .bf16) (w : S1x12288x4096.Idx → Elt F .bf16) : S32768x12288.Idx → Elt F .f32 :=
  Host.dotGeneral dot_S32768x4096_S4096x12288_S32768x12288_1_0_0_1_n_n none x
    (transpose S4096x12288 [1, 0] (shapeCast S12288x4096 (transpose S12288x1x4096 [1, 0, 2] w Facts₀.transposes_S1x12288x4096_S12288x1x4096_1_0_2)
      Facts₀.shapeCasts_S12288x1x4096_S12288x4096) Facts₀.transposes_S12288x4096_S4096x12288_1_0)
/-- the sizes of the exchange's arrays. -/
theorem facts : Cert.Shared.PairFacts 1536 4096 := by constructor <;> decide

/-- The reference's operations. -/
abbrev steps : List (HloOp τ sig (Elt F)) :=
  [ unary main_arg1 main_v0 (transpose S12288x1x4096 [1, 0, 2] · Facts₀.transposes_S1x12288x4096_S12288x1x4096_1_0_2),
    reshape main_v0 main_v1 rfl Facts₀.shapeCasts_S12288x1x4096_S12288x4096,
    unary main_v1 main_v2 (transpose S4096x12288 [1, 0] · Facts₀.transposes_S12288x4096_S4096x12288_1_0),
    binary main_arg0 main_v2 main_v3 (fun l r => Host.dotGeneral dot_S32768x4096_S4096x12288_S32768x12288_1_0_0_1_n_n none l r),
    reshape main_arg2 main_v4 rfl Facts₀.shapeCasts_S32x2x1536x4096_S4x2x4x2x1536x4096,
    unary main_v4 main_v5 (extractStridedSlice S4x1x4x1x1536x4096 ![0, 1, 0, 0, 0, 0] · Facts₀.slices_S4x2x4x2x1536x4096_S4x1x4x1x1536x4096_0_1_0_0_0_0),
    unary main_v4 main_v6 (extractStridedSlice S4x1x4x1x1536x4096 ![0, 0, 0, 1, 0, 0] · Facts₀.slices_S4x2x4x2x1536x4096_S4x1x4x1x1536x4096_0_0_0_1_0_0),
    binary main_v5 main_v6 main_v7 (fun a b => concatenate S4x2x4x1x1536x4096 1 [⟨S4x1x4x1x1536x4096, a⟩, ⟨S4x1x4x1x1536x4096, b⟩] Facts₀.concatenates_S4x1x4x1x1536x4096_S4x1x4x1x1536x4096_S4x2x4x1x1536x4096_d1),
    reshape main_v7 main_v8 rfl Facts₀.shapeCasts_S4x2x4x1x1536x4096_S32x1536x4096 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v8 : after steps V (main_v8 : DevRef τ sig) = Cert.Shared.swapped facts (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub .., reshape_bufs_sub .., unary_bufs_sub .., unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v8) = Cert.Shared.swapped facts (m ((c.tc : Thread nD τ).loc main_arg2)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v8).trans (steps_v8 _),
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.DownRefIdeal

end
-- ==== Proof.Down.Value.lean ====
/- What the product with the transposed down-projection and the exchange beside it end with is each device's part of the reference's results. -/
module

public import proofs.«01_k».proof.Proof.Down.Run
public import proofs.«01_k».proof.Proof.Down.Ref
public import proofs.«01_k».proof.Proof.Shared.Sibling
public import proofs.«01_k».proof.Proof.Shared.Product

@[expose] public section

noncomputable section

namespace Cert.DownIdeal

open Idealize.ShloMosaic hiding ix2 ix3
open Idealize.ShloMosaic.TcCoe
open Idealize.ShloMosaic.ValueIdx (ix2 ix3)
open Cert.DownIdeal.Gen Cert.DownRefIdeal.Gen Cert.Shared Cert.Shared.Direct

section Exchange

variable {F : FTy → Type} [FloatOps F] {m : (ℓ : Loc nD τ sig) → Buf (Elt F) ℓ}

theorem tilesA : Layout.Tiles (Halves 4 1536 4096) (Halves 32 1536 4096) 0 8 := by decide
theorem tilesC : Layout.Tiles (Rows 4 1536 4096) (Rows 32 1536 4096) 0 8 := by decide

theorem exchanged (c : Dev nD) (G : S4x1536x4096.Idx → Elt F .bf16) (x : (Halves 32 1536 4096).Idx → Elt F .bf16) (hG : E.Full m c 0 G)
    (hm : ∀ d : Dev 8, m ((d.tc : Thread nD τ).loc main_arg2) = Layout.block S4x2x1536x4096 (Halves 32 1536 4096) 0 8 d x) :
    G = Layout.block S4x1536x4096 (Rows 32 1536 4096) 0 8 c (Cert.Shared.swapped Cert.DownRefIdeal.facts x) :=
  pair_swapped (p := 1536) (q := 4096) Cert.DownRefIdeal.facts c G (fun d => m ((d.tc : Thread nD τ).loc main_arg2)) x
    (fun t z => ((E.sheet 0).piece t).dst.view.emb z) (fun t d z => (((E.sheet 0).piece t).src d).view.emb z)
    (squeezes_S1x1536x4096_S1536x4096 : S1x1536x4096.Squeezes S1536x4096).numel_eq
    (squeezes_S1x1x1536x4096_S1536x4096 : S1x1x1536x4096.Squeezes S1536x4096).numel_eq
    (fun _ _ _ => rfl) (fun _ _ _ _ => rfl) (fun t z => congrFun (hG t) z) tilesA tilesC hm

end Exchange

variable (m : (ℓ : Loc nD τ sig) → Buf (Elt Ideal) ℓ)

theorem index0 : ∀ t : Fin cfg0.N, win0_0.index t (0 : Fin 2) = t.val / 2 % 4 ∧ win0_0.index t (1 : Fin 2) = t.val % 2 := by decide +kernel
theorem index1 : ∀ t : Fin cfg0.N, win0_1.index t (0 : Fin 3) = 0 ∧ win0_1.index t (1 : Fin 3) = t.val / 8 ∧ win0_1.index t (2 : Fin 3) = t.val % 2 := by decide +kernel
theorem index2 : ∀ t : Fin cfg0.N, win0_2.index t (0 : Fin 2) = t.val / 2 % 4 ∧ win0_2.index t (1 : Fin 2) = t.val / 8 := by decide +kernel

/-- A device's two factors, -/
abbrev left (c : Dev nD) : S4096x4096.Idx → EReal := m ((c.tc : Thread nD τ).loc main_arg0)
abbrev right (c : Dev nD) : S1x12288x4096.Idx → EReal := m ((c.tc : Thread nD τ).loc main_arg1)

/-- and their blocks at a point. -/
theorem left_block (c : Dev nD) (t : Fin cfg0.N) (y : Fin 1024) (j : Fin 2048) (a : Fin 4096) (k : Fin 2) (ha : a.val = t.val / 2 % 4 * 1024 + y.val) (hk : t.val % 2 = k.val) :
    (blk m c 0 t : S1024x2048.Idx → EReal) (ix2 y j) = left m c (ix2 a ⟨k.val * 2048 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 2048 + 1 * j.val = k.val * 2048 + j.val; omega
theorem right_block (c : Dev nD) (t : Fin cfg0.N) (y : Fin 1024) (j : Fin 2048) (b : Fin 12288) (k : Fin 2) (hb : b.val = t.val / 8 * 1024 + y.val) (hk : t.val % 2 = k.val) :
    (blk m c 1 t : S1x1024x2048.Idx → EReal) (ix3 0 y j) = right m c (ix3 0 b ⟨k.val * 2048 + j.val, by omega⟩) := by
  obtain ⟨f0, f1, f2⟩ := index1 t
  refine congrArg (right m c) (funext fun x => Fin.ext ?_)
  match x with
  | ⟨0, _⟩ => show win0_1.index t (0 : Fin 3) * 1 + 1 * 0 = 0; omega
  | ⟨1, _⟩ => show win0_1.index t (1 : Fin 3) * 1024 + 1 * y.val = b.val; omega
  | ⟨2, _⟩ => show win0_1.index t (2 : Fin 3) * 2048 + 1 * j.val = k.val * 2048 + j.val; omega

/-- The accumulator at the end of a sweep over the parts. -/
theorem acc_apply (c : Dev nD) (t : Fin cfg0.N) (ht : t.val % 2 = 1) (y0 y1 : Fin 1024) (a : Fin 4096) (b : Fin 12288)
    (ha : a.val = t.val / 2 % 4 * 1024 + y0.val) (hb : b.val = t.val / 8 * 1024 + y1.val) :
    (acc m c t.val t.isLt : S1024x1024.Idx → EReal) (ix2 y0 y1)
      = ∑ k : Fin 2, ∑ j : Fin 2048, left m c (ix2 a ⟨k.val * 2048 + j.val, by omega⟩) * right m c (ix3 0 b ⟨k.val * 2048 + j.val, by omega⟩) := by
  have hN : t.val < 96 := t.isLt
  refine products_sum 2 (φ := .bf16) (start m c) (add m c) (blk m c 0) (blk m c 1) shapeCasts_S1024x2048_S1024x2048 shapeCasts_S1x1024x2048_S1024x2048 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 2 + k.val) / 2 % 4 * 1024 + _; omega) (by show (t.val + 1 - 2 + k.val) % 2 = k.val; omega)
  · have hk := k.isLt
    exact right_block m c _ y1 j b k (by show _ = (t.val + 1 - 2 + k.val) / 8 * 1024 + _; omega) (by show (t.val + 1 - 2 + k.val) % 2 = k.val; omega)

theorem tilesX : Layout.Tiles S4096x4096 Cert.DownRefIdeal.S32768x4096 0 8 := by decide
theorem tilesY : Layout.Tiles S4096x12288 Cert.DownRefIdeal.S32768x12288 0 8 := by decide

/-- The product's array is the device's rows of the reference's. -/
theorem product_final (c : Dev nD) (x : Cert.DownRefIdeal.S32768x4096.Idx → EReal) (w : S1x12288x4096.Idx → EReal)
    (hx : m ((c.tc : Thread nD τ).loc main_arg0) = Layout.block S4096x4096 Cert.DownRefIdeal.S32768x4096 0 8 c x) (hw : m ((c.tc : Thread nD τ).loc main_arg1) = w) :
    (dats m 0 c).arrAt 2 cfg0.N = Layout.block S4096x12288 Cert.DownRefIdeal.S32768x12288 0 8 c (Cert.DownRefIdeal.product (F := Ideal) x w) := by
  refine (dats m 0 c).arrAt_eq_of_covers 2 _ (by decide +kernel) fun t hf y => ?_
  have ht := (flush0_2 t).mp hf
  have hc : c.val < 8 := c.isLt
  have hN : t.val < 96 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 2 % 4 * 1024 + (y 0).val, by omega⟩ ⟨t.val / 8 * 1024 + (y 1).val, by omega⟩ rfl rfl
  have hr := product_rows_pieces (K := 2) (p := 4096) (M := 32768) (N := 12288) (J := 2048) (L := 4096) (φ := .bf16) (rfl : 4096 = 2 * 2048) tilesX c x w Cert.DownRefIdeal.Facts₀.transposes_S1x12288x4096_S12288x1x4096_1_0_2
    Cert.DownRefIdeal.Facts₀.shapeCasts_S12288x1x4096_S12288x4096 Cert.DownRefIdeal.Facts₀.transposes_S12288x4096_S4096x12288_1_0
    ⟨t.val / 2 % 4 * 1024 + (y 0).val, by omega⟩ ⟨t.val / 8 * 1024 + (y 1).val, by omega⟩ ⟨c.val * 4096 + (t.val / 2 % 4 * 1024 + (y 0).val), by omega⟩ rfl
  have hi : tilesY.idx c (((cfg0.win 2).blk t).view.emb y)
      = ix2 (⟨c.val * 4096 + (t.val / 2 % 4 * 1024 + (y 0).val), by omega⟩ : Fin 32768) (⟨t.val / 8 * 1024 + (y 1).val, by omega⟩ : Fin 12288) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.DownRefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.DownIdeal

end
-- ==== Proof.Merged.Body.lean ====
/- The product with the transposed output projection beside the exchange within the chips: where the exchange's pieces lie, what the product's
   accumulator holds at each point, and the body on one device at one point. -/
module

public import proofs.«01_k».proof.Proof.Shared.Grid
public import proofs.«01_k».proof.Proof.Shared.Pair
public import proofs.«01_k».proof.Proof.Gen.MergedIdeal.Skeleton
public import proofs.«01_k».proof.Proof.Gen.MergedIdeal.Points
public import proofs.«01_k».proof.Proof.Gen.MergedIdeal.Launch

@[expose] public section

noncomputable section

namespace Cert.MergedIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergedIdeal.Gen Cert.Shared Cert.Shared.Direct

theorem words0 : ∀ (t : Fin 4) (c : Dev 8), (half 512 4096 t c).WholeWords (EltTy.packing .bf16) := by decide +kernel
theorem words1 : ∀ t : Fin 4, (slot 512 4096 t).WholeWords (EltTy.packing .bf16) := by decide +kernel

/-- The array exchanged and its result. -/
def sheet0 : Sheet sig (Fin 4) :=
  pairSheet 512 4096 (Memref.whole main_arg2) (Memref.whole main_v1_1) (Memref.isWhole_whole _) (Memref.isWhole_whole _) rfl
    squeezes_S1x1x512x4096_S512x4096 squeezes_S1x512x4096_S512x4096 words0 words1 (by decide)

def num : Kind (Fin 1) (Fin 0) (Fin 4) → DmaSem sig
  | (_, .inl i) => i.elim0
  | (_, .inr (.inl j)) => ⟨6 + j.val, by show _ < 14; omega⟩
  | (_, .inr (.inr j)) => ⟨10 + j.val, by show _ < 14; omega⟩

theorem num_inj : Function.Injective num := by decide +kernel

/-- The exchange. -/
def E : Setup sig (Fin 1) (Fin 0) (Fin 4) (Fin 4) := pairs (fun _ => sheet0) num num_inj

variable {F : FTy → Type} [FloatOps F] (m : (ℓ : Loc nD τ sig) → Buf (Elt F) ℓ)

/-- The copies, of which there are none, and the transfers in order. -/
def homes : List (Fin 1 × Fin 0) := []
def ways : List (Fin 1 × Fin 4) := [(0, 0), (0, 1), (0, 2), (0, 3)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 31 := by decide +kernel
theorem cond4_iff : ∀ t : Fin cfg0.N, k0_cond4 (grid0.coords t) = 1#1 ↔ t.val % 2 = 1 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 2 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 2 ≠ 0 := by decide +kernel

/-- What a sweep's step leaves in the accumulator. -/
def step (n : ℕ) (x : Vec F S1024x2048 .bf16) (y : Vec F S1x1024x2048 .bf16) (z : Vec F S1024x1024 .f32) : Vec F S1024x1024 .f32 :=
  if n % 2 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x2048 .bf16) (h₀ : b₀.IsWhole) (b₁ : Memref sig .tc .vmem S1x1024x2048 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x2048 .bf16) (y : Vec F S1x1024x2048 .bf16) (z d : Vec F S1024x1024 .f32) :
    iprop(E.point 32 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_proj_out (F := F) (grid0.coords t) b₀ h₀ b₁ h₁ (Memref.whole main_arg2) (Memref.isWhole_whole _) b₂ h₂ (Memref.whole main_v1_1) (Memref.isWhole_whole _)
          b₃ h₃ cc0_scratch1 cc0_scratch2)
        (fun _ => iprop(E.point 32 ways m c (t.val + 1) ∗ owns (c.tc : Thread nD τ) b₀ fullShare x ∗ owns (c.tc : Thread nD τ) b₁ fullShare y
          ∗ owns (c.tc : Thread nD τ) b₂ fullShare (if t.val % 2 = 1 then step t.val x y z else d)
          ∗ owns (c.tc : Thread nD τ) b₃ fullShare (step t.val x y z) ∗ L)) := by
  rw [cc0_bwd_proj_out_eq_skeleton]
  unfold cc0_bwd_proj_out_skel
  have tN : t.val < 32 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part1_skel, k0_part2_skel, Prog.lift, Prog.bind_op, Prog.bind_ret, Prog.pure_eq_ret, wp_deviceId]
    have hp : E.point 32 ways m c t.val = _ := (congrArg (E.point 32 ways m c) t0).trans (E.point_first 32 ways m c)
    rw [hp, E.point_mid 32 ways m c (by omega : t.val + 1 ≠ 0) (by omega)]
    refine (E.first homes ways m c (defs₀ (F := F)) 𝒱 (by decide +kernel) (by decide +kernel) (by decide +kernel) (by decide +kernel) _).trans ?_
    unfold homes ways
    unfold Plan.copies
    refine E.plan.next_send (send_congr (other c (k0_dev1_eq c)) (half_eq _ _ _ 0 c (k0_off1_eq c)) rfl rfl rfl) ?_
    refine E.plan.next_send (send_congr (other c (k0_dev2_eq c)) (half_eq _ _ _ 1 c (k0_off2_eq c)) rfl rfl rfl) ?_
    refine E.plan.next_send (send_congr (other c (k0_dev3_eq c)) (half_eq _ _ _ 2 c (k0_off3_eq c)) rfl rfl rfl) ?_
    refine E.plan.next_send (send_congr (other c (k0_dev4_eq c)) (half_eq _ _ _ 3 c (k0_off4_eq c)) rfl rfl rfl) ?_
    unfold Plan.sends
    simp only [List.map_nil]
    rw [if_neg (by omega : ¬ t.val % 2 = 1), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 32 ways m c t0 (by omega : t.val ≠ 32)
  by_cases t2 : t.val % 2 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 32 ways m c (by omega : t.val + 1 ≠ 0) (by omega)
    rw [hp, hq, if_neg (by omega : ¬ t.val % 2 = 1), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 2 = 1
  · have c4 := (cond4_iff t).mpr t4
    by_cases t5 : t.val = 31
    · have c5 := (cond5_iff t).mpr t5
      simp only [dif_neg c1, dif_neg c2, dif_pos c3, dif_pos c4, dif_pos c5, k0_part3_eq_skeleton, k0_part4_eq_skeleton, k0_part5_eq_skeleton,
        k0_part3_skel, k0_part4_skel, k0_part5_skel, Prog.lift, Prog.bind_op, Prog.bind_ret, Prog.pure_eq_ret, wp_deviceId]
      have hq : E.point 32 ways m c (t.val + 1) = _ := (congrArg (fun n => E.point 32 ways m c (n + 1)) t5).trans (E.point_last 32 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 8 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 32 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  omega

end Cert.MergedIdeal
-- ==== Proof.Merged.Run.lean ====
/- The run of the product with the transposed output projection and of the exchange within the chips, on eight devices. -/
module

public import proofs.«01_k».proof.Proof.Merged.Body
public import proofs.«01_k».proof.Proof.Shared.Accumulate

@[expose] public section

noncomputable section

namespace Cert.MergedIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.MergedIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 2 (start m c) (add m c) n h

/-- The exchange and the accumulator's buffer before point `n`. -/
def Φ (c : Dev nD) (n : ℕ) : sProp (XM nD τ sig (Elt F)) := E.swept 32 m c 2 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 2 = 1 → cfg0.idle 2 (grid0.coords t) = true := by decide +kernel
theorem live2 : ∀ t : Fin cfg0.N, t.val % 2 = 1 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 2 = 1 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 32 ways m c (dats m 0 c) t defs₀ Variants.none (p := Ready 2 (start m c) (add m c) t.val) (p' := Ready 2 (start m c) (add m c) (t.val + 1))
    (f := sweepStep 2 (start m c) (add m c) t) (L := E.leftover m c) (a₃ := owns (c.tc : Thread nD τ) (Memref.whole cc0_scratch0) fullShare)
    rfl rfl rfl rfl (fun _ => trivial) (fun _ => .rfl) (fun _ => .rfl) (ready_step 2 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 2 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.one, Setup.one]
  iintro ⟨S0, O0⟩
  isplitl [S0]; · iexact S0
  iexists _; iexact O0

theorem own_sems : Pipeline.OwnSemFacts cfg0.spec E.wires.at_ := by decide +kernel

/-- Every weakly fair run on the eight devices ends, with the product's array as the proof's data say, every slot of the exchange's
    result filled from the other device of the chip, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 32 m c 2 (start m c) (add m c) (Memref.whole cc0_scratch0)
      simp only [owns_whole] at h
      rw [scopedRest0_eq]; exact h)
    (fun c => by
      have h := E.swept_out 32 m c 2 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) :=
  ⟨(h.1 0).trans ((dats m 0 c).arrAt_in 0 rfl _), (h.1 1).trans ((dats m 0 c).arrAt_in 1 rfl _), (h.2 0).2⟩

end Cert.MergedIdeal
-- ==== Proof.Merged.Ref.lean ====
/- The reference's run of the product with the transposed output projection and of the exchange within the chips, on one device. -/
module

public import Idealize.ShloMosaic.Lib.StableHlo.Run
public import Idealize.ShloMosaic.Lib.Quiescent
public import proofs.«01_k».proof.Proof.Shared.Pair
public import proofs.«01_k».proof.Proof.Gen.MergedRefIdeal

@[expose] public section

noncomputable section

namespace Cert.MergedRefIdeal

open Cert.MergedRefIdeal.Gen
open Idealize.ShloMosaic Idealize.ShloMosaic.TcCoe Idealize.ShloMosaic.StableHlo Idealize.SL.Sem

variable {F : FTy → Type} [FloatOps F]

/-- The product, -/
abbrev product (x : S32768x4096.Idx → Elt F .bf16) (w : S1x4096x4096.Idx → Elt F .bf16) : S32768x4096.Idx → Elt F .f32 :=
  Host.dotGeneral dot_S32768x4096_S4096x4096_S32768x4096_1_0_0_1_n_n none x
    (transpose S4096x4096 [1, 0] (shapeCast S4096x4096 (transpose S4096x1x4096 [1, 0, 2] w Facts₀.transposes_S1x4096x4096_S4096x1x4096_1_0_2)
      Facts₀.shapeCasts_S4096x1x4096_S4096x4096) Facts₀.transposes_S4096x4096_S4096x4096_1_0)
/-- the sizes of the exchange's arrays. -/
theorem facts : Cert.Shared.PairFacts 512 4096 := by constructor <;> decide

/-- The reference's operations. -/
abbrev steps : List (HloOp τ sig (Elt F)) :=
  [ unary main_arg1 main_v0 (transpose S4096x1x4096 [1, 0, 2] · Facts₀.transposes_S1x4096x4096_S4096x1x4096_1_0_2),
    reshape main_v0 main_v1 rfl Facts₀.shapeCasts_S4096x1x4096_S4096x4096,
    unary main_v1 main_v2 (transpose S4096x4096 [1, 0] · Facts₀.transposes_S4096x4096_S4096x4096_1_0),
    binary main_arg0 main_v2 main_v3 (fun l r => Host.dotGeneral dot_S32768x4096_S4096x4096_S32768x4096_1_0_0_1_n_n none l r),
    reshape main_arg2 main_v4 rfl Facts₀.shapeCasts_S32x2x512x4096_S4x2x4x2x512x4096,
    unary main_v4 main_v5 (extractStridedSlice S4x1x4x1x512x4096 ![0, 1, 0, 0, 0, 0] · Facts₀.slices_S4x2x4x2x512x4096_S4x1x4x1x512x4096_0_1_0_0_0_0),
    unary main_v4 main_v6 (extractStridedSlice S4x1x4x1x512x4096 ![0, 0, 0, 1, 0, 0] · Facts₀.slices_S4x2x4x2x512x4096_S4x1x4x1x512x4096_0_0_0_1_0_0),
    binary main_v5 main_v6 main_v7 (fun a b => concatenate S4x2x4x1x512x4096 1 [⟨S4x1x4x1x512x4096, a⟩, ⟨S4x1x4x1x512x4096, b⟩] Facts₀.concatenates_S4x1x4x1x512x4096_S4x1x4x1x512x4096_S4x2x4x1x512x4096_d1),
    reshape main_v7 main_v8 rfl Facts₀.shapeCasts_S4x2x4x1x512x4096_S32x512x4096 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v8 : after steps V (main_v8 : DevRef τ sig) = Cert.Shared.swapped facts (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub .., reshape_bufs_sub .., unary_bufs_sub .., unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v8) = Cert.Shared.swapped facts (m ((c.tc : Thread nD τ).loc main_arg2)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v8).trans (steps_v8 _),
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.MergedRefIdeal

end
-- ==== Proof.Merged.Value.lean ====
/- What the product with the transposed output projection and the exchange beside it end with is each device's part of the reference's results. -/
module

public import proofs.«01_k».proof.Proof.Merged.Run
public import proofs.«01_k».proof.Proof.Merged.Ref
public import proofs.«01_k».proof.Proof.Shared.Sibling
public import proofs.«01_k».proof.Proof.Shared.Product

@[expose] public section

noncomputable section

namespace Cert.MergedIdeal

open Idealize.ShloMosaic hiding ix2 ix3
open Idealize.ShloMosaic.TcCoe
open Idealize.ShloMosaic.ValueIdx (ix2 ix3)
open Cert.MergedIdeal.Gen Cert.MergedRefIdeal.Gen Cert.Shared Cert.Shared.Direct

section Exchange

variable {F : FTy → Type} [FloatOps F] {m : (ℓ : Loc nD τ sig) → Buf (Elt F) ℓ}

theorem tilesA : Layout.Tiles (Halves 4 512 4096) (Halves 32 512 4096) 0 8 := by decide
theorem tilesC : Layout.Tiles (Rows 4 512 4096) (Rows 32 512 4096) 0 8 := by decide

theorem exchanged (c : Dev nD) (G : S4x512x4096.Idx → Elt F .bf16) (x : (Halves 32 512 4096).Idx → Elt F .bf16) (hG : E.Full m c 0 G)
    (hm : ∀ d : Dev 8, m ((d.tc : Thread nD τ).loc main_arg2) = Layout.block S4x2x512x4096 (Halves 32 512 4096) 0 8 d x) :
    G = Layout.block S4x512x4096 (Rows 32 512 4096) 0 8 c (Cert.Shared.swapped Cert.MergedRefIdeal.facts x) :=
  pair_swapped (p := 512) (q := 4096) Cert.MergedRefIdeal.facts c G (fun d => m ((d.tc : Thread nD τ).loc main_arg2)) x
    (fun t z => ((E.sheet 0).piece t).dst.view.emb z) (fun t d z => (((E.sheet 0).piece t).src d).view.emb z)
    (squeezes_S1x512x4096_S512x4096 : S1x512x4096.Squeezes S512x4096).numel_eq
    (squeezes_S1x1x512x4096_S512x4096 : S1x1x512x4096.Squeezes S512x4096).numel_eq
    (fun _ _ _ => rfl) (fun _ _ _ _ => rfl) (fun t z => congrFun (hG t) z) tilesA tilesC hm

end Exchange

variable (m : (ℓ : Loc nD τ sig) → Buf (Elt Ideal) ℓ)

theorem index0 : ∀ t : Fin cfg0.N, win0_0.index t (0 : Fin 2) = t.val / 2 % 4 ∧ win0_0.index t (1 : Fin 2) = t.val % 2 := by decide +kernel
theorem index1 : ∀ t : Fin cfg0.N, win0_1.index t (0 : Fin 3) = 0 ∧ win0_1.index t (1 : Fin 3) = t.val / 8 ∧ win0_1.index t (2 : Fin 3) = t.val % 2 := by decide +kernel
theorem index2 : ∀ t : Fin cfg0.N, win0_2.index t (0 : Fin 2) = t.val / 2 % 4 ∧ win0_2.index t (1 : Fin 2) = t.val / 8 := by decide +kernel

/-- A device's two factors, -/
abbrev left (c : Dev nD) : S4096x4096.Idx → EReal := m ((c.tc : Thread nD τ).loc main_arg0)
abbrev right (c : Dev nD) : S1x4096x4096.Idx → EReal := m ((c.tc : Thread nD τ).loc main_arg1)

/-- and their blocks at a point. -/
theorem left_block (c : Dev nD) (t : Fin cfg0.N) (y : Fin 1024) (j : Fin 2048) (a : Fin 4096) (k : Fin 2) (ha : a.val = t.val / 2 % 4 * 1024 + y.val) (hk : t.val % 2 = k.val) :
    (blk m c 0 t : S1024x2048.Idx → EReal) (ix2 y j) = left m c (ix2 a ⟨k.val * 2048 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 2048 + 1 * j.val = k.val * 2048 + j.val; omega
theorem right_block (c : Dev nD) (t : Fin cfg0.N) (y : Fin 1024) (j : Fin 2048) (b : Fin 4096) (k : Fin 2) (hb : b.val = t.val / 8 * 1024 + y.val) (hk : t.val % 2 = k.val) :
    (blk m c 1 t : S1x1024x2048.Idx → EReal) (ix3 0 y j) = right m c (ix3 0 b ⟨k.val * 2048 + j.val, by omega⟩) := by
  obtain ⟨f0, f1, f2⟩ := index1 t
  refine congrArg (right m c) (funext fun x => Fin.ext ?_)
  match x with
  | ⟨0, _⟩ => show win0_1.index t (0 : Fin 3) * 1 + 1 * 0 = 0; omega
  | ⟨1, _⟩ => show win0_1.index t (1 : Fin 3) * 1024 + 1 * y.val = b.val; omega
  | ⟨2, _⟩ => show win0_1.index t (2 : Fin 3) * 2048 + 1 * j.val = k.val * 2048 + j.val; omega

/-- The accumulator at the end of a sweep over the parts. -/
theorem acc_apply (c : Dev nD) (t : Fin cfg0.N) (ht : t.val % 2 = 1) (y0 y1 : Fin 1024) (a : Fin 4096) (b : Fin 4096)
    (ha : a.val = t.val / 2 % 4 * 1024 + y0.val) (hb : b.val = t.val / 8 * 1024 + y1.val) :
    (acc m c t.val t.isLt : S1024x1024.Idx → EReal) (ix2 y0 y1)
      = ∑ k : Fin 2, ∑ j : Fin 2048, left m c (ix2 a ⟨k.val * 2048 + j.val, by omega⟩) * right m c (ix3 0 b ⟨k.val * 2048 + j.val, by omega⟩) := by
  have hN : t.val < 32 := t.isLt
  refine products_sum 2 (φ := .bf16) (start m c) (add m c) (blk m c 0) (blk m c 1) shapeCasts_S1024x2048_S1024x2048 shapeCasts_S1x1024x2048_S1024x2048 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 2 + k.val) / 2 % 4 * 1024 + _; omega) (by show (t.val + 1 - 2 + k.val) % 2 = k.val; omega)
  · have hk := k.isLt
    exact right_block m c _ y1 j b k (by show _ = (t.val + 1 - 2 + k.val) / 8 * 1024 + _; omega) (by show (t.val + 1 - 2 + k.val) % 2 = k.val; omega)

theorem tilesX : Layout.Tiles S4096x4096 Cert.MergedRefIdeal.S32768x4096 0 8 := by decide
theorem tilesY : Layout.Tiles S4096x4096 Cert.MergedRefIdeal.S32768x4096 0 8 := by decide

/-- The product's array is the device's rows of the reference's. -/
theorem product_final (c : Dev nD) (x : Cert.MergedRefIdeal.S32768x4096.Idx → EReal) (w : S1x4096x4096.Idx → EReal)
    (hx : m ((c.tc : Thread nD τ).loc main_arg0) = Layout.block S4096x4096 Cert.MergedRefIdeal.S32768x4096 0 8 c x) (hw : m ((c.tc : Thread nD τ).loc main_arg1) = w) :
    (dats m 0 c).arrAt 2 cfg0.N = Layout.block S4096x4096 Cert.MergedRefIdeal.S32768x4096 0 8 c (Cert.MergedRefIdeal.product (F := Ideal) x w) := by
  refine (dats m 0 c).arrAt_eq_of_covers 2 _ (by decide +kernel) fun t hf y => ?_
  have ht := (flush0_2 t).mp hf
  have hc : c.val < 8 := c.isLt
  have hN : t.val < 32 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 2 % 4 * 1024 + (y 0).val, by omega⟩ ⟨t.val / 8 * 1024 + (y 1).val, by omega⟩ rfl rfl
  have hr := product_rows_pieces (K := 2) (p := 4096) (M := 32768) (N := 4096) (J := 2048) (L := 4096) (φ := .bf16) (rfl : 4096 = 2 * 2048) tilesX c x w Cert.MergedRefIdeal.Facts₀.transposes_S1x4096x4096_S4096x1x4096_1_0_2
    Cert.MergedRefIdeal.Facts₀.shapeCasts_S4096x1x4096_S4096x4096 Cert.MergedRefIdeal.Facts₀.transposes_S4096x4096_S4096x4096_1_0
    ⟨t.val / 2 % 4 * 1024 + (y 0).val, by omega⟩ ⟨t.val / 8 * 1024 + (y 1).val, by omega⟩ ⟨c.val * 4096 + (t.val / 2 % 4 * 1024 + (y 0).val), by omega⟩ rfl
  have hi : tilesY.idx c (((cfg0.win 2).blk t).view.emb y)
      = ix2 (⟨c.val * 4096 + (t.val / 2 % 4 * 1024 + (y 0).val), by omega⟩ : Fin 32768) (⟨t.val / 8 * 1024 + (y 1).val, by omega⟩ : Fin 4096) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.MergedRefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.MergedIdeal

end
-- ==== Proof.MixerA.Body.lean ====
/- The product with the transposed projection of the two branches beside the exchange of two arrays within the chips: where the exchange's pieces lie, what the product's
   accumulator holds at each point, and the body on one device at one point. -/
module

public import proofs.«01_k».proof.Proof.Shared.Grid
public import proofs.«01_k».proof.Proof.Shared.Pair
public import proofs.«01_k».proof.Proof.Gen.MixerAIdeal.Skeleton
public import proofs.«01_k».proof.Proof.Gen.MixerAIdeal.Points
public import proofs.«01_k».proof.Proof.Gen.MixerAIdeal.Launch

@[expose] public section

noncomputable section

namespace Cert.MixerAIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerAIdeal.Gen Cert.Shared Cert.Shared.Direct

theorem words0 : ∀ (t : Fin 4) (c : Dev 8), (half 2048 512 t c).WholeWords (EltTy.packing .bf16) := by decide +kernel
theorem words1 : ∀ t : Fin 4, (slot 2048 512 t).WholeWords (EltTy.packing .bf16) := by decide +kernel
theorem words2 : ∀ (t : Fin 4) (c : Dev 8), (half 512 4096 t c).WholeWords (EltTy.packing .bf16) := by decide +kernel
theorem words3 : ∀ t : Fin 4, (slot 512 4096 t).WholeWords (EltTy.packing .bf16) := by decide +kernel

/-- The arrays exchanged and their results. -/
def sheets : Fin 2 → Sheet sig (Fin 4)
  | 0 => pairSheet 2048 512 (Memref.whole main_arg2) (Memref.whole main_v1_1) (Memref.isWhole_whole _) (Memref.isWhole_whole _) rfl
      squeezes_S1x1x2048x512_S2048x512 squeezes_S1x2048x512_S2048x512 words0 words1 (by decide)
  | 1 => pairSheet 512 4096 (Memref.whole main_arg3) (Memref.whole main_v1_2) (Memref.isWhole_whole _) (Memref.isWhole_whole _) rfl
      squeezes_S1x1x512x4096_S512x4096 squeezes_S1x512x4096_S512x4096 words2 words3 (by decide)

def num : Kind (Fin 2) (Fin 0) (Fin 4) → DmaSem sig
  | (_, .inl i) => i.elim0
  | (a, .inr (.inl j)) => ⟨6 + 4 * a.val + j.val, by show _ < 22; omega⟩
  | (a, .inr (.inr j)) => ⟨14 + 4 * a.val + j.val, by show _ < 22; omega⟩

theorem num_inj : Function.Injective num := by decide +kernel

/-- The exchange. -/
def E : Setup sig (Fin 2) (Fin 0) (Fin 4) (Fin 4) := pairs sheets num num_inj

variable {F : FTy → Type} [FloatOps F] (m : (ℓ : Loc nD τ sig) → Buf (Elt F) ℓ)

/-- The copies, of which there are none, and the transfers in order. -/
def homes : List (Fin 2 × Fin 0) := []
def ways : List (Fin 2 × Fin 4) := [(0, 0), (0, 1), (0, 2), (0, 3), (1, 0), (1, 1), (1, 2), (1, 3)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 63 := by decide +kernel
theorem cond4_iff : ∀ t : Fin cfg0.N, k0_cond4 (grid0.coords t) = 1#1 ↔ t.val % 8 = 7 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 8 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 8 ≠ 0 := by decide +kernel

/-- What a sweep's step leaves in the accumulator. -/
def step (n : ℕ) (x : Vec F S1024x512 .bf16) (y : Vec F S1x1024x512 .bf16) (z : Vec F S1024x1024 .f32) : Vec F S1024x1024 .f32 :=
  if n % 8 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x512 .bf16) (h₀ : b₀.IsWhole) (b₁ : Memref sig .tc .vmem S1x1024x512 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x512 .bf16) (y : Vec F S1x1024x512 .bf16) (z d : Vec F S1024x1024 .f32) :
    iprop(E.point 64 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_proj_sg (F := F) (grid0.coords t) b₀ h₀ b₁ h₁ (Memref.whole main_arg2) (Memref.isWhole_whole _) (Memref.whole main_arg3) (Memref.isWhole_whole _)
          b₂ h₂ (Memref.whole main_v1_1) (Memref.isWhole_whole _) (Memref.whole main_v1_2) (Memref.isWhole_whole _) b₃ h₃ cc0_scratch1 cc0_scratch2)
        (fun _ => iprop(E.point 64 ways m c (t.val + 1) ∗ owns (c.tc : Thread nD τ) b₀ fullShare x ∗ owns (c.tc : Thread nD τ) b₁ fullShare y
          ∗ owns (c.tc : Thread nD τ) b₂ fullShare (if t.val % 8 = 7 then step t.val x y z else d)
          ∗ owns (c.tc : Thread nD τ) b₃ fullShare (step t.val x y z) ∗ L)) := by
  rw [cc0_bwd_proj_sg_eq_skeleton]
  unfold cc0_bwd_proj_sg_skel
  have tN : t.val < 64 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part3_eq_skeleton, k0_part4_eq_skeleton, k0_part1_skel, k0_part2_skel, k0_part3_skel, k0_part4_skel, Prog.lift, Prog.bind_op, Prog.bind_ret, Prog.pure_eq_ret, wp_deviceId]
    have hp : E.point 64 ways m c t.val = _ := (congrArg (E.point 64 ways m c) t0).trans (E.point_first 64 ways m c)
    rw [hp, E.point_mid 64 ways m c (by omega : t.val + 1 ≠ 0) (by omega)]
    refine (E.first homes ways m c (defs₀ (F := F)) 𝒱 (by decide +kernel) (by decide +kernel) (by decide +kernel) (by decide +kernel) _).trans ?_
    unfold homes ways
    unfold Plan.copies
    refine E.plan.next_send (send_congr (other c (k0_dev1_eq c)) (half_eq _ _ _ 0 c (k0_off1_eq c)) rfl rfl rfl) ?_
    refine E.plan.next_send (send_congr (other c (k0_dev2_eq c)) (half_eq _ _ _ 1 c (k0_off2_eq c)) rfl rfl rfl) ?_
    refine E.plan.next_send (send_congr (other c (k0_dev3_eq c)) (half_eq _ _ _ 2 c (k0_off3_eq c)) rfl rfl rfl) ?_
    refine E.plan.next_send (send_congr (other c (k0_dev4_eq c)) (half_eq _ _ _ 3 c (k0_off4_eq c)) rfl rfl rfl) ?_
    refine E.plan.next_send (send_congr (other c (k0_dev5_eq c)) (half_eq _ _ _ 0 c (k0_off5_eq c)) rfl rfl rfl) ?_
    refine E.plan.next_send (send_congr (other c (k0_dev6_eq c)) (half_eq _ _ _ 1 c (k0_off6_eq c)) rfl rfl rfl) ?_
    refine E.plan.next_send (send_congr (other c (k0_dev7_eq c)) (half_eq _ _ _ 2 c (k0_off7_eq c)) rfl rfl rfl) ?_
    refine E.plan.next_send (send_congr (other c (k0_dev8_eq c)) (half_eq _ _ _ 3 c (k0_off8_eq c)) rfl rfl rfl) ?_
    unfold Plan.sends
    simp only [List.map_nil]
    rw [if_neg (by omega : ¬ t.val % 8 = 7), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 64 ways m c t0 (by omega : t.val ≠ 64)
  by_cases t2 : t.val % 8 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 64 ways m c (by omega : t.val + 1 ≠ 0) (by omega)
    rw [hp, hq, if_neg (by omega : ¬ t.val % 8 = 7), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 8 = 7
  · have c4 := (cond4_iff t).mpr t4
    by_cases t5 : t.val = 63
    · have c5 := (cond5_iff t).mpr t5
      simp only [dif_neg c1, dif_neg c2, dif_pos c3, dif_pos c4, dif_pos c5, k0_part5_eq_skeleton, k0_part6_eq_skeleton, k0_part7_eq_skeleton,
        k0_part8_eq_skeleton, k0_part9_eq_skeleton, k0_part10_eq_skeleton, k0_part5_skel, k0_part6_skel, k0_part7_skel, k0_part8_skel, k0_part9_skel, k0_part10_skel, Prog.lift, Prog.bind_op, Prog.bind_ret, Prog.pure_eq_ret, wp_deviceId]
      have hq : E.point 64 ways m c (t.val + 1) = _ := (congrArg (fun n => E.point 64 ways m c (n + 1)) t5).trans (E.point_last 64 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 16 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 64 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  have c4 := mt (cond4_iff t).mp t4
  have c5 := mt (cond5_iff t).mp (by omega)
  simp only [dif_neg c1, dif_neg c2, dif_pos c3, dif_neg c4, dif_neg c5, Prog.lift, Prog.bind_op, Prog.bind_ret, Prog.pure_eq_ret]
  have hq := E.point_mid 64 ways m c (by omega : t.val + 1 ≠ 0) (by omega)
  rw [hp, hq, if_neg t4, hz]
  exact next_add (defs₀ (F := F)) 𝒱 c (wp_done (defs₀ (F := F)) 𝒱 c .rfl)

end Cert.MixerAIdeal
-- ==== Proof.MixerA.Run.lean ====
/- The run of the product with the transposed projection of the two branches and of the exchange of two arrays within the chips, on eight devices. -/
module

public import proofs.«01_k».proof.Proof.MixerA.Body
public import proofs.«01_k».proof.Proof.Shared.Accumulate

@[expose] public section

noncomputable section

namespace Cert.MixerAIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.MixerAIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 8 (start m c) (add m c) n h

/-- The exchange and the accumulator's buffer before point `n`. -/
def Φ (c : Dev nD) (n : ℕ) : sProp (XM nD τ sig (Elt F)) := E.swept 64 m c 8 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 8 = 7 → cfg0.idle 2 (grid0.coords t) = true := by decide +kernel
theorem live2 : ∀ t : Fin cfg0.N, t.val % 8 = 7 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 8 = 7 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 64 ways m c (dats m 0 c) t defs₀ Variants.none (p := Ready 8 (start m c) (add m c) t.val) (p' := Ready 8 (start m c) (add m c) (t.val + 1))
    (f := sweepStep 8 (start m c) (add m c) t) (L := E.leftover m c) (a₃ := owns (c.tc : Thread nD τ) (Memref.whole cc0_scratch0) fullShare)
    rfl rfl rfl rfl (fun _ => trivial) (fun _ => .rfl) (fun _ => .rfl) (ready_step 8 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 8 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.two, Setup.two]
  iintro ⟨S0, S1, O0, O1⟩
  isplitl [S0 S1]
  · isplitl [S0]; · iexact S0
    iexact S1
  isplitl [O0]; · iexists _; iexact O0
  iexists _; iexact O1

theorem own_sems : Pipeline.OwnSemFacts cfg0.spec E.wires.at_ := by decide +kernel

/-- Every weakly fair run on the eight devices ends, with the product's array as the proof's data say, every slot of the exchange's
    results filled from the other device of the chip, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 64 m c 8 (start m c) (add m c) (Memref.whole cc0_scratch0)
      simp only [owns_whole] at h
      rw [scopedRest0_eq]; exact h)
    (fun c => by
      have h := E.swept_out 64 m c 8 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) ∧ M.mem ((c.tc : Thread nD τ).loc main_arg3) = m ((c.tc : Thread nD τ).loc main_arg3) :=
  ⟨(h.1 0).trans ((dats m 0 c).arrAt_in 0 rfl _), (h.1 1).trans ((dats m 0 c).arrAt_in 1 rfl _), (h.2 0).2, (h.2 1).2⟩

end Cert.MixerAIdeal
-- ==== Proof.MixerA.Ref.lean ====
/- The reference's run of the product with the transposed projection of the two branches and of the exchange of two arrays within the chips, on one device. -/
module

public import Idealize.ShloMosaic.Lib.StableHlo.Run
public import Idealize.ShloMosaic.Lib.Quiescent
public import proofs.«01_k».proof.Proof.Shared.Pair
public import proofs.«01_k».proof.Proof.Gen.MixerARefIdeal

@[expose] public section

noncomputable section

namespace Cert.MixerARefIdeal

open Cert.MixerARefIdeal.Gen
open Idealize.ShloMosaic Idealize.ShloMosaic.TcCoe Idealize.ShloMosaic.StableHlo Idealize.SL.Sem

variable {F : FTy → Type} [FloatOps F]

/-- The product, -/
abbrev product (x : S32768x4096.Idx → Elt F .bf16) (w : S8x2048x512.Idx → Elt F .bf16) : S32768x2048.Idx → Elt F .f32 :=
  Host.dotGeneral dot_S32768x4096_S4096x2048_S32768x2048_1_0_0_1_n_n none x
    (transpose S4096x2048 [1, 0] (shapeCast S2048x4096 (transpose S2048x8x512 [1, 0, 2] w Facts₀.transposes_S8x2048x512_S2048x8x512_1_0_2)
      Facts₀.shapeCasts_S2048x8x512_S2048x4096) Facts₀.transposes_S2048x4096_S4096x2048_1_0)
/-- the sizes of the exchange's arrays. -/
theorem facts0 : Cert.Shared.PairFacts 2048 512 := by constructor <;> decide
theorem facts1 : Cert.Shared.PairFacts 512 4096 := by constructor <;> decide

/-- The reference's operations. -/
abbrev steps : List (HloOp τ sig (Elt F)) :=
  [ unary main_arg1 main_v0 (transpose S2048x8x512 [1, 0, 2] · Facts₀.transposes_S8x2048x512_S2048x8x512_1_0_2),
    reshape main_v0 main_v1 rfl Facts₀.shapeCasts_S2048x8x512_S2048x4096,
    unary main_v1 main_v2 (transpose S4096x2048 [1, 0] · Facts₀.transposes_S2048x4096_S4096x2048_1_0),
    binary main_arg0 main_v2 main_v3 (fun l r => Host.dotGeneral dot_S32768x4096_S4096x2048_S32768x2048_1_0_0_1_n_n none l r),
    reshape main_arg2 main_v4 rfl Facts₀.shapeCasts_S32x2x2048x512_S4x2x4x2x2048x512,
    unary main_v4 main_v5 (extractStridedSlice S4x1x4x1x2048x512 ![0, 1, 0, 0, 0, 0] · Facts₀.slices_S4x2x4x2x2048x512_S4x1x4x1x2048x512_0_1_0_0_0_0),
    unary main_v4 main_v6 (extractStridedSlice S4x1x4x1x2048x512 ![0, 0, 0, 1, 0, 0] · Facts₀.slices_S4x2x4x2x2048x512_S4x1x4x1x2048x512_0_0_0_1_0_0),
    binary main_v5 main_v6 main_v7 (fun a b => concatenate S4x2x4x1x2048x512 1 [⟨S4x1x4x1x2048x512, a⟩, ⟨S4x1x4x1x2048x512, b⟩] Facts₀.concatenates_S4x1x4x1x2048x512_S4x1x4x1x2048x512_S4x2x4x1x2048x512_d1),
    reshape main_v7 main_v8 rfl Facts₀.shapeCasts_S4x2x4x1x2048x512_S32x2048x512,
    reshape main_arg3 main_v9 rfl Facts₀.shapeCasts_S32x2x512x4096_S4x2x4x2x512x4096,
    unary main_v9 main_v10 (extractStridedSlice S4x1x4x1x512x4096 ![0, 1, 0, 0, 0, 0] · Facts₀.slices_S4x2x4x2x512x4096_S4x1x4x1x512x4096_0_1_0_0_0_0),
    unary main_v9 main_v11 (extractStridedSlice S4x1x4x1x512x4096 ![0, 0, 0, 1, 0, 0] · Facts₀.slices_S4x2x4x2x512x4096_S4x1x4x1x512x4096_0_0_0_1_0_0),
    binary main_v10 main_v11 main_v12 (fun a b => concatenate S4x2x4x1x512x4096 1 [⟨S4x1x4x1x512x4096, a⟩, ⟨S4x1x4x1x512x4096, b⟩] Facts₀.concatenates_S4x1x4x1x512x4096_S4x1x4x1x512x4096_S4x2x4x1x512x4096_d1),
    reshape main_v12 main_v13 rfl Facts₀.shapeCasts_S4x2x4x1x512x4096_S32x512x4096 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v8 : after steps V (main_v8 : DevRef τ sig) = Cert.Shared.swapped facts0 (V (main_arg2 : DevRef τ sig)) := by after_results; rfl
theorem steps_v13 : after steps V (main_v13 : DevRef τ sig) = Cert.Shared.swapped facts1 (V (main_arg3 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results
theorem steps_arg3 : after steps V (main_arg3 : DevRef τ sig) = V (main_arg3 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub .., reshape_bufs_sub .., unary_bufs_sub .., unary_bufs_sub .., binary_bufs_sub .., reshape_bufs_sub ..,
    reshape_bufs_sub .., unary_bufs_sub .., unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v8) = Cert.Shared.swapped facts0 (m ((c.tc : Thread nD τ).loc main_arg2)))
  ∧ (s.mem ((c.tc : Thread nD τ).loc main_v13) = Cert.Shared.swapped facts1 (m ((c.tc : Thread nD τ).loc main_arg3)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v8).trans (steps_v8 _), (h c main_v13).trans (steps_v13 _),
        (h c main_arg0).trans (steps_arg0 _), (h c main_arg1).trans (steps_arg1 _), (h c main_arg2).trans (steps_arg2 _), (h c main_arg3).trans (steps_arg3 _)⟩,
      sem_eq_zero_of_no_sems (by decide) r.2⟩)
    (run_seq none_scoped_refs none_scoped_sems defs main (fun _ => steps) main_steps (fun _ => steps_local) m g)

end Cert.MixerARefIdeal

end
-- ==== Proof.MixerA.Value.lean ====
/- What the product with the transposed projection of the two branches and the exchange beside it end with is each device's part of the reference's results. -/
module

public import proofs.«01_k».proof.Proof.MixerA.Run
public import proofs.«01_k».proof.Proof.MixerA.Ref
public import proofs.«01_k».proof.Proof.Shared.Sibling
public import proofs.«01_k».proof.Proof.Shared.Product

@[expose] public section

noncomputable section

namespace Cert.MixerAIdeal

open Idealize.ShloMosaic hiding ix2 ix3
open Idealize.ShloMosaic.TcCoe
open Idealize.ShloMosaic.ValueIdx (ix2 ix3)
open Cert.MixerAIdeal.Gen Cert.MixerARefIdeal.Gen Cert.Shared Cert.Shared.Direct

section Exchange

variable {F : FTy → Type} [FloatOps F] {m : (ℓ : Loc nD τ sig) → Buf (Elt F) ℓ}

theorem exchanged0 (c : Dev nD) (G : S4x2048x512.Idx → Elt F .bf16) (x : (Halves 32 2048 512).Idx → Elt F .bf16) (hG : E.Full m c 0 G)
    (hm : ∀ d : Dev 8, m ((d.tc : Thread nD τ).loc main_arg2) = Layout.block S4x2x2048x512 (Halves 32 2048 512) 0 8 d x) :
    G = Layout.block S4x2048x512 (Rows 32 2048 512) 0 8 c (Cert.Shared.swapped Cert.MixerARefIdeal.facts0 x) :=
  pair_swapped (p := 2048) (q := 512) Cert.MixerARefIdeal.facts0 c G (fun d => m ((d.tc : Thread nD τ).loc main_arg2)) x
    (fun t z => ((E.sheet 0).piece t).dst.view.emb z) (fun t d z => (((E.sheet 0).piece t).src d).view.emb z)
    (squeezes_S1x2048x512_S2048x512 : S1x2048x512.Squeezes S2048x512).numel_eq
    (squeezes_S1x1x2048x512_S2048x512 : S1x1x2048x512.Squeezes S2048x512).numel_eq
    (fun _ _ _ => rfl) (fun _ _ _ _ => rfl) (fun t z => congrFun (hG t) z) (by decide) (by decide) hm

theorem exchanged1 (c : Dev nD) (G : S4x512x4096.Idx → Elt F .bf16) (x : (Halves 32 512 4096).Idx → Elt F .bf16) (hG : E.Full m c 1 G)
    (hm : ∀ d : Dev 8, m ((d.tc : Thread nD τ).loc main_arg3) = Layout.block S4x2x512x4096 (Halves 32 512 4096) 0 8 d x) :
    G = Layout.block S4x512x4096 (Rows 32 512 4096) 0 8 c (Cert.Shared.swapped Cert.MixerARefIdeal.facts1 x) :=
  pair_swapped (p := 512) (q := 4096) Cert.MixerARefIdeal.facts1 c G (fun d => m ((d.tc : Thread nD τ).loc main_arg3)) x
    (fun t z => ((E.sheet 1).piece t).dst.view.emb z) (fun t d z => (((E.sheet 1).piece t).src d).view.emb z)
    (squeezes_S1x512x4096_S512x4096 : S1x512x4096.Squeezes S512x4096).numel_eq
    (squeezes_S1x1x512x4096_S512x4096 : S1x1x512x4096.Squeezes S512x4096).numel_eq
    (fun _ _ _ => rfl) (fun _ _ _ _ => rfl) (fun t z => congrFun (hG t) z) (by decide) (by decide) hm

end Exchange

variable (m : (ℓ : Loc nD τ sig) → Buf (Elt Ideal) ℓ)

theorem index0 : ∀ t : Fin cfg0.N, win0_0.index t (0 : Fin 2) = t.val / 8 % 4 ∧ win0_0.index t (1 : Fin 2) = t.val % 8 := by decide +kernel
theorem index1 : ∀ t : Fin cfg0.N, win0_1.index t (0 : Fin 3) = t.val % 8 ∧ win0_1.index t (1 : Fin 3) = t.val / 32 ∧ win0_1.index t (2 : Fin 3) = 0 := by decide +kernel
theorem index2 : ∀ t : Fin cfg0.N, win0_2.index t (0 : Fin 2) = t.val / 8 % 4 ∧ win0_2.index t (1 : Fin 2) = t.val / 32 := by decide +kernel

/-- A device's two factors, -/
abbrev left (c : Dev nD) : S4096x4096.Idx → EReal := m ((c.tc : Thread nD τ).loc main_arg0)
abbrev right (c : Dev nD) : S8x2048x512.Idx → EReal := m ((c.tc : Thread nD τ).loc main_arg1)

/-- and their blocks at a point. -/
theorem left_block (c : Dev nD) (t : Fin cfg0.N) (y : Fin 1024) (j : Fin 512) (a : Fin 4096) (k : Fin 8) (ha : a.val = t.val / 8 % 4 * 1024 + y.val) (hk : t.val % 8 = k.val) :
    (blk m c 0 t : S1024x512.Idx → EReal) (ix2 y j) = left m c (ix2 a ⟨k.val * 512 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 512 + 1 * j.val = k.val * 512 + j.val; omega
theorem right_block (c : Dev nD) (t : Fin cfg0.N) (y : Fin 1024) (j : Fin 512) (b : Fin 2048) (k : Fin 8) (hb : b.val = t.val / 32 * 1024 + y.val) (hk : t.val % 8 = k.val) :
    (blk m c 1 t : S1x1024x512.Idx → EReal) (ix3 0 y j) = right m c (ix3 k b j) := by
  obtain ⟨f0, f1, f2⟩ := index1 t
  refine congrArg (right m c) (funext fun x => Fin.ext ?_)
  match x with
  | ⟨0, _⟩ => show win0_1.index t (0 : Fin 3) * 1 + 1 * 0 = k.val; omega
  | ⟨1, _⟩ => show win0_1.index t (1 : Fin 3) * 1024 + 1 * y.val = b.val; omega
  | ⟨2, _⟩ => show win0_1.index t (2 : Fin 3) * 512 + 1 * j.val = j.val; omega

/-- The accumulator at the end of a sweep over the parts. -/
theorem acc_apply (c : Dev nD) (t : Fin cfg0.N) (ht : t.val % 8 = 7) (y0 y1 : Fin 1024) (a : Fin 4096) (b : Fin 2048)
    (ha : a.val = t.val / 8 % 4 * 1024 + y0.val) (hb : b.val = t.val / 32 * 1024 + y1.val) :
    (acc m c t.val t.isLt : S1024x1024.Idx → EReal) (ix2 y0 y1)
      = ∑ k : Fin 8, ∑ j : Fin 512, left m c (ix2 a ⟨k.val * 512 + j.val, by omega⟩) * right m c (ix3 k b j) := by
  have hN : t.val < 64 := t.isLt
  refine products_sum 8 (φ := .bf16) (start m c) (add m c) (blk m c 0) (blk m c 1) shapeCasts_S1024x512_S1024x512 shapeCasts_S1x1024x512_S1024x512 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 8 + k.val) / 8 % 4 * 1024 + _; omega) (by show (t.val + 1 - 8 + k.val) % 8 = k.val; omega)
  · have hk := k.isLt
    exact right_block m c _ y1 j b k (by show _ = (t.val + 1 - 8 + k.val) / 32 * 1024 + _; omega) (by show (t.val + 1 - 8 + k.val) % 8 = k.val; omega)

theorem tilesX : Layout.Tiles S4096x4096 Cert.MixerARefIdeal.S32768x4096 0 8 := by decide
theorem tilesY : Layout.Tiles S4096x2048 Cert.MixerARefIdeal.S32768x2048 0 8 := by decide

/-- The product's array is the device's rows of the reference's. -/
theorem product_final (c : Dev nD) (x : Cert.MixerARefIdeal.S32768x4096.Idx → EReal) (w : S8x2048x512.Idx → EReal)
    (hx : m ((c.tc : Thread nD τ).loc main_arg0) = Layout.block S4096x4096 Cert.MixerARefIdeal.S32768x4096 0 8 c x) (hw : m ((c.tc : Thread nD τ).loc main_arg1) = w) :
    (dats m 0 c).arrAt 2 cfg0.N = Layout.block S4096x2048 Cert.MixerARefIdeal.S32768x2048 0 8 c (Cert.MixerARefIdeal.product (F := Ideal) x w) := by
  refine (dats m 0 c).arrAt_eq_of_covers 2 _ (by decide +kernel) fun t hf y => ?_
  have ht := (flush0_2 t).mp hf
  have hc : c.val < 8 := c.isLt
  have hN : t.val < 64 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 8 % 4 * 1024 + (y 0).val, by omega⟩ ⟨t.val / 32 * 1024 + (y 1).val, by omega⟩ rfl rfl
  have hr := product_rows (p := 4096) (M := 32768) (N := 2048) (J := 512) (L := 4096) (φ := .bf16) (rfl : 4096 = 8 * 512) tilesX c x w Cert.MixerARefIdeal.Facts₀.transposes_S8x2048x512_S2048x8x512_1_0_2
    Cert.MixerARefIdeal.Facts₀.shapeCasts_S2048x8x512_S2048x4096 Cert.MixerARefIdeal.Facts₀.transposes_S2048x4096_S4096x2048_1_0
    ⟨t.val / 8 % 4 * 1024 + (y 0).val, by omega⟩ ⟨t.val / 32 * 1024 + (y 1).val, by omega⟩ ⟨c.val * 4096 + (t.val / 8 % 4 * 1024 + (y 0).val), by omega⟩ rfl
  have hi : tilesY.idx c (((cfg0.win 2).blk t).view.emb y)
      = ix2 (⟨c.val * 4096 + (t.val / 8 % 4 * 1024 + (y 0).val), by omega⟩ : Fin 32768) (⟨t.val / 32 * 1024 + (y 1).val, by omega⟩ : Fin 2048) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.MixerARefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.MixerAIdeal

end
-- ==== Proof.MixerB.Body.lean ====
/- The product with the transposed projection of the recurrence beside the exchange between the chips: where the exchange's pieces lie, what the product's
   accumulator holds at each point, and the body on one device at one point. -/
module

public import proofs.«01_k».proof.Proof.Shared.Grid
public import proofs.«01_k».proof.Proof.Shared.Chips
public import proofs.«01_k».proof.Proof.Gen.MixerBIdeal.Skeleton
public import proofs.«01_k».proof.Proof.Gen.MixerBIdeal.Points
public import proofs.«01_k».proof.Proof.Gen.MixerBIdeal.Launch

@[expose] public section

noncomputable section

namespace Cert.MixerBIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerBIdeal.Gen Cert.Shared Cert.Shared.Direct

theorem words0 : ∀ t : Fin 4, (row 512 4096 t).WholeWords (EltTy.packing .bf16) := by decide +kernel

/-- The array exchanged and its result. -/
def sheet0 : Sheet sig (Fin 4) :=
  chipSheet 512 4096 (Memref.whole main_arg2) (Memref.whole main_v1_1) (Memref.isWhole_whole _) (Memref.isWhole_whole _) rfl
    squeezes_S1x512x4096_S512x4096 words0 (by decide)

def num : Kind (Fin 1) (Fin 1) (Fin 3) → DmaSem sig
  | (_, .inl _) => ⟨12, by decide⟩
  | (_, .inr (.inl j)) => ⟨6 + j.val, by show _ < 13; omega⟩
  | (_, .inr (.inr j)) => ⟨9 + j.val, by show _ < 13; omega⟩

theorem num_inj : Function.Injective num := by decide +kernel

/-- The exchange. -/
def E : Setup sig (Fin 1) (Fin 1) (Fin 3) (Fin 4) := chips (fun _ => sheet0) num num_inj

theorem off_own : ∀ d : Dev 8, k0_off1 d = ![(chip 0 d).val, 0, 0] := by decide +kernel
theorem off_x : ∀ d : Dev 8, k0_off2 d = ![(chip 1 d).val, 0, 0] := by decide +kernel
theorem off_y : ∀ d : Dev 8, k0_off3 d = ![(chip 2 d).val, 0, 0] := by decide +kernel
theorem off_xy : ∀ d : Dev 8, k0_off4 d = ![(chip 3 d).val, 0, 0] := by decide +kernel
theorem dev_x : ∀ d : Dev 8, k0_dev1 d = (across 1 d).val := by decide +kernel
theorem dev_y : ∀ d : Dev 8, k0_dev2 d = (across 2 d).val := by decide +kernel
theorem dev_xy : ∀ d : Dev 8, k0_dev3 d = (across 3 d).val := by decide +kernel

variable {F : FTy → Type} [FloatOps F] (m : (ℓ : Loc nD τ sig) → Buf (Elt F) ℓ)

/-- The copies and the transfers in order. -/
def homes : List (Fin 1 × Fin 1) := [(0, 0)]
def ways : List (Fin 1 × Fin 3) := [(0, 0), (0, 1), (0, 2)]

/-- The grid's point by number, and the conditions the body decides there. -/
theorem cond1_iff : ∀ t : Fin cfg0.N, k0_cond1 (grid0.coords t) = 1#1 ↔ t.val = 0 := by decide +kernel
theorem cond5_iff : ∀ t : Fin cfg0.N, k0_cond5 (grid0.coords t) = 1#1 ↔ t.val = 31 := by decide +kernel
theorem cond4_iff : ∀ t : Fin cfg0.N, k0_cond4 (grid0.coords t) = 1#1 ↔ t.val % 2 = 1 := by decide +kernel
theorem cond2_iff : ∀ t : Fin cfg0.N, Scalar.cmpi .ne (Scalar.extui (Scalar.cmpi .eq (BitVec.ofNat 32 (grid0.coords t 2).val) 0#32) : BitVec 32) 0#32 = 1#1 ↔ t.val % 2 = 0 := by decide +kernel
theorem cond3_iff : ∀ t : Fin cfg0.N, Scalar.cmpi .ne (Scalar.extui (Scalar.cmpi .sgt (BitVec.ofNat 32 (grid0.coords t 2).val) 0#32) : BitVec 32) 0#32 = 1#1 ↔ t.val % 2 ≠ 0 := by decide +kernel

/-- What a sweep's step leaves in the accumulator. -/
def step (n : ℕ) (x : Vec F S1024x2048 .bf16) (y : Vec F S1x1024x2048 .bf16) (z : Vec F S1024x1024 .f32) : Vec F S1024x1024 .f32 :=
  if n % 2 = 0 then k0_pay2 x y else k0_pay3 x y z

set_option maxRecDepth 20000 in
set_option maxHeartbeats 4000000 in
theorem body_wp (c : Dev nD) (t : Fin cfg0.N) (𝒱 : Variants) (L : sProp (XM nD τ sig (Elt F)))
    (b₀ : Memref sig .tc .vmem S1024x2048 .bf16) (h₀ : b₀.IsWhole) (b₁ : Memref sig .tc .vmem S1x1024x2048 .bf16) (h₁ : b₁.IsWhole)
    (b₂ : Memref sig .tc .vmem S1024x1024 .f32) (h₂ : b₂.IsWhole) (b₃ : Memref sig .tc .vmem S1024x1024 .f32) (h₃ : b₃.IsWhole)
    (x : Vec F S1024x2048 .bf16) (y : Vec F S1x1024x2048 .bf16) (z d : Vec F S1024x1024 .f32) :
    iprop(E.point 32 ways m c t.val ∗ owns (c.tc : Thread nD τ) b₀ fullShare x ∗ owns (c.tc : Thread nD τ) b₁ fullShare y
        ∗ owns (c.tc : Thread nD τ) b₂ fullShare d ∗ owns (c.tc : Thread nD τ) b₃ fullShare z ∗ L)
      ⊢ wp frame (wpE (defs₀ (F := F)) 𝒱 (c.tc : Thread nD τ) none) Set.univ
        (cc0_bwd_proj_lru (F := F) (grid0.coords t) b₀ h₀ b₁ h₁ (Memref.whole main_arg2) (Memref.isWhole_whole _) b₂ h₂ (Memref.whole main_v1_1) (Memref.isWhole_whole _)
          b₃ h₃ cc0_scratch1 cc0_scratch2 cc0_scratch3)
        (fun _ => iprop(E.point 32 ways m c (t.val + 1) ∗ owns (c.tc : Thread nD τ) b₀ fullShare x ∗ owns (c.tc : Thread nD τ) b₁ fullShare y
          ∗ owns (c.tc : Thread nD τ) b₂ fullShare (if t.val % 2 = 1 then step t.val x y z else d)
          ∗ owns (c.tc : Thread nD τ) b₃ fullShare (step t.val x y z) ∗ L)) := by
  rw [cc0_bwd_proj_lru_eq_skeleton]
  unfold cc0_bwd_proj_lru_skel
  have tN : t.val < 32 := t.isLt
  by_cases t0 : t.val = 0
  · have c1 := (cond1_iff t).mpr t0
    have c2 := (cond2_iff t).mpr (by omega)
    have c3 := mt (cond3_iff t).mp (by omega)
    have c4 := mt (cond4_iff t).mp (by omega)
    have c5 := mt (cond5_iff t).mp (by omega)
    simp only [dif_pos c1, dif_pos c2, dif_neg c3, dif_neg c4, dif_neg c5,
      k0_part1_eq_skeleton, k0_part2_eq_skeleton, k0_part1_skel, k0_part2_skel, Prog.lift, Prog.bind_op, Prog.bind_ret, Prog.pure_eq_ret, wp_deviceId]
    have hp : E.point 32 ways m c t.val = _ := (congrArg (E.point 32 ways m c) t0).trans (E.point_first 32 ways m c)
    rw [hp, E.point_mid 32 ways m c (by omega : t.val + 1 ≠ 0) (by omega)]
    refine (E.first homes ways m c (defs₀ (F := F)) 𝒱 (by decide +kernel) (by decide +kernel) (by decide +kernel) (by decide +kernel) _).trans ?_
    unfold homes ways
    refine E.plan.next_copy (copy_congr (row_eq _ _ 0 c _ (off_own c)) rfl rfl) ?_
    refine E.plan.next_send (send_congr (Fin.ext (dev_x c)) (row_eq _ _ 1 c _ (off_x c)) rfl rfl rfl) ?_
    refine E.plan.next_send (send_congr (Fin.ext (dev_y c)) (row_eq _ _ 2 c _ (off_y c)) rfl rfl rfl) ?_
    refine E.plan.next_send (send_congr (Fin.ext (dev_xy c)) (row_eq _ _ 3 c _ (off_xy c)) rfl rfl rfl) ?_
    unfold Plan.sends
    simp only [List.map_nil]
    rw [if_neg (by omega : ¬ t.val % 2 = 1), show step t.val x y z = k0_pay2 x y by unfold step; rw [if_pos (by omega)]]
    exact regroup.trans (next_start (defs₀ (F := F)) 𝒱 c (wp_done (defs₀ (F := F)) 𝒱 c .rfl))
  have c1 := mt (cond1_iff t).mp t0
  have hp := E.point_mid 32 ways m c t0 (by omega : t.val ≠ 32)
  by_cases t2 : t.val % 2 = 0
  · have c2 := (cond2_iff t).mpr t2
    have c3 := mt (cond3_iff t).mp (by omega)
    have c4 := mt (cond4_iff t).mp (by omega)
    have c5 := mt (cond5_iff t).mp (by omega)
    simp only [dif_neg c1, dif_pos c2, dif_neg c3, dif_neg c4, dif_neg c5, Prog.lift, Prog.bind_op, Prog.bind_ret, Prog.pure_eq_ret]
    have hq := E.point_mid 32 ways m c (by omega : t.val + 1 ≠ 0) (by omega)
    rw [hp, hq, if_neg (by omega : ¬ t.val % 2 = 1), show step t.val x y z = k0_pay2 x y by unfold step; rw [if_pos t2]]
    exact next_start (defs₀ (F := F)) 𝒱 c (wp_done (defs₀ (F := F)) 𝒱 c .rfl)
  have c2 := mt (cond2_iff t).mp t2
  have c3 := (cond3_iff t).mpr t2
  have hz : step t.val x y z = k0_pay3 x y z := by unfold step; rw [if_neg t2]
  by_cases t4 : t.val % 2 = 1
  · have c4 := (cond4_iff t).mpr t4
    by_cases t5 : t.val = 31
    · have c5 := (cond5_iff t).mpr t5
      simp only [dif_neg c1, dif_neg c2, dif_pos c3, dif_pos c4, dif_pos c5, k0_part3_eq_skeleton, k0_part4_eq_skeleton, k0_part5_eq_skeleton,
        k0_part3_skel, k0_part4_skel, k0_part5_skel, Prog.lift, Prog.bind_op, Prog.bind_ret, Prog.pure_eq_ret, wp_deviceId]
      have hq : E.point 32 ways m c (t.val + 1) = _ := (congrArg (fun n => E.point 32 ways m c (n + 1)) t5).trans (E.point_last 32 ways m c (by decide))
      rw [hp, hq, if_pos t4, hz]
      refine next_add (defs₀ (F := F)) 𝒱 c (next_flush (defs₀ (F := F)) 𝒱 c ?_)
      refine (E.finish homes ways m c (defs₀ (F := F)) 𝒱 (by decide +kernel) (by decide +kernel) _).trans ?_
      rw [wp_deviceId]
      unfold ways homes
      simp only [List.map_cons, List.map_nil, List.cons_append, List.nil_append]
      iterate 7 (refine E.plan.next_await (fun _ => rfl) ?_)
      unfold Plan.awaits
      exact wp_done (defs₀ (F := F)) 𝒱 c regroup
    have c5 := mt (cond5_iff t).mp t5
    simp only [dif_neg c1, dif_neg c2, dif_pos c3, dif_pos c4, dif_neg c5, Prog.lift, Prog.bind_op, Prog.bind_ret, Prog.pure_eq_ret]
    have hq := E.point_mid 32 ways m c (by omega : t.val + 1 ≠ 0) (by omega)
    rw [hp, hq, if_pos t4, hz]
    exact next_add (defs₀ (F := F)) 𝒱 c (next_flush (defs₀ (F := F)) 𝒱 c (wp_done (defs₀ (F := F)) 𝒱 c .rfl))
  omega

end Cert.MixerBIdeal
-- ==== Proof.MixerB.Run.lean ====
/- The run of the product with the transposed projection of the recurrence and of the exchange between the chips, on eight devices. -/
module

public import proofs.«01_k».proof.Proof.MixerB.Body
public import proofs.«01_k».proof.Proof.Shared.Accumulate

@[expose] public section

noncomputable section

namespace Cert.MixerBIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose launchCred)
open Cert.MixerBIdeal.Gen Cert.Shared Cert.Shared.Direct

variable {F : FTy → Type} [FloatOps F] (m : (ℓ : Loc nD τ sig) → Buf (Elt F) ℓ)

/-- Window `w`'s block at point `t`, of the array as the run finds it. -/
def blk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c.tc : Thread nD τ)))

/-- What a sweep's first point leaves in the accumulator, and what another does. -/
def start (c : Dev nD) (t : Fin cfg0.N) : Vec F S1024x1024 .f32 := k0_pay2 (blk m c 0 t) (blk m c 1 t)
def add (c : Dev nD) (t : Fin cfg0.N) : Vec F S1024x1024 .f32 → Vec F S1024x1024 .f32 := k0_pay3 (blk m c 0 t) (blk m c 1 t)
/-- The accumulator after point `n`. -/
abbrev acc (c : Dev nD) (n : ℕ) (h : n < cfg0.N) : Vec F S1024x1024 .f32 := sweep 2 (start m c) (add m c) n h

/-- The exchange and the accumulator's buffer before point `n`. -/
def Φ (c : Dev nD) (n : ℕ) : sProp (XM nD τ sig (Elt F)) := E.swept 32 m c 2 (start m c) (add m c) (Memref.whole cc0_scratch0) n

/-- The proof's data: the inputs' buffers hold their blocks, the output's the accumulator. -/
def dats (_ : Fin 1) (c : Dev nD) : Dat τ (Elt F) Unit ℕ (Two nD τ sig) ℕ cfg0 c where
  A w := m ((cfg0.win w).arr.view.loc (c.tc : Thread nD τ))
  after w t := match w with
    | ⟨0, _⟩ => blk m c 0 t
    | ⟨1, _⟩ => blk m c 1 t
    | ⟨2, _⟩ => acc m c t.val t.isLt
  Φ t := Φ m c t.val
  q _ := fullShare
  owed t := debt E.wires (due E.plan.toward c (E.dues ways t.val))

theorem before0 (c : Dev nD) (t : Fin cfg0.N) (d) : (dats m 0 c).before 0 t d = blk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = blk m c 1 t :=
  ((dats m 0 c).before_in_eq_fetched 1 rfl (fun _ => rfl) (fun _ _ _ => rfl) (fun _ => rfl) t d).trans rfl

theorem idle2 : ∀ t : Fin cfg0.N, ¬ t.val % 2 = 1 → cfg0.idle 2 (grid0.coords t) = true := by decide +kernel
theorem live2 : ∀ t : Fin cfg0.N, t.val % 2 = 1 → cfg0.idle 2 (grid0.coords t) = false := by decide +kernel

/-- What the body finds at point `t`, and what it leaves. -/
def bodyPre (c : Dev nD) (t : Fin cfg0.N) : sProp (XM nD τ sig (Elt F)) :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d)))
def bodyPost (c : Dev nD) (t : Fin cfg0.N) : sProp (XM nD τ sig (Elt F)) :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : owns (c.tc : Thread nD τ) (st0_0 t) fullShare (blk m c 0 t) ⊢ (dats m 0 c).leavesExact 0 t := .rfl
theorem leaves1 (c : Dev nD) (t : Fin cfg0.N) : owns (c.tc : Thread nD τ) (st0_1 t) fullShare (blk m c 1 t) ⊢ (dats m 0 c).leavesExact 1 t := .rfl
theorem leaves2 (c : Dev nD) (t : Fin cfg0.N) (d) (x) (hx : x = acc m c t.val t.isLt) :
    owns (c.tc : Thread nD τ) (st0_2 t) fullShare (if t.val % 2 = 1 then x else (dats m 0 c).before 2 t d) ⊢ (dats m 0 c).leavesExact 2 t :=
  Setup.leaves_swept c (dats m 0 c) 2 t (fun h => by unfold Dat.leavesExact; rw [live2 t h]) (idle2 t) (flush0_2 t).mp d hx

set_option maxRecDepth 20000 in
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost
  simp only [before0, before1]
  exact E.sound_sweep 32 ways m c (dats m 0 c) t defs₀ Variants.none (p := Ready 2 (start m c) (add m c) t.val) (p' := Ready 2 (start m c) (add m c) (t.val + 1))
    (f := sweepStep 2 (start m c) (add m c) t) (L := E.leftover m c) (a₃ := owns (c.tc : Thread nD τ) (Memref.whole cc0_scratch0) fullShare)
    rfl rfl rfl rfl (fun _ => trivial) (fun _ => .rfl) (fun _ => .rfl) (ready_step 2 (start m c) (add m c) t)
    (fun z d => body_wp m c t Variants.none (E.leftover m c) (st0_0 t) (hstage0_0 ((cfg0.slots t 0).cast nbuf0_0)) (st0_1 t) (hstage0_1 ((cfg0.slots t 1).cast nbuf0_1))
      (st0_2 t) (hstage0_2 ((cfg0.slots t 2).cast nbuf0_2)) (Memref.whole cc0_scratch0) (Memref.isWhole_whole _) (blk m c 0 t) (blk m c 1 t) z _)
    (leaves0 m c t) (leaves1 m c t) (fun z d hz => leaves2 m c t d _ (sweep_step 2 (start m c) (add m c) t z hz))

/-- The body table's row at point `t`. -/
theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact sound_body m c t

theorem arrays (c : Dev nD) : (Pipeline.unscopedRest cfg0.spec c (fun b => m ((c.tc : Thread nD τ).loc b)) : sProp (XM nD τ sig (Elt F)))
    ⊢ iprop(E.inputs m c ∗ E.outputs c) := by
  rw [unscopedRest0_eq]
  unfold Setup.inputs Setup.outputs
  rw [Setup.one, Setup.one]
  iintro ⟨S0, O0⟩
  isplitl [S0]; · iexact S0
  iexists _; iexact O0

theorem own_sems : Pipeline.OwnSemFacts cfg0.spec E.wires.at_ := by decide +kernel

/-- Every weakly fair run on the eight devices ends, with the product's array as the proof's data say, every slot of the exchange's
    result filled, the arguments as they were and every semaphore at zero. -/
theorem run_main (g : Dev nD → PrngReg) : θ_run (defs (F := F)) (onTc (main (F := F))) ⟨m, fun _ => 0, g⟩
    (fun r => (∀ c : Dev nD, (∀ w, r.2.mem ((cfg0.win w).arr.view.loc (c.tc : Thread nD τ)) = (dats m 0 c).arrAt w cfg0.N) ∧ E.Done m c r.2) ∧ r.2.sem = fun _ => 0) :=
  E.run ways m cfgs (dats m) 0 cellOf_inj winFacts0 own_sems defs₀ g main (fun _ => rfl) (by decide +kernel) (by decide +kernel) (by decide)
    (body_obligation m) block_pos0 arr_whole0 stage_whole0 (fun _ _ => rfl) (fun _ _ => rfl) (fun _ _ => rfl) (arrays m)
    (fun c => by
      have h := E.swept_in 32 m c 2 (start m c) (add m c) (Memref.whole cc0_scratch0)
      simp only [owns_whole] at h
      rw [scopedRest0_eq]; exact h)
    (fun c => by
      have h := E.swept_out 32 m c 2 (start m c) (add m c) (Memref.whole cc0_scratch0) (by decide)
      simp only [owns_whole] at h
      rw [scopedRest0_eq]; exact h)
    (by decide)

/-- What the run leaves unchanged. -/
theorem kept (M : MemSt nD τ sig (Elt F)) (c : Dev nD)
    (h : (∀ w, M.mem ((cfg0.win w).arr.view.loc (c.tc : Thread nD τ)) = (dats m 0 c).arrAt w cfg0.N) ∧ E.Done m c M) :
    M.mem ((c.tc : Thread nD τ).loc main_arg0) = m ((c.tc : Thread nD τ).loc main_arg0) ∧ M.mem ((c.tc : Thread nD τ).loc main_arg1) = m ((c.tc : Thread nD τ).loc main_arg1)
      ∧ M.mem ((c.tc : Thread nD τ).loc main_arg2) = m ((c.tc : Thread nD τ).loc main_arg2) :=
  ⟨(h.1 0).trans ((dats m 0 c).arrAt_in 0 rfl _), (h.1 1).trans ((dats m 0 c).arrAt_in 1 rfl _), (h.2 0).2⟩

end Cert.MixerBIdeal
-- ==== Proof.MixerB.Ref.lean ====
/- The reference's run of the product with the transposed projection of the recurrence and of the exchange between the chips, on one device. -/
module

public import Idealize.ShloMosaic.Lib.StableHlo.Run
public import Idealize.ShloMosaic.Lib.Quiescent
public import proofs.«01_k».proof.Proof.Shared.Chips
public import proofs.«01_k».proof.Proof.Gen.MixerBRefIdeal

@[expose] public section

noncomputable section

namespace Cert.MixerBRefIdeal

open Cert.MixerBRefIdeal.Gen
open Idealize.ShloMosaic Idealize.ShloMosaic.TcCoe Idealize.ShloMosaic.StableHlo Idealize.SL.Sem

variable {F : FTy → Type} [FloatOps F]

/-- The product, -/
abbrev product (x : S32768x4096.Idx → Elt F .bf16) (w : S1x4096x4096.Idx → Elt F .bf16) : S32768x4096.Idx → Elt F .f32 :=
  Host.dotGeneral dot_S32768x4096_S4096x4096_S32768x4096_1_0_0_1_n_n none x
    (transpose S4096x4096 [1, 0] (shapeCast S4096x4096 (transpose S4096x1x4096 [1, 0, 2] w Facts₀.transposes_S1x4096x4096_S4096x1x4096_1_0_2)
      Facts₀.shapeCasts_S4096x1x4096_S4096x4096) Facts₀.transposes_S4096x4096_S4096x4096_1_0)
/-- the sizes of the exchange's arrays. -/
theorem facts : Cert.Shared.ChipFacts 512 4096 2097152 := by constructor <;> decide

/-- The reference's operations. -/
abbrev steps : List (HloOp τ sig (Elt F)) :=
  [ unary main_arg1 main_v0 (transpose S4096x1x4096 [1, 0, 2] · Facts₀.transposes_S1x4096x4096_S4096x1x4096_1_0_2),
    reshape main_v0 main_v1 rfl Facts₀.shapeCasts_S4096x1x4096_S4096x4096,
    unary main_v1 main_v2 (transpose S4096x4096 [1, 0] · Facts₀.transposes_S4096x4096_S4096x4096_1_0),
    binary main_arg0 main_v2 main_v3 (fun l r => Host.dotGeneral dot_S32768x4096_S4096x4096_S32768x4096_1_0_0_1_n_n none l r),
    reshape main_arg2 main_v4 rfl Facts₀.shapeCasts_S32x512x4096_S2x2x2x2x2x2097152,
    unary main_v4 main_v5 (transpose S2x2x2x2x2x2097152 [3, 4, 2, 1, 0, 5] · Facts₀.transposes_S2x2x2x2x2x2097152_S2x2x2x2x2x2097152_3_4_2_1_0_5),
    unary main_v5 main_v6 (extractStridedSlice S1x2x2x2x2x2097152 ![0, 0, 0, 0, 0, 0] · Facts₀.slices_S2x2x2x2x2x2097152_S1x2x2x2x2x2097152_0_0_0_0_0_0),
    unary main_v5 main_v7 (extractStridedSlice S1x2x2x2x2x2097152 ![1, 0, 0, 0, 0, 0] · Facts₀.slices_S2x2x2x2x2x2097152_S1x2x2x2x2x2097152_1_0_0_0_0_0),
    unary main_v7 main_v8 (Host.reverse [4]),
    binary main_v6 main_v8 main_v9 (fun a b => concatenate S2x2x2x2x2x2097152 0 [⟨S1x2x2x2x2x2097152, a⟩, ⟨S1x2x2x2x2x2097152, b⟩] Facts₀.concatenates_S1x2x2x2x2x2097152_S1x2x2x2x2x2097152_S2x2x2x2x2x2097152_d0),
    unary main_v9 main_v10 (extractStridedSlice S2x1x2x2x2x2097152 ![0, 0, 0, 0, 0, 0] · Facts₀.slices_S2x2x2x2x2x2097152_S2x1x2x2x2x2097152_0_0_0_0_0_0),
    unary main_v9 main_v11 (extractStridedSlice S2x1x2x2x2x2097152 ![0, 1, 0, 0, 0, 0] · Facts₀.slices_S2x2x2x2x2x2097152_S2x1x2x2x2x2097152_0_1_0_0_0_0),
    unary main_v11 main_v12 (Host.reverse [3]),
    binary main_v10 main_v12 main_v13 (fun a b => concatenate S2x2x2x2x2x2097152 1 [⟨S2x1x2x2x2x2097152, a⟩, ⟨S2x1x2x2x2x2097152, b⟩] Facts₀.concatenates_S2x1x2x2x2x2097152_S2x1x2x2x2x2097152_S2x2x2x2x2x2097152_d1),
    reshape main_v13 main_v14 rfl Facts₀.shapeCasts_S2x2x2x2x2x2097152_S32x512x4096 ]

theorem main_steps (c : Dev nD) : main (F := F) c = seq steps := rfl

variable (V : Valuation τ sig (Elt F))

theorem steps_v3 : after steps V (main_v3 : DevRef τ sig) = product (V (main_arg0 : DevRef τ sig)) (V (main_arg1 : DevRef τ sig)) := by after_results; rfl
theorem steps_v14 : after steps V (main_v14 : DevRef τ sig) = Cert.Shared.received facts (V (main_arg2 : DevRef τ sig)) := by after_results; rfl
theorem steps_arg0 : after steps V (main_arg0 : DevRef τ sig) = V (main_arg0 : DevRef τ sig) := by after_results
theorem steps_arg1 : after steps V (main_arg1 : DevRef τ sig) = V (main_arg1 : DevRef τ sig) := by after_results
theorem steps_arg2 : after steps V (main_arg2 : DevRef τ sig) = V (main_arg2 : DevRef τ sig) := by after_results

theorem none_scoped_refs : (Finset.univ.filter fun b : Ref sig .tc => b.isScoped) = ∅ := by decide
theorem none_scoped_sems : (Finset.univ.filter fun sm : SemLoc sig => sm.isScoped .tc) = ∅ := by decide

theorem steps_local : (steps : List (HloOp τ sig (Elt F))).Forall fun op => op.bufs ⊆ tcRefs τ sig :=
  ⟨unary_bufs_sub .., reshape_bufs_sub .., unary_bufs_sub .., binary_bufs_sub ..,
    reshape_bufs_sub .., unary_bufs_sub .., unary_bufs_sub .., unary_bufs_sub .., unary_bufs_sub .., binary_bufs_sub .., unary_bufs_sub .., unary_bufs_sub ..,
    unary_bufs_sub .., binary_bufs_sub .., reshape_bufs_sub ..⟩

/-- What a final memory of the reference holds. -/
def Ends (m : (ℓ : Loc nD τ sig) → Buf (Elt F) ℓ) (c : Dev nD) (s : MemSt nD τ sig (Elt F)) : Prop :=
  (s.mem ((c.tc : Thread nD τ).loc main_v3) = product (m ((c.tc : Thread nD τ).loc main_arg0)) (m ((c.tc : Thread nD τ).loc main_arg1)))
  ∧ (s.mem ((c.tc : Thread nD τ).loc main_v14) = Cert.Shared.received facts (m ((c.tc : Thread nD τ).loc main_arg2)))
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)

theorem run_reference (m : (ℓ : Loc nD τ sig) → Buf (Elt F) ℓ) (g : Dev nD → PrngReg) :
    θ_run (defs (F := F)) (onTc (τ := τ) (main (F := F))) ⟨m, fun _ => 0, g⟩
      (fun r => (∀ c : Dev nD, Ends m c r.2) ∧ r.2.sem = fun _ => 0) :=
  (θ_run defs _ _).mono
    (fun r h => ⟨fun c => ⟨(h c main_v3).trans (steps_v3 _), (h c main_v14).trans (steps_v14 _),
        (h c main_arg0).trans (steps_arg0 _), (h c main_arg1).trans (steps_arg1 _), (h c main_arg2).trans (steps_arg2 _)⟩,
      sem_eq_zero_of_no_sems (by decide) r.2⟩)
    (run_seq none_scoped_refs none_scoped_sems defs main (fun _ => steps) main_steps (fun _ => steps_local) m g)

end Cert.MixerBRefIdeal

end
-- ==== Proof.MixerB.Value.lean ====
/- What the product with the transposed projection of the recurrence and the exchange beside it end with is each device's part of the reference's results. -/
module

public import proofs.«01_k».proof.Proof.MixerB.Run
public import proofs.«01_k».proof.Proof.MixerB.Ref
public import proofs.«01_k».proof.Proof.Shared.Product

@[expose] public section

noncomputable section

namespace Cert.MixerBIdeal

open Idealize.ShloMosaic hiding ix2 ix3
open Idealize.ShloMosaic.TcCoe
open Idealize.ShloMosaic.ValueIdx (ix2 ix3)
open Cert.MixerBIdeal.Gen Cert.MixerBRefIdeal.Gen Cert.Shared Cert.Shared.Direct

section Exchange

variable {F : FTy → Type} [FloatOps F] {m : (ℓ : Loc nD τ sig) → Buf (Elt F) ℓ}

theorem tiles0 : Layout.Tiles (Rows 4 512 4096) (Rows 32 512 4096) 0 8 := by decide

theorem exchanged (c : Dev nD) (G : S4x512x4096.Idx → Elt F .bf16) (x : (Rows 32 512 4096).Idx → Elt F .bf16) (hG : E.Full m c 0 G)
    (hm : ∀ d : Dev 8, m ((d.tc : Thread nD τ).loc main_arg2) = Layout.block S4x512x4096 (Rows 32 512 4096) 0 8 d x) :
    G = Layout.block S4x512x4096 (Rows 32 512 4096) 0 8 c (Cert.Shared.received Cert.MixerBRefIdeal.facts x) :=
  chips_received (p := 512) (q := 4096) Cert.MixerBRefIdeal.facts c G (fun d => m ((d.tc : Thread nD τ).loc main_arg2)) x
    (fun t z => ((E.sheet 0).piece t).dst.view.emb z) (fun t d z => (((E.sheet 0).piece t).src d).view.emb z)
    (squeezes_S1x512x4096_S512x4096 : S1x512x4096.Squeezes S512x4096).numel_eq
    (fun _ _ _ => rfl) (fun _ _ _ _ => rfl) (fun t => E.plan.who t c) (fun t => chips_who _ num num_inj t c) (fun t z => congrFun (hG t) z) tiles0 hm

end Exchange

variable (m : (ℓ : Loc nD τ sig) → Buf (Elt Ideal) ℓ)

theorem index0 : ∀ t : Fin cfg0.N, win0_0.index t (0 : Fin 2) = t.val / 2 % 4 ∧ win0_0.index t (1 : Fin 2) = t.val % 2 := by decide +kernel
theorem index1 : ∀ t : Fin cfg0.N, win0_1.index t (0 : Fin 3) = 0 ∧ win0_1.index t (1 : Fin 3) = t.val / 8 ∧ win0_1.index t (2 : Fin 3) = t.val % 2 := by decide +kernel
theorem index2 : ∀ t : Fin cfg0.N, win0_2.index t (0 : Fin 2) = t.val / 2 % 4 ∧ win0_2.index t (1 : Fin 2) = t.val / 8 := by decide +kernel

/-- A device's two factors, -/
abbrev left (c : Dev nD) : S4096x4096.Idx → EReal := m ((c.tc : Thread nD τ).loc main_arg0)
abbrev right (c : Dev nD) : S1x4096x4096.Idx → EReal := m ((c.tc : Thread nD τ).loc main_arg1)

/-- and their blocks at a point. -/
theorem left_block (c : Dev nD) (t : Fin cfg0.N) (y : Fin 1024) (j : Fin 2048) (a : Fin 4096) (k : Fin 2) (ha : a.val = t.val / 2 % 4 * 1024 + y.val) (hk : t.val % 2 = k.val) :
    (blk m c 0 t : S1024x2048.Idx → EReal) (ix2 y j) = left m c (ix2 a ⟨k.val * 2048 + j.val, by omega⟩) := by
  obtain ⟨e0, e1⟩ := index0 t
  refine congrArg (left m c) (funext fun x => Fin.ext ?_)
  match x with
  | ⟨0, _⟩ => show win0_0.index t (0 : Fin 2) * 1024 + 1 * y.val = a.val; omega
  | ⟨1, _⟩ => show win0_0.index t (1 : Fin 2) * 2048 + 1 * j.val = k.val * 2048 + j.val; omega
theorem right_block (c : Dev nD) (t : Fin cfg0.N) (y : Fin 1024) (j : Fin 2048) (b : Fin 4096) (k : Fin 2) (hb : b.val = t.val / 8 * 1024 + y.val) (hk : t.val % 2 = k.val) :
    (blk m c 1 t : S1x1024x2048.Idx → EReal) (ix3 0 y j) = right m c (ix3 0 b ⟨k.val * 2048 + j.val, by omega⟩) := by
  obtain ⟨f0, f1, f2⟩ := index1 t
  refine congrArg (right m c) (funext fun x => Fin.ext ?_)
  match x with
  | ⟨0, _⟩ => show win0_1.index t (0 : Fin 3) * 1 + 1 * 0 = 0; omega
  | ⟨1, _⟩ => show win0_1.index t (1 : Fin 3) * 1024 + 1 * y.val = b.val; omega
  | ⟨2, _⟩ => show win0_1.index t (2 : Fin 3) * 2048 + 1 * j.val = k.val * 2048 + j.val; omega

/-- The accumulator at the end of a sweep over the parts. -/
theorem acc_apply (c : Dev nD) (t : Fin cfg0.N) (ht : t.val % 2 = 1) (y0 y1 : Fin 1024) (a : Fin 4096) (b : Fin 4096)
    (ha : a.val = t.val / 2 % 4 * 1024 + y0.val) (hb : b.val = t.val / 8 * 1024 + y1.val) :
    (acc m c t.val t.isLt : S1024x1024.Idx → EReal) (ix2 y0 y1)
      = ∑ k : Fin 2, ∑ j : Fin 2048, left m c (ix2 a ⟨k.val * 2048 + j.val, by omega⟩) * right m c (ix3 0 b ⟨k.val * 2048 + j.val, by omega⟩) := by
  have hN : t.val < 32 := t.isLt
  refine products_sum 2 (φ := .bf16) (start m c) (add m c) (blk m c 0) (blk m c 1) shapeCasts_S1024x2048_S1024x2048 shapeCasts_S1x1024x2048_S1024x2048 y0 y1
    (fun t => by unfold start k0_pay2; rw [shapeCast_self]; rfl) (fun t z => by unfold add start k0_pay2 k0_pay3; rw [shapeCast_self, shapeCast_self]; rfl) t (by omega) _ _ (fun k j h => ?_) fun k j h => ?_
  · have hk := k.isLt
    exact left_block m c _ y0 j a k (by show _ = (t.val + 1 - 2 + k.val) / 2 % 4 * 1024 + _; omega) (by show (t.val + 1 - 2 + k.val) % 2 = k.val; omega)
  · have hk := k.isLt
    exact right_block m c _ y1 j b k (by show _ = (t.val + 1 - 2 + k.val) / 8 * 1024 + _; omega) (by show (t.val + 1 - 2 + k.val) % 2 = k.val; omega)

theorem tilesX : Layout.Tiles S4096x4096 Cert.MixerBRefIdeal.S32768x4096 0 8 := by decide
theorem tilesY : Layout.Tiles S4096x4096 Cert.MixerBRefIdeal.S32768x4096 0 8 := by decide

/-- The product's array is the device's rows of the reference's. -/
theorem product_final (c : Dev nD) (x : Cert.MixerBRefIdeal.S32768x4096.Idx → EReal) (w : S1x4096x4096.Idx → EReal)
    (hx : m ((c.tc : Thread nD τ).loc main_arg0) = Layout.block S4096x4096 Cert.MixerBRefIdeal.S32768x4096 0 8 c x) (hw : m ((c.tc : Thread nD τ).loc main_arg1) = w) :
    (dats m 0 c).arrAt 2 cfg0.N = Layout.block S4096x4096 Cert.MixerBRefIdeal.S32768x4096 0 8 c (Cert.MixerBRefIdeal.product (F := Ideal) x w) := by
  refine (dats m 0 c).arrAt_eq_of_covers 2 _ (by decide +kernel) fun t hf y => ?_
  have ht := (flush0_2 t).mp hf
  have hc : c.val < 8 := c.isLt
  have hN : t.val < 32 := t.isLt
  obtain ⟨e0, e1⟩ := index2 t
  have y0 : (y 0).val < 1024 := (y 0).isLt
  have y1 : (y 1).val < 1024 := (y 1).isLt
  have hl := acc_apply m c t ht ⟨(y 0).val, y0⟩ ⟨(y 1).val, y1⟩ ⟨t.val / 2 % 4 * 1024 + (y 0).val, by omega⟩ ⟨t.val / 8 * 1024 + (y 1).val, by omega⟩ rfl rfl
  have hr := product_rows_pieces (K := 2) (p := 4096) (M := 32768) (N := 4096) (J := 2048) (L := 4096) (φ := .bf16) (rfl : 4096 = 2 * 2048) tilesX c x w Cert.MixerBRefIdeal.Facts₀.transposes_S1x4096x4096_S4096x1x4096_1_0_2
    Cert.MixerBRefIdeal.Facts₀.shapeCasts_S4096x1x4096_S4096x4096 Cert.MixerBRefIdeal.Facts₀.transposes_S4096x4096_S4096x4096_1_0
    ⟨t.val / 2 % 4 * 1024 + (y 0).val, by omega⟩ ⟨t.val / 8 * 1024 + (y 1).val, by omega⟩ ⟨c.val * 4096 + (t.val / 2 % 4 * 1024 + (y 0).val), by omega⟩ rfl
  have hi : tilesY.idx c (((cfg0.win 2).blk t).view.emb y)
      = ix2 (⟨c.val * 4096 + (t.val / 2 % 4 * 1024 + (y 0).val), by omega⟩ : Fin 32768) (⟨t.val / 8 * 1024 + (y 1).val, by omega⟩ : Fin 4096) := by
    funext a
    apply Fin.ext
    match a with
    | ⟨0, _⟩ => refine (tilesY.idx_val c _ 0).trans ?_; show c.val * 4096 + (win0_2.index t (0 : Fin 2) * 1024 + 1 * (y 0).val) = _; rw [e0, Nat.one_mul]
    | ⟨1, _⟩ => refine (tilesY.idx_val c _ 1).trans ?_; show win0_2.index t (1 : Fin 2) * 1024 + 1 * (y 1).val = _; rw [e1, Nat.one_mul]
  rw [Layout.block_apply]
  show (acc m c t.val t.isLt : S1024x1024.Idx → EReal) y = Cert.MixerBRefIdeal.product (F := Ideal) x w (tilesY.idx c (((cfg0.win 2).blk t).view.emb y))
  rw [hi]
  have hy : y = ix2 (⟨(y 0).val, y0⟩ : Fin 1024) (⟨(y 1).val, y1⟩ : Fin 1024) := by
    funext a
    match a with
    | ⟨0, _⟩ => rfl
    | ⟨1, _⟩ => rfl
  refine Eq.trans (congrArg (acc m c t.val t.isLt : S1024x1024.Idx → EReal) hy) (hl.trans (Eq.trans ?_ hr))
  exact Finset.sum_congr rfl fun k _ => Finset.sum_congr rfl fun j _ => congr (congrArg HMul.hMul (congrFun hx _)) (congrFun hw _)

end Cert.MixerBIdeal

end
-- ==== Proof.Shared.AdamW.lean ====
/- One entry of the optimiser's step: the gradient from its four parts, the two moments and the change of the weight. -/
module

public import Idealize.ShloMosaic.Lib.IdealHost
public import Idealize.ShloMosaic.Lib.ValueIdx
public import Idealize.ShloMosaic.Lib.ValueLayout
public import Idealize.ShloMosaic.Lib.Pointwise.Reduce

@[expose] public section

noncomputable section

namespace Cert.Shared.AdamW

open Idealize.ShloMosaic hiding ix2 ix3
open Idealize.ShloMosaic.ValueIdx (ix2 ix3)

variable {F : FTy → Type} [FloatOps F]

/-- The moving average of the gradient. -/
def first (m g : F .f32) : F .f32 :=
  FloatOps.addf (FloatOps.mulf (Scalar.ofBits .f32 0x3F666666#32) m) (FloatOps.mulf (Scalar.ofBits .f32 0x3DCCCCCD#32) g)

/-- The moving average of its square. -/
def second (v g : F .f32) : F .f32 :=
  FloatOps.addf (FloatOps.mulf (Scalar.ofBits .f32 0x3F7FBE77#32) v) (FloatOps.mulf (Scalar.ofBits .f32 0x3A83126F#32) (FloatOps.mulf g g))

/-- The change of the weight `w` at the new moments. -/
def change (w m v : F .f32) : F .f32 :=
  FloatOps.mulf (Scalar.ofBits .f32 0xBA83126F#32) (FloatOps.addf
    (FloatOps.divf (FloatOps.divf m (Scalar.ofBits .f32 0x3F26BD02#32))
      (FloatOps.addf (FloatOps.sqrt (FloatOps.divf v (Scalar.ofBits .f32 0x3C231ACC#32))) (Scalar.ofBits .f32 0x322BCC77#32)))
    (FloatOps.mulf (Scalar.ofBits .f32 0x3C23D70A#32) w))

variable {M N : ℕ}

/-- The four parts' sum at an entry, in the kernel's order. -/
def total (x : (⟨3, ![4, M, N]⟩ : Shape).Idx → EReal) (a : Fin M) (b : Fin N) : EReal :=
  x (ix3 0 a b) + x (ix3 1 a b) + x (ix3 2 a b) + x (ix3 3 a b)

theorem sum_parts (x : FVec Ideal ⟨3, ![4, M, N]⟩ .bf16) (h : (⟨3, ![4, M, N]⟩ : Shape).ReducesTo [0] ⟨2, ![M, N]⟩) (hs : 0 < (⟨0, ![]⟩ : Shape).numel)
    (hb : FTy.bits .bf16 < FTy.bits .f32) (i : (⟨2, ![M, N]⟩ : Shape).Idx) :
    (Host.reduceAdd (extf .f32 x hb) (constant ⟨0, ![]⟩ .f32 0x00000000#32) h hs : FVec Ideal ⟨2, ![M, N]⟩ .f32) i = total x (i 0) (i 1) := by
  refine Eq.trans (Ideal.hostReduceAdd_r3_a0 h x _ i) ?_
  show Scalar.ofBits (F := Ideal) .f32 0x00000000#32 + _ = _
  rw [show Scalar.ofBits (F := Ideal) .f32 0x00000000#32 = (0 : EReal) from Ideal.ofBits_zero_f32, zero_add, Fin.sum_univ_four]
  rfl

/-! The four results, entry by entry. -/

section Results

variable (w x y : (⟨2, ![M, N]⟩ : Shape).Idx → EReal) (p : (⟨3, ![4, M, N]⟩ : Shape).Idx → EReal) (i : (⟨2, ![M, N]⟩ : Shape).Idx)

def gradOf : EReal := total p (i 0) (i 1)
def meanOf : EReal := first (F := Ideal) (x i) (gradOf p i)
def squareOf : EReal := second (F := Ideal) (y i) (gradOf p i)
def changeOf : EReal := change (F := Ideal) (w i) (meanOf x p i) (squareOf y p i)

end Results

/-! The kernel works on blocks of `T` rows. -/

section Blocks

variable {T : ℕ} {α : Type}

/-- A load of a whole block reads the entry it is asked for. -/
theorem block_load (X : (⟨2, ![T, N]⟩ : Shape).Idx → α) (i z : (⟨2, ![T, N]⟩ : Shape).Idx) (h0 : (i 0).val = 0 + 1 * (z 0).val) (h1 : (i 1).val = 0 + 1 * (z 1).val) :
    X i = X z := by
  refine congrArg X (funext fun a => Fin.ext ?_)
  match a with
  | ⟨0, _⟩ => exact h0.trans (by show _ = (z 0).val; omega)
  | ⟨1, _⟩ => exact h1.trans (by show _ = (z 1).val; omega)

/-- A load of one part reads that part's entry. -/
theorem part_load {K : ℕ} (X : (⟨3, ![K, T, N]⟩ : Shape).Idx → α) (k : Fin K) (i : (⟨3, ![K, T, N]⟩ : Shape).Idx) (z : (⟨2, ![T, N]⟩ : Shape).Idx)
    (h : (i 0).val = k.val) (h0 : (i 1).val = 0 + 1 * (z 0).val) (h1 : (i 2).val = 0 + 1 * (z 1).val) : X i = X (ix3 k (z 0) (z 1)) := by
  refine congrArg X (funext fun a => Fin.ext ?_)
  match a with
  | ⟨0, _⟩ => exact h
  | ⟨1, _⟩ => exact h0.trans (by show _ = (z 0).val; omega)
  | ⟨2, _⟩ => exact h1.trans (by show _ = (z 1).val; omega)

/-- The same of a load whose leading axis of length 1 is dropped. -/
theorem part_cast {K : ℕ} (X : (⟨3, ![K, T, N]⟩ : Shape).Idx → α) (k : Fin K) (f : (⟨3, ![1, T, N]⟩ : Shape).Idx → (⟨3, ![K, T, N]⟩ : Shape).Idx)
    (hc : (⟨3, ![1, T, N]⟩ : Shape).ShapeCasts ⟨2, ![T, N]⟩) (z : (⟨2, ![T, N]⟩ : Shape).Idx) (h : (f (ix3 0 (z 0) (z 1)) 0).val = k.val)
    (h0 : (f (ix3 0 (z 0) (z 1)) 1).val = 0 + 1 * (z 0).val) (h1 : (f (ix3 0 (z 0) (z 1)) 2).val = 0 + 1 * (z 1).val) :
    shapeCast ⟨2, ![T, N]⟩ (fun i => X (f i)) hc z = X (ix3 k (z 0) (z 1)) :=
  (congrArg (shapeCast ⟨2, ![T, N]⟩ (fun i => X (f i)) hc) (ValueIdx.eq_ix2 z)).trans
    ((ValueIdx.shapeCast_1ab_ab_apply _ hc (z 0) (z 1)).trans (part_load X k _ z h h0 h1))

/-- The parts' window follows the weight's: both sit at the same rows of their arrays. -/
theorem part_follows (f : (⟨3, ![4, T, N]⟩ : Shape).Idx → (⟨3, ![4, M, N]⟩ : Shape).Idx) (g : (⟨2, ![T, N]⟩ : Shape).Idx → (⟨2, ![M, N]⟩ : Shape).Idx)
    (u : Fin 3 → ℕ) (v : Fin 2 → ℕ) (hf : ∀ i b, (f i b).val = u b * (![4, T, N] : Fin 3 → ℕ) b + 1 * (i b).val)
    (hg : ∀ z b, (g z b).val = v b * (![T, N] : Fin 2 → ℕ) b + 1 * (z b).val) (h : u 0 = 0 ∧ u 1 = v 0 ∧ u 2 = v 1) (k : Fin 4) (z : (⟨2, ![T, N]⟩ : Shape).Idx) :
    f (ix3 k (z 0) (z 1)) = ix3 k (g z 0) (g z 1) := by
  obtain ⟨h0, h1, h2⟩ := h
  funext a
  apply Fin.ext
  match a with
  | ⟨0, _⟩ => exact (hf _ 0).trans (by rw [h0]; show 0 * 4 + 1 * k.val = k.val; omega)
  | ⟨1, _⟩ => exact (hf _ 1).trans (by rw [h1]; exact (hg z 0).symm)
  | ⟨2, _⟩ => exact (hf _ 2).trans (by rw [h2]; exact (hg z 1).symm)

/-- The kernel's sum over the parts of a block is the gradient's entry under it. -/
theorem grad_block (X : (⟨3, ![4, T, N]⟩ : Shape).Idx → EReal) (p : (⟨3, ![4, M, N]⟩ : Shape).Idx → EReal) (i₀ i₁ i₂ i₃ : (⟨3, ![4, T, N]⟩ : Shape).Idx)
    (z : (⟨2, ![T, N]⟩ : Shape).Idx) (e : (⟨2, ![M, N]⟩ : Shape).Idx) (hX : ∀ k, X (ix3 k (z 0) (z 1)) = p (ix3 k (e 0) (e 1)))
    (h₀ : X i₀ = X (ix3 0 (z 0) (z 1))) (h₁ : X i₁ = X (ix3 1 (z 0) (z 1))) (h₂ : X i₂ = X (ix3 2 (z 0) (z 1))) (h₃ : X i₃ = X (ix3 3 (z 0) (z 1))) :
    X i₀ + X i₁ + X i₂ + X i₃ = gradOf p e := by
  rw [h₀, h₁, h₂, h₃, hX, hX, hX, hX]
  rfl

/-- The other results of it, from the kernel's loads of the weight and the moments. -/
theorem mean_block (x : (⟨2, ![M, N]⟩ : Shape).Idx → EReal) (p : (⟨3, ![4, M, N]⟩ : Shape).Idx → EReal) (e : (⟨2, ![M, N]⟩ : Shape).Idx) {a b : EReal}
    (ha : a = x e) (hb : b = gradOf p e) : first (F := Ideal) a b = meanOf x p e := by rw [ha, hb]; rfl

theorem square_block (y : (⟨2, ![M, N]⟩ : Shape).Idx → EReal) (p : (⟨3, ![4, M, N]⟩ : Shape).Idx → EReal) (e : (⟨2, ![M, N]⟩ : Shape).Idx) {a b : EReal}
    (ha : a = y e) (hb : b = gradOf p e) : second (F := Ideal) a b = squareOf y p e := by rw [ha, hb]; rfl

theorem change_block (w x y : (⟨2, ![M, N]⟩ : Shape).Idx → EReal) (p : (⟨3, ![4, M, N]⟩ : Shape).Idx → EReal) (e : (⟨2, ![M, N]⟩ : Shape).Idx) {a b d : EReal}
    (ha : a = w e) (hb : b = meanOf x p e) (hd : d = squareOf y p e) : change (F := Ideal) a b d = changeOf w x y p e := by rw [ha, hb, hd]; rfl

end Blocks

/-! The reference's terms over whole arrays. -/

section Reference

variable (hs : (⟨0, ![]⟩ : Shape).BroadcastsInDim ⟨2, ![M, N]⟩ ![]) (hr : (⟨3, ![4, M, N]⟩ : Shape).ReducesTo [0] ⟨2, ![M, N]⟩) (hn : 0 < (⟨0, ![]⟩ : Shape).numel)
  (hb : FTy.bits .bf16 < FTy.bits .f32) (w x y : (⟨2, ![M, N]⟩ : Shape).Idx → EReal) (p : (⟨3, ![4, M, N]⟩ : Shape).Idx → EReal)

abbrev everywhere (b : BitVec 32) : FVec Ideal ⟨2, ![M, N]⟩ .f32 := broadcastInDim ⟨2, ![M, N]⟩ ![] hs (constant ⟨0, ![]⟩ .f32 b)
abbrev gradTerm : FVec Ideal ⟨2, ![M, N]⟩ .f32 :=
  Host.reduceAdd (extf .f32 (p : FVec Ideal ⟨3, ![4, M, N]⟩ .bf16) hb) (constant ⟨0, ![]⟩ .f32 0x00000000#32) hr hn
abbrev meanTerm : FVec Ideal ⟨2, ![M, N]⟩ .f32 :=
  addf (mulf (everywhere hs 0x3F666666#32) (x : FVec Ideal ⟨2, ![M, N]⟩ .f32)) (mulf (everywhere hs 0x3DCCCCCD#32) (gradTerm hr hn hb p))
abbrev squareTerm : FVec Ideal ⟨2, ![M, N]⟩ .f32 :=
  addf (mulf (everywhere hs 0x3F7FBE77#32) (y : FVec Ideal ⟨2, ![M, N]⟩ .f32)) (mulf (everywhere hs 0x3A83126F#32) (mulf (gradTerm hr hn hb p) (gradTerm hr hn hb p)))
abbrev changeTerm : FVec Ideal ⟨2, ![M, N]⟩ .f32 :=
  mulf (everywhere hs 0xBA83126F#32) (addf (Host.divf (Host.divf (meanTerm hs hr hn hb x p) (everywhere hs 0x3F26BD02#32))
    (addf (Host.sqrt (Host.divf (squareTerm hs hr hn hb y p) (everywhere hs 0x3C231ACC#32))) (everywhere hs 0x322BCC77#32)))
    (mulf (everywhere hs 0x3C23D70A#32) (w : FVec Ideal ⟨2, ![M, N]⟩ .f32)))

theorem grad_reference : gradTerm hr hn hb p = (gradOf p : (⟨2, ![M, N]⟩ : Shape).Idx → EReal) := funext fun i => sum_parts p hr hn hb i

theorem mean_reference : meanTerm hs hr hn hb x p = (meanOf x p : (⟨2, ![M, N]⟩ : Shape).Idx → EReal) := by
  unfold meanTerm
  rw [grad_reference]
  rfl

theorem square_reference : squareTerm hs hr hn hb y p = (squareOf y p : (⟨2, ![M, N]⟩ : Shape).Idx → EReal) := by
  unfold squareTerm
  rw [grad_reference]
  rfl

theorem change_reference : changeTerm hs hr hn hb w x y p = (changeOf w x y p : (⟨2, ![M, N]⟩ : Shape).Idx → EReal) := by
  unfold changeTerm
  rw [mean_reference, square_reference]
  rfl

/-- What the reference leaves, from the arguments it shares with the kernel. -/
theorem parts_step {w x y w' x' y' r₀ r₁ r₂ r₃ : (⟨2, ![M, N]⟩ : Shape).Idx → EReal} {p p' : (⟨3, ![4, M, N]⟩ : Shape).Idx → EReal} {rest : Prop}
    (h : r₀ = gradTerm hr hn hb p' ∧ r₁ = changeTerm hs hr hn hb w' x' y' p' ∧ r₂ = meanTerm hs hr hn hb x' p' ∧ r₃ = squareTerm hs hr hn hb y' p' ∧ rest)
    (hm : w' = w ∧ x' = x ∧ y' = y ∧ p' = p) : r₀ = gradOf p ∧ r₁ = changeOf w x y p ∧ r₂ = meanOf x p ∧ r₃ = squareOf y p ∧ rest := by
  obtain ⟨rfl, rfl, rfl, rfl⟩ := hm
  obtain ⟨h0, h1, h2, h3, h4⟩ := h
  exact ⟨h0.trans (grad_reference hr hn hb _), h1.trans (change_reference hs hr hn hb _ _ _ _), h2.trans (mean_reference hs hr hn hb _ _),
    h3.trans (square_reference hs hr hn hb _ _), h4⟩

end Reference

/-- Four results read one step further. -/
theorem at_last {α : Type} {a₀ a₁ a₂ a₃ b₀ b₁ b₂ b₃ d₀ d₁ d₂ d₃ : α} {rest : Prop} (h : a₀ = b₀ ∧ a₁ = b₁ ∧ a₂ = b₂ ∧ a₃ = b₃ ∧ rest)
    (h₀ : b₀ = d₀) (h₁ : b₁ = d₁) (h₂ : b₂ = d₂) (h₃ : b₃ = d₃) : a₀ = d₀ ∧ a₁ = d₁ ∧ a₂ = d₂ ∧ a₃ = d₃ ∧ rest :=
  ⟨h.1.trans h₀, h.2.1.trans h₁, h.2.2.1.trans h₂, h.2.2.2.1.trans h₃, h.2.2.2.2⟩

/-! The step on a gradient that comes as one part. -/

section Lone

variable (hs : (⟨0, ![]⟩ : Shape).BroadcastsInDim ⟨2, ![M, N]⟩ ![]) (hr : (⟨3, ![1, M, N]⟩ : Shape).ReducesTo [0] ⟨2, ![M, N]⟩) (hn : 0 < (⟨0, ![]⟩ : Shape).numel)
  (hc : (⟨3, ![1, M, N]⟩ : Shape).ShapeCasts ⟨2, ![M, N]⟩) (g : FVec Ideal ⟨2, ![M, N]⟩ .f32)

/-- The reference's sum over the one part. -/
abbrev loneSum (q : (⟨3, ![1, M, N]⟩ : Shape).Idx → EReal) : FVec Ideal ⟨2, ![M, N]⟩ .f32 :=
  Host.reduceAdd (q : FVec Ideal ⟨3, ![1, M, N]⟩ .f32) (constant ⟨0, ![]⟩ .f32 0x00000000#32) hr hn

/-- The moments and the change at the gradient `g`. -/
abbrev meanWith (x : FVec Ideal ⟨2, ![M, N]⟩ .f32) : FVec Ideal ⟨2, ![M, N]⟩ .f32 :=
  addf (mulf (everywhere hs 0x3F666666#32) x) (mulf (everywhere hs 0x3DCCCCCD#32) g)
abbrev squareWith (y : FVec Ideal ⟨2, ![M, N]⟩ .f32) : FVec Ideal ⟨2, ![M, N]⟩ .f32 :=
  addf (mulf (everywhere hs 0x3F7FBE77#32) y) (mulf (everywhere hs 0x3A83126F#32) (mulf g g))
abbrev changeWith (w x y : FVec Ideal ⟨2, ![M, N]⟩ .f32) : FVec Ideal ⟨2, ![M, N]⟩ .f32 :=
  mulf (everywhere hs 0xBA83126F#32) (addf (Host.divf (Host.divf (meanWith hs g x) (everywhere hs 0x3F26BD02#32))
    (addf (Host.sqrt (Host.divf (squareWith hs g y) (everywhere hs 0x3C231ACC#32))) (everywhere hs 0x322BCC77#32)))
    (mulf (everywhere hs 0x3C23D70A#32) w))

theorem lone_sum (q : (⟨3, ![1, M, N]⟩ : Shape).Idx → EReal) : loneSum hr hn q = shapeCast ⟨2, ![M, N]⟩ q hc := by
  funext i
  refine (Ideal.hostReduceAdd_r3_a0 hr q _ i).trans ?_
  show Scalar.ofBits (F := Ideal) .f32 0x00000000#32 + _ = _
  rw [show Scalar.ofBits (F := Ideal) .f32 0x00000000#32 = (0 : EReal) from Ideal.ofBits_zero_f32, zero_add, Fin.sum_univ_one]
  exact (part_cast q 0 (fun i => i) hc i rfl (by show (i 0).val = _; omega) (by show (i 1).val = _; omega)).symm

/-- What the reference leaves is what the kernel makes of the part itself. -/
theorem lone_step {w x y w' x' y' r₀ r₁ r₂ r₃ : FVec Ideal ⟨2, ![M, N]⟩ .f32} {q q' : (⟨3, ![1, M, N]⟩ : Shape).Idx → EReal} {rest : Prop}
    (h : r₀ = loneSum hr hn q' ∧ r₁ = changeWith hs (loneSum hr hn q') w' x' y' ∧ r₂ = meanWith hs (loneSum hr hn q') x'
      ∧ r₃ = squareWith hs (loneSum hr hn q') y' ∧ rest) (hm : w' = w ∧ x' = x ∧ y' = y ∧ q' = q) :
    r₀ = shapeCast ⟨2, ![M, N]⟩ q hc ∧ r₁ = changeWith hs (shapeCast ⟨2, ![M, N]⟩ q hc) w x y ∧ r₂ = meanWith hs (shapeCast ⟨2, ![M, N]⟩ q hc) x
      ∧ r₃ = squareWith hs (shapeCast ⟨2, ![M, N]⟩ q hc) y ∧ rest := by
  obtain ⟨rfl, rfl, rfl, rfl⟩ := hm
  rw [lone_sum hr hn hc] at h
  exact h

end Lone

end Cert.Shared.AdamW
-- ==== Proof.Adam.Value.lean ====
/- The optimiser's step on one device: every entry of its four results is the reference's. -/
module

public import proofs.«01_k».proof.Proof.Gen.AdamIdeal.Value
public import proofs.«01_k».proof.Proof.Gen.AdamRefIdeal.Run
public import proofs.«01_k».proof.Proof.Shared.AdamW
public import Idealize.ShloMosaic.Lib.Pipeline.ValueKit

@[expose] public section

noncomputable section

namespace Cert.AdamIdeal

open Idealize.ShloMosaic hiding ix2 ix3
open Idealize.ShloMosaic.TcCoe
open Idealize.ShloMosaic.ValueIdx (ix2 ix3)
open Cert.AdamIdeal.Gen Cert.AdamIdeal.Value Cert.Shared.AdamW

variable (m : (ℓ : Loc nD τ sig) → Buf (Elt Ideal) ℓ) (c : Dev nD) (t : Fin cfg0.N) (z : S128x2560.Idx)

abbrev weight : S4096x2560.Idx → EReal := m ((c.tc : Thread nD τ).loc main_arg0)
abbrev mean : S4096x2560.Idx → EReal := m ((c.tc : Thread nD τ).loc main_arg1)
abbrev square : S4096x2560.Idx → EReal := m ((c.tc : Thread nD τ).loc main_arg2)
abbrev parts : S4x4096x2560.Idx → EReal := m ((c.tc : Thread nD τ).loc main_arg3)

/-- The entry of the whole arrays under entry `z` of block `t`. -/
abbrev under : S4096x2560.Idx := (win0_0.blk t).view.emb z

theorem follows : ∀ t : Fin cfg0.N, win0_3.index t (0 : Fin 3) = 0 ∧ win0_3.index t (1 : Fin 3) = win0_0.index t (0 : Fin 2)
    ∧ win0_3.index t (2 : Fin 3) = win0_0.index t (1 : Fin 2) := by decide +kernel

/-- What the body's loads give at an entry, and the results it makes of them. -/
theorem grad_at : E4 (F := Ideal) (View.ld (iblk m c 3 t) r0_0) (View.ld (iblk m c 3 t) r0_1) (View.ld (iblk m c 3 t) r0_2) (View.ld (iblk m c 3 t) r0_3) z
    = gradOf (parts m c) (under t z) :=
  grad_block (iblk m c 3 t : S4x128x2560.Idx → EReal) (parts m c) (r0_0.idx (ix4_0 z)) (r0_1.idx (ix4_1 z)) (r0_2.idx (ix4_2 z)) (r0_3.idx (ix4_3 z)) z (under t z)
    (fun k => congrArg (parts m c) (part_follows (fun i => (win0_3.blk t).view.emb i) (fun i => (win0_0.blk t).view.emb i) (win0_3.index t) (win0_0.index t)
      (fun _ _ => rfl) (fun _ _ => rfl) (follows t) k z))
    (part_load _ 0 _ z rfl rfl rfl) (part_load _ 1 _ z rfl rfl rfl) (part_load _ 2 _ z rfl rfl rfl) (part_load _ 3 _ z rfl rfl rfl)

theorem mean_at : E6 (F := Ideal) (View.ld (iblk m c 1 t) r0_4) (View.ld (iblk m c 3 t) r0_0) (View.ld (iblk m c 3 t) r0_1) (View.ld (iblk m c 3 t) r0_2)
    (View.ld (iblk m c 3 t) r0_3) z = meanOf (mean m c) (parts m c) (under t z) :=
  (mean_block (mean m c) (parts m c) (under t z) (block_load (iblk m c 1 t : S128x2560.Idx → EReal) (r0_4.idx (ix6_0 z)) z rfl rfl) (grad_at m c t z) : _)

theorem square_at : E7 (F := Ideal) (View.ld (iblk m c 2 t) r0_4) (View.ld (iblk m c 3 t) r0_0) (View.ld (iblk m c 3 t) r0_1) (View.ld (iblk m c 3 t) r0_2)
    (View.ld (iblk m c 3 t) r0_3) z = squareOf (square m c) (parts m c) (under t z) :=
  (square_block (square m c) (parts m c) (under t z) (block_load (iblk m c 2 t : S128x2560.Idx → EReal) (r0_4.idx (ix7_0 z)) z rfl rfl) (grad_at m c t z) : _)

theorem change_at : E5 (F := Ideal) (View.ld (iblk m c 1 t) r0_4) (View.ld (iblk m c 3 t) r0_0) (View.ld (iblk m c 3 t) r0_1) (View.ld (iblk m c 3 t) r0_2)
    (View.ld (iblk m c 3 t) r0_3) (View.ld (iblk m c 2 t) r0_4) (View.ld (iblk m c 0 t) r0_4) z
    = changeOf (weight m c) (mean m c) (square m c) (parts m c) (under t z) :=
  (change_block (weight m c) (mean m c) (square m c) (parts m c) (under t z) (block_load (iblk m c 0 t : S128x2560.Idx → EReal) (r0_4.idx (ix5_14 z)) z rfl rfl) (mean_at m c t z) (square_at m c t z) : _)

theorem grad_final : (dats m 0 c).arrAt 4 cfg0.N = gradOf (parts m c) :=
  (dats m 0 c).arrAt_eq_of_covers 4 _ (by decide +kernel) fun t _ z =>
    (congrFun (after0_4 m c t) z).trans ((canon4_eq _ _ _ _ z).trans (grad_at m c t z))

theorem change_final : (dats m 0 c).arrAt 5 cfg0.N = changeOf (weight m c) (mean m c) (square m c) (parts m c) :=
  (dats m 0 c).arrAt_eq_of_covers 5 _ (by decide +kernel) fun t _ z =>
    (congrFun (after0_5 m c t) z).trans ((canon5_eq _ _ _ _ _ _ _ z).trans (change_at m c t z))

theorem mean_final : (dats m 0 c).arrAt 6 cfg0.N = meanOf (mean m c) (parts m c) :=
  (dats m 0 c).arrAt_eq_of_covers 6 _ (by decide +kernel) fun t _ z =>
    (congrFun (after0_6 m c t) z).trans ((canon6_eq _ _ _ _ _ z).trans (mean_at m c t z))

theorem square_final : (dats m 0 c).arrAt 7 cfg0.N = squareOf (square m c) (parts m c) :=
  (dats m 0 c).arrAt_eq_of_covers 7 _ (by decide +kernel) fun t _ z =>
    (congrFun (after0_7 m c t) z).trans ((canon7_eq _ _ _ _ _ z).trans (square_at m c t z))

end Cert.AdamIdeal

end
-- ==== Proof.AdamUp.Value.lean ====
/- The optimiser's step where the gradient's parts come in two halves of the rows: every entry of its four results is the reference's. -/
module

public import proofs.«01_k».proof.Proof.Gen.AdamUpIdeal.Value
public import proofs.«01_k».proof.Proof.Gen.AdamUpRefIdeal.Run
public import proofs.«01_k».proof.Proof.Shared.AdamW
public import Idealize.ShloMosaic.Lib.Pipeline.ValueKit

@[expose] public section

noncomputable section

namespace Cert.AdamUpIdeal

open Idealize.ShloMosaic hiding ix2 ix3
open Idealize.ShloMosaic.TcCoe
open Idealize.ShloMosaic.ValueIdx (ix2 ix3)
open Cert.AdamUpIdeal.Gen Cert.AdamUpIdeal.Value Cert.Shared.AdamW

variable (m : (ℓ : Loc nD τ sig) → Buf (Elt Ideal) ℓ) (c : Dev nD) (t : Fin cfg0.N) (z : S64x3072.Idx)

abbrev weight : S4096x3072.Idx → EReal := m ((c.tc : Thread nD τ).loc main_arg0)
abbrev mean : S4096x3072.Idx → EReal := m ((c.tc : Thread nD τ).loc main_arg1)
abbrev square : S4096x3072.Idx → EReal := m ((c.tc : Thread nD τ).loc main_arg2)
abbrev upper : S4x2048x3072.Idx → EReal := m ((c.tc : Thread nD τ).loc main_arg3)
abbrev lower : S4x2048x3072.Idx → EReal := m ((c.tc : Thread nD τ).loc main_arg4)

theorem halves : Shape.Concatenates [S4x2048x3072, S4x2048x3072] ⟨3, ![4, 4096, 3072]⟩ 1 := by decide +kernel

/-- The two halves of the parts, one after the other. -/
abbrev both (a b : S4x2048x3072.Idx → EReal) : (⟨3, ![4, 4096, 3072]⟩ : Shape).Idx → EReal :=
  concatenate ⟨3, ![4, 4096, 3072]⟩ 1 [⟨S4x2048x3072, a⟩, ⟨S4x2048x3072, b⟩] halves

theorem both_congr {a b a' b' : S4x2048x3072.Idx → EReal} (ha : a' = a) (hb : b' = b) : both a' b' = both a b := by rw [ha, hb]

abbrev parts : (⟨3, ![4, 4096, 3072]⟩ : Shape).Idx → EReal := both (upper m c) (lower m c)

/-- The entry of the whole arrays under entry `z` of block `t`. -/
abbrev under : S4096x3072.Idx := (win0_0.blk t).view.emb z

/-- The upper half's window follows the weight's as far as it goes, and the lower half's from there on. -/
theorem follows_upper : ∀ t : Fin cfg0.N, t.val < 32 → win0_3.index t (0 : Fin 3) = 0 ∧ win0_3.index t (1 : Fin 3) = win0_0.index t (0 : Fin 2)
    ∧ win0_3.index t (2 : Fin 3) = win0_0.index t (1 : Fin 2) := by decide +kernel

theorem follows_lower : ∀ t : Fin cfg0.N, ¬ t.val < 32 → win0_4.index t (0 : Fin 3) = 0 ∧ win0_4.index t (1 : Fin 3) + 32 = win0_0.index t (0 : Fin 2)
    ∧ win0_4.index t (2 : Fin 3) = win0_0.index t (1 : Fin 2) := by decide +kernel

/-- Whether the kernel takes the lower half at grid coordinate `a`. -/
def takes (a : BitVec 32) : BitVec 1 :=
  Scalar.cmpi .eq (Scalar.select
    (Scalar.andi (Scalar.cmpi .ne (Scalar.subi (Scalar.extui (Scalar.cmpi .sgt a 0#32)) (Scalar.extui (Scalar.cmpi .slt a 0#32) : BitVec 32))
        (Scalar.subi (Scalar.extui (Scalar.cmpi .sgt 32#32 0#32)) (Scalar.extui (Scalar.cmpi .slt 32#32 0#32) : BitVec 32)))
      (Scalar.cmpi .ne (Scalar.remsi a 32#32) 0#32))
    (Scalar.subi (Scalar.divsi a 32#32) 1#32) (Scalar.divsi a 32#32)) 1#32

theorem takes_eq : ∀ t : Fin cfg0.N, takes (BitVec.ofNat 32 (grid0.coords t 0).val) = if t.val < 32 then 0#1 else 1#1 := by decide +kernel

/-- A sum over the parts of a block. -/
theorem sum_at (X : S4x64x3072.Idx → EReal) (z : S64x3072.Idx) :
    (k0_pay2 (F := Ideal) (View.ld (Val := Elt Ideal) (e' := .bf16) X r0_0) (View.ld (Val := Elt Ideal) (e' := .bf16) X r0_1) (View.ld (Val := Elt Ideal) (e' := .bf16) X r0_2)
      (View.ld (Val := Elt Ideal) (e' := .bf16) X r0_3) : S64x3072.Idx → EReal) z
      = X (ix3 0 (z 0) (z 1)) + X (ix3 1 (z 0) (z 1)) + X (ix3 2 (z 0) (z 1)) + X (ix3 3 (z 0) (z 1)) := by
  refine congr (congrArg HAdd.hAdd (congr (congrArg HAdd.hAdd (congr (congrArg HAdd.hAdd ?_) ?_)) ?_)) ?_
  · exact part_cast X 0 r0_0.idx _ z rfl rfl rfl
  · exact part_cast X 1 r0_1.idx _ z rfl rfl rfl
  · exact part_cast X 2 r0_2.idx _ z rfl rfl rfl
  · exact part_cast X 3 r0_3.idx _ z rfl rfl rfl

theorem upper_at (h : t.val < 32) (k : Fin 4) : (iblk m c 3 t : S4x64x3072.Idx → EReal) (ix3 k (z 0) (z 1)) = parts m c (ix3 k (under t z 0) (under t z 1)) := by
  obtain ⟨h0, h1, h2⟩ := follows_upper t h
  refine (concatenate_pair_apply_left 1 (upper m c) (lower m c) halves _ rfl ((win0_3.blk t).view.emb (ix3 k (z 0) (z 1))) fun b => ?_).symm
  match b with
  | ⟨0, _⟩ => show win0_3.index t (0 : Fin 3) * 4 + 1 * k.val = k.val; omega
  | ⟨1, _⟩ => show win0_3.index t (1 : Fin 3) * 64 + 1 * (z 0).val = win0_0.index t (0 : Fin 2) * 64 + 1 * (z 0).val; omega
  | ⟨2, _⟩ => show win0_3.index t (2 : Fin 3) * 3072 + 1 * (z 1).val = win0_0.index t (1 : Fin 2) * 3072 + 1 * (z 1).val; omega

theorem lower_at (h : ¬ t.val < 32) (k : Fin 4) : (iblk m c 4 t : S4x64x3072.Idx → EReal) (ix3 k (z 0) (z 1)) = parts m c (ix3 k (under t z 0) (under t z 1)) := by
  obtain ⟨h0, h1, h2⟩ := follows_lower t h
  refine (concatenate_pair_apply_right 1 (upper m c) (lower m c) halves _ rfl rfl ((win0_4.blk t).view.emb (ix3 k (z 0) (z 1))) (fun b hb => ?_) ?_).symm
  · match b with
    | ⟨0, _⟩ => show win0_4.index t (0 : Fin 3) * 4 + 1 * k.val = k.val; omega
    | ⟨1, _⟩ => exact absurd rfl hb
    | ⟨2, _⟩ => show win0_4.index t (2 : Fin 3) * 3072 + 1 * (z 1).val = win0_0.index t (1 : Fin 2) * 3072 + 1 * (z 1).val; omega
  · show win0_4.index t (1 : Fin 3) * 64 + 1 * (z 0).val + 2048 = win0_0.index t (0 : Fin 2) * 64 + 1 * (z 0).val; omega

/-- The gradient's block as the body stores it. -/
abbrev gradBlock : S64x3072.Idx → EReal :=
  k0_pay4 (F := Ideal) (BitVec.ofNat 32 (grid0.coords t 0).val) (k0_pay9 (grid0.coords t) (iblk m c 0 t) (iblk m c 1 t) (iblk m c 2 t) (iblk m c 3 t) (iblk m c 4 t))
    (k0_pay10 (grid0.coords t) (iblk m c 0 t) (iblk m c 1 t) (iblk m c 2 t) (iblk m c 3 t) (iblk m c 4 t)) 32#32 (Scalar.divsi (BitVec.ofNat 32 (grid0.coords t 0).val) 32#32)
    (Scalar.extui (Scalar.cmpi .sgt (BitVec.ofNat 32 (grid0.coords t 0).val) 0#32))

theorem grad_at : gradBlock m c t z = gradOf (parts m c) (under t z) := by
  show (Scalar.select (takes (BitVec.ofNat 32 (grid0.coords t 0).val)) (k0_pay10 (F := Ideal) _ _ _ _ _ _) (k0_pay9 (F := Ideal) _ _ _ _ _ _) : S64x3072.Idx → EReal) z = _
  rw [takes_eq]
  by_cases h : t.val < 32
  · rw [if_pos h]
    exact (sum_at (iblk m c 3 t) z).trans (grad_block _ _ _ _ _ _ z (under t z) (upper_at m c t z h) rfl rfl rfl rfl)
  · rw [if_neg h]
    exact (sum_at (iblk m c 4 t) z).trans (grad_block _ _ _ _ _ _ z (under t z) (lower_at m c t z h) rfl rfl rfl rfl)

theorem origin : (![0, 0] : Fin S64x3072.rank → ℕ) = fun _ => 0 := funext fun a => match a with
  | ⟨0, _⟩ => rfl
  | ⟨1, _⟩ => rfl

/-- What one store of a whole block leaves there. -/
theorem stored {F : FTy → Type} [FloatOps F] (w : Vec F S64x3072 .f32) : View.canon [⟨r0_4, w⟩] = w := View.canon_unit_zero origin _ w

theorem mean_at : first (F := Ideal) ((View.ld (iblk m c 1 t) r0_4 : S64x3072.Idx → EReal) z) (gradBlock m c t z) = meanOf (mean m c) (parts m c) (under t z) :=
  (mean_block (mean m c) (parts m c) (under t z) (block_load (iblk m c 1 t : S64x3072.Idx → EReal) _ z rfl rfl) (grad_at m c t z) : _)

theorem square_at : second (F := Ideal) ((View.ld (iblk m c 2 t) r0_4 : S64x3072.Idx → EReal) z) (gradBlock m c t z) = squareOf (square m c) (parts m c) (under t z) :=
  (square_block (square m c) (parts m c) (under t z) (block_load (iblk m c 2 t : S64x3072.Idx → EReal) _ z rfl rfl) (grad_at m c t z) : _)

theorem grad_final : (dats m 0 c).arrAt 5 cfg0.N = gradOf (parts m c) :=
  (dats m 0 c).arrAt_eq_of_covers 5 _ (by decide +kernel) fun t _ z =>
    (congrFun (after0_5 m c t) z).trans ((congrFun (stored _) z).trans (grad_at m c t z))

theorem change_final : (dats m 0 c).arrAt 6 cfg0.N = changeOf (weight m c) (mean m c) (square m c) (parts m c) :=
  (dats m 0 c).arrAt_eq_of_covers 6 _ (by decide +kernel) fun t _ z =>
    (congrFun (after0_6 m c t) z).trans ((congrFun (stored _) z).trans
      (change_block (weight m c) (mean m c) (square m c) (parts m c) (under t z) (block_load (iblk m c 0 t : S64x3072.Idx → EReal) _ z rfl rfl) (mean_at m c t z) (square_at m c t z)))

theorem mean_final : (dats m 0 c).arrAt 7 cfg0.N = meanOf (mean m c) (parts m c) :=
  (dats m 0 c).arrAt_eq_of_covers 7 _ (by decide +kernel) fun t _ z =>
    (congrFun (after0_7 m c t) z).trans ((congrFun (stored _) z).trans (mean_at m c t z))

theorem square_final : (dats m 0 c).arrAt 8 cfg0.N = squareOf (square m c) (parts m c) :=
  (dats m 0 c).arrAt_eq_of_covers 8 _ (by decide +kernel) fun t _ z =>
    (congrFun (after0_8 m c t) z).trans ((congrFun (stored _) z).trans (square_at m c t z))

end Cert.AdamUpIdeal

end
-- ==== Proof.SmallSum.Value.lean ====
/- The sum of the eight devices' small gradients: what the kernel leaves is the reference's sum. -/
module

public import proofs.«01_k».proof.Proof.Gen.SmallSumIdeal.Value
public import proofs.«01_k».proof.Proof.Gen.SmallSumRefIdeal.Run
public import proofs.«01_k».proof.Proof.Shared.AdamW

@[expose] public section

noncomputable section

namespace Cert.SmallSumIdeal

open Idealize.ShloMosaic hiding ix2 ix3
open Idealize.ShloMosaic.ValueIdx (ix2 ix3)
open Cert.SmallSumIdeal.Gen Cert.SmallSumIdeal.Value Cert.Shared.AdamW

theorem sum_eq (a : S8x2184x128.Idx → EReal) (hr : S8x2184x128.ReducesTo [0] S2184x128) (hn : 0 < (⟨0, ![]⟩ : Shape).numel) :
    (Host.reduceAdd (a : FVec Ideal S8x2184x128 .f32) (constant ⟨0, ![]⟩ .f32 0x00000000#32) hr hn : FVec Ideal S2184x128 .f32) = G1 (F := Ideal) a := by
  funext z
  refine (Ideal.hostReduceAdd_r3_a0 hr a _ z).trans ?_
  show Scalar.ofBits (F := Ideal) .f32 0x00000000#32 + _ = _
  rw [show Scalar.ofBits (F := Ideal) .f32 0x00000000#32 = (0 : EReal) from Ideal.ofBits_zero_f32, zero_add, Fin.sum_univ_eight]
  refine (congr (congrArg HAdd.hAdd (congr (congrArg HAdd.hAdd (congr (congrArg HAdd.hAdd (congr (congrArg HAdd.hAdd (congr (congrArg HAdd.hAdd
    (congr (congrArg HAdd.hAdd (congr (congrArg HAdd.hAdd ?_) ?_)) ?_)) ?_)) ?_)) ?_)) ?_)) ?_).symm
  · exact part_cast a 0 r0_0.idx _ z rfl rfl rfl
  · exact part_cast a 1 r0_1.idx _ z rfl rfl rfl
  · exact part_cast a 2 r0_2.idx _ z rfl rfl rfl
  · exact part_cast a 3 r0_3.idx _ z rfl rfl rfl
  · exact part_cast a 4 r0_4.idx _ z rfl rfl rfl
  · exact part_cast a 5 r0_5.idx _ z rfl rfl rfl
  · exact part_cast a 6 r0_6.idx _ z rfl rfl rfl
  · exact part_cast a 7 r0_7.idx _ z rfl rfl rfl

end Cert.SmallSumIdeal

end
-- ==== Proof.AdamSg.Value.lean ====
/- The optimiser's step on one device: every entry of its four results is the reference's. -/
module

public import proofs.«01_k».proof.Proof.Gen.AdamSgIdeal.Value
public import proofs.«01_k».proof.Proof.Gen.AdamSgRefIdeal.Run
public import proofs.«01_k».proof.Proof.Shared.AdamW
public import Idealize.ShloMosaic.Lib.Pipeline.ValueKit

@[expose] public section

noncomputable section

namespace Cert.AdamSgIdeal

open Idealize.ShloMosaic hiding ix2 ix3
open Idealize.ShloMosaic.TcCoe
open Idealize.ShloMosaic.ValueIdx (ix2 ix3)
open Cert.AdamSgIdeal.Gen Cert.AdamSgIdeal.Value Cert.Shared.AdamW

variable (m : (ℓ : Loc nD τ sig) → Buf (Elt Ideal) ℓ) (c : Dev nD) (t : Fin cfg0.N) (z : S512x512.Idx)

abbrev weight : S2048x512.Idx → EReal := m ((c.tc : Thread nD τ).loc main_arg0)
abbrev mean : S2048x512.Idx → EReal := m ((c.tc : Thread nD τ).loc main_arg1)
abbrev square : S2048x512.Idx → EReal := m ((c.tc : Thread nD τ).loc main_arg2)
abbrev parts : S4x2048x512.Idx → EReal := m ((c.tc : Thread nD τ).loc main_arg3)

/-- The entry of the whole arrays under entry `z` of block `t`. -/
abbrev under : S2048x512.Idx := (win0_0.blk t).view.emb z

theorem follows : ∀ t : Fin cfg0.N, win0_3.index t (0 : Fin 3) = 0 ∧ win0_3.index t (1 : Fin 3) = win0_0.index t (0 : Fin 2)
    ∧ win0_3.index t (2 : Fin 3) = win0_0.index t (1 : Fin 2) := by decide +kernel

/-- What the body's loads give at an entry, and the results it makes of them. -/
theorem grad_at : E4 (F := Ideal) (View.ld (iblk m c 3 t) r0_0) (View.ld (iblk m c 3 t) r0_1) (View.ld (iblk m c 3 t) r0_2) (View.ld (iblk m c 3 t) r0_3) z
    = gradOf (parts m c) (under t z) :=
  grad_block (iblk m c 3 t : S4x512x512.Idx → EReal) (parts m c) (r0_0.idx (ix4_0 z)) (r0_1.idx (ix4_1 z)) (r0_2.idx (ix4_2 z)) (r0_3.idx (ix4_3 z)) z (under t z)
    (fun k => congrArg (parts m c) (part_follows (fun i => (win0_3.blk t).view.emb i) (fun i => (win0_0.blk t).view.emb i) (win0_3.index t) (win0_0.index t)
      (fun _ _ => rfl) (fun _ _ => rfl) (follows t) k z))
    (part_load _ 0 _ z rfl rfl rfl) (part_load _ 1 _ z rfl rfl rfl) (part_load _ 2 _ z rfl rfl rfl) (part_load _ 3 _ z rfl rfl rfl)

theorem mean_at : E6 (F := Ideal) (View.ld (iblk m c 1 t) r0_4) (View.ld (iblk m c 3 t) r0_0) (View.ld (iblk m c 3 t) r0_1) (View.ld (iblk m c 3 t) r0_2)
    (View.ld (iblk m c 3 t) r0_3) z = meanOf (mean m c) (parts m c) (under t z) :=
  (mean_block (mean m c) (parts m c) (under t z) (block_load (iblk m c 1 t : S512x512.Idx → EReal) (r0_4.idx (ix6_0 z)) z rfl rfl) (grad_at m c t z) : _)

theorem square_at : E7 (F := Ideal) (View.ld (iblk m c 2 t) r0_4) (View.ld (iblk m c 3 t) r0_0) (View.ld (iblk m c 3 t) r0_1) (View.ld (iblk m c 3 t) r0_2)
    (View.ld (iblk m c 3 t) r0_3) z = squareOf (square m c) (parts m c) (under t z) :=
  (square_block (square m c) (parts m c) (under t z) (block_load (iblk m c 2 t : S512x512.Idx → EReal) (r0_4.idx (ix7_0 z)) z rfl rfl) (grad_at m c t z) : _)

theorem change_at : E5 (F := Ideal) (View.ld (iblk m c 1 t) r0_4) (View.ld (iblk m c 3 t) r0_0) (View.ld (iblk m c 3 t) r0_1) (View.ld (iblk m c 3 t) r0_2)
    (View.ld (iblk m c 3 t) r0_3) (View.ld (iblk m c 2 t) r0_4) (View.ld (iblk m c 0 t) r0_4) z
    = changeOf (weight m c) (mean m c) (square m c) (parts m c) (under t z) :=
  (change_block (weight m c) (mean m c) (square m c) (parts m c) (under t z) (block_load (iblk m c 0 t : S512x512.Idx → EReal) (r0_4.idx (ix5_14 z)) z rfl rfl) (mean_at m c t z) (square_at m c t z) : _)

theorem grad_final : (dats m 0 c).arrAt 4 cfg0.N = gradOf (parts m c) :=
  (dats m 0 c).arrAt_eq_of_covers 4 _ (by decide +kernel) fun t _ z =>
    (congrFun (after0_4 m c t) z).trans ((canon4_eq _ _ _ _ z).trans (grad_at m c t z))

theorem change_final : (dats m 0 c).arrAt 5 cfg0.N = changeOf (weight m c) (mean m c) (square m c) (parts m c) :=
  (dats m 0 c).arrAt_eq_of_covers 5 _ (by decide +kernel) fun t _ z =>
    (congrFun (after0_5 m c t) z).trans ((canon5_eq _ _ _ _ _ _ _ z).trans (change_at m c t z))

theorem mean_final : (dats m 0 c).arrAt 6 cfg0.N = meanOf (mean m c) (parts m c) :=
  (dats m 0 c).arrAt_eq_of_covers 6 _ (by decide +kernel) fun t _ z =>
    (congrFun (after0_6 m c t) z).trans ((canon6_eq _ _ _ _ _ z).trans (mean_at m c t z))

theorem square_final : (dats m 0 c).arrAt 7 cfg0.N = squareOf (square m c) (parts m c) :=
  (dats m 0 c).arrAt_eq_of_covers 7 _ (by decide +kernel) fun t _ z =>
    (congrFun (after0_7 m c t) z).trans ((canon7_eq _ _ _ _ _ z).trans (square_at m c t z))

end Cert.AdamSgIdeal

end
-- ==== Proof.AdamRows.Value.lean ====
/- The optimiser's step on one device: every entry of its four results is the reference's. -/
module

public import proofs.«01_k».proof.Proof.Gen.AdamRowsIdeal.Value
public import proofs.«01_k».proof.Proof.Gen.AdamRowsRefIdeal.Run
public import proofs.«01_k».proof.Proof.Shared.AdamW
public import Idealize.ShloMosaic.Lib.Pipeline.ValueKit

@[expose] public section

noncomputable section

namespace Cert.AdamRowsIdeal

open Idealize.ShloMosaic hiding ix2 ix3
open Idealize.ShloMosaic.TcCoe
open Idealize.ShloMosaic.ValueIdx (ix2 ix3)
open Cert.AdamRowsIdeal.Gen Cert.AdamRowsIdeal.Value Cert.Shared.AdamW

variable (m : (ℓ : Loc nD τ sig) → Buf (Elt Ideal) ℓ) (c : Dev nD) (t : Fin cfg0.N) (z : S64x4096.Idx)

abbrev weight : S512x4096.Idx → EReal := m ((c.tc : Thread nD τ).loc main_arg0)
abbrev mean : S512x4096.Idx → EReal := m ((c.tc : Thread nD τ).loc main_arg1)
abbrev square : S512x4096.Idx → EReal := m ((c.tc : Thread nD τ).loc main_arg2)
abbrev parts : S4x512x4096.Idx → EReal := m ((c.tc : Thread nD τ).loc main_arg3)

/-- The entry of the whole arrays under entry `z` of block `t`. -/
abbrev under : S512x4096.Idx := (win0_0.blk t).view.emb z

theorem follows : ∀ t : Fin cfg0.N, win0_3.index t (0 : Fin 3) = 0 ∧ win0_3.index t (1 : Fin 3) = win0_0.index t (0 : Fin 2)
    ∧ win0_3.index t (2 : Fin 3) = win0_0.index t (1 : Fin 2) := by decide +kernel

/-- What the body's loads give at an entry, and the results it makes of them. -/
theorem grad_at : E4 (F := Ideal) (View.ld (iblk m c 3 t) r0_0) (View.ld (iblk m c 3 t) r0_1) (View.ld (iblk m c 3 t) r0_2) (View.ld (iblk m c 3 t) r0_3) z
    = gradOf (parts m c) (under t z) :=
  grad_block (iblk m c 3 t : S4x64x4096.Idx → EReal) (parts m c) (r0_0.idx (ix4_0 z)) (r0_1.idx (ix4_1 z)) (r0_2.idx (ix4_2 z)) (r0_3.idx (ix4_3 z)) z (under t z)
    (fun k => congrArg (parts m c) (part_follows (fun i => (win0_3.blk t).view.emb i) (fun i => (win0_0.blk t).view.emb i) (win0_3.index t) (win0_0.index t)
      (fun _ _ => rfl) (fun _ _ => rfl) (follows t) k z))
    (part_load _ 0 _ z rfl rfl rfl) (part_load _ 1 _ z rfl rfl rfl) (part_load _ 2 _ z rfl rfl rfl) (part_load _ 3 _ z rfl rfl rfl)

theorem mean_at : E6 (F := Ideal) (View.ld (iblk m c 1 t) r0_4) (View.ld (iblk m c 3 t) r0_0) (View.ld (iblk m c 3 t) r0_1) (View.ld (iblk m c 3 t) r0_2)
    (View.ld (iblk m c 3 t) r0_3) z = meanOf (mean m c) (parts m c) (under t z) :=
  (mean_block (mean m c) (parts m c) (under t z) (block_load (iblk m c 1 t : S64x4096.Idx → EReal) (r0_4.idx (ix6_0 z)) z rfl rfl) (grad_at m c t z) : _)

theorem square_at : E7 (F := Ideal) (View.ld (iblk m c 2 t) r0_4) (View.ld (iblk m c 3 t) r0_0) (View.ld (iblk m c 3 t) r0_1) (View.ld (iblk m c 3 t) r0_2)
    (View.ld (iblk m c 3 t) r0_3) z = squareOf (square m c) (parts m c) (under t z) :=
  (square_block (square m c) (parts m c) (under t z) (block_load (iblk m c 2 t : S64x4096.Idx → EReal) (r0_4.idx (ix7_0 z)) z rfl rfl) (grad_at m c t z) : _)

theorem change_at : E5 (F := Ideal) (View.ld (iblk m c 1 t) r0_4) (View.ld (iblk m c 3 t) r0_0) (View.ld (iblk m c 3 t) r0_1) (View.ld (iblk m c 3 t) r0_2)
    (View.ld (iblk m c 3 t) r0_3) (View.ld (iblk m c 2 t) r0_4) (View.ld (iblk m c 0 t) r0_4) z
    = changeOf (weight m c) (mean m c) (square m c) (parts m c) (under t z) :=
  (change_block (weight m c) (mean m c) (square m c) (parts m c) (under t z) (block_load (iblk m c 0 t : S64x4096.Idx → EReal) (r0_4.idx (ix5_14 z)) z rfl rfl) (mean_at m c t z) (square_at m c t z) : _)

theorem grad_final : (dats m 0 c).arrAt 4 cfg0.N = gradOf (parts m c) :=
  (dats m 0 c).arrAt_eq_of_covers 4 _ (by decide +kernel) fun t _ z =>
    (congrFun (after0_4 m c t) z).trans ((canon4_eq _ _ _ _ z).trans (grad_at m c t z))

theorem change_final : (dats m 0 c).arrAt 5 cfg0.N = changeOf (weight m c) (mean m c) (square m c) (parts m c) :=
  (dats m 0 c).arrAt_eq_of_covers 5 _ (by decide +kernel) fun t _ z =>
    (congrFun (after0_5 m c t) z).trans ((canon5_eq _ _ _ _ _ _ _ z).trans (change_at m c t z))

theorem mean_final : (dats m 0 c).arrAt 6 cfg0.N = meanOf (mean m c) (parts m c) :=
  (dats m 0 c).arrAt_eq_of_covers 6 _ (by decide +kernel) fun t _ z =>
    (congrFun (after0_6 m c t) z).trans ((canon6_eq _ _ _ _ _ z).trans (mean_at m c t z))

theorem square_final : (dats m 0 c).arrAt 7 cfg0.N = squareOf (square m c) (parts m c) :=
  (dats m 0 c).arrAt_eq_of_covers 7 _ (by decide +kernel) fun t _ z =>
    (congrFun (after0_7 m c t) z).trans ((canon7_eq _ _ _ _ _ z).trans (square_at m c t z))

end Cert.AdamRowsIdeal

end
-- ==== Proof.AdamDown.Value.lean ====
/- The optimiser's step on one device: every entry of its four results is the reference's. -/
module

public import proofs.«01_k».proof.Proof.Gen.AdamDownIdeal.Value
public import proofs.«01_k».proof.Proof.Gen.AdamDownRefIdeal.Run
public import proofs.«01_k».proof.Proof.Shared.AdamW
public import Idealize.ShloMosaic.Lib.Pipeline.ValueKit

@[expose] public section

noncomputable section

namespace Cert.AdamDownIdeal

open Idealize.ShloMosaic hiding ix2 ix3
open Idealize.ShloMosaic.TcCoe
open Idealize.ShloMosaic.ValueIdx (ix2 ix3)
open Cert.AdamDownIdeal.Gen Cert.AdamDownIdeal.Value Cert.Shared.AdamW

variable (m : (ℓ : Loc nD τ sig) → Buf (Elt Ideal) ℓ) (c : Dev nD) (t : Fin cfg0.N) (z : S64x4096.Idx)

abbrev weight : S1536x4096.Idx → EReal := m ((c.tc : Thread nD τ).loc main_arg0)
abbrev mean : S1536x4096.Idx → EReal := m ((c.tc : Thread nD τ).loc main_arg1)
abbrev square : S1536x4096.Idx → EReal := m ((c.tc : Thread nD τ).loc main_arg2)
abbrev parts : S4x1536x4096.Idx → EReal := m ((c.tc : Thread nD τ).loc main_arg3)

/-- The entry of the whole arrays under entry `z` of block `t`. -/
abbrev under : S1536x4096.Idx := (win0_0.blk t).view.emb z

theorem follows : ∀ t : Fin cfg0.N, win0_3.index t (0 : Fin 3) = 0 ∧ win0_3.index t (1 : Fin 3) = win0_0.index t (0 : Fin 2)
    ∧ win0_3.index t (2 : Fin 3) = win0_0.index t (1 : Fin 2) := by decide +kernel

/-- What the body's loads give at an entry, and the results it makes of them. -/
theorem grad_at : E4 (F := Ideal) (View.ld (iblk m c 3 t) r0_0) (View.ld (iblk m c 3 t) r0_1) (View.ld (iblk m c 3 t) r0_2) (View.ld (iblk m c 3 t) r0_3) z
    = gradOf (parts m c) (under t z) :=
  grad_block (iblk m c 3 t : S4x64x4096.Idx → EReal) (parts m c) (r0_0.idx (ix4_0 z)) (r0_1.idx (ix4_1 z)) (r0_2.idx (ix4_2 z)) (r0_3.idx (ix4_3 z)) z (under t z)
    (fun k => congrArg (parts m c) (part_follows (fun i => (win0_3.blk t).view.emb i) (fun i => (win0_0.blk t).view.emb i) (win0_3.index t) (win0_0.index t)
      (fun _ _ => rfl) (fun _ _ => rfl) (follows t) k z))
    (part_load _ 0 _ z rfl rfl rfl) (part_load _ 1 _ z rfl rfl rfl) (part_load _ 2 _ z rfl rfl rfl) (part_load _ 3 _ z rfl rfl rfl)

theorem mean_at : E6 (F := Ideal) (View.ld (iblk m c 1 t) r0_4) (View.ld (iblk m c 3 t) r0_0) (View.ld (iblk m c 3 t) r0_1) (View.ld (iblk m c 3 t) r0_2)
    (View.ld (iblk m c 3 t) r0_3) z = meanOf (mean m c) (parts m c) (under t z) :=
  (mean_block (mean m c) (parts m c) (under t z) (block_load (iblk m c 1 t : S64x4096.Idx → EReal) (r0_4.idx (ix6_0 z)) z rfl rfl) (grad_at m c t z) : _)

theorem square_at : E7 (F := Ideal) (View.ld (iblk m c 2 t) r0_4) (View.ld (iblk m c 3 t) r0_0) (View.ld (iblk m c 3 t) r0_1) (View.ld (iblk m c 3 t) r0_2)
    (View.ld (iblk m c 3 t) r0_3) z = squareOf (square m c) (parts m c) (under t z) :=
  (square_block (square m c) (parts m c) (under t z) (block_load (iblk m c 2 t : S64x4096.Idx → EReal) (r0_4.idx (ix7_0 z)) z rfl rfl) (grad_at m c t z) : _)

theorem change_at : E5 (F := Ideal) (View.ld (iblk m c 1 t) r0_4) (View.ld (iblk m c 3 t) r0_0) (View.ld (iblk m c 3 t) r0_1) (View.ld (iblk m c 3 t) r0_2)
    (View.ld (iblk m c 3 t) r0_3) (View.ld (iblk m c 2 t) r0_4) (View.ld (iblk m c 0 t) r0_4) z
    = changeOf (weight m c) (mean m c) (square m c) (parts m c) (under t z) :=
  (change_block (weight m c) (mean m c) (square m c) (parts m c) (under t z) (block_load (iblk m c 0 t : S64x4096.Idx → EReal) (r0_4.idx (ix5_14 z)) z rfl rfl) (mean_at m c t z) (square_at m c t z) : _)

theorem grad_final : (dats m 0 c).arrAt 4 cfg0.N = gradOf (parts m c) :=
  (dats m 0 c).arrAt_eq_of_covers 4 _ (by decide +kernel) fun t _ z =>
    (congrFun (after0_4 m c t) z).trans ((canon4_eq _ _ _ _ z).trans (grad_at m c t z))

theorem change_final : (dats m 0 c).arrAt 5 cfg0.N = changeOf (weight m c) (mean m c) (square m c) (parts m c) :=
  (dats m 0 c).arrAt_eq_of_covers 5 _ (by decide +kernel) fun t _ z =>
    (congrFun (after0_5 m c t) z).trans ((canon5_eq _ _ _ _ _ _ _ z).trans (change_at m c t z))

theorem mean_final : (dats m 0 c).arrAt 6 cfg0.N = meanOf (mean m c) (parts m c) :=
  (dats m 0 c).arrAt_eq_of_covers 6 _ (by decide +kernel) fun t _ z =>
    (congrFun (after0_6 m c t) z).trans ((canon6_eq _ _ _ _ _ z).trans (mean_at m c t z))

theorem square_final : (dats m 0 c).arrAt 7 cfg0.N = squareOf (square m c) (parts m c) :=
  (dats m 0 c).arrAt_eq_of_covers 7 _ (by decide +kernel) fun t _ z =>
    (congrFun (after0_7 m c t) z).trans ((canon7_eq _ _ _ _ _ z).trans (square_at m c t z))

end Cert.AdamDownIdeal

end
-- ==== Proof.AdamLru.Value.lean ====
/- The optimiser's step on one device: every entry of its four results is the reference's. -/
module

public import proofs.«01_k».proof.Proof.Gen.AdamLruIdeal.Value
public import proofs.«01_k».proof.Proof.Gen.AdamLruRefIdeal.Run
public import proofs.«01_k».proof.Proof.Shared.AdamW
public import Idealize.ShloMosaic.Lib.Pipeline.ValueKit

@[expose] public section

noncomputable section

namespace Cert.AdamLruIdeal

open Idealize.ShloMosaic hiding ix2 ix3
open Idealize.ShloMosaic.TcCoe
open Idealize.ShloMosaic.ValueIdx (ix2 ix3)
open Cert.AdamLruIdeal.Gen Cert.AdamLruIdeal.Value Cert.Shared.AdamW

variable (m : (ℓ : Loc nD τ sig) → Buf (Elt Ideal) ℓ) (c : Dev nD) (t : Fin cfg0.N) (z : S512x256.Idx)

abbrev weight : S512x256.Idx → EReal := m ((c.tc : Thread nD τ).loc main_arg0)
abbrev mean : S512x256.Idx → EReal := m ((c.tc : Thread nD τ).loc main_arg1)
abbrev square : S512x256.Idx → EReal := m ((c.tc : Thread nD τ).loc main_arg2)
abbrev parts : S4x512x256.Idx → EReal := m ((c.tc : Thread nD τ).loc main_arg3)

/-- The entry of the whole arrays under entry `z` of block `t`. -/
abbrev under : S512x256.Idx := (win0_0.blk t).view.emb z

theorem follows : ∀ t : Fin cfg0.N, win0_3.index t (0 : Fin 3) = 0 ∧ win0_3.index t (1 : Fin 3) = win0_0.index t (0 : Fin 2)
    ∧ win0_3.index t (2 : Fin 3) = win0_0.index t (1 : Fin 2) := by decide +kernel

/-- What the body's loads give at an entry, and the results it makes of them. -/
theorem grad_at : E4 (F := Ideal) (View.ld (iblk m c 3 t) r0_0) (View.ld (iblk m c 3 t) r0_1) (View.ld (iblk m c 3 t) r0_2) (View.ld (iblk m c 3 t) r0_3) z
    = gradOf (parts m c) (under t z) :=
  grad_block (iblk m c 3 t : S4x512x256.Idx → EReal) (parts m c) (r0_0.idx (ix4_0 z)) (r0_1.idx (ix4_1 z)) (r0_2.idx (ix4_2 z)) (r0_3.idx (ix4_3 z)) z (under t z)
    (fun k => congrArg (parts m c) (part_follows (fun i => (win0_3.blk t).view.emb i) (fun i => (win0_0.blk t).view.emb i) (win0_3.index t) (win0_0.index t)
      (fun _ _ => rfl) (fun _ _ => rfl) (follows t) k z))
    (part_load _ 0 _ z rfl rfl rfl) (part_load _ 1 _ z rfl rfl rfl) (part_load _ 2 _ z rfl rfl rfl) (part_load _ 3 _ z rfl rfl rfl)

theorem mean_at : E6 (F := Ideal) (View.ld (iblk m c 1 t) r0_4) (View.ld (iblk m c 3 t) r0_0) (View.ld (iblk m c 3 t) r0_1) (View.ld (iblk m c 3 t) r0_2)
    (View.ld (iblk m c 3 t) r0_3) z = meanOf (mean m c) (parts m c) (under t z) :=
  (mean_block (mean m c) (parts m c) (under t z) (block_load (iblk m c 1 t : S512x256.Idx → EReal) (r0_4.idx (ix6_0 z)) z rfl rfl) (grad_at m c t z) : _)

theorem square_at : E7 (F := Ideal) (View.ld (iblk m c 2 t) r0_4) (View.ld (iblk m c 3 t) r0_0) (View.ld (iblk m c 3 t) r0_1) (View.ld (iblk m c 3 t) r0_2)
    (View.ld (iblk m c 3 t) r0_3) z = squareOf (square m c) (parts m c) (under t z) :=
  (square_block (square m c) (parts m c) (under t z) (block_load (iblk m c 2 t : S512x256.Idx → EReal) (r0_4.idx (ix7_0 z)) z rfl rfl) (grad_at m c t z) : _)

theorem change_at : E5 (F := Ideal) (View.ld (iblk m c 1 t) r0_4) (View.ld (iblk m c 3 t) r0_0) (View.ld (iblk m c 3 t) r0_1) (View.ld (iblk m c 3 t) r0_2)
    (View.ld (iblk m c 3 t) r0_3) (View.ld (iblk m c 2 t) r0_4) (View.ld (iblk m c 0 t) r0_4) z
    = changeOf (weight m c) (mean m c) (square m c) (parts m c) (under t z) :=
  (change_block (weight m c) (mean m c) (square m c) (parts m c) (under t z) (block_load (iblk m c 0 t : S512x256.Idx → EReal) (r0_4.idx (ix5_14 z)) z rfl rfl) (mean_at m c t z) (square_at m c t z) : _)

theorem grad_final : (dats m 0 c).arrAt 4 cfg0.N = gradOf (parts m c) :=
  (dats m 0 c).arrAt_eq_of_covers 4 _ (by decide +kernel) fun t _ z =>
    (congrFun (after0_4 m c t) z).trans ((canon4_eq _ _ _ _ z).trans (grad_at m c t z))

theorem change_final : (dats m 0 c).arrAt 5 cfg0.N = changeOf (weight m c) (mean m c) (square m c) (parts m c) :=
  (dats m 0 c).arrAt_eq_of_covers 5 _ (by decide +kernel) fun t _ z =>
    (congrFun (after0_5 m c t) z).trans ((canon5_eq _ _ _ _ _ _ _ z).trans (change_at m c t z))

theorem mean_final : (dats m 0 c).arrAt 6 cfg0.N = meanOf (mean m c) (parts m c) :=
  (dats m 0 c).arrAt_eq_of_covers 6 _ (by decide +kernel) fun t _ z =>
    (congrFun (after0_6 m c t) z).trans ((canon6_eq _ _ _ _ _ z).trans (mean_at m c t z))

theorem square_final : (dats m 0 c).arrAt 7 cfg0.N = squareOf (square m c) (parts m c) :=
  (dats m 0 c).arrAt_eq_of_covers 7 _ (by decide +kernel) fun t _ z =>
    (congrFun (after0_7 m c t) z).trans ((canon7_eq _ _ _ _ _ z).trans (square_at m c t z))

end Cert.AdamLruIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.Swap
public import proofs.«01_k».proof.Proof.Gen.SwapRefIdeal
public import proofs.«01_k».proof.Proof.Gen.SwapRef
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.Up
public import proofs.«01_k».proof.Proof.Gen.UpRefIdeal
public import proofs.«01_k».proof.Proof.Value
public import proofs.«01_k».proof.Proof.Gen.GradUp
public import proofs.«01_k».proof.Proof.Gen.GradUpIdeal
public import proofs.«01_k».proof.Proof.Gen.GradUpIdeal.Skeleton
public import proofs.«01_k».proof.Proof.Gen.GradUpIdeal.Launch
public import proofs.«01_k».proof.Proof.Gen.GradUpIdeal.Points
public import proofs.«01_k».proof.Proof.Gen.GradUpIdeal.Frame
public import proofs.«01_k».proof.Proof.Gen.GradUpRefIdeal
public import proofs.«01_k».proof.Proof.Gen.GradIn
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInRefIdeal
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Down
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.MixerA
public import proofs.«01_k».proof.Proof.Gen.MixerAIdeal
public import proofs.«01_k».proof.Proof.Gen.MixerAIdeal.Skeleton
public import proofs.«01_k».proof.Proof.Gen.MixerAIdeal.Launch
public import proofs.«01_k».proof.Proof.Gen.MixerAIdeal.Points
public import proofs.«01_k».proof.Proof.Gen.MixerAIdeal.Frame
public import proofs.«01_k».proof.Proof.Gen.MixerARefIdeal
public import proofs.«01_k».proof.Proof.Gen.Merged
public import proofs.«01_k».proof.Proof.Gen.MergedIdeal
public import proofs.«01_k».proof.Proof.Gen.MergedIdeal.Skeleton
public import proofs.«01_k».proof.Proof.Gen.MergedIdeal.Launch
public import proofs.«01_k».proof.Proof.Gen.MergedIdeal.Points
public import proofs.«01_k».proof.Proof.Gen.MergedIdeal.Frame
public import proofs.«01_k».proof.Proof.Gen.MergedRefIdeal
public import proofs.«01_k».proof.Proof.Gen.MixerB
public import proofs.«01_k».proof.Proof.Gen.MixerBIdeal
public import proofs.«01_k».proof.Proof.Gen.MixerBIdeal.Skeleton
public import proofs.«01_k».proof.Proof.Gen.MixerBIdeal.Launch
public import proofs.«01_k».proof.Proof.Gen.MixerBIdeal.Points
public import proofs.«01_k».proof.Proof.Gen.MixerBIdeal.Frame
public import proofs.«01_k».proof.Proof.Gen.MixerBRefIdeal
public import proofs.«01_k».proof.Proof.Gen.Adam
public import proofs.«01_k».proof.Proof.Gen.AdamIdeal
public import proofs.«01_k».proof.Proof.Gen.AdamIdeal.Frame
public import proofs.«01_k».proof.Proof.Gen.AdamRefIdeal
public import proofs.«01_k».proof.Proof.Gen.AdamRefIdeal.Run
public import proofs.«01_k».proof.Proof.Swap.Value
public import proofs.«01_k».proof.Proof.Up.Value
public import proofs.«01_k».proof.Proof.GradUp.Value
public import proofs.«01_k».proof.Proof.GradIn.Value
public import proofs.«01_k».proof.Proof.Proj.Value
public import proofs.«01_k».proof.Proof.Down.Value
public import proofs.«01_k».proof.Proof.Merged.Value
public import proofs.«01_k».proof.Proof.MixerA.Value
public import proofs.«01_k».proof.Proof.MixerB.Value
public import proofs.«01_k».proof.Proof.Adam.Value
public import Idealize.ShloMosaic.Adequacy
public import Idealize.ShloMosaic.Init
public import proofs.«01_k».proof.Proof.Gen.AdamSg
public import proofs.«01_k».proof.Proof.Gen.AdamSgIdeal
public import proofs.«01_k».proof.Proof.Gen.AdamSgIdeal.Frame
public import proofs.«01_k».proof.Proof.Gen.AdamSgRefIdeal
public import proofs.«01_k».proof.Proof.Gen.AdamSgRefIdeal.Run
public import proofs.«01_k».proof.Proof.Gen.AdamRows
public import proofs.«01_k».proof.Proof.Gen.AdamRowsIdeal
public import proofs.«01_k».proof.Proof.Gen.AdamRowsIdeal.Frame
public import proofs.«01_k».proof.Proof.Gen.AdamRowsRefIdeal
public import proofs.«01_k».proof.Proof.Gen.AdamRowsRefIdeal.Run
public import proofs.«01_k».proof.Proof.Gen.AdamDown
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamDownRefIdeal.Run
public import proofs.«01_k».proof.Proof.Gen.AdamLru
public import proofs.«01_k».proof.Proof.Gen.AdamLruIdeal
public import proofs.«01_k».proof.Proof.Gen.AdamLruIdeal.Frame
public import proofs.«01_k».proof.Proof.Gen.AdamLruRefIdeal
public import proofs.«01_k».proof.Proof.Gen.AdamLruRefIdeal.Run
public import proofs.«01_k».proof.Proof.Gen.AdamUp
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.AdamUp.Value
public import proofs.«01_k».proof.Proof.Gen.SmallModel
public import proofs.«01_k».proof.Proof.Gen.SmallModelIdeal
public import proofs.«01_k».proof.Proof.Gen.SmallModelIdeal.Frame
public import proofs.«01_k».proof.Proof.Gen.SmallModelIdeal.Value
public import proofs.«01_k».proof.Proof.Gen.SmallModelRefIdeal
public import proofs.«01_k».proof.Proof.Gen.SmallModelRefIdeal.Run
public import proofs.«01_k».proof.Proof.Gen.SmallHalf
public import proofs.«01_k».proof.Proof.Gen.SmallHalfIdeal
public import proofs.«01_k».proof.Proof.Gen.SmallHalfIdeal.Frame
public import proofs.«01_k».proof.Proof.Gen.SmallHalfIdeal.Value
public import proofs.«01_k».proof.Proof.Gen.SmallHalfRefIdeal
public import proofs.«01_k».proof.Proof.Gen.SmallHalfRefIdeal.Run
public import proofs.«01_k».proof.Proof.Gen.SmallFfn
public import proofs.«01_k».proof.Proof.Gen.SmallFfnIdeal
public import proofs.«01_k».proof.Proof.Gen.SmallFfnIdeal.Frame
public import proofs.«01_k».proof.Proof.Gen.SmallFfnIdeal.Value
public import proofs.«01_k».proof.Proof.Gen.SmallFfnRefIdeal
public import proofs.«01_k».proof.Proof.Gen.SmallFfnRefIdeal.Run
public import proofs.«01_k».proof.Proof.Gen.SmallMix
public import proofs.«01_k».proof.Proof.Gen.SmallMixIdeal
public import proofs.«01_k».proof.Proof.Gen.SmallMixIdeal.Frame
public import proofs.«01_k».proof.Proof.Gen.SmallMixIdeal.Value
public import proofs.«01_k».proof.Proof.Gen.SmallMixRefIdeal
public import proofs.«01_k».proof.Proof.Gen.SmallMixRefIdeal.Run
public import proofs.«01_k».proof.Proof.Gen.SmallBias
public import proofs.«01_k».proof.Proof.Gen.SmallBiasIdeal
public import proofs.«01_k».proof.Proof.Gen.SmallBiasIdeal.Frame
public import proofs.«01_k».proof.Proof.Gen.SmallBiasIdeal.Value
public import proofs.«01_k».proof.Proof.Gen.SmallBiasRefIdeal
public import proofs.«01_k».proof.Proof.Gen.SmallBiasRefIdeal.Run
public import proofs.«01_k».proof.Proof.Gen.SmallTaps
public import proofs.«01_k».proof.Proof.Gen.SmallTapsIdeal
public import proofs.«01_k».proof.Proof.Gen.SmallTapsIdeal.Frame
public import proofs.«01_k».proof.Proof.Gen.SmallTapsIdeal.Value
public import proofs.«01_k».proof.Proof.Gen.SmallTapsRefIdeal
public import proofs.«01_k».proof.Proof.Gen.SmallTapsRefIdeal.Run
public import proofs.«01_k».proof.Proof.Gen.SmallSum
public import proofs.«01_k».proof.Proof.Gen.SmallSumIdeal
public import proofs.«01_k».proof.Proof.Gen.SmallSumIdeal.Frame
public import proofs.«01_k».proof.Proof.Gen.SmallSumIdeal.Value
public import proofs.«01_k».proof.Proof.Gen.SmallSumRefIdeal
public import proofs.«01_k».proof.Proof.Gen.SmallSumRefIdeal.Run
public import proofs.«01_k».proof.Proof.SmallSum.Value
public import proofs.«01_k».proof.Proof.AdamSg.Value
public import proofs.«01_k».proof.Proof.AdamRows.Value
public import proofs.«01_k».proof.Proof.AdamDown.Value
public import proofs.«01_k».proof.Proof.AdamLru.Value

@[expose] public section

noncomputable section

namespace Cert.Proof

open Idealize.ShloMosaic Idealize.SL.Sem Cert.Shared.AdamW

theorem frame_kernel : quiescent_Kernel := fun m g _ =>
  (θ_run (KernelIdeal.defs (F := Bits)) _ _).mono (fun _ h => ⟨fun c => (h.1 c).2, h.2⟩) (KernelIdeal.run_main (F := Bits) m g)

theorem frame_ideal : quiescent_KernelIdeal := fun m g _ =>
  (θ_run (KernelIdeal.defs (F := Ideal)) _ _).mono (fun _ h => ⟨fun c => (h.1 c).2, h.2⟩) (KernelIdeal.run_main (F := Ideal) m g)

theorem frame_reference_ideal : quiescent_ReferenceIdeal := fun m g _ =>
  (θ_run (ReferenceIdeal.defs (F := Ideal)) _ _).mono (fun _ h => ⟨fun c => (h.1 c).2, h.2⟩) (ReferenceIdeal.run_reference (F := Ideal) m g)

theorem frame_reference : quiescent_Reference := fun m g _ =>
  (θ_run (ReferenceIdeal.defs (F := Bits)) _ _).mono (fun _ h => ⟨fun c => (h.1 c).2, h.2⟩) (ReferenceIdeal.run_reference (F := Bits) m g)

theorem value_ideal : algebraic_KernelIdeal_ReferenceIdeal := by
  intro m g m' g' _ hm
  refine ⟨ReferenceIdeal.stack0 (m' (((0 : Dev ReferenceIdeal.nD).tc : Thread ReferenceIdeal.nD ReferenceIdeal.τ).loc ReferenceIdeal.main_arg0)), ReferenceIdeal.stack1 (m' (((0 : Dev ReferenceIdeal.nD).tc : Thread ReferenceIdeal.nD ReferenceIdeal.τ).loc ReferenceIdeal.main_arg1)), ReferenceIdeal.stack1 (m' (((0 : Dev ReferenceIdeal.nD).tc : Thread ReferenceIdeal.nD ReferenceIdeal.τ).loc ReferenceIdeal.main_arg2)), ReferenceIdeal.stack3 (m' (((0 : Dev ReferenceIdeal.nD).tc : Thread ReferenceIdeal.nD ReferenceIdeal.τ).loc ReferenceIdeal.main_arg3)), ReferenceIdeal.stack4 (m' (((0 : Dev ReferenceIdeal.nD).tc : Thread ReferenceIdeal.nD ReferenceIdeal.τ).loc ReferenceIdeal.main_arg4)),
    (θ_run (KernelIdeal.defs (F := Ideal)) _ _).mono (fun r h c => ?_) (KernelIdeal.run_main (F := Ideal) m g),
    (θ_run (ReferenceIdeal.defs (F := Ideal)) _ _).mono (fun r h => ?_) (ReferenceIdeal.run_reference (F := Ideal) m' g')⟩
  · obtain ⟨⟨h0, h1, h2, h3, h4⟩, h5⟩ := h.1 c
    refine ⟨KernelIdeal.ext0 fun j => ?_, KernelIdeal.ext1 fun j => ?_, KernelIdeal.ext2 fun j => ?_,
      KernelIdeal.ext3 fun j => ?_, KernelIdeal.ext4 fun j => ?_, h5⟩
    · exact (h0 j).trans ((hm j).1.trans (KernelIdeal.read_stack0 j _).symm)
    · exact (h1 j).trans ((hm j).2.1.trans (KernelIdeal.read_stack1 j _).symm)
    · exact (h2 j).trans ((hm j).2.2.1.trans (KernelIdeal.read_stack2 j _).symm)
    · exact (h3 j).trans ((hm j).2.2.2.1.trans (KernelIdeal.read_stack3 j _).symm)
    · exact (h4 j).trans ((hm j).2.2.2.2.trans (KernelIdeal.read_stack4 j _).symm)
  · obtain ⟨⟨h0, h1, h2, h3, h4⟩, h5⟩ := h.1 0
    exact ⟨h0, h1, h2, h3, h4, h5⟩

theorem value_bits : bitexact_Kernel_Reference := by
  intro m g m' g' _ hm
  refine ⟨ReferenceIdeal.stack0 (m' (((0 : Dev Reference.nD).tc : Thread Reference.nD Reference.τ).loc Reference.main_arg0)), ReferenceIdeal.stack1 (m' (((0 : Dev Reference.nD).tc : Thread Reference.nD Reference.τ).loc Reference.main_arg1)), ReferenceIdeal.stack1 (m' (((0 : Dev Reference.nD).tc : Thread Reference.nD Reference.τ).loc Reference.main_arg2)), ReferenceIdeal.stack3 (m' (((0 : Dev Reference.nD).tc : Thread Reference.nD Reference.τ).loc Reference.main_arg3)), ReferenceIdeal.stack4 (m' (((0 : Dev Reference.nD).tc : Thread Reference.nD Reference.τ).loc Reference.main_arg4)),
    (θ_run (KernelIdeal.defs (F := Bits)) _ _).mono (fun r h c => ?_) (KernelIdeal.run_main (F := Bits) m g),
    (θ_run (ReferenceIdeal.defs (F := Bits)) _ _).mono (fun r h => ?_) (ReferenceIdeal.run_reference (F := Bits) m' g')⟩
  · obtain ⟨⟨h0, h1, h2, h3, h4⟩, h5⟩ := h.1 c
    refine ⟨KernelIdeal.ext0 fun j => ?_, KernelIdeal.ext1 fun j => ?_, KernelIdeal.ext2 fun j => ?_,
      KernelIdeal.ext3 fun j => ?_, KernelIdeal.ext4 fun j => ?_, h5⟩
    · exact (h0 j).trans ((hm j).1.trans (KernelIdeal.read_stack0 j _).symm)
    · exact (h1 j).trans ((hm j).2.1.trans (KernelIdeal.read_stack1 j _).symm)
    · exact (h2 j).trans ((hm j).2.2.1.trans (KernelIdeal.read_stack2 j _).symm)
    · exact (h3 j).trans ((hm j).2.2.2.1.trans (KernelIdeal.read_stack3 j _).symm)
    · exact (h4 j).trans ((hm j).2.2.2.2.trans (KernelIdeal.read_stack4 j _).symm)
  · obtain ⟨⟨h0, h1, h2, h3, h4⟩, h5⟩ := h.1 0
    exact ⟨h0, h1, h2, h3, h4, h5⟩

theorem frame_swap : quiescent_Swap := fun m g _ =>
  (θ_run (SwapIdeal.defs (F := Bits)) _ _).mono (fun _ h => ⟨fun c => ⟨(h.1 c 0).2, (h.1 c 1).2, (h.1 c 2).2⟩, h.2⟩) (SwapIdeal.run_main (F := Bits) m g)

theorem frame_swap_ideal : quiescent_SwapIdeal := fun m g _ =>
  (θ_run (SwapIdeal.defs (F := Ideal)) _ _).mono (fun _ h => ⟨fun c => ⟨(h.1 c 0).2, (h.1 c 1).2, (h.1 c 2).2⟩, h.2⟩) (SwapIdeal.run_main (F := Ideal) m g)

theorem frame_swap_reference_ideal : quiescent_SwapRefIdeal := fun m g _ =>
  (θ_run (SwapRefIdeal.defs (F := Ideal)) _ _).mono (fun _ h => ⟨fun c => (h.1 c).2, h.2⟩) (SwapRefIdeal.run_reference (F := Ideal) m g)

theorem frame_swap_reference : quiescent_SwapRef := fun m g _ =>
  (θ_run (SwapRefIdeal.defs (F := Bits)) _ _).mono (fun _ h => ⟨fun c => (h.1 c).2, h.2⟩) (SwapRefIdeal.run_reference (F := Bits) m g)

theorem value_swap_ideal : algebraic_SwapIdeal_SwapRefIdeal := by
  intro m g m' g' _ hm
  refine ⟨SwapRefIdeal.largeSwap (m' (((0 : Dev SwapRefIdeal.nD).tc : Thread SwapRefIdeal.nD SwapRefIdeal.τ).loc SwapRefIdeal.main_arg0)), SwapRefIdeal.smallSwap (m' (((0 : Dev SwapRefIdeal.nD).tc : Thread SwapRefIdeal.nD SwapRefIdeal.τ).loc SwapRefIdeal.main_arg1)), SwapRefIdeal.smallSwap (m' (((0 : Dev SwapRefIdeal.nD).tc : Thread SwapRefIdeal.nD SwapRefIdeal.τ).loc SwapRefIdeal.main_arg2)),
    (θ_run (SwapIdeal.defs (F := Ideal)) _ _).mono (fun r h c => ?_) (SwapIdeal.run_main (F := Ideal) m g),
    (θ_run (SwapRefIdeal.defs (F := Ideal)) _ _).mono (fun r h => ?_) (SwapRefIdeal.run_reference (F := Ideal) m' g')⟩
  · have hd := h.1 c
    exact ⟨SwapIdeal.value0 c _ _ (hd 0).1 fun d => (hm d).1, SwapIdeal.value1 c _ _ (hd 1).1 fun d => (hm d).2.1,
      SwapIdeal.value2 c _ _ (hd 2).1 fun d => (hm d).2.2, (hd 0).2, (hd 1).2, (hd 2).2⟩
  · obtain ⟨⟨h0, h1, h2⟩, h3⟩ := h.1 0
    exact ⟨h0, h1, h2, h3⟩

theorem value_swap_bits : bitexact_Swap_SwapRef := by
  intro m g m' g' _ hm
  refine ⟨SwapRefIdeal.largeSwap (m' (((0 : Dev SwapRef.nD).tc : Thread SwapRef.nD SwapRef.τ).loc SwapRef.main_arg0)), SwapRefIdeal.smallSwap (m' (((0 : Dev SwapRef.nD).tc : Thread SwapRef.nD SwapRef.τ).loc SwapRef.main_arg1)), SwapRefIdeal.smallSwap (m' (((0 : Dev SwapRef.nD).tc : Thread SwapRef.nD SwapRef.τ).loc SwapRef.main_arg2)),
    (θ_run (SwapIdeal.defs (F := Bits)) _ _).mono (fun r h c => ?_) (SwapIdeal.run_main (F := Bits) m g),
    (θ_run (SwapRefIdeal.defs (F := Bits)) _ _).mono (fun r h => ?_) (SwapRefIdeal.run_reference (F := Bits) m' g')⟩
  · have hd := h.1 c
    exact ⟨SwapIdeal.value0 c _ _ (hd 0).1 fun d => (hm d).1, SwapIdeal.value1 c _ _ (hd 1).1 fun d => (hm d).2.1,
      SwapIdeal.value2 c _ _ (hd 2).1 fun d => (hm d).2.2, (hd 0).2, (hd 1).2, (hd 2).2⟩
  · obtain ⟨⟨h0, h1, h2⟩, h3⟩ := h.1 0
    exact ⟨h0, h1, h2, h3⟩

/-- The body tables of the two printed programs agree. -/
theorem defs_up : Up.defs (F := Bits) = UpIdeal.defs (F := Bits) := by
  refine congrArg (Pipeline.defs UpIdeal.pcfgs) ?_
  unfold Up.defs₀ UpIdeal.defs₀
  refine congrArg _ ?_
  funext l a
  match l, a with
  | 0, (t, s) => rfl

theorem frame_up : quiescent_Up := by
  intro m g _
  rw [defs_up]
  exact (θ_run (UpIdeal.defs (F := Bits)) _ _).mono (fun _ h => ⟨fun c => UpIdeal.kept m _ c (h.1 c), h.2⟩) (UpIdeal.run_main (F := Bits) m g)

theorem frame_up_ideal : quiescent_UpIdeal := fun m g _ =>
  (θ_run (UpIdeal.defs (F := Ideal)) _ _).mono (fun _ h => ⟨fun c => UpIdeal.kept m _ c (h.1 c), h.2⟩) (UpIdeal.run_main (F := Ideal) m g)

theorem frame_up_reference_ideal : quiescent_UpRefIdeal := fun m g _ =>
  (θ_run (UpRefIdeal.defs (F := Ideal)) _ _).mono (fun _ h => ⟨fun c => (h.1 c).2.2, h.2⟩) (UpRefIdeal.run_reference (F := Ideal) m g)

theorem value_up_ideal : algebraic_UpIdeal_UpRefIdeal := by
  intro m g m' g' _ hm
  refine ⟨UpRefIdeal.product (m' (((0 : Dev UpRefIdeal.nD).tc : Thread UpRefIdeal.nD UpRefIdeal.τ).loc UpRefIdeal.main_arg0)) (m' (((0 : Dev UpRefIdeal.nD).tc : Thread UpRefIdeal.nD UpRefIdeal.τ).loc UpRefIdeal.main_arg1)), Shared.swapped UpRefIdeal.facts (m' (((0 : Dev UpRefIdeal.nD).tc : Thread UpRefIdeal.nD UpRefIdeal.τ).loc UpRefIdeal.main_arg2)),
    (θ_run (UpIdeal.defs (F := Ideal)) _ _).mono (fun r h c => ?_) (UpIdeal.run_main (F := Ideal) m g),
    (θ_run (UpRefIdeal.defs (F := Ideal)) _ _).mono (fun r h => h.1 0) (UpRefIdeal.run_reference (F := Ideal) m' g')⟩
  exact ⟨((h.1 c).1 2).trans (UpIdeal.product_final m c _ _ (hm c).1 (hm c).2.1),
    UpIdeal.exchanged c _ _ ((h.1 c).2 0).1 fun d => (hm d).2.2, UpIdeal.kept m _ c (h.1 c)⟩

/-- The body tables of the two printed programs agree. -/
theorem defs_grad_up : GradUp.defs (F := Bits) = GradUpIdeal.defs (F := Bits) := by
  refine congrArg (Pipeline.defs GradUpIdeal.pcfgs) ?_
  unfold GradUp.defs₀ GradUpIdeal.defs₀
  refine congrArg _ ?_
  funext l a
  match l, a with
  | 0, (t, s) => rfl

theorem frame_grad_up : quiescent_GradUp := by
  intro m g _
  rw [defs_grad_up]
  exact (θ_run (GradUpIdeal.defs (F := Bits)) _ _).mono (fun _ h => ⟨fun c => GradUpIdeal.kept m _ c (h.1 c), h.2⟩) (GradUpIdeal.run_main (F := Bits) m g)

theorem frame_grad_up_ideal : quiescent_GradUpIdeal := fun m g _ =>
  (θ_run (GradUpIdeal.defs (F := Ideal)) _ _).mono (fun _ h => ⟨fun c => GradUpIdeal.kept m _ c (h.1 c), h.2⟩) (GradUpIdeal.run_main (F := Ideal) m g)

theorem frame_grad_up_reference_ideal : quiescent_GradUpRefIdeal := fun m g _ =>
  (θ_run (GradUpRefIdeal.defs (F := Ideal)) _ _).mono (fun _ h => ⟨fun c => (h.1 c).2.2, h.2⟩) (GradUpRefIdeal.run_reference (F := Ideal) m g)

theorem value_grad_up_ideal : algebraic_GradUpIdeal_GradUpRefIdeal := by
  intro m g m' g' _ hm
  refine ⟨GradUpRefIdeal.grad (m' (((0 : Dev GradUpRefIdeal.nD).tc : Thread GradUpRefIdeal.nD GradUpRefIdeal.τ).loc GradUpRefIdeal.main_arg0)) (m' (((0 : Dev GradUpRefIdeal.nD).tc : Thread GradUpRefIdeal.nD GradUpRefIdeal.τ).loc GradUpRefIdeal.main_arg1)),
    Shared.received GradUpRefIdeal.facts (m' (((0 : Dev GradUpRefIdeal.nD).tc : Thread GradUpRefIdeal.nD GradUpRefIdeal.τ).loc GradUpRefIdeal.main_arg2)),
    (θ_run (GradUpIdeal.defs (F := Ideal)) _ _).mono (fun r h c => ?_) (GradUpIdeal.run_main (F := Ideal) m g),
    (θ_run (GradUpRefIdeal.defs (F := Ideal)) _ _).mono (fun r h => h.1 0) (GradUpRefIdeal.run_reference (F := Ideal) m' g')⟩
  exact ⟨((h.1 c).1 2).trans (GradUpIdeal.grad_final m c _ _ (hm c).1 (hm c).2.1),
    GradUpIdeal.exchanged c _ _ ((h.1 c).2 0).1 fun d => (hm d).2.2, GradUpIdeal.kept m _ c (h.1 c)⟩

/-- The body tables of the two printed programs agree. -/
theorem defs_grad_in : GradIn.defs (F := Bits) = GradInIdeal.defs (F := Bits) := by
  refine congrArg (Pipeline.defs GradInIdeal.pcfgs) ?_
  unfold GradIn.defs₀ GradInIdeal.defs₀
  refine congrArg _ ?_
  funext l a
  match l, a with
  | 0, (t, s) => rfl

theorem frame_grad_in : quiescent_GradIn := by
  intro m g _
  rw [defs_grad_in]
  exact (θ_run (GradInIdeal.defs (F := Bits)) _ _).mono (fun _ h => ⟨fun c => GradInIdeal.kept m _ c (h.1 c), h.2⟩) (GradInIdeal.run_main (F := Bits) m g)

theorem frame_grad_in_ideal : quiescent_GradInIdeal := fun m g _ =>
  (θ_run (GradInIdeal.defs (F := Ideal)) _ _).mono (fun _ h => ⟨fun c => GradInIdeal.kept m _ c (h.1 c), h.2⟩) (GradInIdeal.run_main (F := Ideal) m g)

theorem frame_grad_in_reference_ideal : quiescent_GradInRefIdeal := fun m g _ =>
  (θ_run (GradInRefIdeal.defs (F := Ideal)) _ _).mono (fun _ h => ⟨fun c => (h.1 c).2.2.2.2, h.2⟩) (GradInRefIdeal.run_reference (F := Ideal) m g)

theorem value_grad_in_ideal : algebraic_GradInIdeal_GradInRefIdeal := by
  intro m g m' g' _ hm
  refine ⟨GradInRefIdeal.grad (m' (((0 : Dev GradInRefIdeal.nD).tc : Thread GradInRefIdeal.nD GradInRefIdeal.τ).loc GradInRefIdeal.main_arg0)) (m' (((0 : Dev GradInRefIdeal.nD).tc : Thread GradInRefIdeal.nD GradInRefIdeal.τ).loc GradInRefIdeal.main_arg1)),
    Shared.received GradInRefIdeal.facts0 (m' (((0 : Dev GradInRefIdeal.nD).tc : Thread GradInRefIdeal.nD GradInRefIdeal.τ).loc GradInRefIdeal.main_arg2)),
    Shared.received GradInRefIdeal.facts1 (m' (((0 : Dev GradInRefIdeal.nD).tc : Thread GradInRefIdeal.nD GradInRefIdeal.τ).loc GradInRefIdeal.main_arg3)),
    Shared.received GradInRefIdeal.facts2 (m' (((0 : Dev GradInRefIdeal.nD).tc : Thread GradInRefIdeal.nD GradInRefIdeal.τ).loc GradInRefIdeal.main_arg4)),
    (θ_run (GradInIdeal.defs (F := Ideal)) _ _).mono (fun r h c => ?_) (GradInIdeal.run_main (F := Ideal) m g),
    (θ_run (GradInRefIdeal.defs (F := Ideal)) _ _).mono (fun r h => h.1 0) (GradInRefIdeal.run_reference (F := Ideal) m' g')⟩
  exact ⟨((h.1 c).1 2).trans (GradInIdeal.grad_final m c _ _ (hm c).1 (hm c).2.1),
    GradInIdeal.exchanged0 c _ _ ((h.1 c).2 0).1 fun d => (hm d).2.2.1,
    GradInIdeal.exchanged1 c _ _ ((h.1 c).2 1).1 fun d => (hm d).2.2.2.1,
    GradInIdeal.exchanged2 c _ _ ((h.1 c).2 2).1 fun d => (hm d).2.2.2.2, GradInIdeal.kept m _ c (h.1 c)⟩

/-- The body tables of the two printed programs agree. -/
theorem defs_proj : Proj.defs (F := Bits) = ProjIdeal.defs (F := Bits) := by
  refine congrArg (Pipeline.defs ProjIdeal.pcfgs) ?_
  unfold Proj.defs₀ ProjIdeal.defs₀
  refine congrArg _ ?_
  funext l a
  match l, a with
  | 0, (t, s) => rfl

theorem frame_proj : quiescent_Proj := by
  intro m g _
  rw [defs_proj]
  exact (θ_run (ProjIdeal.defs (F := Bits)) _ _).mono (fun _ h => ⟨fun c => ProjIdeal.kept m _ c (h.1 c), h.2⟩) (ProjIdeal.run_main (F := Bits) m g)

theorem frame_proj_ideal : quiescent_ProjIdeal := fun m g _ =>
  (θ_run (ProjIdeal.defs (F := Ideal)) _ _).mono (fun _ h => ⟨fun c => ProjIdeal.kept m _ c (h.1 c), h.2⟩) (ProjIdeal.run_main (F := Ideal) m g)

theorem frame_proj_reference_ideal : quiescent_ProjRefIdeal := fun m g _ =>
  (θ_run (ProjRefIdeal.defs (F := Ideal)) _ _).mono (fun _ h => ⟨fun c => (h.1 c).2.2.2.2, h.2⟩) (ProjRefIdeal.run_reference (F := Ideal) m g)

theorem value_proj_ideal : algebraic_ProjIdeal_ProjRefIdeal := by
  intro m g m' g' _ hm
  refine ⟨ProjRefIdeal.product (m' (((0 : Dev ProjRefIdeal.nD).tc : Thread ProjRefIdeal.nD ProjRefIdeal.τ).loc ProjRefIdeal.main_arg0)) (m' (((0 : Dev ProjRefIdeal.nD).tc : Thread ProjRefIdeal.nD ProjRefIdeal.τ).loc ProjRefIdeal.main_arg1)),
    Shared.received ProjRefIdeal.facts0 (m' (((0 : Dev ProjRefIdeal.nD).tc : Thread ProjRefIdeal.nD ProjRefIdeal.τ).loc ProjRefIdeal.main_arg2)),
    Shared.received ProjRefIdeal.facts1 (m' (((0 : Dev ProjRefIdeal.nD).tc : Thread ProjRefIdeal.nD ProjRefIdeal.τ).loc ProjRefIdeal.main_arg3)),
    Shared.received ProjRefIdeal.facts1 (m' (((0 : Dev ProjRefIdeal.nD).tc : Thread ProjRefIdeal.nD ProjRefIdeal.τ).loc ProjRefIdeal.main_arg4)),
    (θ_run (ProjIdeal.defs (F := Ideal)) _ _).mono (fun r h c => ?_) (ProjIdeal.run_main (F := Ideal) m g),
    (θ_run (ProjRefIdeal.defs (F := Ideal)) _ _).mono (fun r h => h.1 0) (ProjRefIdeal.run_reference (F := Ideal) m' g')⟩
  exact ⟨((h.1 c).1 2).trans (ProjIdeal.product_final m c _ _ (hm c).1 (hm c).2.1),
    ProjIdeal.exchanged0 c _ _ ((h.1 c).2 0).1 fun d => (hm d).2.2.1,
    ProjIdeal.exchanged1 c _ _ ((h.1 c).2 1).1 fun d => (hm d).2.2.2.1,
    ProjIdeal.exchanged2 c _ _ ((h.1 c).2 2).1 fun d => (hm d).2.2.2.2, ProjIdeal.kept m _ c (h.1 c)⟩

/-- The body tables of the two printed programs agree. -/
theorem defs_down : Down.defs (F := Bits) = DownIdeal.defs (F := Bits) := by
  refine congrArg (Pipeline.defs DownIdeal.pcfgs) ?_
  unfold Down.defs₀ DownIdeal.defs₀
  refine congrArg _ ?_
  funext l a
  match l, a with
  | 0, (t, s) => rfl

theorem frame_down : quiescent_Down := by
  intro m g _
  rw [defs_down]
  exact (θ_run (DownIdeal.defs (F := Bits)) _ _).mono (fun _ h => ⟨fun c => DownIdeal.kept m _ c (h.1 c), h.2⟩) (DownIdeal.run_main (F := Bits) m g)

theorem frame_down_ideal : quiescent_DownIdeal := fun m g _ =>
  (θ_run (DownIdeal.defs (F := Ideal)) _ _).mono (fun _ h => ⟨fun c => DownIdeal.kept m _ c (h.1 c), h.2⟩) (DownIdeal.run_main (F := Ideal) m g)

theorem frame_down_reference_ideal : quiescent_DownRefIdeal := fun m g _ =>
  (θ_run (DownRefIdeal.defs (F := Ideal)) _ _).mono (fun _ h => ⟨fun c => (h.1 c).2.2, h.2⟩) (DownRefIdeal.run_reference (F := Ideal) m g)

theorem value_down_ideal : algebraic_DownIdeal_DownRefIdeal := by
  intro m g m' g' _ hm
  refine ⟨DownRefIdeal.product (m' (((0 : Dev DownRefIdeal.nD).tc : Thread DownRefIdeal.nD DownRefIdeal.τ).loc DownRefIdeal.main_arg0)) (m' (((0 : Dev DownRefIdeal.nD).tc : Thread DownRefIdeal.nD DownRefIdeal.τ).loc DownRefIdeal.main_arg1)), Shared.swapped DownRefIdeal.facts (m' (((0 : Dev DownRefIdeal.nD).tc : Thread DownRefIdeal.nD DownRefIdeal.τ).loc DownRefIdeal.main_arg2)),
    (θ_run (DownIdeal.defs (F := Ideal)) _ _).mono (fun r h c => ?_) (DownIdeal.run_main (F := Ideal) m g),
    (θ_run (DownRefIdeal.defs (F := Ideal)) _ _).mono (fun r h => h.1 0) (DownRefIdeal.run_reference (F := Ideal) m' g')⟩
  exact ⟨((h.1 c).1 2).trans (DownIdeal.product_final m c _ _ (hm c).1 (hm c).2.1),
    DownIdeal.exchanged c _ _ ((h.1 c).2 0).1 fun d => (hm d).2.2, DownIdeal.kept m _ c (h.1 c)⟩

/-- The body tables of the two printed programs agree. -/
theorem defs_merged : Merged.defs (F := Bits) = MergedIdeal.defs (F := Bits) := by
  refine congrArg (Pipeline.defs MergedIdeal.pcfgs) ?_
  unfold Merged.defs₀ MergedIdeal.defs₀
  refine congrArg _ ?_
  funext l a
  match l, a with
  | 0, (t, s) => rfl

theorem frame_merged : quiescent_Merged := by
  intro m g _
  rw [defs_merged]
  exact (θ_run (MergedIdeal.defs (F := Bits)) _ _).mono (fun _ h => ⟨fun c => MergedIdeal.kept m _ c (h.1 c), h.2⟩) (MergedIdeal.run_main (F := Bits) m g)

theorem frame_merged_ideal : quiescent_MergedIdeal := fun m g _ =>
  (θ_run (MergedIdeal.defs (F := Ideal)) _ _).mono (fun _ h => ⟨fun c => MergedIdeal.kept m _ c (h.1 c), h.2⟩) (MergedIdeal.run_main (F := Ideal) m g)

theorem frame_merged_reference_ideal : quiescent_MergedRefIdeal := fun m g _ =>
  (θ_run (MergedRefIdeal.defs (F := Ideal)) _ _).mono (fun _ h => ⟨fun c => (h.1 c).2.2, h.2⟩) (MergedRefIdeal.run_reference (F := Ideal) m g)

theorem value_merged_ideal : algebraic_MergedIdeal_MergedRefIdeal := by
  intro m g m' g' _ hm
  refine ⟨MergedRefIdeal.product (m' (((0 : Dev MergedRefIdeal.nD).tc : Thread MergedRefIdeal.nD MergedRefIdeal.τ).loc MergedRefIdeal.main_arg0)) (m' (((0 : Dev MergedRefIdeal.nD).tc : Thread MergedRefIdeal.nD MergedRefIdeal.τ).loc MergedRefIdeal.main_arg1)), Shared.swapped MergedRefIdeal.facts (m' (((0 : Dev MergedRefIdeal.nD).tc : Thread MergedRefIdeal.nD MergedRefIdeal.τ).loc MergedRefIdeal.main_arg2)),
    (θ_run (MergedIdeal.defs (F := Ideal)) _ _).mono (fun r h c => ?_) (MergedIdeal.run_main (F := Ideal) m g),
    (θ_run (MergedRefIdeal.defs (F := Ideal)) _ _).mono (fun r h => h.1 0) (MergedRefIdeal.run_reference (F := Ideal) m' g')⟩
  exact ⟨((h.1 c).1 2).trans (MergedIdeal.product_final m c _ _ (hm c).1 (hm c).2.1),
    MergedIdeal.exchanged c _ _ ((h.1 c).2 0).1 fun d => (hm d).2.2, MergedIdeal.kept m _ c (h.1 c)⟩

/-- The body tables of the two printed programs agree. -/
theorem defs_mixer_a : MixerA.defs (F := Bits) = MixerAIdeal.defs (F := Bits) := by
  refine congrArg (Pipeline.defs MixerAIdeal.pcfgs) ?_
  unfold MixerA.defs₀ MixerAIdeal.defs₀
  refine congrArg _ ?_
  funext l a
  match l, a with
  | 0, (t, s) => rfl

theorem frame_mixer_a : quiescent_MixerA := by
  intro m g _
  rw [defs_mixer_a]
  exact (θ_run (MixerAIdeal.defs (F := Bits)) _ _).mono (fun _ h => ⟨fun c => MixerAIdeal.kept m _ c (h.1 c), h.2⟩) (MixerAIdeal.run_main (F := Bits) m g)

theorem frame_mixer_a_ideal : quiescent_MixerAIdeal := fun m g _ =>
  (θ_run (MixerAIdeal.defs (F := Ideal)) _ _).mono (fun _ h => ⟨fun c => MixerAIdeal.kept m _ c (h.1 c), h.2⟩) (MixerAIdeal.run_main (F := Ideal) m g)

theorem frame_mixer_a_reference_ideal : quiescent_MixerARefIdeal := fun m g _ =>
  (θ_run (MixerARefIdeal.defs (F := Ideal)) _ _).mono (fun _ h => ⟨fun c => (h.1 c).2.2.2, h.2⟩) (MixerARefIdeal.run_reference (F := Ideal) m g)

theorem value_mixer_a_ideal : algebraic_MixerAIdeal_MixerARefIdeal := by
  intro m g m' g' _ hm
  refine ⟨MixerARefIdeal.product (m' (((0 : Dev MixerARefIdeal.nD).tc : Thread MixerARefIdeal.nD MixerARefIdeal.τ).loc MixerARefIdeal.main_arg0)) (m' (((0 : Dev MixerARefIdeal.nD).tc : Thread MixerARefIdeal.nD MixerARefIdeal.τ).loc MixerARefIdeal.main_arg1)),
    Shared.swapped MixerARefIdeal.facts0 (m' (((0 : Dev MixerARefIdeal.nD).tc : Thread MixerARefIdeal.nD MixerARefIdeal.τ).loc MixerARefIdeal.main_arg2)),
    Shared.swapped MixerARefIdeal.facts1 (m' (((0 : Dev MixerARefIdeal.nD).tc : Thread MixerARefIdeal.nD MixerARefIdeal.τ).loc MixerARefIdeal.main_arg3)),
    (θ_run (MixerAIdeal.defs (F := Ideal)) _ _).mono (fun r h c => ?_) (MixerAIdeal.run_main (F := Ideal) m g),
    (θ_run (MixerARefIdeal.defs (F := Ideal)) _ _).mono (fun r h => h.1 0) (MixerARefIdeal.run_reference (F := Ideal) m' g')⟩
  exact ⟨((h.1 c).1 2).trans (MixerAIdeal.product_final m c _ _ (hm c).1 (hm c).2.1),
    MixerAIdeal.exchanged0 c _ _ ((h.1 c).2 0).1 fun d => (hm d).2.2.1,
    MixerAIdeal.exchanged1 c _ _ ((h.1 c).2 1).1 fun d => (hm d).2.2.2, MixerAIdeal.kept m _ c (h.1 c)⟩

/-- The body tables of the two printed programs agree. -/
theorem defs_mixer_b : MixerB.defs (F := Bits) = MixerBIdeal.defs (F := Bits) := by
  refine congrArg (Pipeline.defs MixerBIdeal.pcfgs) ?_
  unfold MixerB.defs₀ MixerBIdeal.defs₀
  refine congrArg _ ?_
  funext l a
  match l, a with
  | 0, (t, s) => rfl

theorem frame_mixer_b : quiescent_MixerB := by
  intro m g _
  rw [defs_mixer_b]
  exact (θ_run (MixerBIdeal.defs (F := Bits)) _ _).mono (fun _ h => ⟨fun c => MixerBIdeal.kept m _ c (h.1 c), h.2⟩) (MixerBIdeal.run_main (F := Bits) m g)

theorem frame_mixer_b_ideal : quiescent_MixerBIdeal := fun m g _ =>
  (θ_run (MixerBIdeal.defs (F := Ideal)) _ _).mono (fun _ h => ⟨fun c => MixerBIdeal.kept m _ c (h.1 c), h.2⟩) (MixerBIdeal.run_main (F := Ideal) m g)

theorem frame_mixer_b_reference_ideal : quiescent_MixerBRefIdeal := fun m g _ =>
  (θ_run (MixerBRefIdeal.defs (F := Ideal)) _ _).mono (fun _ h => ⟨fun c => (h.1 c).2.2, h.2⟩) (MixerBRefIdeal.run_reference (F := Ideal) m g)

theorem value_mixer_b_ideal : algebraic_MixerBIdeal_MixerBRefIdeal := by
  intro m g m' g' _ hm
  refine ⟨MixerBRefIdeal.product (m' (((0 : Dev MixerBRefIdeal.nD).tc : Thread MixerBRefIdeal.nD MixerBRefIdeal.τ).loc MixerBRefIdeal.main_arg0)) (m' (((0 : Dev MixerBRefIdeal.nD).tc : Thread MixerBRefIdeal.nD MixerBRefIdeal.τ).loc MixerBRefIdeal.main_arg1)), Shared.received MixerBRefIdeal.facts (m' (((0 : Dev MixerBRefIdeal.nD).tc : Thread MixerBRefIdeal.nD MixerBRefIdeal.τ).loc MixerBRefIdeal.main_arg2)),
    (θ_run (MixerBIdeal.defs (F := Ideal)) _ _).mono (fun r h c => ?_) (MixerBIdeal.run_main (F := Ideal) m g),
    (θ_run (MixerBRefIdeal.defs (F := Ideal)) _ _).mono (fun r h => h.1 0) (MixerBRefIdeal.run_reference (F := Ideal) m' g')⟩
  exact ⟨((h.1 c).1 2).trans (MixerBIdeal.product_final m c _ _ (hm c).1 (hm c).2.1),
    MixerBIdeal.exchanged c _ _ ((h.1 c).2 0).1 fun d => (hm d).2.2, MixerBIdeal.kept m _ c (h.1 c)⟩

/-- The body tables of the two printed programs agree. -/
theorem defs_adam : Adam.defs (F := Bits) = AdamIdeal.defs (F := Bits) := by
  refine congrArg (Pipeline.defs AdamIdeal.pcfgs) ?_
  unfold Adam.defs₀ AdamIdeal.defs₀
  refine congrArg _ ?_
  funext l a
  match l, a with
  | 0, (t, s) => rfl

theorem frame_adam : quiescent_Adam := by
  intro m g _
  rw [defs_adam]
  exact AdamIdeal.Gen.frame (F := Bits) m g

theorem frame_adam_ideal : quiescent_AdamIdeal := fun m g _ => AdamIdeal.Gen.frame (F := Ideal) m g

theorem frame_adam_reference_ideal : quiescent_AdamRefIdeal := fun m g _ =>
  (θ_run (AdamRefIdeal.defs (F := Ideal)) _ _).mono (fun r h => ⟨fun c => (h c).2.2.2.2, sem_eq_zero_of_no_sems (by decide) r.2⟩)
    (AdamRefIdeal.Value.run (F := Ideal) m g)

theorem value_adam_ideal : algebraic_AdamIdeal_AdamRefIdeal := by
  intro m g m' g' _ hm
  exact ⟨_, _, _, _, (θ_run (AdamIdeal.defs (F := Ideal)) _ _).mono (fun r h c => at_last (h c) (AdamIdeal.grad_final m c) (AdamIdeal.change_final m c)
      (AdamIdeal.mean_final m c) (AdamIdeal.square_final m c)) (AdamIdeal.Value.run_blocks (F := Ideal) m g),
    (θ_run (AdamRefIdeal.defs (F := Ideal)) _ _).mono (fun r h c => parts_step _ _ _ _ (h c) (hm c)) (AdamRefIdeal.Value.run (F := Ideal) m' g')⟩

/-- The body tables of the two printed programs agree. -/
theorem defs_adam_sg : AdamSg.defs (F := Bits) = AdamSgIdeal.defs (F := Bits) := by
  refine congrArg (Pipeline.defs AdamSgIdeal.pcfgs) ?_
  unfold AdamSg.defs₀ AdamSgIdeal.defs₀
  refine congrArg _ ?_
  funext l a
  match l, a with
  | 0, (t, s) => rfl

theorem frame_adam_sg : quiescent_AdamSg := by
  intro m g _
  rw [defs_adam_sg]
  exact AdamSgIdeal.Gen.frame (F := Bits) m g

theorem frame_adam_sg_ideal : quiescent_AdamSgIdeal := fun m g _ => AdamSgIdeal.Gen.frame (F := Ideal) m g

theorem frame_adam_sg_reference_ideal : quiescent_AdamSgRefIdeal := fun m g _ =>
  (θ_run (AdamSgRefIdeal.defs (F := Ideal)) _ _).mono (fun r h => ⟨fun c => (h c).2.2.2.2, sem_eq_zero_of_no_sems (by decide) r.2⟩)
    (AdamSgRefIdeal.Value.run (F := Ideal) m g)

theorem value_adam_sg_ideal : algebraic_AdamSgIdeal_AdamSgRefIdeal := by
  intro m g m' g' _ hm
  exact ⟨_, _, _, _, (θ_run (AdamSgIdeal.defs (F := Ideal)) _ _).mono (fun r h c => at_last (h c) (AdamSgIdeal.grad_final m c) (AdamSgIdeal.change_final m c)
      (AdamSgIdeal.mean_final m c) (AdamSgIdeal.square_final m c)) (AdamSgIdeal.Value.run_blocks (F := Ideal) m g),
    (θ_run (AdamSgRefIdeal.defs (F := Ideal)) _ _).mono (fun r h c => parts_step _ _ _ _ (h c) (hm c)) (AdamSgRefIdeal.Value.run (F := Ideal) m' g')⟩

/-- The body tables of the two printed programs agree. -/
theorem defs_adam_rows : AdamRows.defs (F := Bits) = AdamRowsIdeal.defs (F := Bits) := by
  refine congrArg (Pipeline.defs AdamRowsIdeal.pcfgs) ?_
  unfold AdamRows.defs₀ AdamRowsIdeal.defs₀
  refine congrArg _ ?_
  funext l a
  match l, a with
  | 0, (t, s) => rfl

theorem frame_adam_rows : quiescent_AdamRows := by
  intro m g _
  rw [defs_adam_rows]
  exact AdamRowsIdeal.Gen.frame (F := Bits) m g

theorem frame_adam_rows_ideal : quiescent_AdamRowsIdeal := fun m g _ => AdamRowsIdeal.Gen.frame (F := Ideal) m g

theorem frame_adam_rows_reference_ideal : quiescent_AdamRowsRefIdeal := fun m g _ =>
  (θ_run (AdamRowsRefIdeal.defs (F := Ideal)) _ _).mono (fun r h => ⟨fun c => (h c).2.2.2.2, sem_eq_zero_of_no_sems (by decide) r.2⟩)
    (AdamRowsRefIdeal.Value.run (F := Ideal) m g)

theorem value_adam_rows_ideal : algebraic_AdamRowsIdeal_AdamRowsRefIdeal := by
  intro m g m' g' _ hm
  exact ⟨_, _, _, _, (θ_run (AdamRowsIdeal.defs (F := Ideal)) _ _).mono (fun r h c => at_last (h c) (AdamRowsIdeal.grad_final m c) (AdamRowsIdeal.change_final m c)
      (AdamRowsIdeal.mean_final m c) (AdamRowsIdeal.square_final m c)) (AdamRowsIdeal.Value.run_blocks (F := Ideal) m g),
    (θ_run (AdamRowsRefIdeal.defs (F := Ideal)) _ _).mono (fun r h c => parts_step _ _ _ _ (h c) (hm c)) (AdamRowsRefIdeal.Value.run (F := Ideal) m' g')⟩

/-- The body tables of the two printed programs agree. -/
theorem defs_adam_down : AdamDown.defs (F := Bits) = AdamDownIdeal.defs (F := Bits) := by
  refine congrArg (Pipeline.defs AdamDownIdeal.pcfgs) ?_
  unfold AdamDown.defs₀ AdamDownIdeal.defs₀
  refine congrArg _ ?_
  funext l a
  match l, a with
  | 0, (t, s) => rfl

theorem frame_adam_down : quiescent_AdamDown := by
  intro m g _
  rw [defs_adam_down]
  exact AdamDownIdeal.Gen.frame (F := Bits) m g

theorem frame_adam_down_ideal : quiescent_AdamDownIdeal := fun m g _ => AdamDownIdeal.Gen.frame (F := Ideal) m g

theorem frame_adam_down_reference_ideal : quiescent_AdamDownRefIdeal := fun m g _ =>
  (θ_run (AdamDownRefIdeal.defs (F := Ideal)) _ _).mono (fun r h => ⟨fun c => (h c).2.2.2.2, sem_eq_zero_of_no_sems (by decide) r.2⟩)
    (AdamDownRefIdeal.Value.run (F := Ideal) m g)

theorem value_adam_down_ideal : algebraic_AdamDownIdeal_AdamDownRefIdeal := by
  intro m g m' g' _ hm
  exact ⟨_, _, _, _, (θ_run (AdamDownIdeal.defs (F := Ideal)) _ _).mono (fun r h c => at_last (h c) (AdamDownIdeal.grad_final m c) (AdamDownIdeal.change_final m c)
      (AdamDownIdeal.mean_final m c) (AdamDownIdeal.square_final m c)) (AdamDownIdeal.Value.run_blocks (F := Ideal) m g),
    (θ_run (AdamDownRefIdeal.defs (F := Ideal)) _ _).mono (fun r h c => parts_step _ _ _ _ (h c) (hm c)) (AdamDownRefIdeal.Value.run (F := Ideal) m' g')⟩

/-- The body tables of the two printed programs agree. -/
theorem defs_adam_lru : AdamLru.defs (F := Bits) = AdamLruIdeal.defs (F := Bits) := by
  refine congrArg (Pipeline.defs AdamLruIdeal.pcfgs) ?_
  unfold AdamLru.defs₀ AdamLruIdeal.defs₀
  refine congrArg _ ?_
  funext l a
  match l, a with
  | 0, (t, s) => rfl

theorem frame_adam_lru : quiescent_AdamLru := by
  intro m g _
  rw [defs_adam_lru]
  exact AdamLruIdeal.Gen.frame (F := Bits) m g

theorem frame_adam_lru_ideal : quiescent_AdamLruIdeal := fun m g _ => AdamLruIdeal.Gen.frame (F := Ideal) m g

theorem frame_adam_lru_reference_ideal : quiescent_AdamLruRefIdeal := fun m g _ =>
  (θ_run (AdamLruRefIdeal.defs (F := Ideal)) _ _).mono (fun r h => ⟨fun c => (h c).2.2.2.2, sem_eq_zero_of_no_sems (by decide) r.2⟩)
    (AdamLruRefIdeal.Value.run (F := Ideal) m g)

theorem value_adam_lru_ideal : algebraic_AdamLruIdeal_AdamLruRefIdeal := by
  intro m g m' g' _ hm
  exact ⟨_, _, _, _, (θ_run (AdamLruIdeal.defs (F := Ideal)) _ _).mono (fun r h c => at_last (h c) (AdamLruIdeal.grad_final m c) (AdamLruIdeal.change_final m c)
      (AdamLruIdeal.mean_final m c) (AdamLruIdeal.square_final m c)) (AdamLruIdeal.Value.run_blocks (F := Ideal) m g),
    (θ_run (AdamLruRefIdeal.defs (F := Ideal)) _ _).mono (fun r h c => parts_step _ _ _ _ (h c) (hm c)) (AdamLruRefIdeal.Value.run (F := Ideal) m' g')⟩

/-- The body tables of the two printed programs agree. -/
theorem defs_adam_up : AdamUp.defs (F := Bits) = AdamUpIdeal.defs (F := Bits) := by
  refine congrArg (Pipeline.defs AdamUpIdeal.pcfgs) ?_
  unfold AdamUp.defs₀ AdamUpIdeal.defs₀
  refine congrArg _ ?_
  funext l a
  match l, a with
  | 0, (t, s) => rfl

theorem frame_adam_up : quiescent_AdamUp := by
  intro m g _
  rw [defs_adam_up]
  exact AdamUpIdeal.Gen.frame (F := Bits) m g

theorem frame_adam_up_ideal : quiescent_AdamUpIdeal := fun m g _ => AdamUpIdeal.Gen.frame (F := Ideal) m g

theorem frame_adam_up_reference_ideal : quiescent_AdamUpRefIdeal := fun m g _ =>
  (θ_run (AdamUpRefIdeal.defs (F := Ideal)) _ _).mono (fun r h => ⟨fun c => (h c).2.2.2.2, sem_eq_zero_of_no_sems (by decide) r.2⟩)
    (AdamUpRefIdeal.Value.run (F := Ideal) m g)

theorem value_adam_up_ideal : algebraic_AdamUpIdeal_AdamUpRefIdeal := by
  intro m g m' g' _ hm
  exact ⟨_, _, _, _, (θ_run (AdamUpIdeal.defs (F := Ideal)) _ _).mono (fun r h c => at_last (h c) (AdamUpIdeal.grad_final m c) (AdamUpIdeal.change_final m c)
      (AdamUpIdeal.mean_final m c) (AdamUpIdeal.square_final m c)) (AdamUpIdeal.Value.run_blocks (F := Ideal) m g),
    (θ_run (AdamUpRefIdeal.defs (F := Ideal)) _ _).mono (fun r h c => parts_step _ _ _ _ (h c) ⟨(hm c).1, (hm c).2.1, (hm c).2.2.1, AdamUpIdeal.both_congr (hm c).2.2.2.1 (hm c).2.2.2.2⟩) (AdamUpRefIdeal.Value.run (F := Ideal) m' g')⟩

/-- The body tables of the two printed programs agree. -/
theorem defs_small_model : SmallModel.defs (F := Bits) = SmallModelIdeal.defs (F := Bits) := by
  refine congrArg (Pipeline.defs SmallModelIdeal.pcfgs) ?_
  unfold SmallModel.defs₀ SmallModelIdeal.defs₀
  refine congrArg _ ?_
  funext l a
  match l, a with
  | 0, (t, s) => rfl

theorem frame_small_model : quiescent_SmallModel := by
  intro m g _
  rw [defs_small_model]
  exact SmallModelIdeal.Gen.frame (F := Bits) m g

theorem frame_small_model_ideal : quiescent_SmallModelIdeal := fun m g _ => SmallModelIdeal.Gen.frame (F := Ideal) m g

theorem frame_small_model_reference_ideal : quiescent_SmallModelRefIdeal := fun m g _ =>
  (θ_run (SmallModelRefIdeal.defs (F := Ideal)) _ _).mono (fun r h => ⟨fun c => (h c).2.2.2.2, sem_eq_zero_of_no_sems (by decide) r.2⟩)
    (SmallModelRefIdeal.Value.run (F := Ideal) m g)

theorem value_small_model_ideal : algebraic_SmallModelIdeal_SmallModelRefIdeal := by
  intro m g m' g' _ hm
  exact ⟨_, _, _, _, SmallModelIdeal.Value.run (F := Ideal) m g,
    (θ_run (SmallModelRefIdeal.defs (F := Ideal)) _ _).mono (fun r h c => lone_step _ _ _ (by decide) (h c) (hm c)) (SmallModelRefIdeal.Value.run (F := Ideal) m' g')⟩

/-- The body tables of the two printed programs agree. -/
theorem defs_small_half : SmallHalf.defs (F := Bits) = SmallHalfIdeal.defs (F := Bits) := by
  refine congrArg (Pipeline.defs SmallHalfIdeal.pcfgs) ?_
  unfold SmallHalf.defs₀ SmallHalfIdeal.defs₀
  refine congrArg _ ?_
  funext l a
  match l, a with
  | 0, (t, s) => rfl

theorem frame_small_half : quiescent_SmallHalf := by
  intro m g _
  rw [defs_small_half]
  exact SmallHalfIdeal.Gen.frame (F := Bits) m g

theorem frame_small_half_ideal : quiescent_SmallHalfIdeal := fun m g _ => SmallHalfIdeal.Gen.frame (F := Ideal) m g

theorem frame_small_half_reference_ideal : quiescent_SmallHalfRefIdeal := fun m g _ =>
  (θ_run (SmallHalfRefIdeal.defs (F := Ideal)) _ _).mono (fun r h => ⟨fun c => (h c).2.2.2.2, sem_eq_zero_of_no_sems (by decide) r.2⟩)
    (SmallHalfRefIdeal.Value.run (F := Ideal) m g)

theorem value_small_half_ideal : algebraic_SmallHalfIdeal_SmallHalfRefIdeal := by
  intro m g m' g' _ hm
  exact ⟨_, _, _, _, SmallHalfIdeal.Value.run (F := Ideal) m g,
    (θ_run (SmallHalfRefIdeal.defs (F := Ideal)) _ _).mono (fun r h c => lone_step _ _ _ (by decide) (h c) (hm c)) (SmallHalfRefIdeal.Value.run (F := Ideal) m' g')⟩

/-- The body tables of the two printed programs agree. -/
theorem defs_small_ffn : SmallFfn.defs (F := Bits) = SmallFfnIdeal.defs (F := Bits) := by
  refine congrArg (Pipeline.defs SmallFfnIdeal.pcfgs) ?_
  unfold SmallFfn.defs₀ SmallFfnIdeal.defs₀
  refine congrArg _ ?_
  funext l a
  match l, a with
  | 0, (t, s) => rfl

theorem frame_small_ffn : quiescent_SmallFfn := by
  intro m g _
  rw [defs_small_ffn]
  exact SmallFfnIdeal.Gen.frame (F := Bits) m g

theorem frame_small_ffn_ideal : quiescent_SmallFfnIdeal := fun m g _ => SmallFfnIdeal.Gen.frame (F := Ideal) m g

theorem frame_small_ffn_reference_ideal : quiescent_SmallFfnRefIdeal := fun m g _ =>
  (θ_run (SmallFfnRefIdeal.defs (F := Ideal)) _ _).mono (fun r h => ⟨fun c => (h c).2.2.2.2, sem_eq_zero_of_no_sems (by decide) r.2⟩)
    (SmallFfnRefIdeal.Value.run (F := Ideal) m g)

theorem value_small_ffn_ideal : algebraic_SmallFfnIdeal_SmallFfnRefIdeal := by
  intro m g m' g' _ hm
  exact ⟨_, _, _, _, SmallFfnIdeal.Value.run (F := Ideal) m g,
    (θ_run (SmallFfnRefIdeal.defs (F := Ideal)) _ _).mono (fun r h c => lone_step _ _ _ (by decide) (h c) (hm c)) (SmallFfnRefIdeal.Value.run (F := Ideal) m' g')⟩

/-- The body tables of the two printed programs agree. -/
theorem defs_small_mix : SmallMix.defs (F := Bits) = SmallMixIdeal.defs (F := Bits) := by
  refine congrArg (Pipeline.defs SmallMixIdeal.pcfgs) ?_
  unfold SmallMix.defs₀ SmallMixIdeal.defs₀
  refine congrArg _ ?_
  funext l a
  match l, a with
  | 0, (t, s) => rfl

theorem frame_small_mix : quiescent_SmallMix := by
  intro m g _
  rw [defs_small_mix]
  exact SmallMixIdeal.Gen.frame (F := Bits) m g

theorem frame_small_mix_ideal : quiescent_SmallMixIdeal := fun m g _ => SmallMixIdeal.Gen.frame (F := Ideal) m g

theorem frame_small_mix_reference_ideal : quiescent_SmallMixRefIdeal := fun m g _ =>
  (θ_run (SmallMixRefIdeal.defs (F := Ideal)) _ _).mono (fun r h => ⟨fun c => (h c).2.2.2.2, sem_eq_zero_of_no_sems (by decide) r.2⟩)
    (SmallMixRefIdeal.Value.run (F := Ideal) m g)

theorem value_small_mix_ideal : algebraic_SmallMixIdeal_SmallMixRefIdeal := by
  intro m g m' g' _ hm
  exact ⟨_, _, _, _, SmallMixIdeal.Value.run (F := Ideal) m g,
    (θ_run (SmallMixRefIdeal.defs (F := Ideal)) _ _).mono (fun r h c => lone_step _ _ _ (by decide) (h c) (hm c)) (SmallMixRefIdeal.Value.run (F := Ideal) m' g')⟩

/-- The body tables of the two printed programs agree. -/
theorem defs_small_bias : SmallBias.defs (F := Bits) = SmallBiasIdeal.defs (F := Bits) := by
  refine congrArg (Pipeline.defs SmallBiasIdeal.pcfgs) ?_
  unfold SmallBias.defs₀ SmallBiasIdeal.defs₀
  refine congrArg _ ?_
  funext l a
  match l, a with
  | 0, (t, s) => rfl

theorem frame_small_bias : quiescent_SmallBias := by
  intro m g _
  rw [defs_small_bias]
  exact SmallBiasIdeal.Gen.frame (F := Bits) m g

theorem frame_small_bias_ideal : quiescent_SmallBiasIdeal := fun m g _ => SmallBiasIdeal.Gen.frame (F := Ideal) m g

theorem frame_small_bias_reference_ideal : quiescent_SmallBiasRefIdeal := fun m g _ =>
  (θ_run (SmallBiasRefIdeal.defs (F := Ideal)) _ _).mono (fun r h => ⟨fun c => (h c).2.2.2.2, sem_eq_zero_of_no_sems (by decide) r.2⟩)
    (SmallBiasRefIdeal.Value.run (F := Ideal) m g)

theorem value_small_bias_ideal : algebraic_SmallBiasIdeal_SmallBiasRefIdeal := by
  intro m g m' g' _ hm
  exact ⟨_, _, _, _, SmallBiasIdeal.Value.run (F := Ideal) m g,
    (θ_run (SmallBiasRefIdeal.defs (F := Ideal)) _ _).mono (fun r h c => lone_step _ _ _ (by decide) (h c) (hm c)) (SmallBiasRefIdeal.Value.run (F := Ideal) m' g')⟩

/-- The body tables of the two printed programs agree. -/
theorem defs_small_taps : SmallTaps.defs (F := Bits) = SmallTapsIdeal.defs (F := Bits) := by
  refine congrArg (Pipeline.defs SmallTapsIdeal.pcfgs) ?_
  unfold SmallTaps.defs₀ SmallTapsIdeal.defs₀
  refine congrArg _ ?_
  funext l a
  match l, a with
  | 0, (t, s) => rfl

theorem frame_small_taps : quiescent_SmallTaps := by
  intro m g _
  rw [defs_small_taps]
  exact SmallTapsIdeal.Gen.frame (F := Bits) m g

theorem frame_small_taps_ideal : quiescent_SmallTapsIdeal := fun m g _ => SmallTapsIdeal.Gen.frame (F := Ideal) m g

theorem frame_small_taps_reference_ideal : quiescent_SmallTapsRefIdeal := fun m g _ =>
  (θ_run (SmallTapsRefIdeal.defs (F := Ideal)) _ _).mono (fun r h => ⟨fun c => (h c).2.2.2.2, sem_eq_zero_of_no_sems (by decide) r.2⟩)
    (SmallTapsRefIdeal.Value.run (F := Ideal) m g)

theorem value_small_taps_ideal : algebraic_SmallTapsIdeal_SmallTapsRefIdeal := by
  intro m g m' g' _ hm
  exact ⟨_, _, _, _, SmallTapsIdeal.Value.run (F := Ideal) m g,
    (θ_run (SmallTapsRefIdeal.defs (F := Ideal)) _ _).mono (fun r h c => lone_step _ _ _ (by decide) (h c) (hm c)) (SmallTapsRefIdeal.Value.run (F := Ideal) m' g')⟩

/-- The body tables of the two printed programs agree. -/
theorem defs_small_sum : SmallSum.defs (F := Bits) = SmallSumIdeal.defs (F := Bits) := by
  refine congrArg (Pipeline.defs SmallSumIdeal.pcfgs) ?_
  unfold SmallSum.defs₀ SmallSumIdeal.defs₀
  refine congrArg _ ?_
  funext l a
  match l, a with
  | 0, (t, s) => rfl

theorem frame_small_sum : quiescent_SmallSum := by
  intro m g _
  rw [defs_small_sum]
  exact SmallSumIdeal.Gen.frame (F := Bits) m g

theorem frame_small_sum_ideal : quiescent_SmallSumIdeal := fun m g _ => SmallSumIdeal.Gen.frame (F := Ideal) m g

theorem frame_small_sum_reference_ideal : quiescent_SmallSumRefIdeal := fun m g _ =>
  (θ_run (SmallSumRefIdeal.defs (F := Ideal)) _ _).mono (fun r h => ⟨fun c => (h c).2, sem_eq_zero_of_no_sems (by decide) r.2⟩)
    (SmallSumRefIdeal.Value.run (F := Ideal) m g)

theorem value_small_sum_ideal : algebraic_SmallSumIdeal_SmallSumRefIdeal := by
  intro m g m' g' _ hm
  exact ⟨_, SmallSumIdeal.Value.run (F := Ideal) m g,
    (θ_run (SmallSumRefIdeal.defs (F := Ideal)) _ _).mono (fun r h c => ⟨(h c).1.trans ((SmallSumIdeal.sum_eq _ _ _).trans (congrArg SmallSumIdeal.Value.G1 (hm c))), (h c).2⟩)
      (SmallSumRefIdeal.Value.run (F := Ideal) m' g')⟩

theorem claim : Claim :=
  ⟨Kernel.Gen.facts, KernelIdeal.Gen.facts, ReferenceIdeal.Gen.facts, Reference.Gen.facts,
    Swap.Gen.facts, SwapIdeal.Gen.facts, SwapRefIdeal.Gen.facts, SwapRef.Gen.facts,
    Up.Gen.facts, UpIdeal.Gen.facts, UpRefIdeal.Gen.facts,
    GradUp.Gen.facts, GradUpIdeal.Gen.facts, GradUpRefIdeal.Gen.facts,
    GradIn.Gen.facts, GradInIdeal.Gen.facts, GradInRefIdeal.Gen.facts,
    Proj.Gen.facts, ProjIdeal.Gen.facts, ProjRefIdeal.Gen.facts,
    Down.Gen.facts, DownIdeal.Gen.facts, DownRefIdeal.Gen.facts,
    Merged.Gen.facts, MergedIdeal.Gen.facts, MergedRefIdeal.Gen.facts,
    MixerA.Gen.facts, MixerAIdeal.Gen.facts, MixerARefIdeal.Gen.facts,
    MixerB.Gen.facts, MixerBIdeal.Gen.facts, MixerBRefIdeal.Gen.facts,
    Adam.Gen.facts, AdamIdeal.Gen.facts, AdamRefIdeal.Gen.facts,
    AdamSg.Gen.facts, AdamSgIdeal.Gen.facts, AdamSgRefIdeal.Gen.facts,
    AdamRows.Gen.facts, AdamRowsIdeal.Gen.facts, AdamRowsRefIdeal.Gen.facts,
    AdamDown.Gen.facts, AdamDownIdeal.Gen.facts, AdamDownRefIdeal.Gen.facts,
    AdamLru.Gen.facts, AdamLruIdeal.Gen.facts, AdamLruRefIdeal.Gen.facts,
    AdamUp.Gen.facts, AdamUpIdeal.Gen.facts, AdamUpRefIdeal.Gen.facts,
    SmallModel.Gen.facts, SmallModelIdeal.Gen.facts, SmallModelRefIdeal.Gen.facts,
    SmallHalf.Gen.facts, SmallHalfIdeal.Gen.facts, SmallHalfRefIdeal.Gen.facts,
    SmallFfn.Gen.facts, SmallFfnIdeal.Gen.facts, SmallFfnRefIdeal.Gen.facts,
    SmallMix.Gen.facts, SmallMixIdeal.Gen.facts, SmallMixRefIdeal.Gen.facts,
    SmallBias.Gen.facts, SmallBiasIdeal.Gen.facts, SmallBiasRefIdeal.Gen.facts,
    SmallTaps.Gen.facts, SmallTapsIdeal.Gen.facts, SmallTapsRefIdeal.Gen.facts,
    SmallSum.Gen.facts, SmallSumIdeal.Gen.facts, SmallSumRefIdeal.Gen.facts,
    frame_kernel, frame_ideal, frame_reference_ideal, frame_reference,
    frame_swap, frame_swap_ideal, frame_swap_reference_ideal, frame_swap_reference,
    frame_up, frame_up_ideal, frame_up_reference_ideal,
    frame_grad_up, frame_grad_up_ideal, frame_grad_up_reference_ideal,
    frame_grad_in, frame_grad_in_ideal, frame_grad_in_reference_ideal,
    frame_proj, frame_proj_ideal, frame_proj_reference_ideal,
    frame_down, frame_down_ideal, frame_down_reference_ideal,
    frame_merged, frame_merged_ideal, frame_merged_reference_ideal,
    frame_mixer_a, frame_mixer_a_ideal, frame_mixer_a_reference_ideal,
    frame_mixer_b, frame_mixer_b_ideal, frame_mixer_b_reference_ideal,
    frame_adam, frame_adam_ideal, frame_adam_reference_ideal,
    frame_adam_sg, frame_adam_sg_ideal, frame_adam_sg_reference_ideal,
    frame_adam_rows, frame_adam_rows_ideal, frame_adam_rows_reference_ideal,
    frame_adam_down, frame_adam_down_ideal, frame_adam_down_reference_ideal,
    frame_adam_lru, frame_adam_lru_ideal, frame_adam_lru_reference_ideal,
    frame_adam_up, frame_adam_up_ideal, frame_adam_up_reference_ideal,
    frame_small_model, frame_small_model_ideal, frame_small_model_reference_ideal,
    frame_small_half, frame_small_half_ideal, frame_small_half_reference_ideal,
    frame_small_ffn, frame_small_ffn_ideal, frame_small_ffn_reference_ideal,
    frame_small_mix, frame_small_mix_ideal, frame_small_mix_reference_ideal,
    frame_small_bias, frame_small_bias_ideal, frame_small_bias_reference_ideal,
    frame_small_taps, frame_small_taps_ideal, frame_small_taps_reference_ideal,
    frame_small_sum, frame_small_sum_ideal, frame_small_sum_reference_ideal,
    trivial, value_ideal, value_bits, trivial, value_swap_ideal, value_swap_bits,
    trivial, value_up_ideal, trivial, value_grad_up_ideal, trivial, value_grad_in_ideal, trivial, value_proj_ideal,
    trivial, value_down_ideal, trivial, value_merged_ideal, trivial, value_mixer_a_ideal, trivial, value_mixer_b_ideal,
    trivial, value_adam_ideal, trivial, value_adam_sg_ideal, trivial, value_adam_rows_ideal, trivial, value_adam_down_ideal, trivial, value_adam_lru_ideal,
    trivial, value_adam_up_ideal, trivial, value_small_model_ideal, trivial, value_small_half_ideal, trivial, value_small_ffn_ideal, trivial, value_small_mix_ideal, trivial, value_small_bias_ideal, trivial, value_small_taps_ideal, trivial, value_small_sum_ideal⟩

end Cert.Proof

end
